-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v76)) (v2 : (c : Dev Cert.KernelIdeal.nD) → Buf (Elt Ideal) ((c.tc : Thread Cert.KernelIdeal.nD Cert.KernelIdeal.τ).loc Cert.KernelIdeal.main_v78)) (v3 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v76) = v1 c
          ∧ r.2.mem ((c.tc : Thread Cert.KernelIdeal.nD Cert.KernelIdeal.τ).loc Cert.KernelIdeal.main_v78) = v2 c
          ∧ r.2.mem ((c.tc : Thread Cert.KernelIdeal.nD Cert.KernelIdeal.τ).loc Cert.KernelIdeal.main_v84) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v74) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v11)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v11) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v11)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v11) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v12)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v12) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v12) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v34) = v0 c
          ∧ r.2.mem ((c.tc : Thread Cert.Reference30Ideal.nD Cert.Reference30Ideal.τ).loc Cert.Reference30Ideal.main_v17) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v52) = v0 c
          ∧ r.2.mem ((c.tc : Thread Cert.Reference31Ideal.nD Cert.Reference31Ideal.τ).loc Cert.Reference31Ideal.main_v51) = v1 c
          ∧ r.2.mem ((c.tc : Thread Cert.Reference31Ideal.nD Cert.Reference31Ideal.τ).loc Cert.Reference31Ideal.main_v35) = v2 c
          ∧ r.2.mem ((c.tc : Thread Cert.Reference31Ideal.nD Cert.Reference31Ideal.τ).loc Cert.Reference31Ideal.main_v53) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v9) = v0 c
          ∧ r.2.mem ((c.tc : Thread Cert.Reference32Ideal.nD Cert.Reference32Ideal.τ).loc Cert.Reference32Ideal.main_v8) = v1 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
-- ==== Pre_finite.lean ====
abbrev S2176x8x64 : Shape := ⟨3, ![2176, 8, 64]⟩
abbrev S2176x8 : Shape := ⟨2, ![2176, 8]⟩
abbrev S_ : Shape := ⟨0, ![]⟩

class Facts : Prop where
  bcast_S_S2176x8x64 : S_.BroadcastsInDim S2176x8x64 (![] : Fin 0 → Fin S2176x8x64.rank)
  bcast_S_S2176x8 : S_.BroadcastsInDim S2176x8 (![] : Fin 0 → Fin S2176x8.rank)

variable [Facts]

def fn {F : FTy → Type} [FloatOps F] (main_arg0 : FVec F S2176x8x64 .f32) (main_arg1 : FVec F S2176x8x64 .f32) (main_arg2 : FVec F S2176x8x64 .f32) (main_arg3 : FVec F S2176x8 .f32) (main_arg4 : FVec F S2176x8x64 .f32) : IVec S2176x8x64 1 × IVec S2176x8x64 1 × IVec S2176x8x64 1 × IVec S2176x8 1 × IVec S2176x8x64 1 :=
  let main_v0 : FVec F S2176x8x64 .f32 := Host.absf main_arg0
  let main_cst : FVec F S_ .f32 := constant S_ .f32 0x7F800000#32
  let main_v1 : FVec F S2176x8x64 .f32 := broadcastInDim S2176x8x64 ![] bcast_S_S2176x8x64 main_cst
  let main_v2 : IVec S2176x8x64 1 := cmpf .olt main_v0 main_v1
  let main_v3 : FVec F S2176x8x64 .f32 := Host.absf main_arg1
  let main_cst_0 : FVec F S_ .f32 := constant S_ .f32 0x7F800000#32
  let main_v4 : FVec F S2176x8x64 .f32 := broadcastInDim S2176x8x64 ![] bcast_S_S2176x8x64 main_cst_0
  let main_v5 : IVec S2176x8x64 1 := cmpf .olt main_v3 main_v4
  let main_v6 : FVec F S2176x8x64 .f32 := Host.absf main_arg2
  let main_cst_1 : FVec F S_ .f32 := constant S_ .f32 0x7F800000#32
  let main_v7 : FVec F S2176x8x64 .f32 := broadcastInDim S2176x8x64 ![] bcast_S_S2176x8x64 main_cst_1
  let main_v8 : IVec S2176x8x64 1 := cmpf .olt main_v6 main_v7
  let main_v9 : FVec F S2176x8 .f32 := Host.absf main_arg3
  let main_cst_2 : FVec F S_ .f32 := constant S_ .f32 0x7F800000#32
  let main_v10 : FVec F S2176x8 .f32 := broadcastInDim S2176x8 ![] bcast_S_S2176x8 main_cst_2
  let main_v11 : IVec S2176x8 1 := cmpf .olt main_v9 main_v10
  let main_v12 : FVec F S2176x8x64 .f32 := Host.absf main_arg4
  let main_cst_3 : FVec F S_ .f32 := constant S_ .f32 0x7F800000#32
  let main_v13 : FVec F S2176x8x64 .f32 := broadcastInDim S2176x8x64 ![] bcast_S_S2176x8x64 main_cst_3
  let main_v14 : IVec S2176x8x64 1 := cmpf .olt main_v12 main_v13
  (main_v2, main_v5, main_v8, main_v11, main_v14)
-- ==== Kernel.lean ====
abbrev S2176x8x64 : Shape := ⟨3, ![2176, 8, 64]⟩
abbrev S2176x8 : Shape := ⟨2, ![2176, 8]⟩
abbrev S8x2176x2176 : Shape := ⟨3, ![8, 2176, 2176]⟩
abbrev S_ : Shape := ⟨0, ![]⟩
abbrev S8x2176 : Shape := ⟨2, ![8, 2176]⟩
abbrev S8x2176x1 : Shape := ⟨3, ![8, 2176, 1]⟩
abbrev S8x1x2176 : Shape := ⟨3, ![8, 1, 2176]⟩
abbrev S2176 : Shape := ⟨1, ![2176]⟩
abbrev S1x2176 : Shape := ⟨2, ![1, 2176]⟩
abbrev S2176x1 : Shape := ⟨2, ![2176, 1]⟩
abbrev S2176x2176 : Shape := ⟨2, ![2176, 2176]⟩
abbrev S8x64x2176 : Shape := ⟨3, ![8, 64, 2176]⟩
abbrev S2176x8x1 : Shape := ⟨3, ![2176, 8, 1]⟩
abbrev S17x128x8x1 : Shape := ⟨4, ![17, 128, 8, 1]⟩
abbrev S8x17x1x128 : Shape := ⟨4, ![8, 17, 1, 128]⟩
abbrev S8x17x3x128 : Shape := ⟨4, ![8, 17, 3, 128]⟩
abbrev S8x17x58x128 : Shape := ⟨4, ![8, 17, 58, 128]⟩
abbrev S17x128x8x64 : Shape := ⟨4, ![17, 128, 8, 64]⟩
abbrev S8x17x64x128 : Shape := ⟨4, ![8, 17, 64, 128]⟩
abbrev S8x17x128x128 : Shape := ⟨4, ![8, 17, 128, 128]⟩
abbrev S8x2176x128 : Shape := ⟨3, ![8, 2176, 128]⟩
abbrev S128x128 : Shape := ⟨2, ![128, 128]⟩
abbrev S1x1x64x128 : Shape := ⟨4, ![1, 1, 64, 128]⟩
abbrev S64x128 : Shape := ⟨2, ![64, 128]⟩
abbrev S128 : Shape := ⟨1, ![128]⟩
abbrev S1x128 : Shape := ⟨2, ![1, 128]⟩
abbrev S1x1x1x128 : Shape := ⟨4, ![1, 1, 1, 128]⟩
abbrev S1x1x128x128 : Shape := ⟨4, ![1, 1, 128, 128]⟩
abbrev S1x128x128 : Shape := ⟨3, ![1, 128, 128]⟩

abbrev nBuf : Space → Nat
  | .hbm => 103
  | .vmem => 11
  | .smem => 0
  | _ => 0

abbrev bufTy : (tb : Table) → Fin (tcTables nBuf tb) → BufTy
  | .hbm, ⟨0, _⟩ => ⟨S2176x8x64, .f32⟩
  | .hbm, ⟨1, _⟩ => ⟨S2176x8x64, .f32⟩
  | .hbm, ⟨2, _⟩ => ⟨S2176x8x64, .f32⟩
  | .hbm, ⟨3, _⟩ => ⟨S2176x8, .f32⟩
  | .hbm, ⟨4, _⟩ => ⟨S2176x8x64, .f32⟩
  | .hbm, ⟨5, _⟩ => ⟨S8x2176x2176, .f32⟩
  | .hbm, ⟨6, _⟩ => ⟨S_, .f32⟩
  | .hbm, ⟨7, _⟩ => ⟨S8x2176x2176, .f32⟩
  | .hbm, ⟨8, _⟩ => ⟨S8x2176x2176, .f32⟩
  | .hbm, ⟨9, _⟩ => ⟨S8x2176, .f32⟩
  | .hbm, ⟨10, _⟩ => ⟨S8x2176x1, .f32⟩
  | .hbm, ⟨11, _⟩ => ⟨S8x2176x2176, .f32⟩
  | .hbm, ⟨12, _⟩ => ⟨S8x2176x2176, .f32⟩
  | .hbm, ⟨13, _⟩ => ⟨S8x2176, .f32⟩
  | .hbm, ⟨14, _⟩ => ⟨S8x1x2176, .f32⟩
  | .hbm, ⟨15, _⟩ => ⟨S8x2176x2176, .f32⟩
  | .hbm, ⟨16, _⟩ => ⟨S8x2176x2176, .f32⟩
  | .hbm, ⟨17, _⟩ => ⟨S2176, .i32⟩
  | .hbm, ⟨18, _⟩ => ⟨S1x2176, .i32⟩
  | .hbm, ⟨19, _⟩ => ⟨S2176x1, .i32⟩
  | .hbm, ⟨20, _⟩ => ⟨S2176x2176, .i32⟩
  | .hbm, ⟨21, _⟩ => ⟨S2176x2176, .i32⟩
  | .hbm, ⟨22, _⟩ => ⟨S2176x2176, .i1⟩
  | .hbm, ⟨23, _⟩ => ⟨S_, .f32⟩
  | .hbm, ⟨24, _⟩ => ⟨S_, .f32⟩
  | .hbm, ⟨25, _⟩ => ⟨S8x2176x2176, .i1⟩
  | .hbm, ⟨26, _⟩ => ⟨S8x2176x2176, .f32⟩
  | .hbm, ⟨27, _⟩ => ⟨S8x2176x2176, .f32⟩
  | .hbm, ⟨28, _⟩ => ⟨S_, .f32⟩
  | .hbm, ⟨29, _⟩ => ⟨S8x2176, .f32⟩
  | .hbm, ⟨30, _⟩ => ⟨S8x2176x1, .f32⟩
  | .hbm, ⟨31, _⟩ => ⟨S8x2176x2176, .f32⟩
  | .hbm, ⟨32, _⟩ => ⟨S8x2176x2176, .f32⟩
  | .hbm, ⟨33, _⟩ => ⟨S8x2176x2176, .f32⟩
  | .hbm, ⟨34, _⟩ => ⟨S_, .f32⟩
  | .hbm, ⟨35, _⟩ => ⟨S8x2176, .f32⟩
  | .hbm, ⟨36, _⟩ => ⟨S8x2176, .f32⟩
  | .hbm, ⟨37, _⟩ => ⟨S8x2176, .f32⟩
  | .hbm, ⟨38, _⟩ => ⟨S8x2176x1, .f32⟩
  | .hbm, ⟨39, _⟩ => ⟨S8x2176x2176, .f32⟩
  | .hbm, ⟨40, _⟩ => ⟨S8x2176x2176, .f32⟩
  | .hbm, ⟨41, _⟩ => ⟨S8x64x2176, .f32⟩
  | .hbm, ⟨42, _⟩ => ⟨S2176x8x64, .f32⟩
  | .hbm, ⟨43, _⟩ => ⟨S2176x8x1, .f32⟩
  | .hbm, ⟨44, _⟩ => ⟨S17x128x8x1, .f32⟩
  | .hbm, ⟨45, _⟩ => ⟨S8x17x1x128, .f32⟩
  | .hbm, ⟨46, _⟩ => ⟨S8x17x1x128, .bf16⟩
  | .hbm, ⟨47, _⟩ => ⟨S8x17x1x128, .f32⟩
  | .hbm, ⟨48, _⟩ => ⟨S8x17x1x128, .f32⟩
  | .hbm, ⟨49, _⟩ => ⟨S8x17x1x128, .bf16⟩
  | .hbm, ⟨50, _⟩ => ⟨S8x17x1x128, .f32⟩
  | .hbm, ⟨51, _⟩ => ⟨S8x17x1x128, .f32⟩
  | .hbm, ⟨52, _⟩ => ⟨S8x17x1x128, .bf16⟩
  | .hbm, ⟨53, _⟩ => ⟨S8x17x1x128, .f32⟩
  | .hbm, ⟨54, _⟩ => ⟨S_, .f32⟩
  | .hbm, ⟨55, _⟩ => ⟨S8x17x3x128, .f32⟩
  | .hbm, ⟨56, _⟩ => ⟨S_, .f32⟩
  | .hbm, ⟨57, _⟩ => ⟨S8x17x58x128, .f32⟩
  | .hbm, ⟨58, _⟩ => ⟨S17x128x8x64, .f32⟩
  | .hbm, ⟨59, _⟩ => ⟨S8x17x64x128, .f32⟩
  | .hbm, ⟨60, _⟩ => ⟨S_, .f32⟩
  | .hbm, ⟨61, _⟩ => ⟨S8x17x64x128, .f32⟩
  | .hbm, ⟨62, _⟩ => ⟨S8x17x64x128, .f32⟩
  | .hbm, ⟨63, _⟩ => ⟨S8x17x128x128, .f32⟩
  | .hbm, ⟨64, _⟩ => ⟨S8x17x128x128, .bf16⟩
  | .hbm, ⟨65, _⟩ => ⟨S17x128x8x64, .f32⟩
  | .hbm, ⟨66, _⟩ => ⟨S8x17x64x128, .f32⟩
  | .hbm, ⟨67, _⟩ => ⟨S8x17x1x128, .f32⟩
  | .hbm, ⟨68, _⟩ => ⟨S8x17x1x128, .f32⟩
  | .hbm, ⟨69, _⟩ => ⟨S8x17x1x128, .f32⟩
  | .hbm, ⟨70, _⟩ => ⟨S8x17x128x128, .f32⟩
  | .hbm, ⟨71, _⟩ => ⟨S8x17x128x128, .bf16⟩
  | .hbm, ⟨72, _⟩ => ⟨S8x17x128x128, .bf16⟩
  | .hbm, ⟨73, _⟩ => ⟨S8x2176x128, .bf16⟩
  | .hbm, ⟨74, _⟩ => ⟨S17x128x8x64, .f32⟩
  | .hbm, ⟨75, _⟩ => ⟨S8x17x64x128, .f32⟩
  | .hbm, ⟨76, _⟩ => ⟨S8x17x64x128, .bf16⟩
  | .hbm, ⟨77, _⟩ => ⟨S17x128x8x64, .f32⟩
  | .hbm, ⟨78, _⟩ => ⟨S8x17x64x128, .f32⟩
  | .hbm, ⟨79, _⟩ => ⟨S17x128x8x64, .f32⟩
  | .hbm, ⟨80, _⟩ => ⟨S8x17x64x128, .f32⟩
  | .hbm, ⟨81, _⟩ => ⟨S8x17x64x128, .bf16⟩
  | .hbm, ⟨82, _⟩ => ⟨S8x17x1x128, .f32⟩
  | .hbm, ⟨83, _⟩ => ⟨S8x17x128x128, .f32⟩
  | .hbm, ⟨84, _⟩ => ⟨S8x17x128x128, .f32⟩
  | .hbm, ⟨85, _⟩ => ⟨S8x17x64x128, .f32⟩
  | .hbm, ⟨86, _⟩ => ⟨S8x17x64x128, .f32⟩
  | .hbm, ⟨87, _⟩ => ⟨S17x128x8x64, .f32⟩
  | .hbm, ⟨88, _⟩ => ⟨S2176x8x64, .f32⟩
  | .hbm, ⟨89, _⟩ => ⟨S_, .f32⟩
  | .hbm, ⟨90, _⟩ => ⟨S2176x8x64, .f32⟩
  | .hbm, ⟨91, _⟩ => ⟨S2176x8x64, .f32⟩
  | .hbm, ⟨92, _⟩ => ⟨S8x17x64x128, .f32⟩
  | .hbm, ⟨93, _⟩ => ⟨S17x128x8x64, .f32⟩
  | .hbm, ⟨94, _⟩ => ⟨S2176x8x64, .f32⟩
  | .hbm, ⟨95, _⟩ => ⟨S17x128x8x64, .f32⟩
  | .hbm, ⟨96, _⟩ => ⟨S2176x8x64, .f32⟩
  | .hbm, ⟨97, _⟩ => ⟨S8x17x1x128, .f32⟩
  | .hbm, ⟨98, _⟩ => ⟨S8x17x1x128, .f32⟩
  | .hbm, ⟨99, _⟩ => ⟨S8x17x1x128, .f32⟩
  | .hbm, ⟨100, _⟩ => ⟨S17x128x8x1, .f32⟩
  | .hbm, ⟨101, _⟩ => ⟨S2176x8x1, .f32⟩
  | .hbm, ⟨102, _⟩ => ⟨S2176x8, .f32⟩
  | .local _ .vmem, ⟨0, _⟩ => ⟨S8x17x128x128, .bf16⟩
  | .local _ .vmem, ⟨1, _⟩ => ⟨S8x17x128x128, .bf16⟩
  | .local _ .vmem, ⟨2, _⟩ => ⟨S8x2176x128, .bf16⟩
  | .local _ .vmem, ⟨3, _⟩ => ⟨S8x17x64x128, .bf16⟩
  | .local _ .vmem, ⟨4, _⟩ => ⟨S8x17x64x128, .f32⟩
  | .local _ .vmem, ⟨5, _⟩ => ⟨S8x17x64x128, .bf16⟩
  | .local _ .vmem, ⟨6, _⟩ => ⟨S8x17x1x128, .f32⟩
  | .local _ .vmem, ⟨7, _⟩ => ⟨S8x17x128x128, .f32⟩
  | .local _ .vmem, ⟨8, _⟩ => ⟨S8x17x128x128, .f32⟩
  | .local _ .vmem, ⟨9, _⟩ => ⟨S8x17x64x128, .f32⟩
  | .local _ .vmem, ⟨10, _⟩ => ⟨S8x17x1x128, .f32⟩
  | _, _ => ⟨S2176x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68_0 : Ref sig .tc := ⟨.hbm, 83, rfl⟩
abbrev main_v68_1 : Ref sig .tc := ⟨.hbm, 84, rfl⟩
abbrev main_v68_2 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_6 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c17_i32 : BitVec 32 := 17#32
  let v3 : BitVec 32 := Scalar.addi c0_i32 c17_i32
  let c1_i32 : BitVec 32 := 1#32
  ⟨c0_i32, v3, c1_i32⟩
def k0_off1 (k0_t1 : Fin k0_t1_loop.trips) : Fin 4 → Nat :=
  let c0 : Index := 0#32
  let c0_i32 : BitVec 32 := 0#32
  let c1_i32 : BitVec 32 := 1#32
  let arg12 : BitVec 32 := Scf.iv c0_i32 c1_i32 k0_t1
  let v5 : Index := Scalar.indexCast arg12
  let c0_5 : Index := 0#32
  let c0_6 : Index := 0#32
  ![0, v5.toNat, 0, 0]
def k0_off2 (k0_t1 : Fin k0_t1_loop.trips) : Fin 4 → Nat :=
  let c0_10 : Index := 0#32
  let c0_i32 : BitVec 32 := 0#32
  let c1_i32 : BitVec 32 := 1#32
  let arg12 : BitVec 32 := Scf.iv c0_i32 c1_i32 k0_t1
  let v15 : Index := Scalar.indexCast arg12
  let c0_11 : Index := 0#32
  let c0_12 : Index := 0#32
  ![0, v15.toNat, 0, 0]
def k0_off3 (k0_t1 : Fin k0_t1_loop.trips) : Fin 4 → Nat :=
  let c0_14 : Index := 0#32
  let c0_i32 : BitVec 32 := 0#32
  let c1_i32 : BitVec 32 := 1#32
  let arg12 : BitVec 32 := Scf.iv c0_i32 c1_i32 k0_t1
  let v20 : Index := Scalar.indexCast arg12
  let c0_15 : Index := 0#32
  let c0_16 : Index := 0#32
  ![0, v20.toNat, 0, 0]
def k0_off4 (k0_t1 : Fin k0_t1_loop.trips) : Fin 4 → Nat :=
  let c1 : Index := 1#32
  let c0_i32 : BitVec 32 := 0#32
  let c1_i32 : BitVec 32 := 1#32
  let arg12 : BitVec 32 := Scf.iv c0_i32 c1_i32 k0_t1
  let v24 : Index := Scalar.indexCast arg12
  let c0_17 : Index := 0#32
  let c0_18 : Index := 0#32
  ![1, v24.toNat, 0, 0]
def k0_off5 (k0_t1 : Fin k0_t1_loop.trips) : Fin 4 → Nat :=
  let c1_23 : Index := 1#32
  let c0_i32 : BitVec 32 := 0#32
  let c1_i32 : BitVec 32 := 1#32
  let arg12 : BitVec 32 := Scf.iv c0_i32 c1_i32 k0_t1
  let v34 : Index := Scalar.indexCast arg12
  let c0_24 : Index := 0#32
  let c0_25 : Index := 0#32
  ![1, v34.toNat, 0, 0]
def k0_off6 (k0_t1 : Fin k0_t1_loop.trips) : Fin 4 → Nat :=
  let c1_27 : Index := 1#32
  let c0_i32 : BitVec 32 := 0#32
  let c1_i32 : BitVec 32 := 1#32
  let arg12 : BitVec 32 := Scf.iv c0_i32 c1_i32 k0_t1
  let v39 : Index := Scalar.indexCast arg12
  let c0_28 : Index := 0#32
  let c0_29 : Index := 0#32
  ![1, v39.toNat, 0, 0]
def k0_off7 (k0_t1 : Fin k0_t1_loop.trips) : Fin 4 → Nat :=
  let c2 : Index := 2#32
  let c0_i32 : BitVec 32 := 0#32
  let c1_i32 : BitVec 32 := 1#32
  let arg12 : BitVec 32 := Scf.iv c0_i32 c1_i32 k0_t1
  let v43 : Index := Scalar.indexCast arg12
  let c0_30 : Index := 0#32
  let c0_31 : Index := 0#32
  ![2, v43.toNat, 0, 0]
def k0_off8 (k0_t1 : Fin k0_t1_loop.trips) : Fin 4 → Nat :=
  let c2_36 : Index := 2#32
  let c0_i32 : BitVec 32 := 0#32
  let c1_i32 : BitVec 32 := 1#32
  let arg12 : BitVec 32 := Scf.iv c0_i32 c1_i32 k0_t1
  let v53 : Index := Scalar.indexCast arg12
  let c0_37 : Index := 0#32
  let c0_38 : Index := 0#32
  ![2, v53.toNat, 0, 0]
def k0_off9 (k0_t1 : Fin k0_t1_loop.trips) : Fin 4 → Nat :=
  let c2_40 : Index := 2#32
  let c0_i32 : BitVec 32 := 0#32
  let c1_i32 : BitVec 32 := 1#32
  let arg12 : BitVec 32 := Scf.iv c0_i32 c1_i32 k0_t1
  let v58 : Index := Scalar.indexCast arg12
  let c0_41 : Index := 0#32
  let c0_42 : Index := 0#32
  ![2, v58.toNat, 0, 0]
def k0_off10 (k0_t1 : Fin k0_t1_loop.trips) : Fin 4 → Nat :=
  let c3 : Index := 3#32
  let c0_i32 : BitVec 32 := 0#32
  let c1_i32 : BitVec 32 := 1#32
  let arg12 : BitVec 32 := Scf.iv c0_i32 c1_i32 k0_t1
  let v62 : Index := Scalar.indexCast arg12
  let c0_43 : Index := 0#32
  let c0_44 : Index := 0#32
  ![3, v62.toNat, 0, 0]
def k0_off11 (k0_t1 : Fin k0_t1_loop.trips) : Fin 4 → Nat :=
  let c3_49 : Index := 3#32
  let c0_i32 : BitVec 32 := 0#32
  let c1_i32 : BitVec 32 := 1#32
  let arg12 : BitVec 32 := Scf.iv c0_i32 c1_i32 k0_t1
  let v72 : Index := Scalar.indexCast arg12
  let c0_50 : Index := 0#32
  let c0_51 : Index := 0#32
  ![3, v72.toNat, 0, 0]
def k0_off12 (k0_t1 : Fin k0_t1_loop.trips) : Fin 4 → Nat :=
  let c3_53 : Index := 3#32
  let c0_i32 : BitVec 32 := 0#32
  let c1_i32 : BitVec 32 := 1#32
  let arg12 : BitVec 32 := Scf.iv c0_i32 c1_i32 k0_t1
  let v77 : Index := Scalar.indexCast arg12
  let c0_54 : Index := 0#32
  let c0_55 : Index := 0#32
  ![3, v77.toNat, 0, 0]
def k0_off13 (k0_t1 : Fin k0_t1_loop.trips) : Fin 4 → Nat :=
  let c4 : Index := 4#32
  let c0_i32 : BitVec 32 := 0#32
  let c1_i32 : BitVec 32 := 1#32
  let arg12 : BitVec 32 := Scf.iv c0_i32 c1_i32 k0_t1
  let v81 : Index := Scalar.indexCast arg12
  let c0_56 : Index := 0#32
  let c0_57 : Index := 0#32
  ![4, v81.toNat, 0, 0]
def k0_off14 (k0_t1 : Fin k0_t1_loop.trips) : Fin 4 → Nat :=
  let c4_62 : Index := 4#32
  let c0_i32 : BitVec 32 := 0#32
  let c1_i32 : BitVec 32 := 1#32
  let arg12 : BitVec 32 := Scf.iv c0_i32 c1_i32 k0_t1
  let v91 : Index := Scalar.indexCast arg12
  let c0_63 : Index := 0#32
  let c0_64 : Index := 0#32
  ![4, v91.toNat, 0, 0]
def k0_off15 (k0_t1 : Fin k0_t1_loop.trips) : Fin 4 → Nat :=
  let c4_66 : Index := 4#32
  let c0_i32 : BitVec 32 := 0#32
  let c1_i32 : BitVec 32 := 1#32
  let arg12 : BitVec 32 := Scf.iv c0_i32 c1_i32 k0_t1
  let v96 : Index := Scalar.indexCast arg12
  let c0_67 : Index := 0#32
  let c0_68 : Index := 0#32
  ![4, v96.toNat, 0, 0]
def k0_off16 (k0_t1 : Fin k0_t1_loop.trips) : Fin 4 → Nat :=
  let c5 : Index := 5#32
  let c0_i32 : BitVec 32 := 0#32
  let c1_i32 : BitVec 32 := 1#32
  let arg12 : BitVec 32 := Scf.iv c0_i32 c1_i32 k0_t1
  let v100 : Index := Scalar.indexCast arg12
  let c0_69 : Index := 0#32
  let c0_70 : Index := 0#32
  ![5, v100.toNat, 0, 0]
def k0_off17 (k0_t1 : Fin k0_t1_loop.trips) : Fin 4 → Nat :=
  let c5_75 : Index := 5#32
  let c0_i32 : BitVec 32 := 0#32
  let c1_i32 : BitVec 32 := 1#32
  let arg12 : BitVec 32 := Scf.iv c0_i32 c1_i32 k0_t1
  let v110 : Index := Scalar.indexCast arg12
  let c0_76 : Index := 0#32
  let c0_77 : Index := 0#32
  ![5, v110.toNat, 0, 0]
def k0_off18 (k0_t1 : Fin k0_t1_loop.trips) : Fin 4 → Nat :=
  let c5_79 : Index := 5#32
  let c0_i32 : BitVec 32 := 0#32
  let c1_i32 : BitVec 32 := 1#32
  let arg12 : BitVec 32 := Scf.iv c0_i32 c1_i32 k0_t1
  let v115 : Index := Scalar.indexCast arg12
  let c0_80 : Index := 0#32
  let c0_81 : Index := 0#32
  ![5, v115.toNat, 0, 0]
def k0_off19 (k0_t1 : Fin k0_t1_loop.trips) : Fin 4 → Nat :=
  let c6 : Index := 6#32
  let c0_i32 : BitVec 32 := 0#32
  let c1_i32 : BitVec 32 := 1#32
  let arg12 : BitVec 32 := Scf.iv c0_i32 c1_i32 k0_t1
  let v119 : Index := Scalar.indexCast arg12
  let c0_82 : Index := 0#32
  let c0_83 : Index := 0#32
  ![6, v119.toNat, 0, 0]
def k0_off20 (k0_t1 : Fin k0_t1_loop.trips) : Fin 4 → Nat :=
  let c6_88 : Index := 6#32
  let c0_i32 : BitVec 32 := 0#32
  let c1_i32 : BitVec 32 := 1#32
  let arg12 : BitVec 32 := Scf.iv c0_i32 c1_i32 k0_t1
  let v129 : Index := Scalar.indexCast arg12
  let c0_89 : Index := 0#32
  let c0_90 : Index := 0#32
  ![6, v129.toNat, 0, 0]
def k0_off21 (k0_t1 : Fin k0_t1_loop.trips) : Fin 4 → Nat :=
  let c6_92 : Index := 6#32
  let c0_i32 : BitVec 32 := 0#32
  let c1_i32 : BitVec 32 := 1#32
  let arg12 : BitVec 32 := Scf.iv c0_i32 c1_i32 k0_t1
  let v134 : Index := Scalar.indexCast arg12
  let c0_93 : Index := 0#32
  let c0_94 : Index := 0#32
  ![6, v134.toNat, 0, 0]
def k0_off22 (k0_t1 : Fin k0_t1_loop.trips) : Fin 4 → Nat :=
  let c7 : Index := 7#32
  let c0_i32 : BitVec 32 := 0#32
  let c1_i32 : BitVec 32 := 1#32
  let arg12 : BitVec 32 := Scf.iv c0_i32 c1_i32 k0_t1
  let v138 : Index := Scalar.indexCast arg12
  let c0_95 : Index := 0#32
  let c0_96 : Index := 0#32
  ![7, v138.toNat, 0, 0]
def k0_off23 (k0_t1 : Fin k0_t1_loop.trips) : Fin 4 → Nat :=
  let c7_101 : Index := 7#32
  let c0_i32 : BitVec 32 := 0#32
  let c1_i32 : BitVec 32 := 1#32
  let arg12 : BitVec 32 := Scf.iv c0_i32 c1_i32 k0_t1
  let v148 : Index := Scalar.indexCast arg12
  let c0_102 : Index := 0#32
  let c0_103 : Index := 0#32
  ![7, v148.toNat, 0, 0]
def k0_off24 (k0_t1 : Fin k0_t1_loop.trips) : Fin 4 → Nat :=
  let c7_105 : Index := 7#32
  let c0_i32 : BitVec 32 := 0#32
  let c1_i32 : BitVec 32 := 1#32
  let arg12 : BitVec 32 := Scf.iv c0_i32 c1_i32 k0_t1
  let v153 : Index := Scalar.indexCast arg12
  let c0_106 : Index := 0#32
  let c0_107 : Index := 0#32
  ![7, v153.toNat, 0, 0]
@[reducible] def k0_t2_loop : Scf.Loop 32 :=
  let c0_i32_1 : BitVec 32 := 0#32
  let c17_i32_2 : BitVec 32 := 17#32
  let v4 : BitVec 32 := Scalar.addi c0_i32_1 c17_i32_2
  let c1_i32_3 : BitVec 32 := 1#32
  ⟨c0_i32_1, v4, c1_i32_3⟩
def k0_mult1 (k0_t2 : Fin k0_t2_loop.trips) : BitVec 32 :=
  let c0_i32_1 : BitVec 32 := 0#32
  let c1_i32_3 : BitVec 32 := 1#32
  let arg12 : BitVec 32 := Scf.iv c0_i32_1 c1_i32_3 k0_t2
  let c128_i32 : BitVec 32 := 128#32
  let v5 : BitVec 32 := Scalar.muli arg12 c128_i32
  v5
def k0_off25 (k0_t2 : Fin k0_t2_loop.trips) : Fin 3 → Nat :=
  let c0 : Index := 0#32
  let c0_i32_1 : BitVec 32 := 0#32
  let c1_i32_3 : BitVec 32 := 1#32
  let arg12 : BitVec 32 := Scf.iv c0_i32_1 c1_i32_3 k0_t2
  let c128_i32 : BitVec 32 := 128#32
  let v5 : BitVec 32 := Scalar.muli arg12 c128_i32
  let v6 : BitVec 32 := v5
  let v23 : Index := Scalar.indexCast v6
  let c0_20 : Index := 0#32
  ![0, v23.toNat, 0]
def k0_off26 (k0_t2 : Fin k0_t2_loop.trips) : Fin 4 → Nat :=
  let c0_21 : Index := 0#32
  let c0_i32_1 : BitVec 32 := 0#32
  let c1_i32_3 : BitVec 32 := 1#32
  let arg12 : BitVec 32 := Scf.iv c0_i32_1 c1_i32_3 k0_t2
  let v26 : Index := Scalar.indexCast arg12
  let c0_22 : Index := 0#32
  let c0_23 : Index := 0#32
  ![0, v26.toNat, 0, 0]
def k0_off27 (k0_t2 : Fin k0_t2_loop.trips) : Fin 3 → Nat :=
  let c1 : Index := 1#32
  let c0_i32_1 : BitVec 32 := 0#32
  let c1_i32_3 : BitVec 32 := 1#32
  let arg12 : BitVec 32 := Scf.iv c0_i32_1 c1_i32_3 k0_t2
  let c128_i32 : BitVec 32 := 128#32
  let v5 : BitVec 32 := Scalar.muli arg12 c128_i32
  let v6 : BitVec 32 := v5
  let v30 : Index := Scalar.indexCast v6
  let c0_25 : Index := 0#32
  ![1, v30.toNat, 0]
def k0_off28 (k0_t2 : Fin k0_t2_loop.trips) : Fin 4 → Nat :=
  let c1_26 : Index := 1#32
  let c0_i32_1 : BitVec 32 := 0#32
  let c1_i32_3 : BitVec 32 := 1#32
  let arg12 : BitVec 32 := Scf.iv c0_i32_1 c1_i32_3 k0_t2
  let v33 : Index := Scalar.indexCast arg12
  let c0_27 : Index := 0#32
  let c0_28 : Index := 0#32
  ![1, v33.toNat, 0, 0]
def k0_off29 (k0_t2 : Fin k0_t2_loop.trips) : Fin 3 → Nat :=
  let c2 : Index := 2#32
  let c0_i32_1 : BitVec 32 := 0#32
  let c1_i32_3 : BitVec 32 := 1#32
  let arg12 : BitVec 32 := Scf.iv c0_i32_1 c1_i32_3 k0_t2
  let c128_i32 : BitVec 32 := 128#32
  let v5 : BitVec 32 := Scalar.muli arg12 c128_i32
  let v6 : BitVec 32 := v5
  let v37 : Index := Scalar.indexCast v6
  let c0_30 : Index := 0#32
  ![2, v37.toNat, 0]
def k0_off30 (k0_t2 : Fin k0_t2_loop.trips) : Fin 4 → Nat :=
  let c2_31 : Index := 2#32
  let c0_i32_1 : BitVec 32 := 0#32
  let c1_i32_3 : BitVec 32 := 1#32
  let arg12 : BitVec 32 := Scf.iv c0_i32_1 c1_i32_3 k0_t2
  let v40 : Index := Scalar.indexCast arg12
  let c0_32 : Index := 0#32
  let c0_33 : Index := 0#32
  ![2, v40.toNat, 0, 0]
def k0_off31 (k0_t2 : Fin k0_t2_loop.trips) : Fin 3 → Nat :=
  let c3 : Index := 3#32
  let c0_i32_1 : BitVec 32 := 0#32
  let c1_i32_3 : BitVec 32 := 1#32
  let arg12 : BitVec 32 := Scf.iv c0_i32_1 c1_i32_3 k0_t2
  let c128_i32 : BitVec 32 := 128#32
  let v5 : BitVec 32 := Scalar.muli arg12 c128_i32
  let v6 : BitVec 32 := v5
  let v44 : Index := Scalar.indexCast v6
  let c0_35 : Index := 0#32
  ![3, v44.toNat, 0]
def k0_off32 (k0_t2 : Fin k0_t2_loop.trips) : Fin 4 → Nat :=
  let c3_36 : Index := 3#32
  let c0_i32_1 : BitVec 32 := 0#32
  let c1_i32_3 : BitVec 32 := 1#32
  let arg12 : BitVec 32 := Scf.iv c0_i32_1 c1_i32_3 k0_t2
  let v47 : Index := Scalar.indexCast arg12
  let c0_37 : Index := 0#32
  let c0_38 : Index := 0#32
  ![3, v47.toNat, 0, 0]
def k0_off33 (k0_t2 : Fin k0_t2_loop.trips) : Fin 3 → Nat :=
  let c4 : Index := 4#32
  let c0_i32_1 : BitVec 32 := 0#32
  let c1_i32_3 : BitVec 32 := 1#32
  let arg12 : BitVec 32 := Scf.iv c0_i32_1 c1_i32_3 k0_t2
  let c128_i32 : BitVec 32 := 128#32
  let v5 : BitVec 32 := Scalar.muli arg12 c128_i32
  let v6 : BitVec 32 := v5
  let v51 : Index := Scalar.indexCast v6
  let c0_40 : Index := 0#32
  ![4, v51.toNat, 0]
def k0_off34 (k0_t2 : Fin k0_t2_loop.trips) : Fin 4 → Nat :=
  let c4_41 : Index := 4#32
  let c0_i32_1 : BitVec 32 := 0#32
  let c1_i32_3 : BitVec 32 := 1#32
  let arg12 : BitVec 32 := Scf.iv c0_i32_1 c1_i32_3 k0_t2
  let v54 : Index := Scalar.indexCast arg12
  let c0_42 : Index := 0#32
  let c0_43 : Index := 0#32
  ![4, v54.toNat, 0, 0]
def k0_off35 (k0_t2 : Fin k0_t2_loop.trips) : Fin 3 → Nat :=
  let c5 : Index := 5#32
  let c0_i32_1 : BitVec 32 := 0#32
  let c1_i32_3 : BitVec 32 := 1#32
  let arg12 : BitVec 32 := Scf.iv c0_i32_1 c1_i32_3 k0_t2
  let c128_i32 : BitVec 32 := 128#32
  let v5 : BitVec 32 := Scalar.muli arg12 c128_i32
  let v6 : BitVec 32 := v5
  let v58 : Index := Scalar.indexCast v6
  let c0_45 : Index := 0#32
  ![5, v58.toNat, 0]
def k0_off36 (k0_t2 : Fin k0_t2_loop.trips) : Fin 4 → Nat :=
  let c5_46 : Index := 5#32
  let c0_i32_1 : BitVec 32 := 0#32
  let c1_i32_3 : BitVec 32 := 1#32
  let arg12 : BitVec 32 := Scf.iv c0_i32_1 c1_i32_3 k0_t2
  let v61 : Index := Scalar.indexCast arg12
  let c0_47 : Index := 0#32
  let c0_48 : Index := 0#32
  ![5, v61.toNat, 0, 0]
def k0_off37 (k0_t2 : Fin k0_t2_loop.trips) : Fin 3 → Nat :=
  let c6 : Index := 6#32
  let c0_i32_1 : BitVec 32 := 0#32
  let c1_i32_3 : BitVec 32 := 1#32
  let arg12 : BitVec 32 := Scf.iv c0_i32_1 c1_i32_3 k0_t2
  let c128_i32 : BitVec 32 := 128#32
  let v5 : BitVec 32 := Scalar.muli arg12 c128_i32
  let v6 : BitVec 32 := v5
  let v65 : Index := Scalar.indexCast v6
  let c0_50 : Index := 0#32
  ![6, v65.toNat, 0]
def k0_off38 (k0_t2 : Fin k0_t2_loop.trips) : Fin 4 → Nat :=
  let c6_51 : Index := 6#32
  let c0_i32_1 : BitVec 32 := 0#32
  let c1_i32_3 : BitVec 32 := 1#32
  let arg12 : BitVec 32 := Scf.iv c0_i32_1 c1_i32_3 k0_t2
  let v68 : Index := Scalar.indexCast arg12
  let c0_52 : Index := 0#32
  let c0_53 : Index := 0#32
  ![6, v68.toNat, 0, 0]
def k0_off39 (k0_t2 : Fin k0_t2_loop.trips) : Fin 3 → Nat :=
  let c7 : Index := 7#32
  let c0_i32_1 : BitVec 32 := 0#32
  let c1_i32_3 : BitVec 32 := 1#32
  let arg12 : BitVec 32 := Scf.iv c0_i32_1 c1_i32_3 k0_t2
  let c128_i32 : BitVec 32 := 128#32
  let v5 : BitVec 32 := Scalar.muli arg12 c128_i32
  let v6 : BitVec 32 := v5
  let v72 : Index := Scalar.indexCast v6
  let c0_55 : Index := 0#32
  ![7, v72.toNat, 0]
def k0_off40 (k0_t2 : Fin k0_t2_loop.trips) : Fin 4 → Nat :=
  let c7_56 : Index := 7#32
  let c0_i32_1 : BitVec 32 := 0#32
  let c1_i32_3 : BitVec 32 := 1#32
  let arg12 : BitVec 32 := Scf.iv c0_i32_1 c1_i32_3 k0_t2
  let v75 : Index := Scalar.indexCast arg12
  let c0_57 : Index := 0#32
  let c0_58 : Index := 0#32
  ![7, v75.toNat, 0, 0]
def k0_off41 (k0_t2 : Fin k0_t2_loop.trips) : Fin 4 → Nat :=
  let c0_60 : Index := 0#32
  let c0_i32_1 : BitVec 32 := 0#32
  let c1_i32_3 : BitVec 32 := 1#32
  let arg12 : BitVec 32 := Scf.iv c0_i32_1 c1_i32_3 k0_t2
  let v79 : Index := Scalar.indexCast arg12
  let c0_61 : Index := 0#32
  let c0_62 : Index := 0#32
  ![0, v79.toNat, 0, 0]
def k0_off42 (k0_t2 : Fin k0_t2_loop.trips) : Fin 4 → Nat :=
  let c1_67 : Index := 1#32
  let c0_i32_1 : BitVec 32 := 0#32
  let c1_i32_3 : BitVec 32 := 1#32
  let arg12 : BitVec 32 := Scf.iv c0_i32_1 c1_i32_3 k0_t2
  let v86 : Index := Scalar.indexCast arg12
  let c0_68 : Index := 0#32
  let c0_69 : Index := 0#32
  ![1, v86.toNat, 0, 0]
def k0_off43 (k0_t2 : Fin k0_t2_loop.trips) : Fin 4 → Nat :=
  let c2_74 : Index := 2#32
  let c0_i32_1 : BitVec 32 := 0#32
  let c1_i32_3 : BitVec 32 := 1#32
  let arg12 : BitVec 32 := Scf.iv c0_i32_1 c1_i32_3 k0_t2
  let v93 : Index := Scalar.indexCast arg12
  let c0_75 : Index := 0#32
  let c0_76 : Index := 0#32
  ![2, v93.toNat, 0, 0]
def k0_off44 (k0_t2 : Fin k0_t2_loop.trips) : Fin 4 → Nat :=
  let c3_81 : Index := 3#32
  let c0_i32_1 : BitVec 32 := 0#32
  let c1_i32_3 : BitVec 32 := 1#32
  let arg12 : BitVec 32 := Scf.iv c0_i32_1 c1_i32_3 k0_t2
  let v100 : Index := Scalar.indexCast arg12
  let c0_82 : Index := 0#32
  let c0_83 : Index := 0#32
  ![3, v100.toNat, 0, 0]
def k0_off45 (k0_t2 : Fin k0_t2_loop.trips) : Fin 4 → Nat :=
  let c4_88 : Index := 4#32
  let c0_i32_1 : BitVec 32 := 0#32
  let c1_i32_3 : BitVec 32 := 1#32
  let arg12 : BitVec 32 := Scf.iv c0_i32_1 c1_i32_3 k0_t2
  let v107 : Index := Scalar.indexCast arg12
  let c0_89 : Index := 0#32
  let c0_90 : Index := 0#32
  ![4, v107.toNat, 0, 0]
def k0_off46 (k0_t2 : Fin k0_t2_loop.trips) : Fin 4 → Nat :=
  let c5_95 : Index := 5#32
  let c0_i32_1 : BitVec 32 := 0#32
  let c1_i32_3 : BitVec 32 := 1#32
  let arg12 : BitVec 32 := Scf.iv c0_i32_1 c1_i32_3 k0_t2
  let v114 : Index := Scalar.indexCast arg12
  let c0_96 : Index := 0#32
  let c0_97 : Index := 0#32
  ![5, v114.toNat, 0, 0]
def k0_off47 (k0_t2 : Fin k0_t2_loop.trips) : Fin 4 → Nat :=
  let c6_102 : Index := 6#32
  let c0_i32_1 : BitVec 32 := 0#32
  let c1_i32_3 : BitVec 32 := 1#32
  let arg12 : BitVec 32 := Scf.iv c0_i32_1 c1_i32_3 k0_t2
  let v121 : Index := Scalar.indexCast arg12
  let c0_103 : Index := 0#32
  let c0_104 : Index := 0#32
  ![6, v121.toNat, 0, 0]
def k0_off48 (k0_t2 : Fin k0_t2_loop.trips) : Fin 4 → Nat :=
  let c7_109 : Index := 7#32
  let c0_i32_1 : BitVec 32 := 0#32
  let c1_i32_3 : BitVec 32 := 1#32
  let arg12 : BitVec 32 := Scf.iv c0_i32_1 c1_i32_3 k0_t2
  let v128 : Index := Scalar.indexCast arg12
  let c0_110 : Index := 0#32
  let c0_111 : Index := 0#32
  ![7, v128.toNat, 0, 0]
def k0_off49 (k0_t2 : Fin k0_t2_loop.trips) : Fin 4 → Nat :=
  let c0_117 : Index := 0#32
  let c0_i32_1 : BitVec 32 := 0#32
  let c1_i32_3 : BitVec 32 := 1#32
  let arg12 : BitVec 32 := Scf.iv c0_i32_1 c1_i32_3 k0_t2
  let v137 : Index := Scalar.indexCast arg12
  let c0_118 : Index := 0#32
  let c0_119 : Index := 0#32
  ![0, v137.toNat, 0, 0]
def k0_off50 (k0_t2 : Fin k0_t2_loop.trips) : Fin 4 → Nat :=
  let c1_124 : Index := 1#32
  let c0_i32_1 : BitVec 32 := 0#32
  let c1_i32_3 : BitVec 32 := 1#32
  let arg12 : BitVec 32 := Scf.iv c0_i32_1 c1_i32_3 k0_t2
  let v153 : Index := Scalar.indexCast arg12
  let c0_125 : Index := 0#32
  let c0_126 : Index := 0#32
  ![1, v153.toNat, 0, 0]
def k0_off51 (k0_t2 : Fin k0_t2_loop.trips) : Fin 4 → Nat :=
  let c2_131 : Index := 2#32
  let c0_i32_1 : BitVec 32 := 0#32
  let c1_i32_3 : BitVec 32 := 1#32
  let arg12 : BitVec 32 := Scf.iv c0_i32_1 c1_i32_3 k0_t2
  let v169 : Index := Scalar.indexCast arg12
  let c0_132 : Index := 0#32
  let c0_133 : Index := 0#32
  ![2, v169.toNat, 0, 0]
def k0_off52 (k0_t2 : Fin k0_t2_loop.trips) : Fin 4 → Nat :=
  let c3_138 : Index := 3#32
  let c0_i32_1 : BitVec 32 := 0#32
  let c1_i32_3 : BitVec 32 := 1#32
  let arg12 : BitVec 32 := Scf.iv c0_i32_1 c1_i32_3 k0_t2
  let v185 : Index := Scalar.indexCast arg12
  let c0_139 : Index := 0#32
  let c0_140 : Index := 0#32
  ![3, v185.toNat, 0, 0]
def k0_off53 (k0_t2 : Fin k0_t2_loop.trips) : Fin 4 → Nat :=
  let c4_145 : Index := 4#32
  let c0_i32_1 : BitVec 32 := 0#32
  let c1_i32_3 : BitVec 32 := 1#32
  let arg12 : BitVec 32 := Scf.iv c0_i32_1 c1_i32_3 k0_t2
  let v201 : Index := Scalar.indexCast arg12
  let c0_146 : Index := 0#32
  let c0_147 : Index := 0#32
  ![4, v201.toNat, 0, 0]
def k0_off54 (k0_t2 : Fin k0_t2_loop.trips) : Fin 4 → Nat :=
  let c5_152 : Index := 5#32
  let c0_i32_1 : BitVec 32 := 0#32
  let c1_i32_3 : BitVec 32 := 1#32
  let arg12 : BitVec 32 := Scf.iv c0_i32_1 c1_i32_3 k0_t2
  let v217 : Index := Scalar.indexCast arg12
  let c0_153 : Index := 0#32
  let c0_154 : Index := 0#32
  ![5, v217.toNat, 0, 0]
def k0_off55 (k0_t2 : Fin k0_t2_loop.trips) : Fin 4 → Nat :=
  let c6_159 : Index := 6#32
  let c0_i32_1 : BitVec 32 := 0#32
  let c1_i32_3 : BitVec 32 := 1#32
  let arg12 : BitVec 32 := Scf.iv c0_i32_1 c1_i32_3 k0_t2
  let v233 : Index := Scalar.indexCast arg12
  let c0_160 : Index := 0#32
  let c0_161 : Index := 0#32
  ![6, v233.toNat, 0, 0]
def k0_off56 (k0_t2 : Fin k0_t2_loop.trips) : Fin 4 → Nat :=
  let c7_166 : Index := 7#32
  let c0_i32_1 : BitVec 32 := 0#32
  let c1_i32_3 : BitVec 32 := 1#32
  let arg12 : BitVec 32 := Scf.iv c0_i32_1 c1_i32_3 k0_t2
  let v249 : Index := Scalar.indexCast arg12
  let c0_167 : Index := 0#32
  let c0_168 : Index := 0#32
  ![7, v249.toNat, 0, 0]
@[reducible] def k0_t3_loop (k0_t2 : Fin k0_t2_loop.trips) : Scf.Loop 32 :=
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c17_i32_317 : BitVec 32 := 17#32
  let v440 : BitVec 32 := Scalar.subi c17_i32_317 v439
  let c1_i32_318 : BitVec 32 := 1#32
  let v442 : BitVec 32 := Scalar.divsi v440 c1_i32_318
  let v443 : BitVec 32 := Scalar.muli v442 c1_i32_318
  let v444 : BitVec 32 := Scalar.addi v439 v443
  let c1_i32_319 : BitVec 32 := 1#32
  ⟨v439, v444, c1_i32_319⟩
def k0_off57 (k0_t2 : Fin k0_t2_loop.trips) : Fin 3 → Nat :=
  let c0_369 : Index := 0#32
  let c0_i32_1 : BitVec 32 := 0#32
  let c1_i32_3 : BitVec 32 := 1#32
  let arg12 : BitVec 32 := Scf.iv c0_i32_1 c1_i32_3 k0_t2
  let c128_i32 : BitVec 32 := 128#32
  let v5 : BitVec 32 := Scalar.muli arg12 c128_i32
  let v6 : BitVec 32 := v5
  let v511 : Index := Scalar.indexCast v6
  let c0_370 : Index := 0#32
  ![0, v511.toNat, 0]
def k0_off58 (k0_t2 : Fin k0_t2_loop.trips) (k0_t3 : Fin (k0_t3_loop k0_t2).trips) : Fin 4 → Nat :=
  let c0_371 : Index := 0#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c1_i32_319 : BitVec 32 := 1#32
  let arg13 : BitVec 32 := Scf.iv v439 c1_i32_319 k0_t3
  let v514 : Index := Scalar.indexCast arg13
  let c0_372 : Index := 0#32
  let c0_373 : Index := 0#32
  ![0, v514.toNat, 0, 0]
def k0_off59 (k0_t2 : Fin k0_t2_loop.trips) : Fin 3 → Nat :=
  let c1_375 : Index := 1#32
  let c0_i32_1 : BitVec 32 := 0#32
  let c1_i32_3 : BitVec 32 := 1#32
  let arg12 : BitVec 32 := Scf.iv c0_i32_1 c1_i32_3 k0_t2
  let c128_i32 : BitVec 32 := 128#32
  let v5 : BitVec 32 := Scalar.muli arg12 c128_i32
  let v6 : BitVec 32 := v5
  let v518 : Index := Scalar.indexCast v6
  let c0_376 : Index := 0#32
  ![1, v518.toNat, 0]
def k0_off60 (k0_t2 : Fin k0_t2_loop.trips) (k0_t3 : Fin (k0_t3_loop k0_t2).trips) : Fin 4 → Nat :=
  let c1_377 : Index := 1#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c1_i32_319 : BitVec 32 := 1#32
  let arg13 : BitVec 32 := Scf.iv v439 c1_i32_319 k0_t3
  let v521 : Index := Scalar.indexCast arg13
  let c0_378 : Index := 0#32
  let c0_379 : Index := 0#32
  ![1, v521.toNat, 0, 0]
def k0_off61 (k0_t2 : Fin k0_t2_loop.trips) : Fin 3 → Nat :=
  let c2_381 : Index := 2#32
  let c0_i32_1 : BitVec 32 := 0#32
  let c1_i32_3 : BitVec 32 := 1#32
  let arg12 : BitVec 32 := Scf.iv c0_i32_1 c1_i32_3 k0_t2
  let c128_i32 : BitVec 32 := 128#32
  let v5 : BitVec 32 := Scalar.muli arg12 c128_i32
  let v6 : BitVec 32 := v5
  let v525 : Index := Scalar.indexCast v6
  let c0_382 : Index := 0#32
  ![2, v525.toNat, 0]
def k0_off62 (k0_t2 : Fin k0_t2_loop.trips) (k0_t3 : Fin (k0_t3_loop k0_t2).trips) : Fin 4 → Nat :=
  let c2_383 : Index := 2#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c1_i32_319 : BitVec 32 := 1#32
  let arg13 : BitVec 32 := Scf.iv v439 c1_i32_319 k0_t3
  let v528 : Index := Scalar.indexCast arg13
  let c0_384 : Index := 0#32
  let c0_385 : Index := 0#32
  ![2, v528.toNat, 0, 0]
def k0_off63 (k0_t2 : Fin k0_t2_loop.trips) : Fin 3 → Nat :=
  let c3_387 : Index := 3#32
  let c0_i32_1 : BitVec 32 := 0#32
  let c1_i32_3 : BitVec 32 := 1#32
  let arg12 : BitVec 32 := Scf.iv c0_i32_1 c1_i32_3 k0_t2
  let c128_i32 : BitVec 32 := 128#32
  let v5 : BitVec 32 := Scalar.muli arg12 c128_i32
  let v6 : BitVec 32 := v5
  let v532 : Index := Scalar.indexCast v6
  let c0_388 : Index := 0#32
  ![3, v532.toNat, 0]
def k0_off64 (k0_t2 : Fin k0_t2_loop.trips) (k0_t3 : Fin (k0_t3_loop k0_t2).trips) : Fin 4 → Nat :=
  let c3_389 : Index := 3#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c1_i32_319 : BitVec 32 := 1#32
  let arg13 : BitVec 32 := Scf.iv v439 c1_i32_319 k0_t3
  let v535 : Index := Scalar.indexCast arg13
  let c0_390 : Index := 0#32
  let c0_391 : Index := 0#32
  ![3, v535.toNat, 0, 0]
def k0_off65 (k0_t2 : Fin k0_t2_loop.trips) : Fin 3 → Nat :=
  let c4_393 : Index := 4#32
  let c0_i32_1 : BitVec 32 := 0#32
  let c1_i32_3 : BitVec 32 := 1#32
  let arg12 : BitVec 32 := Scf.iv c0_i32_1 c1_i32_3 k0_t2
  let c128_i32 : BitVec 32 := 128#32
  let v5 : BitVec 32 := Scalar.muli arg12 c128_i32
  let v6 : BitVec 32 := v5
  let v539 : Index := Scalar.indexCast v6
  let c0_394 : Index := 0#32
  ![4, v539.toNat, 0]
def k0_off66 (k0_t2 : Fin k0_t2_loop.trips) (k0_t3 : Fin (k0_t3_loop k0_t2).trips) : Fin 4 → Nat :=
  let c4_395 : Index := 4#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c1_i32_319 : BitVec 32 := 1#32
  let arg13 : BitVec 32 := Scf.iv v439 c1_i32_319 k0_t3
  let v542 : Index := Scalar.indexCast arg13
  let c0_396 : Index := 0#32
  let c0_397 : Index := 0#32
  ![4, v542.toNat, 0, 0]
def k0_off67 (k0_t2 : Fin k0_t2_loop.trips) : Fin 3 → Nat :=
  let c5_399 : Index := 5#32
  let c0_i32_1 : BitVec 32 := 0#32
  let c1_i32_3 : BitVec 32 := 1#32
  let arg12 : BitVec 32 := Scf.iv c0_i32_1 c1_i32_3 k0_t2
  let c128_i32 : BitVec 32 := 128#32
  let v5 : BitVec 32 := Scalar.muli arg12 c128_i32
  let v6 : BitVec 32 := v5
  let v546 : Index := Scalar.indexCast v6
  let c0_400 : Index := 0#32
  ![5, v546.toNat, 0]
def k0_off68 (k0_t2 : Fin k0_t2_loop.trips) (k0_t3 : Fin (k0_t3_loop k0_t2).trips) : Fin 4 → Nat :=
  let c5_401 : Index := 5#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c1_i32_319 : BitVec 32 := 1#32
  let arg13 : BitVec 32 := Scf.iv v439 c1_i32_319 k0_t3
  let v549 : Index := Scalar.indexCast arg13
  let c0_402 : Index := 0#32
  let c0_403 : Index := 0#32
  ![5, v549.toNat, 0, 0]
def k0_off69 (k0_t2 : Fin k0_t2_loop.trips) : Fin 3 → Nat :=
  let c6_405 : Index := 6#32
  let c0_i32_1 : BitVec 32 := 0#32
  let c1_i32_3 : BitVec 32 := 1#32
  let arg12 : BitVec 32 := Scf.iv c0_i32_1 c1_i32_3 k0_t2
  let c128_i32 : BitVec 32 := 128#32
  let v5 : BitVec 32 := Scalar.muli arg12 c128_i32
  let v6 : BitVec 32 := v5
  let v553 : Index := Scalar.indexCast v6
  let c0_406 : Index := 0#32
  ![6, v553.toNat, 0]
def k0_off70 (k0_t2 : Fin k0_t2_loop.trips) (k0_t3 : Fin (k0_t3_loop k0_t2).trips) : Fin 4 → Nat :=
  let c6_407 : Index := 6#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c1_i32_319 : BitVec 32 := 1#32
  let arg13 : BitVec 32 := Scf.iv v439 c1_i32_319 k0_t3
  let v556 : Index := Scalar.indexCast arg13
  let c0_408 : Index := 0#32
  let c0_409 : Index := 0#32
  ![6, v556.toNat, 0, 0]
def k0_off71 (k0_t2 : Fin k0_t2_loop.trips) : Fin 3 → Nat :=
  let c7_411 : Index := 7#32
  let c0_i32_1 : BitVec 32 := 0#32
  let c1_i32_3 : BitVec 32 := 1#32
  let arg12 : BitVec 32 := Scf.iv c0_i32_1 c1_i32_3 k0_t2
  let c128_i32 : BitVec 32 := 128#32
  let v5 : BitVec 32 := Scalar.muli arg12 c128_i32
  let v6 : BitVec 32 := v5
  let v560 : Index := Scalar.indexCast v6
  let c0_412 : Index := 0#32
  ![7, v560.toNat, 0]
def k0_off72 (k0_t2 : Fin k0_t2_loop.trips) (k0_t3 : Fin (k0_t3_loop k0_t2).trips) : Fin 4 → Nat :=
  let c7_413 : Index := 7#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c1_i32_319 : BitVec 32 := 1#32
  let arg13 : BitVec 32 := Scf.iv v439 c1_i32_319 k0_t3
  let v563 : Index := Scalar.indexCast arg13
  let c0_414 : Index := 0#32
  let c0_415 : Index := 0#32
  ![7, v563.toNat, 0, 0]
def k0_off73 (k0_t2 : Fin k0_t2_loop.trips) : Fin 4 → Nat :=
  let c0_417 : Index := 0#32
  let c0_i32_1 : BitVec 32 := 0#32
  let c1_i32_3 : BitVec 32 := 1#32
  let arg12 : BitVec 32 := Scf.iv c0_i32_1 c1_i32_3 k0_t2
  let v567 : Index := Scalar.indexCast arg12
  let c0_418 : Index := 0#32
  let c0_419 : Index := 0#32
  ![0, v567.toNat, 0, 0]
def k0_off74 (k0_t2 : Fin k0_t2_loop.trips) (k0_t3 : Fin (k0_t3_loop k0_t2).trips) : Fin 4 → Nat :=
  let c0_420 : Index := 0#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c1_i32_319 : BitVec 32 := 1#32
  let arg13 : BitVec 32 := Scf.iv v439 c1_i32_319 k0_t3
  let v570 : Index := Scalar.indexCast arg13
  let c0_421 : Index := 0#32
  let c0_422 : Index := 0#32
  ![0, v570.toNat, 0, 0]
def k0_off75 (k0_t2 : Fin k0_t2_loop.trips) : Fin 4 → Nat :=
  let c1_424 : Index := 1#32
  let c0_i32_1 : BitVec 32 := 0#32
  let c1_i32_3 : BitVec 32 := 1#32
  let arg12 : BitVec 32 := Scf.iv c0_i32_1 c1_i32_3 k0_t2
  let v574 : Index := Scalar.indexCast arg12
  let c0_425 : Index := 0#32
  let c0_426 : Index := 0#32
  ![1, v574.toNat, 0, 0]
def k0_off76 (k0_t2 : Fin k0_t2_loop.trips) (k0_t3 : Fin (k0_t3_loop k0_t2).trips) : Fin 4 → Nat :=
  let c1_427 : Index := 1#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c1_i32_319 : BitVec 32 := 1#32
  let arg13 : BitVec 32 := Scf.iv v439 c1_i32_319 k0_t3
  let v577 : Index := Scalar.indexCast arg13
  let c0_428 : Index := 0#32
  let c0_429 : Index := 0#32
  ![1, v577.toNat, 0, 0]
def k0_off77 (k0_t2 : Fin k0_t2_loop.trips) : Fin 4 → Nat :=
  let c2_431 : Index := 2#32
  let c0_i32_1 : BitVec 32 := 0#32
  let c1_i32_3 : BitVec 32 := 1#32
  let arg12 : BitVec 32 := Scf.iv c0_i32_1 c1_i32_3 k0_t2
  let v581 : Index := Scalar.indexCast arg12
  let c0_432 : Index := 0#32
  let c0_433 : Index := 0#32
  ![2, v581.toNat, 0, 0]
def k0_off78 (k0_t2 : Fin k0_t2_loop.trips) (k0_t3 : Fin (k0_t3_loop k0_t2).trips) : Fin 4 → Nat :=
  let c2_434 : Index := 2#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c1_i32_319 : BitVec 32 := 1#32
  let arg13 : BitVec 32 := Scf.iv v439 c1_i32_319 k0_t3
  let v584 : Index := Scalar.indexCast arg13
  let c0_435 : Index := 0#32
  let c0_436 : Index := 0#32
  ![2, v584.toNat, 0, 0]
def k0_off79 (k0_t2 : Fin k0_t2_loop.trips) : Fin 4 → Nat :=
  let c3_438 : Index := 3#32
  let c0_i32_1 : BitVec 32 := 0#32
  let c1_i32_3 : BitVec 32 := 1#32
  let arg12 : BitVec 32 := Scf.iv c0_i32_1 c1_i32_3 k0_t2
  let v588 : Index := Scalar.indexCast arg12
  let c0_439 : Index := 0#32
  let c0_440 : Index := 0#32
  ![3, v588.toNat, 0, 0]
def k0_off80 (k0_t2 : Fin k0_t2_loop.trips) (k0_t3 : Fin (k0_t3_loop k0_t2).trips) : Fin 4 → Nat :=
  let c3_441 : Index := 3#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c1_i32_319 : BitVec 32 := 1#32
  let arg13 : BitVec 32 := Scf.iv v439 c1_i32_319 k0_t3
  let v591 : Index := Scalar.indexCast arg13
  let c0_442 : Index := 0#32
  let c0_443 : Index := 0#32
  ![3, v591.toNat, 0, 0]
def k0_off81 (k0_t2 : Fin k0_t2_loop.trips) : Fin 4 → Nat :=
  let c4_445 : Index := 4#32
  let c0_i32_1 : BitVec 32 := 0#32
  let c1_i32_3 : BitVec 32 := 1#32
  let arg12 : BitVec 32 := Scf.iv c0_i32_1 c1_i32_3 k0_t2
  let v595 : Index := Scalar.indexCast arg12
  let c0_446 : Index := 0#32
  let c0_447 : Index := 0#32
  ![4, v595.toNat, 0, 0]
def k0_off82 (k0_t2 : Fin k0_t2_loop.trips) (k0_t3 : Fin (k0_t3_loop k0_t2).trips) : Fin 4 → Nat :=
  let c4_448 : Index := 4#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c1_i32_319 : BitVec 32 := 1#32
  let arg13 : BitVec 32 := Scf.iv v439 c1_i32_319 k0_t3
  let v598 : Index := Scalar.indexCast arg13
  let c0_449 : Index := 0#32
  let c0_450 : Index := 0#32
  ![4, v598.toNat, 0, 0]
def k0_off83 (k0_t2 : Fin k0_t2_loop.trips) : Fin 4 → Nat :=
  let c5_452 : Index := 5#32
  let c0_i32_1 : BitVec 32 := 0#32
  let c1_i32_3 : BitVec 32 := 1#32
  let arg12 : BitVec 32 := Scf.iv c0_i32_1 c1_i32_3 k0_t2
  let v602 : Index := Scalar.indexCast arg12
  let c0_453 : Index := 0#32
  let c0_454 : Index := 0#32
  ![5, v602.toNat, 0, 0]
def k0_off84 (k0_t2 : Fin k0_t2_loop.trips) (k0_t3 : Fin (k0_t3_loop k0_t2).trips) : Fin 4 → Nat :=
  let c5_455 : Index := 5#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c1_i32_319 : BitVec 32 := 1#32
  let arg13 : BitVec 32 := Scf.iv v439 c1_i32_319 k0_t3
  let v605 : Index := Scalar.indexCast arg13
  let c0_456 : Index := 0#32
  let c0_457 : Index := 0#32
  ![5, v605.toNat, 0, 0]
def k0_off85 (k0_t2 : Fin k0_t2_loop.trips) : Fin 4 → Nat :=
  let c6_459 : Index := 6#32
  let c0_i32_1 : BitVec 32 := 0#32
  let c1_i32_3 : BitVec 32 := 1#32
  let arg12 : BitVec 32 := Scf.iv c0_i32_1 c1_i32_3 k0_t2
  let v609 : Index := Scalar.indexCast arg12
  let c0_460 : Index := 0#32
  let c0_461 : Index := 0#32
  ![6, v609.toNat, 0, 0]
def k0_off86 (k0_t2 : Fin k0_t2_loop.trips) (k0_t3 : Fin (k0_t3_loop k0_t2).trips) : Fin 4 → Nat :=
  let c6_462 : Index := 6#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c1_i32_319 : BitVec 32 := 1#32
  let arg13 : BitVec 32 := Scf.iv v439 c1_i32_319 k0_t3
  let v612 : Index := Scalar.indexCast arg13
  let c0_463 : Index := 0#32
  let c0_464 : Index := 0#32
  ![6, v612.toNat, 0, 0]
def k0_off87 (k0_t2 : Fin k0_t2_loop.trips) : Fin 4 → Nat :=
  let c7_466 : Index := 7#32
  let c0_i32_1 : BitVec 32 := 0#32
  let c1_i32_3 : BitVec 32 := 1#32
  let arg12 : BitVec 32 := Scf.iv c0_i32_1 c1_i32_3 k0_t2
  let v616 : Index := Scalar.indexCast arg12
  let c0_467 : Index := 0#32
  let c0_468 : Index := 0#32
  ![7, v616.toNat, 0, 0]
def k0_off88 (k0_t2 : Fin k0_t2_loop.trips) (k0_t3 : Fin (k0_t3_loop k0_t2).trips) : Fin 4 → Nat :=
  let c7_469 : Index := 7#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c1_i32_319 : BitVec 32 := 1#32
  let arg13 : BitVec 32 := Scf.iv v439 c1_i32_319 k0_t3
  let v619 : Index := Scalar.indexCast arg13
  let c0_470 : Index := 0#32
  let c0_471 : Index := 0#32
  ![7, v619.toNat, 0, 0]
def k0_off89 (k0_t2 : Fin k0_t2_loop.trips) (k0_t3 : Fin (k0_t3_loop k0_t2).trips) : Fin 4 → Nat :=
  let c0_473 : Index := 0#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c1_i32_319 : BitVec 32 := 1#32
  let arg13 : BitVec 32 := Scf.iv v439 c1_i32_319 k0_t3
  let v623 : Index := Scalar.indexCast arg13
  let c0_474 : Index := 0#32
  let c0_475 : Index := 0#32
  ![0, v623.toNat, 0, 0]
def k0_off90 (k0_t2 : Fin k0_t2_loop.trips) (k0_t3 : Fin (k0_t3_loop k0_t2).trips) : Fin 4 → Nat :=
  let c1_479 : Index := 1#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c1_i32_319 : BitVec 32 := 1#32
  let arg13 : BitVec 32 := Scf.iv v439 c1_i32_319 k0_t3
  let v637 : Index := Scalar.indexCast arg13
  let c0_480 : Index := 0#32
  let c0_481 : Index := 0#32
  ![1, v637.toNat, 0, 0]
def k0_off91 (k0_t2 : Fin k0_t2_loop.trips) (k0_t3 : Fin (k0_t3_loop k0_t2).trips) : Fin 4 → Nat :=
  let c2_485 : Index := 2#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c1_i32_319 : BitVec 32 := 1#32
  let arg13 : BitVec 32 := Scf.iv v439 c1_i32_319 k0_t3
  let v651 : Index := Scalar.indexCast arg13
  let c0_486 : Index := 0#32
  let c0_487 : Index := 0#32
  ![2, v651.toNat, 0, 0]
def k0_off92 (k0_t2 : Fin k0_t2_loop.trips) (k0_t3 : Fin (k0_t3_loop k0_t2).trips) : Fin 4 → Nat :=
  let c3_491 : Index := 3#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c1_i32_319 : BitVec 32 := 1#32
  let arg13 : BitVec 32 := Scf.iv v439 c1_i32_319 k0_t3
  let v665 : Index := Scalar.indexCast arg13
  let c0_492 : Index := 0#32
  let c0_493 : Index := 0#32
  ![3, v665.toNat, 0, 0]
def k0_off93 (k0_t2 : Fin k0_t2_loop.trips) (k0_t3 : Fin (k0_t3_loop k0_t2).trips) : Fin 4 → Nat :=
  let c4_497 : Index := 4#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c1_i32_319 : BitVec 32 := 1#32
  let arg13 : BitVec 32 := Scf.iv v439 c1_i32_319 k0_t3
  let v679 : Index := Scalar.indexCast arg13
  let c0_498 : Index := 0#32
  let c0_499 : Index := 0#32
  ![4, v679.toNat, 0, 0]
def k0_off94 (k0_t2 : Fin k0_t2_loop.trips) (k0_t3 : Fin (k0_t3_loop k0_t2).trips) : Fin 4 → Nat :=
  let c5_503 : Index := 5#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c1_i32_319 : BitVec 32 := 1#32
  let arg13 : BitVec 32 := Scf.iv v439 c1_i32_319 k0_t3
  let v693 : Index := Scalar.indexCast arg13
  let c0_504 : Index := 0#32
  let c0_505 : Index := 0#32
  ![5, v693.toNat, 0, 0]
def k0_off95 (k0_t2 : Fin k0_t2_loop.trips) (k0_t3 : Fin (k0_t3_loop k0_t2).trips) : Fin 4 → Nat :=
  let c6_509 : Index := 6#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c1_i32_319 : BitVec 32 := 1#32
  let arg13 : BitVec 32 := Scf.iv v439 c1_i32_319 k0_t3
  let v707 : Index := Scalar.indexCast arg13
  let c0_510 : Index := 0#32
  let c0_511 : Index := 0#32
  ![6, v707.toNat, 0, 0]
def k0_off96 (k0_t2 : Fin k0_t2_loop.trips) (k0_t3 : Fin (k0_t3_loop k0_t2).trips) : Fin 4 → Nat :=
  let c7_515 : Index := 7#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c1_i32_319 : BitVec 32 := 1#32
  let arg13 : BitVec 32 := Scf.iv v439 c1_i32_319 k0_t3
  let v721 : Index := Scalar.indexCast arg13
  let c0_516 : Index := 0#32
  let c0_517 : Index := 0#32
  ![7, v721.toNat, 0, 0]
def k0_off97 (k0_t2 : Fin k0_t2_loop.trips) : Fin 4 → Nat :=
  let c0_585 : Index := 0#32
  let c0_i32_1 : BitVec 32 := 0#32
  let c1_i32_3 : BitVec 32 := 1#32
  let arg12 : BitVec 32 := Scf.iv c0_i32_1 c1_i32_3 k0_t2
  let v815 : Index := Scalar.indexCast arg12
  let c0_586 : Index := 0#32
  let c0_587 : Index := 0#32
  ![0, v815.toNat, 0, 0]
def k0_off98 (k0_t2 : Fin k0_t2_loop.trips) : Fin 4 → Nat :=
  let c1_589 : Index := 1#32
  let c0_i32_1 : BitVec 32 := 0#32
  let c1_i32_3 : BitVec 32 := 1#32
  let arg12 : BitVec 32 := Scf.iv c0_i32_1 c1_i32_3 k0_t2
  let v819 : Index := Scalar.indexCast arg12
  let c0_590 : Index := 0#32
  let c0_591 : Index := 0#32
  ![1, v819.toNat, 0, 0]
def k0_off99 (k0_t2 : Fin k0_t2_loop.trips) : Fin 4 → Nat :=
  let c2_593 : Index := 2#32
  let c0_i32_1 : BitVec 32 := 0#32
  let c1_i32_3 : BitVec 32 := 1#32
  let arg12 : BitVec 32 := Scf.iv c0_i32_1 c1_i32_3 k0_t2
  let v823 : Index := Scalar.indexCast arg12
  let c0_594 : Index := 0#32
  let c0_595 : Index := 0#32
  ![2, v823.toNat, 0, 0]
def k0_off100 (k0_t2 : Fin k0_t2_loop.trips) : Fin 4 → Nat :=
  let c3_597 : Index := 3#32
  let c0_i32_1 : BitVec 32 := 0#32
  let c1_i32_3 : BitVec 32 := 1#32
  let arg12 : BitVec 32 := Scf.iv c0_i32_1 c1_i32_3 k0_t2
  let v827 : Index := Scalar.indexCast arg12
  let c0_598 : Index := 0#32
  let c0_599 : Index := 0#32
  ![3, v827.toNat, 0, 0]
def k0_off101 (k0_t2 : Fin k0_t2_loop.trips) : Fin 4 → Nat :=
  let c4_601 : Index := 4#32
  let c0_i32_1 : BitVec 32 := 0#32
  let c1_i32_3 : BitVec 32 := 1#32
  let arg12 : BitVec 32 := Scf.iv c0_i32_1 c1_i32_3 k0_t2
  let v831 : Index := Scalar.indexCast arg12
  let c0_602 : Index := 0#32
  let c0_603 : Index := 0#32
  ![4, v831.toNat, 0, 0]
def k0_off102 (k0_t2 : Fin k0_t2_loop.trips) : Fin 4 → Nat :=
  let c5_605 : Index := 5#32
  let c0_i32_1 : BitVec 32 := 0#32
  let c1_i32_3 : BitVec 32 := 1#32
  let arg12 : BitVec 32 := Scf.iv c0_i32_1 c1_i32_3 k0_t2
  let v835 : Index := Scalar.indexCast arg12
  let c0_606 : Index := 0#32
  let c0_607 : Index := 0#32
  ![5, v835.toNat, 0, 0]
def k0_off103 (k0_t2 : Fin k0_t2_loop.trips) : Fin 4 → Nat :=
  let c6_609 : Index := 6#32
  let c0_i32_1 : BitVec 32 := 0#32
  let c1_i32_3 : BitVec 32 := 1#32
  let arg12 : BitVec 32 := Scf.iv c0_i32_1 c1_i32_3 k0_t2
  let v839 : Index := Scalar.indexCast arg12
  let c0_610 : Index := 0#32
  let c0_611 : Index := 0#32
  ![6, v839.toNat, 0, 0]
def k0_off104 (k0_t2 : Fin k0_t2_loop.trips) : Fin 4 → Nat :=
  let c7_613 : Index := 7#32
  let c0_i32_1 : BitVec 32 := 0#32
  let c1_i32_3 : BitVec 32 := 1#32
  let arg12 : BitVec 32 := Scf.iv c0_i32_1 c1_i32_3 k0_t2
  let v843 : Index := Scalar.indexCast arg12
  let c0_614 : Index := 0#32
  let c0_615 : Index := 0#32
  ![7, v843.toNat, 0, 0]
@[reducible] def k0_t4_loop (k0_t2 : Fin k0_t2_loop.trips) : Scf.Loop 32 :=
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c17_i32_317 : BitVec 32 := 17#32
  let v440 : BitVec 32 := Scalar.subi c17_i32_317 v439
  let c1_i32_318 : BitVec 32 := 1#32
  let v442 : BitVec 32 := Scalar.divsi v440 c1_i32_318
  let v443 : BitVec 32 := Scalar.muli v442 c1_i32_318
  let v444 : BitVec 32 := Scalar.addi v439 v443
  let v441 : BitVec 32 := Scalar.addi v439 v440
  let c1_i32_320 : BitVec 32 := 1#32
  ⟨v444, v441, c1_i32_320⟩
def k0_off105 (k0_t2 : Fin k0_t2_loop.trips) : Fin 3 → Nat :=
  let c0_369 : Index := 0#32
  let c0_i32_1 : BitVec 32 := 0#32
  let c1_i32_3 : BitVec 32 := 1#32
  let arg12 : BitVec 32 := Scf.iv c0_i32_1 c1_i32_3 k0_t2
  let c128_i32 : BitVec 32 := 128#32
  let v5 : BitVec 32 := Scalar.muli arg12 c128_i32
  let v6 : BitVec 32 := v5
  let v511 : Index := Scalar.indexCast v6
  let c0_370 : Index := 0#32
  ![0, v511.toNat, 0]
def k0_off106 (k0_t2 : Fin k0_t2_loop.trips) (k0_t4 : Fin (k0_t4_loop k0_t2).trips) : Fin 4 → Nat :=
  let c0_371 : Index := 0#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c17_i32_317 : BitVec 32 := 17#32
  let v440 : BitVec 32 := Scalar.subi c17_i32_317 v439
  let c1_i32_318 : BitVec 32 := 1#32
  let v442 : BitVec 32 := Scalar.divsi v440 c1_i32_318
  let v443 : BitVec 32 := Scalar.muli v442 c1_i32_318
  let v444 : BitVec 32 := Scalar.addi v439 v443
  let c1_i32_320 : BitVec 32 := 1#32
  let arg13 : BitVec 32 := Scf.iv v444 c1_i32_320 k0_t4
  let v514 : Index := Scalar.indexCast arg13
  let c0_372 : Index := 0#32
  let c0_373 : Index := 0#32
  ![0, v514.toNat, 0, 0]
def k0_off107 (k0_t2 : Fin k0_t2_loop.trips) : Fin 3 → Nat :=
  let c1_375 : Index := 1#32
  let c0_i32_1 : BitVec 32 := 0#32
  let c1_i32_3 : BitVec 32 := 1#32
  let arg12 : BitVec 32 := Scf.iv c0_i32_1 c1_i32_3 k0_t2
  let c128_i32 : BitVec 32 := 128#32
  let v5 : BitVec 32 := Scalar.muli arg12 c128_i32
  let v6 : BitVec 32 := v5
  let v518 : Index := Scalar.indexCast v6
  let c0_376 : Index := 0#32
  ![1, v518.toNat, 0]
def k0_off108 (k0_t2 : Fin k0_t2_loop.trips) (k0_t4 : Fin (k0_t4_loop k0_t2).trips) : Fin 4 → Nat :=
  let c1_377 : Index := 1#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c17_i32_317 : BitVec 32 := 17#32
  let v440 : BitVec 32 := Scalar.subi c17_i32_317 v439
  let c1_i32_318 : BitVec 32 := 1#32
  let v442 : BitVec 32 := Scalar.divsi v440 c1_i32_318
  let v443 : BitVec 32 := Scalar.muli v442 c1_i32_318
  let v444 : BitVec 32 := Scalar.addi v439 v443
  let c1_i32_320 : BitVec 32 := 1#32
  let arg13 : BitVec 32 := Scf.iv v444 c1_i32_320 k0_t4
  let v521 : Index := Scalar.indexCast arg13
  let c0_378 : Index := 0#32
  let c0_379 : Index := 0#32
  ![1, v521.toNat, 0, 0]
def k0_off109 (k0_t2 : Fin k0_t2_loop.trips) : Fin 3 → Nat :=
  let c2_381 : Index := 2#32
  let c0_i32_1 : BitVec 32 := 0#32
  let c1_i32_3 : BitVec 32 := 1#32
  let arg12 : BitVec 32 := Scf.iv c0_i32_1 c1_i32_3 k0_t2
  let c128_i32 : BitVec 32 := 128#32
  let v5 : BitVec 32 := Scalar.muli arg12 c128_i32
  let v6 : BitVec 32 := v5
  let v525 : Index := Scalar.indexCast v6
  let c0_382 : Index := 0#32
  ![2, v525.toNat, 0]
def k0_off110 (k0_t2 : Fin k0_t2_loop.trips) (k0_t4 : Fin (k0_t4_loop k0_t2).trips) : Fin 4 → Nat :=
  let c2_383 : Index := 2#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c17_i32_317 : BitVec 32 := 17#32
  let v440 : BitVec 32 := Scalar.subi c17_i32_317 v439
  let c1_i32_318 : BitVec 32 := 1#32
  let v442 : BitVec 32 := Scalar.divsi v440 c1_i32_318
  let v443 : BitVec 32 := Scalar.muli v442 c1_i32_318
  let v444 : BitVec 32 := Scalar.addi v439 v443
  let c1_i32_320 : BitVec 32 := 1#32
  let arg13 : BitVec 32 := Scf.iv v444 c1_i32_320 k0_t4
  let v528 : Index := Scalar.indexCast arg13
  let c0_384 : Index := 0#32
  let c0_385 : Index := 0#32
  ![2, v528.toNat, 0, 0]
def k0_off111 (k0_t2 : Fin k0_t2_loop.trips) : Fin 3 → Nat :=
  let c3_387 : Index := 3#32
  let c0_i32_1 : BitVec 32 := 0#32
  let c1_i32_3 : BitVec 32 := 1#32
  let arg12 : BitVec 32 := Scf.iv c0_i32_1 c1_i32_3 k0_t2
  let c128_i32 : BitVec 32 := 128#32
  let v5 : BitVec 32 := Scalar.muli arg12 c128_i32
  let v6 : BitVec 32 := v5
  let v532 : Index := Scalar.indexCast v6
  let c0_388 : Index := 0#32
  ![3, v532.toNat, 0]
def k0_off112 (k0_t2 : Fin k0_t2_loop.trips) (k0_t4 : Fin (k0_t4_loop k0_t2).trips) : Fin 4 → Nat :=
  let c3_389 : Index := 3#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c17_i32_317 : BitVec 32 := 17#32
  let v440 : BitVec 32 := Scalar.subi c17_i32_317 v439
  let c1_i32_318 : BitVec 32 := 1#32
  let v442 : BitVec 32 := Scalar.divsi v440 c1_i32_318
  let v443 : BitVec 32 := Scalar.muli v442 c1_i32_318
  let v444 : BitVec 32 := Scalar.addi v439 v443
  let c1_i32_320 : BitVec 32 := 1#32
  let arg13 : BitVec 32 := Scf.iv v444 c1_i32_320 k0_t4
  let v535 : Index := Scalar.indexCast arg13
  let c0_390 : Index := 0#32
  let c0_391 : Index := 0#32
  ![3, v535.toNat, 0, 0]
def k0_off113 (k0_t2 : Fin k0_t2_loop.trips) : Fin 3 → Nat :=
  let c4_393 : Index := 4#32
  let c0_i32_1 : BitVec 32 := 0#32
  let c1_i32_3 : BitVec 32 := 1#32
  let arg12 : BitVec 32 := Scf.iv c0_i32_1 c1_i32_3 k0_t2
  let c128_i32 : BitVec 32 := 128#32
  let v5 : BitVec 32 := Scalar.muli arg12 c128_i32
  let v6 : BitVec 32 := v5
  let v539 : Index := Scalar.indexCast v6
  let c0_394 : Index := 0#32
  ![4, v539.toNat, 0]
def k0_off114 (k0_t2 : Fin k0_t2_loop.trips) (k0_t4 : Fin (k0_t4_loop k0_t2).trips) : Fin 4 → Nat :=
  let c4_395 : Index := 4#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c17_i32_317 : BitVec 32 := 17#32
  let v440 : BitVec 32 := Scalar.subi c17_i32_317 v439
  let c1_i32_318 : BitVec 32 := 1#32
  let v442 : BitVec 32 := Scalar.divsi v440 c1_i32_318
  let v443 : BitVec 32 := Scalar.muli v442 c1_i32_318
  let v444 : BitVec 32 := Scalar.addi v439 v443
  let c1_i32_320 : BitVec 32 := 1#32
  let arg13 : BitVec 32 := Scf.iv v444 c1_i32_320 k0_t4
  let v542 : Index := Scalar.indexCast arg13
  let c0_396 : Index := 0#32
  let c0_397 : Index := 0#32
  ![4, v542.toNat, 0, 0]
def k0_off115 (k0_t2 : Fin k0_t2_loop.trips) : Fin 3 → Nat :=
  let c5_399 : Index := 5#32
  let c0_i32_1 : BitVec 32 := 0#32
  let c1_i32_3 : BitVec 32 := 1#32
  let arg12 : BitVec 32 := Scf.iv c0_i32_1 c1_i32_3 k0_t2
  let c128_i32 : BitVec 32 := 128#32
  let v5 : BitVec 32 := Scalar.muli arg12 c128_i32
  let v6 : BitVec 32 := v5
  let v546 : Index := Scalar.indexCast v6
  let c0_400 : Index := 0#32
  ![5, v546.toNat, 0]
def k0_off116 (k0_t2 : Fin k0_t2_loop.trips) (k0_t4 : Fin (k0_t4_loop k0_t2).trips) : Fin 4 → Nat :=
  let c5_401 : Index := 5#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c17_i32_317 : BitVec 32 := 17#32
  let v440 : BitVec 32 := Scalar.subi c17_i32_317 v439
  let c1_i32_318 : BitVec 32 := 1#32
  let v442 : BitVec 32 := Scalar.divsi v440 c1_i32_318
  let v443 : BitVec 32 := Scalar.muli v442 c1_i32_318
  let v444 : BitVec 32 := Scalar.addi v439 v443
  let c1_i32_320 : BitVec 32 := 1#32
  let arg13 : BitVec 32 := Scf.iv v444 c1_i32_320 k0_t4
  let v549 : Index := Scalar.indexCast arg13
  let c0_402 : Index := 0#32
  let c0_403 : Index := 0#32
  ![5, v549.toNat, 0, 0]
def k0_off117 (k0_t2 : Fin k0_t2_loop.trips) : Fin 3 → Nat :=
  let c6_405 : Index := 6#32
  let c0_i32_1 : BitVec 32 := 0#32
  let c1_i32_3 : BitVec 32 := 1#32
  let arg12 : BitVec 32 := Scf.iv c0_i32_1 c1_i32_3 k0_t2
  let c128_i32 : BitVec 32 := 128#32
  let v5 : BitVec 32 := Scalar.muli arg12 c128_i32
  let v6 : BitVec 32 := v5
  let v553 : Index := Scalar.indexCast v6
  let c0_406 : Index := 0#32
  ![6, v553.toNat, 0]
def k0_off118 (k0_t2 : Fin k0_t2_loop.trips) (k0_t4 : Fin (k0_t4_loop k0_t2).trips) : Fin 4 → Nat :=
  let c6_407 : Index := 6#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c17_i32_317 : BitVec 32 := 17#32
  let v440 : BitVec 32 := Scalar.subi c17_i32_317 v439
  let c1_i32_318 : BitVec 32 := 1#32
  let v442 : BitVec 32 := Scalar.divsi v440 c1_i32_318
  let v443 : BitVec 32 := Scalar.muli v442 c1_i32_318
  let v444 : BitVec 32 := Scalar.addi v439 v443
  let c1_i32_320 : BitVec 32 := 1#32
  let arg13 : BitVec 32 := Scf.iv v444 c1_i32_320 k0_t4
  let v556 : Index := Scalar.indexCast arg13
  let c0_408 : Index := 0#32
  let c0_409 : Index := 0#32
  ![6, v556.toNat, 0, 0]
def k0_off119 (k0_t2 : Fin k0_t2_loop.trips) : Fin 3 → Nat :=
  let c7_411 : Index := 7#32
  let c0_i32_1 : BitVec 32 := 0#32
  let c1_i32_3 : BitVec 32 := 1#32
  let arg12 : BitVec 32 := Scf.iv c0_i32_1 c1_i32_3 k0_t2
  let c128_i32 : BitVec 32 := 128#32
  let v5 : BitVec 32 := Scalar.muli arg12 c128_i32
  let v6 : BitVec 32 := v5
  let v560 : Index := Scalar.indexCast v6
  let c0_412 : Index := 0#32
  ![7, v560.toNat, 0]
def k0_off120 (k0_t2 : Fin k0_t2_loop.trips) (k0_t4 : Fin (k0_t4_loop k0_t2).trips) : Fin 4 → Nat :=
  let c7_413 : Index := 7#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c17_i32_317 : BitVec 32 := 17#32
  let v440 : BitVec 32 := Scalar.subi c17_i32_317 v439
  let c1_i32_318 : BitVec 32 := 1#32
  let v442 : BitVec 32 := Scalar.divsi v440 c1_i32_318
  let v443 : BitVec 32 := Scalar.muli v442 c1_i32_318
  let v444 : BitVec 32 := Scalar.addi v439 v443
  let c1_i32_320 : BitVec 32 := 1#32
  let arg13 : BitVec 32 := Scf.iv v444 c1_i32_320 k0_t4
  let v563 : Index := Scalar.indexCast arg13
  let c0_414 : Index := 0#32
  let c0_415 : Index := 0#32
  ![7, v563.toNat, 0, 0]
def k0_off121 (k0_t2 : Fin k0_t2_loop.trips) : Fin 4 → Nat :=
  let c0_417 : Index := 0#32
  let c0_i32_1 : BitVec 32 := 0#32
  let c1_i32_3 : BitVec 32 := 1#32
  let arg12 : BitVec 32 := Scf.iv c0_i32_1 c1_i32_3 k0_t2
  let v567 : Index := Scalar.indexCast arg12
  let c0_418 : Index := 0#32
  let c0_419 : Index := 0#32
  ![0, v567.toNat, 0, 0]
def k0_off122 (k0_t2 : Fin k0_t2_loop.trips) (k0_t4 : Fin (k0_t4_loop k0_t2).trips) : Fin 4 → Nat :=
  let c0_420 : Index := 0#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c17_i32_317 : BitVec 32 := 17#32
  let v440 : BitVec 32 := Scalar.subi c17_i32_317 v439
  let c1_i32_318 : BitVec 32 := 1#32
  let v442 : BitVec 32 := Scalar.divsi v440 c1_i32_318
  let v443 : BitVec 32 := Scalar.muli v442 c1_i32_318
  let v444 : BitVec 32 := Scalar.addi v439 v443
  let c1_i32_320 : BitVec 32 := 1#32
  let arg13 : BitVec 32 := Scf.iv v444 c1_i32_320 k0_t4
  let v570 : Index := Scalar.indexCast arg13
  let c0_421 : Index := 0#32
  let c0_422 : Index := 0#32
  ![0, v570.toNat, 0, 0]
def k0_off123 (k0_t2 : Fin k0_t2_loop.trips) : Fin 4 → Nat :=
  let c1_424 : Index := 1#32
  let c0_i32_1 : BitVec 32 := 0#32
  let c1_i32_3 : BitVec 32 := 1#32
  let arg12 : BitVec 32 := Scf.iv c0_i32_1 c1_i32_3 k0_t2
  let v574 : Index := Scalar.indexCast arg12
  let c0_425 : Index := 0#32
  let c0_426 : Index := 0#32
  ![1, v574.toNat, 0, 0]
def k0_off124 (k0_t2 : Fin k0_t2_loop.trips) (k0_t4 : Fin (k0_t4_loop k0_t2).trips) : Fin 4 → Nat :=
  let c1_427 : Index := 1#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c17_i32_317 : BitVec 32 := 17#32
  let v440 : BitVec 32 := Scalar.subi c17_i32_317 v439
  let c1_i32_318 : BitVec 32 := 1#32
  let v442 : BitVec 32 := Scalar.divsi v440 c1_i32_318
  let v443 : BitVec 32 := Scalar.muli v442 c1_i32_318
  let v444 : BitVec 32 := Scalar.addi v439 v443
  let c1_i32_320 : BitVec 32 := 1#32
  let arg13 : BitVec 32 := Scf.iv v444 c1_i32_320 k0_t4
  let v577 : Index := Scalar.indexCast arg13
  let c0_428 : Index := 0#32
  let c0_429 : Index := 0#32
  ![1, v577.toNat, 0, 0]
def k0_off125 (k0_t2 : Fin k0_t2_loop.trips) : Fin 4 → Nat :=
  let c2_431 : Index := 2#32
  let c0_i32_1 : BitVec 32 := 0#32
  let c1_i32_3 : BitVec 32 := 1#32
  let arg12 : BitVec 32 := Scf.iv c0_i32_1 c1_i32_3 k0_t2
  let v581 : Index := Scalar.indexCast arg12
  let c0_432 : Index := 0#32
  let c0_433 : Index := 0#32
  ![2, v581.toNat, 0, 0]
def k0_off126 (k0_t2 : Fin k0_t2_loop.trips) (k0_t4 : Fin (k0_t4_loop k0_t2).trips) : Fin 4 → Nat :=
  let c2_434 : Index := 2#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c17_i32_317 : BitVec 32 := 17#32
  let v440 : BitVec 32 := Scalar.subi c17_i32_317 v439
  let c1_i32_318 : BitVec 32 := 1#32
  let v442 : BitVec 32 := Scalar.divsi v440 c1_i32_318
  let v443 : BitVec 32 := Scalar.muli v442 c1_i32_318
  let v444 : BitVec 32 := Scalar.addi v439 v443
  let c1_i32_320 : BitVec 32 := 1#32
  let arg13 : BitVec 32 := Scf.iv v444 c1_i32_320 k0_t4
  let v584 : Index := Scalar.indexCast arg13
  let c0_435 : Index := 0#32
  let c0_436 : Index := 0#32
  ![2, v584.toNat, 0, 0]
def k0_off127 (k0_t2 : Fin k0_t2_loop.trips) : Fin 4 → Nat :=
  let c3_438 : Index := 3#32
  let c0_i32_1 : BitVec 32 := 0#32
  let c1_i32_3 : BitVec 32 := 1#32
  let arg12 : BitVec 32 := Scf.iv c0_i32_1 c1_i32_3 k0_t2
  let v588 : Index := Scalar.indexCast arg12
  let c0_439 : Index := 0#32
  let c0_440 : Index := 0#32
  ![3, v588.toNat, 0, 0]
def k0_off128 (k0_t2 : Fin k0_t2_loop.trips) (k0_t4 : Fin (k0_t4_loop k0_t2).trips) : Fin 4 → Nat :=
  let c3_441 : Index := 3#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c17_i32_317 : BitVec 32 := 17#32
  let v440 : BitVec 32 := Scalar.subi c17_i32_317 v439
  let c1_i32_318 : BitVec 32 := 1#32
  let v442 : BitVec 32 := Scalar.divsi v440 c1_i32_318
  let v443 : BitVec 32 := Scalar.muli v442 c1_i32_318
  let v444 : BitVec 32 := Scalar.addi v439 v443
  let c1_i32_320 : BitVec 32 := 1#32
  let arg13 : BitVec 32 := Scf.iv v444 c1_i32_320 k0_t4
  let v591 : Index := Scalar.indexCast arg13
  let c0_442 : Index := 0#32
  let c0_443 : Index := 0#32
  ![3, v591.toNat, 0, 0]
def k0_off129 (k0_t2 : Fin k0_t2_loop.trips) : Fin 4 → Nat :=
  let c4_445 : Index := 4#32
  let c0_i32_1 : BitVec 32 := 0#32
  let c1_i32_3 : BitVec 32 := 1#32
  let arg12 : BitVec 32 := Scf.iv c0_i32_1 c1_i32_3 k0_t2
  let v595 : Index := Scalar.indexCast arg12
  let c0_446 : Index := 0#32
  let c0_447 : Index := 0#32
  ![4, v595.toNat, 0, 0]
def k0_off130 (k0_t2 : Fin k0_t2_loop.trips) (k0_t4 : Fin (k0_t4_loop k0_t2).trips) : Fin 4 → Nat :=
  let c4_448 : Index := 4#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c17_i32_317 : BitVec 32 := 17#32
  let v440 : BitVec 32 := Scalar.subi c17_i32_317 v439
  let c1_i32_318 : BitVec 32 := 1#32
  let v442 : BitVec 32 := Scalar.divsi v440 c1_i32_318
  let v443 : BitVec 32 := Scalar.muli v442 c1_i32_318
  let v444 : BitVec 32 := Scalar.addi v439 v443
  let c1_i32_320 : BitVec 32 := 1#32
  let arg13 : BitVec 32 := Scf.iv v444 c1_i32_320 k0_t4
  let v598 : Index := Scalar.indexCast arg13
  let c0_449 : Index := 0#32
  let c0_450 : Index := 0#32
  ![4, v598.toNat, 0, 0]
def k0_off131 (k0_t2 : Fin k0_t2_loop.trips) : Fin 4 → Nat :=
  let c5_452 : Index := 5#32
  let c0_i32_1 : BitVec 32 := 0#32
  let c1_i32_3 : BitVec 32 := 1#32
  let arg12 : BitVec 32 := Scf.iv c0_i32_1 c1_i32_3 k0_t2
  let v602 : Index := Scalar.indexCast arg12
  let c0_453 : Index := 0#32
  let c0_454 : Index := 0#32
  ![5, v602.toNat, 0, 0]
def k0_off132 (k0_t2 : Fin k0_t2_loop.trips) (k0_t4 : Fin (k0_t4_loop k0_t2).trips) : Fin 4 → Nat :=
  let c5_455 : Index := 5#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c17_i32_317 : BitVec 32 := 17#32
  let v440 : BitVec 32 := Scalar.subi c17_i32_317 v439
  let c1_i32_318 : BitVec 32 := 1#32
  let v442 : BitVec 32 := Scalar.divsi v440 c1_i32_318
  let v443 : BitVec 32 := Scalar.muli v442 c1_i32_318
  let v444 : BitVec 32 := Scalar.addi v439 v443
  let c1_i32_320 : BitVec 32 := 1#32
  let arg13 : BitVec 32 := Scf.iv v444 c1_i32_320 k0_t4
  let v605 : Index := Scalar.indexCast arg13
  let c0_456 : Index := 0#32
  let c0_457 : Index := 0#32
  ![5, v605.toNat, 0, 0]
def k0_off133 (k0_t2 : Fin k0_t2_loop.trips) : Fin 4 → Nat :=
  let c6_459 : Index := 6#32
  let c0_i32_1 : BitVec 32 := 0#32
  let c1_i32_3 : BitVec 32 := 1#32
  let arg12 : BitVec 32 := Scf.iv c0_i32_1 c1_i32_3 k0_t2
  let v609 : Index := Scalar.indexCast arg12
  let c0_460 : Index := 0#32
  let c0_461 : Index := 0#32
  ![6, v609.toNat, 0, 0]
def k0_off134 (k0_t2 : Fin k0_t2_loop.trips) (k0_t4 : Fin (k0_t4_loop k0_t2).trips) : Fin 4 → Nat :=
  let c6_462 : Index := 6#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c17_i32_317 : BitVec 32 := 17#32
  let v440 : BitVec 32 := Scalar.subi c17_i32_317 v439
  let c1_i32_318 : BitVec 32 := 1#32
  let v442 : BitVec 32 := Scalar.divsi v440 c1_i32_318
  let v443 : BitVec 32 := Scalar.muli v442 c1_i32_318
  let v444 : BitVec 32 := Scalar.addi v439 v443
  let c1_i32_320 : BitVec 32 := 1#32
  let arg13 : BitVec 32 := Scf.iv v444 c1_i32_320 k0_t4
  let v612 : Index := Scalar.indexCast arg13
  let c0_463 : Index := 0#32
  let c0_464 : Index := 0#32
  ![6, v612.toNat, 0, 0]
def k0_off135 (k0_t2 : Fin k0_t2_loop.trips) : Fin 4 → Nat :=
  let c7_466 : Index := 7#32
  let c0_i32_1 : BitVec 32 := 0#32
  let c1_i32_3 : BitVec 32 := 1#32
  let arg12 : BitVec 32 := Scf.iv c0_i32_1 c1_i32_3 k0_t2
  let v616 : Index := Scalar.indexCast arg12
  let c0_467 : Index := 0#32
  let c0_468 : Index := 0#32
  ![7, v616.toNat, 0, 0]
def k0_off136 (k0_t2 : Fin k0_t2_loop.trips) (k0_t4 : Fin (k0_t4_loop k0_t2).trips) : Fin 4 → Nat :=
  let c7_469 : Index := 7#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c17_i32_317 : BitVec 32 := 17#32
  let v440 : BitVec 32 := Scalar.subi c17_i32_317 v439
  let c1_i32_318 : BitVec 32 := 1#32
  let v442 : BitVec 32 := Scalar.divsi v440 c1_i32_318
  let v443 : BitVec 32 := Scalar.muli v442 c1_i32_318
  let v444 : BitVec 32 := Scalar.addi v439 v443
  let c1_i32_320 : BitVec 32 := 1#32
  let arg13 : BitVec 32 := Scf.iv v444 c1_i32_320 k0_t4
  let v619 : Index := Scalar.indexCast arg13
  let c0_470 : Index := 0#32
  let c0_471 : Index := 0#32
  ![7, v619.toNat, 0, 0]
def k0_off137 (k0_t2 : Fin k0_t2_loop.trips) (k0_t4 : Fin (k0_t4_loop k0_t2).trips) : Fin 4 → Nat :=
  let c0_473 : Index := 0#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c17_i32_317 : BitVec 32 := 17#32
  let v440 : BitVec 32 := Scalar.subi c17_i32_317 v439
  let c1_i32_318 : BitVec 32 := 1#32
  let v442 : BitVec 32 := Scalar.divsi v440 c1_i32_318
  let v443 : BitVec 32 := Scalar.muli v442 c1_i32_318
  let v444 : BitVec 32 := Scalar.addi v439 v443
  let c1_i32_320 : BitVec 32 := 1#32
  let arg13 : BitVec 32 := Scf.iv v444 c1_i32_320 k0_t4
  let v623 : Index := Scalar.indexCast arg13
  let c0_474 : Index := 0#32
  let c0_475 : Index := 0#32
  ![0, v623.toNat, 0, 0]
def k0_off138 (k0_t2 : Fin k0_t2_loop.trips) (k0_t4 : Fin (k0_t4_loop k0_t2).trips) : Fin 4 → Nat :=
  let c1_479 : Index := 1#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c17_i32_317 : BitVec 32 := 17#32
  let v440 : BitVec 32 := Scalar.subi c17_i32_317 v439
  let c1_i32_318 : BitVec 32 := 1#32
  let v442 : BitVec 32 := Scalar.divsi v440 c1_i32_318
  let v443 : BitVec 32 := Scalar.muli v442 c1_i32_318
  let v444 : BitVec 32 := Scalar.addi v439 v443
  let c1_i32_320 : BitVec 32 := 1#32
  let arg13 : BitVec 32 := Scf.iv v444 c1_i32_320 k0_t4
  let v637 : Index := Scalar.indexCast arg13
  let c0_480 : Index := 0#32
  let c0_481 : Index := 0#32
  ![1, v637.toNat, 0, 0]
def k0_off139 (k0_t2 : Fin k0_t2_loop.trips) (k0_t4 : Fin (k0_t4_loop k0_t2).trips) : Fin 4 → Nat :=
  let c2_485 : Index := 2#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c17_i32_317 : BitVec 32 := 17#32
  let v440 : BitVec 32 := Scalar.subi c17_i32_317 v439
  let c1_i32_318 : BitVec 32 := 1#32
  let v442 : BitVec 32 := Scalar.divsi v440 c1_i32_318
  let v443 : BitVec 32 := Scalar.muli v442 c1_i32_318
  let v444 : BitVec 32 := Scalar.addi v439 v443
  let c1_i32_320 : BitVec 32 := 1#32
  let arg13 : BitVec 32 := Scf.iv v444 c1_i32_320 k0_t4
  let v651 : Index := Scalar.indexCast arg13
  let c0_486 : Index := 0#32
  let c0_487 : Index := 0#32
  ![2, v651.toNat, 0, 0]
def k0_off140 (k0_t2 : Fin k0_t2_loop.trips) (k0_t4 : Fin (k0_t4_loop k0_t2).trips) : Fin 4 → Nat :=
  let c3_491 : Index := 3#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c17_i32_317 : BitVec 32 := 17#32
  let v440 : BitVec 32 := Scalar.subi c17_i32_317 v439
  let c1_i32_318 : BitVec 32 := 1#32
  let v442 : BitVec 32 := Scalar.divsi v440 c1_i32_318
  let v443 : BitVec 32 := Scalar.muli v442 c1_i32_318
  let v444 : BitVec 32 := Scalar.addi v439 v443
  let c1_i32_320 : BitVec 32 := 1#32
  let arg13 : BitVec 32 := Scf.iv v444 c1_i32_320 k0_t4
  let v665 : Index := Scalar.indexCast arg13
  let c0_492 : Index := 0#32
  let c0_493 : Index := 0#32
  ![3, v665.toNat, 0, 0]
def k0_off141 (k0_t2 : Fin k0_t2_loop.trips) (k0_t4 : Fin (k0_t4_loop k0_t2).trips) : Fin 4 → Nat :=
  let c4_497 : Index := 4#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c17_i32_317 : BitVec 32 := 17#32
  let v440 : BitVec 32 := Scalar.subi c17_i32_317 v439
  let c1_i32_318 : BitVec 32 := 1#32
  let v442 : BitVec 32 := Scalar.divsi v440 c1_i32_318
  let v443 : BitVec 32 := Scalar.muli v442 c1_i32_318
  let v444 : BitVec 32 := Scalar.addi v439 v443
  let c1_i32_320 : BitVec 32 := 1#32
  let arg13 : BitVec 32 := Scf.iv v444 c1_i32_320 k0_t4
  let v679 : Index := Scalar.indexCast arg13
  let c0_498 : Index := 0#32
  let c0_499 : Index := 0#32
  ![4, v679.toNat, 0, 0]
def k0_off142 (k0_t2 : Fin k0_t2_loop.trips) (k0_t4 : Fin (k0_t4_loop k0_t2).trips) : Fin 4 → Nat :=
  let c5_503 : Index := 5#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c17_i32_317 : BitVec 32 := 17#32
  let v440 : BitVec 32 := Scalar.subi c17_i32_317 v439
  let c1_i32_318 : BitVec 32 := 1#32
  let v442 : BitVec 32 := Scalar.divsi v440 c1_i32_318
  let v443 : BitVec 32 := Scalar.muli v442 c1_i32_318
  let v444 : BitVec 32 := Scalar.addi v439 v443
  let c1_i32_320 : BitVec 32 := 1#32
  let arg13 : BitVec 32 := Scf.iv v444 c1_i32_320 k0_t4
  let v693 : Index := Scalar.indexCast arg13
  let c0_504 : Index := 0#32
  let c0_505 : Index := 0#32
  ![5, v693.toNat, 0, 0]
def k0_off143 (k0_t2 : Fin k0_t2_loop.trips) (k0_t4 : Fin (k0_t4_loop k0_t2).trips) : Fin 4 → Nat :=
  let c6_509 : Index := 6#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c17_i32_317 : BitVec 32 := 17#32
  let v440 : BitVec 32 := Scalar.subi c17_i32_317 v439
  let c1_i32_318 : BitVec 32 := 1#32
  let v442 : BitVec 32 := Scalar.divsi v440 c1_i32_318
  let v443 : BitVec 32 := Scalar.muli v442 c1_i32_318
  let v444 : BitVec 32 := Scalar.addi v439 v443
  let c1_i32_320 : BitVec 32 := 1#32
  let arg13 : BitVec 32 := Scf.iv v444 c1_i32_320 k0_t4
  let v707 : Index := Scalar.indexCast arg13
  let c0_510 : Index := 0#32
  let c0_511 : Index := 0#32
  ![6, v707.toNat, 0, 0]
def k0_off144 (k0_t2 : Fin k0_t2_loop.trips) (k0_t4 : Fin (k0_t4_loop k0_t2).trips) : Fin 4 → Nat :=
  let c7_515 : Index := 7#32
  let c0_i32_1 : BitVec 32 := 0#32
  let c1_i32_3 : BitVec 32 := 1#32
  let arg12 : BitVec 32 := Scf.iv c0_i32_1 c1_i32_3 k0_t2
  let c1_i32_316 : BitVec 32 := 1#32
  let v439 : BitVec 32 := Scalar.addi arg12 c1_i32_316
  let c17_i32_317 : BitVec 32 := 17#32
  let v440 : BitVec 32 := Scalar.subi c17_i32_317 v439
  let c1_i32_318 : BitVec 32 := 1#32
  let v442 : BitVec 32 := Scalar.divsi v440 c1_i32_318
  let v443 : BitVec 32 := Scalar.muli v442 c1_i32_318
  let v444 : BitVec 32 := Scalar.addi v439 v443
  let c1_i32_320 : BitVec 32 := 1#32
  let arg13 : BitVec 32 := Scf.iv v444 c1_i32_320 k0_t4
  let v721 : Index := Scalar.indexCast arg13
  let c0_516 : Index := 0#32
  let c0_517 : Index := 0#32
  ![7, v721.toNat, 0, 0]
def k0_off145 (k0_t2 : Fin k0_t2_loop.trips) : Fin 4 → Nat :=
  let c0_585 : Index := 0#32
  let c0_i32_1 : BitVec 32 := 0#32
  let c1_i32_3 : BitVec 32 := 1#32
  let arg12 : BitVec 32 := Scf.iv c0_i32_1 c1_i32_3 k0_t2
  let v815 : Index := Scalar.indexCast arg12
  let c0_586 : Index := 0#32
  let c0_587 : Index := 0#32
  ![0, v815.toNat, 0, 0]
def k0_off146 (k0_t2 : Fin k0_t2_loop.trips) : Fin 4 → Nat :=
  let c1_589 : Index := 1#32
  let c0_i32_1 : BitVec 32 := 0#32
  let c1_i32_3 : BitVec 32 := 1#32
  let arg12 : BitVec 32 := Scf.iv c0_i32_1 c1_i32_3 k0_t2
  let v819 : Index := Scalar.indexCast arg12
  let c0_590 : Index := 0#32
  let c0_591 : Index := 0#32
  ![1, v819.toNat, 0, 0]
def k0_off147 (k0_t2 : Fin k0_t2_loop.trips) : Fin 4 → Nat :=
  let c2_593 : Index := 2#32
  let c0_i32_1 : BitVec 32 := 0#32
  let c1_i32_3 : BitVec 32 := 1#32
  let arg12 : BitVec 32 := Scf.iv c0_i32_1 c1_i32_3 k0_t2
  let v823 : Index := Scalar.indexCast arg12
  let c0_594 : Index := 0#32
  let c0_595 : Index := 0#32
  ![2, v823.toNat, 0, 0]
def k0_off148 (k0_t2 : Fin k0_t2_loop.trips) : Fin 4 → Nat :=
  let c3_597 : Index := 3#32
  let c0_i32_1 : BitVec 32 := 0#32
  let c1_i32_3 : BitVec 32 := 1#32
  let arg12 : BitVec 32 := Scf.iv c0_i32_1 c1_i32_3 k0_t2
  let v827 : Index := Scalar.indexCast arg12
  let c0_598 : Index := 0#32
  let c0_599 : Index := 0#32
  ![3, v827.toNat, 0, 0]
def k0_off149 (k0_t2 : Fin k0_t2_loop.trips) : Fin 4 → Nat :=
  let c4_601 : Index := 4#32
  let c0_i32_1 : BitVec 32 := 0#32
  let c1_i32_3 : BitVec 32 := 1#32
  let arg12 : BitVec 32 := Scf.iv c0_i32_1 c1_i32_3 k0_t2
  let v831 : Index := Scalar.indexCast arg12
  let c0_602 : Index := 0#32
  let c0_603 : Index := 0#32
  ![4, v831.toNat, 0, 0]
def k0_off150 (k0_t2 : Fin k0_t2_loop.trips) : Fin 4 → Nat :=
  let c5_605 : Index := 5#32
  let c0_i32_1 : BitVec 32 := 0#32
  let c1_i32_3 : BitVec 32 := 1#32
  let arg12 : BitVec 32 := Scf.iv c0_i32_1 c1_i32_3 k0_t2
  let v835 : Index := Scalar.indexCast arg12
  let c0_606 : Index := 0#32
  let c0_607 : Index := 0#32
  ![5, v835.toNat, 0, 0]
def k0_off151 (k0_t2 : Fin k0_t2_loop.trips) : Fin 4 → Nat :=
  let c6_609 : Index := 6#32
  let c0_i32_1 : BitVec 32 := 0#32
  let c1_i32_3 : BitVec 32 := 1#32
  let arg12 : BitVec 32 := Scf.iv c0_i32_1 c1_i32_3 k0_t2
  let v839 : Index := Scalar.indexCast arg12
  let c0_610 : Index := 0#32
  let c0_611 : Index := 0#32
  ![6, v839.toNat, 0, 0]
def k0_off152 (k0_t2 : Fin k0_t2_loop.trips) : Fin 4 → Nat :=
  let c7_613 : Index := 7#32
  let c0_i32_1 : BitVec 32 := 0#32
  let c1_i32_3 : BitVec 32 := 1#32
  let arg12 : BitVec 32 := Scf.iv c0_i32_1 c1_i32_3 k0_t2
  let v843 : Index := Scalar.indexCast arg12
  let c0_614 : Index := 0#32
  let c0_615 : Index := 0#32
  ![7, v843.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S8x17x128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x17x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x2176x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x17x64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x17x64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x17x64x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x17x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x17x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x17x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S8x17x64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S2176x8x64 : Shape := ⟨3, ![2176, 8, 64]⟩
abbrev S2176x8 : Shape := ⟨2, ![2176, 8]⟩
abbrev S8x2176x2176 : Shape := ⟨3, ![8, 2176, 2176]⟩
abbrev S_ : Shape := ⟨0, ![]⟩
abbrev S8x2176 : Shape := ⟨2, ![8, 2176]⟩
abbrev S8x2176x1 : Shape := ⟨3, ![8, 2176, 1]⟩
abbrev S8x1x2176 : Shape := ⟨3, ![8, 1, 2176]⟩
abbrev S2176 : Shape := ⟨1, ![2176]⟩
abbrev S1x2176 : Shape := ⟨2, ![1, 2176]⟩
abbrev S2176x1 : Shape := ⟨2, ![2176, 1]⟩
abbrev S2176x2176 : Shape := ⟨2, ![2176, 2176]⟩
abbrev S8x64x2176 : Shape := ⟨3, ![8, 64, 2176]⟩
abbrev S8x2176x64 : Shape := ⟨3, ![8, 2176, 64]⟩

abbrev nBuf : Space → Nat
  | .hbm => 112
  | .vmem => 0
  | .smem => 0
  | _ => 0

abbrev bufTy : (tb : Table) → Fin (tcTables nBuf tb) → BufTy
  | .hbm, ⟨0, _⟩ => ⟨S2176x8x64, .f32⟩
  | .hbm, ⟨1, _⟩ => ⟨S2176x8x64, .f32⟩
  | .hbm, ⟨2, _⟩ => ⟨S2176x8x64, .f32⟩
  | .hbm, ⟨3, _⟩ => ⟨S2176x8, .f32⟩
  | .hbm, ⟨4, _⟩ => ⟨S2176x8x64, .f32⟩
  | .hbm, ⟨5, _⟩ => ⟨S8x2176x2176, .f32⟩
  | .hbm, ⟨6, _⟩ => ⟨S_, .f32⟩
  | .hbm, ⟨7, _⟩ => ⟨S8x2176x2176, .f32⟩
  | .hbm, ⟨8, _⟩ => ⟨S8x2176x2176, .f32⟩
  | .hbm, ⟨9, _⟩ => ⟨S8x2176, .f32⟩
  | .hbm, ⟨10, _⟩ => ⟨S8x2176x1, .f32⟩
  | .hbm, ⟨11, _⟩ => ⟨S8x2176x2176, .f32⟩
  | .hbm, ⟨12, _⟩ => ⟨S8x2176x2176, .f32⟩
  | .hbm, ⟨13, _⟩ => ⟨S8x2176, .f32⟩
  | .hbm, ⟨14, _⟩ => ⟨S8x1x2176, .f32⟩
  | .hbm, ⟨15, _⟩ => ⟨S8x2176x2176, .f32⟩
  | .hbm, ⟨16, _⟩ => ⟨S8x2176x2176, .f32⟩
  | .hbm, ⟨17, _⟩ => ⟨S2176, .i32⟩
  | .hbm, ⟨18, _⟩ => ⟨S1x2176, .i32⟩
  | .hbm, ⟨19, _⟩ => ⟨S2176x1, .i32⟩
  | .hbm, ⟨20, _⟩ => ⟨S2176x2176, .i32⟩
  | .hbm, ⟨21, _⟩ => ⟨S2176x2176, .i32⟩
  | .hbm, ⟨22, _⟩ => ⟨S2176x2176, .i1⟩
  | .hbm, ⟨23, _⟩ => ⟨S_, .f32⟩
  | .hbm, ⟨24, _⟩ => ⟨S_, .f32⟩
  | .hbm, ⟨25, _⟩ => ⟨S8x2176x2176, .i1⟩
  | .hbm, ⟨26, _⟩ => ⟨S8x2176x2176, .f32⟩
  | .hbm, ⟨27, _⟩ => ⟨S8x2176x2176, .f32⟩
  | .hbm, ⟨28, _⟩ => ⟨S_, .f32⟩
  | .hbm, ⟨29, _⟩ => ⟨S8x2176x2176, .f32⟩
  | .hbm, ⟨30, _⟩ => ⟨S_, .f32⟩
  | .hbm, ⟨31, _⟩ => ⟨S8x2176, .f32⟩
  | .hbm, ⟨32, _⟩ => ⟨S8x2176x1, .f32⟩
  | .hbm, ⟨33, _⟩ => ⟨S8x2176x2176, .f32⟩
  | .hbm, ⟨34, _⟩ => ⟨S8x2176x2176, .i1⟩
  | .hbm, ⟨35, _⟩ => ⟨S8x2176x2176, .f32⟩
  | .hbm, ⟨36, _⟩ => ⟨S_, .f32⟩
  | .hbm, ⟨37, _⟩ => ⟨S8x2176, .f32⟩
  | .hbm, ⟨38, _⟩ => ⟨S_, .f32⟩
  | .hbm, ⟨39, _⟩ => ⟨S8x2176, .f32⟩
  | .hbm, ⟨40, _⟩ => ⟨S8x2176, .f32⟩
  | .hbm, ⟨41, _⟩ => ⟨S_, .f32⟩
  | .hbm, ⟨42, _⟩ => ⟨S8x2176, .f32⟩
  | .hbm, ⟨43, _⟩ => ⟨S8x2176, .i1⟩
  | .hbm, ⟨44, _⟩ => ⟨S_, .f32⟩
  | .hbm, ⟨45, _⟩ => ⟨S8x2176, .f32⟩
  | .hbm, ⟨46, _⟩ => ⟨S8x2176, .i1⟩
  | .hbm, ⟨47, _⟩ => ⟨S_, .f32⟩
  | .hbm, ⟨48, _⟩ => ⟨S8x2176, .f32⟩
  | .hbm, ⟨49, _⟩ => ⟨S_, .f32⟩
  | .hbm, ⟨50, _⟩ => ⟨S8x2176, .f32⟩
  | .hbm, ⟨51, _⟩ => ⟨S_, .f32⟩
  | .hbm, ⟨52, _⟩ => ⟨S8x2176, .f32⟩
  | .hbm, ⟨53, _⟩ => ⟨S8x2176, .f32⟩
  | .hbm, ⟨54, _⟩ => ⟨S8x2176, .f32⟩
  | .hbm, ⟨55, _⟩ => ⟨S8x2176x1, .f32⟩
  | .hbm, ⟨56, _⟩ => ⟨S8x2176x2176, .f32⟩
  | .hbm, ⟨57, _⟩ => ⟨S8x2176x2176, .f32⟩
  | .hbm, ⟨58, _⟩ => ⟨S8x2176x2176, .f32⟩
  | .hbm, ⟨59, _⟩ => ⟨S_, .f32⟩
  | .hbm, ⟨60, _⟩ => ⟨S8x2176, .f32⟩
  | .hbm, ⟨61, _⟩ => ⟨S8x2176x1, .f32⟩
  | .hbm, ⟨62, _⟩ => ⟨S8x2176x2176, .f32⟩
  | .hbm, ⟨63, _⟩ => ⟨S8x2176x2176, .f32⟩
  | .hbm, ⟨64, _⟩ => ⟨S8x2176x1, .f32⟩
  | .hbm, ⟨65, _⟩ => ⟨S_, .f32⟩
  | .hbm, ⟨66, _⟩ => ⟨S8x2176x1, .f32⟩
  | .hbm, ⟨67, _⟩ => ⟨S8x2176x1, .f32⟩
  | .hbm, ⟨68, _⟩ => ⟨S8x64x2176, .f32⟩
  | .hbm, ⟨69, _⟩ => ⟨S2176x8x64, .f32⟩
  | .hbm, ⟨70, _⟩ => ⟨S8x64x2176, .f32⟩
  | .hbm, ⟨71, _⟩ => ⟨S8x2176x2176, .f32⟩
  | .hbm, ⟨72, _⟩ => ⟨S8x64x2176, .f32⟩
  | .hbm, ⟨73, _⟩ => ⟨S2176x8x64, .f32⟩
  | .hbm, ⟨74, _⟩ => ⟨S8x2176x2176, .f32⟩
  | .hbm, ⟨75, _⟩ => ⟨S8x2176x2176, .f32⟩
  | .hbm, ⟨76, _⟩ => ⟨S8x2176x2176, .f32⟩
  | .hbm, ⟨77, _⟩ => ⟨S_, .f32⟩
  | .hbm, ⟨78, _⟩ => ⟨S8x2176, .f32⟩
  | .hbm, ⟨79, _⟩ => ⟨S8x2176x1, .f32⟩
  | .hbm, ⟨80, _⟩ => ⟨S8x2176x1, .f32⟩
  | .hbm, ⟨81, _⟩ => ⟨S8x2176x2176, .f32⟩
  | .hbm, ⟨82, _⟩ => ⟨S8x2176x2176, .f32⟩
  | .hbm, ⟨83, _⟩ => ⟨S_, .f32⟩
  | .hbm, ⟨84, _⟩ => ⟨S8x2176, .f32⟩
  | .hbm, ⟨85, _⟩ => ⟨S8x2176x2176, .f32⟩
  | .hbm, ⟨86, _⟩ => ⟨S8x2176x2176, .f32⟩
  | .hbm, ⟨87, _⟩ => ⟨S8x2176x2176, .f32⟩
  | .hbm, ⟨88, _⟩ => ⟨S_, .f32⟩
  | .hbm, ⟨89, _⟩ => ⟨S8x2176x2176, .f32⟩
  | .hbm, ⟨90, _⟩ => ⟨S8x2176x2176, .f32⟩
  | .hbm, ⟨91, _⟩ => ⟨S8x2176x2176, .f32⟩
  | .hbm, ⟨92, _⟩ => ⟨S_, .f32⟩
  | .hbm, ⟨93, _⟩ => ⟨S8x2176, .f32⟩
  | .hbm, ⟨94, _⟩ => ⟨S8x1x2176, .f32⟩
  | .hbm, ⟨95, _⟩ => ⟨S_, .f32⟩
  | .hbm, ⟨96, _⟩ => ⟨S8x2176, .f32⟩
  | .hbm, ⟨97, _⟩ => ⟨S2176x8, .f32⟩
  | .hbm, ⟨98, _⟩ => ⟨S_, .f32⟩
  | .hbm, ⟨99, _⟩ => ⟨S8x2176, .f32⟩
  | .hbm, ⟨100, _⟩ => ⟨S8x2176x1, .f32⟩
  | .hbm, ⟨101, _⟩ => ⟨S_, .f32⟩
  | .hbm, ⟨102, _⟩ => ⟨S8x2176, .f32⟩
  | .hbm, ⟨103, _⟩ => ⟨S2176x8, .f32⟩
  | .hbm, ⟨104, _⟩ => ⟨S2176x8, .f32⟩
  | .hbm, ⟨105, _⟩ => ⟨S_, .f32⟩
  | .hbm, ⟨106, _⟩ => ⟨S8x2176x2176, .f32⟩
  | .hbm, ⟨107, _⟩ => ⟨S8x2176x2176, .f32⟩
  | .hbm, ⟨108, _⟩ => ⟨S8x2176x64, .f32⟩
  | .hbm, ⟨109, _⟩ => ⟨S2176x8x64, .f32⟩
  | .hbm, ⟨110, _⟩ => ⟨S8x2176x64, .f32⟩
  | .hbm, ⟨111, _⟩ => ⟨S2176x8x64, .f32⟩
  | _, _ => ⟨S2176x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_v17_1 : Ref sig .tc := ⟨.hbm, 25, rfl⟩
abbrev main_call0_v2 : Ref sig .tc := ⟨.hbm, 26, rfl⟩
abbrev main_v17_0 : Ref sig .tc := ⟨.hbm, 27, rfl⟩
abbrev main_call0_cst : Ref sig .tc := ⟨.hbm, 28, rfl⟩
abbrev main_v17_2 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_v69 : Ref sig .tc := ⟨.hbm, 97, rfl⟩
abbrev main_cst_15 : Ref sig .tc := ⟨.hbm, 98, rfl⟩
abbrev main_v70 : Ref sig .tc := ⟨.hbm, 99, rfl⟩
abbrev main_v71 : Ref sig .tc := ⟨.hbm, 100, rfl⟩
abbrev main_cst_16 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_17 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]
-- ==== Kernel2.lean ====
abbrev S2176x1024 : Shape := ⟨2, ![2176, 1024]⟩
abbrev S1024x5632 : Shape := ⟨2, ![1024, 5632]⟩
abbrev S2176x5632 : Shape := ⟨2, ![2176, 5632]⟩
abbrev S2176x2816 : Shape := ⟨2, ![2176, 2816]⟩
abbrev S1x2176x2816 : Shape := ⟨3, ![1, 2176, 2816]⟩
abbrev S2x2176x2816 : Shape := ⟨3, ![2, 2176, 2816]⟩
abbrev S2x544x2816 : Shape := ⟨3, ![2, 544, 2816]⟩
abbrev S544x1024 : Shape := ⟨2, ![544, 1024]⟩
abbrev S1x544x2816 : Shape := ⟨3, ![1, 544, 2816]⟩
abbrev S544x2816 : Shape := ⟨2, ![544, 2816]⟩
abbrev S1024x2816 : Shape := ⟨2, ![1024, 2816]⟩

abbrev nBuf : Space → Nat
  | .hbm => 11
  | .vmem => 5
  | .smem => 0
  | _ => 0

abbrev bufTy : (tb : Table) → Fin (tcTables nBuf tb) → BufTy
  | .hbm, ⟨0, _⟩ => ⟨S2176x1024, .f32⟩
  | .hbm, ⟨1, _⟩ => ⟨S1024x5632, .f32⟩
  | .hbm, ⟨2, _⟩ => ⟨S2176x5632, .f32⟩
  | .hbm, ⟨3, _⟩ => ⟨S2176x2816, .f32⟩
  | .hbm, ⟨4, _⟩ => ⟨S2176x2816, .f32⟩
  | .hbm, ⟨5, _⟩ => ⟨S1x2176x2816, .f32⟩
  | .hbm, ⟨6, _⟩ => ⟨S1x2176x2816, .f32⟩
  | .hbm, ⟨7, _⟩ => ⟨S2x2176x2816, .f32⟩
  | .hbm, ⟨8, _⟩ => ⟨S2x2176x2816, .bf16⟩
  | .hbm, ⟨9, _⟩ => ⟨S1024x5632, .bf16⟩
  | .hbm, ⟨10, _⟩ => ⟨S2176x1024, .f32⟩
  | .local _ .vmem, ⟨0, _⟩ => ⟨S2x544x2816, .bf16⟩
  | .local _ .vmem, ⟨1, _⟩ => ⟨S2x544x2816, .bf16⟩
  | .local _ .vmem, ⟨2, _⟩ => ⟨S1024x5632, .bf16⟩
  | .local _ .vmem, ⟨3, _⟩ => ⟨S544x1024, .f32⟩
  | .local _ .vmem, ⟨4, _⟩ => ⟨S544x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2x544x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S2176x1024 : Shape := ⟨2, ![2176, 1024]⟩
abbrev S1024x5632 : Shape := ⟨2, ![1024, 5632]⟩
abbrev S2176x5632 : Shape := ⟨2, ![2176, 5632]⟩

abbrev nBuf : Space → Nat
  | .hbm => 5
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1024x5632, .f32⟩
  | .hbm, ⟨2, _⟩ => ⟨S2176x5632, .f32⟩
  | .hbm, ⟨3, _⟩ => ⟨S2176x5632, .f32⟩
  | .hbm, ⟨4, _⟩ => ⟨S2176x1024, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel3.lean ====
abbrev S2176x1024 : Shape := ⟨2, ![2176, 1024]⟩
abbrev S1024x5632 : Shape := ⟨2, ![1024, 5632]⟩
abbrev S2176x5632 : Shape := ⟨2, ![2176, 5632]⟩
abbrev S2176x2816 : Shape := ⟨2, ![2176, 2816]⟩
abbrev S1x2176x2816 : Shape := ⟨3, ![1, 2176, 2816]⟩
abbrev S2x2176x2816 : Shape := ⟨3, ![2, 2176, 2816]⟩
abbrev S2176x512 : Shape := ⟨2, ![2176, 512]⟩
abbrev S1x2176x1408 : Shape := ⟨3, ![1, 2176, 1408]⟩
abbrev S512x1408 : Shape := ⟨2, ![512, 1408]⟩
abbrev S2176x1408 : Shape := ⟨2, ![2176, 1408]⟩

abbrev nBuf : Space → Nat
  | .hbm => 11
  | .vmem => 6
  | .smem => 0
  | _ => 0

abbrev bufTy : (tb : Table) → Fin (tcTables nBuf tb) → BufTy
  | .hbm, ⟨0, _⟩ => ⟨S2176x1024, .f32⟩
  | .hbm, ⟨1, _⟩ => ⟨S1024x5632, .f32⟩
  | .hbm, ⟨2, _⟩ => ⟨S2176x5632, .f32⟩
  | .hbm, ⟨3, _⟩ => ⟨S2176x1024, .bf16⟩
  | .hbm, ⟨4, _⟩ => ⟨S2176x2816, .f32⟩
  | .hbm, ⟨5, _⟩ => ⟨S2176x2816, .f32⟩
  | .hbm, ⟨6, _⟩ => ⟨S1x2176x2816, .f32⟩
  | .hbm, ⟨7, _⟩ => ⟨S1x2176x2816, .f32⟩
  | .hbm, ⟨8, _⟩ => ⟨S2x2176x2816, .f32⟩
  | .hbm, ⟨9, _⟩ => ⟨S2x2176x2816, .bf16⟩
  | .hbm, ⟨10, _⟩ => ⟨S1024x5632, .f32⟩
  | .local _ .vmem, ⟨0, _⟩ => ⟨S2176x512, .bf16⟩
  | .local _ .vmem, ⟨1, _⟩ => ⟨S2176x512, .bf16⟩
  | .local _ .vmem, ⟨2, _⟩ => ⟨S1x2176x1408, .bf16⟩
  | .local _ .vmem, ⟨3, _⟩ => ⟨S1x2176x1408, .bf16⟩
  | .local _ .vmem, ⟨4, _⟩ => ⟨S512x1408, .f32⟩
  | .local _ .vmem, ⟨5, _⟩ => ⟨S512x1408, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2176x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2176x1024 : Shape := ⟨2, ![2176, 1024]⟩
abbrev S1024x5632 : Shape := ⟨2, ![1024, 5632]⟩
abbrev S2176x5632 : Shape := ⟨2, ![2176, 5632]⟩
abbrev S5632x1024 : Shape := ⟨2, ![5632, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1024x5632, .f32⟩
  | .hbm, ⟨2, _⟩ => ⟨S2176x5632, .f32⟩
  | .hbm, ⟨3, _⟩ => ⟨S2176x5632, .f32⟩
  | .hbm, ⟨4, _⟩ => ⟨S5632x1024, .f32⟩
  | .hbm, ⟨5, _⟩ => ⟨S1024x5632, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S2176x2816 : Shape := ⟨2, ![2176, 2816]⟩
abbrev S2816x1024 : Shape := ⟨2, ![2816, 1024]⟩
abbrev S2176x1024 : Shape := ⟨2, ![2176, 1024]⟩
abbrev S1088x1024 : Shape := ⟨2, ![1088, 1024]⟩
abbrev S1408x1024 : Shape := ⟨2, ![1408, 1024]⟩
abbrev S1088x1408 : Shape := ⟨2, ![1088, 1408]⟩

abbrev nBuf : Space → Nat
  | .hbm => 6
  | .vmem => 6
  | .smem => 0
  | _ => 0

abbrev bufTy : (tb : Table) → Fin (tcTables nBuf tb) → BufTy
  | .hbm, ⟨0, _⟩ => ⟨S2176x2816, .f32⟩
  | .hbm, ⟨1, _⟩ => ⟨S2816x1024, .f32⟩
  | .hbm, ⟨2, _⟩ => ⟨S2176x1024, .f32⟩
  | .hbm, ⟨3, _⟩ => ⟨S2176x1024, .bf16⟩
  | .hbm, ⟨4, _⟩ => ⟨S2816x1024, .bf16⟩
  | .hbm, ⟨5, _⟩ => ⟨S2176x2816, .f32⟩
  | .local _ .vmem, ⟨0, _⟩ => ⟨S1088x1024, .bf16⟩
  | .local _ .vmem, ⟨1, _⟩ => ⟨S1088x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1088x1408, .f32⟩
  | .local _ .vmem, ⟨5, _⟩ => ⟨S1088x1408, .f32⟩
  | _, _ => ⟨S2176x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2176x2816 : Shape := ⟨2, ![2176, 2816]⟩
abbrev S2816x1024 : Shape := ⟨2, ![2816, 1024]⟩
abbrev S2176x1024 : Shape := ⟨2, ![2176, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2176x2816, .f32⟩
  | .hbm, ⟨1, _⟩ => ⟨S2816x1024, .f32⟩
  | .hbm, ⟨2, _⟩ => ⟨S2176x1024, .f32⟩
  | .hbm, ⟨3, _⟩ => ⟨S2176x1024, .f32⟩
  | .hbm, ⟨4, _⟩ => ⟨S2176x2816, .f32⟩
  | _, _ => ⟨S2176x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel5.lean ====
abbrev S2176x2816 : Shape := ⟨2, ![2176, 2816]⟩
abbrev S2816x1024 : Shape := ⟨2, ![2816, 1024]⟩
abbrev S2176x1024 : Shape := ⟨2, ![2176, 1024]⟩
abbrev S2176x1408 : Shape := ⟨2, ![2176, 1408]⟩
abbrev S2176x512 : Shape := ⟨2, ![2176, 512]⟩
abbrev S1408x512 : Shape := ⟨2, ![1408, 512]⟩

abbrev nBuf : Space → Nat
  | .hbm => 6
  | .vmem => 6
  | .smem => 0
  | _ => 0

abbrev bufTy : (tb : Table) → Fin (tcTables nBuf tb) → BufTy
  | .hbm, ⟨0, _⟩ => ⟨S2176x2816, .f32⟩
  | .hbm, ⟨1, _⟩ => ⟨S2816x1024, .f32⟩
  | .hbm, ⟨2, _⟩ => ⟨S2176x1024, .f32⟩
  | .hbm, ⟨3, _⟩ => ⟨S2176x2816, .bf16⟩
  | .hbm, ⟨4, _⟩ => ⟨S2176x1024, .bf16⟩
  | .hbm, ⟨5, _⟩ => ⟨S2816x1024, .f32⟩
  | .local _ .vmem, ⟨0, _⟩ => ⟨S2176x1408, .bf16⟩
  | .local _ .vmem, ⟨1, _⟩ => ⟨S2176x1408, .bf16⟩
  | .local _ .vmem, ⟨2, _⟩ => ⟨S2176x512, .bf16⟩
  | .local _ .vmem, ⟨3, _⟩ => ⟨S2176x512, .bf16⟩
  | .local _ .vmem, ⟨4, _⟩ => ⟨S1408x512, .f32⟩
  | .local _ .vmem, ⟨5, _⟩ => ⟨S1408x512, .f32⟩
  | _, _ => ⟨S2176x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2176x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2176x2816 : Shape := ⟨2, ![2176, 2816]⟩
abbrev S2816x1024 : Shape := ⟨2, ![2816, 1024]⟩
abbrev S2176x1024 : Shape := ⟨2, ![2176, 1024]⟩
abbrev S1024x2816 : Shape := ⟨2, ![1024, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2176x2816, .f32⟩
  | .hbm, ⟨1, _⟩ => ⟨S2816x1024, .f32⟩
  | .hbm, ⟨2, _⟩ => ⟨S2176x1024, .f32⟩
  | .hbm, ⟨3, _⟩ => ⟨S2176x1024, .f32⟩
  | .hbm, ⟨4, _⟩ => ⟨S1024x2816, .f32⟩
  | .hbm, ⟨5, _⟩ => ⟨S2816x1024, .f32⟩
  | _, _ => ⟨S2176x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S2176x1024 : Shape := ⟨2, ![2176, 1024]⟩
abbrev S1024x5632 : Shape := ⟨2, ![1024, 5632]⟩
abbrev S2176x5632 : Shape := ⟨2, ![2176, 5632]⟩
abbrev S1088x1024 : Shape := ⟨2, ![1088, 1024]⟩
abbrev S1024x1408 : Shape := ⟨2, ![1024, 1408]⟩
abbrev S1088x1408 : Shape := ⟨2, ![1088, 1408]⟩

abbrev nBuf : Space → Nat
  | .hbm => 5
  | .vmem => 6
  | .smem => 0
  | _ => 0

abbrev bufTy : (tb : Table) → Fin (tcTables nBuf tb) → BufTy
  | .hbm, ⟨0, _⟩ => ⟨S2176x1024, .f32⟩
  | .hbm, ⟨1, _⟩ => ⟨S1024x5632, .f32⟩
  | .hbm, ⟨2, _⟩ => ⟨S2176x1024, .bf16⟩
  | .hbm, ⟨3, _⟩ => ⟨S1024x5632, .bf16⟩
  | .hbm, ⟨4, _⟩ => ⟨S2176x5632, .f32⟩
  | .local _ .vmem, ⟨0, _⟩ => ⟨S1088x1024, .bf16⟩
  | .local _ .vmem, ⟨1, _⟩ => ⟨S1088x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1088x1408, .f32⟩
  | .local _ .vmem, ⟨5, _⟩ => ⟨S1088x1408, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2176x1024 : Shape := ⟨2, ![2176, 1024]⟩
abbrev S1024x5632 : Shape := ⟨2, ![1024, 5632]⟩
abbrev S2176x5632 : Shape := ⟨2, ![2176, 5632]⟩

abbrev nBuf : Space → Nat
  | .hbm => 3
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1024x5632, .f32⟩
  | .hbm, ⟨2, _⟩ => ⟨S2176x5632, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel7.lean ====
abbrev S2176x2816 : Shape := ⟨2, ![2176, 2816]⟩
abbrev S2816x1024 : Shape := ⟨2, ![2816, 1024]⟩
abbrev S2176x1024 : Shape := ⟨2, ![2176, 1024]⟩
abbrev S544x2816 : Shape := ⟨2, ![544, 2816]⟩
abbrev S544x1024 : Shape := ⟨2, ![544, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2176x2816, .f32⟩
  | .hbm, ⟨1, _⟩ => ⟨S2816x1024, .f32⟩
  | .hbm, ⟨2, _⟩ => ⟨S2176x1024, .f32⟩
  | .hbm, ⟨3, _⟩ => ⟨S2176x2816, .bf16⟩
  | .hbm, ⟨4, _⟩ => ⟨S2816x1024, .bf16⟩
  | .hbm, ⟨5, _⟩ => ⟨S2176x1024, .f32⟩
  | .local _ .vmem, ⟨0, _⟩ => ⟨S544x2816, .bf16⟩
  | .local _ .vmem, ⟨1, _⟩ => ⟨S544x2816, .bf16⟩
  | .local _ .vmem, ⟨2, _⟩ => ⟨S2816x1024, .bf16⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | _, _ => ⟨S2176x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S2176x2816 : Shape := ⟨2, ![2176, 2816]⟩
abbrev S2816x1024 : Shape := ⟨2, ![2816, 1024]⟩
abbrev S2176x1024 : Shape := ⟨2, ![2176, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2176x2816, .f32⟩
  | .hbm, ⟨1, _⟩ => ⟨S2816x1024, .f32⟩
  | .hbm, ⟨2, _⟩ => ⟨S2176x1024, .f32⟩
  | .hbm, ⟨3, _⟩ => ⟨S2176x1024, .f32⟩
  | .hbm, ⟨4, _⟩ => ⟨S2176x1024, .f32⟩
  | _, _ => ⟨S2176x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel8.lean ====
abbrev S2176x1024 : Shape := ⟨2, ![2176, 1024]⟩
abbrev S1024x1024 : Shape := ⟨2, ![1024, 1024]⟩
abbrev S1088x1024 : Shape := ⟨2, ![1088, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2176x1024, .f32⟩
  | .hbm, ⟨1, _⟩ => ⟨S1024x1024, .f32⟩
  | .hbm, ⟨2, _⟩ => ⟨S2176x1024, .f32⟩
  | .hbm, ⟨3, _⟩ => ⟨S2176x1024, .bf16⟩
  | .hbm, ⟨4, _⟩ => ⟨S1024x1024, .bf16⟩
  | .hbm, ⟨5, _⟩ => ⟨S2176x1024, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .f32⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S2176x1024 : Shape := ⟨2, ![2176, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1024x1024, .f32⟩
  | .hbm, ⟨2, _⟩ => ⟨S2176x1024, .f32⟩
  | .hbm, ⟨3, _⟩ => ⟨S2176x1024, .f32⟩
  | .hbm, ⟨4, _⟩ => ⟨S2176x1024, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel9.lean ====
abbrev S2176x1024 : Shape := ⟨2, ![2176, 1024]⟩
abbrev S1024x1024 : Shape := ⟨2, ![1024, 1024]⟩
abbrev S1088x1024 : Shape := ⟨2, ![1088, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2176x1024, .f32⟩
  | .hbm, ⟨1, _⟩ => ⟨S1024x1024, .f32⟩
  | .hbm, ⟨2, _⟩ => ⟨S2176x1024, .f32⟩
  | .hbm, ⟨3, _⟩ => ⟨S1024x1024, .bf16⟩
  | .hbm, ⟨4, _⟩ => ⟨S2176x1024, .f32⟩
  | .local _ .vmem, ⟨0, _⟩ => ⟨S1088x1024, .f32⟩
  | .local _ .vmem, ⟨1, _⟩ => ⟨S1088x1024, .f32⟩
  | .local _ .vmem, ⟨2, _⟩ => ⟨S1024x1024, .bf16⟩
  | .local _ .vmem, ⟨3, _⟩ => ⟨S1088x1024, .f32⟩
  | .local _ .vmem, ⟨4, _⟩ => ⟨S1088x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2176x1024 : Shape := ⟨2, ![2176, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1024x1024, .f32⟩
  | .hbm, ⟨2, _⟩ => ⟨S2176x1024, .f32⟩
  | .hbm, ⟨3, _⟩ => ⟨S2176x1024, .f32⟩
  | .hbm, ⟨4, _⟩ => ⟨S2176x1024, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel10.lean ====
abbrev S2176x1024 : Shape := ⟨2, ![2176, 1024]⟩
abbrev S1024x1024 : Shape := ⟨2, ![1024, 1024]⟩
abbrev S2176x512 : Shape := ⟨2, ![2176, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2176x1024, .f32⟩
  | .hbm, ⟨1, _⟩ => ⟨S1024x1024, .f32⟩
  | .hbm, ⟨2, _⟩ => ⟨S2176x1024, .f32⟩
  | .hbm, ⟨3, _⟩ => ⟨S2176x1024, .bf16⟩
  | .hbm, ⟨4, _⟩ => ⟨S1024x1024, .f32⟩
  | .local _ .vmem, ⟨0, _⟩ => ⟨S2176x512, .bf16⟩
  | .local _ .vmem, ⟨1, _⟩ => ⟨S2176x512, .bf16⟩
  | .local _ .vmem, ⟨2, _⟩ => ⟨S2176x1024, .f32⟩
  | .local _ .vmem, ⟨3, _⟩ => ⟨S512x1024, .f32⟩
  | .local _ .vmem, ⟨4, _⟩ => ⟨S512x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2176x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S2176x1024 : Shape := ⟨2, ![2176, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1024x1024, .f32⟩
  | .hbm, ⟨2, _⟩ => ⟨S2176x1024, .f32⟩
  | .hbm, ⟨3, _⟩ => ⟨S2176x1024, .f32⟩
  | .hbm, ⟨4, _⟩ => ⟨S1024x1024, .f32⟩
  | .hbm, ⟨5, _⟩ => ⟨S1024x1024, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S2176x1024 : Shape := ⟨2, ![2176, 1024]⟩
abbrev S1024x2568 : Shape := ⟨2, ![1024, 2568]⟩
abbrev S2176x2568 : Shape := ⟨2, ![2176, 2568]⟩
abbrev S2176x1536 : Shape := ⟨2, ![2176, 1536]⟩
abbrev S2176x8 : Shape := ⟨2, ![2176, 8]⟩
abbrev S_ : Shape := ⟨0, ![]⟩
abbrev S2176x120 : Shape := ⟨2, ![2176, 120]⟩
abbrev S2176x2688 : Shape := ⟨2, ![2176, 2688]⟩
abbrev S1024x2688 : Shape := ⟨2, ![1024, 2688]⟩
abbrev S2176x512 : Shape := ⟨2, ![2176, 512]⟩
abbrev S2176x896 : Shape := ⟨2, ![2176, 896]⟩
abbrev S512x896 : Shape := ⟨2, ![512, 896]⟩
abbrev S1024x1536 : Shape := ⟨2, ![1024, 1536]⟩
abbrev S1024x8 : Shape := ⟨2, ![1024, 8]⟩
abbrev S1024x1024 : Shape := ⟨2, ![1024, 1024]⟩

abbrev nBuf : Space → Nat
  | .hbm => 16
  | .vmem => 6
  | .smem => 0
  | _ => 0

abbrev bufTy : (tb : Table) → Fin (tcTables nBuf tb) → BufTy
  | .hbm, ⟨0, _⟩ => ⟨S2176x1024, .f32⟩
  | .hbm, ⟨1, _⟩ => ⟨S1024x2568, .f32⟩
  | .hbm, ⟨2, _⟩ => ⟨S2176x2568, .f32⟩
  | .hbm, ⟨3, _⟩ => ⟨S2176x1024, .bf16⟩
  | .hbm, ⟨4, _⟩ => ⟨S2176x2568, .bf16⟩
  | .hbm, ⟨5, _⟩ => ⟨S2176x1536, .bf16⟩
  | .hbm, ⟨6, _⟩ => ⟨S2176x1024, .bf16⟩
  | .hbm, ⟨7, _⟩ => ⟨S2176x8, .bf16⟩
  | .hbm, ⟨8, _⟩ => ⟨S_, .bf16⟩
  | .hbm, ⟨9, _⟩ => ⟨S2176x120, .bf16⟩
  | .hbm, ⟨10, _⟩ => ⟨S2176x2688, .bf16⟩
  | .hbm, ⟨11, _⟩ => ⟨S1024x2688, .f32⟩
  | .hbm, ⟨12, _⟩ => ⟨S1024x1536, .f32⟩
  | .hbm, ⟨13, _⟩ => ⟨S1024x8, .f32⟩
  | .hbm, ⟨14, _⟩ => ⟨S1024x1024, .f32⟩
  | .hbm, ⟨15, _⟩ => ⟨S1024x2568, .f32⟩
  | .local _ .vmem, ⟨0, _⟩ => ⟨S2176x512, .bf16⟩
  | .local _ .vmem, ⟨1, _⟩ => ⟨S2176x512, .bf16⟩
  | .local _ .vmem, ⟨2, _⟩ => ⟨S2176x896, .bf16⟩
  | .local _ .vmem, ⟨3, _⟩ => ⟨S2176x896, .bf16⟩
  | .local _ .vmem, ⟨4, _⟩ => ⟨S512x896, .f32⟩
  | .local _ .vmem, ⟨5, _⟩ => ⟨S512x896, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2176x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S2176x1024 : Shape := ⟨2, ![2176, 1024]⟩
abbrev S1024x2568 : Shape := ⟨2, ![1024, 2568]⟩
abbrev S2176x2568 : Shape := ⟨2, ![2176, 2568]⟩
abbrev S2568x1024 : Shape := ⟨2, ![2568, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1024x2568, .f32⟩
  | .hbm, ⟨2, _⟩ => ⟨S2176x2568, .f32⟩
  | .hbm, ⟨3, _⟩ => ⟨S2176x2568, .f32⟩
  | .hbm, ⟨4, _⟩ => ⟨S2568x1024, .f32⟩
  | .hbm, ⟨5, _⟩ => ⟨S1024x2568, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S2176x1024 : Shape := ⟨2, ![2176, 1024]⟩
abbrev S1024x2568 : Shape := ⟨2, ![1024, 2568]⟩
abbrev S1024x1536 : Shape := ⟨2, ![1024, 1536]⟩
abbrev S1024x1024 : Shape := ⟨2, ![1024, 1024]⟩
abbrev S1024x8 : Shape := ⟨2, ![1024, 8]⟩
abbrev S_ : Shape := ⟨0, ![]⟩
abbrev S1024x120 : Shape := ⟨2, ![1024, 120]⟩
abbrev S1024x2688 : Shape := ⟨2, ![1024, 2688]⟩
abbrev S2176x2688 : Shape := ⟨2, ![2176, 2688]⟩
abbrev S1088x1024 : Shape := ⟨2, ![1088, 1024]⟩
abbrev S1024x896 : Shape := ⟨2, ![1024, 896]⟩
abbrev S1088x896 : Shape := ⟨2, ![1088, 896]⟩
abbrev S2176x1536 : Shape := ⟨2, ![2176, 1536]⟩
abbrev S2176x8 : Shape := ⟨2, ![2176, 8]⟩
abbrev S2176x2568 : Shape := ⟨2, ![2176, 2568]⟩

abbrev nBuf : Space → Nat
  | .hbm => 15
  | .vmem => 6
  | .smem => 0
  | _ => 0

abbrev bufTy : (tb : Table) → Fin (tcTables nBuf tb) → BufTy
  | .hbm, ⟨0, _⟩ => ⟨S2176x1024, .f32⟩
  | .hbm, ⟨1, _⟩ => ⟨S1024x2568, .f32⟩
  | .hbm, ⟨2, _⟩ => ⟨S2176x1024, .bf16⟩
  | .hbm, ⟨3, _⟩ => ⟨S1024x2568, .bf16⟩
  | .hbm, ⟨4, _⟩ => ⟨S1024x1536, .bf16⟩
  | .hbm, ⟨5, _⟩ => ⟨S1024x1024, .bf16⟩
  | .hbm, ⟨6, _⟩ => ⟨S1024x8, .bf16⟩
  | .hbm, ⟨7, _⟩ => ⟨S_, .bf16⟩
  | .hbm, ⟨8, _⟩ => ⟨S1024x120, .bf16⟩
  | .hbm, ⟨9, _⟩ => ⟨S1024x2688, .bf16⟩
  | .hbm, ⟨10, _⟩ => ⟨S2176x2688, .f32⟩
  | .hbm, ⟨11, _⟩ => ⟨S2176x1536, .f32⟩
  | .hbm, ⟨12, _⟩ => ⟨S2176x8, .f32⟩
  | .hbm, ⟨13, _⟩ => ⟨S2176x1024, .f32⟩
  | .hbm, ⟨14, _⟩ => ⟨S2176x2568, .f32⟩
  | .local _ .vmem, ⟨0, _⟩ => ⟨S1088x1024, .bf16⟩
  | .local _ .vmem, ⟨1, _⟩ => ⟨S1088x1024, .bf16⟩
  | .local _ .vmem, ⟨2, _⟩ => ⟨S1024x896, .bf16⟩
  | .local _ .vmem, ⟨3, _⟩ => ⟨S1024x896, .bf16⟩
  | .local _ .vmem, ⟨4, _⟩ => ⟨S1088x896, .f32⟩
  | .local _ .vmem, ⟨5, _⟩ => ⟨S1088x896, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S2176x1024 : Shape := ⟨2, ![2176, 1024]⟩
abbrev S1024x2568 : Shape := ⟨2, ![1024, 2568]⟩
abbrev S2176x2568 : Shape := ⟨2, ![2176, 2568]⟩

abbrev nBuf : Space → Nat
  | .hbm => 3
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1024x2568, .f32⟩
  | .hbm, ⟨2, _⟩ => ⟨S2176x2568, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel13.lean ====
abbrev S2176x1024 : Shape := ⟨2, ![2176, 1024]⟩
abbrev S1024x2568 : Shape := ⟨2, ![1024, 2568]⟩
abbrev S2176x2568 : Shape := ⟨2, ![2176, 2568]⟩
abbrev S2176x1536 : Shape := ⟨2, ![2176, 1536]⟩
abbrev S2176x8 : Shape := ⟨2, ![2176, 8]⟩
abbrev S_ : Shape := ⟨0, ![]⟩
abbrev S2176x120 : Shape := ⟨2, ![2176, 120]⟩
abbrev S2176x2688 : Shape := ⟨2, ![2176, 2688]⟩
abbrev S1024x1536 : Shape := ⟨2, ![1024, 1536]⟩
abbrev S1024x1024 : Shape := ⟨2, ![1024, 1024]⟩
abbrev S1024x8 : Shape := ⟨2, ![1024, 8]⟩
abbrev S1024x120 : Shape := ⟨2, ![1024, 120]⟩
abbrev S1024x2688 : Shape := ⟨2, ![1024, 2688]⟩
abbrev S1088x2688 : Shape := ⟨2, ![1088, 2688]⟩
abbrev S1088x1024 : Shape := ⟨2, ![1088, 1024]⟩

abbrev nBuf : Space → Nat
  | .hbm => 18
  | .vmem => 5
  | .smem => 0
  | _ => 0

abbrev bufTy : (tb : Table) → Fin (tcTables nBuf tb) → BufTy
  | .hbm, ⟨0, _⟩ => ⟨S2176x1024, .f32⟩
  | .hbm, ⟨1, _⟩ => ⟨S1024x2568, .f32⟩
  | .hbm, ⟨2, _⟩ => ⟨S2176x2568, .f32⟩
  | .hbm, ⟨3, _⟩ => ⟨S2176x2568, .bf16⟩
  | .hbm, ⟨4, _⟩ => ⟨S2176x1536, .bf16⟩
  | .hbm, ⟨5, _⟩ => ⟨S2176x1024, .bf16⟩
  | .hbm, ⟨6, _⟩ => ⟨S2176x8, .bf16⟩
  | .hbm, ⟨7, _⟩ => ⟨S_, .bf16⟩
  | .hbm, ⟨8, _⟩ => ⟨S2176x120, .bf16⟩
  | .hbm, ⟨9, _⟩ => ⟨S2176x2688, .bf16⟩
  | .hbm, ⟨10, _⟩ => ⟨S1024x2568, .bf16⟩
  | .hbm, ⟨11, _⟩ => ⟨S1024x1536, .bf16⟩
  | .hbm, ⟨12, _⟩ => ⟨S1024x1024, .bf16⟩
  | .hbm, ⟨13, _⟩ => ⟨S1024x8, .bf16⟩
  | .hbm, ⟨14, _⟩ => ⟨S_, .bf16⟩
  | .hbm, ⟨15, _⟩ => ⟨S1024x120, .bf16⟩
  | .hbm, ⟨16, _⟩ => ⟨S1024x2688, .bf16⟩
  | .hbm, ⟨17, _⟩ => ⟨S2176x1024, .f32⟩
  | .local _ .vmem, ⟨0, _⟩ => ⟨S1088x2688, .bf16⟩
  | .local _ .vmem, ⟨1, _⟩ => ⟨S1088x2688, .bf16⟩
  | .local _ .vmem, ⟨2, _⟩ => ⟨S1024x2688, .bf16⟩
  | .local _ .vmem, ⟨3, _⟩ => ⟨S1088x1024, .f32⟩
  | .local _ .vmem, ⟨4, _⟩ => ⟨S1088x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S2176x1024 : Shape := ⟨2, ![2176, 1024]⟩
abbrev S1024x2568 : Shape := ⟨2, ![1024, 2568]⟩
abbrev S2176x2568 : Shape := ⟨2, ![2176, 2568]⟩

abbrev nBuf : Space → Nat
  | .hbm => 5
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1024x2568, .f32⟩
  | .hbm, ⟨2, _⟩ => ⟨S2176x2568, .f32⟩
  | .hbm, ⟨3, _⟩ => ⟨S2176x2568, .f32⟩
  | .hbm, ⟨4, _⟩ => ⟨S2176x1024, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel14.lean ====
abbrev S2048x1408 : Shape := ⟨2, ![2048, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel14Ideal.lean ====
abbrev S2048x1408 : Shape := ⟨2, ![2048, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S1408x1024 : Shape := ⟨2, ![1408, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel15Ideal.lean ====
abbrev S1408x1024 : Shape := ⟨2, ![1408, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S1024x642 : Shape := ⟨2, ![1024, 642]⟩
abbrev S256x642 : Shape := ⟨2, ![256, 642]⟩

abbrev nBuf : Space → Nat
  | .hbm => 7
  | .vmem => 14
  | .smem => 0
  | _ => 0

abbrev bufTy : (tb : Table) → Fin (tcTables nBuf tb) → BufTy
  | .hbm, ⟨0, _⟩ => ⟨S1024x642, .f32⟩
  | .hbm, ⟨1, _⟩ => ⟨S1024x642, .f32⟩
  | .hbm, ⟨2, _⟩ => ⟨S1024x642, .f32⟩
  | .hbm, ⟨3, _⟩ => ⟨S1024x642, .f32⟩
  | .hbm, ⟨4, _⟩ => ⟨S1024x642, .f32⟩
  | .hbm, ⟨5, _⟩ => ⟨S1024x642, .f32⟩
  | .hbm, ⟨6, _⟩ => ⟨S1024x642, .f32⟩
  | .local _ .vmem, ⟨0, _⟩ => ⟨S256x642, .f32⟩
  | .local _ .vmem, ⟨1, _⟩ => ⟨S256x642, .f32⟩
  | .local _ .vmem, ⟨2, _⟩ => ⟨S256x642, .f32⟩
  | .local _ .vmem, ⟨3, _⟩ => ⟨S256x642, .f32⟩
  | .local _ .vmem, ⟨4, _⟩ => ⟨S256x642, .f32⟩
  | .local _ .vmem, ⟨5, _⟩ => ⟨S256x642, .f32⟩
  | .local _ .vmem, ⟨6, _⟩ => ⟨S256x642, .f32⟩
  | .local _ .vmem, ⟨7, _⟩ => ⟨S256x642, .f32⟩
  | .local _ .vmem, ⟨8, _⟩ => ⟨S256x642, .f32⟩
  | .local _ .vmem, ⟨9, _⟩ => ⟨S256x642, .f32⟩
  | .local _ .vmem, ⟨10, _⟩ => ⟨S256x642, .f32⟩
  | .local _ .vmem, ⟨11, _⟩ => ⟨S256x642, .f32⟩
  | .local _ .vmem, ⟨12, _⟩ => ⟨S256x642, .f32⟩
  | .local _ .vmem, ⟨13, _⟩ => ⟨S256x642, .f32⟩
  | _, _ => ⟨S1024x642, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x642 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x642 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x642 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x642 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x642 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x642 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x642 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel16Ideal.lean ====
abbrev S1024x642 : Shape := ⟨2, ![1024, 642]⟩
abbrev S256x642 : Shape := ⟨2, ![256, 642]⟩

abbrev nBuf : Space → Nat
  | .hbm => 7
  | .vmem => 14
  | .smem => 0
  | _ => 0

abbrev bufTy : (tb : Table) → Fin (tcTables nBuf tb) → BufTy
  | .hbm, ⟨0, _⟩ => ⟨S1024x642, .f32⟩
  | .hbm, ⟨1, _⟩ => ⟨S1024x642, .f32⟩
  | .hbm, ⟨2, _⟩ => ⟨S1024x642, .f32⟩
  | .hbm, ⟨3, _⟩ => ⟨S1024x642, .f32⟩
  | .hbm, ⟨4, _⟩ => ⟨S1024x642, .f32⟩
  | .hbm, ⟨5, _⟩ => ⟨S1024x642, .f32⟩
  | .hbm, ⟨6, _⟩ => ⟨S1024x642, .f32⟩
  | .local _ .vmem, ⟨0, _⟩ => ⟨S256x642, .f32⟩
  | .local _ .vmem, ⟨1, _⟩ => ⟨S256x642, .f32⟩
  | .local _ .vmem, ⟨2, _⟩ => ⟨S256x642, .f32⟩
  | .local _ .vmem, ⟨3, _⟩ => ⟨S256x642, .f32⟩
  | .local _ .vmem, ⟨4, _⟩ => ⟨S256x642, .f32⟩
  | .local _ .vmem, ⟨5, _⟩ => ⟨S256x642, .f32⟩
  | .local _ .vmem, ⟨6, _⟩ => ⟨S256x642, .f32⟩
  | .local _ .vmem, ⟨7, _⟩ => ⟨S256x642, .f32⟩
  | .local _ .vmem, ⟨8, _⟩ => ⟨S256x642, .f32⟩
  | .local _ .vmem, ⟨9, _⟩ => ⟨S256x642, .f32⟩
  | .local _ .vmem, ⟨10, _⟩ => ⟨S256x642, .f32⟩
  | .local _ .vmem, ⟨11, _⟩ => ⟨S256x642, .f32⟩
  | .local _ .vmem, ⟨12, _⟩ => ⟨S256x642, .f32⟩
  | .local _ .vmem, ⟨13, _⟩ => ⟨S256x642, .f32⟩
  | _, _ => ⟨S1024x642, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x642 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x642 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x642 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x642 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x642 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x642 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x642 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S1024x642 : Shape := ⟨2, ![1024, 642]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x642, .f32⟩
  | .hbm, ⟨1, _⟩ => ⟨S1024x642, .f32⟩
  | .hbm, ⟨2, _⟩ => ⟨S1024x642, .f32⟩
  | .hbm, ⟨3, _⟩ => ⟨S1024x642, .f32⟩
  | .hbm, ⟨4, _⟩ => ⟨S_, .f32⟩
  | .hbm, ⟨5, _⟩ => ⟨S1024x642, .f32⟩
  | .hbm, ⟨6, _⟩ => ⟨S1024x642, .f32⟩
  | .hbm, ⟨7, _⟩ => ⟨S_, .f32⟩
  | .hbm, ⟨8, _⟩ => ⟨S1024x642, .f32⟩
  | .hbm, ⟨9, _⟩ => ⟨S1024x642, .f32⟩
  | .hbm, ⟨10, _⟩ => ⟨S1024x642, .f32⟩
  | .hbm, ⟨11, _⟩ => ⟨S_, .f32⟩
  | .hbm, ⟨12, _⟩ => ⟨S1024x642, .f32⟩
  | .hbm, ⟨13, _⟩ => ⟨S1024x642, .f32⟩
  | .hbm, ⟨14, _⟩ => ⟨S1024x642, .f32⟩
  | .hbm, ⟨15, _⟩ => ⟨S_, .f32⟩
  | .hbm, ⟨16, _⟩ => ⟨S1024x642, .f32⟩
  | .hbm, ⟨17, _⟩ => ⟨S1024x642, .f32⟩
  | .hbm, ⟨18, _⟩ => ⟨S1024x642, .f32⟩
  | .hbm, ⟨19, _⟩ => ⟨S_, .f32⟩
  | .hbm, ⟨20, _⟩ => ⟨S1024x642, .f32⟩
  | .hbm, ⟨21, _⟩ => ⟨S1024x642, .f32⟩
  | .hbm, ⟨22, _⟩ => ⟨S_, .f32⟩
  | .hbm, ⟨23, _⟩ => ⟨S1024x642, .f32⟩
  | .hbm, ⟨24, _⟩ => ⟨S1024x642, .f32⟩
  | .hbm, ⟨25, _⟩ => ⟨S1024x642, .f32⟩
  | .hbm, ⟨26, _⟩ => ⟨S_, .f32⟩
  | .hbm, ⟨27, _⟩ => ⟨S1024x642, .f32⟩
  | .hbm, ⟨28, _⟩ => ⟨S1024x642, .f32⟩
  | .hbm, ⟨29, _⟩ => ⟨S1024x642, .f32⟩
  | .hbm, ⟨30, _⟩ => ⟨S_, .f32⟩
  | .hbm, ⟨31, _⟩ => ⟨S1024x642, .f32⟩
  | .hbm, ⟨32, _⟩ => ⟨S1024x642, .f32⟩
  | .hbm, ⟨33, _⟩ => ⟨S1024x642, .f32⟩
  | .hbm, ⟨34, _⟩ => ⟨S_, .f32⟩
  | .hbm, ⟨35, _⟩ => ⟨S1024x642, .f32⟩
  | .hbm, ⟨36, _⟩ => ⟨S1024x642, .f32⟩
  | _, _ => ⟨S1024x642, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S256x1024 : Shape := ⟨2, ![256, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel17Ideal.lean ====
abbrev S256x1024 : Shape := ⟨2, ![256, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S256x256 : Shape := ⟨2, ![256, 256]⟩
abbrev S128x256 : Shape := ⟨2, ![128, 256]⟩

abbrev nBuf : Space → Nat
  | .hbm => 7
  | .vmem => 14
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel18Ideal.lean ====
abbrev S256x256 : Shape := ⟨2, ![256, 256]⟩
abbrev S128x256 : Shape := ⟨2, ![128, 256]⟩

abbrev nBuf : Space → Nat
  | .hbm => 7
  | .vmem => 14
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S16x256 : Shape := ⟨2, ![16, 256]⟩
abbrev S8x256 : Shape := ⟨2, ![8, 256]⟩

abbrev nBuf : Space → Nat
  | .hbm => 7
  | .vmem => 14
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S8x256, .f32⟩
  | .local _ .vmem, ⟨13, _⟩ => ⟨S8x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel19Ideal.lean ====
abbrev S16x256 : Shape := ⟨2, ![16, 256]⟩
abbrev S8x256 : Shape := ⟨2, ![8, 256]⟩

abbrev nBuf : Space → Nat
  | .hbm => 7
  | .vmem => 14
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S8x256, .f32⟩
  | .local _ .vmem, ⟨13, _⟩ => ⟨S8x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S16x256 : Shape := ⟨2, ![16, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S_, .f32⟩
  | .hbm, ⟨5, _⟩ => ⟨S16x256, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S16x256, .f32⟩
  | .hbm, ⟨11, _⟩ => ⟨S_, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S16x256, .f32⟩
  | .hbm, ⟨22, _⟩ => ⟨S_, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S16x256, .f32⟩
  | .hbm, ⟨34, _⟩ => ⟨S_, .f32⟩
  | .hbm, ⟨35, _⟩ => ⟨S16x256, .f32⟩
  | .hbm, ⟨36, _⟩ => ⟨S16x256, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel20Ideal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference20Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S1x8 : Shape := ⟨2, ![1, 8]⟩

abbrev nBuf : Space → Nat
  | .hbm => 7
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel21Ideal.lean ====
abbrev S1x8 : Shape := ⟨2, ![1, 8]⟩

abbrev nBuf : Space → Nat
  | .hbm => 7
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference21Ideal.lean ====
abbrev S1x8 : Shape := ⟨2, ![1, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S_, .f32⟩
  | .hbm, ⟨5, _⟩ => ⟨S1x8, .f32⟩
  | .hbm, ⟨6, _⟩ => ⟨S1x8, .f32⟩
  | .hbm, ⟨7, _⟩ => ⟨S_, .f32⟩
  | .hbm, ⟨8, _⟩ => ⟨S1x8, .f32⟩
  | .hbm, ⟨9, _⟩ => ⟨S1x8, .f32⟩
  | .hbm, ⟨10, _⟩ => ⟨S1x8, .f32⟩
  | .hbm, ⟨11, _⟩ => ⟨S_, .f32⟩
  | .hbm, ⟨12, _⟩ => ⟨S1x8, .f32⟩
  | .hbm, ⟨13, _⟩ => ⟨S1x8, .f32⟩
  | .hbm, ⟨14, _⟩ => ⟨S1x8, .f32⟩
  | .hbm, ⟨15, _⟩ => ⟨S_, .f32⟩
  | .hbm, ⟨16, _⟩ => ⟨S1x8, .f32⟩
  | .hbm, ⟨17, _⟩ => ⟨S1x8, .f32⟩
  | .hbm, ⟨18, _⟩ => ⟨S1x8, .f32⟩
  | .hbm, ⟨19, _⟩ => ⟨S_, .f32⟩
  | .hbm, ⟨20, _⟩ => ⟨S1x8, .f32⟩
  | .hbm, ⟨21, _⟩ => ⟨S1x8, .f32⟩
  | .hbm, ⟨22, _⟩ => ⟨S_, .f32⟩
  | .hbm, ⟨23, _⟩ => ⟨S1x8, .f32⟩
  | .hbm, ⟨24, _⟩ => ⟨S1x8, .f32⟩
  | .hbm, ⟨25, _⟩ => ⟨S1x8, .f32⟩
  | .hbm, ⟨26, _⟩ => ⟨S_, .f32⟩
  | .hbm, ⟨27, _⟩ => ⟨S1x8, .f32⟩
  | .hbm, ⟨28, _⟩ => ⟨S1x8, .f32⟩
  | .hbm, ⟨29, _⟩ => ⟨S1x8, .f32⟩
  | .hbm, ⟨30, _⟩ => ⟨S_, .f32⟩
  | .hbm, ⟨31, _⟩ => ⟨S1x8, .f32⟩
  | .hbm, ⟨32, _⟩ => ⟨S1x8, .f32⟩
  | .hbm, ⟨33, _⟩ => ⟨S1x8, .f32⟩
  | .hbm, ⟨34, _⟩ => ⟨S_, .f32⟩
  | .hbm, ⟨35, _⟩ => ⟨S1x8, .f32⟩
  | .hbm, ⟨36, _⟩ => ⟨S1x8, .f32⟩
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S31x128 : Shape := ⟨2, ![31, 128]⟩

abbrev nBuf : Space → Nat
  | .hbm => 7
  | .vmem => 7
  | .smem => 0
  | _ => 0

abbrev bufTy : (tb : Table) → Fin (tcTables nBuf tb) → BufTy
  | .hbm, ⟨0, _⟩ => ⟨S31x128, .f32⟩
  | .hbm, ⟨1, _⟩ => ⟨S31x128, .f32⟩
  | .hbm, ⟨2, _⟩ => ⟨S31x128, .f32⟩
  | .hbm, ⟨3, _⟩ => ⟨S31x128, .f32⟩
  | .hbm, ⟨4, _⟩ => ⟨S31x128, .f32⟩
  | .hbm, ⟨5, _⟩ => ⟨S31x128, .f32⟩
  | .hbm, ⟨6, _⟩ => ⟨S31x128, .f32⟩
  | .local _ .vmem, ⟨0, _⟩ => ⟨S31x128, .f32⟩
  | .local _ .vmem, ⟨1, _⟩ => ⟨S31x128, .f32⟩
  | .local _ .vmem, ⟨2, _⟩ => ⟨S31x128, .f32⟩
  | .local _ .vmem, ⟨3, _⟩ => ⟨S31x128, .f32⟩
  | .local _ .vmem, ⟨4, _⟩ => ⟨S31x128, .f32⟩
  | .local _ .vmem, ⟨5, _⟩ => ⟨S31x128, .f32⟩
  | .local _ .vmem, ⟨6, _⟩ => ⟨S31x128, .f32⟩
  | _, _ => ⟨S31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel22Ideal.lean ====
abbrev S31x128 : Shape := ⟨2, ![31, 128]⟩

abbrev nBuf : Space → Nat
  | .hbm => 7
  | .vmem => 7
  | .smem => 0
  | _ => 0

abbrev bufTy : (tb : Table) → Fin (tcTables nBuf tb) → BufTy
  | .hbm, ⟨0, _⟩ => ⟨S31x128, .f32⟩
  | .hbm, ⟨1, _⟩ => ⟨S31x128, .f32⟩
  | .hbm, ⟨2, _⟩ => ⟨S31x128, .f32⟩
  | .hbm, ⟨3, _⟩ => ⟨S31x128, .f32⟩
  | .hbm, ⟨4, _⟩ => ⟨S31x128, .f32⟩
  | .hbm, ⟨5, _⟩ => ⟨S31x128, .f32⟩
  | .hbm, ⟨6, _⟩ => ⟨S31x128, .f32⟩
  | .local _ .vmem, ⟨0, _⟩ => ⟨S31x128, .f32⟩
  | .local _ .vmem, ⟨1, _⟩ => ⟨S31x128, .f32⟩
  | .local _ .vmem, ⟨2, _⟩ => ⟨S31x128, .f32⟩
  | .local _ .vmem, ⟨3, _⟩ => ⟨S31x128, .f32⟩
  | .local _ .vmem, ⟨4, _⟩ => ⟨S31x128, .f32⟩
  | .local _ .vmem, ⟨5, _⟩ => ⟨S31x128, .f32⟩
  | .local _ .vmem, ⟨6, _⟩ => ⟨S31x128, .f32⟩
  | _, _ => ⟨S31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference22Ideal.lean ====
abbrev S31x128 : Shape := ⟨2, ![31, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S31x128, .f32⟩
  | .hbm, ⟨1, _⟩ => ⟨S31x128, .f32⟩
  | .hbm, ⟨2, _⟩ => ⟨S31x128, .f32⟩
  | .hbm, ⟨3, _⟩ => ⟨S31x128, .f32⟩
  | .hbm, ⟨4, _⟩ => ⟨S_, .f32⟩
  | .hbm, ⟨5, _⟩ => ⟨S31x128, .f32⟩
  | .hbm, ⟨6, _⟩ => ⟨S31x128, .f32⟩
  | .hbm, ⟨7, _⟩ => ⟨S_, .f32⟩
  | .hbm, ⟨8, _⟩ => ⟨S31x128, .f32⟩
  | .hbm, ⟨9, _⟩ => ⟨S31x128, .f32⟩
  | .hbm, ⟨10, _⟩ => ⟨S31x128, .f32⟩
  | .hbm, ⟨11, _⟩ => ⟨S_, .f32⟩
  | .hbm, ⟨12, _⟩ => ⟨S31x128, .f32⟩
  | .hbm, ⟨13, _⟩ => ⟨S31x128, .f32⟩
  | .hbm, ⟨14, _⟩ => ⟨S31x128, .f32⟩
  | .hbm, ⟨15, _⟩ => ⟨S_, .f32⟩
  | .hbm, ⟨16, _⟩ => ⟨S31x128, .f32⟩
  | .hbm, ⟨17, _⟩ => ⟨S31x128, .f32⟩
  | .hbm, ⟨18, _⟩ => ⟨S31x128, .f32⟩
  | .hbm, ⟨19, _⟩ => ⟨S_, .f32⟩
  | .hbm, ⟨20, _⟩ => ⟨S31x128, .f32⟩
  | .hbm, ⟨21, _⟩ => ⟨S31x128, .f32⟩
  | .hbm, ⟨22, _⟩ => ⟨S_, .f32⟩
  | .hbm, ⟨23, _⟩ => ⟨S31x128, .f32⟩
  | .hbm, ⟨24, _⟩ => ⟨S31x128, .f32⟩
  | .hbm, ⟨25, _⟩ => ⟨S31x128, .f32⟩
  | .hbm, ⟨26, _⟩ => ⟨S_, .f32⟩
  | .hbm, ⟨27, _⟩ => ⟨S31x128, .f32⟩
  | .hbm, ⟨28, _⟩ => ⟨S31x128, .f32⟩
  | .hbm, ⟨29, _⟩ => ⟨S31x128, .f32⟩
  | .hbm, ⟨30, _⟩ => ⟨S_, .f32⟩
  | .hbm, ⟨31, _⟩ => ⟨S31x128, .f32⟩
  | .hbm, ⟨32, _⟩ => ⟨S31x128, .f32⟩
  | .hbm, ⟨33, _⟩ => ⟨S31x128, .f32⟩
  | .hbm, ⟨34, _⟩ => ⟨S_, .f32⟩
  | .hbm, ⟨35, _⟩ => ⟨S31x128, .f32⟩
  | .hbm, ⟨36, _⟩ => ⟨S31x128, .f32⟩
  | _, _ => ⟨S31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel23Ideal.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference23Ideal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel24Ideal.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference24Ideal.lean ====
abbrev S1x256 : Shape := ⟨2, ![1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S4x64 : Shape := ⟨2, ![4, 64]⟩

abbrev nBuf : Space → Nat
  | .hbm => 7
  | .vmem => 7
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S4x64, .f32⟩
  | .hbm, ⟨5, _⟩ => ⟨S4x64, .f32⟩
  | .hbm, ⟨6, _⟩ => ⟨S4x64, .f32⟩
  | .local _ .vmem, ⟨0, _⟩ => ⟨S4x64, .f32⟩
  | .local _ .vmem, ⟨1, _⟩ => ⟨S4x64, .f32⟩
  | .local _ .vmem, ⟨2, _⟩ => ⟨S4x64, .f32⟩
  | .local _ .vmem, ⟨3, _⟩ => ⟨S4x64, .f32⟩
  | .local _ .vmem, ⟨4, _⟩ => ⟨S4x64, .f32⟩
  | .local _ .vmem, ⟨5, _⟩ => ⟨S4x64, .f32⟩
  | .local _ .vmem, ⟨6, _⟩ => ⟨S4x64, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel25Ideal.lean ====
abbrev S4x64 : Shape := ⟨2, ![4, 64]⟩

abbrev nBuf : Space → Nat
  | .hbm => 7
  | .vmem => 7
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S4x64, .f32⟩
  | .hbm, ⟨5, _⟩ => ⟨S4x64, .f32⟩
  | .hbm, ⟨6, _⟩ => ⟨S4x64, .f32⟩
  | .local _ .vmem, ⟨0, _⟩ => ⟨S4x64, .f32⟩
  | .local _ .vmem, ⟨1, _⟩ => ⟨S4x64, .f32⟩
  | .local _ .vmem, ⟨2, _⟩ => ⟨S4x64, .f32⟩
  | .local _ .vmem, ⟨3, _⟩ => ⟨S4x64, .f32⟩
  | .local _ .vmem, ⟨4, _⟩ => ⟨S4x64, .f32⟩
  | .local _ .vmem, ⟨5, _⟩ => ⟨S4x64, .f32⟩
  | .local _ .vmem, ⟨6, _⟩ => ⟨S4x64, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference25Ideal.lean ====
abbrev S4x64 : Shape := ⟨2, ![4, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S_, .f32⟩
  | .hbm, ⟨5, _⟩ => ⟨S4x64, .f32⟩
  | .hbm, ⟨6, _⟩ => ⟨S4x64, .f32⟩
  | .hbm, ⟨7, _⟩ => ⟨S_, .f32⟩
  | .hbm, ⟨8, _⟩ => ⟨S4x64, .f32⟩
  | .hbm, ⟨9, _⟩ => ⟨S4x64, .f32⟩
  | .hbm, ⟨10, _⟩ => ⟨S4x64, .f32⟩
  | .hbm, ⟨11, _⟩ => ⟨S_, .f32⟩
  | .hbm, ⟨12, _⟩ => ⟨S4x64, .f32⟩
  | .hbm, ⟨13, _⟩ => ⟨S4x64, .f32⟩
  | .hbm, ⟨14, _⟩ => ⟨S4x64, .f32⟩
  | .hbm, ⟨15, _⟩ => ⟨S_, .f32⟩
  | .hbm, ⟨16, _⟩ => ⟨S4x64, .f32⟩
  | .hbm, ⟨17, _⟩ => ⟨S4x64, .f32⟩
  | .hbm, ⟨18, _⟩ => ⟨S4x64, .f32⟩
  | .hbm, ⟨19, _⟩ => ⟨S_, .f32⟩
  | .hbm, ⟨20, _⟩ => ⟨S4x64, .f32⟩
  | .hbm, ⟨21, _⟩ => ⟨S4x64, .f32⟩
  | .hbm, ⟨22, _⟩ => ⟨S_, .f32⟩
  | .hbm, ⟨23, _⟩ => ⟨S4x64, .f32⟩
  | .hbm, ⟨24, _⟩ => ⟨S4x64, .f32⟩
  | .hbm, ⟨25, _⟩ => ⟨S4x64, .f32⟩
  | .hbm, ⟨26, _⟩ => ⟨S_, .f32⟩
  | .hbm, ⟨27, _⟩ => ⟨S4x64, .f32⟩
  | .hbm, ⟨28, _⟩ => ⟨S4x64, .f32⟩
  | .hbm, ⟨29, _⟩ => ⟨S4x64, .f32⟩
  | .hbm, ⟨30, _⟩ => ⟨S_, .f32⟩
  | .hbm, ⟨31, _⟩ => ⟨S4x64, .f32⟩
  | .hbm, ⟨32, _⟩ => ⟨S4x64, .f32⟩
  | .hbm, ⟨33, _⟩ => ⟨S4x64, .f32⟩
  | .hbm, ⟨34, _⟩ => ⟨S_, .f32⟩
  | .hbm, ⟨35, _⟩ => ⟨S4x64, .f32⟩
  | .hbm, ⟨36, _⟩ => ⟨S4x64, .f32⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel26Ideal.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference26Ideal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S6x1408 : Shape := ⟨2, ![6, 1408]⟩

abbrev nBuf : Space → Nat
  | .hbm => 7
  | .vmem => 7
  | .smem => 0
  | _ => 0

abbrev bufTy : (tb : Table) → Fin (tcTables nBuf tb) → BufTy
  | .hbm, ⟨0, _⟩ => ⟨S6x1408, .f32⟩
  | .hbm, ⟨1, _⟩ => ⟨S6x1408, .f32⟩
  | .hbm, ⟨2, _⟩ => ⟨S6x1408, .f32⟩
  | .hbm, ⟨3, _⟩ => ⟨S6x1408, .f32⟩
  | .hbm, ⟨4, _⟩ => ⟨S6x1408, .f32⟩
  | .hbm, ⟨5, _⟩ => ⟨S6x1408, .f32⟩
  | .hbm, ⟨6, _⟩ => ⟨S6x1408, .f32⟩
  | .local _ .vmem, ⟨0, _⟩ => ⟨S6x1408, .f32⟩
  | .local _ .vmem, ⟨1, _⟩ => ⟨S6x1408, .f32⟩
  | .local _ .vmem, ⟨2, _⟩ => ⟨S6x1408, .f32⟩
  | .local _ .vmem, ⟨3, _⟩ => ⟨S6x1408, .f32⟩
  | .local _ .vmem, ⟨4, _⟩ => ⟨S6x1408, .f32⟩
  | .local _ .vmem, ⟨5, _⟩ => ⟨S6x1408, .f32⟩
  | .local _ .vmem, ⟨6, _⟩ => ⟨S6x1408, .f32⟩
  | _, _ => ⟨S6x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel27Ideal.lean ====
abbrev S6x1408 : Shape := ⟨2, ![6, 1408]⟩

abbrev nBuf : Space → Nat
  | .hbm => 7
  | .vmem => 7
  | .smem => 0
  | _ => 0

abbrev bufTy : (tb : Table) → Fin (tcTables nBuf tb) → BufTy
  | .hbm, ⟨0, _⟩ => ⟨S6x1408, .f32⟩
  | .hbm, ⟨1, _⟩ => ⟨S6x1408, .f32⟩
  | .hbm, ⟨2, _⟩ => ⟨S6x1408, .f32⟩
  | .hbm, ⟨3, _⟩ => ⟨S6x1408, .f32⟩
  | .hbm, ⟨4, _⟩ => ⟨S6x1408, .f32⟩
  | .hbm, ⟨5, _⟩ => ⟨S6x1408, .f32⟩
  | .hbm, ⟨6, _⟩ => ⟨S6x1408, .f32⟩
  | .local _ .vmem, ⟨0, _⟩ => ⟨S6x1408, .f32⟩
  | .local _ .vmem, ⟨1, _⟩ => ⟨S6x1408, .f32⟩
  | .local _ .vmem, ⟨2, _⟩ => ⟨S6x1408, .f32⟩
  | .local _ .vmem, ⟨3, _⟩ => ⟨S6x1408, .f32⟩
  | .local _ .vmem, ⟨4, _⟩ => ⟨S6x1408, .f32⟩
  | .local _ .vmem, ⟨5, _⟩ => ⟨S6x1408, .f32⟩
  | .local _ .vmem, ⟨6, _⟩ => ⟨S6x1408, .f32⟩
  | _, _ => ⟨S6x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference27Ideal.lean ====
abbrev S6x1408 : Shape := ⟨2, ![6, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S6x1408, .f32⟩
  | .hbm, ⟨1, _⟩ => ⟨S6x1408, .f32⟩
  | .hbm, ⟨2, _⟩ => ⟨S6x1408, .f32⟩
  | .hbm, ⟨3, _⟩ => ⟨S6x1408, .f32⟩
  | .hbm, ⟨4, _⟩ => ⟨S_, .f32⟩
  | .hbm, ⟨5, _⟩ => ⟨S6x1408, .f32⟩
  | .hbm, ⟨6, _⟩ => ⟨S6x1408, .f32⟩
  | .hbm, ⟨7, _⟩ => ⟨S_, .f32⟩
  | .hbm, ⟨8, _⟩ => ⟨S6x1408, .f32⟩
  | .hbm, ⟨9, _⟩ => ⟨S6x1408, .f32⟩
  | .hbm, ⟨10, _⟩ => ⟨S6x1408, .f32⟩
  | .hbm, ⟨11, _⟩ => ⟨S_, .f32⟩
  | .hbm, ⟨12, _⟩ => ⟨S6x1408, .f32⟩
  | .hbm, ⟨13, _⟩ => ⟨S6x1408, .f32⟩
  | .hbm, ⟨14, _⟩ => ⟨S6x1408, .f32⟩
  | .hbm, ⟨15, _⟩ => ⟨S_, .f32⟩
  | .hbm, ⟨16, _⟩ => ⟨S6x1408, .f32⟩
  | .hbm, ⟨17, _⟩ => ⟨S6x1408, .f32⟩
  | .hbm, ⟨18, _⟩ => ⟨S6x1408, .f32⟩
  | .hbm, ⟨19, _⟩ => ⟨S_, .f32⟩
  | .hbm, ⟨20, _⟩ => ⟨S6x1408, .f32⟩
  | .hbm, ⟨21, _⟩ => ⟨S6x1408, .f32⟩
  | .hbm, ⟨22, _⟩ => ⟨S_, .f32⟩
  | .hbm, ⟨23, _⟩ => ⟨S6x1408, .f32⟩
  | .hbm, ⟨24, _⟩ => ⟨S6x1408, .f32⟩
  | .hbm, ⟨25, _⟩ => ⟨S6x1408, .f32⟩
  | .hbm, ⟨26, _⟩ => ⟨S_, .f32⟩
  | .hbm, ⟨27, _⟩ => ⟨S6x1408, .f32⟩
  | .hbm, ⟨28, _⟩ => ⟨S6x1408, .f32⟩
  | .hbm, ⟨29, _⟩ => ⟨S6x1408, .f32⟩
  | .hbm, ⟨30, _⟩ => ⟨S_, .f32⟩
  | .hbm, ⟨31, _⟩ => ⟨S6x1408, .f32⟩
  | .hbm, ⟨32, _⟩ => ⟨S6x1408, .f32⟩
  | .hbm, ⟨33, _⟩ => ⟨S6x1408, .f32⟩
  | .hbm, ⟨34, _⟩ => ⟨S_, .f32⟩
  | .hbm, ⟨35, _⟩ => ⟨S6x1408, .f32⟩
  | .hbm, ⟨36, _⟩ => ⟨S6x1408, .f32⟩
  | _, _ => ⟨S6x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S2x5632 : Shape := ⟨2, ![2, 5632]⟩

abbrev nBuf : Space → Nat
  | .hbm => 7
  | .vmem => 7
  | .smem => 0
  | _ => 0

abbrev bufTy : (tb : Table) → Fin (tcTables nBuf tb) → BufTy
  | .hbm, ⟨0, _⟩ => ⟨S2x5632, .f32⟩
  | .hbm, ⟨1, _⟩ => ⟨S2x5632, .f32⟩
  | .hbm, ⟨2, _⟩ => ⟨S2x5632, .f32⟩
  | .hbm, ⟨3, _⟩ => ⟨S2x5632, .f32⟩
  | .hbm, ⟨4, _⟩ => ⟨S2x5632, .f32⟩
  | .hbm, ⟨5, _⟩ => ⟨S2x5632, .f32⟩
  | .hbm, ⟨6, _⟩ => ⟨S2x5632, .f32⟩
  | .local _ .vmem, ⟨0, _⟩ => ⟨S2x5632, .f32⟩
  | .local _ .vmem, ⟨1, _⟩ => ⟨S2x5632, .f32⟩
  | .local _ .vmem, ⟨2, _⟩ => ⟨S2x5632, .f32⟩
  | .local _ .vmem, ⟨3, _⟩ => ⟨S2x5632, .f32⟩
  | .local _ .vmem, ⟨4, _⟩ => ⟨S2x5632, .f32⟩
  | .local _ .vmem, ⟨5, _⟩ => ⟨S2x5632, .f32⟩
  | .local _ .vmem, ⟨6, _⟩ => ⟨S2x5632, .f32⟩
  | _, _ => ⟨S2x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference28Ideal.lean ====
abbrev S2x5632 : Shape := ⟨2, ![2, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x5632, .f32⟩
  | .hbm, ⟨1, _⟩ => ⟨S2x5632, .f32⟩
  | .hbm, ⟨2, _⟩ => ⟨S2x5632, .f32⟩
  | .hbm, ⟨3, _⟩ => ⟨S2x5632, .f32⟩
  | .hbm, ⟨4, _⟩ => ⟨S_, .f32⟩
  | .hbm, ⟨5, _⟩ => ⟨S2x5632, .f32⟩
  | .hbm, ⟨6, _⟩ => ⟨S2x5632, .f32⟩
  | .hbm, ⟨7, _⟩ => ⟨S_, .f32⟩
  | .hbm, ⟨8, _⟩ => ⟨S2x5632, .f32⟩
  | .hbm, ⟨9, _⟩ => ⟨S2x5632, .f32⟩
  | .hbm, ⟨10, _⟩ => ⟨S2x5632, .f32⟩
  | .hbm, ⟨11, _⟩ => ⟨S_, .f32⟩
  | .hbm, ⟨12, _⟩ => ⟨S2x5632, .f32⟩
  | .hbm, ⟨13, _⟩ => ⟨S2x5632, .f32⟩
  | .hbm, ⟨14, _⟩ => ⟨S2x5632, .f32⟩
  | .hbm, ⟨15, _⟩ => ⟨S_, .f32⟩
  | .hbm, ⟨16, _⟩ => ⟨S2x5632, .f32⟩
  | .hbm, ⟨17, _⟩ => ⟨S2x5632, .f32⟩
  | .hbm, ⟨18, _⟩ => ⟨S2x5632, .f32⟩
  | .hbm, ⟨19, _⟩ => ⟨S_, .f32⟩
  | .hbm, ⟨20, _⟩ => ⟨S2x5632, .f32⟩
  | .hbm, ⟨21, _⟩ => ⟨S2x5632, .f32⟩
  | .hbm, ⟨22, _⟩ => ⟨S_, .f32⟩
  | .hbm, ⟨23, _⟩ => ⟨S2x5632, .f32⟩
  | .hbm, ⟨24, _⟩ => ⟨S2x5632, .f32⟩
  | .hbm, ⟨25, _⟩ => ⟨S2x5632, .f32⟩
  | .hbm, ⟨26, _⟩ => ⟨S_, .f32⟩
  | .hbm, ⟨27, _⟩ => ⟨S2x5632, .f32⟩
  | .hbm, ⟨28, _⟩ => ⟨S2x5632, .f32⟩
  | .hbm, ⟨29, _⟩ => ⟨S2x5632, .f32⟩
  | .hbm, ⟨30, _⟩ => ⟨S_, .f32⟩
  | .hbm, ⟨31, _⟩ => ⟨S2x5632, .f32⟩
  | .hbm, ⟨32, _⟩ => ⟨S2x5632, .f32⟩
  | .hbm, ⟨33, _⟩ => ⟨S2x5632, .f32⟩
  | .hbm, ⟨34, _⟩ => ⟨S_, .f32⟩
  | .hbm, ⟨35, _⟩ => ⟨S2x5632, .f32⟩
  | .hbm, ⟨36, _⟩ => ⟨S2x5632, .f32⟩
  | _, _ => ⟨S2x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S2176x1024 : Shape := ⟨2, ![2176, 1024]⟩
abbrev S1x1024 : Shape := ⟨2, ![1, 1024]⟩
abbrev S544x1024 : Shape := ⟨2, ![544, 1024]⟩
abbrev S544 : Shape := ⟨1, ![544]⟩
abbrev S544x1 : Shape := ⟨2, ![544, 1]⟩

abbrev nBuf : Space → Nat
  | .hbm => 3
  | .vmem => 5
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S2176x1024, .bf16⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S544x1024, .bf16⟩
  | .local _ .vmem, ⟨4, _⟩ => ⟨S544x1024, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference29Ideal.lean ====
abbrev S2176x1024 : Shape := ⟨2, ![2176, 1024]⟩
abbrev S1x1024 : Shape := ⟨2, ![1, 1024]⟩
abbrev S_ : Shape := ⟨0, ![]⟩
abbrev S2176 : Shape := ⟨1, ![2176]⟩
abbrev S2176x1 : Shape := ⟨2, ![2176, 1]⟩

abbrev nBuf : Space → Nat
  | .hbm => 18
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S2176x1024, .f32⟩
  | .hbm, ⟨3, _⟩ => ⟨S_, .f32⟩
  | .hbm, ⟨4, _⟩ => ⟨S2176, .f32⟩
  | .hbm, ⟨5, _⟩ => ⟨S2176x1, .f32⟩
  | .hbm, ⟨6, _⟩ => ⟨S_, .f32⟩
  | .hbm, ⟨7, _⟩ => ⟨S2176x1, .f32⟩
  | .hbm, ⟨8, _⟩ => ⟨S2176x1, .f32⟩
  | .hbm, ⟨9, _⟩ => ⟨S_, .f32⟩
  | .hbm, ⟨10, _⟩ => ⟨S2176x1, .f32⟩
  | .hbm, ⟨11, _⟩ => ⟨S2176x1, .f32⟩
  | .hbm, ⟨12, _⟩ => ⟨S2176x1, .f32⟩
  | .hbm, ⟨13, _⟩ => ⟨S2176x1024, .f32⟩
  | .hbm, ⟨14, _⟩ => ⟨S2176x1024, .f32⟩
  | .hbm, ⟨15, _⟩ => ⟨S2176x1024, .f32⟩
  | .hbm, ⟨16, _⟩ => ⟨S2176x1024, .f32⟩
  | .hbm, ⟨17, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel30.lean ====
abbrev S2176x1024 : Shape := ⟨2, ![2176, 1024]⟩
abbrev S1x1024 : Shape := ⟨2, ![1, 1024]⟩
abbrev S544x1024 : Shape := ⟨2, ![544, 1024]⟩
abbrev S544 : Shape := ⟨1, ![544]⟩
abbrev S544x1 : Shape := ⟨2, ![544, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S2176x1024, .f32⟩
  | .hbm, ⟨3, _⟩ => ⟨S2176x1024, .f32⟩
  | .hbm, ⟨4, _⟩ => ⟨S2176x1024, .f32⟩
  | .hbm, ⟨5, _⟩ => ⟨S1x1024, .f32⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S1x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference30Ideal.lean ====
abbrev S2176x1024 : Shape := ⟨2, ![2176, 1024]⟩
abbrev S1x1024 : Shape := ⟨2, ![1, 1024]⟩
abbrev S_ : Shape := ⟨0, ![]⟩
abbrev S2176 : Shape := ⟨1, ![2176]⟩
abbrev S2176x1 : Shape := ⟨2, ![2176, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S2176x1024, .f32⟩
  | .hbm, ⟨3, _⟩ => ⟨S2176x1024, .f32⟩
  | .hbm, ⟨4, _⟩ => ⟨S2176x1024, .f32⟩
  | .hbm, ⟨5, _⟩ => ⟨S_, .f32⟩
  | .hbm, ⟨6, _⟩ => ⟨S2176, .f32⟩
  | .hbm, ⟨7, _⟩ => ⟨S2176x1, .f32⟩
  | .hbm, ⟨8, _⟩ => ⟨S_, .f32⟩
  | .hbm, ⟨9, _⟩ => ⟨S2176x1, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S2176x1, .f32⟩
  | .hbm, ⟨15, _⟩ => ⟨S2176x1, .f32⟩
  | .hbm, ⟨16, _⟩ => ⟨S_, .f32⟩
  | .hbm, ⟨17, _⟩ => ⟨S2176x1, .f32⟩
  | .hbm, ⟨18, _⟩ => ⟨S2176x1, .f32⟩
  | .hbm, ⟨19, _⟩ => ⟨S2176x1024, .f32⟩
  | .hbm, ⟨20, _⟩ => ⟨S2176x1024, .f32⟩
  | .hbm, ⟨21, _⟩ => ⟨S2176x1024, .f32⟩
  | .hbm, ⟨22, _⟩ => ⟨S2176x1024, .f32⟩
  | .hbm, ⟨23, _⟩ => ⟨S2176x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2176x1024, .f32⟩
  | .hbm, ⟨28, _⟩ => ⟨S2176x1024, .f32⟩
  | .hbm, ⟨29, _⟩ => ⟨S2176x1024, .f32⟩
  | .hbm, ⟨30, _⟩ => ⟨S_, .f32⟩
  | .hbm, ⟨31, _⟩ => ⟨S2176, .f32⟩
  | .hbm, ⟨32, _⟩ => ⟨S2176x1, .f32⟩
  | .hbm, ⟨33, _⟩ => ⟨S2176x1024, .f32⟩
  | .hbm, ⟨34, _⟩ => ⟨S2176x1024, .f32⟩
  | .hbm, ⟨35, _⟩ => ⟨S2176x1024, .f32⟩
  | .hbm, ⟨36, _⟩ => ⟨S2176x1, .f32⟩
  | .hbm, ⟨37, _⟩ => ⟨S_, .f32⟩
  | .hbm, ⟨38, _⟩ => ⟨S2176x1, .f32⟩
  | .hbm, ⟨39, _⟩ => ⟨S2176x1, .f32⟩
  | .hbm, ⟨40, _⟩ => ⟨S_, .f32⟩
  | .hbm, ⟨41, _⟩ => ⟨S2176, .f32⟩
  | .hbm, ⟨42, _⟩ => ⟨S2176x1024, .f32⟩
  | .hbm, ⟨43, _⟩ => ⟨S2176x1024, .f32⟩
  | .hbm, ⟨44, _⟩ => ⟨S2176x1024, .f32⟩
  | .hbm, ⟨45, _⟩ => ⟨S2176x1024, .f32⟩
  | .hbm, ⟨46, _⟩ => ⟨S2176x1024, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel31.lean ====
abbrev S2176x1024 : Shape := ⟨2, ![2176, 1024]⟩
abbrev S1x1024 : Shape := ⟨2, ![1, 1024]⟩
abbrev S1x128 : Shape := ⟨2, ![1, 128]⟩
abbrev S544x1024 : Shape := ⟨2, ![544, 1024]⟩
abbrev S544 : Shape := ⟨1, ![544]⟩
abbrev S544x1 : Shape := ⟨2, ![544, 1]⟩
abbrev S1024 : Shape := ⟨1, ![1024]⟩
abbrev S1 : Shape := ⟨1, ![1]⟩
abbrev S1x1 : Shape := ⟨2, ![1, 1]⟩

abbrev nBuf : Space → Nat
  | .hbm => 7
  | .vmem => 11
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S2176x1024, .f32⟩
  | .hbm, ⟨3, _⟩ => ⟨S1x128, .f32⟩
  | .hbm, ⟨4, _⟩ => ⟨S2176x1024, .f32⟩
  | .hbm, ⟨5, _⟩ => ⟨S1x1024, .f32⟩
  | .hbm, ⟨6, _⟩ => ⟨S2176x1024, .bf16⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S544x1024, .f32⟩
  | .local _ .vmem, ⟨4, _⟩ => ⟨S544x1024, .f32⟩
  | .local _ .vmem, ⟨5, _⟩ => ⟨S1x128, .f32⟩
  | .local _ .vmem, ⟨6, _⟩ => ⟨S544x1024, .f32⟩
  | .local _ .vmem, ⟨7, _⟩ => ⟨S544x1024, .f32⟩
  | .local _ .vmem, ⟨8, _⟩ => ⟨S1x1024, .f32⟩
  | .local _ .vmem, ⟨9, _⟩ => ⟨S544x1024, .bf16⟩
  | .local _ .vmem, ⟨10, _⟩ => ⟨S544x1024, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S544x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference31Ideal.lean ====
abbrev S2176x1024 : Shape := ⟨2, ![2176, 1024]⟩
abbrev S1x1024 : Shape := ⟨2, ![1, 1024]⟩
abbrev S_ : Shape := ⟨0, ![]⟩
abbrev S2176 : Shape := ⟨1, ![2176]⟩
abbrev S2176x1 : Shape := ⟨2, ![2176, 1]⟩
abbrev S2048x1024 : Shape := ⟨2, ![2048, 1024]⟩
abbrev S2048 : Shape := ⟨1, ![2048]⟩
abbrev S1024 : Shape := ⟨1, ![1024]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S2176x1024, .f32⟩
  | .hbm, ⟨3, _⟩ => ⟨S2176x1024, .f32⟩
  | .hbm, ⟨4, _⟩ => ⟨S_, .f32⟩
  | .hbm, ⟨5, _⟩ => ⟨S2176, .f32⟩
  | .hbm, ⟨6, _⟩ => ⟨S2176x1, .f32⟩
  | .hbm, ⟨7, _⟩ => ⟨S_, .f32⟩
  | .hbm, ⟨8, _⟩ => ⟨S2176x1, .f32⟩
  | .hbm, ⟨9, _⟩ => ⟨S2176x1, .f32⟩
  | .hbm, ⟨10, _⟩ => ⟨S_, .f32⟩
  | .hbm, ⟨11, _⟩ => ⟨S2176x1, .f32⟩
  | .hbm, ⟨12, _⟩ => ⟨S2176x1, .f32⟩
  | .hbm, ⟨13, _⟩ => ⟨S2176x1, .f32⟩
  | .hbm, ⟨14, _⟩ => ⟨S2176x1, .f32⟩
  | .hbm, ⟨15, _⟩ => ⟨S_, .f32⟩
  | .hbm, ⟨16, _⟩ => ⟨S2176x1, .f32⟩
  | .hbm, ⟨17, _⟩ => ⟨S2176x1, .f32⟩
  | .hbm, ⟨18, _⟩ => ⟨S2176x1024, .f32⟩
  | .hbm, ⟨19, _⟩ => ⟨S2176x1024, .f32⟩
  | .hbm, ⟨20, _⟩ => ⟨S2176x1024, .f32⟩
  | .hbm, ⟨21, _⟩ => ⟨S2176x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2176x1024, .f32⟩
  | .hbm, ⟨49, _⟩ => ⟨S2176x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S2176x1024, .f32⟩
  | .hbm, ⟨54, _⟩ => ⟨S2176x1024, .f32⟩
  | .hbm, ⟨55, _⟩ => ⟨S2176x1024, .f32⟩
  | .hbm, ⟨56, _⟩ => ⟨S_, .f32⟩
  | .hbm, ⟨57, _⟩ => ⟨S2176, .f32⟩
  | .hbm, ⟨58, _⟩ => ⟨S2176x1, .f32⟩
  | .hbm, ⟨59, _⟩ => ⟨S2176x1024, .f32⟩
  | .hbm, ⟨60, _⟩ => ⟨S2176x1024, .f32⟩
  | .hbm, ⟨61, _⟩ => ⟨S2176x1, .f32⟩
  | .hbm, ⟨62, _⟩ => ⟨S_, .f32⟩
  | .hbm, ⟨63, _⟩ => ⟨S2176x1, .f32⟩
  | .hbm, ⟨64, _⟩ => ⟨S2176x1, .f32⟩
  | .hbm, ⟨65, _⟩ => ⟨S_, .f32⟩
  | .hbm, ⟨66, _⟩ => ⟨S2176, .f32⟩
  | .hbm, ⟨67, _⟩ => ⟨S2176x1024, .f32⟩
  | .hbm, ⟨68, _⟩ => ⟨S2176x1024, .f32⟩
  | .hbm, ⟨69, _⟩ => ⟨S2176x1024, .f32⟩
  | .hbm, ⟨70, _⟩ => ⟨S2176x1024, .f32⟩
  | .hbm, ⟨71, _⟩ => ⟨S2176x1024, .f32⟩
  | .hbm, ⟨72, _⟩ => ⟨S1x128, .f32⟩
  | .hbm, ⟨73, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel32.lean ====
abbrev S2176x2688 : Shape := ⟨2, ![2176, 2688]⟩
abbrev S1x128 : Shape := ⟨2, ![1, 128]⟩
abbrev S2176x128 : Shape := ⟨2, ![2176, 128]⟩
abbrev S128x128 : Shape := ⟨2, ![128, 128]⟩
abbrev S128 : Shape := ⟨1, ![128]⟩

abbrev nBuf : Space → Nat
  | .hbm => 5
  | .vmem => 5
  | .smem => 0
  | _ => 0

abbrev bufTy : (tb : Table) → Fin (tcTables nBuf tb) → BufTy
  | .hbm, ⟨0, _⟩ => ⟨S2176x2688, .f32⟩
  | .hbm, ⟨1, _⟩ => ⟨S1x128, .f32⟩
  | .hbm, ⟨2, _⟩ => ⟨S2176x128, .f32⟩
  | .hbm, ⟨3, _⟩ => ⟨S2176x128, .bf16⟩
  | .hbm, ⟨4, _⟩ => ⟨S1x128, .f32⟩
  | .local _ .vmem, ⟨0, _⟩ => ⟨S2176x128, .f32⟩
  | .local _ .vmem, ⟨1, _⟩ => ⟨S1x128, .f32⟩
  | .local _ .vmem, ⟨2, _⟩ => ⟨S2176x128, .f32⟩
  | .local _ .vmem, ⟨3, _⟩ => ⟨S2176x128, .bf16⟩
  | .local _ .vmem, ⟨4, _⟩ => ⟨S1x128, .f32⟩
  | _, _ => ⟨S2176x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c20_i32 : BitVec 32 := 20#32
  let c0_i32_0 : BitVec 32 := 0#32
  ![c0_i32.toNat, c20_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2176x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference32Ideal.lean ====
abbrev S2176x2688 : Shape := ⟨2, ![2176, 2688]⟩
abbrev S1x128 : Shape := ⟨2, ![1, 128]⟩
abbrev S2176x128 : Shape := ⟨2, ![2176, 128]⟩
abbrev S_ : Shape := ⟨0, ![]⟩
abbrev S128 : Shape := ⟨1, ![128]⟩

abbrev nBuf : Space → Nat
  | .hbm => 67
  | .vmem => 0
  | .smem => 0
  | _ => 0

abbrev bufTy : (tb : Table) → Fin (tcTables nBuf tb) → BufTy
  | .hbm, ⟨0, _⟩ => ⟨S2176x2688, .f32⟩
  | .hbm, ⟨1, _⟩ => ⟨S1x128, .f32⟩
  | .hbm, ⟨2, _⟩ => ⟨S2176x128, .f32⟩
  | .hbm, ⟨3, _⟩ => ⟨S2176x128, .f32⟩
  | .hbm, ⟨4, _⟩ => ⟨S2176x128, .f32⟩
  | .hbm, ⟨5, _⟩ => ⟨S2176x128, .f32⟩
  | .hbm, ⟨6, _⟩ => ⟨S2176x128, .f32⟩
  | .hbm, ⟨7, _⟩ => ⟨S_, .f32⟩
  | .hbm, ⟨8, _⟩ => ⟨S2176x128, .f32⟩
  | .hbm, ⟨9, _⟩ => ⟨S2176x128, .f32⟩
  | .hbm, ⟨10, _⟩ => ⟨S2176x128, .f32⟩
  | .hbm, ⟨11, _⟩ => ⟨S2176x128, .f32⟩
  | .hbm, ⟨12, _⟩ => ⟨S2176x128, .i1⟩
  | .hbm, ⟨13, _⟩ => ⟨S2176x128, .f32⟩
  | .hbm, ⟨14, _⟩ => ⟨S2176x128, .f32⟩
  | .hbm, ⟨15, _⟩ => ⟨S2176x128, .f32⟩
  | .hbm, ⟨16, _⟩ => ⟨S2176x128, .f32⟩
  | .hbm, ⟨17, _⟩ => ⟨S2176x128, .f32⟩
  | .hbm, ⟨18, _⟩ => ⟨S2176x128, .f32⟩
  | .hbm, ⟨19, _⟩ => ⟨S2176x128, .f32⟩
  | .hbm, ⟨20, _⟩ => ⟨S2176x128, .f32⟩
  | .hbm, ⟨21, _⟩ => ⟨S_, .f32⟩
  | .hbm, ⟨22, _⟩ => ⟨S2176x128, .f32⟩
  | .hbm, ⟨23, _⟩ => ⟨S2176x128, .i1⟩
  | .hbm, ⟨24, _⟩ => ⟨S_, .f32⟩
  | .hbm, ⟨25, _⟩ => ⟨S2176x128, .f32⟩
  | .hbm, ⟨26, _⟩ => ⟨S2176x128, .f32⟩
  | .hbm, ⟨27, _⟩ => ⟨S_, .f32⟩
  | .hbm, ⟨28, _⟩ => ⟨S2176x128, .f32⟩
  | .hbm, ⟨29, _⟩ => ⟨S2176x128, .i1⟩
  | .hbm, ⟨30, _⟩ => ⟨S_, .f32⟩
  | .hbm, ⟨31, _⟩ => ⟨S2176x128, .f32⟩
  | .hbm, ⟨32, _⟩ => ⟨S2176x128, .f32⟩
  | .hbm, ⟨33, _⟩ => ⟨S2176x128, .f32⟩
  | .hbm, ⟨34, _⟩ => ⟨S2176x128, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S2176x128, .f32⟩
  | .hbm, ⟨43, _⟩ => ⟨S2176x128, .i1⟩
  | .hbm, ⟨44, _⟩ => ⟨S_, .f32⟩
  | .hbm, ⟨45, _⟩ => ⟨S2176x128, .f32⟩
  | .hbm, ⟨46, _⟩ => ⟨S2176x128, .f32⟩
  | .hbm, ⟨47, _⟩ => ⟨S2176x128, .f32⟩
  | .hbm, ⟨48, _⟩ => ⟨S2176x128, .f32⟩
  | .hbm, ⟨49, _⟩ => ⟨S2176x128, .f32⟩
  | .hbm, ⟨50, _⟩ => ⟨S_, .f32⟩
  | .hbm, ⟨51, _⟩ => ⟨S2176x128, .f32⟩
  | .hbm, ⟨52, _⟩ => ⟨S2176x128, .f32⟩
  | .hbm, ⟨53, _⟩ => ⟨S2176x128, .f32⟩
  | .hbm, ⟨54, _⟩ => ⟨S_, .f32⟩
  | .hbm, ⟨55, _⟩ => ⟨S_, .f32⟩
  | .hbm, ⟨56, _⟩ => ⟨S2176x128, .f32⟩
  | .hbm, ⟨57, _⟩ => ⟨S_, .f32⟩
  | .hbm, ⟨58, _⟩ => ⟨S_, .f32⟩
  | .hbm, ⟨59, _⟩ => ⟨S2176x128, .f32⟩
  | .hbm, ⟨60, _⟩ => ⟨S2176x128, .f32⟩
  | .hbm, ⟨61, _⟩ => ⟨S2176x128, .f32⟩
  | .hbm, ⟨62, _⟩ => ⟨S2176x128, .f32⟩
  | .hbm, ⟨63, _⟩ => ⟨S_, .f32⟩
  | .hbm, ⟨64, _⟩ => ⟨S128, .f32⟩
  | .hbm, ⟨65, _⟩ => ⟨S1x128, .f32⟩
  | .hbm, ⟨66, _⟩ => ⟨S2176x128, .bf16⟩
  | _, _ => ⟨S2176x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1_0 : Ref sig .tc := ⟨.hbm, 20, rfl⟩
abbrev main_call0_call0_cst_0 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst_1 : Ref sig .tc := ⟨.hbm, 24, rfl⟩
abbrev main_call0_call0_v15 : Ref sig .tc := ⟨.hbm, 25, rfl⟩
abbrev main_call0_call0_v16 : Ref sig .tc := ⟨.hbm, 26, rfl⟩
abbrev main_call0_call0_cst_2 : Ref sig .tc := ⟨.hbm, 27, rfl⟩
abbrev main_call0_call0_v17 : Ref sig .tc := ⟨.hbm, 28, rfl⟩
abbrev main_call0_call0_v18 : Ref sig .tc := ⟨.hbm, 29, rfl⟩
abbrev main_call0_call0_cst_3 : Ref sig .tc := ⟨.hbm, 30, rfl⟩
abbrev main_call0_call0_v19 : Ref sig .tc := ⟨.hbm, 31, rfl⟩
abbrev main_call0_call0_v20 : Ref sig .tc := ⟨.hbm, 32, rfl⟩
abbrev main_call0_call0_v21 : Ref sig .tc := ⟨.hbm, 33, rfl⟩
abbrev main_v3_1 : Ref sig .tc := ⟨.hbm, 34, rfl⟩
abbrev main_call0_call0_cst_4 : Ref sig .tc := ⟨.hbm, 35, rfl⟩
abbrev main_call0_call0_cst_5 : Ref sig .tc := ⟨.hbm, 36, rfl⟩
abbrev main_call0_call0_v23 : Ref sig .tc := ⟨.hbm, 37, rfl⟩
abbrev main_call0_call0_cst_6 : Ref sig .tc := ⟨.hbm, 38, rfl⟩
abbrev main_call0_call0_cst_7 : Ref sig .tc := ⟨.hbm, 39, rfl⟩
abbrev main_call0_call0_v24 : Ref sig .tc := ⟨.hbm, 40, rfl⟩
abbrev main_call0_call0_cst_8 : Ref sig .tc := ⟨.hbm, 41, rfl⟩
abbrev main_call0_call0_v25 : Ref sig .tc := ⟨.hbm, 42, rfl⟩
abbrev main_call0_call0_v26 : Ref sig .tc := ⟨.hbm, 43, rfl⟩
abbrev main_call0_call0_cst_9 : Ref sig .tc := ⟨.hbm, 44, rfl⟩
abbrev main_call0_call0_v27 : Ref sig .tc := ⟨.hbm, 45, rfl⟩
abbrev main_call0_call0_v28 : Ref sig .tc := ⟨.hbm, 46, rfl⟩
abbrev main_call0_call0_v29 : Ref sig .tc := ⟨.hbm, 47, rfl⟩
abbrev main_call0_call0_v30 : Ref sig .tc := ⟨.hbm, 48, rfl⟩
abbrev main_call0_call0_v31 : Ref sig .tc := ⟨.hbm, 49, rfl⟩
abbrev main_call0_call0_cst_10 : Ref sig .tc := ⟨.hbm, 50, rfl⟩
abbrev main_call0_call0_v32 : Ref sig .tc := ⟨.hbm, 51, rfl⟩
abbrev main_v3_2 : Ref sig .tc := ⟨.hbm, 52, rfl⟩
abbrev main_v3_0 : Ref sig .tc := ⟨.hbm, 53, rfl⟩
abbrev main_call1_call0_cst : Ref sig .tc := ⟨.hbm, 54, rfl⟩
abbrev main_call1_call0_v0 : Ref sig .tc := ⟨.hbm, 55, rfl⟩
abbrev main_v4 : Ref sig .tc := ⟨.hbm, 56, rfl⟩
abbrev main_call2_call0_cst : Ref sig .tc := ⟨.hbm, 57, rfl⟩
abbrev main_call2_call0_v0 : Ref sig .tc := ⟨.hbm, 58, rfl⟩
abbrev main_v5 : Ref sig .tc := ⟨.hbm, 59, rfl⟩
abbrev main_call3_v0 : Ref sig .tc := ⟨.hbm, 60, rfl⟩
abbrev main_call3_v1 : Ref sig .tc := ⟨.hbm, 61, rfl⟩
abbrev main_v6 : Ref sig .tc := ⟨.hbm, 62, rfl⟩
abbrev main_cst : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩

abbrev nD : Nat := 1
abbrev τ : Topo := Topo.v7x

variable {F : FTy → Type} [FloatOps F]
-- ==== Proof.Tile.lean ====
/- The tiles of the attention gradient: the block readers and what one tile of keys against queries computes. -/
module

public import proofs.«01_k».proof.Proof.Gen.KernelIdeal.Loops
public import proofs.«01_k».proof.Proof.Gen.KernelIdeal.Frame
public import Idealize.ShloMosaic.Lib.Pipeline.Value
public import Idealize.ShloMosaic.Lib.Pointwise.Index

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Block `(h, i)` of an array of `8 × 17` blocks. -/
def blk {α : Type} {n m : ℕ} (X : (⟨4, ![8, 17, n, m]⟩ : Shape).Idx → α) (h : Fin 8) (i : Fin 17) :
    (⟨2, ![n, m]⟩ : Shape).Idx → α := fun x => X (ix4 h i (x 0) (x 1))

/-- Rows `128 j …` of head `h` of the array of keys laid out row by row. -/
def rowBlk {α : Type} (X : S8x2176x128.Idx → α) (h : Fin 8) (j : Fin 17) : S128x128.Idx → α :=
  fun x => X (ix3 h (⟨128 * j.val + (x 0).val, by
    have : (x 0).val < 128 := (x 0).isLt
    omega⟩ : Fin 2176) (x 1))

/-- A block loaded from an array of blocks and freed of its unit axes. -/
theorem load_blk {n m : ℕ} {e : EltTy} (a : Memref sig .tc .vmem (⟨4, ![8, 17, n, m]⟩ : Shape) e)
    (f : BufTy.Contents (Elt F) a.view.ty) (o : Fin 4 → ℕ)
    (inb : ∀ x, o x + (⟨4, ![1, 1, n, m]⟩ : Shape).size x ≤ (⟨4, ![8, 17, n, m]⟩ : Shape).size x)
    (w : (⟨4, ![1, 1, n, m]⟩ : Shape).ShapeCasts (⟨2, ![n, m]⟩ : Shape)) (h : Fin 8) (i : Fin 17)
    (ho : o = ![h.val, i.val, 0, 0]) :
    shapeCast (⟨2, ![n, m]⟩ : Shape) (a.view.readAt (Elt F)
        (Rect.unit (s := (⟨4, ![8, 17, n, m]⟩ : Shape)) o (⟨4, ![1, 1, n, m]⟩ : Shape).size inb).toLoadRect f) w
      = blk (a.view.read (Elt F) f) h i := by
  subst ho
  funext x
  refine (shapeCast_apply _ w x (ix4 (0 : Fin 1) (0 : Fin 1) (x 0) (x 1)) ?_).trans ?_
  · rw [Shape.rowMajor_val_four, Shape.rowMajor_val_two]
    show ((0 * 1 + 0) * n + (x 0).val) * m + (x 1).val = (x 0).val * m + (x 1).val
    simp
  · show a.view.read (Elt F) f _ = a.view.read (Elt F) f _
    congr 1
    funext y
    apply Fin.ext
    match y with
    | ⟨0, _⟩ => show h.val + 1 * 0 = h.val; omega
    | ⟨1, _⟩ => show i.val + 1 * 0 = i.val; omega
    | ⟨2, _⟩ => show 0 + 1 * (x 0).val = (x 0).val; omega
    | ⟨3, _⟩ => show 0 + 1 * (x 1).val = (x 1).val; omega

/-- A block of rows loaded from the array of keys and freed of its unit axis. -/
theorem load_rows {e : EltTy} (a : Memref sig .tc .vmem S8x2176x128 e)
    (f : BufTy.Contents (Elt F) a.view.ty) (o : Fin 3 → ℕ)
    (inb : ∀ x, o x + S1x128x128.size x ≤ S8x2176x128.size x)
    (w : S1x128x128.ShapeCasts S128x128) (h : Fin 8) (j : Fin 17)
    (ho : o = ![h.val, 128 * j.val, 0]) :
    shapeCast S128x128 (a.view.readAt (Elt F)
        (Rect.unit (s := S8x2176x128) o S1x128x128.size inb).toLoadRect f) w
      = rowBlk (a.view.read (Elt F) f) h j := by
  subst ho
  funext x
  refine (shapeCast_apply _ w x (ix3 (0 : Fin 1) (x 0) (x 1)) ?_).trans ?_
  · rw [Shape.rowMajor_val_three, Shape.rowMajor_val_two]
    show (0 * 128 + (x 0).val) * 128 + (x 1).val = (x 0).val * 128 + (x 1).val
    simp
  · show a.view.read (Elt F) f _ = a.view.read (Elt F) f _
    congr 1
    funext y
    apply Fin.ext
    match y with
    | ⟨0, _⟩ => show h.val + 1 * 0 = h.val; omega
    | ⟨1, _⟩ => show 128 * j.val + 1 * (x 0).val = 128 * j.val + (x 0).val; omega
    | ⟨2, _⟩ => show 0 + 1 * (x 1).val = (x 1).val; omega

/-- The logits of a tile: keys against queries. -/
def sT (ka q : FVec F S128x128 .bf16) : FVec F S128x128 .f32 :=
  matmul dot_S128x128_S128x128_S128x128_1_0_0_1_n_n none ka q (constant S128x128 .f32 0x00000000#32)

/-- The tile of weights: the exponential of the logits less the row's log-sum-exp. -/
def pT (s : FVec F S128x128 .f32) (l : FVec F S1x128 .f32) : FVec F S128x128 .f32 :=
  exp (subf s (broadcastTo S128x128 l broadcasts_S1x128_S128x128))

/-- The tile of the weights' gradients: values against output gradients. -/
def dpT (v d : FVec F S64x128 .bf16) : FVec F S128x128 .f32 :=
  matmul dot_S64x128_S64x128_S128x128_0_0_1_1_n_n none v d (constant S128x128 .f32 0x00000000#32)

/-- The tile of the logits' gradients. -/
def dsT (p dp : FVec F S128x128 .f32) (dl : FVec F S1x128 .f32) : FVec F S128x128 .bf16 :=
  truncf .bf16 (mulf p (subf dp (broadcastTo S128x128 dl broadcasts_S1x128_S128x128))) bitsLt_bf16_f32

/-- A value gradient with one tile added. -/
def dvAdd (acc : FVec F S64x128 .f32) (d : FVec F S64x128 .bf16) (p : FVec F S128x128 .f32) : FVec F S64x128 .f32 :=
  addf acc (matmul dot_S64x128_S128x128_S64x128_1_1_0_0_n_n none d (truncf .bf16 p bitsLt_bf16_f32)
    (constant S64x128 .f32 0x00000000#32))

/-- A key gradient with one tile added. -/
def dkAdd (acc : FVec F S128x128 .f32) (q ds : FVec F S128x128 .bf16) : FVec F S128x128 .f32 :=
  addf acc (matmul dot_S128x128_S128x128_S128x128_1_1_0_0_n_n none q ds (constant S128x128 .f32 0x00000000#32))

/-- A query gradient with one tile added. -/
def dqAdd (acc : FVec F S128x128 .f32) (kt ds : FVec F S128x128 .bf16) : FVec F S128x128 .f32 :=
  addf acc (matmul dot_S128x128_S128x128_S128x128_1_0_0_1_n_n none kt ds (constant S128x128 .f32 0x00000000#32))

/-- What the kernel reads: queries, keys (by columns, by rows), values, output gradients, log-sum-exps and deltas. -/
structure Ins (F : FTy → Type) where
  q : FVec F S8x17x128x128 .bf16
  kt : FVec F S8x17x128x128 .bf16
  ka : FVec F S8x2176x128 .bf16
  v : FVec F S8x17x64x128 .bf16
  d : FVec F S8x17x64x128 .bf16
  l : FVec F S8x17x1x128 .f32
  dl : FVec F S8x17x1x128 .f32

/-- The weights of head `h`, keys of block `j` against the later queries of block `i`. -/
def Ins.p (X : Ins F) (h : Fin 8) (j i : Fin 17) : FVec F S128x128 .f32 :=
  pT (sT (rowBlk X.ka h j) (blk X.q h i)) (blk X.l h i)

/-- The logits' gradients of head `h`, keys of block `j` against the later queries of block `i`. -/
def Ins.ds (X : Ins F) (h : Fin 8) (j i : Fin 17) : FVec F S128x128 .bf16 :=
  dsT (X.p h j i) (dpT (blk X.v h j) (blk X.d h i)) (blk X.dl h i)

/-- The weights of head `h` on the diagonal block `j`: a key after its query is masked. -/
def Ins.pD (X : Ins F) (h : Fin 8) (j : Fin 17) : FVec F S128x128 .f32 :=
  pT (select k0_pay1 (sT (rowBlk X.ka h j) (blk X.q h j)) (broadcast S128x128 (Named.named κ "mask" 0xF149F2CA#32))) (blk X.l h j)

/-- The logits' gradients of head `h` on the diagonal block `j`. -/
def Ins.dsD (X : Ins F) (h : Fin 8) (j : Fin 17) : FVec F S128x128 .bf16 :=
  dsT (X.pD h j) (dpT (blk X.v h j) (blk X.d h j)) (blk X.dl h j)

/-- The sixteen carried gradients of one block of keys, as the loop carries them. -/
abbrev Car (F : FTy → Type) : Type :=
  FVec F S128x128 .f32 × FVec F S64x128 .f32 × FVec F S128x128 .f32 × FVec F S64x128 .f32 × FVec F S128x128 .f32 × FVec F S64x128 .f32 × FVec F S128x128 .f32 × FVec F S64x128 .f32 × FVec F S128x128 .f32 × FVec F S64x128 .f32 × FVec F S128x128 .f32 × FVec F S64x128 .f32 × FVec F S128x128 .f32 × FVec F S64x128 .f32 × FVec F S128x128 .f32 × FVec F S64x128 .f32

/-- The carried gradients, by head: of the keys, of the values. -/
structure Acc (F : FTy → Type) where
  k : Fin 8 → FVec F S128x128 .f32
  v : Fin 8 → FVec F S64x128 .f32

/-- The carried gradients in the loop's order. -/
def Acc.pack (a : Acc F) : Car F := (a.k 0, a.v 0, a.k 1, a.v 1, a.k 2, a.v 2, a.k 3, a.v 3, a.k 4, a.v 4, a.k 5, a.v 5, a.k 6, a.v 6, a.k 7, a.v 7)

/-- The carried gradients after the diagonal block. -/
def diagAcc (X : Ins F) (j : Fin 17) : Acc F where
  k h := dkAdd (broadcast S128x128 (FloatOps.ofBits .f32 0x00000000#32)) (blk X.q h j) (X.dsD h j)
  v h := dvAdd (broadcast S64x128 (FloatOps.ofBits .f32 0x00000000#32)) (blk X.d h j) (X.pD h j)

/-- The carried gradients with the tile of query block `i` added. -/
def Acc.step (X : Ins F) (j i : Fin 17) (a : Acc F) : Acc F where
  k h := dkAdd (a.k h) (blk X.q h i) (X.ds h j i)
  v h := dvAdd (a.v h) (blk X.d h i) (X.p h j i)

variable (𝒱 : Variants) (c : Dev nD) (bd : Option 𝒱.V) (i : grid0.Coords)
  (arg1 : Memref sig .tc .vmem S8x17x128x128 .bf16) (harg1 : arg1.IsWhole)
  (arg2 : Memref sig .tc .vmem S8x17x128x128 .bf16) (harg2 : arg2.IsWhole)
  (arg3 : Memref sig .tc .vmem S8x2176x128 .bf16) (harg3 : arg3.IsWhole)
  (arg4 : Memref sig .tc .vmem S8x17x64x128 .bf16) (harg4 : arg4.IsWhole)
  (arg5 : Memref sig .tc .vmem S8x17x64x128 .f32) (harg5 : arg5.IsWhole)
  (arg6 : Memref sig .tc .vmem S8x17x64x128 .bf16) (harg6 : arg6.IsWhole)
  (arg7 : Memref sig .tc .vmem S8x17x1x128 .f32) (harg7 : arg7.IsWhole)
  (arg8 : Memref sig .tc .vmem S8x17x128x128 .f32) (harg8 : arg8.IsWhole)
  (arg9 : Memref sig .tc .vmem S8x17x128x128 .f32) (harg9 : arg9.IsWhole)
  (arg10 : Memref sig .tc .vmem S8x17x64x128 .f32) (harg10 : arg10.IsWhole)
  (arg11 : Memref sig .tc .vmem S8x17x1x128 .f32) (harg11 : arg11.IsWhole)
  (X1 : BufTy.Contents (Elt F) arg1.view.ty) (X2 : BufTy.Contents (Elt F) arg2.view.ty)
  (X3 : BufTy.Contents (Elt F) arg3.view.ty) (X4 : BufTy.Contents (Elt F) arg4.view.ty)
  (X6 : BufTy.Contents (Elt F) arg6.view.ty) (X7 : BufTy.Contents (Elt F) arg7.view.ty)
  (X11 : BufTy.Contents (Elt F) arg11.view.ty)
  (k2 : Fin k0_t2_loop.trips) (arg12 : BitVec 32) (v6 : BitVec 32) (v267 : FVec F S64x128 .f32) (v272 : FVec F S128x128 .f32) (v277 : FVec F S64x128 .f32) (v282 : FVec F S128x128 .f32) (v287 : FVec F S64x128 .f32) (v292 : FVec F S128x128 .f32) (v297 : FVec F S64x128 .f32) (v302 : FVec F S128x128 .f32) (v307 : FVec F S64x128 .f32) (v312 : FVec F S128x128 .f32) (v317 : FVec F S64x128 .f32) (v322 : FVec F S128x128 .f32) (v327 : FVec F S64x128 .f32) (v332 : FVec F S128x128 .f32) (v337 : FVec F S64x128 .f32) (v342 : FVec F S128x128 .f32) (v366 : FVec F S128x128 .f32) (v370 : FVec F S128x128 .f32) (v374 : FVec F S128x128 .f32) (v439 : BitVec 32)

/-- The operands as the views hold them. -/
@[reducible] def ins : Ins F where
  q := arg1.view.read (Elt F) X1
  kt := arg2.view.read (Elt F) X2
  ka := arg3.view.read (Elt F) X3
  v := arg4.view.read (Elt F) X4
  d := arg6.view.read (Elt F) X6
  l := arg7.view.read (Elt F) X7
  dl := arg11.view.read (Elt F) X11

theorem trips2 : k0_t2_loop.trips = 17 := by decide +kernel
theorem trips3 : ∀ k : Fin k0_t2_loop.trips, (k0_t3_loop k).trips = 16 - k.val := by decide +kernel
theorem trips4 : ∀ k : Fin k0_t2_loop.trips, (k0_t4_loop k).trips = 0 := by decide +kernel

/-- The block of keys trip `k2` works on. -/
def kj (k2 : Fin k0_t2_loop.trips) : Fin 17 := ⟨k2.val, by have := k2.isLt; have := trips2; omega⟩

/-- The block of queries that trip `k3` of the loop after key block `k2`'s diagonal works on. -/
def qi (k2 : Fin k0_t2_loop.trips) (k3 : Fin (k0_t3_loop k2).trips) : Fin 17 := ⟨k2.val + k3.val + 1, by
  have h2 := k2.isLt
  have h3 := k3.isLt
  have e2 := trips2
  have e3 := trips3 k2
  omega⟩

end Cert.KernelIdeal.Attn
-- ==== Proof.Read.lean ====
/- Reading an array of blocks after a trip has stored its eight tiles. -/
module

public import proofs.«01_k».proof.Proof.Gen.KernelIdeal.Loops
public import proofs.«01_k».proof.Proof.Tile
public import Idealize.ShloMosaic.Lib.Pipeline.Value
public import Idealize.ShloMosaic.Lib.WritesUnit
public import Idealize.ShloMosaic.Lib.Pointwise.Index

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- An element of the newest stored tile reads the tile, any other what was there before. -/
theorem read_tile {n m : ℕ} {e : EltTy} (a : Memref sig .tc .vmem (⟨4, ![8, 17, n, m]⟩ : Shape) e)
    (f : BufTy.Contents (Elt F) a.view.ty) (o : Fin 4 → ℕ)
    (inb : ∀ x, o x + (⟨4, ![1, 1, n, m]⟩ : Shape).size x ≤ (⟨4, ![8, 17, n, m]⟩ : Shape).size x)
    (w : (⟨2, ![n, m]⟩ : Shape).Idx → Elt F e)
    (sc : (⟨2, ![n, m]⟩ : Shape).ShapeCasts (⟨4, ![1, 1, n, m]⟩ : Shape))
    (L : List (View.Piece (Elt F) (⟨4, ![8, 17, n, m]⟩ : Shape) e)) (h : Fin 8) (i : Fin 17)
    (ho : o = ![h.val, i.val, 0, 0]) (y : (⟨4, ![8, 17, n, m]⟩ : Shape).Idx) :
    a.view.read (Elt F) (a.view.writes (Elt F) f
        ((⟨Rect.unit (s := (⟨4, ![8, 17, n, m]⟩ : Shape)) o (⟨4, ![1, 1, n, m]⟩ : Shape).size inb,
          shapeCast (⟨4, ![1, 1, n, m]⟩ : Shape) w sc⟩ : View.Piece (Elt F) (⟨4, ![8, 17, n, m]⟩ : Shape) e) :: L)) y
      = if (y 0).val = h.val ∧ (y 1).val = i.val then w (ix2 (y 2) (y 3)) else a.view.read (Elt F) (a.view.writes (Elt F) f L) y := by
  by_cases hc : (y 0).val = h.val ∧ (y 1).val = i.val
  · rw [if_pos hc]
    refine (View.read_writes_cons_unit_of_mem a.view f inb _ L y (ix4 (0 : Fin 1) (0 : Fin 1) (y 2) (y 3)) ho ?_).trans ?_
    · intro b
      have h0 : (y 0).val = h.val := hc.1
      have h1 : (y 1).val = i.val := hc.2
      match b with
      | ⟨0, _⟩ => show (y 0).val = h.val + 0; omega
      | ⟨1, _⟩ => show (y 1).val = i.val + 0; omega
      | ⟨2, _⟩ => show (y 2).val = 0 + (y 2).val; omega
      | ⟨3, _⟩ => show (y 3).val = 0 + (y 3).val; omega
    · refine shapeCast_apply _ sc _ (ix2 (y 2) (y 3)) ?_
      rw [Shape.rowMajor_val_four, Shape.rowMajor_val_two]
      show (y 2).val * m + (y 3).val = ((0 * 1 + 0) * n + (y 2).val) * m + (y 3).val
      simp
  · rw [if_neg hc]
    rcases not_and_or.1 hc with h0 | h1
    · refine View.read_writes_cons_unit_of_not_mem a.view f inb _ L y ho (0 : Fin 4) ?_
      have h0' : (y 0).val ≠ h.val := h0
      show (y 0).val < h.val ∨ h.val + 1 ≤ (y 0).val
      omega
    · refine View.read_writes_cons_unit_of_not_mem a.view f inb _ L y ho (1 : Fin 4) ?_
      have h1' : (y 1).val ≠ i.val := h1
      show (y 1).val < i.val ∨ i.val + 1 ≤ (y 1).val
      omega

/-- The eight tiles' conditions as one. -/
theorem eight {α : Type} (P : Prop) [Decidable P] (h : Fin 8) (W : Fin 8 → α) (z : α) :
    (if h.val = (7 : Fin 8).val ∧ P then W 7 else if h.val = (6 : Fin 8).val ∧ P then W 6 else if h.val = (5 : Fin 8).val ∧ P then W 5 else if h.val = (4 : Fin 8).val ∧ P then W 4
      else if h.val = (3 : Fin 8).val ∧ P then W 3 else if h.val = (2 : Fin 8).val ∧ P then W 2 else if h.val = (1 : Fin 8).val ∧ P then W 1 else if h.val = (0 : Fin 8).val ∧ P then W 0 else z)
      = if P then W h else z := by
  by_cases hP : P
  · simp only [hP, and_true, if_true]
    fin_cases h <;> rfl
  · simp only [hP, and_false, if_false]

/-- An array with block `i` of every head replaced. -/
def put {α : Type} {n m : ℕ} (i : Fin 17) (W : Fin 8 → (⟨2, ![n, m]⟩ : Shape).Idx → α)
    (g : (⟨4, ![8, 17, n, m]⟩ : Shape).Idx → α) : (⟨4, ![8, 17, n, m]⟩ : Shape).Idx → α :=
  fun y => if (y 1).val = i.val then W (y 0) (ix2 (y 2) (y 3)) else g y

/-- Eight stored tiles, one a head, replace block `i` of every head. -/
theorem read_eight {n m : ℕ} {e : EltTy} (a : Memref sig .tc .vmem (⟨4, ![8, 17, n, m]⟩ : Shape) e)
    (f : BufTy.Contents (Elt F) a.view.ty) (o : Fin 8 → Fin 4 → ℕ)
    (inb : ∀ h x, o h x + (⟨4, ![1, 1, n, m]⟩ : Shape).size x ≤ (⟨4, ![8, 17, n, m]⟩ : Shape).size x)
    (W : Fin 8 → (⟨2, ![n, m]⟩ : Shape).Idx → Elt F e)
    (sc : (⟨2, ![n, m]⟩ : Shape).ShapeCasts (⟨4, ![1, 1, n, m]⟩ : Shape)) (i : Fin 17)
    (ho : ∀ h : Fin 8, o h = ![h.val, i.val, 0, 0])
    (L : List (View.Piece (Elt F) (⟨4, ![8, 17, n, m]⟩ : Shape) e)) :
    let P (h : Fin 8) : View.Piece (Elt F) (⟨4, ![8, 17, n, m]⟩ : Shape) e :=
      ⟨Rect.unit (s := (⟨4, ![8, 17, n, m]⟩ : Shape)) (o h) (⟨4, ![1, 1, n, m]⟩ : Shape).size (inb h),
        shapeCast (⟨4, ![1, 1, n, m]⟩ : Shape) (W h) sc⟩
    a.view.read (Elt F) (a.view.writes (Elt F) f (P 7 :: P 6 :: P 5 :: P 4 :: P 3 :: P 2 :: P 1 :: P 0 :: L))
      = put i W (a.view.read (Elt F) (a.view.writes (Elt F) f L)) := by
  intro P
  funext y
  rw [read_tile a f _ (inb 7) (W 7) sc _ 7 i (ho 7) y, read_tile a f _ (inb 6) (W 6) sc _ 6 i (ho 6) y,
    read_tile a f _ (inb 5) (W 5) sc _ 5 i (ho 5) y, read_tile a f _ (inb 4) (W 4) sc _ 4 i (ho 4) y,
    read_tile a f _ (inb 3) (W 3) sc _ 3 i (ho 3) y, read_tile a f _ (inb 2) (W 2) sc _ 2 i (ho 2) y,
    read_tile a f _ (inb 1) (W 1) sc _ 1 i (ho 1) y, read_tile a f _ (inb 0) (W 0) sc _ 0 i (ho 0) y]
  exact eight _ (y 0) (fun h => W h (ix2 (y 2) (y 3))) _

end Cert.KernelIdeal.Attn
-- ==== Proof.Trip3.lean ====
/- One trip of the inner loop, over the blocks of queries after the diagonal one: what it adds to the gradients. -/
module

public import proofs.«01_k».proof.Proof.Gen.KernelIdeal.Loops
public import proofs.«01_k».proof.Proof.Tile
public import Idealize.ShloMosaic.Lib.Pipeline.Value
public import Idealize.ShloMosaic.Lib.Pointwise.Index

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (𝒱 : Variants) (c : Dev nD) (bd : Option 𝒱.V) (i : grid0.Coords)
  (arg1 : Memref sig .tc .vmem S8x17x128x128 .bf16) (harg1 : arg1.IsWhole)
  (arg2 : Memref sig .tc .vmem S8x17x128x128 .bf16) (harg2 : arg2.IsWhole)
  (arg3 : Memref sig .tc .vmem S8x2176x128 .bf16) (harg3 : arg3.IsWhole)
  (arg4 : Memref sig .tc .vmem S8x17x64x128 .bf16) (harg4 : arg4.IsWhole)
  (arg5 : Memref sig .tc .vmem S8x17x64x128 .f32) (harg5 : arg5.IsWhole)
  (arg6 : Memref sig .tc .vmem S8x17x64x128 .bf16) (harg6 : arg6.IsWhole)
  (arg7 : Memref sig .tc .vmem S8x17x1x128 .f32) (harg7 : arg7.IsWhole)
  (arg8 : Memref sig .tc .vmem S8x17x128x128 .f32) (harg8 : arg8.IsWhole)
  (arg9 : Memref sig .tc .vmem S8x17x128x128 .f32) (harg9 : arg9.IsWhole)
  (arg10 : Memref sig .tc .vmem S8x17x64x128 .f32) (harg10 : arg10.IsWhole)
  (arg11 : Memref sig .tc .vmem S8x17x1x128 .f32) (harg11 : arg11.IsWhole)
  (X1 : BufTy.Contents (Elt F) arg1.view.ty) (X2 : BufTy.Contents (Elt F) arg2.view.ty)
  (X3 : BufTy.Contents (Elt F) arg3.view.ty) (X4 : BufTy.Contents (Elt F) arg4.view.ty)
  (X6 : BufTy.Contents (Elt F) arg6.view.ty) (X7 : BufTy.Contents (Elt F) arg7.view.ty)
  (X11 : BufTy.Contents (Elt F) arg11.view.ty)
  (k2 : Fin k0_t2_loop.trips) (arg12 : BitVec 32) (v6 : BitVec 32) (v267 : FVec F S64x128 .f32) (v272 : FVec F S128x128 .f32) (v277 : FVec F S64x128 .f32) (v282 : FVec F S128x128 .f32) (v287 : FVec F S64x128 .f32) (v292 : FVec F S128x128 .f32) (v297 : FVec F S64x128 .f32) (v302 : FVec F S128x128 .f32) (v307 : FVec F S64x128 .f32) (v312 : FVec F S128x128 .f32) (v317 : FVec F S64x128 .f32) (v322 : FVec F S128x128 .f32) (v327 : FVec F S64x128 .f32) (v332 : FVec F S128x128 .f32) (v337 : FVec F S64x128 .f32) (v342 : FVec F S128x128 .f32) (v366 : FVec F S128x128 .f32) (v370 : FVec F S128x128 .f32) (v374 : FVec F S128x128 .f32) (v439 : BitVec 32)

/-- What a trip adds to the carried key and value gradients. -/
theorem trip3_R (k3 : Fin (k0_t3_loop k2).trips) (acc : FVec F S128x128 .f32 × FVec F S64x128 .f32 × FVec F S128x128 .f32 × FVec F S64x128 .f32 × FVec F S128x128 .f32 × FVec F S64x128 .f32 × FVec F S128x128 .f32 × FVec F S64x128 .f32 × FVec F S128x128 .f32 × FVec F S64x128 .f32 × FVec F S128x128 .f32 × FVec F S64x128 .f32 × FVec F S128x128 .f32 × FVec F S64x128 .f32 × FVec F S128x128 .f32 × FVec F S64x128 .f32) (f8 : BufTy.Contents (Elt F) arg8.view.ty) :
    tripR_k0_t3 (F := F) 𝒱 c bd i arg1 harg1 arg2 harg2 arg3 harg3 arg4 harg4 arg5 harg5 arg6 harg6 arg7 harg7 arg8 harg8 arg9 harg9 arg10 harg10 arg11 harg11 k2 arg12 v6 v267 v272 v277 v282 v287 v292 v297 v302 v307 v312 v317 v322 v327 v332 v337 v342 v366 v370 v374 v439 X1 X2 X3 X4 X6 X7 X11 k3 acc f8 = (dkAdd acc.1 (blk (ins arg1 arg2 arg3 arg4 arg6 arg7 arg11 X1 X2 X3 X4 X6 X7 X11).q 0 (qi k2 k3)) ((ins arg1 arg2 arg3 arg4 arg6 arg7 arg11 X1 X2 X3 X4 X6 X7 X11).ds 0 (kj k2) (qi k2 k3)),
      dvAdd acc.2.1 (blk (ins arg1 arg2 arg3 arg4 arg6 arg7 arg11 X1 X2 X3 X4 X6 X7 X11).d 0 (qi k2 k3)) ((ins arg1 arg2 arg3 arg4 arg6 arg7 arg11 X1 X2 X3 X4 X6 X7 X11).p 0 (kj k2) (qi k2 k3)), dkAdd acc.2.2.1 (blk (ins arg1 arg2 arg3 arg4 arg6 arg7 arg11 X1 X2 X3 X4 X6 X7 X11).q 1 (qi k2 k3)) ((ins arg1 arg2 arg3 arg4 arg6 arg7 arg11 X1 X2 X3 X4 X6 X7 X11).ds 1 (kj k2) (qi k2 k3)),
      dvAdd acc.2.2.2.1 (blk (ins arg1 arg2 arg3 arg4 arg6 arg7 arg11 X1 X2 X3 X4 X6 X7 X11).d 1 (qi k2 k3)) ((ins arg1 arg2 arg3 arg4 arg6 arg7 arg11 X1 X2 X3 X4 X6 X7 X11).p 1 (kj k2) (qi k2 k3)), dkAdd acc.2.2.2.2.1 (blk (ins arg1 arg2 arg3 arg4 arg6 arg7 arg11 X1 X2 X3 X4 X6 X7 X11).q 2 (qi k2 k3)) ((ins arg1 arg2 arg3 arg4 arg6 arg7 arg11 X1 X2 X3 X4 X6 X7 X11).ds 2 (kj k2) (qi k2 k3)),
      dvAdd acc.2.2.2.2.2.1 (blk (ins arg1 arg2 arg3 arg4 arg6 arg7 arg11 X1 X2 X3 X4 X6 X7 X11).d 2 (qi k2 k3)) ((ins arg1 arg2 arg3 arg4 arg6 arg7 arg11 X1 X2 X3 X4 X6 X7 X11).p 2 (kj k2) (qi k2 k3)), dkAdd acc.2.2.2.2.2.2.1 (blk (ins arg1 arg2 arg3 arg4 arg6 arg7 arg11 X1 X2 X3 X4 X6 X7 X11).q 3 (qi k2 k3)) ((ins arg1 arg2 arg3 arg4 arg6 arg7 arg11 X1 X2 X3 X4 X6 X7 X11).ds 3 (kj k2) (qi k2 k3)),
      dvAdd acc.2.2.2.2.2.2.2.1 (blk (ins arg1 arg2 arg3 arg4 arg6 arg7 arg11 X1 X2 X3 X4 X6 X7 X11).d 3 (qi k2 k3)) ((ins arg1 arg2 arg3 arg4 arg6 arg7 arg11 X1 X2 X3 X4 X6 X7 X11).p 3 (kj k2) (qi k2 k3)), dkAdd acc.2.2.2.2.2.2.2.2.1 (blk (ins arg1 arg2 arg3 arg4 arg6 arg7 arg11 X1 X2 X3 X4 X6 X7 X11).q 4 (qi k2 k3)) ((ins arg1 arg2 arg3 arg4 arg6 arg7 arg11 X1 X2 X3 X4 X6 X7 X11).ds 4 (kj k2) (qi k2 k3)),
      dvAdd acc.2.2.2.2.2.2.2.2.2.1 (blk (ins arg1 arg2 arg3 arg4 arg6 arg7 arg11 X1 X2 X3 X4 X6 X7 X11).d 4 (qi k2 k3)) ((ins arg1 arg2 arg3 arg4 arg6 arg7 arg11 X1 X2 X3 X4 X6 X7 X11).p 4 (kj k2) (qi k2 k3)), dkAdd acc.2.2.2.2.2.2.2.2.2.2.1 (blk (ins arg1 arg2 arg3 arg4 arg6 arg7 arg11 X1 X2 X3 X4 X6 X7 X11).q 5 (qi k2 k3)) ((ins arg1 arg2 arg3 arg4 arg6 arg7 arg11 X1 X2 X3 X4 X6 X7 X11).ds 5 (kj k2) (qi k2 k3)),
      dvAdd acc.2.2.2.2.2.2.2.2.2.2.2.1 (blk (ins arg1 arg2 arg3 arg4 arg6 arg7 arg11 X1 X2 X3 X4 X6 X7 X11).d 5 (qi k2 k3)) ((ins arg1 arg2 arg3 arg4 arg6 arg7 arg11 X1 X2 X3 X4 X6 X7 X11).p 5 (kj k2) (qi k2 k3)), dkAdd acc.2.2.2.2.2.2.2.2.2.2.2.2.1 (blk (ins arg1 arg2 arg3 arg4 arg6 arg7 arg11 X1 X2 X3 X4 X6 X7 X11).q 6 (qi k2 k3)) ((ins arg1 arg2 arg3 arg4 arg6 arg7 arg11 X1 X2 X3 X4 X6 X7 X11).ds 6 (kj k2) (qi k2 k3)),
      dvAdd acc.2.2.2.2.2.2.2.2.2.2.2.2.2.1 (blk (ins arg1 arg2 arg3 arg4 arg6 arg7 arg11 X1 X2 X3 X4 X6 X7 X11).d 6 (qi k2 k3)) ((ins arg1 arg2 arg3 arg4 arg6 arg7 arg11 X1 X2 X3 X4 X6 X7 X11).p 6 (kj k2) (qi k2 k3)), dkAdd acc.2.2.2.2.2.2.2.2.2.2.2.2.2.2.1 (blk (ins arg1 arg2 arg3 arg4 arg6 arg7 arg11 X1 X2 X3 X4 X6 X7 X11).q 7 (qi k2 k3)) ((ins arg1 arg2 arg3 arg4 arg6 arg7 arg11 X1 X2 X3 X4 X6 X7 X11).ds 7 (kj k2) (qi k2 k3)),
      dvAdd acc.2.2.2.2.2.2.2.2.2.2.2.2.2.2.2 (blk (ins arg1 arg2 arg3 arg4 arg6 arg7 arg11 X1 X2 X3 X4 X6 X7 X11).d 7 (qi k2 k3)) ((ins arg1 arg2 arg3 arg4 arg6 arg7 arg11 X1 X2 X3 X4 X6 X7 X11).p 7 (kj k2) (qi k2 k3))) := by
  unfold Ins.ds Ins.p ins
  dsimp only
  rw [← load_rows arg3 X3 _ (k0_off57_inb k2) shapeCasts_S1x128x128_S128x128 0 (kj k2) (k0_off57_eq k2),
    ← load_blk arg1 X1 _ (k0_off58_inb k2 k3) shapeCasts_S1x1x128x128_S128x128 0 (qi k2 k3) (k0_off58_eq k2 k3),
    ← load_blk arg4 X4 _ (k0_off73_inb k2) shapeCasts_S1x1x64x128_S64x128 0 (kj k2) (k0_off73_eq k2),
    ← load_blk arg6 X6 _ (k0_off74_inb k2 k3) shapeCasts_S1x1x64x128_S64x128 0 (qi k2 k3) (k0_off74_eq k2 k3),
    ← load_blk arg7 X7 _ (k0_off89_inb k2 k3) shapeCasts_S1x1x1x128_S1x128 0 (qi k2 k3) (k0_off89_eq k2 k3),
    ← load_blk arg11 X11 _ (k0_off89_inb k2 k3) shapeCasts_S1x1x1x128_S1x128 0 (qi k2 k3) (k0_off89_eq k2 k3),
    ← load_rows arg3 X3 _ (k0_off59_inb k2) shapeCasts_S1x128x128_S128x128 1 (kj k2) (k0_off59_eq k2),
    ← load_blk arg1 X1 _ (k0_off60_inb k2 k3) shapeCasts_S1x1x128x128_S128x128 1 (qi k2 k3) (k0_off60_eq k2 k3),
    ← load_blk arg4 X4 _ (k0_off75_inb k2) shapeCasts_S1x1x64x128_S64x128 1 (kj k2) (k0_off75_eq k2),
    ← load_blk arg6 X6 _ (k0_off76_inb k2 k3) shapeCasts_S1x1x64x128_S64x128 1 (qi k2 k3) (k0_off76_eq k2 k3),
    ← load_blk arg7 X7 _ (k0_off90_inb k2 k3) shapeCasts_S1x1x1x128_S1x128 1 (qi k2 k3) (k0_off90_eq k2 k3),
    ← load_blk arg11 X11 _ (k0_off90_inb k2 k3) shapeCasts_S1x1x1x128_S1x128 1 (qi k2 k3) (k0_off90_eq k2 k3),
    ← load_rows arg3 X3 _ (k0_off61_inb k2) shapeCasts_S1x128x128_S128x128 2 (kj k2) (k0_off61_eq k2),
    ← load_blk arg1 X1 _ (k0_off62_inb k2 k3) shapeCasts_S1x1x128x128_S128x128 2 (qi k2 k3) (k0_off62_eq k2 k3),
    ← load_blk arg4 X4 _ (k0_off77_inb k2) shapeCasts_S1x1x64x128_S64x128 2 (kj k2) (k0_off77_eq k2),
    ← load_blk arg6 X6 _ (k0_off78_inb k2 k3) shapeCasts_S1x1x64x128_S64x128 2 (qi k2 k3) (k0_off78_eq k2 k3),
    ← load_blk arg7 X7 _ (k0_off91_inb k2 k3) shapeCasts_S1x1x1x128_S1x128 2 (qi k2 k3) (k0_off91_eq k2 k3),
    ← load_blk arg11 X11 _ (k0_off91_inb k2 k3) shapeCasts_S1x1x1x128_S1x128 2 (qi k2 k3) (k0_off91_eq k2 k3),
    ← load_rows arg3 X3 _ (k0_off63_inb k2) shapeCasts_S1x128x128_S128x128 3 (kj k2) (k0_off63_eq k2),
    ← load_blk arg1 X1 _ (k0_off64_inb k2 k3) shapeCasts_S1x1x128x128_S128x128 3 (qi k2 k3) (k0_off64_eq k2 k3),
    ← load_blk arg4 X4 _ (k0_off79_inb k2) shapeCasts_S1x1x64x128_S64x128 3 (kj k2) (k0_off79_eq k2),
    ← load_blk arg6 X6 _ (k0_off80_inb k2 k3) shapeCasts_S1x1x64x128_S64x128 3 (qi k2 k3) (k0_off80_eq k2 k3),
    ← load_blk arg7 X7 _ (k0_off92_inb k2 k3) shapeCasts_S1x1x1x128_S1x128 3 (qi k2 k3) (k0_off92_eq k2 k3),
    ← load_blk arg11 X11 _ (k0_off92_inb k2 k3) shapeCasts_S1x1x1x128_S1x128 3 (qi k2 k3) (k0_off92_eq k2 k3),
    ← load_rows arg3 X3 _ (k0_off65_inb k2) shapeCasts_S1x128x128_S128x128 4 (kj k2) (k0_off65_eq k2),
    ← load_blk arg1 X1 _ (k0_off66_inb k2 k3) shapeCasts_S1x1x128x128_S128x128 4 (qi k2 k3) (k0_off66_eq k2 k3),
    ← load_blk arg4 X4 _ (k0_off81_inb k2) shapeCasts_S1x1x64x128_S64x128 4 (kj k2) (k0_off81_eq k2),
    ← load_blk arg6 X6 _ (k0_off82_inb k2 k3) shapeCasts_S1x1x64x128_S64x128 4 (qi k2 k3) (k0_off82_eq k2 k3),
    ← load_blk arg7 X7 _ (k0_off93_inb k2 k3) shapeCasts_S1x1x1x128_S1x128 4 (qi k2 k3) (k0_off93_eq k2 k3),
    ← load_blk arg11 X11 _ (k0_off93_inb k2 k3) shapeCasts_S1x1x1x128_S1x128 4 (qi k2 k3) (k0_off93_eq k2 k3),
    ← load_rows arg3 X3 _ (k0_off67_inb k2) shapeCasts_S1x128x128_S128x128 5 (kj k2) (k0_off67_eq k2),
    ← load_blk arg1 X1 _ (k0_off68_inb k2 k3) shapeCasts_S1x1x128x128_S128x128 5 (qi k2 k3) (k0_off68_eq k2 k3),
    ← load_blk arg4 X4 _ (k0_off83_inb k2) shapeCasts_S1x1x64x128_S64x128 5 (kj k2) (k0_off83_eq k2),
    ← load_blk arg6 X6 _ (k0_off84_inb k2 k3) shapeCasts_S1x1x64x128_S64x128 5 (qi k2 k3) (k0_off84_eq k2 k3),
    ← load_blk arg7 X7 _ (k0_off94_inb k2 k3) shapeCasts_S1x1x1x128_S1x128 5 (qi k2 k3) (k0_off94_eq k2 k3),
    ← load_blk arg11 X11 _ (k0_off94_inb k2 k3) shapeCasts_S1x1x1x128_S1x128 5 (qi k2 k3) (k0_off94_eq k2 k3),
    ← load_rows arg3 X3 _ (k0_off69_inb k2) shapeCasts_S1x128x128_S128x128 6 (kj k2) (k0_off69_eq k2),
    ← load_blk arg1 X1 _ (k0_off70_inb k2 k3) shapeCasts_S1x1x128x128_S128x128 6 (qi k2 k3) (k0_off70_eq k2 k3),
    ← load_blk arg4 X4 _ (k0_off85_inb k2) shapeCasts_S1x1x64x128_S64x128 6 (kj k2) (k0_off85_eq k2),
    ← load_blk arg6 X6 _ (k0_off86_inb k2 k3) shapeCasts_S1x1x64x128_S64x128 6 (qi k2 k3) (k0_off86_eq k2 k3),
    ← load_blk arg7 X7 _ (k0_off95_inb k2 k3) shapeCasts_S1x1x1x128_S1x128 6 (qi k2 k3) (k0_off95_eq k2 k3),
    ← load_blk arg11 X11 _ (k0_off95_inb k2 k3) shapeCasts_S1x1x1x128_S1x128 6 (qi k2 k3) (k0_off95_eq k2 k3),
    ← load_rows arg3 X3 _ (k0_off71_inb k2) shapeCasts_S1x128x128_S128x128 7 (kj k2) (k0_off71_eq k2),
    ← load_blk arg1 X1 _ (k0_off72_inb k2 k3) shapeCasts_S1x1x128x128_S128x128 7 (qi k2 k3) (k0_off72_eq k2 k3),
    ← load_blk arg4 X4 _ (k0_off87_inb k2) shapeCasts_S1x1x64x128_S64x128 7 (kj k2) (k0_off87_eq k2),
    ← load_blk arg6 X6 _ (k0_off88_inb k2 k3) shapeCasts_S1x1x64x128_S64x128 7 (qi k2 k3) (k0_off88_eq k2 k3),
    ← load_blk arg7 X7 _ (k0_off96_inb k2 k3) shapeCasts_S1x1x1x128_S1x128 7 (qi k2 k3) (k0_off96_eq k2 k3),
    ← load_blk arg11 X11 _ (k0_off96_inb k2 k3) shapeCasts_S1x1x1x128_S1x128 7 (qi k2 k3) (k0_off96_eq k2 k3)]
  with_unfolding_all rfl

/-- What a trip stores in the query gradients. -/
theorem trip3_L (k3 : Fin (k0_t3_loop k2).trips) (acc : FVec F S128x128 .f32 × FVec F S64x128 .f32 × FVec F S128x128 .f32 × FVec F S64x128 .f32 × FVec F S128x128 .f32 × FVec F S64x128 .f32 × FVec F S128x128 .f32 × FVec F S64x128 .f32 × FVec F S128x128 .f32 × FVec F S64x128 .f32 × FVec F S128x128 .f32 × FVec F S64x128 .f32 × FVec F S128x128 .f32 × FVec F S64x128 .f32 × FVec F S128x128 .f32 × FVec F S64x128 .f32) (f8 : BufTy.Contents (Elt F) arg8.view.ty) :
    tripL_k0_t3 (F := F) 𝒱 c bd i arg1 harg1 arg2 harg2 arg3 harg3 arg4 harg4 arg5 harg5 arg6 harg6 arg7 harg7 arg8 harg8 arg9 harg9 arg10 harg10 arg11 harg11 k2 arg12 v6 v267 v272 v277 v282 v287 v292 v297 v302 v307 v312 v317 v322 v327 v332 v337 v342 v366 v370 v374 v439 X1 X2 X3 X4 X6 X7 X11 k3 acc f8 = [(⟨Rect.unit (s := S8x17x128x128) (k0_off72 k2 k3) S1x1x128x128.size (k0_off72_inb k2 k3), shapeCast S1x1x128x128 (dqAdd (blk (arg8.view.read (Elt F) f8) 7 (qi k2 k3)) (blk (ins arg1 arg2 arg3 arg4 arg6 arg7 arg11 X1 X2 X3 X4 X6 X7 X11).kt 7 (kj k2)) ((ins arg1 arg2 arg3 arg4 arg6 arg7 arg11 X1 X2 X3 X4 X6 X7 X11).ds 7 (kj k2) (qi k2 k3))) shapeCasts_S128x128_S1x1x128x128⟩ : View.Piece (Elt F) S8x17x128x128 .f32),
      (⟨Rect.unit (s := S8x17x128x128) (k0_off70 k2 k3) S1x1x128x128.size (k0_off70_inb k2 k3), shapeCast S1x1x128x128 (dqAdd (blk (arg8.view.read (Elt F) f8) 6 (qi k2 k3)) (blk (ins arg1 arg2 arg3 arg4 arg6 arg7 arg11 X1 X2 X3 X4 X6 X7 X11).kt 6 (kj k2)) ((ins arg1 arg2 arg3 arg4 arg6 arg7 arg11 X1 X2 X3 X4 X6 X7 X11).ds 6 (kj k2) (qi k2 k3))) shapeCasts_S128x128_S1x1x128x128⟩ : View.Piece (Elt F) S8x17x128x128 .f32),
      (⟨Rect.unit (s := S8x17x128x128) (k0_off68 k2 k3) S1x1x128x128.size (k0_off68_inb k2 k3), shapeCast S1x1x128x128 (dqAdd (blk (arg8.view.read (Elt F) f8) 5 (qi k2 k3)) (blk (ins arg1 arg2 arg3 arg4 arg6 arg7 arg11 X1 X2 X3 X4 X6 X7 X11).kt 5 (kj k2)) ((ins arg1 arg2 arg3 arg4 arg6 arg7 arg11 X1 X2 X3 X4 X6 X7 X11).ds 5 (kj k2) (qi k2 k3))) shapeCasts_S128x128_S1x1x128x128⟩ : View.Piece (Elt F) S8x17x128x128 .f32),
      (⟨Rect.unit (s := S8x17x128x128) (k0_off66 k2 k3) S1x1x128x128.size (k0_off66_inb k2 k3), shapeCast S1x1x128x128 (dqAdd (blk (arg8.view.read (Elt F) f8) 4 (qi k2 k3)) (blk (ins arg1 arg2 arg3 arg4 arg6 arg7 arg11 X1 X2 X3 X4 X6 X7 X11).kt 4 (kj k2)) ((ins arg1 arg2 arg3 arg4 arg6 arg7 arg11 X1 X2 X3 X4 X6 X7 X11).ds 4 (kj k2) (qi k2 k3))) shapeCasts_S128x128_S1x1x128x128⟩ : View.Piece (Elt F) S8x17x128x128 .f32),
      (⟨Rect.unit (s := S8x17x128x128) (k0_off64 k2 k3) S1x1x128x128.size (k0_off64_inb k2 k3), shapeCast S1x1x128x128 (dqAdd (blk (arg8.view.read (Elt F) f8) 3 (qi k2 k3)) (blk (ins arg1 arg2 arg3 arg4 arg6 arg7 arg11 X1 X2 X3 X4 X6 X7 X11).kt 3 (kj k2)) ((ins arg1 arg2 arg3 arg4 arg6 arg7 arg11 X1 X2 X3 X4 X6 X7 X11).ds 3 (kj k2) (qi k2 k3))) shapeCasts_S128x128_S1x1x128x128⟩ : View.Piece (Elt F) S8x17x128x128 .f32),
      (⟨Rect.unit (s := S8x17x128x128) (k0_off62 k2 k3) S1x1x128x128.size (k0_off62_inb k2 k3), shapeCast S1x1x128x128 (dqAdd (blk (arg8.view.read (Elt F) f8) 2 (qi k2 k3)) (blk (ins arg1 arg2 arg3 arg4 arg6 arg7 arg11 X1 X2 X3 X4 X6 X7 X11).kt 2 (kj k2)) ((ins arg1 arg2 arg3 arg4 arg6 arg7 arg11 X1 X2 X3 X4 X6 X7 X11).ds 2 (kj k2) (qi k2 k3))) shapeCasts_S128x128_S1x1x128x128⟩ : View.Piece (Elt F) S8x17x128x128 .f32),
      (⟨Rect.unit (s := S8x17x128x128) (k0_off60 k2 k3) S1x1x128x128.size (k0_off60_inb k2 k3), shapeCast S1x1x128x128 (dqAdd (blk (arg8.view.read (Elt F) f8) 1 (qi k2 k3)) (blk (ins arg1 arg2 arg3 arg4 arg6 arg7 arg11 X1 X2 X3 X4 X6 X7 X11).kt 1 (kj k2)) ((ins arg1 arg2 arg3 arg4 arg6 arg7 arg11 X1 X2 X3 X4 X6 X7 X11).ds 1 (kj k2) (qi k2 k3))) shapeCasts_S128x128_S1x1x128x128⟩ : View.Piece (Elt F) S8x17x128x128 .f32),
      (⟨Rect.unit (s := S8x17x128x128) (k0_off58 k2 k3) S1x1x128x128.size (k0_off58_inb k2 k3), shapeCast S1x1x128x128 (dqAdd (blk (arg8.view.read (Elt F) f8) 0 (qi k2 k3)) (blk (ins arg1 arg2 arg3 arg4 arg6 arg7 arg11 X1 X2 X3 X4 X6 X7 X11).kt 0 (kj k2)) ((ins arg1 arg2 arg3 arg4 arg6 arg7 arg11 X1 X2 X3 X4 X6 X7 X11).ds 0 (kj k2) (qi k2 k3))) shapeCasts_S128x128_S1x1x128x128⟩ : View.Piece (Elt F) S8x17x128x128 .f32)] := by
  unfold Ins.ds Ins.p ins
  dsimp only
  rw [← load_rows arg3 X3 _ (k0_off57_inb k2) shapeCasts_S1x128x128_S128x128 0 (kj k2) (k0_off57_eq k2),
    ← load_blk arg1 X1 _ (k0_off58_inb k2 k3) shapeCasts_S1x1x128x128_S128x128 0 (qi k2 k3) (k0_off58_eq k2 k3),
    ← load_blk arg4 X4 _ (k0_off73_inb k2) shapeCasts_S1x1x64x128_S64x128 0 (kj k2) (k0_off73_eq k2),
    ← load_blk arg6 X6 _ (k0_off74_inb k2 k3) shapeCasts_S1x1x64x128_S64x128 0 (qi k2 k3) (k0_off74_eq k2 k3),
    ← load_blk arg7 X7 _ (k0_off89_inb k2 k3) shapeCasts_S1x1x1x128_S1x128 0 (qi k2 k3) (k0_off89_eq k2 k3),
    ← load_blk arg11 X11 _ (k0_off89_inb k2 k3) shapeCasts_S1x1x1x128_S1x128 0 (qi k2 k3) (k0_off89_eq k2 k3),
    ← load_rows arg3 X3 _ (k0_off59_inb k2) shapeCasts_S1x128x128_S128x128 1 (kj k2) (k0_off59_eq k2),
    ← load_blk arg1 X1 _ (k0_off60_inb k2 k3) shapeCasts_S1x1x128x128_S128x128 1 (qi k2 k3) (k0_off60_eq k2 k3),
    ← load_blk arg4 X4 _ (k0_off75_inb k2) shapeCasts_S1x1x64x128_S64x128 1 (kj k2) (k0_off75_eq k2),
    ← load_blk arg6 X6 _ (k0_off76_inb k2 k3) shapeCasts_S1x1x64x128_S64x128 1 (qi k2 k3) (k0_off76_eq k2 k3),
    ← load_blk arg7 X7 _ (k0_off90_inb k2 k3) shapeCasts_S1x1x1x128_S1x128 1 (qi k2 k3) (k0_off90_eq k2 k3),
    ← load_blk arg11 X11 _ (k0_off90_inb k2 k3) shapeCasts_S1x1x1x128_S1x128 1 (qi k2 k3) (k0_off90_eq k2 k3),
    ← load_rows arg3 X3 _ (k0_off61_inb k2) shapeCasts_S1x128x128_S128x128 2 (kj k2) (k0_off61_eq k2),
    ← load_blk arg1 X1 _ (k0_off62_inb k2 k3) shapeCasts_S1x1x128x128_S128x128 2 (qi k2 k3) (k0_off62_eq k2 k3),
    ← load_blk arg4 X4 _ (k0_off77_inb k2) shapeCasts_S1x1x64x128_S64x128 2 (kj k2) (k0_off77_eq k2),
    ← load_blk arg6 X6 _ (k0_off78_inb k2 k3) shapeCasts_S1x1x64x128_S64x128 2 (qi k2 k3) (k0_off78_eq k2 k3),
    ← load_blk arg7 X7 _ (k0_off91_inb k2 k3) shapeCasts_S1x1x1x128_S1x128 2 (qi k2 k3) (k0_off91_eq k2 k3),
    ← load_blk arg11 X11 _ (k0_off91_inb k2 k3) shapeCasts_S1x1x1x128_S1x128 2 (qi k2 k3) (k0_off91_eq k2 k3),
    ← load_rows arg3 X3 _ (k0_off63_inb k2) shapeCasts_S1x128x128_S128x128 3 (kj k2) (k0_off63_eq k2),
    ← load_blk arg1 X1 _ (k0_off64_inb k2 k3) shapeCasts_S1x1x128x128_S128x128 3 (qi k2 k3) (k0_off64_eq k2 k3),
    ← load_blk arg4 X4 _ (k0_off79_inb k2) shapeCasts_S1x1x64x128_S64x128 3 (kj k2) (k0_off79_eq k2),
    ← load_blk arg6 X6 _ (k0_off80_inb k2 k3) shapeCasts_S1x1x64x128_S64x128 3 (qi k2 k3) (k0_off80_eq k2 k3),
    ← load_blk arg7 X7 _ (k0_off92_inb k2 k3) shapeCasts_S1x1x1x128_S1x128 3 (qi k2 k3) (k0_off92_eq k2 k3),
    ← load_blk arg11 X11 _ (k0_off92_inb k2 k3) shapeCasts_S1x1x1x128_S1x128 3 (qi k2 k3) (k0_off92_eq k2 k3),
    ← load_rows arg3 X3 _ (k0_off65_inb k2) shapeCasts_S1x128x128_S128x128 4 (kj k2) (k0_off65_eq k2),
    ← load_blk arg1 X1 _ (k0_off66_inb k2 k3) shapeCasts_S1x1x128x128_S128x128 4 (qi k2 k3) (k0_off66_eq k2 k3),
    ← load_blk arg4 X4 _ (k0_off81_inb k2) shapeCasts_S1x1x64x128_S64x128 4 (kj k2) (k0_off81_eq k2),
    ← load_blk arg6 X6 _ (k0_off82_inb k2 k3) shapeCasts_S1x1x64x128_S64x128 4 (qi k2 k3) (k0_off82_eq k2 k3),
    ← load_blk arg7 X7 _ (k0_off93_inb k2 k3) shapeCasts_S1x1x1x128_S1x128 4 (qi k2 k3) (k0_off93_eq k2 k3),
    ← load_blk arg11 X11 _ (k0_off93_inb k2 k3) shapeCasts_S1x1x1x128_S1x128 4 (qi k2 k3) (k0_off93_eq k2 k3),
    ← load_rows arg3 X3 _ (k0_off67_inb k2) shapeCasts_S1x128x128_S128x128 5 (kj k2) (k0_off67_eq k2),
    ← load_blk arg1 X1 _ (k0_off68_inb k2 k3) shapeCasts_S1x1x128x128_S128x128 5 (qi k2 k3) (k0_off68_eq k2 k3),
    ← load_blk arg4 X4 _ (k0_off83_inb k2) shapeCasts_S1x1x64x128_S64x128 5 (kj k2) (k0_off83_eq k2),
    ← load_blk arg6 X6 _ (k0_off84_inb k2 k3) shapeCasts_S1x1x64x128_S64x128 5 (qi k2 k3) (k0_off84_eq k2 k3),
    ← load_blk arg7 X7 _ (k0_off94_inb k2 k3) shapeCasts_S1x1x1x128_S1x128 5 (qi k2 k3) (k0_off94_eq k2 k3),
    ← load_blk arg11 X11 _ (k0_off94_inb k2 k3) shapeCasts_S1x1x1x128_S1x128 5 (qi k2 k3) (k0_off94_eq k2 k3),
    ← load_rows arg3 X3 _ (k0_off69_inb k2) shapeCasts_S1x128x128_S128x128 6 (kj k2) (k0_off69_eq k2),
    ← load_blk arg1 X1 _ (k0_off70_inb k2 k3) shapeCasts_S1x1x128x128_S128x128 6 (qi k2 k3) (k0_off70_eq k2 k3),
    ← load_blk arg4 X4 _ (k0_off85_inb k2) shapeCasts_S1x1x64x128_S64x128 6 (kj k2) (k0_off85_eq k2),
    ← load_blk arg6 X6 _ (k0_off86_inb k2 k3) shapeCasts_S1x1x64x128_S64x128 6 (qi k2 k3) (k0_off86_eq k2 k3),
    ← load_blk arg7 X7 _ (k0_off95_inb k2 k3) shapeCasts_S1x1x1x128_S1x128 6 (qi k2 k3) (k0_off95_eq k2 k3),
    ← load_blk arg11 X11 _ (k0_off95_inb k2 k3) shapeCasts_S1x1x1x128_S1x128 6 (qi k2 k3) (k0_off95_eq k2 k3),
    ← load_rows arg3 X3 _ (k0_off71_inb k2) shapeCasts_S1x128x128_S128x128 7 (kj k2) (k0_off71_eq k2),
    ← load_blk arg1 X1 _ (k0_off72_inb k2 k3) shapeCasts_S1x1x128x128_S128x128 7 (qi k2 k3) (k0_off72_eq k2 k3),
    ← load_blk arg4 X4 _ (k0_off87_inb k2) shapeCasts_S1x1x64x128_S64x128 7 (kj k2) (k0_off87_eq k2),
    ← load_blk arg6 X6 _ (k0_off88_inb k2 k3) shapeCasts_S1x1x64x128_S64x128 7 (qi k2 k3) (k0_off88_eq k2 k3),
    ← load_blk arg7 X7 _ (k0_off96_inb k2 k3) shapeCasts_S1x1x1x128_S1x128 7 (qi k2 k3) (k0_off96_eq k2 k3),
    ← load_blk arg11 X11 _ (k0_off96_inb k2 k3) shapeCasts_S1x1x1x128_S1x128 7 (qi k2 k3) (k0_off96_eq k2 k3),
    ← load_blk arg8 f8 _ (k0_off58_inb k2 k3) shapeCasts_S1x1x128x128_S128x128 0 (qi k2 k3) (k0_off58_eq k2 k3),
    ← load_blk arg8 f8 _ (k0_off60_inb k2 k3) shapeCasts_S1x1x128x128_S128x128 1 (qi k2 k3) (k0_off60_eq k2 k3),
    ← load_blk arg8 f8 _ (k0_off62_inb k2 k3) shapeCasts_S1x1x128x128_S128x128 2 (qi k2 k3) (k0_off62_eq k2 k3),
    ← load_blk arg8 f8 _ (k0_off64_inb k2 k3) shapeCasts_S1x1x128x128_S128x128 3 (qi k2 k3) (k0_off64_eq k2 k3),
    ← load_blk arg8 f8 _ (k0_off66_inb k2 k3) shapeCasts_S1x1x128x128_S128x128 4 (qi k2 k3) (k0_off66_eq k2 k3),
    ← load_blk arg8 f8 _ (k0_off68_inb k2 k3) shapeCasts_S1x1x128x128_S128x128 5 (qi k2 k3) (k0_off68_eq k2 k3),
    ← load_blk arg8 f8 _ (k0_off70_inb k2 k3) shapeCasts_S1x1x128x128_S128x128 6 (qi k2 k3) (k0_off70_eq k2 k3),
    ← load_blk arg8 f8 _ (k0_off72_inb k2 k3) shapeCasts_S1x1x128x128_S128x128 7 (qi k2 k3) (k0_off72_eq k2 k3),
    ← load_blk arg2 X2 _ (k0_off97_inb k2) shapeCasts_S1x1x128x128_S128x128 0 (kj k2) (k0_off97_eq k2),
    ← load_blk arg2 X2 _ (k0_off98_inb k2) shapeCasts_S1x1x128x128_S128x128 1 (kj k2) (k0_off98_eq k2),
    ← load_blk arg2 X2 _ (k0_off99_inb k2) shapeCasts_S1x1x128x128_S128x128 2 (kj k2) (k0_off99_eq k2),
    ← load_blk arg2 X2 _ (k0_off100_inb k2) shapeCasts_S1x1x128x128_S128x128 3 (kj k2) (k0_off100_eq k2),
    ← load_blk arg2 X2 _ (k0_off101_inb k2) shapeCasts_S1x1x128x128_S128x128 4 (kj k2) (k0_off101_eq k2),
    ← load_blk arg2 X2 _ (k0_off102_inb k2) shapeCasts_S1x1x128x128_S128x128 5 (kj k2) (k0_off102_eq k2),
    ← load_blk arg2 X2 _ (k0_off103_inb k2) shapeCasts_S1x1x128x128_S128x128 6 (kj k2) (k0_off103_eq k2),
    ← load_blk arg2 X2 _ (k0_off104_inb k2) shapeCasts_S1x1x128x128_S128x128 7 (kj k2) (k0_off104_eq k2)]
  with_unfolding_all rfl

end Cert.KernelIdeal.Attn
-- ==== Proof.Trip.lean ====
/- One trip of the attention gradient's loop over the blocks of keys, run once: what it leaves in the three gradients,
   as functions of what it finds there. -/
module

public import proofs.«01_k».proof.Proof.Gen.KernelIdeal.Loops
public import proofs.«01_k».proof.Proof.Gen.KernelIdeal.Frame

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (𝒱 : Variants) (c : Dev nD) (bd : Option 𝒱.V) (i : grid0.Coords)
  (arg1 : Memref sig .tc .vmem S8x17x128x128 .bf16) (harg1 : arg1.IsWhole)
  (arg2 : Memref sig .tc .vmem S8x17x128x128 .bf16) (harg2 : arg2.IsWhole)
  (arg3 : Memref sig .tc .vmem S8x2176x128 .bf16) (harg3 : arg3.IsWhole)
  (arg4 : Memref sig .tc .vmem S8x17x64x128 .bf16) (harg4 : arg4.IsWhole)
  (arg5 : Memref sig .tc .vmem S8x17x64x128 .f32) (harg5 : arg5.IsWhole)
  (arg6 : Memref sig .tc .vmem S8x17x64x128 .bf16) (harg6 : arg6.IsWhole)
  (arg7 : Memref sig .tc .vmem S8x17x1x128 .f32) (harg7 : arg7.IsWhole)
  (arg8 : Memref sig .tc .vmem S8x17x128x128 .f32) (harg8 : arg8.IsWhole)
  (arg9 : Memref sig .tc .vmem S8x17x128x128 .f32) (harg9 : arg9.IsWhole)
  (arg10 : Memref sig .tc .vmem S8x17x64x128 .f32) (harg10 : arg10.IsWhole)
  (arg11 : Memref sig .tc .vmem S8x17x1x128 .f32) (harg11 : arg11.IsWhole)
  (X1 : BufTy.Contents (Elt F) arg1.view.ty) (X2 : BufTy.Contents (Elt F) arg2.view.ty)
  (X3 : BufTy.Contents (Elt F) arg3.view.ty) (X4 : BufTy.Contents (Elt F) arg4.view.ty)
  (X6 : BufTy.Contents (Elt F) arg6.view.ty) (X7 : BufTy.Contents (Elt F) arg7.view.ty)
  (X11 : BufTy.Contents (Elt F) arg11.view.ty)

/-- What one trip holds: the operands it reads at their contents, the three gradients at any. -/
abbrev Held (f8 : BufTy.Contents (Elt F) arg8.view.ty) (f9 : BufTy.Contents (Elt F) arg9.view.ty)
    (f10 : BufTy.Contents (Elt F) arg10.view.ty) : sProp 𝕄 :=
  iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg6.view.loc (c : Thread nD τ) ↦[arg6.view.set]{fullShare} X6)
    ∗ (arg7.view.loc (c : Thread nD τ) ↦[arg7.view.set]{fullShare} X7)
    ∗ (arg11.view.loc (c : Thread nD τ) ↦[arg11.view.set]{fullShare} X11)
    ∗ (arg8.view.loc (c : Thread nD τ) ↦[arg8.view.set]{fullShare} f8)
    ∗ (arg9.view.loc (c : Thread nD τ) ↦[arg9.view.set]{fullShare} f9)
    ∗ (arg10.view.loc (c : Thread nD τ) ↦[arg10.view.set]{fullShare} f10))

/-- One trip over key block `k`, run: what it leaves in the gradients of the queries, keys and values, as functions of
    what it finds in the three. -/
@[irreducible] def keyTrip (k : Fin k0_t2_loop.trips) :
    Σ' (N8 : BufTy.Contents (Elt F) arg8.view.ty → BufTy.Contents (Elt F) arg8.view.ty)
       (N9 : BufTy.Contents (Elt F) arg8.view.ty → BufTy.Contents (Elt F) arg9.view.ty → BufTy.Contents (Elt F) arg9.view.ty),
      { N10 : BufTy.Contents (Elt F) arg8.view.ty → BufTy.Contents (Elt F) arg10.view.ty → BufTy.Contents (Elt F) arg10.view.ty //
        ∀ (E : Set ℕ) (acc : Unit) (f8 : BufTy.Contents (Elt F) arg8.view.ty) (f9 : BufTy.Contents (Elt F) arg9.view.ty)
          (f10 : BufTy.Contents (Elt F) arg10.view.ty),
        Held (F := F) c arg1 arg2 arg3 arg4 arg6 arg7 arg8 arg9 arg10 arg11 X1 X2 X3 X4 X6 X7 X11 f8 f9 f10
        ⊢ wp frame (wpE (defs₀ (F := F)) 𝒱 (c : Thread nD τ) bd) E
            (k0_t2_body (F := F) i arg1 harg1 arg2 harg2 arg3 harg3 arg4 harg4 arg5 harg5 arg6 harg6 arg7 harg7 arg8 harg8
              arg9 harg9 arg10 harg10 arg11 harg11 k acc)
            (fun _ => Held (F := F) c arg1 arg2 arg3 arg4 arg6 arg7 arg8 arg9 arg10 arg11 X1 X2 X3 X4 X6 X7 X11
              (N8 f8) (N9 f8 f9) (N10 f8 f10)) } := by
  refine ⟨?_, ?_, ?_, fun E acc f8 f9 f10 => ?run⟩
  case run =>
    unfold k0_t2_body
    rw [k0_part39_eq_skeleton]
    unfold k0_part39_skel
    simp only [bind_assoc]
    iintro ⟨H1, H2, H3, H4, H6, H7, H11, H8, H9, H10⟩
    sl_exec
    sl_step
    sl_close

end Cert.KernelIdeal.Attn

end
-- ==== Proof.TripEq.lean ====
/- One trip over a block of keys: its stores, written out. -/
module

public import proofs.«01_k».proof.Proof.Gen.KernelIdeal.Loops
public import proofs.«01_k».proof.Proof.Tile
public import proofs.«01_k».proof.Proof.Trip
public import Idealize.ShloMosaic.Lib.Pipeline.Value
public import Idealize.ShloMosaic.Lib.Pointwise.Index

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (𝒱 : Variants) (c : Dev nD) (bd : Option 𝒱.V) (i : grid0.Coords)
  (arg1 : Memref sig .tc .vmem S8x17x128x128 .bf16) (harg1 : arg1.IsWhole)
  (arg2 : Memref sig .tc .vmem S8x17x128x128 .bf16) (harg2 : arg2.IsWhole)
  (arg3 : Memref sig .tc .vmem S8x2176x128 .bf16) (harg3 : arg3.IsWhole)
  (arg4 : Memref sig .tc .vmem S8x17x64x128 .bf16) (harg4 : arg4.IsWhole)
  (arg5 : Memref sig .tc .vmem S8x17x64x128 .f32) (harg5 : arg5.IsWhole)
  (arg6 : Memref sig .tc .vmem S8x17x64x128 .bf16) (harg6 : arg6.IsWhole)
  (arg7 : Memref sig .tc .vmem S8x17x1x128 .f32) (harg7 : arg7.IsWhole)
  (arg8 : Memref sig .tc .vmem S8x17x128x128 .f32) (harg8 : arg8.IsWhole)
  (arg9 : Memref sig .tc .vmem S8x17x128x128 .f32) (harg9 : arg9.IsWhole)
  (arg10 : Memref sig .tc .vmem S8x17x64x128 .f32) (harg10 : arg10.IsWhole)
  (arg11 : Memref sig .tc .vmem S8x17x1x128 .f32) (harg11 : arg11.IsWhole)
  (X1 : BufTy.Contents (Elt F) arg1.view.ty) (X2 : BufTy.Contents (Elt F) arg2.view.ty)
  (X3 : BufTy.Contents (Elt F) arg3.view.ty) (X4 : BufTy.Contents (Elt F) arg4.view.ty)
  (X6 : BufTy.Contents (Elt F) arg6.view.ty) (X7 : BufTy.Contents (Elt F) arg7.view.ty)
  (X11 : BufTy.Contents (Elt F) arg11.view.ty)
  (k2 : Fin k0_t2_loop.trips)

/-- The diagonal block's stores in the query gradients, newest first. -/
def diagL (f8 : BufTy.Contents (Elt F) arg8.view.ty) : List (View.Piece (Elt F) S8x17x128x128 .f32) :=
  [(⟨Rect.unit (s := S8x17x128x128) (k0_off40 k2) S1x1x128x128.size (k0_off40_inb k2), shapeCast S1x1x128x128 (dqAdd (blk (arg8.view.read (Elt F) f8) 7 (kj k2)) (blk (ins arg1 arg2 arg3 arg4 arg6 arg7 arg11 X1 X2 X3 X4 X6 X7 X11).kt 7 (kj k2)) ((ins arg1 arg2 arg3 arg4 arg6 arg7 arg11 X1 X2 X3 X4 X6 X7 X11).dsD 7 (kj k2))) shapeCasts_S128x128_S1x1x128x128⟩ : View.Piece (Elt F) S8x17x128x128 .f32),
    (⟨Rect.unit (s := S8x17x128x128) (k0_off38 k2) S1x1x128x128.size (k0_off38_inb k2), shapeCast S1x1x128x128 (dqAdd (blk (arg8.view.read (Elt F) f8) 6 (kj k2)) (blk (ins arg1 arg2 arg3 arg4 arg6 arg7 arg11 X1 X2 X3 X4 X6 X7 X11).kt 6 (kj k2)) ((ins arg1 arg2 arg3 arg4 arg6 arg7 arg11 X1 X2 X3 X4 X6 X7 X11).dsD 6 (kj k2))) shapeCasts_S128x128_S1x1x128x128⟩ : View.Piece (Elt F) S8x17x128x128 .f32),
    (⟨Rect.unit (s := S8x17x128x128) (k0_off36 k2) S1x1x128x128.size (k0_off36_inb k2), shapeCast S1x1x128x128 (dqAdd (blk (arg8.view.read (Elt F) f8) 5 (kj k2)) (blk (ins arg1 arg2 arg3 arg4 arg6 arg7 arg11 X1 X2 X3 X4 X6 X7 X11).kt 5 (kj k2)) ((ins arg1 arg2 arg3 arg4 arg6 arg7 arg11 X1 X2 X3 X4 X6 X7 X11).dsD 5 (kj k2))) shapeCasts_S128x128_S1x1x128x128⟩ : View.Piece (Elt F) S8x17x128x128 .f32),
    (⟨Rect.unit (s := S8x17x128x128) (k0_off34 k2) S1x1x128x128.size (k0_off34_inb k2), shapeCast S1x1x128x128 (dqAdd (blk (arg8.view.read (Elt F) f8) 4 (kj k2)) (blk (ins arg1 arg2 arg3 arg4 arg6 arg7 arg11 X1 X2 X3 X4 X6 X7 X11).kt 4 (kj k2)) ((ins arg1 arg2 arg3 arg4 arg6 arg7 arg11 X1 X2 X3 X4 X6 X7 X11).dsD 4 (kj k2))) shapeCasts_S128x128_S1x1x128x128⟩ : View.Piece (Elt F) S8x17x128x128 .f32),
    (⟨Rect.unit (s := S8x17x128x128) (k0_off32 k2) S1x1x128x128.size (k0_off32_inb k2), shapeCast S1x1x128x128 (dqAdd (blk (arg8.view.read (Elt F) f8) 3 (kj k2)) (blk (ins arg1 arg2 arg3 arg4 arg6 arg7 arg11 X1 X2 X3 X4 X6 X7 X11).kt 3 (kj k2)) ((ins arg1 arg2 arg3 arg4 arg6 arg7 arg11 X1 X2 X3 X4 X6 X7 X11).dsD 3 (kj k2))) shapeCasts_S128x128_S1x1x128x128⟩ : View.Piece (Elt F) S8x17x128x128 .f32),
    (⟨Rect.unit (s := S8x17x128x128) (k0_off30 k2) S1x1x128x128.size (k0_off30_inb k2), shapeCast S1x1x128x128 (dqAdd (blk (arg8.view.read (Elt F) f8) 2 (kj k2)) (blk (ins arg1 arg2 arg3 arg4 arg6 arg7 arg11 X1 X2 X3 X4 X6 X7 X11).kt 2 (kj k2)) ((ins arg1 arg2 arg3 arg4 arg6 arg7 arg11 X1 X2 X3 X4 X6 X7 X11).dsD 2 (kj k2))) shapeCasts_S128x128_S1x1x128x128⟩ : View.Piece (Elt F) S8x17x128x128 .f32),
    (⟨Rect.unit (s := S8x17x128x128) (k0_off28 k2) S1x1x128x128.size (k0_off28_inb k2), shapeCast S1x1x128x128 (dqAdd (blk (arg8.view.read (Elt F) f8) 1 (kj k2)) (blk (ins arg1 arg2 arg3 arg4 arg6 arg7 arg11 X1 X2 X3 X4 X6 X7 X11).kt 1 (kj k2)) ((ins arg1 arg2 arg3 arg4 arg6 arg7 arg11 X1 X2 X3 X4 X6 X7 X11).dsD 1 (kj k2))) shapeCasts_S128x128_S1x1x128x128⟩ : View.Piece (Elt F) S8x17x128x128 .f32),
    (⟨Rect.unit (s := S8x17x128x128) (k0_off26 k2) S1x1x128x128.size (k0_off26_inb k2), shapeCast S1x1x128x128 (dqAdd (blk (arg8.view.read (Elt F) f8) 0 (kj k2)) (blk (ins arg1 arg2 arg3 arg4 arg6 arg7 arg11 X1 X2 X3 X4 X6 X7 X11).kt 0 (kj k2)) ((ins arg1 arg2 arg3 arg4 arg6 arg7 arg11 X1 X2 X3 X4 X6 X7 X11).dsD 0 (kj k2))) shapeCasts_S128x128_S1x1x128x128⟩ : View.Piece (Elt F) S8x17x128x128 .f32)]

/-- The key gradients' stores, newest first. -/
def outK (k2 : Fin k0_t2_loop.trips) (c : Car F) : List (View.Piece (Elt F) S8x17x128x128 .f32) :=
  [(⟨Rect.unit (s := S8x17x128x128) (k0_off40 k2) S1x1x128x128.size (k0_off40_inb k2), shapeCast S1x1x128x128 c.2.2.2.2.2.2.2.2.2.2.2.2.2.2.1 shapeCasts_S128x128_S1x1x128x128⟩ : View.Piece (Elt F) S8x17x128x128 .f32),
    (⟨Rect.unit (s := S8x17x128x128) (k0_off38 k2) S1x1x128x128.size (k0_off38_inb k2), shapeCast S1x1x128x128 c.2.2.2.2.2.2.2.2.2.2.2.2.1 shapeCasts_S128x128_S1x1x128x128⟩ : View.Piece (Elt F) S8x17x128x128 .f32),
    (⟨Rect.unit (s := S8x17x128x128) (k0_off36 k2) S1x1x128x128.size (k0_off36_inb k2), shapeCast S1x1x128x128 c.2.2.2.2.2.2.2.2.2.2.1 shapeCasts_S128x128_S1x1x128x128⟩ : View.Piece (Elt F) S8x17x128x128 .f32),
    (⟨Rect.unit (s := S8x17x128x128) (k0_off34 k2) S1x1x128x128.size (k0_off34_inb k2), shapeCast S1x1x128x128 c.2.2.2.2.2.2.2.2.1 shapeCasts_S128x128_S1x1x128x128⟩ : View.Piece (Elt F) S8x17x128x128 .f32),
    (⟨Rect.unit (s := S8x17x128x128) (k0_off32 k2) S1x1x128x128.size (k0_off32_inb k2), shapeCast S1x1x128x128 c.2.2.2.2.2.2.1 shapeCasts_S128x128_S1x1x128x128⟩ : View.Piece (Elt F) S8x17x128x128 .f32),
    (⟨Rect.unit (s := S8x17x128x128) (k0_off30 k2) S1x1x128x128.size (k0_off30_inb k2), shapeCast S1x1x128x128 c.2.2.2.2.1 shapeCasts_S128x128_S1x1x128x128⟩ : View.Piece (Elt F) S8x17x128x128 .f32),
    (⟨Rect.unit (s := S8x17x128x128) (k0_off28 k2) S1x1x128x128.size (k0_off28_inb k2), shapeCast S1x1x128x128 c.2.2.1 shapeCasts_S128x128_S1x1x128x128⟩ : View.Piece (Elt F) S8x17x128x128 .f32),
    (⟨Rect.unit (s := S8x17x128x128) (k0_off26 k2) S1x1x128x128.size (k0_off26_inb k2), shapeCast S1x1x128x128 c.1 shapeCasts_S128x128_S1x1x128x128⟩ : View.Piece (Elt F) S8x17x128x128 .f32)]

/-- The value gradients' stores, newest first. -/
def outV (k2 : Fin k0_t2_loop.trips) (c : Car F) : List (View.Piece (Elt F) S8x17x64x128 .f32) :=
  [(⟨Rect.unit (s := S8x17x64x128) (k0_off48 k2) S1x1x64x128.size (k0_off48_inb k2), shapeCast S1x1x64x128 c.2.2.2.2.2.2.2.2.2.2.2.2.2.2.2 shapeCasts_S64x128_S1x1x64x128⟩ : View.Piece (Elt F) S8x17x64x128 .f32),
    (⟨Rect.unit (s := S8x17x64x128) (k0_off47 k2) S1x1x64x128.size (k0_off47_inb k2), shapeCast S1x1x64x128 c.2.2.2.2.2.2.2.2.2.2.2.2.2.1 shapeCasts_S64x128_S1x1x64x128⟩ : View.Piece (Elt F) S8x17x64x128 .f32),
    (⟨Rect.unit (s := S8x17x64x128) (k0_off46 k2) S1x1x64x128.size (k0_off46_inb k2), shapeCast S1x1x64x128 c.2.2.2.2.2.2.2.2.2.2.2.1 shapeCasts_S64x128_S1x1x64x128⟩ : View.Piece (Elt F) S8x17x64x128 .f32),
    (⟨Rect.unit (s := S8x17x64x128) (k0_off45 k2) S1x1x64x128.size (k0_off45_inb k2), shapeCast S1x1x64x128 c.2.2.2.2.2.2.2.2.2.1 shapeCasts_S64x128_S1x1x64x128⟩ : View.Piece (Elt F) S8x17x64x128 .f32),
    (⟨Rect.unit (s := S8x17x64x128) (k0_off44 k2) S1x1x64x128.size (k0_off44_inb k2), shapeCast S1x1x64x128 c.2.2.2.2.2.2.2.1 shapeCasts_S64x128_S1x1x64x128⟩ : View.Piece (Elt F) S8x17x64x128 .f32),
    (⟨Rect.unit (s := S8x17x64x128) (k0_off43 k2) S1x1x64x128.size (k0_off43_inb k2), shapeCast S1x1x64x128 c.2.2.2.2.2.1 shapeCasts_S64x128_S1x1x64x128⟩ : View.Piece (Elt F) S8x17x64x128 .f32),
    (⟨Rect.unit (s := S8x17x64x128) (k0_off42 k2) S1x1x64x128.size (k0_off42_inb k2), shapeCast S1x1x64x128 c.2.2.2.1 shapeCasts_S64x128_S1x1x64x128⟩ : View.Piece (Elt F) S8x17x64x128 .f32),
    (⟨Rect.unit (s := S8x17x64x128) (k0_off41 k2) S1x1x64x128.size (k0_off41_inb k2), shapeCast S1x1x64x128 c.2.1 shapeCasts_S64x128_S1x1x64x128⟩ : View.Piece (Elt F) S8x17x64x128 .f32)]

/-- The diagonal block's stores with the loads as the trip spells them. -/
def rawL (f8 : BufTy.Contents (Elt F) arg8.view.ty) : List (View.Piece (Elt F) S8x17x128x128 .f32) :=
  [(⟨Rect.unit (s := S8x17x128x128) (k0_off40 k2) S1x1x128x128.size (k0_off40_inb k2), shapeCast S1x1x128x128 (dqAdd (shapeCast S128x128 (arg8.view.readAt (Elt F) (Rect.unit (s := S8x17x128x128) (k0_off40 k2) S1x1x128x128.size (k0_off40_inb k2)).toLoadRect f8) shapeCasts_S1x1x128x128_S128x128) (shapeCast S128x128 (arg2.view.readAt (Elt F) (Rect.unit (s := S8x17x128x128) (k0_off40 k2) S1x1x128x128.size (k0_off40_inb k2)).toLoadRect X2) shapeCasts_S1x1x128x128_S128x128) (dsT (pT (select k0_pay1 (sT (shapeCast S128x128 (arg3.view.readAt (Elt F) (Rect.unit (s := S8x2176x128) (k0_off39 k2) S1x128x128.size (k0_off39_inb k2)).toLoadRect X3) shapeCasts_S1x128x128_S128x128) (shapeCast S128x128 (arg1.view.readAt (Elt F) (Rect.unit (s := S8x17x128x128) (k0_off40 k2) S1x1x128x128.size (k0_off40_inb k2)).toLoadRect X1) shapeCasts_S1x1x128x128_S128x128)) (broadcast S128x128 (Named.named κ "mask" 0xF149F2CA#32))) (shapeCast S1x128 (arg7.view.readAt (Elt F) (Rect.unit (s := S8x17x1x128) (k0_off56 k2) S1x1x1x128.size (k0_off56_inb k2)).toLoadRect X7) shapeCasts_S1x1x1x128_S1x128)) (dpT (shapeCast S64x128 (arg4.view.readAt (Elt F) (Rect.unit (s := S8x17x64x128) (k0_off48 k2) S1x1x64x128.size (k0_off48_inb k2)).toLoadRect X4) shapeCasts_S1x1x64x128_S64x128) (shapeCast S64x128 (arg6.view.readAt (Elt F) (Rect.unit (s := S8x17x64x128) (k0_off48 k2) S1x1x64x128.size (k0_off48_inb k2)).toLoadRect X6) shapeCasts_S1x1x64x128_S64x128)) (shapeCast S1x128 (arg11.view.readAt (Elt F) (Rect.unit (s := S8x17x1x128) (k0_off56 k2) S1x1x1x128.size (k0_off56_inb k2)).toLoadRect X11) shapeCasts_S1x1x1x128_S1x128))) shapeCasts_S128x128_S1x1x128x128⟩ : View.Piece (Elt F) S8x17x128x128 .f32),
    (⟨Rect.unit (s := S8x17x128x128) (k0_off38 k2) S1x1x128x128.size (k0_off38_inb k2), shapeCast S1x1x128x128 (dqAdd (shapeCast S128x128 (arg8.view.readAt (Elt F) (Rect.unit (s := S8x17x128x128) (k0_off38 k2) S1x1x128x128.size (k0_off38_inb k2)).toLoadRect f8) shapeCasts_S1x1x128x128_S128x128) (shapeCast S128x128 (arg2.view.readAt (Elt F) (Rect.unit (s := S8x17x128x128) (k0_off38 k2) S1x1x128x128.size (k0_off38_inb k2)).toLoadRect X2) shapeCasts_S1x1x128x128_S128x128) (dsT (pT (select k0_pay1 (sT (shapeCast S128x128 (arg3.view.readAt (Elt F) (Rect.unit (s := S8x2176x128) (k0_off37 k2) S1x128x128.size (k0_off37_inb k2)).toLoadRect X3) shapeCasts_S1x128x128_S128x128) (shapeCast S128x128 (arg1.view.readAt (Elt F) (Rect.unit (s := S8x17x128x128) (k0_off38 k2) S1x1x128x128.size (k0_off38_inb k2)).toLoadRect X1) shapeCasts_S1x1x128x128_S128x128)) (broadcast S128x128 (Named.named κ "mask" 0xF149F2CA#32))) (shapeCast S1x128 (arg7.view.readAt (Elt F) (Rect.unit (s := S8x17x1x128) (k0_off55 k2) S1x1x1x128.size (k0_off55_inb k2)).toLoadRect X7) shapeCasts_S1x1x1x128_S1x128)) (dpT (shapeCast S64x128 (arg4.view.readAt (Elt F) (Rect.unit (s := S8x17x64x128) (k0_off47 k2) S1x1x64x128.size (k0_off47_inb k2)).toLoadRect X4) shapeCasts_S1x1x64x128_S64x128) (shapeCast S64x128 (arg6.view.readAt (Elt F) (Rect.unit (s := S8x17x64x128) (k0_off47 k2) S1x1x64x128.size (k0_off47_inb k2)).toLoadRect X6) shapeCasts_S1x1x64x128_S64x128)) (shapeCast S1x128 (arg11.view.readAt (Elt F) (Rect.unit (s := S8x17x1x128) (k0_off55 k2) S1x1x1x128.size (k0_off55_inb k2)).toLoadRect X11) shapeCasts_S1x1x1x128_S1x128))) shapeCasts_S128x128_S1x1x128x128⟩ : View.Piece (Elt F) S8x17x128x128 .f32),
    (⟨Rect.unit (s := S8x17x128x128) (k0_off36 k2) S1x1x128x128.size (k0_off36_inb k2), shapeCast S1x1x128x128 (dqAdd (shapeCast S128x128 (arg8.view.readAt (Elt F) (Rect.unit (s := S8x17x128x128) (k0_off36 k2) S1x1x128x128.size (k0_off36_inb k2)).toLoadRect f8) shapeCasts_S1x1x128x128_S128x128) (shapeCast S128x128 (arg2.view.readAt (Elt F) (Rect.unit (s := S8x17x128x128) (k0_off36 k2) S1x1x128x128.size (k0_off36_inb k2)).toLoadRect X2) shapeCasts_S1x1x128x128_S128x128) (dsT (pT (select k0_pay1 (sT (shapeCast S128x128 (arg3.view.readAt (Elt F) (Rect.unit (s := S8x2176x128) (k0_off35 k2) S1x128x128.size (k0_off35_inb k2)).toLoadRect X3) shapeCasts_S1x128x128_S128x128) (shapeCast S128x128 (arg1.view.readAt (Elt F) (Rect.unit (s := S8x17x128x128) (k0_off36 k2) S1x1x128x128.size (k0_off36_inb k2)).toLoadRect X1) shapeCasts_S1x1x128x128_S128x128)) (broadcast S128x128 (Named.named κ "mask" 0xF149F2CA#32))) (shapeCast S1x128 (arg7.view.readAt (Elt F) (Rect.unit (s := S8x17x1x128) (k0_off54 k2) S1x1x1x128.size (k0_off54_inb k2)).toLoadRect X7) shapeCasts_S1x1x1x128_S1x128)) (dpT (shapeCast S64x128 (arg4.view.readAt (Elt F) (Rect.unit (s := S8x17x64x128) (k0_off46 k2) S1x1x64x128.size (k0_off46_inb k2)).toLoadRect X4) shapeCasts_S1x1x64x128_S64x128) (shapeCast S64x128 (arg6.view.readAt (Elt F) (Rect.unit (s := S8x17x64x128) (k0_off46 k2) S1x1x64x128.size (k0_off46_inb k2)).toLoadRect X6) shapeCasts_S1x1x64x128_S64x128)) (shapeCast S1x128 (arg11.view.readAt (Elt F) (Rect.unit (s := S8x17x1x128) (k0_off54 k2) S1x1x1x128.size (k0_off54_inb k2)).toLoadRect X11) shapeCasts_S1x1x1x128_S1x128))) shapeCasts_S128x128_S1x1x128x128⟩ : View.Piece (Elt F) S8x17x128x128 .f32),
    (⟨Rect.unit (s := S8x17x128x128) (k0_off34 k2) S1x1x128x128.size (k0_off34_inb k2), shapeCast S1x1x128x128 (dqAdd (shapeCast S128x128 (arg8.view.readAt (Elt F) (Rect.unit (s := S8x17x128x128) (k0_off34 k2) S1x1x128x128.size (k0_off34_inb k2)).toLoadRect f8) shapeCasts_S1x1x128x128_S128x128) (shapeCast S128x128 (arg2.view.readAt (Elt F) (Rect.unit (s := S8x17x128x128) (k0_off34 k2) S1x1x128x128.size (k0_off34_inb k2)).toLoadRect X2) shapeCasts_S1x1x128x128_S128x128) (dsT (pT (select k0_pay1 (sT (shapeCast S128x128 (arg3.view.readAt (Elt F) (Rect.unit (s := S8x2176x128) (k0_off33 k2) S1x128x128.size (k0_off33_inb k2)).toLoadRect X3) shapeCasts_S1x128x128_S128x128) (shapeCast S128x128 (arg1.view.readAt (Elt F) (Rect.unit (s := S8x17x128x128) (k0_off34 k2) S1x1x128x128.size (k0_off34_inb k2)).toLoadRect X1) shapeCasts_S1x1x128x128_S128x128)) (broadcast S128x128 (Named.named κ "mask" 0xF149F2CA#32))) (shapeCast S1x128 (arg7.view.readAt (Elt F) (Rect.unit (s := S8x17x1x128) (k0_off53 k2) S1x1x1x128.size (k0_off53_inb k2)).toLoadRect X7) shapeCasts_S1x1x1x128_S1x128)) (dpT (shapeCast S64x128 (arg4.view.readAt (Elt F) (Rect.unit (s := S8x17x64x128) (k0_off45 k2) S1x1x64x128.size (k0_off45_inb k2)).toLoadRect X4) shapeCasts_S1x1x64x128_S64x128) (shapeCast S64x128 (arg6.view.readAt (Elt F) (Rect.unit (s := S8x17x64x128) (k0_off45 k2) S1x1x64x128.size (k0_off45_inb k2)).toLoadRect X6) shapeCasts_S1x1x64x128_S64x128)) (shapeCast S1x128 (arg11.view.readAt (Elt F) (Rect.unit (s := S8x17x1x128) (k0_off53 k2) S1x1x1x128.size (k0_off53_inb k2)).toLoadRect X11) shapeCasts_S1x1x1x128_S1x128))) shapeCasts_S128x128_S1x1x128x128⟩ : View.Piece (Elt F) S8x17x128x128 .f32),
    (⟨Rect.unit (s := S8x17x128x128) (k0_off32 k2) S1x1x128x128.size (k0_off32_inb k2), shapeCast S1x1x128x128 (dqAdd (shapeCast S128x128 (arg8.view.readAt (Elt F) (Rect.unit (s := S8x17x128x128) (k0_off32 k2) S1x1x128x128.size (k0_off32_inb k2)).toLoadRect f8) shapeCasts_S1x1x128x128_S128x128) (shapeCast S128x128 (arg2.view.readAt (Elt F) (Rect.unit (s := S8x17x128x128) (k0_off32 k2) S1x1x128x128.size (k0_off32_inb k2)).toLoadRect X2) shapeCasts_S1x1x128x128_S128x128) (dsT (pT (select k0_pay1 (sT (shapeCast S128x128 (arg3.view.readAt (Elt F) (Rect.unit (s := S8x2176x128) (k0_off31 k2) S1x128x128.size (k0_off31_inb k2)).toLoadRect X3) shapeCasts_S1x128x128_S128x128) (shapeCast S128x128 (arg1.view.readAt (Elt F) (Rect.unit (s := S8x17x128x128) (k0_off32 k2) S1x1x128x128.size (k0_off32_inb k2)).toLoadRect X1) shapeCasts_S1x1x128x128_S128x128)) (broadcast S128x128 (Named.named κ "mask" 0xF149F2CA#32))) (shapeCast S1x128 (arg7.view.readAt (Elt F) (Rect.unit (s := S8x17x1x128) (k0_off52 k2) S1x1x1x128.size (k0_off52_inb k2)).toLoadRect X7) shapeCasts_S1x1x1x128_S1x128)) (dpT (shapeCast S64x128 (arg4.view.readAt (Elt F) (Rect.unit (s := S8x17x64x128) (k0_off44 k2) S1x1x64x128.size (k0_off44_inb k2)).toLoadRect X4) shapeCasts_S1x1x64x128_S64x128) (shapeCast S64x128 (arg6.view.readAt (Elt F) (Rect.unit (s := S8x17x64x128) (k0_off44 k2) S1x1x64x128.size (k0_off44_inb k2)).toLoadRect X6) shapeCasts_S1x1x64x128_S64x128)) (shapeCast S1x128 (arg11.view.readAt (Elt F) (Rect.unit (s := S8x17x1x128) (k0_off52 k2) S1x1x1x128.size (k0_off52_inb k2)).toLoadRect X11) shapeCasts_S1x1x1x128_S1x128))) shapeCasts_S128x128_S1x1x128x128⟩ : View.Piece (Elt F) S8x17x128x128 .f32),
    (⟨Rect.unit (s := S8x17x128x128) (k0_off30 k2) S1x1x128x128.size (k0_off30_inb k2), shapeCast S1x1x128x128 (dqAdd (shapeCast S128x128 (arg8.view.readAt (Elt F) (Rect.unit (s := S8x17x128x128) (k0_off30 k2) S1x1x128x128.size (k0_off30_inb k2)).toLoadRect f8) shapeCasts_S1x1x128x128_S128x128) (shapeCast S128x128 (arg2.view.readAt (Elt F) (Rect.unit (s := S8x17x128x128) (k0_off30 k2) S1x1x128x128.size (k0_off30_inb k2)).toLoadRect X2) shapeCasts_S1x1x128x128_S128x128) (dsT (pT (select k0_pay1 (sT (shapeCast S128x128 (arg3.view.readAt (Elt F) (Rect.unit (s := S8x2176x128) (k0_off29 k2) S1x128x128.size (k0_off29_inb k2)).toLoadRect X3) shapeCasts_S1x128x128_S128x128) (shapeCast S128x128 (arg1.view.readAt (Elt F) (Rect.unit (s := S8x17x128x128) (k0_off30 k2) S1x1x128x128.size (k0_off30_inb k2)).toLoadRect X1) shapeCasts_S1x1x128x128_S128x128)) (broadcast S128x128 (Named.named κ "mask" 0xF149F2CA#32))) (shapeCast S1x128 (arg7.view.readAt (Elt F) (Rect.unit (s := S8x17x1x128) (k0_off51 k2) S1x1x1x128.size (k0_off51_inb k2)).toLoadRect X7) shapeCasts_S1x1x1x128_S1x128)) (dpT (shapeCast S64x128 (arg4.view.readAt (Elt F) (Rect.unit (s := S8x17x64x128) (k0_off43 k2) S1x1x64x128.size (k0_off43_inb k2)).toLoadRect X4) shapeCasts_S1x1x64x128_S64x128) (shapeCast S64x128 (arg6.view.readAt (Elt F) (Rect.unit (s := S8x17x64x128) (k0_off43 k2) S1x1x64x128.size (k0_off43_inb k2)).toLoadRect X6) shapeCasts_S1x1x64x128_S64x128)) (shapeCast S1x128 (arg11.view.readAt (Elt F) (Rect.unit (s := S8x17x1x128) (k0_off51 k2) S1x1x1x128.size (k0_off51_inb k2)).toLoadRect X11) shapeCasts_S1x1x1x128_S1x128))) shapeCasts_S128x128_S1x1x128x128⟩ : View.Piece (Elt F) S8x17x128x128 .f32),
    (⟨Rect.unit (s := S8x17x128x128) (k0_off28 k2) S1x1x128x128.size (k0_off28_inb k2), shapeCast S1x1x128x128 (dqAdd (shapeCast S128x128 (arg8.view.readAt (Elt F) (Rect.unit (s := S8x17x128x128) (k0_off28 k2) S1x1x128x128.size (k0_off28_inb k2)).toLoadRect f8) shapeCasts_S1x1x128x128_S128x128) (shapeCast S128x128 (arg2.view.readAt (Elt F) (Rect.unit (s := S8x17x128x128) (k0_off28 k2) S1x1x128x128.size (k0_off28_inb k2)).toLoadRect X2) shapeCasts_S1x1x128x128_S128x128) (dsT (pT (select k0_pay1 (sT (shapeCast S128x128 (arg3.view.readAt (Elt F) (Rect.unit (s := S8x2176x128) (k0_off27 k2) S1x128x128.size (k0_off27_inb k2)).toLoadRect X3) shapeCasts_S1x128x128_S128x128) (shapeCast S128x128 (arg1.view.readAt (Elt F) (Rect.unit (s := S8x17x128x128) (k0_off28 k2) S1x1x128x128.size (k0_off28_inb k2)).toLoadRect X1) shapeCasts_S1x1x128x128_S128x128)) (broadcast S128x128 (Named.named κ "mask" 0xF149F2CA#32))) (shapeCast S1x128 (arg7.view.readAt (Elt F) (Rect.unit (s := S8x17x1x128) (k0_off50 k2) S1x1x1x128.size (k0_off50_inb k2)).toLoadRect X7) shapeCasts_S1x1x1x128_S1x128)) (dpT (shapeCast S64x128 (arg4.view.readAt (Elt F) (Rect.unit (s := S8x17x64x128) (k0_off42 k2) S1x1x64x128.size (k0_off42_inb k2)).toLoadRect X4) shapeCasts_S1x1x64x128_S64x128) (shapeCast S64x128 (arg6.view.readAt (Elt F) (Rect.unit (s := S8x17x64x128) (k0_off42 k2) S1x1x64x128.size (k0_off42_inb k2)).toLoadRect X6) shapeCasts_S1x1x64x128_S64x128)) (shapeCast S1x128 (arg11.view.readAt (Elt F) (Rect.unit (s := S8x17x1x128) (k0_off50 k2) S1x1x1x128.size (k0_off50_inb k2)).toLoadRect X11) shapeCasts_S1x1x1x128_S1x128))) shapeCasts_S128x128_S1x1x128x128⟩ : View.Piece (Elt F) S8x17x128x128 .f32),
    (⟨Rect.unit (s := S8x17x128x128) (k0_off26 k2) S1x1x128x128.size (k0_off26_inb k2), shapeCast S1x1x128x128 (dqAdd (shapeCast S128x128 (arg8.view.readAt (Elt F) (Rect.unit (s := S8x17x128x128) (k0_off26 k2) S1x1x128x128.size (k0_off26_inb k2)).toLoadRect f8) shapeCasts_S1x1x128x128_S128x128) (shapeCast S128x128 (arg2.view.readAt (Elt F) (Rect.unit (s := S8x17x128x128) (k0_off26 k2) S1x1x128x128.size (k0_off26_inb k2)).toLoadRect X2) shapeCasts_S1x1x128x128_S128x128) (dsT (pT (select k0_pay1 (sT (shapeCast S128x128 (arg3.view.readAt (Elt F) (Rect.unit (s := S8x2176x128) (k0_off25 k2) S1x128x128.size (k0_off25_inb k2)).toLoadRect X3) shapeCasts_S1x128x128_S128x128) (shapeCast S128x128 (arg1.view.readAt (Elt F) (Rect.unit (s := S8x17x128x128) (k0_off26 k2) S1x1x128x128.size (k0_off26_inb k2)).toLoadRect X1) shapeCasts_S1x1x128x128_S128x128)) (broadcast S128x128 (Named.named κ "mask" 0xF149F2CA#32))) (shapeCast S1x128 (arg7.view.readAt (Elt F) (Rect.unit (s := S8x17x1x128) (k0_off49 k2) S1x1x1x128.size (k0_off49_inb k2)).toLoadRect X7) shapeCasts_S1x1x1x128_S1x128)) (dpT (shapeCast S64x128 (arg4.view.readAt (Elt F) (Rect.unit (s := S8x17x64x128) (k0_off41 k2) S1x1x64x128.size (k0_off41_inb k2)).toLoadRect X4) shapeCasts_S1x1x64x128_S64x128) (shapeCast S64x128 (arg6.view.readAt (Elt F) (Rect.unit (s := S8x17x64x128) (k0_off41 k2) S1x1x64x128.size (k0_off41_inb k2)).toLoadRect X6) shapeCasts_S1x1x64x128_S64x128)) (shapeCast S1x128 (arg11.view.readAt (Elt F) (Rect.unit (s := S8x17x1x128) (k0_off49 k2) S1x1x1x128.size (k0_off49_inb k2)).toLoadRect X11) shapeCasts_S1x1x1x128_S1x128))) shapeCasts_S128x128_S1x1x128x128⟩ : View.Piece (Elt F) S8x17x128x128 .f32)]

/-- The diagonal block's carried gradients with the loads as the trip spells them. -/
def rawAcc : Car F := (dkAdd (broadcast S128x128 (FloatOps.ofBits .f32 0x00000000#32)) (shapeCast S128x128 (arg1.view.readAt (Elt F) (Rect.unit (s := S8x17x128x128) (k0_off26 k2) S1x1x128x128.size (k0_off26_inb k2)).toLoadRect X1) shapeCasts_S1x1x128x128_S128x128) (dsT (pT (select k0_pay1 (sT (shapeCast S128x128 (arg3.view.readAt (Elt F) (Rect.unit (s := S8x2176x128) (k0_off25 k2) S1x128x128.size (k0_off25_inb k2)).toLoadRect X3) shapeCasts_S1x128x128_S128x128) (shapeCast S128x128 (arg1.view.readAt (Elt F) (Rect.unit (s := S8x17x128x128) (k0_off26 k2) S1x1x128x128.size (k0_off26_inb k2)).toLoadRect X1) shapeCasts_S1x1x128x128_S128x128)) (broadcast S128x128 (Named.named κ "mask" 0xF149F2CA#32))) (shapeCast S1x128 (arg7.view.readAt (Elt F) (Rect.unit (s := S8x17x1x128) (k0_off49 k2) S1x1x1x128.size (k0_off49_inb k2)).toLoadRect X7) shapeCasts_S1x1x1x128_S1x128)) (dpT (shapeCast S64x128 (arg4.view.readAt (Elt F) (Rect.unit (s := S8x17x64x128) (k0_off41 k2) S1x1x64x128.size (k0_off41_inb k2)).toLoadRect X4) shapeCasts_S1x1x64x128_S64x128) (shapeCast S64x128 (arg6.view.readAt (Elt F) (Rect.unit (s := S8x17x64x128) (k0_off41 k2) S1x1x64x128.size (k0_off41_inb k2)).toLoadRect X6) shapeCasts_S1x1x64x128_S64x128)) (shapeCast S1x128 (arg11.view.readAt (Elt F) (Rect.unit (s := S8x17x1x128) (k0_off49 k2) S1x1x1x128.size (k0_off49_inb k2)).toLoadRect X11) shapeCasts_S1x1x1x128_S1x128)),
    dvAdd (broadcast S64x128 (FloatOps.ofBits .f32 0x00000000#32)) (shapeCast S64x128 (arg6.view.readAt (Elt F) (Rect.unit (s := S8x17x64x128) (k0_off41 k2) S1x1x64x128.size (k0_off41_inb k2)).toLoadRect X6) shapeCasts_S1x1x64x128_S64x128) (pT (select k0_pay1 (sT (shapeCast S128x128 (arg3.view.readAt (Elt F) (Rect.unit (s := S8x2176x128) (k0_off25 k2) S1x128x128.size (k0_off25_inb k2)).toLoadRect X3) shapeCasts_S1x128x128_S128x128) (shapeCast S128x128 (arg1.view.readAt (Elt F) (Rect.unit (s := S8x17x128x128) (k0_off26 k2) S1x1x128x128.size (k0_off26_inb k2)).toLoadRect X1) shapeCasts_S1x1x128x128_S128x128)) (broadcast S128x128 (Named.named κ "mask" 0xF149F2CA#32))) (shapeCast S1x128 (arg7.view.readAt (Elt F) (Rect.unit (s := S8x17x1x128) (k0_off49 k2) S1x1x1x128.size (k0_off49_inb k2)).toLoadRect X7) shapeCasts_S1x1x1x128_S1x128)), dkAdd (broadcast S128x128 (FloatOps.ofBits .f32 0x00000000#32)) (shapeCast S128x128 (arg1.view.readAt (Elt F) (Rect.unit (s := S8x17x128x128) (k0_off28 k2) S1x1x128x128.size (k0_off28_inb k2)).toLoadRect X1) shapeCasts_S1x1x128x128_S128x128) (dsT (pT (select k0_pay1 (sT (shapeCast S128x128 (arg3.view.readAt (Elt F) (Rect.unit (s := S8x2176x128) (k0_off27 k2) S1x128x128.size (k0_off27_inb k2)).toLoadRect X3) shapeCasts_S1x128x128_S128x128) (shapeCast S128x128 (arg1.view.readAt (Elt F) (Rect.unit (s := S8x17x128x128) (k0_off28 k2) S1x1x128x128.size (k0_off28_inb k2)).toLoadRect X1) shapeCasts_S1x1x128x128_S128x128)) (broadcast S128x128 (Named.named κ "mask" 0xF149F2CA#32))) (shapeCast S1x128 (arg7.view.readAt (Elt F) (Rect.unit (s := S8x17x1x128) (k0_off50 k2) S1x1x1x128.size (k0_off50_inb k2)).toLoadRect X7) shapeCasts_S1x1x1x128_S1x128)) (dpT (shapeCast S64x128 (arg4.view.readAt (Elt F) (Rect.unit (s := S8x17x64x128) (k0_off42 k2) S1x1x64x128.size (k0_off42_inb k2)).toLoadRect X4) shapeCasts_S1x1x64x128_S64x128) (shapeCast S64x128 (arg6.view.readAt (Elt F) (Rect.unit (s := S8x17x64x128) (k0_off42 k2) S1x1x64x128.size (k0_off42_inb k2)).toLoadRect X6) shapeCasts_S1x1x64x128_S64x128)) (shapeCast S1x128 (arg11.view.readAt (Elt F) (Rect.unit (s := S8x17x1x128) (k0_off50 k2) S1x1x1x128.size (k0_off50_inb k2)).toLoadRect X11) shapeCasts_S1x1x1x128_S1x128)),
    dvAdd (broadcast S64x128 (FloatOps.ofBits .f32 0x00000000#32)) (shapeCast S64x128 (arg6.view.readAt (Elt F) (Rect.unit (s := S8x17x64x128) (k0_off42 k2) S1x1x64x128.size (k0_off42_inb k2)).toLoadRect X6) shapeCasts_S1x1x64x128_S64x128) (pT (select k0_pay1 (sT (shapeCast S128x128 (arg3.view.readAt (Elt F) (Rect.unit (s := S8x2176x128) (k0_off27 k2) S1x128x128.size (k0_off27_inb k2)).toLoadRect X3) shapeCasts_S1x128x128_S128x128) (shapeCast S128x128 (arg1.view.readAt (Elt F) (Rect.unit (s := S8x17x128x128) (k0_off28 k2) S1x1x128x128.size (k0_off28_inb k2)).toLoadRect X1) shapeCasts_S1x1x128x128_S128x128)) (broadcast S128x128 (Named.named κ "mask" 0xF149F2CA#32))) (shapeCast S1x128 (arg7.view.readAt (Elt F) (Rect.unit (s := S8x17x1x128) (k0_off50 k2) S1x1x1x128.size (k0_off50_inb k2)).toLoadRect X7) shapeCasts_S1x1x1x128_S1x128)), dkAdd (broadcast S128x128 (FloatOps.ofBits .f32 0x00000000#32)) (shapeCast S128x128 (arg1.view.readAt (Elt F) (Rect.unit (s := S8x17x128x128) (k0_off30 k2) S1x1x128x128.size (k0_off30_inb k2)).toLoadRect X1) shapeCasts_S1x1x128x128_S128x128) (dsT (pT (select k0_pay1 (sT (shapeCast S128x128 (arg3.view.readAt (Elt F) (Rect.unit (s := S8x2176x128) (k0_off29 k2) S1x128x128.size (k0_off29_inb k2)).toLoadRect X3) shapeCasts_S1x128x128_S128x128) (shapeCast S128x128 (arg1.view.readAt (Elt F) (Rect.unit (s := S8x17x128x128) (k0_off30 k2) S1x1x128x128.size (k0_off30_inb k2)).toLoadRect X1) shapeCasts_S1x1x128x128_S128x128)) (broadcast S128x128 (Named.named κ "mask" 0xF149F2CA#32))) (shapeCast S1x128 (arg7.view.readAt (Elt F) (Rect.unit (s := S8x17x1x128) (k0_off51 k2) S1x1x1x128.size (k0_off51_inb k2)).toLoadRect X7) shapeCasts_S1x1x1x128_S1x128)) (dpT (shapeCast S64x128 (arg4.view.readAt (Elt F) (Rect.unit (s := S8x17x64x128) (k0_off43 k2) S1x1x64x128.size (k0_off43_inb k2)).toLoadRect X4) shapeCasts_S1x1x64x128_S64x128) (shapeCast S64x128 (arg6.view.readAt (Elt F) (Rect.unit (s := S8x17x64x128) (k0_off43 k2) S1x1x64x128.size (k0_off43_inb k2)).toLoadRect X6) shapeCasts_S1x1x64x128_S64x128)) (shapeCast S1x128 (arg11.view.readAt (Elt F) (Rect.unit (s := S8x17x1x128) (k0_off51 k2) S1x1x1x128.size (k0_off51_inb k2)).toLoadRect X11) shapeCasts_S1x1x1x128_S1x128)),
    dvAdd (broadcast S64x128 (FloatOps.ofBits .f32 0x00000000#32)) (shapeCast S64x128 (arg6.view.readAt (Elt F) (Rect.unit (s := S8x17x64x128) (k0_off43 k2) S1x1x64x128.size (k0_off43_inb k2)).toLoadRect X6) shapeCasts_S1x1x64x128_S64x128) (pT (select k0_pay1 (sT (shapeCast S128x128 (arg3.view.readAt (Elt F) (Rect.unit (s := S8x2176x128) (k0_off29 k2) S1x128x128.size (k0_off29_inb k2)).toLoadRect X3) shapeCasts_S1x128x128_S128x128) (shapeCast S128x128 (arg1.view.readAt (Elt F) (Rect.unit (s := S8x17x128x128) (k0_off30 k2) S1x1x128x128.size (k0_off30_inb k2)).toLoadRect X1) shapeCasts_S1x1x128x128_S128x128)) (broadcast S128x128 (Named.named κ "mask" 0xF149F2CA#32))) (shapeCast S1x128 (arg7.view.readAt (Elt F) (Rect.unit (s := S8x17x1x128) (k0_off51 k2) S1x1x1x128.size (k0_off51_inb k2)).toLoadRect X7) shapeCasts_S1x1x1x128_S1x128)), dkAdd (broadcast S128x128 (FloatOps.ofBits .f32 0x00000000#32)) (shapeCast S128x128 (arg1.view.readAt (Elt F) (Rect.unit (s := S8x17x128x128) (k0_off32 k2) S1x1x128x128.size (k0_off32_inb k2)).toLoadRect X1) shapeCasts_S1x1x128x128_S128x128) (dsT (pT (select k0_pay1 (sT (shapeCast S128x128 (arg3.view.readAt (Elt F) (Rect.unit (s := S8x2176x128) (k0_off31 k2) S1x128x128.size (k0_off31_inb k2)).toLoadRect X3) shapeCasts_S1x128x128_S128x128) (shapeCast S128x128 (arg1.view.readAt (Elt F) (Rect.unit (s := S8x17x128x128) (k0_off32 k2) S1x1x128x128.size (k0_off32_inb k2)).toLoadRect X1) shapeCasts_S1x1x128x128_S128x128)) (broadcast S128x128 (Named.named κ "mask" 0xF149F2CA#32))) (shapeCast S1x128 (arg7.view.readAt (Elt F) (Rect.unit (s := S8x17x1x128) (k0_off52 k2) S1x1x1x128.size (k0_off52_inb k2)).toLoadRect X7) shapeCasts_S1x1x1x128_S1x128)) (dpT (shapeCast S64x128 (arg4.view.readAt (Elt F) (Rect.unit (s := S8x17x64x128) (k0_off44 k2) S1x1x64x128.size (k0_off44_inb k2)).toLoadRect X4) shapeCasts_S1x1x64x128_S64x128) (shapeCast S64x128 (arg6.view.readAt (Elt F) (Rect.unit (s := S8x17x64x128) (k0_off44 k2) S1x1x64x128.size (k0_off44_inb k2)).toLoadRect X6) shapeCasts_S1x1x64x128_S64x128)) (shapeCast S1x128 (arg11.view.readAt (Elt F) (Rect.unit (s := S8x17x1x128) (k0_off52 k2) S1x1x1x128.size (k0_off52_inb k2)).toLoadRect X11) shapeCasts_S1x1x1x128_S1x128)),
    dvAdd (broadcast S64x128 (FloatOps.ofBits .f32 0x00000000#32)) (shapeCast S64x128 (arg6.view.readAt (Elt F) (Rect.unit (s := S8x17x64x128) (k0_off44 k2) S1x1x64x128.size (k0_off44_inb k2)).toLoadRect X6) shapeCasts_S1x1x64x128_S64x128) (pT (select k0_pay1 (sT (shapeCast S128x128 (arg3.view.readAt (Elt F) (Rect.unit (s := S8x2176x128) (k0_off31 k2) S1x128x128.size (k0_off31_inb k2)).toLoadRect X3) shapeCasts_S1x128x128_S128x128) (shapeCast S128x128 (arg1.view.readAt (Elt F) (Rect.unit (s := S8x17x128x128) (k0_off32 k2) S1x1x128x128.size (k0_off32_inb k2)).toLoadRect X1) shapeCasts_S1x1x128x128_S128x128)) (broadcast S128x128 (Named.named κ "mask" 0xF149F2CA#32))) (shapeCast S1x128 (arg7.view.readAt (Elt F) (Rect.unit (s := S8x17x1x128) (k0_off52 k2) S1x1x1x128.size (k0_off52_inb k2)).toLoadRect X7) shapeCasts_S1x1x1x128_S1x128)), dkAdd (broadcast S128x128 (FloatOps.ofBits .f32 0x00000000#32)) (shapeCast S128x128 (arg1.view.readAt (Elt F) (Rect.unit (s := S8x17x128x128) (k0_off34 k2) S1x1x128x128.size (k0_off34_inb k2)).toLoadRect X1) shapeCasts_S1x1x128x128_S128x128) (dsT (pT (select k0_pay1 (sT (shapeCast S128x128 (arg3.view.readAt (Elt F) (Rect.unit (s := S8x2176x128) (k0_off33 k2) S1x128x128.size (k0_off33_inb k2)).toLoadRect X3) shapeCasts_S1x128x128_S128x128) (shapeCast S128x128 (arg1.view.readAt (Elt F) (Rect.unit (s := S8x17x128x128) (k0_off34 k2) S1x1x128x128.size (k0_off34_inb k2)).toLoadRect X1) shapeCasts_S1x1x128x128_S128x128)) (broadcast S128x128 (Named.named κ "mask" 0xF149F2CA#32))) (shapeCast S1x128 (arg7.view.readAt (Elt F) (Rect.unit (s := S8x17x1x128) (k0_off53 k2) S1x1x1x128.size (k0_off53_inb k2)).toLoadRect X7) shapeCasts_S1x1x1x128_S1x128)) (dpT (shapeCast S64x128 (arg4.view.readAt (Elt F) (Rect.unit (s := S8x17x64x128) (k0_off45 k2) S1x1x64x128.size (k0_off45_inb k2)).toLoadRect X4) shapeCasts_S1x1x64x128_S64x128) (shapeCast S64x128 (arg6.view.readAt (Elt F) (Rect.unit (s := S8x17x64x128) (k0_off45 k2) S1x1x64x128.size (k0_off45_inb k2)).toLoadRect X6) shapeCasts_S1x1x64x128_S64x128)) (shapeCast S1x128 (arg11.view.readAt (Elt F) (Rect.unit (s := S8x17x1x128) (k0_off53 k2) S1x1x1x128.size (k0_off53_inb k2)).toLoadRect X11) shapeCasts_S1x1x1x128_S1x128)),
    dvAdd (broadcast S64x128 (FloatOps.ofBits .f32 0x00000000#32)) (shapeCast S64x128 (arg6.view.readAt (Elt F) (Rect.unit (s := S8x17x64x128) (k0_off45 k2) S1x1x64x128.size (k0_off45_inb k2)).toLoadRect X6) shapeCasts_S1x1x64x128_S64x128) (pT (select k0_pay1 (sT (shapeCast S128x128 (arg3.view.readAt (Elt F) (Rect.unit (s := S8x2176x128) (k0_off33 k2) S1x128x128.size (k0_off33_inb k2)).toLoadRect X3) shapeCasts_S1x128x128_S128x128) (shapeCast S128x128 (arg1.view.readAt (Elt F) (Rect.unit (s := S8x17x128x128) (k0_off34 k2) S1x1x128x128.size (k0_off34_inb k2)).toLoadRect X1) shapeCasts_S1x1x128x128_S128x128)) (broadcast S128x128 (Named.named κ "mask" 0xF149F2CA#32))) (shapeCast S1x128 (arg7.view.readAt (Elt F) (Rect.unit (s := S8x17x1x128) (k0_off53 k2) S1x1x1x128.size (k0_off53_inb k2)).toLoadRect X7) shapeCasts_S1x1x1x128_S1x128)), dkAdd (broadcast S128x128 (FloatOps.ofBits .f32 0x00000000#32)) (shapeCast S128x128 (arg1.view.readAt (Elt F) (Rect.unit (s := S8x17x128x128) (k0_off36 k2) S1x1x128x128.size (k0_off36_inb k2)).toLoadRect X1) shapeCasts_S1x1x128x128_S128x128) (dsT (pT (select k0_pay1 (sT (shapeCast S128x128 (arg3.view.readAt (Elt F) (Rect.unit (s := S8x2176x128) (k0_off35 k2) S1x128x128.size (k0_off35_inb k2)).toLoadRect X3) shapeCasts_S1x128x128_S128x128) (shapeCast S128x128 (arg1.view.readAt (Elt F) (Rect.unit (s := S8x17x128x128) (k0_off36 k2) S1x1x128x128.size (k0_off36_inb k2)).toLoadRect X1) shapeCasts_S1x1x128x128_S128x128)) (broadcast S128x128 (Named.named κ "mask" 0xF149F2CA#32))) (shapeCast S1x128 (arg7.view.readAt (Elt F) (Rect.unit (s := S8x17x1x128) (k0_off54 k2) S1x1x1x128.size (k0_off54_inb k2)).toLoadRect X7) shapeCasts_S1x1x1x128_S1x128)) (dpT (shapeCast S64x128 (arg4.view.readAt (Elt F) (Rect.unit (s := S8x17x64x128) (k0_off46 k2) S1x1x64x128.size (k0_off46_inb k2)).toLoadRect X4) shapeCasts_S1x1x64x128_S64x128) (shapeCast S64x128 (arg6.view.readAt (Elt F) (Rect.unit (s := S8x17x64x128) (k0_off46 k2) S1x1x64x128.size (k0_off46_inb k2)).toLoadRect X6) shapeCasts_S1x1x64x128_S64x128)) (shapeCast S1x128 (arg11.view.readAt (Elt F) (Rect.unit (s := S8x17x1x128) (k0_off54 k2) S1x1x1x128.size (k0_off54_inb k2)).toLoadRect X11) shapeCasts_S1x1x1x128_S1x128)),
    dvAdd (broadcast S64x128 (FloatOps.ofBits .f32 0x00000000#32)) (shapeCast S64x128 (arg6.view.readAt (Elt F) (Rect.unit (s := S8x17x64x128) (k0_off46 k2) S1x1x64x128.size (k0_off46_inb k2)).toLoadRect X6) shapeCasts_S1x1x64x128_S64x128) (pT (select k0_pay1 (sT (shapeCast S128x128 (arg3.view.readAt (Elt F) (Rect.unit (s := S8x2176x128) (k0_off35 k2) S1x128x128.size (k0_off35_inb k2)).toLoadRect X3) shapeCasts_S1x128x128_S128x128) (shapeCast S128x128 (arg1.view.readAt (Elt F) (Rect.unit (s := S8x17x128x128) (k0_off36 k2) S1x1x128x128.size (k0_off36_inb k2)).toLoadRect X1) shapeCasts_S1x1x128x128_S128x128)) (broadcast S128x128 (Named.named κ "mask" 0xF149F2CA#32))) (shapeCast S1x128 (arg7.view.readAt (Elt F) (Rect.unit (s := S8x17x1x128) (k0_off54 k2) S1x1x1x128.size (k0_off54_inb k2)).toLoadRect X7) shapeCasts_S1x1x1x128_S1x128)), dkAdd (broadcast S128x128 (FloatOps.ofBits .f32 0x00000000#32)) (shapeCast S128x128 (arg1.view.readAt (Elt F) (Rect.unit (s := S8x17x128x128) (k0_off38 k2) S1x1x128x128.size (k0_off38_inb k2)).toLoadRect X1) shapeCasts_S1x1x128x128_S128x128) (dsT (pT (select k0_pay1 (sT (shapeCast S128x128 (arg3.view.readAt (Elt F) (Rect.unit (s := S8x2176x128) (k0_off37 k2) S1x128x128.size (k0_off37_inb k2)).toLoadRect X3) shapeCasts_S1x128x128_S128x128) (shapeCast S128x128 (arg1.view.readAt (Elt F) (Rect.unit (s := S8x17x128x128) (k0_off38 k2) S1x1x128x128.size (k0_off38_inb k2)).toLoadRect X1) shapeCasts_S1x1x128x128_S128x128)) (broadcast S128x128 (Named.named κ "mask" 0xF149F2CA#32))) (shapeCast S1x128 (arg7.view.readAt (Elt F) (Rect.unit (s := S8x17x1x128) (k0_off55 k2) S1x1x1x128.size (k0_off55_inb k2)).toLoadRect X7) shapeCasts_S1x1x1x128_S1x128)) (dpT (shapeCast S64x128 (arg4.view.readAt (Elt F) (Rect.unit (s := S8x17x64x128) (k0_off47 k2) S1x1x64x128.size (k0_off47_inb k2)).toLoadRect X4) shapeCasts_S1x1x64x128_S64x128) (shapeCast S64x128 (arg6.view.readAt (Elt F) (Rect.unit (s := S8x17x64x128) (k0_off47 k2) S1x1x64x128.size (k0_off47_inb k2)).toLoadRect X6) shapeCasts_S1x1x64x128_S64x128)) (shapeCast S1x128 (arg11.view.readAt (Elt F) (Rect.unit (s := S8x17x1x128) (k0_off55 k2) S1x1x1x128.size (k0_off55_inb k2)).toLoadRect X11) shapeCasts_S1x1x1x128_S1x128)),
    dvAdd (broadcast S64x128 (FloatOps.ofBits .f32 0x00000000#32)) (shapeCast S64x128 (arg6.view.readAt (Elt F) (Rect.unit (s := S8x17x64x128) (k0_off47 k2) S1x1x64x128.size (k0_off47_inb k2)).toLoadRect X6) shapeCasts_S1x1x64x128_S64x128) (pT (select k0_pay1 (sT (shapeCast S128x128 (arg3.view.readAt (Elt F) (Rect.unit (s := S8x2176x128) (k0_off37 k2) S1x128x128.size (k0_off37_inb k2)).toLoadRect X3) shapeCasts_S1x128x128_S128x128) (shapeCast S128x128 (arg1.view.readAt (Elt F) (Rect.unit (s := S8x17x128x128) (k0_off38 k2) S1x1x128x128.size (k0_off38_inb k2)).toLoadRect X1) shapeCasts_S1x1x128x128_S128x128)) (broadcast S128x128 (Named.named κ "mask" 0xF149F2CA#32))) (shapeCast S1x128 (arg7.view.readAt (Elt F) (Rect.unit (s := S8x17x1x128) (k0_off55 k2) S1x1x1x128.size (k0_off55_inb k2)).toLoadRect X7) shapeCasts_S1x1x1x128_S1x128)), dkAdd (broadcast S128x128 (FloatOps.ofBits .f32 0x00000000#32)) (shapeCast S128x128 (arg1.view.readAt (Elt F) (Rect.unit (s := S8x17x128x128) (k0_off40 k2) S1x1x128x128.size (k0_off40_inb k2)).toLoadRect X1) shapeCasts_S1x1x128x128_S128x128) (dsT (pT (select k0_pay1 (sT (shapeCast S128x128 (arg3.view.readAt (Elt F) (Rect.unit (s := S8x2176x128) (k0_off39 k2) S1x128x128.size (k0_off39_inb k2)).toLoadRect X3) shapeCasts_S1x128x128_S128x128) (shapeCast S128x128 (arg1.view.readAt (Elt F) (Rect.unit (s := S8x17x128x128) (k0_off40 k2) S1x1x128x128.size (k0_off40_inb k2)).toLoadRect X1) shapeCasts_S1x1x128x128_S128x128)) (broadcast S128x128 (Named.named κ "mask" 0xF149F2CA#32))) (shapeCast S1x128 (arg7.view.readAt (Elt F) (Rect.unit (s := S8x17x1x128) (k0_off56 k2) S1x1x1x128.size (k0_off56_inb k2)).toLoadRect X7) shapeCasts_S1x1x1x128_S1x128)) (dpT (shapeCast S64x128 (arg4.view.readAt (Elt F) (Rect.unit (s := S8x17x64x128) (k0_off48 k2) S1x1x64x128.size (k0_off48_inb k2)).toLoadRect X4) shapeCasts_S1x1x64x128_S64x128) (shapeCast S64x128 (arg6.view.readAt (Elt F) (Rect.unit (s := S8x17x64x128) (k0_off48 k2) S1x1x64x128.size (k0_off48_inb k2)).toLoadRect X6) shapeCasts_S1x1x64x128_S64x128)) (shapeCast S1x128 (arg11.view.readAt (Elt F) (Rect.unit (s := S8x17x1x128) (k0_off56 k2) S1x1x1x128.size (k0_off56_inb k2)).toLoadRect X11) shapeCasts_S1x1x1x128_S1x128)),
    dvAdd (broadcast S64x128 (FloatOps.ofBits .f32 0x00000000#32)) (shapeCast S64x128 (arg6.view.readAt (Elt F) (Rect.unit (s := S8x17x64x128) (k0_off48 k2) S1x1x64x128.size (k0_off48_inb k2)).toLoadRect X6) shapeCasts_S1x1x64x128_S64x128) (pT (select k0_pay1 (sT (shapeCast S128x128 (arg3.view.readAt (Elt F) (Rect.unit (s := S8x2176x128) (k0_off39 k2) S1x128x128.size (k0_off39_inb k2)).toLoadRect X3) shapeCasts_S1x128x128_S128x128) (shapeCast S128x128 (arg1.view.readAt (Elt F) (Rect.unit (s := S8x17x128x128) (k0_off40 k2) S1x1x128x128.size (k0_off40_inb k2)).toLoadRect X1) shapeCasts_S1x1x128x128_S128x128)) (broadcast S128x128 (Named.named κ "mask" 0xF149F2CA#32))) (shapeCast S1x128 (arg7.view.readAt (Elt F) (Rect.unit (s := S8x17x1x128) (k0_off56 k2) S1x1x1x128.size (k0_off56_inb k2)).toLoadRect X7) shapeCasts_S1x1x1x128_S1x128)))

theorem rawL_eq (f8 : BufTy.Contents (Elt F) arg8.view.ty) :
    rawL arg1 arg2 arg3 arg4 arg6 arg7 arg8 arg11 X1 X2 X3 X4 X6 X7 X11 k2 f8 = diagL arg1 arg2 arg3 arg4 arg6 arg7 arg8 arg11 X1 X2 X3 X4 X6 X7 X11 k2 f8 := by
  unfold diagL Ins.dsD Ins.pD ins
  dsimp only
  rw [← load_rows arg3 X3 _ (k0_off25_inb k2) shapeCasts_S1x128x128_S128x128 0 (kj k2) (k0_off25_eq k2),
    ← load_blk arg1 X1 _ (k0_off26_inb k2) shapeCasts_S1x1x128x128_S128x128 0 (kj k2) (k0_off26_eq k2),
    ← load_blk arg4 X4 _ (k0_off41_inb k2) shapeCasts_S1x1x64x128_S64x128 0 (kj k2) (k0_off41_eq k2),
    ← load_blk arg6 X6 _ (k0_off41_inb k2) shapeCasts_S1x1x64x128_S64x128 0 (kj k2) (k0_off41_eq k2),
    ← load_blk arg7 X7 _ (k0_off49_inb k2) shapeCasts_S1x1x1x128_S1x128 0 (kj k2) (k0_off49_eq k2),
    ← load_blk arg11 X11 _ (k0_off49_inb k2) shapeCasts_S1x1x1x128_S1x128 0 (kj k2) (k0_off49_eq k2),
    ← load_blk arg2 X2 _ (k0_off26_inb k2) shapeCasts_S1x1x128x128_S128x128 0 (kj k2) (k0_off26_eq k2),
    ← load_rows arg3 X3 _ (k0_off27_inb k2) shapeCasts_S1x128x128_S128x128 1 (kj k2) (k0_off27_eq k2),
    ← load_blk arg1 X1 _ (k0_off28_inb k2) shapeCasts_S1x1x128x128_S128x128 1 (kj k2) (k0_off28_eq k2),
    ← load_blk arg4 X4 _ (k0_off42_inb k2) shapeCasts_S1x1x64x128_S64x128 1 (kj k2) (k0_off42_eq k2),
    ← load_blk arg6 X6 _ (k0_off42_inb k2) shapeCasts_S1x1x64x128_S64x128 1 (kj k2) (k0_off42_eq k2),
    ← load_blk arg7 X7 _ (k0_off50_inb k2) shapeCasts_S1x1x1x128_S1x128 1 (kj k2) (k0_off50_eq k2),
    ← load_blk arg11 X11 _ (k0_off50_inb k2) shapeCasts_S1x1x1x128_S1x128 1 (kj k2) (k0_off50_eq k2),
    ← load_blk arg2 X2 _ (k0_off28_inb k2) shapeCasts_S1x1x128x128_S128x128 1 (kj k2) (k0_off28_eq k2),
    ← load_rows arg3 X3 _ (k0_off29_inb k2) shapeCasts_S1x128x128_S128x128 2 (kj k2) (k0_off29_eq k2),
    ← load_blk arg1 X1 _ (k0_off30_inb k2) shapeCasts_S1x1x128x128_S128x128 2 (kj k2) (k0_off30_eq k2),
    ← load_blk arg4 X4 _ (k0_off43_inb k2) shapeCasts_S1x1x64x128_S64x128 2 (kj k2) (k0_off43_eq k2),
    ← load_blk arg6 X6 _ (k0_off43_inb k2) shapeCasts_S1x1x64x128_S64x128 2 (kj k2) (k0_off43_eq k2),
    ← load_blk arg7 X7 _ (k0_off51_inb k2) shapeCasts_S1x1x1x128_S1x128 2 (kj k2) (k0_off51_eq k2),
    ← load_blk arg11 X11 _ (k0_off51_inb k2) shapeCasts_S1x1x1x128_S1x128 2 (kj k2) (k0_off51_eq k2),
    ← load_blk arg2 X2 _ (k0_off30_inb k2) shapeCasts_S1x1x128x128_S128x128 2 (kj k2) (k0_off30_eq k2),
    ← load_rows arg3 X3 _ (k0_off31_inb k2) shapeCasts_S1x128x128_S128x128 3 (kj k2) (k0_off31_eq k2),
    ← load_blk arg1 X1 _ (k0_off32_inb k2) shapeCasts_S1x1x128x128_S128x128 3 (kj k2) (k0_off32_eq k2),
    ← load_blk arg4 X4 _ (k0_off44_inb k2) shapeCasts_S1x1x64x128_S64x128 3 (kj k2) (k0_off44_eq k2),
    ← load_blk arg6 X6 _ (k0_off44_inb k2) shapeCasts_S1x1x64x128_S64x128 3 (kj k2) (k0_off44_eq k2),
    ← load_blk arg7 X7 _ (k0_off52_inb k2) shapeCasts_S1x1x1x128_S1x128 3 (kj k2) (k0_off52_eq k2),
    ← load_blk arg11 X11 _ (k0_off52_inb k2) shapeCasts_S1x1x1x128_S1x128 3 (kj k2) (k0_off52_eq k2),
    ← load_blk arg2 X2 _ (k0_off32_inb k2) shapeCasts_S1x1x128x128_S128x128 3 (kj k2) (k0_off32_eq k2),
    ← load_rows arg3 X3 _ (k0_off33_inb k2) shapeCasts_S1x128x128_S128x128 4 (kj k2) (k0_off33_eq k2),
    ← load_blk arg1 X1 _ (k0_off34_inb k2) shapeCasts_S1x1x128x128_S128x128 4 (kj k2) (k0_off34_eq k2),
    ← load_blk arg4 X4 _ (k0_off45_inb k2) shapeCasts_S1x1x64x128_S64x128 4 (kj k2) (k0_off45_eq k2),
    ← load_blk arg6 X6 _ (k0_off45_inb k2) shapeCasts_S1x1x64x128_S64x128 4 (kj k2) (k0_off45_eq k2),
    ← load_blk arg7 X7 _ (k0_off53_inb k2) shapeCasts_S1x1x1x128_S1x128 4 (kj k2) (k0_off53_eq k2),
    ← load_blk arg11 X11 _ (k0_off53_inb k2) shapeCasts_S1x1x1x128_S1x128 4 (kj k2) (k0_off53_eq k2),
    ← load_blk arg2 X2 _ (k0_off34_inb k2) shapeCasts_S1x1x128x128_S128x128 4 (kj k2) (k0_off34_eq k2),
    ← load_rows arg3 X3 _ (k0_off35_inb k2) shapeCasts_S1x128x128_S128x128 5 (kj k2) (k0_off35_eq k2),
    ← load_blk arg1 X1 _ (k0_off36_inb k2) shapeCasts_S1x1x128x128_S128x128 5 (kj k2) (k0_off36_eq k2),
    ← load_blk arg4 X4 _ (k0_off46_inb k2) shapeCasts_S1x1x64x128_S64x128 5 (kj k2) (k0_off46_eq k2),
    ← load_blk arg6 X6 _ (k0_off46_inb k2) shapeCasts_S1x1x64x128_S64x128 5 (kj k2) (k0_off46_eq k2),
    ← load_blk arg7 X7 _ (k0_off54_inb k2) shapeCasts_S1x1x1x128_S1x128 5 (kj k2) (k0_off54_eq k2),
    ← load_blk arg11 X11 _ (k0_off54_inb k2) shapeCasts_S1x1x1x128_S1x128 5 (kj k2) (k0_off54_eq k2),
    ← load_blk arg2 X2 _ (k0_off36_inb k2) shapeCasts_S1x1x128x128_S128x128 5 (kj k2) (k0_off36_eq k2),
    ← load_rows arg3 X3 _ (k0_off37_inb k2) shapeCasts_S1x128x128_S128x128 6 (kj k2) (k0_off37_eq k2),
    ← load_blk arg1 X1 _ (k0_off38_inb k2) shapeCasts_S1x1x128x128_S128x128 6 (kj k2) (k0_off38_eq k2),
    ← load_blk arg4 X4 _ (k0_off47_inb k2) shapeCasts_S1x1x64x128_S64x128 6 (kj k2) (k0_off47_eq k2),
    ← load_blk arg6 X6 _ (k0_off47_inb k2) shapeCasts_S1x1x64x128_S64x128 6 (kj k2) (k0_off47_eq k2),
    ← load_blk arg7 X7 _ (k0_off55_inb k2) shapeCasts_S1x1x1x128_S1x128 6 (kj k2) (k0_off55_eq k2),
    ← load_blk arg11 X11 _ (k0_off55_inb k2) shapeCasts_S1x1x1x128_S1x128 6 (kj k2) (k0_off55_eq k2),
    ← load_blk arg2 X2 _ (k0_off38_inb k2) shapeCasts_S1x1x128x128_S128x128 6 (kj k2) (k0_off38_eq k2),
    ← load_rows arg3 X3 _ (k0_off39_inb k2) shapeCasts_S1x128x128_S128x128 7 (kj k2) (k0_off39_eq k2),
    ← load_blk arg1 X1 _ (k0_off40_inb k2) shapeCasts_S1x1x128x128_S128x128 7 (kj k2) (k0_off40_eq k2),
    ← load_blk arg4 X4 _ (k0_off48_inb k2) shapeCasts_S1x1x64x128_S64x128 7 (kj k2) (k0_off48_eq k2),
    ← load_blk arg6 X6 _ (k0_off48_inb k2) shapeCasts_S1x1x64x128_S64x128 7 (kj k2) (k0_off48_eq k2),
    ← load_blk arg7 X7 _ (k0_off56_inb k2) shapeCasts_S1x1x1x128_S1x128 7 (kj k2) (k0_off56_eq k2),
    ← load_blk arg11 X11 _ (k0_off56_inb k2) shapeCasts_S1x1x1x128_S1x128 7 (kj k2) (k0_off56_eq k2),
    ← load_blk arg2 X2 _ (k0_off40_inb k2) shapeCasts_S1x1x128x128_S128x128 7 (kj k2) (k0_off40_eq k2),
    ← load_blk arg8 f8 _ (k0_off26_inb k2) shapeCasts_S1x1x128x128_S128x128 0 (kj k2) (k0_off26_eq k2),
    ← load_blk arg8 f8 _ (k0_off28_inb k2) shapeCasts_S1x1x128x128_S128x128 1 (kj k2) (k0_off28_eq k2),
    ← load_blk arg8 f8 _ (k0_off30_inb k2) shapeCasts_S1x1x128x128_S128x128 2 (kj k2) (k0_off30_eq k2),
    ← load_blk arg8 f8 _ (k0_off32_inb k2) shapeCasts_S1x1x128x128_S128x128 3 (kj k2) (k0_off32_eq k2),
    ← load_blk arg8 f8 _ (k0_off34_inb k2) shapeCasts_S1x1x128x128_S128x128 4 (kj k2) (k0_off34_eq k2),
    ← load_blk arg8 f8 _ (k0_off36_inb k2) shapeCasts_S1x1x128x128_S128x128 5 (kj k2) (k0_off36_eq k2),
    ← load_blk arg8 f8 _ (k0_off38_inb k2) shapeCasts_S1x1x128x128_S128x128 6 (kj k2) (k0_off38_eq k2),
    ← load_blk arg8 f8 _ (k0_off40_inb k2) shapeCasts_S1x1x128x128_S128x128 7 (kj k2) (k0_off40_eq k2)]
  rfl

theorem rawAcc_eq : rawAcc arg1 arg3 arg4 arg6 arg7 arg11 X1 X3 X4 X6 X7 X11 k2 = (diagAcc (ins arg1 arg2 arg3 arg4 arg6 arg7 arg11 X1 X2 X3 X4 X6 X7 X11) (kj k2)).pack := by
  unfold diagAcc Acc.pack Ins.dsD Ins.pD ins
  dsimp only
  rw [← load_rows arg3 X3 _ (k0_off25_inb k2) shapeCasts_S1x128x128_S128x128 0 (kj k2) (k0_off25_eq k2),
    ← load_blk arg1 X1 _ (k0_off26_inb k2) shapeCasts_S1x1x128x128_S128x128 0 (kj k2) (k0_off26_eq k2),
    ← load_blk arg4 X4 _ (k0_off41_inb k2) shapeCasts_S1x1x64x128_S64x128 0 (kj k2) (k0_off41_eq k2),
    ← load_blk arg6 X6 _ (k0_off41_inb k2) shapeCasts_S1x1x64x128_S64x128 0 (kj k2) (k0_off41_eq k2),
    ← load_blk arg7 X7 _ (k0_off49_inb k2) shapeCasts_S1x1x1x128_S1x128 0 (kj k2) (k0_off49_eq k2),
    ← load_blk arg11 X11 _ (k0_off49_inb k2) shapeCasts_S1x1x1x128_S1x128 0 (kj k2) (k0_off49_eq k2),
    ← load_rows arg3 X3 _ (k0_off27_inb k2) shapeCasts_S1x128x128_S128x128 1 (kj k2) (k0_off27_eq k2),
    ← load_blk arg1 X1 _ (k0_off28_inb k2) shapeCasts_S1x1x128x128_S128x128 1 (kj k2) (k0_off28_eq k2),
    ← load_blk arg4 X4 _ (k0_off42_inb k2) shapeCasts_S1x1x64x128_S64x128 1 (kj k2) (k0_off42_eq k2),
    ← load_blk arg6 X6 _ (k0_off42_inb k2) shapeCasts_S1x1x64x128_S64x128 1 (kj k2) (k0_off42_eq k2),
    ← load_blk arg7 X7 _ (k0_off50_inb k2) shapeCasts_S1x1x1x128_S1x128 1 (kj k2) (k0_off50_eq k2),
    ← load_blk arg11 X11 _ (k0_off50_inb k2) shapeCasts_S1x1x1x128_S1x128 1 (kj k2) (k0_off50_eq k2),
    ← load_rows arg3 X3 _ (k0_off29_inb k2) shapeCasts_S1x128x128_S128x128 2 (kj k2) (k0_off29_eq k2),
    ← load_blk arg1 X1 _ (k0_off30_inb k2) shapeCasts_S1x1x128x128_S128x128 2 (kj k2) (k0_off30_eq k2),
    ← load_blk arg4 X4 _ (k0_off43_inb k2) shapeCasts_S1x1x64x128_S64x128 2 (kj k2) (k0_off43_eq k2),
    ← load_blk arg6 X6 _ (k0_off43_inb k2) shapeCasts_S1x1x64x128_S64x128 2 (kj k2) (k0_off43_eq k2),
    ← load_blk arg7 X7 _ (k0_off51_inb k2) shapeCasts_S1x1x1x128_S1x128 2 (kj k2) (k0_off51_eq k2),
    ← load_blk arg11 X11 _ (k0_off51_inb k2) shapeCasts_S1x1x1x128_S1x128 2 (kj k2) (k0_off51_eq k2),
    ← load_rows arg3 X3 _ (k0_off31_inb k2) shapeCasts_S1x128x128_S128x128 3 (kj k2) (k0_off31_eq k2),
    ← load_blk arg1 X1 _ (k0_off32_inb k2) shapeCasts_S1x1x128x128_S128x128 3 (kj k2) (k0_off32_eq k2),
    ← load_blk arg4 X4 _ (k0_off44_inb k2) shapeCasts_S1x1x64x128_S64x128 3 (kj k2) (k0_off44_eq k2),
    ← load_blk arg6 X6 _ (k0_off44_inb k2) shapeCasts_S1x1x64x128_S64x128 3 (kj k2) (k0_off44_eq k2),
    ← load_blk arg7 X7 _ (k0_off52_inb k2) shapeCasts_S1x1x1x128_S1x128 3 (kj k2) (k0_off52_eq k2),
    ← load_blk arg11 X11 _ (k0_off52_inb k2) shapeCasts_S1x1x1x128_S1x128 3 (kj k2) (k0_off52_eq k2),
    ← load_rows arg3 X3 _ (k0_off33_inb k2) shapeCasts_S1x128x128_S128x128 4 (kj k2) (k0_off33_eq k2),
    ← load_blk arg1 X1 _ (k0_off34_inb k2) shapeCasts_S1x1x128x128_S128x128 4 (kj k2) (k0_off34_eq k2),
    ← load_blk arg4 X4 _ (k0_off45_inb k2) shapeCasts_S1x1x64x128_S64x128 4 (kj k2) (k0_off45_eq k2),
    ← load_blk arg6 X6 _ (k0_off45_inb k2) shapeCasts_S1x1x64x128_S64x128 4 (kj k2) (k0_off45_eq k2),
    ← load_blk arg7 X7 _ (k0_off53_inb k2) shapeCasts_S1x1x1x128_S1x128 4 (kj k2) (k0_off53_eq k2),
    ← load_blk arg11 X11 _ (k0_off53_inb k2) shapeCasts_S1x1x1x128_S1x128 4 (kj k2) (k0_off53_eq k2),
    ← load_rows arg3 X3 _ (k0_off35_inb k2) shapeCasts_S1x128x128_S128x128 5 (kj k2) (k0_off35_eq k2),
    ← load_blk arg1 X1 _ (k0_off36_inb k2) shapeCasts_S1x1x128x128_S128x128 5 (kj k2) (k0_off36_eq k2),
    ← load_blk arg4 X4 _ (k0_off46_inb k2) shapeCasts_S1x1x64x128_S64x128 5 (kj k2) (k0_off46_eq k2),
    ← load_blk arg6 X6 _ (k0_off46_inb k2) shapeCasts_S1x1x64x128_S64x128 5 (kj k2) (k0_off46_eq k2),
    ← load_blk arg7 X7 _ (k0_off54_inb k2) shapeCasts_S1x1x1x128_S1x128 5 (kj k2) (k0_off54_eq k2),
    ← load_blk arg11 X11 _ (k0_off54_inb k2) shapeCasts_S1x1x1x128_S1x128 5 (kj k2) (k0_off54_eq k2),
    ← load_rows arg3 X3 _ (k0_off37_inb k2) shapeCasts_S1x128x128_S128x128 6 (kj k2) (k0_off37_eq k2),
    ← load_blk arg1 X1 _ (k0_off38_inb k2) shapeCasts_S1x1x128x128_S128x128 6 (kj k2) (k0_off38_eq k2),
    ← load_blk arg4 X4 _ (k0_off47_inb k2) shapeCasts_S1x1x64x128_S64x128 6 (kj k2) (k0_off47_eq k2),
    ← load_blk arg6 X6 _ (k0_off47_inb k2) shapeCasts_S1x1x64x128_S64x128 6 (kj k2) (k0_off47_eq k2),
    ← load_blk arg7 X7 _ (k0_off55_inb k2) shapeCasts_S1x1x1x128_S1x128 6 (kj k2) (k0_off55_eq k2),
    ← load_blk arg11 X11 _ (k0_off55_inb k2) shapeCasts_S1x1x1x128_S1x128 6 (kj k2) (k0_off55_eq k2),
    ← load_rows arg3 X3 _ (k0_off39_inb k2) shapeCasts_S1x128x128_S128x128 7 (kj k2) (k0_off39_eq k2),
    ← load_blk arg1 X1 _ (k0_off40_inb k2) shapeCasts_S1x1x128x128_S128x128 7 (kj k2) (k0_off40_eq k2),
    ← load_blk arg4 X4 _ (k0_off48_inb k2) shapeCasts_S1x1x64x128_S64x128 7 (kj k2) (k0_off48_eq k2),
    ← load_blk arg6 X6 _ (k0_off48_inb k2) shapeCasts_S1x1x64x128_S64x128 7 (kj k2) (k0_off48_eq k2),
    ← load_blk arg7 X7 _ (k0_off56_inb k2) shapeCasts_S1x1x1x128_S1x128 7 (kj k2) (k0_off56_eq k2),
    ← load_blk arg11 X11 _ (k0_off56_inb k2) shapeCasts_S1x1x1x128_S1x128 7 (kj k2) (k0_off56_eq k2)]
  rfl

/-- The inner loop's state after its trips, from the stores `D` and the carried gradients `a` of the diagonal block. -/
def s3 (arg12 : BitVec 32) (v6 : BitVec 32) (v267 : FVec F S64x128 .f32) (v272 : FVec F S128x128 .f32) (v277 : FVec F S64x128 .f32) (v282 : FVec F S128x128 .f32) (v287 : FVec F S64x128 .f32) (v292 : FVec F S128x128 .f32) (v297 : FVec F S64x128 .f32) (v302 : FVec F S128x128 .f32) (v307 : FVec F S64x128 .f32) (v312 : FVec F S128x128 .f32) (v317 : FVec F S64x128 .f32) (v322 : FVec F S128x128 .f32) (v327 : FVec F S64x128 .f32) (v332 : FVec F S128x128 .f32) (v337 : FVec F S64x128 .f32) (v342 : FVec F S128x128 .f32) (v366 : FVec F S128x128 .f32) (v370 : FVec F S128x128 .f32) (v374 : FVec F S128x128 .f32) (v439 : BitVec 32) (f8 : BufTy.Contents (Elt F) arg8.view.ty) (D : List (View.Piece (Elt F) S8x17x128x128 .f32)) (a : Car F) : Car F × List (View.Piece (Elt F) S8x17x128x128 .f32) :=
  st_k0_t3 (F := F) 𝒱 c bd i arg1 harg1 arg2 harg2 arg3 harg3 arg4 harg4 arg5 harg5 arg6 harg6 arg7 harg7 arg8 harg8 arg9 harg9 arg10 harg10 arg11 harg11 k2 arg12 v6 v267 v272 v277 v282 v287 v292 v297 v302 v307 v312 v317 v322 v327 v332 v337 v342 v366 v370 v374 v439 X1 X2 X3 X4 X6 X7 X11 (arg8.view.writes (Elt F) f8 D) a (k0_t3_loop k2).trips

/-- The state after the loop's remainder, which has no trip. -/
def s4 (arg12 : BitVec 32) (v6 : BitVec 32) (v267 : FVec F S64x128 .f32) (v272 : FVec F S128x128 .f32) (v277 : FVec F S64x128 .f32) (v282 : FVec F S128x128 .f32) (v287 : FVec F S64x128 .f32) (v292 : FVec F S128x128 .f32) (v297 : FVec F S64x128 .f32) (v302 : FVec F S128x128 .f32) (v307 : FVec F S64x128 .f32) (v312 : FVec F S128x128 .f32) (v317 : FVec F S64x128 .f32) (v322 : FVec F S128x128 .f32) (v327 : FVec F S64x128 .f32) (v332 : FVec F S128x128 .f32) (v337 : FVec F S64x128 .f32) (v342 : FVec F S128x128 .f32) (v366 : FVec F S128x128 .f32) (v370 : FVec F S128x128 .f32) (v374 : FVec F S128x128 .f32) (v439 : BitVec 32) (v444 : BitVec 32) (f8 : BufTy.Contents (Elt F) arg8.view.ty) (D : List (View.Piece (Elt F) S8x17x128x128 .f32)) (a : Car F) : Car F × List (View.Piece (Elt F) S8x17x128x128 .f32) :=
  st_k0_t4 (F := F) 𝒱 c bd i arg1 harg1 arg2 harg2 arg3 harg3 arg4 harg4 arg5 harg5 arg6 harg6 arg7 harg7 arg8 harg8 arg9 harg9 arg10 harg10 arg11 harg11 k2 arg12 v6 v267 v272 v277 v282 v287 v292 v297 v302 v307 v312 v317 v322 v327 v332 v337 v342 v366 v370 v374 v444 X1 X2 X3 X4 X6 X7 X11 (arg8.view.writes (Elt F) f8 ((s3 (F := F) 𝒱 c bd i arg1 harg1 arg2 harg2 arg3 harg3 arg4 harg4 arg5 harg5 arg6 harg6 arg7 harg7 arg8 harg8 arg9 harg9 arg10 harg10 arg11 harg11 X1 X2 X3 X4 X6 X7 X11 k2 arg12 v6 v267 v272 v277 v282 v287 v292 v297 v302 v307 v312 v317 v322 v327 v332 v337 v342 v366 v370 v374 v439 f8 D a).2 ++ D))
    (s3 (F := F) 𝒱 c bd i arg1 harg1 arg2 harg2 arg3 harg3 arg4 harg4 arg5 harg5 arg6 harg6 arg7 harg7 arg8 harg8 arg9 harg9 arg10 harg10 arg11 harg11 X1 X2 X3 X4 X6 X7 X11 k2 arg12 v6 v267 v272 v277 v282 v287 v292 v297 v302 v307 v312 v317 v322 v327 v332 v337 v342 v366 v370 v374 v439 f8 D a).1 (k0_t4_loop k2).trips

end Cert.KernelIdeal.Attn
-- ==== Proof.TripRaw.lean ====
/- One trip over a block of keys: its results, written out. -/
module

public import proofs.«01_k».proof.Proof.Gen.KernelIdeal.Loops
public import proofs.«01_k».proof.Proof.TripEq
public import Idealize.ShloMosaic.Lib.Pipeline.Value
public import Idealize.ShloMosaic.Lib.Pointwise.Index

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (𝒱 : Variants) (c : Dev nD) (bd : Option 𝒱.V) (i : grid0.Coords)
  (arg1 : Memref sig .tc .vmem S8x17x128x128 .bf16) (harg1 : arg1.IsWhole)
  (arg2 : Memref sig .tc .vmem S8x17x128x128 .bf16) (harg2 : arg2.IsWhole)
  (arg3 : Memref sig .tc .vmem S8x2176x128 .bf16) (harg3 : arg3.IsWhole)
  (arg4 : Memref sig .tc .vmem S8x17x64x128 .bf16) (harg4 : arg4.IsWhole)
  (arg5 : Memref sig .tc .vmem S8x17x64x128 .f32) (harg5 : arg5.IsWhole)
  (arg6 : Memref sig .tc .vmem S8x17x64x128 .bf16) (harg6 : arg6.IsWhole)
  (arg7 : Memref sig .tc .vmem S8x17x1x128 .f32) (harg7 : arg7.IsWhole)
  (arg8 : Memref sig .tc .vmem S8x17x128x128 .f32) (harg8 : arg8.IsWhole)
  (arg9 : Memref sig .tc .vmem S8x17x128x128 .f32) (harg9 : arg9.IsWhole)
  (arg10 : Memref sig .tc .vmem S8x17x64x128 .f32) (harg10 : arg10.IsWhole)
  (arg11 : Memref sig .tc .vmem S8x17x1x128 .f32) (harg11 : arg11.IsWhole)
  (X1 : BufTy.Contents (Elt F) arg1.view.ty) (X2 : BufTy.Contents (Elt F) arg2.view.ty)
  (X3 : BufTy.Contents (Elt F) arg3.view.ty) (X4 : BufTy.Contents (Elt F) arg4.view.ty)
  (X6 : BufTy.Contents (Elt F) arg6.view.ty) (X7 : BufTy.Contents (Elt F) arg7.view.ty)
  (X11 : BufTy.Contents (Elt F) arg11.view.ty)
  (k2 : Fin k0_t2_loop.trips)

attribute [local irreducible] st_k0_t3 st_k0_t4 View.writes

set_option maxRecDepth 100000 in
/-- A trip's results, the diagonal block's stores and carried gradients as the trip spells them. -/
theorem keyTrip_raw (f8 : BufTy.Contents (Elt F) arg8.view.ty) (f9 : BufTy.Contents (Elt F) arg9.view.ty)
    (f10 : BufTy.Contents (Elt F) arg10.view.ty) : ∃ (arg12 : BitVec 32) (v6 : BitVec 32) (v267 : FVec F S64x128 .f32) (v272 : FVec F S128x128 .f32) (v277 : FVec F S64x128 .f32) (v282 : FVec F S128x128 .f32) (v287 : FVec F S64x128 .f32) (v292 : FVec F S128x128 .f32) (v297 : FVec F S64x128 .f32) (v302 : FVec F S128x128 .f32) (v307 : FVec F S64x128 .f32) (v312 : FVec F S128x128 .f32) (v317 : FVec F S64x128 .f32) (v322 : FVec F S128x128 .f32) (v327 : FVec F S64x128 .f32) (v332 : FVec F S128x128 .f32) (v337 : FVec F S64x128 .f32) (v342 : FVec F S128x128 .f32) (v366 : FVec F S128x128 .f32) (v370 : FVec F S128x128 .f32) (v374 : FVec F S128x128 .f32) (v439 : BitVec 32) (v444 : BitVec 32) (D : List (View.Piece (Elt F) S8x17x128x128 .f32)) (a : Car F),
    (keyTrip (F := F) 𝒱 c bd i arg1 harg1 arg2 harg2 arg3 harg3 arg4 harg4 arg5 harg5 arg6 harg6 arg7 harg7 arg8 harg8 arg9 harg9 arg10 harg10 arg11 harg11 X1 X2 X3 X4 X6 X7 X11 k2).1 f8 = arg8.view.writes (Elt F) f8 ((s4 (F := F) 𝒱 c bd i arg1 harg1 arg2 harg2 arg3 harg3 arg4 harg4 arg5 harg5 arg6 harg6 arg7 harg7 arg8 harg8 arg9 harg9 arg10 harg10 arg11 harg11 X1 X2 X3 X4 X6 X7 X11 k2 arg12 v6 v267 v272 v277 v282 v287 v292 v297 v302 v307 v312 v317 v322 v327 v332 v337 v342 v366 v370 v374 v439 v444 f8 D a).2 ++ ((s3 (F := F) 𝒱 c bd i arg1 harg1 arg2 harg2 arg3 harg3 arg4 harg4 arg5 harg5 arg6 harg6 arg7 harg7 arg8 harg8 arg9 harg9 arg10 harg10 arg11 harg11 X1 X2 X3 X4 X6 X7 X11 k2 arg12 v6 v267 v272 v277 v282 v287 v292 v297 v302 v307 v312 v317 v322 v327 v332 v337 v342 v366 v370 v374 v439 f8 D a).2 ++ D))
    ∧ (keyTrip (F := F) 𝒱 c bd i arg1 harg1 arg2 harg2 arg3 harg3 arg4 harg4 arg5 harg5 arg6 harg6 arg7 harg7 arg8 harg8 arg9 harg9 arg10 harg10 arg11 harg11 X1 X2 X3 X4 X6 X7 X11 k2).2.1 f8 f9 = arg9.view.writes (Elt F) f9 (outK k2 (s4 (F := F) 𝒱 c bd i arg1 harg1 arg2 harg2 arg3 harg3 arg4 harg4 arg5 harg5 arg6 harg6 arg7 harg7 arg8 harg8 arg9 harg9 arg10 harg10 arg11 harg11 X1 X2 X3 X4 X6 X7 X11 k2 arg12 v6 v267 v272 v277 v282 v287 v292 v297 v302 v307 v312 v317 v322 v327 v332 v337 v342 v366 v370 v374 v439 v444 f8 D a).1)
    ∧ (keyTrip (F := F) 𝒱 c bd i arg1 harg1 arg2 harg2 arg3 harg3 arg4 harg4 arg5 harg5 arg6 harg6 arg7 harg7 arg8 harg8 arg9 harg9 arg10 harg10 arg11 harg11 X1 X2 X3 X4 X6 X7 X11 k2).2.2.1 f8 f10 = arg10.view.writes (Elt F) f10 (outV k2 (s4 (F := F) 𝒱 c bd i arg1 harg1 arg2 harg2 arg3 harg3 arg4 harg4 arg5 harg5 arg6 harg6 arg7 harg7 arg8 harg8 arg9 harg9 arg10 harg10 arg11 harg11 X1 X2 X3 X4 X6 X7 X11 k2 arg12 v6 v267 v272 v277 v282 v287 v292 v297 v302 v307 v312 v317 v322 v327 v332 v337 v342 v366 v370 v374 v439 v444 f8 D a).1)
    ∧ D = (rawL arg1 arg2 arg3 arg4 arg6 arg7 arg8 arg11 X1 X2 X3 X4 X6 X7 X11 k2 f8) ∧ a = (rawAcc arg1 arg3 arg4 arg6 arg7 arg11 X1 X3 X4 X6 X7 X11 k2) := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩
  rotate_left 25
  · unfold keyTrip s4 s3
    exact rfl
  · unfold keyTrip s4 s3
    exact rfl
  · unfold keyTrip s4 s3
    exact rfl
  · with_unfolding_all rfl
  · with_unfolding_all rfl

/-- A trip's results, written out: the values that pass through the inner loop unused are some values. -/
theorem keyTrip_eq (f8 : BufTy.Contents (Elt F) arg8.view.ty) (f9 : BufTy.Contents (Elt F) arg9.view.ty)
    (f10 : BufTy.Contents (Elt F) arg10.view.ty) : ∃ (arg12 : BitVec 32) (v6 : BitVec 32) (v267 : FVec F S64x128 .f32) (v272 : FVec F S128x128 .f32) (v277 : FVec F S64x128 .f32) (v282 : FVec F S128x128 .f32) (v287 : FVec F S64x128 .f32) (v292 : FVec F S128x128 .f32) (v297 : FVec F S64x128 .f32) (v302 : FVec F S128x128 .f32) (v307 : FVec F S64x128 .f32) (v312 : FVec F S128x128 .f32) (v317 : FVec F S64x128 .f32) (v322 : FVec F S128x128 .f32) (v327 : FVec F S64x128 .f32) (v332 : FVec F S128x128 .f32) (v337 : FVec F S64x128 .f32) (v342 : FVec F S128x128 .f32) (v366 : FVec F S128x128 .f32) (v370 : FVec F S128x128 .f32) (v374 : FVec F S128x128 .f32) (v439 : BitVec 32) (v444 : BitVec 32),
    (keyTrip (F := F) 𝒱 c bd i arg1 harg1 arg2 harg2 arg3 harg3 arg4 harg4 arg5 harg5 arg6 harg6 arg7 harg7 arg8 harg8 arg9 harg9 arg10 harg10 arg11 harg11 X1 X2 X3 X4 X6 X7 X11 k2).1 f8 = arg8.view.writes (Elt F) f8 ((s4 (F := F) 𝒱 c bd i arg1 harg1 arg2 harg2 arg3 harg3 arg4 harg4 arg5 harg5 arg6 harg6 arg7 harg7 arg8 harg8 arg9 harg9 arg10 harg10 arg11 harg11 X1 X2 X3 X4 X6 X7 X11 k2 arg12 v6 v267 v272 v277 v282 v287 v292 v297 v302 v307 v312 v317 v322 v327 v332 v337 v342 v366 v370 v374 v439 v444 f8 (diagL arg1 arg2 arg3 arg4 arg6 arg7 arg8 arg11 X1 X2 X3 X4 X6 X7 X11 k2 f8) (diagAcc (ins arg1 arg2 arg3 arg4 arg6 arg7 arg11 X1 X2 X3 X4 X6 X7 X11) (kj k2)).pack).2 ++ ((s3 (F := F) 𝒱 c bd i arg1 harg1 arg2 harg2 arg3 harg3 arg4 harg4 arg5 harg5 arg6 harg6 arg7 harg7 arg8 harg8 arg9 harg9 arg10 harg10 arg11 harg11 X1 X2 X3 X4 X6 X7 X11 k2 arg12 v6 v267 v272 v277 v282 v287 v292 v297 v302 v307 v312 v317 v322 v327 v332 v337 v342 v366 v370 v374 v439 f8 (diagL arg1 arg2 arg3 arg4 arg6 arg7 arg8 arg11 X1 X2 X3 X4 X6 X7 X11 k2 f8) (diagAcc (ins arg1 arg2 arg3 arg4 arg6 arg7 arg11 X1 X2 X3 X4 X6 X7 X11) (kj k2)).pack).2 ++ (diagL arg1 arg2 arg3 arg4 arg6 arg7 arg8 arg11 X1 X2 X3 X4 X6 X7 X11 k2 f8)))
    ∧ (keyTrip (F := F) 𝒱 c bd i arg1 harg1 arg2 harg2 arg3 harg3 arg4 harg4 arg5 harg5 arg6 harg6 arg7 harg7 arg8 harg8 arg9 harg9 arg10 harg10 arg11 harg11 X1 X2 X3 X4 X6 X7 X11 k2).2.1 f8 f9 = arg9.view.writes (Elt F) f9 (outK k2 (s4 (F := F) 𝒱 c bd i arg1 harg1 arg2 harg2 arg3 harg3 arg4 harg4 arg5 harg5 arg6 harg6 arg7 harg7 arg8 harg8 arg9 harg9 arg10 harg10 arg11 harg11 X1 X2 X3 X4 X6 X7 X11 k2 arg12 v6 v267 v272 v277 v282 v287 v292 v297 v302 v307 v312 v317 v322 v327 v332 v337 v342 v366 v370 v374 v439 v444 f8 (diagL arg1 arg2 arg3 arg4 arg6 arg7 arg8 arg11 X1 X2 X3 X4 X6 X7 X11 k2 f8) (diagAcc (ins arg1 arg2 arg3 arg4 arg6 arg7 arg11 X1 X2 X3 X4 X6 X7 X11) (kj k2)).pack).1)
    ∧ (keyTrip (F := F) 𝒱 c bd i arg1 harg1 arg2 harg2 arg3 harg3 arg4 harg4 arg5 harg5 arg6 harg6 arg7 harg7 arg8 harg8 arg9 harg9 arg10 harg10 arg11 harg11 X1 X2 X3 X4 X6 X7 X11 k2).2.2.1 f8 f10 = arg10.view.writes (Elt F) f10 (outV k2 (s4 (F := F) 𝒱 c bd i arg1 harg1 arg2 harg2 arg3 harg3 arg4 harg4 arg5 harg5 arg6 harg6 arg7 harg7 arg8 harg8 arg9 harg9 arg10 harg10 arg11 harg11 X1 X2 X3 X4 X6 X7 X11 k2 arg12 v6 v267 v272 v277 v282 v287 v292 v297 v302 v307 v312 v317 v322 v327 v332 v337 v342 v366 v370 v374 v439 v444 f8 (diagL arg1 arg2 arg3 arg4 arg6 arg7 arg8 arg11 X1 X2 X3 X4 X6 X7 X11 k2 f8) (diagAcc (ins arg1 arg2 arg3 arg4 arg6 arg7 arg11 X1 X2 X3 X4 X6 X7 X11) (kj k2)).pack).1) := by
  obtain ⟨arg12, v6, v267, v272, v277, v282, v287, v292, v297, v302, v307, v312, v317, v322, v327, v332, v337, v342, v366, v370, v374, v439, v444, D, a, h1, h2, h3, hD, ha⟩ := keyTrip_raw 𝒱 c bd i arg1 harg1 arg2 harg2 arg3 harg3 arg4 harg4 arg5 harg5 arg6 harg6 arg7 harg7 arg8 harg8 arg9 harg9 arg10 harg10 arg11 harg11 X1 X2 X3 X4 X6 X7 X11 k2 f8 f9 f10
  rw [rawL_eq] at hD
  rw [rawAcc_eq (arg2 := arg2) (X2 := X2)] at ha
  subst hD ha
  exact ⟨arg12, v6, v267, v272, v277, v282, v287, v292, v297, v302, v307, v312, v317, v322, v327, v332, v337, v342, v366, v370, v374, v439, v444, h1, h2, h3⟩

end Cert.KernelIdeal.Attn
-- ==== Proof.Sem.lean ====
/- What one trip over a block of keys does to the three gradients, read by blocks. -/
module

public import proofs.«01_k».proof.Proof.Gen.KernelIdeal.Loops
public import proofs.«01_k».proof.Proof.Read
public import proofs.«01_k».proof.Proof.Trip3
public import proofs.«01_k».proof.Proof.TripRaw
public import Idealize.ShloMosaic.Lib.Pipeline.Value
public import Idealize.ShloMosaic.Lib.Pointwise.Index

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The query gradients with the diagonal tile of key block `j` added. -/
def dqD (X : Ins F) (j : Fin 17) (g : FVec F S8x17x128x128 .f32) : FVec F S8x17x128x128 .f32 :=
  put j (fun h => dqAdd (blk g h j) (blk X.kt h j) (X.dsD h j)) g

/-- The query gradients with the tile of key block `j` against query block `i` added. -/
def dqS (X : Ins F) (j i : Fin 17) (g : FVec F S8x17x128x128 .f32) : FVec F S8x17x128x128 .f32 :=
  put i (fun h => dqAdd (blk g h i) (blk X.kt h j) (X.ds h j i)) g

/-- The carried gradients of key block `j` after `n` query blocks past the diagonal. -/
def accN (X : Ins F) (j : Fin 17) : ℕ → Acc F
  | 0 => diagAcc X j
  | n + 1 => if h : j.val + n + 1 < 17 then (accN X j n).step X j ⟨j.val + n + 1, h⟩ else accN X j n

/-- The query gradients after `n` query blocks past the diagonal of key block `j`. -/
def dqN (X : Ins F) (j : Fin 17) (g : FVec F S8x17x128x128 .f32) : ℕ → FVec F S8x17x128x128 .f32
  | 0 => g
  | n + 1 => if h : j.val + n + 1 < 17 then dqS X j ⟨j.val + n + 1, h⟩ (dqN X j g n) else dqN X j g n

variable (𝒱 : Variants) (c : Dev nD) (bd : Option 𝒱.V) (i : grid0.Coords)
  (arg1 : Memref sig .tc .vmem S8x17x128x128 .bf16) (harg1 : arg1.IsWhole)
  (arg2 : Memref sig .tc .vmem S8x17x128x128 .bf16) (harg2 : arg2.IsWhole)
  (arg3 : Memref sig .tc .vmem S8x2176x128 .bf16) (harg3 : arg3.IsWhole)
  (arg4 : Memref sig .tc .vmem S8x17x64x128 .bf16) (harg4 : arg4.IsWhole)
  (arg5 : Memref sig .tc .vmem S8x17x64x128 .f32) (harg5 : arg5.IsWhole)
  (arg6 : Memref sig .tc .vmem S8x17x64x128 .bf16) (harg6 : arg6.IsWhole)
  (arg7 : Memref sig .tc .vmem S8x17x1x128 .f32) (harg7 : arg7.IsWhole)
  (arg8 : Memref sig .tc .vmem S8x17x128x128 .f32) (harg8 : arg8.IsWhole)
  (arg9 : Memref sig .tc .vmem S8x17x128x128 .f32) (harg9 : arg9.IsWhole)
  (arg10 : Memref sig .tc .vmem S8x17x64x128 .f32) (harg10 : arg10.IsWhole)
  (arg11 : Memref sig .tc .vmem S8x17x1x128 .f32) (harg11 : arg11.IsWhole)
  (X1 : BufTy.Contents (Elt F) arg1.view.ty) (X2 : BufTy.Contents (Elt F) arg2.view.ty)
  (X3 : BufTy.Contents (Elt F) arg3.view.ty) (X4 : BufTy.Contents (Elt F) arg4.view.ty)
  (X6 : BufTy.Contents (Elt F) arg6.view.ty) (X7 : BufTy.Contents (Elt F) arg7.view.ty)
  (X11 : BufTy.Contents (Elt F) arg11.view.ty)
  (k2 : Fin k0_t2_loop.trips)

/-- An inner trip's stores, read: the query gradients with its tile added. -/
theorem read_trip3 (arg12 : BitVec 32) (v6 : BitVec 32) (v267 : FVec F S64x128 .f32) (v272 : FVec F S128x128 .f32) (v277 : FVec F S64x128 .f32) (v282 : FVec F S128x128 .f32) (v287 : FVec F S64x128 .f32) (v292 : FVec F S128x128 .f32) (v297 : FVec F S64x128 .f32) (v302 : FVec F S128x128 .f32) (v307 : FVec F S64x128 .f32) (v312 : FVec F S128x128 .f32) (v317 : FVec F S64x128 .f32) (v322 : FVec F S128x128 .f32) (v327 : FVec F S64x128 .f32) (v332 : FVec F S128x128 .f32) (v337 : FVec F S64x128 .f32) (v342 : FVec F S128x128 .f32) (v366 : FVec F S128x128 .f32) (v370 : FVec F S128x128 .f32) (v374 : FVec F S128x128 .f32) (v439 : BitVec 32) (k3 : Fin (k0_t3_loop k2).trips) (acc : Car F) (f8 : BufTy.Contents (Elt F) arg8.view.ty) :
    arg8.view.read (Elt F) (arg8.view.writes (Elt F) f8 (tripL_k0_t3 (F := F) 𝒱 c bd i arg1 harg1 arg2 harg2 arg3 harg3 arg4 harg4 arg5 harg5 arg6 harg6 arg7 harg7 arg8 harg8 arg9 harg9 arg10 harg10 arg11 harg11 k2 arg12 v6 v267 v272 v277 v282 v287 v292 v297 v302 v307 v312 v317 v322 v327 v332 v337 v342 v366 v370 v374 v439 X1 X2 X3 X4 X6 X7 X11 k3 acc f8))
      = dqS (ins arg1 arg2 arg3 arg4 arg6 arg7 arg11 X1 X2 X3 X4 X6 X7 X11) (kj k2) (qi k2 k3) (arg8.view.read (Elt F) f8) := by
  rw [trip3_L]
  exact read_eight arg8 f8 ![k0_off58 k2 k3, k0_off60 k2 k3, k0_off62 k2 k3, k0_off64 k2 k3, k0_off66 k2 k3, k0_off68 k2 k3, k0_off70 k2 k3, k0_off72 k2 k3]
    (fun h => match h with
      | 0 => k0_off58_inb k2 k3
      | 1 => k0_off60_inb k2 k3
      | 2 => k0_off62_inb k2 k3
      | 3 => k0_off64_inb k2 k3
      | 4 => k0_off66_inb k2 k3
      | 5 => k0_off68_inb k2 k3
      | 6 => k0_off70_inb k2 k3
      | 7 => k0_off72_inb k2 k3)
    (fun h => dqAdd (blk (arg8.view.read (Elt F) f8) h (qi k2 k3)) (blk (ins arg1 arg2 arg3 arg4 arg6 arg7 arg11 X1 X2 X3 X4 X6 X7 X11).kt h (kj k2)) ((ins arg1 arg2 arg3 arg4 arg6 arg7 arg11 X1 X2 X3 X4 X6 X7 X11).ds h (kj k2) (qi k2 k3))) shapeCasts_S128x128_S1x1x128x128 (qi k2 k3)
    (fun h => match h with
      | 0 => k0_off58_eq k2 k3
      | 1 => k0_off60_eq k2 k3
      | 2 => k0_off62_eq k2 k3
      | 3 => k0_off64_eq k2 k3
      | 4 => k0_off66_eq k2 k3
      | 5 => k0_off68_eq k2 k3
      | 6 => k0_off70_eq k2 k3
      | 7 => k0_off72_eq k2 k3) []

/-- The inner loop's state after `n` trips. -/
theorem st3_sem (arg12 : BitVec 32) (v6 : BitVec 32) (v267 : FVec F S64x128 .f32) (v272 : FVec F S128x128 .f32) (v277 : FVec F S64x128 .f32) (v282 : FVec F S128x128 .f32) (v287 : FVec F S64x128 .f32) (v292 : FVec F S128x128 .f32) (v297 : FVec F S64x128 .f32) (v302 : FVec F S128x128 .f32) (v307 : FVec F S64x128 .f32) (v312 : FVec F S128x128 .f32) (v317 : FVec F S64x128 .f32) (v322 : FVec F S128x128 .f32) (v327 : FVec F S64x128 .f32) (v332 : FVec F S128x128 .f32) (v337 : FVec F S64x128 .f32) (v342 : FVec F S128x128 .f32) (v366 : FVec F S128x128 .f32) (v370 : FVec F S128x128 .f32) (v374 : FVec F S128x128 .f32) (v439 : BitVec 32) (G0 : BufTy.Contents (Elt F) arg8.view.ty) (n : ℕ) (hn : n ≤ (k0_t3_loop k2).trips) :
    (st_k0_t3 (F := F) 𝒱 c bd i arg1 harg1 arg2 harg2 arg3 harg3 arg4 harg4 arg5 harg5 arg6 harg6 arg7 harg7 arg8 harg8 arg9 harg9 arg10 harg10 arg11 harg11 k2 arg12 v6 v267 v272 v277 v282 v287 v292 v297 v302 v307 v312 v317 v322 v327 v332 v337 v342 v366 v370 v374 v439 X1 X2 X3 X4 X6 X7 X11 G0 (diagAcc (ins arg1 arg2 arg3 arg4 arg6 arg7 arg11 X1 X2 X3 X4 X6 X7 X11) (kj k2)).pack n).1 = (accN (ins arg1 arg2 arg3 arg4 arg6 arg7 arg11 X1 X2 X3 X4 X6 X7 X11) (kj k2) n).pack
    ∧ arg8.view.read (Elt F) (arg8.view.writes (Elt F) G0 (st_k0_t3 (F := F) 𝒱 c bd i arg1 harg1 arg2 harg2 arg3 harg3 arg4 harg4 arg5 harg5 arg6 harg6 arg7 harg7 arg8 harg8 arg9 harg9 arg10 harg10 arg11 harg11 k2 arg12 v6 v267 v272 v277 v282 v287 v292 v297 v302 v307 v312 v317 v322 v327 v332 v337 v342 v366 v370 v374 v439 X1 X2 X3 X4 X6 X7 X11 G0 (diagAcc (ins arg1 arg2 arg3 arg4 arg6 arg7 arg11 X1 X2 X3 X4 X6 X7 X11) (kj k2)).pack n).2) = dqN (ins arg1 arg2 arg3 arg4 arg6 arg7 arg11 X1 X2 X3 X4 X6 X7 X11) (kj k2) (arg8.view.read (Elt F) G0) n := by
  induction n with
  | zero => exact ⟨rfl, rfl⟩
  | succ n ih =>
    obtain ⟨i1, i2⟩ := ih (Nat.le_of_succ_le hn)
    have hk : (kj k2).val + n + 1 < 17 := by
      have e3 := trips3 k2
      show k2.val + n + 1 < 17
      omega
    have e := st_k0_t3_succ (F := F) 𝒱 c bd i arg1 harg1 arg2 harg2 arg3 harg3 arg4 harg4 arg5 harg5 arg6 harg6 arg7 harg7 arg8 harg8 arg9 harg9 arg10 harg10 arg11 harg11 k2 arg12 v6 v267 v272 v277 v282 v287 v292 v297 v302 v307 v312 v317 v322 v327 v332 v337 v342 v366 v370 v374 v439 X1 X2 X3 X4 X6 X7 X11 G0 (diagAcc (ins arg1 arg2 arg3 arg4 arg6 arg7 arg11 X1 X2 X3 X4 X6 X7 X11) (kj k2)).pack ⟨n, hn⟩
    have eq : qi k2 ⟨n, hn⟩ = ⟨(kj k2).val + n + 1, hk⟩ := rfl
    refine ⟨?_, ?_⟩
    · rw [accN, dif_pos hk, ← eq]
      refine (congrArg Prod.fst e).trans ?_
      show tripR_k0_t3 (F := F) 𝒱 c bd i arg1 harg1 arg2 harg2 arg3 harg3 arg4 harg4 arg5 harg5 arg6 harg6 arg7 harg7 arg8 harg8 arg9 harg9 arg10 harg10 arg11 harg11 k2 arg12 v6 v267 v272 v277 v282 v287 v292 v297 v302 v307 v312 v317 v322 v327 v332 v337 v342 v366 v370 v374 v439 X1 X2 X3 X4 X6 X7 X11 ⟨n, hn⟩ _ _ = _
      rw [trip3_R, i1]
      rfl
    · rw [dqN, dif_pos hk, ← eq, ← i2]
      refine (congrArg (fun z => arg8.view.read (Elt F) (arg8.view.writes (Elt F) G0 z)) (congrArg Prod.snd e)).trans ?_
      show arg8.view.read (Elt F) (arg8.view.writes (Elt F) G0 (tripL_k0_t3 (F := F) 𝒱 c bd i arg1 harg1 arg2 harg2 arg3 harg3 arg4 harg4 arg5 harg5 arg6 harg6 arg7 harg7 arg8 harg8 arg9 harg9 arg10 harg10 arg11 harg11 k2 arg12 v6 v267 v272 v277 v282 v287 v292 v297 v302 v307 v312 v317 v322 v327 v332 v337 v342 v366 v370 v374 v439 X1 X2 X3 X4 X6 X7 X11 ⟨n, hn⟩ _ _ ++ _)) = _
      rw [View.writes_append]
      exact read_trip3 𝒱 c bd i arg1 harg1 arg2 harg2 arg3 harg3 arg4 harg4 arg5 harg5 arg6 harg6 arg7 harg7 arg8 harg8 arg9 harg9 arg10 harg10 arg11 harg11 X1 X2 X3 X4 X6 X7 X11 k2 arg12 v6 v267 v272 v277 v282 v287 v292 v297 v302 v307 v312 v317 v322 v327 v332 v337 v342 v366 v370 v374 v439 ⟨n, hn⟩ _ _

/-- The diagonal block's stores, read. -/
theorem read_diag (f8 : BufTy.Contents (Elt F) arg8.view.ty) :
    arg8.view.read (Elt F) (arg8.view.writes (Elt F) f8 (diagL arg1 arg2 arg3 arg4 arg6 arg7 arg8 arg11 X1 X2 X3 X4 X6 X7 X11 k2 f8)) = dqD (ins arg1 arg2 arg3 arg4 arg6 arg7 arg11 X1 X2 X3 X4 X6 X7 X11) (kj k2) (arg8.view.read (Elt F) f8) := by
  unfold diagL
  exact read_eight arg8 f8 ![k0_off26 k2, k0_off28 k2, k0_off30 k2, k0_off32 k2, k0_off34 k2, k0_off36 k2, k0_off38 k2, k0_off40 k2]
    (fun h => match h with
      | 0 => k0_off26_inb k2
      | 1 => k0_off28_inb k2
      | 2 => k0_off30_inb k2
      | 3 => k0_off32_inb k2
      | 4 => k0_off34_inb k2
      | 5 => k0_off36_inb k2
      | 6 => k0_off38_inb k2
      | 7 => k0_off40_inb k2)
    (fun h => dqAdd (blk (arg8.view.read (Elt F) f8) h (kj k2)) (blk (ins arg1 arg2 arg3 arg4 arg6 arg7 arg11 X1 X2 X3 X4 X6 X7 X11).kt h (kj k2)) ((ins arg1 arg2 arg3 arg4 arg6 arg7 arg11 X1 X2 X3 X4 X6 X7 X11).dsD h (kj k2))) shapeCasts_S128x128_S1x1x128x128 (kj k2)
    (fun h => match h with
      | 0 => k0_off26_eq k2
      | 1 => k0_off28_eq k2
      | 2 => k0_off30_eq k2
      | 3 => k0_off32_eq k2
      | 4 => k0_off34_eq k2
      | 5 => k0_off36_eq k2
      | 6 => k0_off38_eq k2
      | 7 => k0_off40_eq k2) []

/-- The key gradients' stores, read. -/
theorem read_outK (a : Acc F) (f9 : BufTy.Contents (Elt F) arg9.view.ty) :
    arg9.view.read (Elt F) (arg9.view.writes (Elt F) f9 (outK k2 a.pack)) = put (kj k2) a.k (arg9.view.read (Elt F) f9) := by
  unfold outK
  exact read_eight arg9 f9 ![k0_off26 k2, k0_off28 k2, k0_off30 k2, k0_off32 k2, k0_off34 k2, k0_off36 k2, k0_off38 k2, k0_off40 k2]
    (fun h => match h with
      | 0 => k0_off26_inb k2
      | 1 => k0_off28_inb k2
      | 2 => k0_off30_inb k2
      | 3 => k0_off32_inb k2
      | 4 => k0_off34_inb k2
      | 5 => k0_off36_inb k2
      | 6 => k0_off38_inb k2
      | 7 => k0_off40_inb k2)
    a.k shapeCasts_S128x128_S1x1x128x128 (kj k2)
    (fun h => match h with
      | 0 => k0_off26_eq k2
      | 1 => k0_off28_eq k2
      | 2 => k0_off30_eq k2
      | 3 => k0_off32_eq k2
      | 4 => k0_off34_eq k2
      | 5 => k0_off36_eq k2
      | 6 => k0_off38_eq k2
      | 7 => k0_off40_eq k2) []

/-- The value gradients' stores, read. -/
theorem read_outV (a : Acc F) (f10 : BufTy.Contents (Elt F) arg10.view.ty) :
    arg10.view.read (Elt F) (arg10.view.writes (Elt F) f10 (outV k2 a.pack)) = put (kj k2) a.v (arg10.view.read (Elt F) f10) := by
  unfold outV
  exact read_eight arg10 f10 ![k0_off41 k2, k0_off42 k2, k0_off43 k2, k0_off44 k2, k0_off45 k2, k0_off46 k2, k0_off47 k2, k0_off48 k2]
    (fun h => match h with
      | 0 => k0_off41_inb k2
      | 1 => k0_off42_inb k2
      | 2 => k0_off43_inb k2
      | 3 => k0_off44_inb k2
      | 4 => k0_off45_inb k2
      | 5 => k0_off46_inb k2
      | 6 => k0_off47_inb k2
      | 7 => k0_off48_inb k2)
    a.v shapeCasts_S64x128_S1x1x64x128 (kj k2)
    (fun h => match h with
      | 0 => k0_off41_eq k2
      | 1 => k0_off42_eq k2
      | 2 => k0_off43_eq k2
      | 3 => k0_off44_eq k2
      | 4 => k0_off45_eq k2
      | 5 => k0_off46_eq k2
      | 6 => k0_off47_eq k2
      | 7 => k0_off48_eq k2) []

/-- One trip over a block of keys, read: the query gradients with its tiles added, the key and value gradients of its
    block replaced by the sums of its tiles. -/
theorem keyTrip_sem (f8 : BufTy.Contents (Elt F) arg8.view.ty) (f9 : BufTy.Contents (Elt F) arg9.view.ty)
    (f10 : BufTy.Contents (Elt F) arg10.view.ty) :
    arg8.view.read (Elt F) ((keyTrip (F := F) 𝒱 c bd i arg1 harg1 arg2 harg2 arg3 harg3 arg4 harg4 arg5 harg5 arg6 harg6 arg7 harg7 arg8 harg8 arg9 harg9 arg10 harg10 arg11 harg11 X1 X2 X3 X4 X6 X7 X11 k2).1 f8)
        = dqN (ins arg1 arg2 arg3 arg4 arg6 arg7 arg11 X1 X2 X3 X4 X6 X7 X11) (kj k2) (dqD (ins arg1 arg2 arg3 arg4 arg6 arg7 arg11 X1 X2 X3 X4 X6 X7 X11) (kj k2) (arg8.view.read (Elt F) f8)) (16 - k2.val)
    ∧ arg9.view.read (Elt F) ((keyTrip (F := F) 𝒱 c bd i arg1 harg1 arg2 harg2 arg3 harg3 arg4 harg4 arg5 harg5 arg6 harg6 arg7 harg7 arg8 harg8 arg9 harg9 arg10 harg10 arg11 harg11 X1 X2 X3 X4 X6 X7 X11 k2).2.1 f8 f9)
        = put (kj k2) (accN (ins arg1 arg2 arg3 arg4 arg6 arg7 arg11 X1 X2 X3 X4 X6 X7 X11) (kj k2) (16 - k2.val)).k (arg9.view.read (Elt F) f9)
    ∧ arg10.view.read (Elt F) ((keyTrip (F := F) 𝒱 c bd i arg1 harg1 arg2 harg2 arg3 harg3 arg4 harg4 arg5 harg5 arg6 harg6 arg7 harg7 arg8 harg8 arg9 harg9 arg10 harg10 arg11 harg11 X1 X2 X3 X4 X6 X7 X11 k2).2.2.1 f8 f10)
        = put (kj k2) (accN (ins arg1 arg2 arg3 arg4 arg6 arg7 arg11 X1 X2 X3 X4 X6 X7 X11) (kj k2) (16 - k2.val)).v (arg10.view.read (Elt F) f10) := by
  obtain ⟨arg12, v6, v267, v272, v277, v282, v287, v292, v297, v302, v307, v312, v317, v322, v327, v332, v337, v342, v366, v370, v374, v439, v444, h1, h2, h3⟩ := keyTrip_eq 𝒱 c bd i arg1 harg1 arg2 harg2 arg3 harg3 arg4 harg4 arg5 harg5 arg6 harg6 arg7 harg7 arg8 harg8 arg9 harg9 arg10 harg10 arg11 harg11 X1 X2 X3 X4 X6 X7 X11 k2 f8 f9 f10
  obtain ⟨i1, i2⟩ := st3_sem 𝒱 c bd i arg1 harg1 arg2 harg2 arg3 harg3 arg4 harg4 arg5 harg5 arg6 harg6 arg7 harg7 arg8 harg8 arg9 harg9 arg10 harg10 arg11 harg11 X1 X2 X3 X4 X6 X7 X11 k2 arg12 v6 v267 v272 v277 v282 v287 v292 v297 v302 v307 v312 v317 v322 v327 v332 v337 v342 v366 v370 v374 v439
    (arg8.view.writes (Elt F) f8 (diagL arg1 arg2 arg3 arg4 arg6 arg7 arg8 arg11 X1 X2 X3 X4 X6 X7 X11 k2 f8)) (k0_t3_loop k2).trips le_rfl
  unfold s4 s3 at h1 h2 h3
  rw [trips4, i1] at h1 h2 h3
  rw [h1, h2, h3]
  refine ⟨?_, ?_, ?_⟩
  · show arg8.view.read (Elt F) (arg8.view.writes (Elt F) f8 ([] ++ _)) = _
    rw [List.nil_append, View.writes_append, i2, trips3, read_diag]
  · show arg9.view.read (Elt F) (arg9.view.writes (Elt F) f9 (outK k2 (accN (ins arg1 arg2 arg3 arg4 arg6 arg7 arg11 X1 X2 X3 X4 X6 X7 X11) (kj k2) (k0_t3_loop k2).trips).pack)) = _
    rw [read_outK, trips3]
  · show arg10.view.read (Elt F) (arg10.view.writes (Elt F) f10 (outV k2 (accN (ins arg1 arg2 arg3 arg4 arg6 arg7 arg11 X1 X2 X3 X4 X6 X7 X11) (kj k2) (k0_t3_loop k2).trips).pack)) = _
    rw [read_outV, trips3]

end Cert.KernelIdeal.Attn
-- ==== Proof.Trip1.lean ====
/- One trip of the first loop: the deltas of one block of queries, and zeros in the query gradients. -/
module

public import proofs.«01_k».proof.Proof.Gen.KernelIdeal.Loops
public import proofs.«01_k».proof.Proof.Tile
public import Idealize.ShloMosaic.Lib.Pipeline.Value
public import Idealize.ShloMosaic.Lib.Pointwise.Index

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The deltas of a block: per query, the output's gradient against the output. -/
def deltaT (d : FVec F S64x128 .bf16) (w : FVec F S64x128 .f32) : FVec F S1x128 .f32 :=
  shapeCast S1x128 (multiReduction .add [0] S128 (mulf (extf .f32 d bitsLt_bf16_f32) w) 0x00000000#32 reduces_S64x128_S128
    (.inl rfl) rfl) shapeCasts_S128_S1x128

/-- A tile of zeros. -/
def zeroT : FVec F S128x128 .f32 := broadcast S128x128 (FloatOps.ofBits .f32 0x00000000#32)

theorem trips1 : k0_t1_loop.trips = 17 := by decide +kernel

/-- The block of queries trip `k1` works on. -/
def qb (k1 : Fin k0_t1_loop.trips) : Fin 17 := ⟨k1.val, by have := k1.isLt; have := trips1; omega⟩

variable (𝒱 : Variants) (c : Dev nD) (bd : Option 𝒱.V) (i : grid0.Coords)
  (arg1 : Memref sig .tc .vmem S8x17x128x128 .bf16) (harg1 : arg1.IsWhole)
  (arg2 : Memref sig .tc .vmem S8x17x128x128 .bf16) (harg2 : arg2.IsWhole)
  (arg3 : Memref sig .tc .vmem S8x2176x128 .bf16) (harg3 : arg3.IsWhole)
  (arg4 : Memref sig .tc .vmem S8x17x64x128 .bf16) (harg4 : arg4.IsWhole)
  (arg5 : Memref sig .tc .vmem S8x17x64x128 .f32) (harg5 : arg5.IsWhole)
  (arg6 : Memref sig .tc .vmem S8x17x64x128 .bf16) (harg6 : arg6.IsWhole)
  (arg7 : Memref sig .tc .vmem S8x17x1x128 .f32) (harg7 : arg7.IsWhole)
  (arg8 : Memref sig .tc .vmem S8x17x128x128 .f32) (harg8 : arg8.IsWhole)
  (arg9 : Memref sig .tc .vmem S8x17x128x128 .f32) (harg9 : arg9.IsWhole)
  (arg10 : Memref sig .tc .vmem S8x17x64x128 .f32) (harg10 : arg10.IsWhole)
  (arg11 : Memref sig .tc .vmem S8x17x1x128 .f32) (harg11 : arg11.IsWhole)
  (X5 : BufTy.Contents (Elt F) arg5.view.ty) (X6 : BufTy.Contents (Elt F) arg6.view.ty)
  (k1 : Fin k0_t1_loop.trips)

attribute [local irreducible] View.writes

/-- What a trip stores in the query gradients: zeros. -/
theorem trip1_8 : (tripL_k0_t1 (F := F) 𝒱 c bd i arg1 harg1 arg2 harg2 arg3 harg3 arg4 harg4 arg5 harg5 arg6 harg6 arg7 harg7 arg8 harg8 arg9 harg9 arg10 harg10 arg11 harg11 X5 X6 k1).1 = [(⟨Rect.unit (s := S8x17x128x128) (k0_off24 k1) S1x1x128x128.size (k0_off24_inb k1), shapeCast S1x1x128x128 zeroT shapeCasts_S128x128_S1x1x128x128⟩ : View.Piece (Elt F) S8x17x128x128 .f32),
    (⟨Rect.unit (s := S8x17x128x128) (k0_off21 k1) S1x1x128x128.size (k0_off21_inb k1), shapeCast S1x1x128x128 zeroT shapeCasts_S128x128_S1x1x128x128⟩ : View.Piece (Elt F) S8x17x128x128 .f32),
    (⟨Rect.unit (s := S8x17x128x128) (k0_off18 k1) S1x1x128x128.size (k0_off18_inb k1), shapeCast S1x1x128x128 zeroT shapeCasts_S128x128_S1x1x128x128⟩ : View.Piece (Elt F) S8x17x128x128 .f32),
    (⟨Rect.unit (s := S8x17x128x128) (k0_off15 k1) S1x1x128x128.size (k0_off15_inb k1), shapeCast S1x1x128x128 zeroT shapeCasts_S128x128_S1x1x128x128⟩ : View.Piece (Elt F) S8x17x128x128 .f32),
    (⟨Rect.unit (s := S8x17x128x128) (k0_off12 k1) S1x1x128x128.size (k0_off12_inb k1), shapeCast S1x1x128x128 zeroT shapeCasts_S128x128_S1x1x128x128⟩ : View.Piece (Elt F) S8x17x128x128 .f32),
    (⟨Rect.unit (s := S8x17x128x128) (k0_off9 k1) S1x1x128x128.size (k0_off9_inb k1), shapeCast S1x1x128x128 zeroT shapeCasts_S128x128_S1x1x128x128⟩ : View.Piece (Elt F) S8x17x128x128 .f32),
    (⟨Rect.unit (s := S8x17x128x128) (k0_off6 k1) S1x1x128x128.size (k0_off6_inb k1), shapeCast S1x1x128x128 zeroT shapeCasts_S128x128_S1x1x128x128⟩ : View.Piece (Elt F) S8x17x128x128 .f32),
    (⟨Rect.unit (s := S8x17x128x128) (k0_off3 k1) S1x1x128x128.size (k0_off3_inb k1), shapeCast S1x1x128x128 zeroT shapeCasts_S128x128_S1x1x128x128⟩ : View.Piece (Elt F) S8x17x128x128 .f32)] := by
  with_unfolding_all rfl

/-- What a trip stores in the deltas. -/
theorem trip1_11 : (tripL_k0_t1 (F := F) 𝒱 c bd i arg1 harg1 arg2 harg2 arg3 harg3 arg4 harg4 arg5 harg5 arg6 harg6 arg7 harg7 arg8 harg8 arg9 harg9 arg10 harg10 arg11 harg11 X5 X6 k1).2 = [(⟨Rect.unit (s := S8x17x1x128) (k0_off23 k1) S1x1x1x128.size (k0_off23_inb k1), shapeCast S1x1x1x128 (deltaT (blk (arg6.view.read (Elt F) X6) 7 (qb k1)) (blk (arg5.view.read (Elt F) X5) 7 (qb k1))) shapeCasts_S1x128_S1x1x1x128⟩ : View.Piece (Elt F) S8x17x1x128 .f32),
    (⟨Rect.unit (s := S8x17x1x128) (k0_off20 k1) S1x1x1x128.size (k0_off20_inb k1), shapeCast S1x1x1x128 (deltaT (blk (arg6.view.read (Elt F) X6) 6 (qb k1)) (blk (arg5.view.read (Elt F) X5) 6 (qb k1))) shapeCasts_S1x128_S1x1x1x128⟩ : View.Piece (Elt F) S8x17x1x128 .f32),
    (⟨Rect.unit (s := S8x17x1x128) (k0_off17 k1) S1x1x1x128.size (k0_off17_inb k1), shapeCast S1x1x1x128 (deltaT (blk (arg6.view.read (Elt F) X6) 5 (qb k1)) (blk (arg5.view.read (Elt F) X5) 5 (qb k1))) shapeCasts_S1x128_S1x1x1x128⟩ : View.Piece (Elt F) S8x17x1x128 .f32),
    (⟨Rect.unit (s := S8x17x1x128) (k0_off14 k1) S1x1x1x128.size (k0_off14_inb k1), shapeCast S1x1x1x128 (deltaT (blk (arg6.view.read (Elt F) X6) 4 (qb k1)) (blk (arg5.view.read (Elt F) X5) 4 (qb k1))) shapeCasts_S1x128_S1x1x1x128⟩ : View.Piece (Elt F) S8x17x1x128 .f32),
    (⟨Rect.unit (s := S8x17x1x128) (k0_off11 k1) S1x1x1x128.size (k0_off11_inb k1), shapeCast S1x1x1x128 (deltaT (blk (arg6.view.read (Elt F) X6) 3 (qb k1)) (blk (arg5.view.read (Elt F) X5) 3 (qb k1))) shapeCasts_S1x128_S1x1x1x128⟩ : View.Piece (Elt F) S8x17x1x128 .f32),
    (⟨Rect.unit (s := S8x17x1x128) (k0_off8 k1) S1x1x1x128.size (k0_off8_inb k1), shapeCast S1x1x1x128 (deltaT (blk (arg6.view.read (Elt F) X6) 2 (qb k1)) (blk (arg5.view.read (Elt F) X5) 2 (qb k1))) shapeCasts_S1x128_S1x1x1x128⟩ : View.Piece (Elt F) S8x17x1x128 .f32),
    (⟨Rect.unit (s := S8x17x1x128) (k0_off5 k1) S1x1x1x128.size (k0_off5_inb k1), shapeCast S1x1x1x128 (deltaT (blk (arg6.view.read (Elt F) X6) 1 (qb k1)) (blk (arg5.view.read (Elt F) X5) 1 (qb k1))) shapeCasts_S1x128_S1x1x1x128⟩ : View.Piece (Elt F) S8x17x1x128 .f32),
    (⟨Rect.unit (s := S8x17x1x128) (k0_off2 k1) S1x1x1x128.size (k0_off2_inb k1), shapeCast S1x1x1x128 (deltaT (blk (arg6.view.read (Elt F) X6) 0 (qb k1)) (blk (arg5.view.read (Elt F) X5) 0 (qb k1))) shapeCasts_S1x128_S1x1x1x128⟩ : View.Piece (Elt F) S8x17x1x128 .f32)] := by
  rw [← load_blk arg6 X6 _ (k0_off1_inb k1) shapeCasts_S1x1x64x128_S64x128 0 (qb k1) (k0_off1_eq k1),
    ← load_blk arg5 X5 _ (k0_off1_inb k1) shapeCasts_S1x1x64x128_S64x128 0 (qb k1) (k0_off1_eq k1),
    ← load_blk arg6 X6 _ (k0_off4_inb k1) shapeCasts_S1x1x64x128_S64x128 1 (qb k1) (k0_off4_eq k1),
    ← load_blk arg5 X5 _ (k0_off4_inb k1) shapeCasts_S1x1x64x128_S64x128 1 (qb k1) (k0_off4_eq k1),
    ← load_blk arg6 X6 _ (k0_off7_inb k1) shapeCasts_S1x1x64x128_S64x128 2 (qb k1) (k0_off7_eq k1),
    ← load_blk arg5 X5 _ (k0_off7_inb k1) shapeCasts_S1x1x64x128_S64x128 2 (qb k1) (k0_off7_eq k1),
    ← load_blk arg6 X6 _ (k0_off10_inb k1) shapeCasts_S1x1x64x128_S64x128 3 (qb k1) (k0_off10_eq k1),
    ← load_blk arg5 X5 _ (k0_off10_inb k1) shapeCasts_S1x1x64x128_S64x128 3 (qb k1) (k0_off10_eq k1),
    ← load_blk arg6 X6 _ (k0_off13_inb k1) shapeCasts_S1x1x64x128_S64x128 4 (qb k1) (k0_off13_eq k1),
    ← load_blk arg5 X5 _ (k0_off13_inb k1) shapeCasts_S1x1x64x128_S64x128 4 (qb k1) (k0_off13_eq k1),
    ← load_blk arg6 X6 _ (k0_off16_inb k1) shapeCasts_S1x1x64x128_S64x128 5 (qb k1) (k0_off16_eq k1),
    ← load_blk arg5 X5 _ (k0_off16_inb k1) shapeCasts_S1x1x64x128_S64x128 5 (qb k1) (k0_off16_eq k1),
    ← load_blk arg6 X6 _ (k0_off19_inb k1) shapeCasts_S1x1x64x128_S64x128 6 (qb k1) (k0_off19_eq k1),
    ← load_blk arg5 X5 _ (k0_off19_inb k1) shapeCasts_S1x1x64x128_S64x128 6 (qb k1) (k0_off19_eq k1),
    ← load_blk arg6 X6 _ (k0_off22_inb k1) shapeCasts_S1x1x64x128_S64x128 7 (qb k1) (k0_off22_eq k1),
    ← load_blk arg5 X5 _ (k0_off22_inb k1) shapeCasts_S1x1x64x128_S64x128 7 (qb k1) (k0_off22_eq k1)]
  with_unfolding_all rfl

end Cert.KernelIdeal.Attn
-- ==== Proof.Outer.lean ====
/- The loop over the blocks of keys: its state, its invariant, and what the loops leave in the three gradients. -/
module

public import proofs.«01_k».proof.Proof.Gen.KernelIdeal.Loops
public import proofs.«01_k».proof.Proof.Sem
public import proofs.«01_k».proof.Proof.Trip1
public import Idealize.ShloMosaic.Lib.Pipeline.Value
public import Idealize.ShloMosaic.Lib.Pointwise.Index

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- An array of blocks whose first `n` blocks of every head are given. -/
def putN {α : Type} {n m : ℕ} (W : Fin 17 → Fin 8 → (⟨2, ![n, m]⟩ : Shape).Idx → α)
    (g : (⟨4, ![8, 17, n, m]⟩ : Shape).Idx → α) (k : ℕ) : (⟨4, ![8, 17, n, m]⟩ : Shape).Idx → α :=
  fun y => if (y 1).val < k then W (y 1) (y 0) (ix2 (y 2) (y 3)) else g y

theorem put_putN {α : Type} {n m : ℕ} (W : Fin 17 → Fin 8 → (⟨2, ![n, m]⟩ : Shape).Idx → α)
    (g : (⟨4, ![8, 17, n, m]⟩ : Shape).Idx → α) (k : Fin 17) : put k (W k) (putN W g k.val) = putN W g (k.val + 1) := by
  funext y
  unfold put putN
  by_cases h : (y 1).val = k.val
  · have hk : k = (y 1 : Fin 17) := Fin.ext h.symm
    rw [if_pos h, if_pos (by omega), ← hk]
  · rw [if_neg h]
    by_cases h2 : (y 1).val < k.val
    · rw [if_pos h2, if_pos (by omega)]
    · rw [if_neg h2, if_neg (by omega)]

/-- An array given by its blocks. -/
def ofBlk {α : Type} {n m : ℕ} (W : Fin 17 → Fin 8 → (⟨2, ![n, m]⟩ : Shape).Idx → α) :
    (⟨4, ![8, 17, n, m]⟩ : Shape).Idx → α := fun y => W (y 1) (y 0) (ix2 (y 2) (y 3))

theorem putN_all {α : Type} {n m : ℕ} (W : Fin 17 → Fin 8 → (⟨2, ![n, m]⟩ : Shape).Idx → α)
    (g : (⟨4, ![8, 17, n, m]⟩ : Shape).Idx → α) : putN W g 17 = ofBlk W := by
  funext y
  exact if_pos (y 1).isLt

/-- The deltas of every block. -/
def deltas (d : FVec F S8x17x64x128 .bf16) (w : FVec F S8x17x64x128 .f32) : FVec F S8x17x1x128 .f32 :=
  ofBlk fun i h => deltaT (blk d h i) (blk w h i)

/-- The query gradients after `n` blocks of keys. -/
def dqAll (X : Ins F) : ℕ → FVec F S8x17x128x128 .f32
  | 0 => ofBlk fun _ _ => zeroT
  | n + 1 => if h : n < 17 then dqN X ⟨n, h⟩ (dqD X ⟨n, h⟩ (dqAll X n)) (16 - n) else dqAll X n

/-- The key gradients. -/
def dkAll (X : Ins F) : FVec F S8x17x128x128 .f32 := ofBlk fun j => (accN X j (16 - j.val)).k

/-- The value gradients. -/
def dvAll (X : Ins F) : FVec F S8x17x64x128 .f32 := ofBlk fun j => (accN X j (16 - j.val)).v

variable (𝒱 : Variants) (c : Dev nD) (bd : Option 𝒱.V) (i : grid0.Coords)
  (arg1 : Memref sig .tc .vmem S8x17x128x128 .bf16) (harg1 : arg1.IsWhole)
  (arg2 : Memref sig .tc .vmem S8x17x128x128 .bf16) (harg2 : arg2.IsWhole)
  (arg3 : Memref sig .tc .vmem S8x2176x128 .bf16) (harg3 : arg3.IsWhole)
  (arg4 : Memref sig .tc .vmem S8x17x64x128 .bf16) (harg4 : arg4.IsWhole)
  (arg5 : Memref sig .tc .vmem S8x17x64x128 .f32) (harg5 : arg5.IsWhole)
  (arg6 : Memref sig .tc .vmem S8x17x64x128 .bf16) (harg6 : arg6.IsWhole)
  (arg7 : Memref sig .tc .vmem S8x17x1x128 .f32) (harg7 : arg7.IsWhole)
  (arg8 : Memref sig .tc .vmem S8x17x128x128 .f32) (harg8 : arg8.IsWhole)
  (arg9 : Memref sig .tc .vmem S8x17x128x128 .f32) (harg9 : arg9.IsWhole)
  (arg10 : Memref sig .tc .vmem S8x17x64x128 .f32) (harg10 : arg10.IsWhole)
  (arg11 : Memref sig .tc .vmem S8x17x1x128 .f32) (harg11 : arg11.IsWhole)
  (X1 : BufTy.Contents (Elt F) arg1.view.ty) (X2 : BufTy.Contents (Elt F) arg2.view.ty)
  (X3 : BufTy.Contents (Elt F) arg3.view.ty) (X4 : BufTy.Contents (Elt F) arg4.view.ty)
  (X6 : BufTy.Contents (Elt F) arg6.view.ty) (X7 : BufTy.Contents (Elt F) arg7.view.ty)
  (X11 : BufTy.Contents (Elt F) arg11.view.ty)
  (X5 : BufTy.Contents (Elt F) arg5.view.ty)

/-- The first loop's stores after `n` trips, read. -/
theorem pb_sem (f8 : BufTy.Contents (Elt F) arg8.view.ty) (f11 : BufTy.Contents (Elt F) arg11.view.ty) (n : ℕ) (hn : n ≤ k0_t1_loop.trips) :
    arg8.view.read (Elt F) (arg8.view.writes (Elt F) f8 (pb_k0_t1 (F := F) 𝒱 c bd i arg1 harg1 arg2 harg2 arg3 harg3 arg4 harg4 arg5 harg5 arg6 harg6 arg7 harg7 arg8 harg8 arg9 harg9 arg10 harg10 arg11 harg11 X5 X6 n).1) = putN (fun _ _ => zeroT) (arg8.view.read (Elt F) f8) n
    ∧ arg11.view.read (Elt F) (arg11.view.writes (Elt F) f11 (pb_k0_t1 (F := F) 𝒱 c bd i arg1 harg1 arg2 harg2 arg3 harg3 arg4 harg4 arg5 harg5 arg6 harg6 arg7 harg7 arg8 harg8 arg9 harg9 arg10 harg10 arg11 harg11 X5 X6 n).2)
      = putN (fun i h => deltaT (blk (arg6.view.read (Elt F) X6) h i) (blk (arg5.view.read (Elt F) X5) h i)) (arg11.view.read (Elt F) f11) n := by
  induction n with
  | zero =>
    refine ⟨?_, ?_⟩
    · funext y
      exact (if_neg (Nat.not_lt_zero _)).symm
    · funext y
      exact (if_neg (Nat.not_lt_zero _)).symm
  | succ n ih =>
    obtain ⟨i1, i2⟩ := ih (Nat.le_of_succ_le hn)
    let k1 : Fin k0_t1_loop.trips := ⟨n, hn⟩
    have e := pb_k0_t1_succ (F := F) 𝒱 c bd i arg1 harg1 arg2 harg2 arg3 harg3 arg4 harg4 arg5 harg5 arg6 harg6 arg7 harg7 arg8 harg8 arg9 harg9 arg10 harg10 arg11 harg11 X5 X6 k1
    refine ⟨?_, ?_⟩
    · refine (congrArg (fun z => arg8.view.read (Elt F) (arg8.view.writes (Elt F) f8 z)) (congrArg Prod.fst e)).trans ?_
      show arg8.view.read (Elt F) (arg8.view.writes (Elt F) f8 ((tripL_k0_t1 (F := F) 𝒱 c bd i arg1 harg1 arg2 harg2 arg3 harg3 arg4 harg4 arg5 harg5 arg6 harg6 arg7 harg7 arg8 harg8 arg9 harg9 arg10 harg10 arg11 harg11 X5 X6 k1).1 ++ _)) = _
      rw [View.writes_append, trip1_8]
      refine Eq.trans ?_ (put_putN _ _ (qb k1))
      refine (read_eight arg8 _ ![k0_off3 k1, k0_off6 k1, k0_off9 k1, k0_off12 k1, k0_off15 k1, k0_off18 k1, k0_off21 k1, k0_off24 k1]
        (fun h => match h with
      | 0 => k0_off3_inb k1
      | 1 => k0_off6_inb k1
      | 2 => k0_off9_inb k1
      | 3 => k0_off12_inb k1
      | 4 => k0_off15_inb k1
      | 5 => k0_off18_inb k1
      | 6 => k0_off21_inb k1
      | 7 => k0_off24_inb k1)
        (fun _ => zeroT) shapeCasts_S128x128_S1x1x128x128 (qb k1)
        (fun h => match h with
      | 0 => k0_off3_eq k1
      | 1 => k0_off6_eq k1
      | 2 => k0_off9_eq k1
      | 3 => k0_off12_eq k1
      | 4 => k0_off15_eq k1
      | 5 => k0_off18_eq k1
      | 6 => k0_off21_eq k1
      | 7 => k0_off24_eq k1) []).trans ?_
      exact congrArg (put (qb k1) _) i1
    · refine (congrArg (fun z => arg11.view.read (Elt F) (arg11.view.writes (Elt F) f11 z)) (congrArg Prod.snd e)).trans ?_
      show arg11.view.read (Elt F) (arg11.view.writes (Elt F) f11 ((tripL_k0_t1 (F := F) 𝒱 c bd i arg1 harg1 arg2 harg2 arg3 harg3 arg4 harg4 arg5 harg5 arg6 harg6 arg7 harg7 arg8 harg8 arg9 harg9 arg10 harg10 arg11 harg11 X5 X6 k1).2 ++ _)) = _
      rw [View.writes_append, trip1_11]
      refine Eq.trans ?_ (put_putN _ _ (qb k1))
      refine (read_eight arg11 _ ![k0_off2 k1, k0_off5 k1, k0_off8 k1, k0_off11 k1, k0_off14 k1, k0_off17 k1, k0_off20 k1, k0_off23 k1]
        (fun h => match h with
      | 0 => k0_off2_inb k1
      | 1 => k0_off5_inb k1
      | 2 => k0_off8_inb k1
      | 3 => k0_off11_inb k1
      | 4 => k0_off14_inb k1
      | 5 => k0_off17_inb k1
      | 6 => k0_off20_inb k1
      | 7 => k0_off23_inb k1)
        (fun h => deltaT (blk (arg6.view.read (Elt F) X6) h (qb k1)) (blk (arg5.view.read (Elt F) X5) h (qb k1)))
        shapeCasts_S1x128_S1x1x1x128 (qb k1)
        (fun h => match h with
      | 0 => k0_off2_eq k1
      | 1 => k0_off5_eq k1
      | 2 => k0_off8_eq k1
      | 3 => k0_off11_eq k1
      | 4 => k0_off14_eq k1
      | 5 => k0_off17_eq k1
      | 6 => k0_off20_eq k1
      | 7 => k0_off23_eq k1) []).trans ?_
      exact congrArg (put (qb k1) _) i2

variable (G8 : BufTy.Contents (Elt F) arg8.view.ty) (G9 : BufTy.Contents (Elt F) arg9.view.ty) (G10 : BufTy.Contents (Elt F) arg10.view.ty)

/-- The three gradients before trip `n` of the loop over the blocks of keys. -/
def st2 : ℕ → BufTy.Contents (Elt F) arg8.view.ty × BufTy.Contents (Elt F) arg9.view.ty × BufTy.Contents (Elt F) arg10.view.ty
  | 0 => (G8, G9, G10)
  | n + 1 => if h : n < k0_t2_loop.trips then
      ((keyTrip (F := F) 𝒱 c bd i arg1 harg1 arg2 harg2 arg3 harg3 arg4 harg4 arg5 harg5 arg6 harg6 arg7 harg7 arg8 harg8 arg9 harg9 arg10 harg10 arg11 harg11 X1 X2 X3 X4 X6 X7 X11 ⟨n, h⟩).1 (st2 n).1, (keyTrip (F := F) 𝒱 c bd i arg1 harg1 arg2 harg2 arg3 harg3 arg4 harg4 arg5 harg5 arg6 harg6 arg7 harg7 arg8 harg8 arg9 harg9 arg10 harg10 arg11 harg11 X1 X2 X3 X4 X6 X7 X11 ⟨n, h⟩).2.1 (st2 n).1 (st2 n).2.1,
        (keyTrip (F := F) 𝒱 c bd i arg1 harg1 arg2 harg2 arg3 harg3 arg4 harg4 arg5 harg5 arg6 harg6 arg7 harg7 arg8 harg8 arg9 harg9 arg10 harg10 arg11 harg11 X1 X2 X3 X4 X6 X7 X11 ⟨n, h⟩).2.2.1 (st2 n).1 (st2 n).2.2)
    else st2 n

theorem st2_succ (k : Fin k0_t2_loop.trips) : st2 𝒱 c bd i arg1 harg1 arg2 harg2 arg3 harg3 arg4 harg4 arg5 harg5 arg6 harg6 arg7 harg7 arg8 harg8 arg9 harg9 arg10 harg10 arg11 harg11 X1 X2 X3 X4 X6 X7 X11 G8 G9 G10 (k.val + 1)
    = ((keyTrip (F := F) 𝒱 c bd i arg1 harg1 arg2 harg2 arg3 harg3 arg4 harg4 arg5 harg5 arg6 harg6 arg7 harg7 arg8 harg8 arg9 harg9 arg10 harg10 arg11 harg11 X1 X2 X3 X4 X6 X7 X11 k).1 (st2 𝒱 c bd i arg1 harg1 arg2 harg2 arg3 harg3 arg4 harg4 arg5 harg5 arg6 harg6 arg7 harg7 arg8 harg8 arg9 harg9 arg10 harg10 arg11 harg11 X1 X2 X3 X4 X6 X7 X11 G8 G9 G10 k.val).1, (keyTrip (F := F) 𝒱 c bd i arg1 harg1 arg2 harg2 arg3 harg3 arg4 harg4 arg5 harg5 arg6 harg6 arg7 harg7 arg8 harg8 arg9 harg9 arg10 harg10 arg11 harg11 X1 X2 X3 X4 X6 X7 X11 k).2.1 (st2 𝒱 c bd i arg1 harg1 arg2 harg2 arg3 harg3 arg4 harg4 arg5 harg5 arg6 harg6 arg7 harg7 arg8 harg8 arg9 harg9 arg10 harg10 arg11 harg11 X1 X2 X3 X4 X6 X7 X11 G8 G9 G10 k.val).1 (st2 𝒱 c bd i arg1 harg1 arg2 harg2 arg3 harg3 arg4 harg4 arg5 harg5 arg6 harg6 arg7 harg7 arg8 harg8 arg9 harg9 arg10 harg10 arg11 harg11 X1 X2 X3 X4 X6 X7 X11 G8 G9 G10 k.val).2.1,
        (keyTrip (F := F) 𝒱 c bd i arg1 harg1 arg2 harg2 arg3 harg3 arg4 harg4 arg5 harg5 arg6 harg6 arg7 harg7 arg8 harg8 arg9 harg9 arg10 harg10 arg11 harg11 X1 X2 X3 X4 X6 X7 X11 k).2.2.1 (st2 𝒱 c bd i arg1 harg1 arg2 harg2 arg3 harg3 arg4 harg4 arg5 harg5 arg6 harg6 arg7 harg7 arg8 harg8 arg9 harg9 arg10 harg10 arg11 harg11 X1 X2 X3 X4 X6 X7 X11 G8 G9 G10 k.val).1 (st2 𝒱 c bd i arg1 harg1 arg2 harg2 arg3 harg3 arg4 harg4 arg5 harg5 arg6 harg6 arg7 harg7 arg8 harg8 arg9 harg9 arg10 harg10 arg11 harg11 X1 X2 X3 X4 X6 X7 X11 G8 G9 G10 k.val).2.2) := by
  rw [st2]
  exact dif_pos k.isLt

/-- The loop's state, read by blocks. -/
theorem st2_sem (h0 : arg8.view.read (Elt F) G8 = ofBlk fun _ _ => zeroT) (n : ℕ) (hn : n ≤ k0_t2_loop.trips) :
    arg8.view.read (Elt F) (st2 𝒱 c bd i arg1 harg1 arg2 harg2 arg3 harg3 arg4 harg4 arg5 harg5 arg6 harg6 arg7 harg7 arg8 harg8 arg9 harg9 arg10 harg10 arg11 harg11 X1 X2 X3 X4 X6 X7 X11 G8 G9 G10 n).1 = dqAll (ins arg1 arg2 arg3 arg4 arg6 arg7 arg11 X1 X2 X3 X4 X6 X7 X11) n
    ∧ arg9.view.read (Elt F) (st2 𝒱 c bd i arg1 harg1 arg2 harg2 arg3 harg3 arg4 harg4 arg5 harg5 arg6 harg6 arg7 harg7 arg8 harg8 arg9 harg9 arg10 harg10 arg11 harg11 X1 X2 X3 X4 X6 X7 X11 G8 G9 G10 n).2.1 = putN (fun j => (accN (ins arg1 arg2 arg3 arg4 arg6 arg7 arg11 X1 X2 X3 X4 X6 X7 X11) j (16 - j.val)).k) (arg9.view.read (Elt F) G9) n
    ∧ arg10.view.read (Elt F) (st2 𝒱 c bd i arg1 harg1 arg2 harg2 arg3 harg3 arg4 harg4 arg5 harg5 arg6 harg6 arg7 harg7 arg8 harg8 arg9 harg9 arg10 harg10 arg11 harg11 X1 X2 X3 X4 X6 X7 X11 G8 G9 G10 n).2.2 = putN (fun j => (accN (ins arg1 arg2 arg3 arg4 arg6 arg7 arg11 X1 X2 X3 X4 X6 X7 X11) j (16 - j.val)).v) (arg10.view.read (Elt F) G10) n := by
  induction n with
  | zero =>
    refine ⟨h0, ?_, ?_⟩
    · funext y
      exact (if_neg (Nat.not_lt_zero _)).symm
    · funext y
      exact (if_neg (Nat.not_lt_zero _)).symm
  | succ n ih =>
    obtain ⟨i1, i2, i3⟩ := ih (Nat.le_of_succ_le hn)
    have e := st2_succ 𝒱 c bd i arg1 harg1 arg2 harg2 arg3 harg3 arg4 harg4 arg5 harg5 arg6 harg6 arg7 harg7 arg8 harg8 arg9 harg9 arg10 harg10 arg11 harg11 X1 X2 X3 X4 X6 X7 X11 G8 G9 G10 ⟨n, hn⟩
    obtain ⟨k1, k2, k3⟩ := keyTrip_sem 𝒱 c bd i arg1 harg1 arg2 harg2 arg3 harg3 arg4 harg4 arg5 harg5 arg6 harg6 arg7 harg7 arg8 harg8 arg9 harg9 arg10 harg10 arg11 harg11 X1 X2 X3 X4 X6 X7 X11 ⟨n, hn⟩ (st2 𝒱 c bd i arg1 harg1 arg2 harg2 arg3 harg3 arg4 harg4 arg5 harg5 arg6 harg6 arg7 harg7 arg8 harg8 arg9 harg9 arg10 harg10 arg11 harg11 X1 X2 X3 X4 X6 X7 X11 G8 G9 G10 n).1 (st2 𝒱 c bd i arg1 harg1 arg2 harg2 arg3 harg3 arg4 harg4 arg5 harg5 arg6 harg6 arg7 harg7 arg8 harg8 arg9 harg9 arg10 harg10 arg11 harg11 X1 X2 X3 X4 X6 X7 X11 G8 G9 G10 n).2.1 (st2 𝒱 c bd i arg1 harg1 arg2 harg2 arg3 harg3 arg4 harg4 arg5 harg5 arg6 harg6 arg7 harg7 arg8 harg8 arg9 harg9 arg10 harg10 arg11 harg11 X1 X2 X3 X4 X6 X7 X11 G8 G9 G10 n).2.2
    have hn' : n < 17 := by have := trips2; omega
    have e' : st2 𝒱 c bd i arg1 harg1 arg2 harg2 arg3 harg3 arg4 harg4 arg5 harg5 arg6 harg6 arg7 harg7 arg8 harg8 arg9 harg9 arg10 harg10 arg11 harg11 X1 X2 X3 X4 X6 X7 X11 G8 G9 G10 (n + 1) = _ := e
    rw [e']
    refine ⟨?_, ?_, ?_⟩
    · rw [dqAll, dif_pos hn', ← i1]
      exact k1
    · refine k2.trans ?_
      rw [i2]
      exact put_putN _ _ (⟨n, hn'⟩ : Fin 17)
    · refine k3.trans ?_
      rw [i3]
      exact put_putN _ _ (⟨n, hn'⟩ : Fin 17)

set_option warn.classDefReducibility false in
/-- The loop over the blocks of keys by its invariant: before trip `k` the three gradients are `st2 k`. -/
@[sl_loop] def loopInv_k0_t2 (E : Set ℕ) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 where
  inv k _ := iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11)
    ∗ (∃ f, (arg8.view.loc (c : Thread nD τ) ↦[arg8.view.set]{fullShare} f) ∗ ⌜f = (st2 𝒱 c bd i arg1 harg1 arg2 harg2 arg3 harg3 arg4 harg4 arg5 harg5 arg6 harg6 arg7 harg7 arg8 harg8 arg9 harg9 arg10 harg10 arg11 harg11 X1 X2 X3 X4 X6 X7 X11 G8 G9 G10 k).1⌝)
    ∗ (∃ f, (arg9.view.loc (c : Thread nD τ) ↦[arg9.view.set]{fullShare} f) ∗ ⌜f = (st2 𝒱 c bd i arg1 harg1 arg2 harg2 arg3 harg3 arg4 harg4 arg5 harg5 arg6 harg6 arg7 harg7 arg8 harg8 arg9 harg9 arg10 harg10 arg11 harg11 X1 X2 X3 X4 X6 X7 X11 G8 G9 G10 k).2.1⌝)
    ∗ (∃ f, (arg10.view.loc (c : Thread nD τ) ↦[arg10.view.set]{fullShare} f) ∗ ⌜f = (st2 𝒱 c bd i arg1 harg1 arg2 harg2 arg3 harg3 arg4 harg4 arg5 harg5 arg6 harg6 arg7 harg7 arg8 harg8 arg9 harg9 arg10 harg10 arg11 harg11 X1 X2 X3 X4 X6 X7 X11 G8 G9 G10 k).2.2⌝))
  step k acc := by
    iintro ⟨H1, H2, H3, H4, H6, H7, H11, ⟨%f8, H8, %h8⟩, ⟨%f9, H9, %h9⟩, ⟨%f10, H10, %h10⟩⟩
    iapply (wp_wand_r Idealize.ShloMosaic.frame (wpE (defs₀ (F := F)) 𝒱 (c : Thread nD τ) bd) E)
    isplitl [H1 H2 H3 H4 H6 H7 H11 H8 H9 H10]
    · iapply ((keyTrip (F := F) 𝒱 c bd i arg1 harg1 arg2 harg2 arg3 harg3 arg4 harg4 arg5 harg5 arg6 harg6 arg7 harg7 arg8 harg8 arg9 harg9 arg10 harg10 arg11 harg11 X1 X2 X3 X4 X6 X7 X11 k).2.2.2 E acc f8 f9 f10)
      isplitl [H1]; · iexact H1
      isplitl [H2]; · iexact H2
      isplitl [H3]; · iexact H3
      isplitl [H4]; · iexact H4
      isplitl [H6]; · iexact H6
      isplitl [H7]; · iexact H7
      isplitl [H11]; · iexact H11
      isplitl [H8]; · iexact H8
      isplitl [H9]; · iexact H9
      iexact H10
    · iintro %_ ⟨H1, H2, H3, H4, H6, H7, H11, H8, H9, H10⟩
      isplitl [H1]; · iexact H1
      isplitl [H2]; · iexact H2
      isplitl [H3]; · iexact H3
      isplitl [H4]; · iexact H4
      isplitl [H6]; · iexact H6
      isplitl [H7]; · iexact H7
      isplitl [H11]; · iexact H11
      rw [st2_succ]
      isplitl [H8]
      · iexists _; isplitl [H8]; · iexact H8
        ipureintro; rw [h8]
      isplitl [H9]
      · iexists _; isplitl [H9]; · iexact H9
        ipureintro; rw [h8, h9]
      iexists _; isplitl [H10]; · iexact H10
      ipureintro; rw [h8, h10]

end Cert.KernelIdeal.Attn
-- ==== Proof.Body.lean ====
/- The body of the call: from its seven operands and whatever the results hold, it leaves the three gradients. -/
module

public import proofs.«01_k».proof.Proof.Gen.KernelIdeal.Loops
public import proofs.«01_k».proof.Proof.Outer
public import Idealize.ShloMosaic.Lib.Pipeline.Value
public import Idealize.ShloMosaic.Lib.Pointwise.Index

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The operands of the loop over the blocks of keys: the six given ones, and the deltas which the first loop computes. -/
def insOf (x1 : FVec F S8x17x128x128 .bf16) (x2 : FVec F S8x17x128x128 .bf16) (x3 : FVec F S8x2176x128 .bf16) (x4 : FVec F S8x17x64x128 .bf16) (x5 : FVec F S8x17x64x128 .f32) (x6 : FVec F S8x17x64x128 .bf16) (x7 : FVec F S8x17x1x128 .f32) : Ins F :=
  ⟨x1, x2, x3, x4, x6, x7, deltas x6 x5⟩

variable (𝒱 : Variants) (c : Dev nD) (i : grid0.Coords)

/-- What the two loops leave, read. -/
theorem final (arg1 : Memref sig .tc .vmem S8x17x128x128 .bf16) (harg1 : arg1.IsWhole)
    (arg2 : Memref sig .tc .vmem S8x17x128x128 .bf16) (harg2 : arg2.IsWhole)
    (arg3 : Memref sig .tc .vmem S8x2176x128 .bf16) (harg3 : arg3.IsWhole)
    (arg4 : Memref sig .tc .vmem S8x17x64x128 .bf16) (harg4 : arg4.IsWhole)
    (arg5 : Memref sig .tc .vmem S8x17x64x128 .f32) (harg5 : arg5.IsWhole)
    (arg6 : Memref sig .tc .vmem S8x17x64x128 .bf16) (harg6 : arg6.IsWhole)
    (arg7 : Memref sig .tc .vmem S8x17x1x128 .f32) (harg7 : arg7.IsWhole)
    (arg8 : Memref sig .tc .vmem S8x17x128x128 .f32) (harg8 : arg8.IsWhole)
    (arg9 : Memref sig .tc .vmem S8x17x128x128 .f32) (harg9 : arg9.IsWhole)
    (arg10 : Memref sig .tc .vmem S8x17x64x128 .f32) (harg10 : arg10.IsWhole)
    (arg11 : Memref sig .tc .vmem S8x17x1x128 .f32) (harg11 : arg11.IsWhole)
    (x1 : FVec F S8x17x128x128 .bf16) (x2 : FVec F S8x17x128x128 .bf16) (x3 : FVec F S8x2176x128 .bf16) (x4 : FVec F S8x17x64x128 .bf16) (x5 : FVec F S8x17x64x128 .f32) (x6 : FVec F S8x17x64x128 .bf16) (x7 : FVec F S8x17x1x128 .f32)
    (f8 : BufTy.Contents (Elt F) arg8.view.ty) (f9 : BufTy.Contents (Elt F) arg9.view.ty) (f10 : BufTy.Contents (Elt F) arg10.view.ty) (f11 : BufTy.Contents (Elt F) arg11.view.ty) :
    arg8.view.read (Elt F) (st2 (F := F) 𝒱 c none i arg1 harg1 arg2 harg2 arg3 harg3 arg4 harg4 arg5 harg5 arg6 harg6 arg7 harg7 arg8 harg8 arg9 harg9 arg10 harg10 arg11 harg11 (harg1.unread x1) (harg2.unread x2) (harg3.unread x3) (harg4.unread x4) (harg6.unread x6) (harg7.unread x7) (arg11.view.writes (Elt F) f11 (pb_k0_t1 (F := F) 𝒱 c none i arg1 harg1 arg2 harg2 arg3 harg3 arg4 harg4 arg5 harg5 arg6 harg6 arg7 harg7 arg8 harg8 arg9 harg9 arg10 harg10 arg11 harg11 (harg5.unread x5) (harg6.unread x6) k0_t1_loop.trips).2) (arg8.view.writes (Elt F) f8 (pb_k0_t1 (F := F) 𝒱 c none i arg1 harg1 arg2 harg2 arg3 harg3 arg4 harg4 arg5 harg5 arg6 harg6 arg7 harg7 arg8 harg8 arg9 harg9 arg10 harg10 arg11 harg11 (harg5.unread x5) (harg6.unread x6) k0_t1_loop.trips).1) f9 f10 k0_t2_loop.trips).1 = dqAll (insOf x1 x2 x3 x4 x5 x6 x7) 17
    ∧ arg9.view.read (Elt F) (st2 (F := F) 𝒱 c none i arg1 harg1 arg2 harg2 arg3 harg3 arg4 harg4 arg5 harg5 arg6 harg6 arg7 harg7 arg8 harg8 arg9 harg9 arg10 harg10 arg11 harg11 (harg1.unread x1) (harg2.unread x2) (harg3.unread x3) (harg4.unread x4) (harg6.unread x6) (harg7.unread x7) (arg11.view.writes (Elt F) f11 (pb_k0_t1 (F := F) 𝒱 c none i arg1 harg1 arg2 harg2 arg3 harg3 arg4 harg4 arg5 harg5 arg6 harg6 arg7 harg7 arg8 harg8 arg9 harg9 arg10 harg10 arg11 harg11 (harg5.unread x5) (harg6.unread x6) k0_t1_loop.trips).2) (arg8.view.writes (Elt F) f8 (pb_k0_t1 (F := F) 𝒱 c none i arg1 harg1 arg2 harg2 arg3 harg3 arg4 harg4 arg5 harg5 arg6 harg6 arg7 harg7 arg8 harg8 arg9 harg9 arg10 harg10 arg11 harg11 (harg5.unread x5) (harg6.unread x6) k0_t1_loop.trips).1) f9 f10 k0_t2_loop.trips).2.1 = dkAll (insOf x1 x2 x3 x4 x5 x6 x7)
    ∧ arg10.view.read (Elt F) (st2 (F := F) 𝒱 c none i arg1 harg1 arg2 harg2 arg3 harg3 arg4 harg4 arg5 harg5 arg6 harg6 arg7 harg7 arg8 harg8 arg9 harg9 arg10 harg10 arg11 harg11 (harg1.unread x1) (harg2.unread x2) (harg3.unread x3) (harg4.unread x4) (harg6.unread x6) (harg7.unread x7) (arg11.view.writes (Elt F) f11 (pb_k0_t1 (F := F) 𝒱 c none i arg1 harg1 arg2 harg2 arg3 harg3 arg4 harg4 arg5 harg5 arg6 harg6 arg7 harg7 arg8 harg8 arg9 harg9 arg10 harg10 arg11 harg11 (harg5.unread x5) (harg6.unread x6) k0_t1_loop.trips).2) (arg8.view.writes (Elt F) f8 (pb_k0_t1 (F := F) 𝒱 c none i arg1 harg1 arg2 harg2 arg3 harg3 arg4 harg4 arg5 harg5 arg6 harg6 arg7 harg7 arg8 harg8 arg9 harg9 arg10 harg10 arg11 harg11 (harg5.unread x5) (harg6.unread x6) k0_t1_loop.trips).1) f9 f10 k0_t2_loop.trips).2.2 = dvAll (insOf x1 x2 x3 x4 x5 x6 x7) := by
  obtain ⟨p8, p11⟩ := pb_sem (F := F) 𝒱 c none i arg1 harg1 arg2 harg2 arg3 harg3 arg4 harg4 arg5 harg5 arg6 harg6 arg7 harg7 arg8 harg8 arg9 harg9 arg10 harg10 arg11 harg11 (harg6.unread x6) (harg5.unread x5) f8 f11 k0_t1_loop.trips le_rfl
  have e8 : arg8.view.read (Elt F) (arg8.view.writes (Elt F) f8 (pb_k0_t1 (F := F) 𝒱 c none i arg1 harg1 arg2 harg2 arg3 harg3 arg4 harg4 arg5 harg5 arg6 harg6 arg7 harg7 arg8 harg8 arg9 harg9 arg10 harg10 arg11 harg11 (harg5.unread x5) (harg6.unread x6) k0_t1_loop.trips).1) = ofBlk fun _ _ => zeroT := by
    rw [p8, trips1]; exact putN_all _ _
  have e11 : arg11.view.read (Elt F) (arg11.view.writes (Elt F) f11 (pb_k0_t1 (F := F) 𝒱 c none i arg1 harg1 arg2 harg2 arg3 harg3 arg4 harg4 arg5 harg5 arg6 harg6 arg7 harg7 arg8 harg8 arg9 harg9 arg10 harg10 arg11 harg11 (harg5.unread x5) (harg6.unread x6) k0_t1_loop.trips).2) = deltas x6 x5 := by
    rw [p11, trips1, harg6.read_unread, harg5.read_unread]; exact putN_all _ _
  have eX : ins (F := F) arg1 arg2 arg3 arg4 arg6 arg7 arg11 (harg1.unread x1) (harg2.unread x2) (harg3.unread x3) (harg4.unread x4) (harg6.unread x6) (harg7.unread x7) (arg11.view.writes (Elt F) f11 (pb_k0_t1 (F := F) 𝒱 c none i arg1 harg1 arg2 harg2 arg3 harg3 arg4 harg4 arg5 harg5 arg6 harg6 arg7 harg7 arg8 harg8 arg9 harg9 arg10 harg10 arg11 harg11 (harg5.unread x5) (harg6.unread x6) k0_t1_loop.trips).2) = (insOf x1 x2 x3 x4 x5 x6 x7) := by
    unfold ins insOf
    rw [e11, harg1.read_unread, harg2.read_unread, harg3.read_unread, harg4.read_unread, harg6.read_unread, harg7.read_unread]
  obtain ⟨a, b, d⟩ := st2_sem (F := F) 𝒱 c none i arg1 harg1 arg2 harg2 arg3 harg3 arg4 harg4 arg5 harg5 arg6 harg6 arg7 harg7 arg8 harg8 arg9 harg9 arg10 harg10 arg11 harg11 (harg1.unread x1) (harg2.unread x2) (harg3.unread x3) (harg4.unread x4) (harg6.unread x6) (harg7.unread x7) (arg11.view.writes (Elt F) f11 (pb_k0_t1 (F := F) 𝒱 c none i arg1 harg1 arg2 harg2 arg3 harg3 arg4 harg4 arg5 harg5 arg6 harg6 arg7 harg7 arg8 harg8 arg9 harg9 arg10 harg10 arg11 harg11 (harg5.unread x5) (harg6.unread x6) k0_t1_loop.trips).2) (arg8.view.writes (Elt F) f8 (pb_k0_t1 (F := F) 𝒱 c none i arg1 harg1 arg2 harg2 arg3 harg3 arg4 harg4 arg5 harg5 arg6 harg6 arg7 harg7 arg8 harg8 arg9 harg9 arg10 harg10 arg11 harg11 (harg5.unread x5) (harg6.unread x6) k0_t1_loop.trips).1) f9 f10 e8 k0_t2_loop.trips le_rfl
  rw [a, b, d, eX, trips2]
  exact ⟨rfl, putN_all _ _, putN_all _ _⟩

set_option maxHeartbeats 4000000 in
/-- The body: the operands are kept, and the results are the three gradients. -/
theorem bodyRun (arg1 : Memref sig .tc .vmem S8x17x128x128 .bf16) (harg1 : arg1.IsWhole)
    (arg2 : Memref sig .tc .vmem S8x17x128x128 .bf16) (harg2 : arg2.IsWhole)
    (arg3 : Memref sig .tc .vmem S8x2176x128 .bf16) (harg3 : arg3.IsWhole)
    (arg4 : Memref sig .tc .vmem S8x17x64x128 .bf16) (harg4 : arg4.IsWhole)
    (arg5 : Memref sig .tc .vmem S8x17x64x128 .f32) (harg5 : arg5.IsWhole)
    (arg6 : Memref sig .tc .vmem S8x17x64x128 .bf16) (harg6 : arg6.IsWhole)
    (arg7 : Memref sig .tc .vmem S8x17x1x128 .f32) (harg7 : arg7.IsWhole)
    (arg8 : Memref sig .tc .vmem S8x17x128x128 .f32) (harg8 : arg8.IsWhole)
    (arg9 : Memref sig .tc .vmem S8x17x128x128 .f32) (harg9 : arg9.IsWhole)
    (arg10 : Memref sig .tc .vmem S8x17x64x128 .f32) (harg10 : arg10.IsWhole)
    (arg11 : Memref sig .tc .vmem S8x17x1x128 .f32) (harg11 : arg11.IsWhole)
    (x1 : FVec F S8x17x128x128 .bf16) (x2 : FVec F S8x17x128x128 .bf16) (x3 : FVec F S8x2176x128 .bf16) (x4 : FVec F S8x17x64x128 .bf16) (x5 : FVec F S8x17x64x128 .f32) (x6 : FVec F S8x17x64x128 .bf16) (x7 : FVec F S8x17x1x128 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ owns (c : Thread nD τ) arg8 fullShare (dqAll (insOf x1 x2 x3 x4 x5 x6 x7) 17) ∗ owns (c : Thread nD τ) arg9 fullShare (dkAll (insOf x1 x2 x3 x4 x5 x6 x7)) ∗ owns (c : Thread nD τ) arg10 fullShare (dvAll (insOf x1 x2 x3 x4 x5 x6 x7)) ∗ (∃ d, owns (c : Thread nD τ) arg11 fullShare d)) -∗ K ⟨⟩))
    ⊢ wp Idealize.ShloMosaic.frame (wpE (defs₀ (F := F)) 𝒱 (c : Thread nD τ) none) E (cc0_fox_attention_bwd i arg1 harg1 arg2 harg2 arg3 harg3 arg4 harg4 arg5 harg5 arg6 harg6 arg7 harg7 arg8 harg8 arg9 harg9 arg10 harg10 arg11 harg11) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  sl_unfold [cc0_fox_attention_bwd]
  sl_exec!
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro; exact (final 𝒱 c i arg1 harg1 arg2 harg2 arg3 harg3 arg4 harg4 arg5 harg5 arg6 harg6 arg7 harg7 arg8 harg8 arg9 harg9 arg10 harg10 arg11 harg11 x1 x2 x3 x4 x5 x6 x7 f8 f9 f10 f11).1
  isplitl [H9]
  · iexists _; isplitr; swap; · iexact H9
    ipureintro; exact (final 𝒱 c i arg1 harg1 arg2 harg2 arg3 harg3 arg4 harg4 arg5 harg5 arg6 harg6 arg7 harg7 arg8 harg8 arg9 harg9 arg10 harg10 arg11 harg11 x1 x2 x3 x4 x5 x6 x7 f8 f9 f10 f11).2.1
  isplitl [H10]
  · iexists _; isplitr; swap; · iexact H10
    ipureintro; exact (final 𝒱 c i arg1 harg1 arg2 harg2 arg3 harg3 arg4 harg4 arg5 harg5 arg6 harg6 arg7 harg7 arg8 harg8 arg9 harg9 arg10 harg10 arg11 harg11 x1 x2 x3 x4 x5 x6 x7 f8 f9 f10 f11).2.2
  iexists _; iexists _; isplitr; swap; · iexact H11
  ipureintro; rfl

end Cert.KernelIdeal.Attn
-- ==== Proof.Run.lean ====
/- The launch: its proof data, the obligation of its one grid point, and the run of the whole program. -/
module

public import proofs.«01_k».proof.Proof.Gen.KernelIdeal.Loops
public import proofs.«01_k».proof.Proof.Body
public import proofs.«01_k».proof.Proof.Gen.KernelIdeal.Frame
public import proofs.«01_k».proof.Proof.Gen.KernelIdeal.Points
public import Idealize.ShloMosaic.Lib.Pipeline.FrameSuffix
public import Idealize.ShloMosaic.Lib.Quiescent
public import Idealize.ShloMosaic.Lib.Pipeline.Value
public import Idealize.ShloMosaic.Lib.Pointwise.Index

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

open Idealize.ShloMosaic.Pipeline (Dat Cfg BodyObligation)

abbrev 𝒱₀ : Variants := Variants.none

variable (m : (ℓ : Loc nD τ sig) → Buf (Elt F) ℓ) (ρ : Dev nD → PrngReg)

/-- The operands of the tiles at a grid point, from the blocks of the seven arrays. -/
def insAt (c : Dev nD) (t : Fin cfg0.N) : Ins F :=
  insOf (iblk m c 0 t) (iblk m c 1 t) (iblk m c 2 t) (iblk m c 3 t) (iblk m c 4 t) (iblk m c 5 t) (iblk m c 6 t)

/-- The proof data: an operand's buffer keeps its block, a result's holds its gradient. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqAll (insAt m c t) 17
    | ⟨8, _⟩ => dkAll (insAt m c t)
    | ⟨9, _⟩ => dvAll (insAt m c t)
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = dqAll (insAt m c t) 17 := by dsimp only [dats]
theorem after0_8 (c : Dev nD) (t : Fin cfg0.N) : (dats m 0 c).after 8 t = dkAll (insAt m c t) := by dsimp only [dats]
theorem after0_9 (c : Dev nD) (t : Fin cfg0.N) : (dats m 0 c).after 9 t = dvAll (insAt m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body may use besides the windows: the scratch for the deltas, at anything, and the generator register. -/
theorem ΦA_eq (c : Dev nD) : (Pipeline.ΦA spec0 c : sProp 𝕄)
    = iprop((∃ d, owns (c : Thread nD τ) (Memref.whole cc0_scratch0) fullShare d) ∗ ∃ r, prngReg c r) := by
  unfold Pipeline.ΦA
  rw [scopedRest0_eq]
  simp only [owns_whole]
  try rfl

/-- The body's obligation at the grid's one point. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, ΦA_eq]
  unfold insAt
  iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (bodyRun 𝒱₀ c _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS]; · iexact HS
  iintro ⟨H0, H1, H2, H3, H4, H5, H6, H7, H8, H9, HS⟩
  isplitl [HS HR]
  · isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option backward.isDefEq.respectTransparency.types false in
/-- The whole program runs, and ends with the arrays at what the proof data say, the other buffers at what the lines
    after the call make of them, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

/-- The arguments end as they were, and every counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main m ρ)

end Cert.KernelIdeal.Attn
-- ==== Proof.Same.lean ====
/-
  The kernel is the idealized kernel with its one named constant read as the word it was printed from. Both programs
  are the same text but for that constant, so over any floats, at this reading of names, their body tables and their
  main functions are equal; the frame of the idealized program, proved for every reading of names, is then the
  kernel's.
-/
module

public import proofs.«01_k».proof.Proof.Run
public import proofs.«01_k».proof.Proof.Gen.Kernel
public import Idealize.ShloMosaic.Init

@[expose] public section

set_option maxHeartbeats 0

noncomputable section

namespace Cert.Same

open Idealize.ShloMosaic Idealize.ShloMosaic.TcCoe Idealize.SL.Sem

variable {F : FTy → Type} [FloatOps F]

/-- A named constant read as the word it was printed from. -/
abbrev lit : Named F where
  named _ _ _ b := FloatOps.ofBits _ b

/-- The two tables of bodies agree: one label, and for it one function. -/
theorem defs₀ : @Cert.Kernel.defs₀ F _ _ = @Cert.KernelIdeal.defs₀ F _ lit _ := by
  refine congrArg Defs.onTc (funext fun l => funext fun x => ?_)
  match l, x with
  | 0, (t, s) => rfl
  | ⟨_ + 1, h⟩, _ => exact absurd h (Nat.not_lt.2 (Nat.le_add_left _ _))

/-- So do the tables the pipeline makes of them. -/
theorem defs : @Cert.Kernel.defs F _ _ = @Cert.KernelIdeal.defs F _ lit _ :=
  congrArg (Pipeline.defs Cert.Kernel.pcfgs) defs₀

/-- The host programs agree: no name occurs in them. -/
theorem main : @Cert.Kernel.main F _ _ = @Cert.KernelIdeal.main F _ _ := rfl

/-- The kernel's frame over any floats. -/
theorem frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3)
        ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  rw [defs, main]
  exact @Cert.KernelIdeal.Attn.frame F _ lit m ρ

end Cert.Same

end
-- ==== Proof.Frames.lean ====
/-
  The frames of the three programs, and the statement of the named constant.
-/
module

public import proofs.«01_k».proof.Defs
public import proofs.«01_k».proof.Proof.Same
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The idealized kernel's frame. -/
theorem frame_kernelIdeal : Cert.quiescent_KernelIdeal := fun m ρ _ => Cert.KernelIdeal.Attn.frame m ρ

/-- The kernel's frame. -/
theorem frame_kernel : Cert.quiescent_Kernel := fun m ρ _ => Cert.Same.frame m ρ

/-- The reference's frame. -/
theorem frame_reference : Cert.quiescent_ReferenceIdeal := fun m ρ _ =>
  (θ_run Cert.ReferenceIdeal.defs _ _).mono (fun r h => ⟨fun c => (h c).2.2.2.2, Idealize.ShloMosaic.sem_eq_zero_of_no_sems (by decide) r.2⟩)
    (Cert.ReferenceIdeal.Value.run (F := Ideal) m ρ)

/-- The masking constant is named, with value `-∞`. -/
theorem preserves : Cert.preserves_Kernel_KernelIdeal :=
  IdealRules.named_const.statement Cert.KernelIdeal.κ "mask" .f32 0xF149F2CA#32 ⊥ rfl

end Cert.Proof

end
-- ==== Proof.Pre.lean ====
/- The host operations before the kernel, one at a time: what each writes as a function of the arguments, and what
   that is at an index. -/
module

public import proofs.«01_k».proof.Proof.Gen.KernelIdeal.Frame
public import Idealize.ShloMosaic.Lib.Pipeline.Value
public import Idealize.ShloMosaic.Lib.ValueIdx
public import Idealize.ShloMosaic.PureOps.Ideal.Laws

@[expose] public section

noncomputable section

namespace Cert.KernelIdeal.Pre

open Cert.KernelIdeal Cert.KernelIdeal.Gen Idealize.ShloMosaic Idealize.ShloMosaic.TcCoe Idealize.SL.Sem Idealize.ShloMosaic.StableHlo

variable {F : FTy → Type} [FloatOps F]

-- %0 = stablehlo.dot_general %arg0, %arg1, batching_dims = [1] x [1], contracting_dims = [2] x [2], precision = [DEFAULT, DEFAULT]
def val_main_v0 (x0 x1 : (⟨S2176x8x64, .f32⟩ : BufTy).Contents (Elt F)) : (⟨S8x2176x2176, .f32⟩ : BufTy).Contents (Elt F) :=
  Host.dotGeneral dot_S2176x8x64_S2176x8x64_S8x2176x2176_2_2_0_0_1_1 none (x0) (x1)
theorem lhs_main_v0_0 (i : S8x2176x2176.Idx) (q : dot_S2176x8x64_S2176x8x64_S8x2176x2176_2_2_0_0_1_1.contr.Idx) :
    (dot_S2176x8x64_S2176x8x64_S8x2176x2176_2_2_0_0_1_1.lhsIdx i q 0).val = (i 1).val := by
  unfold DotDims.lhsIdx
  rw [dif_neg (show ¬(0 : Fin S2176x8x64.rank) ∈ dot_S2176x8x64_S2176x8x64_S8x2176x2176_2_2_0_0_1_1.lhsBatch by decide), dif_pos (show (0 : Fin S2176x8x64.rank) ∈ dot_S2176x8x64_S2176x8x64_S8x2176x2176_2_2_0_0_1_1.lhsNonContracting by decide)]
  rfl
theorem lhs_main_v0_1 (i : S8x2176x2176.Idx) (q : dot_S2176x8x64_S2176x8x64_S8x2176x2176_2_2_0_0_1_1.contr.Idx) :
    (dot_S2176x8x64_S2176x8x64_S8x2176x2176_2_2_0_0_1_1.lhsIdx i q 1).val = (i 0).val := by
  unfold DotDims.lhsIdx
  rw [dif_pos (show (1 : Fin S2176x8x64.rank) ∈ dot_S2176x8x64_S2176x8x64_S8x2176x2176_2_2_0_0_1_1.lhsBatch by decide)]
  rfl
theorem lhs_main_v0_2 (i : S8x2176x2176.Idx) (q : dot_S2176x8x64_S2176x8x64_S8x2176x2176_2_2_0_0_1_1.contr.Idx) :
    (dot_S2176x8x64_S2176x8x64_S8x2176x2176_2_2_0_0_1_1.lhsIdx i q 2).val = (q ⟨0, by decide⟩).val :=
  dot_S2176x8x64_S2176x8x64_S8x2176x2176_2_2_0_0_1_1.lhsIdx_val_of_single rfl i q
theorem rhs_main_v0_0 (i : S8x2176x2176.Idx) (q : dot_S2176x8x64_S2176x8x64_S8x2176x2176_2_2_0_0_1_1.contr.Idx) :
    (dot_S2176x8x64_S2176x8x64_S8x2176x2176_2_2_0_0_1_1.rhsIdx i q 0).val = (i 2).val := by
  unfold DotDims.rhsIdx
  rw [dif_neg (show ¬(0 : Fin S2176x8x64.rank) ∈ dot_S2176x8x64_S2176x8x64_S8x2176x2176_2_2_0_0_1_1.rhsBatch by decide), dif_pos (show (0 : Fin S2176x8x64.rank) ∈ dot_S2176x8x64_S2176x8x64_S8x2176x2176_2_2_0_0_1_1.rhsNonContracting by decide)]
  rfl
theorem rhs_main_v0_1 (i : S8x2176x2176.Idx) (q : dot_S2176x8x64_S2176x8x64_S8x2176x2176_2_2_0_0_1_1.contr.Idx) :
    (dot_S2176x8x64_S2176x8x64_S8x2176x2176_2_2_0_0_1_1.rhsIdx i q 1).val = (i 0).val := by
  unfold DotDims.rhsIdx
  rw [dif_pos (show (1 : Fin S2176x8x64.rank) ∈ dot_S2176x8x64_S2176x8x64_S8x2176x2176_2_2_0_0_1_1.rhsBatch by decide)]
  rfl
theorem rhs_main_v0_2 (i : S8x2176x2176.Idx) (q : dot_S2176x8x64_S2176x8x64_S8x2176x2176_2_2_0_0_1_1.contr.Idx) :
    (dot_S2176x8x64_S2176x8x64_S8x2176x2176_2_2_0_0_1_1.rhsIdx i q 2).val = (q ⟨0, by decide⟩).val :=
  dot_S2176x8x64_S2176x8x64_S8x2176x2176_2_2_0_0_1_1.rhsIdx_val_of_single rfl i q
abbrev lidx_main_v0 (i : S8x2176x2176.Idx) (k : Fin 64) : S2176x8x64.Idx := fun a => match a with
  | ⟨0, _⟩ => ⟨(i 1).val, (i 1).isLt⟩
  | ⟨1, _⟩ => ⟨(i 0).val, (i 0).isLt⟩
  | ⟨2, _⟩ => ⟨k.val, k.isLt⟩
abbrev ridx_main_v0 (i : S8x2176x2176.Idx) (k : Fin 64) : S2176x8x64.Idx := fun a => match a with
  | ⟨0, _⟩ => ⟨(i 2).val, (i 2).isLt⟩
  | ⟨1, _⟩ => ⟨(i 0).val, (i 0).isLt⟩
  | ⟨2, _⟩ => ⟨k.val, k.isLt⟩
theorem val_main_v0_apply (x0 x1 : (⟨S2176x8x64, .f32⟩ : BufTy).Contents (Elt Ideal)) (i : S8x2176x2176.Idx) :
    val_main_v0 (F := Ideal) x0 x1 i = ∑ k : Fin 64, x0 (lidx_main_v0 i k) * x1 (ridx_main_v0 i k) := by
  unfold val_main_v0
  simp only [Host.dotGeneral]
  rw [Ideal.dotGeneral_apply, ← Equiv.sum_comp (ValueIdx.contrEquiv1 dot_S2176x8x64_S2176x8x64_S8x2176x2176_2_2_0_0_1_1 64 rfl rfl).symm]
  refine Finset.sum_congr rfl fun k _ => ?_
  have hk := ValueIdx.contrEquiv1_symm_val dot_S2176x8x64_S2176x8x64_S8x2176x2176_2_2_0_0_1_1 64 rfl rfl k
  have el : dot_S2176x8x64_S2176x8x64_S8x2176x2176_2_2_0_0_1_1.lhsIdx i ((ValueIdx.contrEquiv1 dot_S2176x8x64_S2176x8x64_S8x2176x2176_2_2_0_0_1_1 64 rfl rfl).symm k) = lidx_main_v0 i k := funext fun a => Fin.ext (by
    match a with
    | ⟨0, _⟩ => exact lhs_main_v0_0 _ _
    | ⟨1, _⟩ => exact lhs_main_v0_1 _ _
    | ⟨2, _⟩ => exact (lhs_main_v0_2 _ _).trans hk)
  have er : dot_S2176x8x64_S2176x8x64_S8x2176x2176_2_2_0_0_1_1.rhsIdx i ((ValueIdx.contrEquiv1 dot_S2176x8x64_S2176x8x64_S8x2176x2176_2_2_0_0_1_1 64 rfl rfl).symm k) = ridx_main_v0 i k := funext fun a => Fin.ext (by
    match a with
    | ⟨0, _⟩ => exact rhs_main_v0_0 _ _
    | ⟨1, _⟩ => exact rhs_main_v0_1 _ _
    | ⟨2, _⟩ => exact (rhs_main_v0_2 _ _).trans hk)
  rw [el, er]

-- %cst = stablehlo.constant dense<1.250000e-01>
def val_main_cst : (⟨S_, .f32⟩ : BufTy).Contents (Elt F) :=
  constant S_ .f32 0x3E000000#32
theorem val_main_cst_apply (i : S_.Idx) :
    val_main_cst (F := F) i = FloatOps.ofBits .f32 0x3E000000#32 := rfl

-- %1 = stablehlo.broadcast_in_dim %cst, dims = []
def val_main_v1 : (⟨S8x2176x2176, .f32⟩ : BufTy).Contents (Elt F) :=
  broadcastInDim S8x2176x2176 ![] bcast_S_S8x2176x2176 (val_main_cst (F := F))
abbrev idx_main_v1 (i : S8x2176x2176.Idx) : S_.Idx := fun a => a.elim0
theorem val_main_v1_apply (i : S8x2176x2176.Idx) :
    val_main_v1 (F := F) i = val_main_cst (F := F) (idx_main_v1 i) := by
  unfold val_main_v1
  generalize val_main_cst (F := F) = y
  exact broadcastInDim_apply _ bcast_S_S8x2176x2176 y i (idx_main_v1 i) (fun a => a.elim0)

-- %2 = stablehlo.multiply %0, %1
def val_main_v2 (x0 x1 : (⟨S2176x8x64, .f32⟩ : BufTy).Contents (Elt F)) : (⟨S8x2176x2176, .f32⟩ : BufTy).Contents (Elt F) :=
  mulf (val_main_v0 (F := F) x0 x1) (val_main_v1 (F := F))
theorem val_main_v2_apply (x0 x1 : (⟨S2176x8x64, .f32⟩ : BufTy).Contents (Elt F)) (i : S8x2176x2176.Idx) :
    val_main_v2 (F := F) x0 x1 i = FloatOps.mulf (val_main_v0 (F := F) x0 x1 i) (val_main_v1 (F := F) i) := rfl

-- %3 = stablehlo.transpose %arg3, dims = [1, 0]
def val_main_v3 (x3 : (⟨S2176x8, .f32⟩ : BufTy).Contents (Elt F)) : (⟨S8x2176, .f32⟩ : BufTy).Contents (Elt F) :=
  transpose S8x2176 [1, 0] (x3) transposes_S2176x8_S8x2176_1_0
abbrev idx_main_v3 (i : S8x2176.Idx) : S2176x8.Idx := fun a => match a with
  | ⟨0, _⟩ => ⟨(i 1).val, (i 1).isLt⟩
  | ⟨1, _⟩ => ⟨(i 0).val, (i 0).isLt⟩
theorem val_main_v3_apply (x3 : (⟨S2176x8, .f32⟩ : BufTy).Contents (Elt F)) (i : S8x2176.Idx) :
    val_main_v3 (F := F) x3 i = x3 (idx_main_v3 i) := by
  unfold val_main_v3
  exact transpose_apply [1, 0] x3 transposes_S2176x8_S8x2176_1_0 i (idx_main_v3 i) (fun b => match b with
    | ⟨0, _⟩ => rfl
    | ⟨1, _⟩ => rfl)

-- %4 = stablehlo.broadcast_in_dim %3, dims = [0, 1]
def val_main_v4 (x3 : (⟨S2176x8, .f32⟩ : BufTy).Contents (Elt F)) : (⟨S8x2176x1, .f32⟩ : BufTy).Contents (Elt F) :=
  broadcastInDim S8x2176x1 ![0, 1] bcast_S8x2176_S8x2176x1_0_1 (val_main_v3 (F := F) x3)
abbrev idx_main_v4 (i : S8x2176x1.Idx) : S8x2176.Idx := fun a => match a with
  | ⟨0, _⟩ => ⟨(i 0).val, (i 0).isLt⟩
  | ⟨1, _⟩ => ⟨(i 1).val, (i 1).isLt⟩
theorem val_main_v4_apply (x3 : (⟨S2176x8, .f32⟩ : BufTy).Contents (Elt F)) (i : S8x2176x1.Idx) :
    val_main_v4 (F := F) x3 i = val_main_v3 (F := F) x3 (idx_main_v4 i) := by
  unfold val_main_v4
  generalize val_main_v3 (F := F) x3 = y
  exact broadcastInDim_apply _ bcast_S8x2176_S8x2176x1_0_1 y i (idx_main_v4 i) (fun a => match a with
    | ⟨0, _⟩ => by show (i 0).val = if (8 : Nat) = 1 then 0 else (i 0).val; rw [if_neg (by decide)]
    | ⟨1, _⟩ => by show (i 1).val = if (2176 : Nat) = 1 then 0 else (i 1).val; rw [if_neg (by decide)])

-- %5 = stablehlo.broadcast_in_dim %4, dims = [0, 1, 2]
def val_main_v5 (x3 : (⟨S2176x8, .f32⟩ : BufTy).Contents (Elt F)) : (⟨S8x2176x2176, .f32⟩ : BufTy).Contents (Elt F) :=
  broadcastInDim S8x2176x2176 ![0, 1, 2] bcast_S8x2176x1_S8x2176x2176_0_1_2 (val_main_v4 (F := F) x3)
abbrev idx_main_v5 (i : S8x2176x2176.Idx) : S8x2176x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v5_apply (x3 : (⟨S2176x8, .f32⟩ : BufTy).Contents (Elt F)) (i : S8x2176x2176.Idx) :
    val_main_v5 (F := F) x3 i = val_main_v4 (F := F) x3 (idx_main_v5 i) := by
  unfold val_main_v5
  generalize val_main_v4 (F := F) x3 = y
  exact broadcastInDim_apply _ bcast_S8x2176x1_S8x2176x2176_0_1_2 y i (idx_main_v5 i) (fun a => match a with
    | ⟨0, _⟩ => by show (i 0).val = if (8 : Nat) = 1 then 0 else (i 0).val; rw [if_neg (by decide)]
    | ⟨1, _⟩ => by show (i 1).val = if (2176 : Nat) = 1 then 0 else (i 1).val; rw [if_neg (by decide)]
    | ⟨2, _⟩ => by show 0 = if (1 : Nat) = 1 then 0 else (i 2).val; rw [if_pos rfl])

-- %6 = stablehlo.add %2, %5
def val_main_v6 (x0 x1 : (⟨S2176x8x64, .f32⟩ : BufTy).Contents (Elt F)) (x3 : (⟨S2176x8, .f32⟩ : BufTy).Contents (Elt F)) : (⟨S8x2176x2176, .f32⟩ : BufTy).Contents (Elt F) :=
  addf (val_main_v2 (F := F) x0 x1) (val_main_v5 (F := F) x3)
theorem val_main_v6_apply (x0 x1 : (⟨S2176x8x64, .f32⟩ : BufTy).Contents (Elt F)) (x3 : (⟨S2176x8, .f32⟩ : BufTy).Contents (Elt F)) (i : S8x2176x2176.Idx) :
    val_main_v6 (F := F) x0 x1 x3 i = FloatOps.addf (val_main_v2 (F := F) x0 x1 i) (val_main_v5 (F := F) x3 i) := rfl

-- %7 = stablehlo.transpose %arg3, dims = [1, 0]
def val_main_v7 (x3 : (⟨S2176x8, .f32⟩ : BufTy).Contents (Elt F)) : (⟨S8x2176, .f32⟩ : BufTy).Contents (Elt F) :=
  transpose S8x2176 [1, 0] (x3) transposes_S2176x8_S8x2176_1_0
abbrev idx_main_v7 (i : S8x2176.Idx) : S2176x8.Idx := fun a => match a with
  | ⟨0, _⟩ => ⟨(i 1).val, (i 1).isLt⟩
  | ⟨1, _⟩ => ⟨(i 0).val, (i 0).isLt⟩
theorem val_main_v7_apply (x3 : (⟨S2176x8, .f32⟩ : BufTy).Contents (Elt F)) (i : S8x2176.Idx) :
    val_main_v7 (F := F) x3 i = x3 (idx_main_v7 i) := by
  unfold val_main_v7
  exact transpose_apply [1, 0] x3 transposes_S2176x8_S8x2176_1_0 i (idx_main_v7 i) (fun b => match b with
    | ⟨0, _⟩ => rfl
    | ⟨1, _⟩ => rfl)

-- %8 = stablehlo.broadcast_in_dim %7, dims = [0, 2]
def val_main_v8 (x3 : (⟨S2176x8, .f32⟩ : BufTy).Contents (Elt F)) : (⟨S8x1x2176, .f32⟩ : BufTy).Contents (Elt F) :=
  broadcastInDim S8x1x2176 ![0, 2] bcast_S8x2176_S8x1x2176_0_2 (val_main_v7 (F := F) x3)
abbrev idx_main_v8 (i : S8x1x2176.Idx) : S8x2176.Idx := fun a => match a with
  | ⟨0, _⟩ => ⟨(i 0).val, (i 0).isLt⟩
  | ⟨1, _⟩ => ⟨(i 2).val, (i 2).isLt⟩
theorem val_main_v8_apply (x3 : (⟨S2176x8, .f32⟩ : BufTy).Contents (Elt F)) (i : S8x1x2176.Idx) :
    val_main_v8 (F := F) x3 i = val_main_v7 (F := F) x3 (idx_main_v8 i) := by
  unfold val_main_v8
  generalize val_main_v7 (F := F) x3 = y
  exact broadcastInDim_apply _ bcast_S8x2176_S8x1x2176_0_2 y i (idx_main_v8 i) (fun a => match a with
    | ⟨0, _⟩ => by show (i 0).val = if (8 : Nat) = 1 then 0 else (i 0).val; rw [if_neg (by decide)]
    | ⟨1, _⟩ => by show (i 2).val = if (2176 : Nat) = 1 then 0 else (i 2).val; rw [if_neg (by decide)])

-- %9 = stablehlo.broadcast_in_dim %8, dims = [0, 1, 2]
def val_main_v9 (x3 : (⟨S2176x8, .f32⟩ : BufTy).Contents (Elt F)) : (⟨S8x2176x2176, .f32⟩ : BufTy).Contents (Elt F) :=
  broadcastInDim S8x2176x2176 ![0, 1, 2] bcast_S8x1x2176_S8x2176x2176_0_1_2 (val_main_v8 (F := F) x3)
abbrev idx_main_v9 (i : S8x2176x2176.Idx) : S8x1x2176.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v9_apply (x3 : (⟨S2176x8, .f32⟩ : BufTy).Contents (Elt F)) (i : S8x2176x2176.Idx) :
    val_main_v9 (F := F) x3 i = val_main_v8 (F := F) x3 (idx_main_v9 i) := by
  unfold val_main_v9
  generalize val_main_v8 (F := F) x3 = y
  exact broadcastInDim_apply _ bcast_S8x1x2176_S8x2176x2176_0_1_2 y i (idx_main_v9 i) (fun a => match a with
    | ⟨0, _⟩ => by show (i 0).val = if (8 : Nat) = 1 then 0 else (i 0).val; rw [if_neg (by decide)]
    | ⟨1, _⟩ => by show 0 = if (1 : Nat) = 1 then 0 else (i 1).val; rw [if_pos rfl]
    | ⟨2, _⟩ => by show (i 2).val = if (2176 : Nat) = 1 then 0 else (i 2).val; rw [if_neg (by decide)])

-- %10 = stablehlo.subtract %6, %9
def val_main_v10 (x0 x1 : (⟨S2176x8x64, .f32⟩ : BufTy).Contents (Elt F)) (x3 : (⟨S2176x8, .f32⟩ : BufTy).Contents (Elt F)) : (⟨S8x2176x2176, .f32⟩ : BufTy).Contents (Elt F) :=
  subf (val_main_v6 (F := F) x0 x1 x3) (val_main_v9 (F := F) x3)
theorem val_main_v10_apply (x0 x1 : (⟨S2176x8x64, .f32⟩ : BufTy).Contents (Elt F)) (x3 : (⟨S2176x8, .f32⟩ : BufTy).Contents (Elt F)) (i : S8x2176x2176.Idx) :
    val_main_v10 (F := F) x0 x1 x3 i = FloatOps.subf (val_main_v6 (F := F) x0 x1 x3 i) (val_main_v9 (F := F) x3 i) := rfl

-- %11 = stablehlo.iota dim = 0
def val_main_v11 : (⟨S2176, .i32⟩ : BufTy).Contents (Elt F) :=
  iotaInDim S2176 32 0
theorem val_main_v11_apply (i : S2176.Idx) :
    val_main_v11 (F := F) i = BitVec.ofNat 32 (i 0).val := rfl

-- %12 = stablehlo.broadcast_in_dim %11, dims = [1]
def val_main_v12 : (⟨S1x2176, .i32⟩ : BufTy).Contents (Elt F) :=
  broadcastInDim S1x2176 ![1] bcast_S2176_S1x2176_1 (val_main_v11 (F := F))
abbrev idx_main_v12 (i : S1x2176.Idx) : S2176.Idx := fun a => match a with
  | ⟨0, _⟩ => ⟨(i 1).val, (i 1).isLt⟩
theorem val_main_v12_apply (i : S1x2176.Idx) :
    val_main_v12 (F := F) i = val_main_v11 (F := F) (idx_main_v12 i) := by
  unfold val_main_v12
  generalize val_main_v11 (F := F) = y
  exact broadcastInDim_apply _ bcast_S2176_S1x2176_1 y i (idx_main_v12 i) (fun a => match a with
    | ⟨0, _⟩ => by show (i 1).val = if (2176 : Nat) = 1 then 0 else (i 1).val; rw [if_neg (by decide)])

-- %13 = stablehlo.broadcast_in_dim %11, dims = [0]
def val_main_v13 : (⟨S2176x1, .i32⟩ : BufTy).Contents (Elt F) :=
  broadcastInDim S2176x1 ![0] bcast_S2176_S2176x1_0 (val_main_v11 (F := F))
abbrev idx_main_v13 (i : S2176x1.Idx) : S2176.Idx := fun a => match a with
  | ⟨0, _⟩ => ⟨(i 0).val, (i 0).isLt⟩
theorem val_main_v13_apply (i : S2176x1.Idx) :
    val_main_v13 (F := F) i = val_main_v11 (F := F) (idx_main_v13 i) := by
  unfold val_main_v13
  generalize val_main_v11 (F := F) = y
  exact broadcastInDim_apply _ bcast_S2176_S2176x1_0 y i (idx_main_v13 i) (fun a => match a with
    | ⟨0, _⟩ => by show (i 0).val = if (2176 : Nat) = 1 then 0 else (i 0).val; rw [if_neg (by decide)])

-- %14 = stablehlo.broadcast_in_dim %12, dims = [0, 1]
def val_main_v14 : (⟨S2176x2176, .i32⟩ : BufTy).Contents (Elt F) :=
  broadcastInDim S2176x2176 ![0, 1] bcast_S1x2176_S2176x2176_0_1 (val_main_v12 (F := F))
abbrev idx_main_v14 (i : S2176x2176.Idx) : S1x2176.Idx := fun a => match a with
  | ⟨0, _⟩ => ⟨0, Nat.one_pos⟩
  | ⟨1, _⟩ => ⟨(i 1).val, (i 1).isLt⟩
theorem val_main_v14_apply (i : S2176x2176.Idx) :
    val_main_v14 (F := F) i = val_main_v12 (F := F) (idx_main_v14 i) := by
  unfold val_main_v14
  generalize val_main_v12 (F := F) = y
  exact broadcastInDim_apply _ bcast_S1x2176_S2176x2176_0_1 y i (idx_main_v14 i) (fun a => match a with
    | ⟨0, _⟩ => by show 0 = if (1 : Nat) = 1 then 0 else (i 0).val; rw [if_pos rfl]
    | ⟨1, _⟩ => by show (i 1).val = if (2176 : Nat) = 1 then 0 else (i 1).val; rw [if_neg (by decide)])

-- %15 = stablehlo.broadcast_in_dim %13, dims = [0, 1]
def val_main_v15 : (⟨S2176x2176, .i32⟩ : BufTy).Contents (Elt F) :=
  broadcastInDim S2176x2176 ![0, 1] bcast_S2176x1_S2176x2176_0_1 (val_main_v13 (F := F))
abbrev idx_main_v15 (i : S2176x2176.Idx) : S2176x1.Idx := fun a => match a with
  | ⟨0, _⟩ => ⟨(i 0).val, (i 0).isLt⟩
  | ⟨1, _⟩ => ⟨0, Nat.one_pos⟩
theorem val_main_v15_apply (i : S2176x2176.Idx) :
    val_main_v15 (F := F) i = val_main_v13 (F := F) (idx_main_v15 i) := by
  unfold val_main_v15
  generalize val_main_v13 (F := F) = y
  exact broadcastInDim_apply _ bcast_S2176x1_S2176x2176_0_1 y i (idx_main_v15 i) (fun a => match a with
    | ⟨0, _⟩ => by show (i 0).val = if (2176 : Nat) = 1 then 0 else (i 0).val; rw [if_neg (by decide)]
    | ⟨1, _⟩ => by show 0 = if (1 : Nat) = 1 then 0 else (i 1).val; rw [if_pos rfl])

-- %16 = stablehlo.compare LE, %14, %15, SIGNED
def val_main_v16 : (⟨S2176x2176, .i1⟩ : BufTy).Contents (Elt F) :=
  cmpi .sle (val_main_v14 (F := F)) (val_main_v15 (F := F))
theorem val_main_v16_apply (i : S2176x2176.Idx) :
    val_main_v16 (F := F) i = IntOp.cmpi .sle (val_main_v14 (F := F) i) (val_main_v15 (F := F) i) := rfl

-- %cst_0 = stablehlo.constant dense<0xFF800000>
def val_main_cst_0 : (⟨S_, .f32⟩ : BufTy).Contents (Elt F) :=
  constant S_ .f32 0xFF800000#32

-- @_where's %0 = stablehlo.convert %arg2
def val_main_call0_v0 : (⟨S_, .f32⟩ : BufTy).Contents (Elt F) :=
  id (val_main_cst_0 (F := F))

-- @_where's %1 = stablehlo.broadcast_in_dim %arg0, dims = [1, 2]
def val_main_call0_v1 : (⟨S8x2176x2176, .i1⟩ : BufTy).Contents (Elt F) :=
  broadcastInDim S8x2176x2176 ![1, 2] bcast_S2176x2176_S8x2176x2176_1_2 (val_main_v16 (F := F))
abbrev idx_main_call0_v1 (i : S8x2176x2176.Idx) : S2176x2176.Idx := fun a => match a with
  | ⟨0, _⟩ => ⟨(i 1).val, (i 1).isLt⟩
  | ⟨1, _⟩ => ⟨(i 2).val, (i 2).isLt⟩
theorem val_main_call0_v1_apply (i : S8x2176x2176.Idx) :
    val_main_call0_v1 (F := F) i = val_main_v16 (F := F) (idx_main_call0_v1 i) := by
  unfold val_main_call0_v1
  generalize val_main_v16 (F := F) = y
  exact broadcastInDim_apply _ bcast_S2176x2176_S8x2176x2176_1_2 y i (idx_main_call0_v1 i) (fun a => match a with
    | ⟨0, _⟩ => by show (i 1).val = if (2176 : Nat) = 1 then 0 else (i 1).val; rw [if_neg (by decide)]
    | ⟨1, _⟩ => by show (i 2).val = if (2176 : Nat) = 1 then 0 else (i 2).val; rw [if_neg (by decide)])

-- @_where's %2 = stablehlo.broadcast_in_dim %0, dims = []
def val_main_call0_v2 : (⟨S8x2176x2176, .f32⟩ : BufTy).Contents (Elt F) :=
  broadcastInDim S8x2176x2176 ![] bcast_S_S8x2176x2176 (val_main_call0_v0 (F := F))
abbrev idx_main_call0_v2 (i : S8x2176x2176.Idx) : S_.Idx := fun a => a.elim0
theorem val_main_call0_v2_apply (i : S8x2176x2176.Idx) :
    val_main_call0_v2 (F := F) i = val_main_call0_v0 (F := F) (idx_main_call0_v2 i) := by
  unfold val_main_call0_v2
  generalize val_main_call0_v0 (F := F) = y
  exact broadcastInDim_apply _ bcast_S_S8x2176x2176 y i (idx_main_call0_v2 i) (fun a => a.elim0)

-- %17 = func.call @_where(…) (record main_call0) result 0: @_where's %3 = stablehlo.select %1, %arg1, %2
def val_main_v17 (x0 x1 : (⟨S2176x8x64, .f32⟩ : BufTy).Contents (Elt F)) (x3 : (⟨S2176x8, .f32⟩ : BufTy).Contents (Elt F)) : (⟨S8x2176x2176, .f32⟩ : BufTy).Contents (Elt F) :=
  select (val_main_call0_v1 (F := F)) (val_main_v10 (F := F) x0 x1 x3) (val_main_call0_v2 (F := F))
theorem val_main_v17_apply (x0 x1 : (⟨S2176x8x64, .f32⟩ : BufTy).Contents (Elt F)) (x3 : (⟨S2176x8, .f32⟩ : BufTy).Contents (Elt F)) (i : S8x2176x2176.Idx) :
    val_main_v17 (F := F) x0 x1 x3 i = Scalar.select (val_main_call0_v1 (F := F) i) (val_main_v10 (F := F) x0 x1 x3 i) (val_main_call0_v2 (F := F) i) := rfl

-- %cst_1 = stablehlo.constant dense<0xFF800000>
def val_main_cst_1 : (⟨S_, .f32⟩ : BufTy).Contents (Elt F) :=
  constant S_ .f32 0xFF800000#32

-- %18 = stablehlo.reduce(%17 init: %cst_1) applies stablehlo.maximum across dimensions = [2]
def val_main_v18 (x0 x1 : (⟨S2176x8x64, .f32⟩ : BufTy).Contents (Elt F)) (x3 : (⟨S2176x8, .f32⟩ : BufTy).Contents (Elt F)) : (⟨S8x2176, .f32⟩ : BufTy).Contents (Elt F) :=
  Host.reduce FloatOps.maximumf (val_main_v17 (F := F) x0 x1 x3) (val_main_cst_1 (F := F)) reducesTo_S8x2176x2176_S8x2176_d2 h_S_

-- %19 = stablehlo.broadcast_in_dim %18, dims = [0, 1]
def val_main_v19 (x0 x1 : (⟨S2176x8x64, .f32⟩ : BufTy).Contents (Elt F)) (x3 : (⟨S2176x8, .f32⟩ : BufTy).Contents (Elt F)) : (⟨S8x2176x1, .f32⟩ : BufTy).Contents (Elt F) :=
  broadcastInDim S8x2176x1 ![0, 1] bcast_S8x2176_S8x2176x1_0_1 (val_main_v18 (F := F) x0 x1 x3)
abbrev idx_main_v19 (i : S8x2176x1.Idx) : S8x2176.Idx := fun a => match a with
  | ⟨0, _⟩ => ⟨(i 0).val, (i 0).isLt⟩
  | ⟨1, _⟩ => ⟨(i 1).val, (i 1).isLt⟩
theorem val_main_v19_apply (x0 x1 : (⟨S2176x8x64, .f32⟩ : BufTy).Contents (Elt F)) (x3 : (⟨S2176x8, .f32⟩ : BufTy).Contents (Elt F)) (i : S8x2176x1.Idx) :
    val_main_v19 (F := F) x0 x1 x3 i = val_main_v18 (F := F) x0 x1 x3 (idx_main_v19 i) := by
  unfold val_main_v19
  generalize val_main_v18 (F := F) x0 x1 x3 = y
  exact broadcastInDim_apply _ bcast_S8x2176_S8x2176x1_0_1 y i (idx_main_v19 i) (fun a => match a with
    | ⟨0, _⟩ => by show (i 0).val = if (8 : Nat) = 1 then 0 else (i 0).val; rw [if_neg (by decide)]
    | ⟨1, _⟩ => by show (i 1).val = if (2176 : Nat) = 1 then 0 else (i 1).val; rw [if_neg (by decide)])

-- %20 = stablehlo.broadcast_in_dim %19, dims = [0, 1, 2]
def val_main_v20 (x0 x1 : (⟨S2176x8x64, .f32⟩ : BufTy).Contents (Elt F)) (x3 : (⟨S2176x8, .f32⟩ : BufTy).Contents (Elt F)) : (⟨S8x2176x2176, .f32⟩ : BufTy).Contents (Elt F) :=
  broadcastInDim S8x2176x2176 ![0, 1, 2] bcast_S8x2176x1_S8x2176x2176_0_1_2 (val_main_v19 (F := F) x0 x1 x3)
abbrev idx_main_v20 (i : S8x2176x2176.Idx) : S8x2176x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v20_apply (x0 x1 : (⟨S2176x8x64, .f32⟩ : BufTy).Contents (Elt F)) (x3 : (⟨S2176x8, .f32⟩ : BufTy).Contents (Elt F)) (i : S8x2176x2176.Idx) :
    val_main_v20 (F := F) x0 x1 x3 i = val_main_v19 (F := F) x0 x1 x3 (idx_main_v20 i) := by
  unfold val_main_v20
  generalize val_main_v19 (F := F) x0 x1 x3 = y
  exact broadcastInDim_apply _ bcast_S8x2176x1_S8x2176x2176_0_1_2 y i (idx_main_v20 i) (fun a => match a with
    | ⟨0, _⟩ => by show (i 0).val = if (8 : Nat) = 1 then 0 else (i 0).val; rw [if_neg (by decide)]
    | ⟨1, _⟩ => by show (i 1).val = if (2176 : Nat) = 1 then 0 else (i 1).val; rw [if_neg (by decide)]
    | ⟨2, _⟩ => by show 0 = if (1 : Nat) = 1 then 0 else (i 2).val; rw [if_pos rfl])

-- %21 = stablehlo.subtract %17, %20
def val_main_v21 (x0 x1 : (⟨S2176x8x64, .f32⟩ : BufTy).Contents (Elt F)) (x3 : (⟨S2176x8, .f32⟩ : BufTy).Contents (Elt F)) : (⟨S8x2176x2176, .f32⟩ : BufTy).Contents (Elt F) :=
  subf (val_main_v17 (F := F) x0 x1 x3) (val_main_v20 (F := F) x0 x1 x3)
theorem val_main_v21_apply (x0 x1 : (⟨S2176x8x64, .f32⟩ : BufTy).Contents (Elt F)) (x3 : (⟨S2176x8, .f32⟩ : BufTy).Contents (Elt F)) (i : S8x2176x2176.Idx) :
    val_main_v21 (F := F) x0 x1 x3 i = FloatOps.subf (val_main_v17 (F := F) x0 x1 x3 i) (val_main_v20 (F := F) x0 x1 x3 i) := rfl

-- %22 = stablehlo.exponential %21
def val_main_v22 (x0 x1 : (⟨S2176x8x64, .f32⟩ : BufTy).Contents (Elt F)) (x3 : (⟨S2176x8, .f32⟩ : BufTy).Contents (Elt F)) : (⟨S8x2176x2176, .f32⟩ : BufTy).Contents (Elt F) :=
  Host.exp (val_main_v21 (F := F) x0 x1 x3)
theorem val_main_v22_apply (x0 x1 : (⟨S2176x8x64, .f32⟩ : BufTy).Contents (Elt F)) (x3 : (⟨S2176x8, .f32⟩ : BufTy).Contents (Elt F)) (i : S8x2176x2176.Idx) :
    val_main_v22 (F := F) x0 x1 x3 i = FloatOps.hostUnary .exp (val_main_v21 (F := F) x0 x1 x3 i) := rfl

-- %cst_2 = stablehlo.constant dense<0.000000e+00>
def val_main_cst_2 : (⟨S_, .f32⟩ : BufTy).Contents (Elt F) :=
  constant S_ .f32 0x00000000#32

-- %23 = stablehlo.reduce(%22 init: %cst_2) applies stablehlo.add across dimensions = [2]
def val_main_v23 (x0 x1 : (⟨S2176x8x64, .f32⟩ : BufTy).Contents (Elt F)) (x3 : (⟨S2176x8, .f32⟩ : BufTy).Contents (Elt F)) : (⟨S8x2176, .f32⟩ : BufTy).Contents (Elt F) :=
  Host.reduceAdd (val_main_v22 (F := F) x0 x1 x3) (val_main_cst_2 (F := F)) reducesTo_S8x2176x2176_S8x2176_d2 h_S_
abbrev idx_main_v23 (i : S8x2176.Idx) (k : Fin 2176) : S8x2176x2176.Idx := fun a => match a with
  | ⟨0, _⟩ => ⟨(i 0).val, (i 0).isLt⟩
  | ⟨1, _⟩ => ⟨(i 1).val, (i 1).isLt⟩
  | ⟨2, _⟩ => ⟨k.val, k.isLt⟩
theorem val_main_v23_apply (x0 x1 : (⟨S2176x8x64, .f32⟩ : BufTy).Contents (Elt Ideal)) (x3 : (⟨S2176x8, .f32⟩ : BufTy).Contents (Elt Ideal)) (i : S8x2176.Idx) :
    val_main_v23 (F := Ideal) x0 x1 x3 i = (val_main_cst_2 (F := Ideal)) (Shape.Idx.first h_S_) + ∑ k : Fin 2176, (val_main_v22 (F := Ideal) x0 x1 x3) (idx_main_v23 i k) := by
  unfold val_main_v23
  generalize val_main_v22 (F := Ideal) x0 x1 x3 = y0
  simp only [Host.reduceAdd, Ideal.hostReduceAdd_def]
  rw [Ideal.hostReduceAdd_single reducesTo_S8x2176x2176_S8x2176_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %24 = stablehlo.log %23
def val_main_v24 (x0 x1 : (⟨S2176x8x64, .f32⟩ : BufTy).Contents (Elt F)) (x3 : (⟨S2176x8, .f32⟩ : BufTy).Contents (Elt F)) : (⟨S8x2176, .f32⟩ : BufTy).Contents (Elt F) :=
  Host.log (val_main_v23 (F := F) x0 x1 x3)
theorem val_main_v24_apply (x0 x1 : (⟨S2176x8x64, .f32⟩ : BufTy).Contents (Elt F)) (x3 : (⟨S2176x8, .f32⟩ : BufTy).Contents (Elt F)) (i : S8x2176.Idx) :
    val_main_v24 (F := F) x0 x1 x3 i = FloatOps.hostUnary .log (val_main_v23 (F := F) x0 x1 x3 i) := rfl

-- %25 = stablehlo.add %18, %24
def val_main_v25 (x0 x1 : (⟨S2176x8x64, .f32⟩ : BufTy).Contents (Elt F)) (x3 : (⟨S2176x8, .f32⟩ : BufTy).Contents (Elt F)) : (⟨S8x2176, .f32⟩ : BufTy).Contents (Elt F) :=
  addf (val_main_v18 (F := F) x0 x1 x3) (val_main_v24 (F := F) x0 x1 x3)
theorem val_main_v25_apply (x0 x1 : (⟨S2176x8x64, .f32⟩ : BufTy).Contents (Elt F)) (x3 : (⟨S2176x8, .f32⟩ : BufTy).Contents (Elt F)) (i : S8x2176.Idx) :
    val_main_v25 (F := F) x0 x1 x3 i = FloatOps.addf (val_main_v18 (F := F) x0 x1 x3 i) (val_main_v24 (F := F) x0 x1 x3 i) := rfl

-- %26 = stablehlo.broadcast_in_dim %23, dims = [0, 1]
def val_main_v26 (x0 x1 : (⟨S2176x8x64, .f32⟩ : BufTy).Contents (Elt F)) (x3 : (⟨S2176x8, .f32⟩ : BufTy).Contents (Elt F)) : (⟨S8x2176x1, .f32⟩ : BufTy).Contents (Elt F) :=
  broadcastInDim S8x2176x1 ![0, 1] bcast_S8x2176_S8x2176x1_0_1 (val_main_v23 (F := F) x0 x1 x3)
abbrev idx_main_v26 (i : S8x2176x1.Idx) : S8x2176.Idx := fun a => match a with
  | ⟨0, _⟩ => ⟨(i 0).val, (i 0).isLt⟩
  | ⟨1, _⟩ => ⟨(i 1).val, (i 1).isLt⟩
theorem val_main_v26_apply (x0 x1 : (⟨S2176x8x64, .f32⟩ : BufTy).Contents (Elt F)) (x3 : (⟨S2176x8, .f32⟩ : BufTy).Contents (Elt F)) (i : S8x2176x1.Idx) :
    val_main_v26 (F := F) x0 x1 x3 i = val_main_v23 (F := F) x0 x1 x3 (idx_main_v26 i) := by
  unfold val_main_v26
  generalize val_main_v23 (F := F) x0 x1 x3 = y
  exact broadcastInDim_apply _ bcast_S8x2176_S8x2176x1_0_1 y i (idx_main_v26 i) (fun a => match a with
    | ⟨0, _⟩ => by show (i 0).val = if (8 : Nat) = 1 then 0 else (i 0).val; rw [if_neg (by decide)]
    | ⟨1, _⟩ => by show (i 1).val = if (2176 : Nat) = 1 then 0 else (i 1).val; rw [if_neg (by decide)])

-- %27 = stablehlo.broadcast_in_dim %26, dims = [0, 1, 2]
def val_main_v27 (x0 x1 : (⟨S2176x8x64, .f32⟩ : BufTy).Contents (Elt F)) (x3 : (⟨S2176x8, .f32⟩ : BufTy).Contents (Elt F)) : (⟨S8x2176x2176, .f32⟩ : BufTy).Contents (Elt F) :=
  broadcastInDim S8x2176x2176 ![0, 1, 2] bcast_S8x2176x1_S8x2176x2176_0_1_2 (val_main_v26 (F := F) x0 x1 x3)
abbrev idx_main_v27 (i : S8x2176x2176.Idx) : S8x2176x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v27_apply (x0 x1 : (⟨S2176x8x64, .f32⟩ : BufTy).Contents (Elt F)) (x3 : (⟨S2176x8, .f32⟩ : BufTy).Contents (Elt F)) (i : S8x2176x2176.Idx) :
    val_main_v27 (F := F) x0 x1 x3 i = val_main_v26 (F := F) x0 x1 x3 (idx_main_v27 i) := by
  unfold val_main_v27
  generalize val_main_v26 (F := F) x0 x1 x3 = y
  exact broadcastInDim_apply _ bcast_S8x2176x1_S8x2176x2176_0_1_2 y i (idx_main_v27 i) (fun a => match a with
    | ⟨0, _⟩ => by show (i 0).val = if (8 : Nat) = 1 then 0 else (i 0).val; rw [if_neg (by decide)]
    | ⟨1, _⟩ => by show (i 1).val = if (2176 : Nat) = 1 then 0 else (i 1).val; rw [if_neg (by decide)]
    | ⟨2, _⟩ => by show 0 = if (1 : Nat) = 1 then 0 else (i 2).val; rw [if_pos rfl])

-- %28 = stablehlo.divide %22, %27
def val_main_v28 (x0 x1 : (⟨S2176x8x64, .f32⟩ : BufTy).Contents (Elt F)) (x3 : (⟨S2176x8, .f32⟩ : BufTy).Contents (Elt F)) : (⟨S8x2176x2176, .f32⟩ : BufTy).Contents (Elt F) :=
  Host.divf (val_main_v22 (F := F) x0 x1 x3) (val_main_v27 (F := F) x0 x1 x3)
theorem val_main_v28_apply (x0 x1 : (⟨S2176x8x64, .f32⟩ : BufTy).Contents (Elt F)) (x3 : (⟨S2176x8, .f32⟩ : BufTy).Contents (Elt F)) (i : S8x2176x2176.Idx) :
    val_main_v28 (F := F) x0 x1 x3 i = FloatOps.hostDivf (val_main_v22 (F := F) x0 x1 x3 i) (val_main_v27 (F := F) x0 x1 x3 i) := rfl

-- %29 = stablehlo.dot_general %arg2, %28, batching_dims = [1] x [0], contracting_dims = [0] x [2], precision = [DEFAULT, DEFAULT]
def val_main_v29 (x0 x1 x2 : (⟨S2176x8x64, .f32⟩ : BufTy).Contents (Elt F)) (x3 : (⟨S2176x8, .f32⟩ : BufTy).Contents (Elt F)) : (⟨S8x64x2176, .f32⟩ : BufTy).Contents (Elt F) :=
  Host.dotGeneral dot_S2176x8x64_S8x2176x2176_S8x64x2176_0_2_2_1_1_0 none (x2) (val_main_v28 (F := F) x0 x1 x3)
theorem lhs_main_v29_0 (i : S8x64x2176.Idx) (q : dot_S2176x8x64_S8x2176x2176_S8x64x2176_0_2_2_1_1_0.contr.Idx) :
    (dot_S2176x8x64_S8x2176x2176_S8x64x2176_0_2_2_1_1_0.lhsIdx i q 0).val = (q ⟨0, by decide⟩).val :=
  dot_S2176x8x64_S8x2176x2176_S8x64x2176_0_2_2_1_1_0.lhsIdx_val_of_single rfl i q
theorem lhs_main_v29_1 (i : S8x64x2176.Idx) (q : dot_S2176x8x64_S8x2176x2176_S8x64x2176_0_2_2_1_1_0.contr.Idx) :
    (dot_S2176x8x64_S8x2176x2176_S8x64x2176_0_2_2_1_1_0.lhsIdx i q 1).val = (i 0).val := by
  unfold DotDims.lhsIdx
  rw [dif_pos (show (1 : Fin S2176x8x64.rank) ∈ dot_S2176x8x64_S8x2176x2176_S8x64x2176_0_2_2_1_1_0.lhsBatch by decide)]
  rfl
theorem lhs_main_v29_2 (i : S8x64x2176.Idx) (q : dot_S2176x8x64_S8x2176x2176_S8x64x2176_0_2_2_1_1_0.contr.Idx) :
    (dot_S2176x8x64_S8x2176x2176_S8x64x2176_0_2_2_1_1_0.lhsIdx i q 2).val = (i 1).val := by
  unfold DotDims.lhsIdx
  rw [dif_neg (show ¬(2 : Fin S2176x8x64.rank) ∈ dot_S2176x8x64_S8x2176x2176_S8x64x2176_0_2_2_1_1_0.lhsBatch by decide), dif_pos (show (2 : Fin S2176x8x64.rank) ∈ dot_S2176x8x64_S8x2176x2176_S8x64x2176_0_2_2_1_1_0.lhsNonContracting by decide)]
  rfl
theorem rhs_main_v29_0 (i : S8x64x2176.Idx) (q : dot_S2176x8x64_S8x2176x2176_S8x64x2176_0_2_2_1_1_0.contr.Idx) :
    (dot_S2176x8x64_S8x2176x2176_S8x64x2176_0_2_2_1_1_0.rhsIdx i q 0).val = (i 0).val := by
  unfold DotDims.rhsIdx
  rw [dif_pos (show (0 : Fin S8x2176x2176.rank) ∈ dot_S2176x8x64_S8x2176x2176_S8x64x2176_0_2_2_1_1_0.rhsBatch by decide)]
  rfl
theorem rhs_main_v29_1 (i : S8x64x2176.Idx) (q : dot_S2176x8x64_S8x2176x2176_S8x64x2176_0_2_2_1_1_0.contr.Idx) :
    (dot_S2176x8x64_S8x2176x2176_S8x64x2176_0_2_2_1_1_0.rhsIdx i q 1).val = (i 2).val := by
  unfold DotDims.rhsIdx
  rw [dif_neg (show ¬(1 : Fin S8x2176x2176.rank) ∈ dot_S2176x8x64_S8x2176x2176_S8x64x2176_0_2_2_1_1_0.rhsBatch by decide), dif_pos (show (1 : Fin S8x2176x2176.rank) ∈ dot_S2176x8x64_S8x2176x2176_S8x64x2176_0_2_2_1_1_0.rhsNonContracting by decide)]
  rfl
theorem rhs_main_v29_2 (i : S8x64x2176.Idx) (q : dot_S2176x8x64_S8x2176x2176_S8x64x2176_0_2_2_1_1_0.contr.Idx) :
    (dot_S2176x8x64_S8x2176x2176_S8x64x2176_0_2_2_1_1_0.rhsIdx i q 2).val = (q ⟨0, by decide⟩).val :=
  dot_S2176x8x64_S8x2176x2176_S8x64x2176_0_2_2_1_1_0.rhsIdx_val_of_single rfl i q
abbrev lidx_main_v29 (i : S8x64x2176.Idx) (k : Fin 2176) : S2176x8x64.Idx := fun a => match a with
  | ⟨0, _⟩ => ⟨k.val, k.isLt⟩
  | ⟨1, _⟩ => ⟨(i 0).val, (i 0).isLt⟩
  | ⟨2, _⟩ => ⟨(i 1).val, (i 1).isLt⟩
abbrev ridx_main_v29 (i : S8x64x2176.Idx) (k : Fin 2176) : S8x2176x2176.Idx := fun a => match a with
  | ⟨0, _⟩ => ⟨(i 0).val, (i 0).isLt⟩
  | ⟨1, _⟩ => ⟨(i 2).val, (i 2).isLt⟩
  | ⟨2, _⟩ => ⟨k.val, k.isLt⟩
theorem val_main_v29_apply (x0 x1 x2 : (⟨S2176x8x64, .f32⟩ : BufTy).Contents (Elt Ideal)) (x3 : (⟨S2176x8, .f32⟩ : BufTy).Contents (Elt Ideal)) (i : S8x64x2176.Idx) :
    val_main_v29 (F := Ideal) x0 x1 x2 x3 i = ∑ k : Fin 2176, x2 (lidx_main_v29 i k) * (val_main_v28 (F := Ideal) x0 x1 x3) (ridx_main_v29 i k) := by
  unfold val_main_v29
  generalize val_main_v28 (F := Ideal) x0 x1 x3 = y0
  simp only [Host.dotGeneral]
  rw [Ideal.dotGeneral_apply, ← Equiv.sum_comp (ValueIdx.contrEquiv1 dot_S2176x8x64_S8x2176x2176_S8x64x2176_0_2_2_1_1_0 2176 rfl rfl).symm]
  refine Finset.sum_congr rfl fun k _ => ?_
  have hk := ValueIdx.contrEquiv1_symm_val dot_S2176x8x64_S8x2176x2176_S8x64x2176_0_2_2_1_1_0 2176 rfl rfl k
  have el : dot_S2176x8x64_S8x2176x2176_S8x64x2176_0_2_2_1_1_0.lhsIdx i ((ValueIdx.contrEquiv1 dot_S2176x8x64_S8x2176x2176_S8x64x2176_0_2_2_1_1_0 2176 rfl rfl).symm k) = lidx_main_v29 i k := funext fun a => Fin.ext (by
    match a with
    | ⟨0, _⟩ => exact (lhs_main_v29_0 _ _).trans hk
    | ⟨1, _⟩ => exact lhs_main_v29_1 _ _
    | ⟨2, _⟩ => exact lhs_main_v29_2 _ _)
  have er : dot_S2176x8x64_S8x2176x2176_S8x64x2176_0_2_2_1_1_0.rhsIdx i ((ValueIdx.contrEquiv1 dot_S2176x8x64_S8x2176x2176_S8x64x2176_0_2_2_1_1_0 2176 rfl rfl).symm k) = ridx_main_v29 i k := funext fun a => Fin.ext (by
    match a with
    | ⟨0, _⟩ => exact rhs_main_v29_0 _ _
    | ⟨1, _⟩ => exact rhs_main_v29_1 _ _
    | ⟨2, _⟩ => exact (rhs_main_v29_2 _ _).trans hk)
  rw [el, er]

-- %30 = stablehlo.transpose %29, dims = [2, 0, 1]
def val_main_v30 (x0 x1 x2 : (⟨S2176x8x64, .f32⟩ : BufTy).Contents (Elt F)) (x3 : (⟨S2176x8, .f32⟩ : BufTy).Contents (Elt F)) : (⟨S2176x8x64, .f32⟩ : BufTy).Contents (Elt F) :=
  transpose S2176x8x64 [2, 0, 1] (val_main_v29 (F := F) x0 x1 x2 x3) transposes_S8x64x2176_S2176x8x64_2_0_1
abbrev idx_main_v30 (i : S2176x8x64.Idx) : S8x64x2176.Idx := fun a => match a with
  | ⟨0, _⟩ => ⟨(i 1).val, (i 1).isLt⟩
  | ⟨1, _⟩ => ⟨(i 2).val, (i 2).isLt⟩
  | ⟨2, _⟩ => ⟨(i 0).val, (i 0).isLt⟩
theorem val_main_v30_apply (x0 x1 x2 : (⟨S2176x8x64, .f32⟩ : BufTy).Contents (Elt F)) (x3 : (⟨S2176x8, .f32⟩ : BufTy).Contents (Elt F)) (i : S2176x8x64.Idx) :
    val_main_v30 (F := F) x0 x1 x2 x3 i = val_main_v29 (F := F) x0 x1 x2 x3 (idx_main_v30 i) := by
  unfold val_main_v30
  generalize val_main_v29 (F := F) x0 x1 x2 x3 = y
  exact transpose_apply [2, 0, 1] y transposes_S8x64x2176_S2176x8x64_2_0_1 i (idx_main_v30 i) (fun b => match b with
    | ⟨0, _⟩ => rfl
    | ⟨1, _⟩ => rfl
    | ⟨2, _⟩ => rfl)

-- %31 = stablehlo.broadcast_in_dim %arg3, dims = [0, 1]
def val_main_v31 (x3 : (⟨S2176x8, .f32⟩ : BufTy).Contents (Elt F)) : (⟨S2176x8x1, .f32⟩ : BufTy).Contents (Elt F) :=
  broadcastInDim S2176x8x1 ![0, 1] bcast_S2176x8_S2176x8x1_0_1 (x3)
abbrev idx_main_v31 (i : S2176x8x1.Idx) : S2176x8.Idx := fun a => match a with
  | ⟨0, _⟩ => ⟨(i 0).val, (i 0).isLt⟩
  | ⟨1, _⟩ => ⟨(i 1).val, (i 1).isLt⟩
theorem val_main_v31_apply (x3 : (⟨S2176x8, .f32⟩ : BufTy).Contents (Elt F)) (i : S2176x8x1.Idx) :
    val_main_v31 (F := F) x3 i = x3 (idx_main_v31 i) := by
  unfold val_main_v31
  exact broadcastInDim_apply _ bcast_S2176x8_S2176x8x1_0_1 x3 i (idx_main_v31 i) (fun a => match a with
    | ⟨0, _⟩ => by show (i 0).val = if (2176 : Nat) = 1 then 0 else (i 0).val; rw [if_neg (by decide)]
    | ⟨1, _⟩ => by show (i 1).val = if (8 : Nat) = 1 then 0 else (i 1).val; rw [if_neg (by decide)])

-- %32 = stablehlo.reshape %31
def val_main_v32 (x3 : (⟨S2176x8, .f32⟩ : BufTy).Contents (Elt F)) : (⟨S17x128x8x1, .f32⟩ : BufTy).Contents (Elt F) :=
  shapeCast _ (val_main_v31 (F := F) x3) shapeCasts_S2176x8x1_S17x128x8x1
abbrev idx_main_v32 (i : S17x128x8x1.Idx) : S2176x8x1.Idx := fun a => match a with
  | ⟨0, _⟩ => ⟨((((i 0).val * 128 + (i 1).val) * 8 + (i 2).val) * 1 + (i 3).val) / 8, by have h0 : (i 0).val < 17 := (i 0).isLt; have h1 : (i 1).val < 128 := (i 1).isLt; have h2 : (i 2).val < 8 := (i 2).isLt; have h3 : (i 3).val < 1 := (i 3).isLt; show ((((i 0).val * 128 + (i 1).val) * 8 + (i 2).val) * 1 + (i 3).val) / 8 < 2176; omega⟩
  | ⟨1, _⟩ => ⟨((((i 0).val * 128 + (i 1).val) * 8 + (i 2).val) * 1 + (i 3).val) / 1 % 8, by have h0 : (i 0).val < 17 := (i 0).isLt; have h1 : (i 1).val < 128 := (i 1).isLt; have h2 : (i 2).val < 8 := (i 2).isLt; have h3 : (i 3).val < 1 := (i 3).isLt; show ((((i 0).val * 128 + (i 1).val) * 8 + (i 2).val) * 1 + (i 3).val) / 1 % 8 < 8; omega⟩
  | ⟨2, _⟩ => ⟨0, Nat.one_pos⟩
theorem val_main_v32_apply (x3 : (⟨S2176x8, .f32⟩ : BufTy).Contents (Elt F)) (i : S17x128x8x1.Idx) :
    val_main_v32 (F := F) x3 i = val_main_v31 (F := F) x3 (idx_main_v32 i) := by
  unfold val_main_v32
  generalize val_main_v31 (F := F) x3 = y
  exact shapeCast_apply y shapeCasts_S2176x8x1_S17x128x8x1 i (idx_main_v32 i)
    (by rewrite [Shape.rowMajor_val_three, Shape.rowMajor_val_four]; have h0 : (i 0).val < 17 := (i 0).isLt; have h1 : (i 1).val < 128 := (i 1).isLt; have h2 : (i 2).val < 8 := (i 2).isLt; have h3 : (i 3).val < 1 := (i 3).isLt; show (((((i 0).val * 128 + (i 1).val) * 8 + (i 2).val) * 1 + (i 3).val) / 8 * 8 + ((((i 0).val * 128 + (i 1).val) * 8 + (i 2).val) * 1 + (i 3).val) / 1 % 8) * 1 + 0 = (((i 0).val * 128 + (i 1).val) * 8 + (i 2).val) * 1 + (i 3).val; omega)

-- %33 = stablehlo.transpose %32, dims = [2, 0, 3, 1]
def val_main_v33 (x3 : (⟨S2176x8, .f32⟩ : BufTy).Contents (Elt F)) : (⟨S8x17x1x128, .f32⟩ : BufTy).Contents (Elt F) :=
  transpose S8x17x1x128 [2, 0, 3, 1] (val_main_v32 (F := F) x3) transposes_S17x128x8x1_S8x17x1x128_2_0_3_1
abbrev idx_main_v33 (i : S8x17x1x128.Idx) : S17x128x8x1.Idx := fun a => match a with
  | ⟨0, _⟩ => ⟨(i 1).val, (i 1).isLt⟩
  | ⟨1, _⟩ => ⟨(i 3).val, (i 3).isLt⟩
  | ⟨2, _⟩ => ⟨(i 0).val, (i 0).isLt⟩
  | ⟨3, _⟩ => ⟨(i 2).val, (i 2).isLt⟩
theorem val_main_v33_apply (x3 : (⟨S2176x8, .f32⟩ : BufTy).Contents (Elt F)) (i : S8x17x1x128.Idx) :
    val_main_v33 (F := F) x3 i = val_main_v32 (F := F) x3 (idx_main_v33 i) := by
  unfold val_main_v33
  generalize val_main_v32 (F := F) x3 = y
  exact transpose_apply [2, 0, 3, 1] y transposes_S17x128x8x1_S8x17x1x128_2_0_3_1 i (idx_main_v33 i) (fun b => match b with
    | ⟨0, _⟩ => rfl
    | ⟨1, _⟩ => rfl
    | ⟨2, _⟩ => rfl
    | ⟨3, _⟩ => rfl)

-- %34 = stablehlo.convert %33
def val_main_v34 (x3 : (⟨S2176x8, .f32⟩ : BufTy).Contents (Elt F)) : (⟨S8x17x1x128, .bf16⟩ : BufTy).Contents (Elt F) :=
  truncf .bf16 (val_main_v33 (F := F) x3) bitsLt_bf16_f32
theorem val_main_v34_apply (x3 : (⟨S2176x8, .f32⟩ : BufTy).Contents (Elt F)) (i : S8x17x1x128.Idx) :
    val_main_v34 (F := F) x3 i = FloatOps.truncf .bf16 bitsLt_bf16_f32 (val_main_v33 (F := F) x3 i) := rfl

-- %35 = stablehlo.convert %34
def val_main_v35 (x3 : (⟨S2176x8, .f32⟩ : BufTy).Contents (Elt F)) : (⟨S8x17x1x128, .f32⟩ : BufTy).Contents (Elt F) :=
  extf .f32 (val_main_v34 (F := F) x3) bitsLt_bf16_f32
theorem val_main_v35_apply (x3 : (⟨S2176x8, .f32⟩ : BufTy).Contents (Elt F)) (i : S8x17x1x128.Idx) :
    val_main_v35 (F := F) x3 i = FloatOps.extf .f32 bitsLt_bf16_f32 (val_main_v34 (F := F) x3 i) := rfl

-- %36 = stablehlo.subtract %33, %35
def val_main_v36 (x3 : (⟨S2176x8, .f32⟩ : BufTy).Contents (Elt F)) : (⟨S8x17x1x128, .f32⟩ : BufTy).Contents (Elt F) :=
  subf (val_main_v33 (F := F) x3) (val_main_v35 (F := F) x3)
theorem val_main_v36_apply (x3 : (⟨S2176x8, .f32⟩ : BufTy).Contents (Elt F)) (i : S8x17x1x128.Idx) :
    val_main_v36 (F := F) x3 i = FloatOps.subf (val_main_v33 (F := F) x3 i) (val_main_v35 (F := F) x3 i) := rfl

-- %37 = stablehlo.convert %36
def val_main_v37 (x3 : (⟨S2176x8, .f32⟩ : BufTy).Contents (Elt F)) : (⟨S8x17x1x128, .bf16⟩ : BufTy).Contents (Elt F) :=
  truncf .bf16 (val_main_v36 (F := F) x3) bitsLt_bf16_f32
theorem val_main_v37_apply (x3 : (⟨S2176x8, .f32⟩ : BufTy).Contents (Elt F)) (i : S8x17x1x128.Idx) :
    val_main_v37 (F := F) x3 i = FloatOps.truncf .bf16 bitsLt_bf16_f32 (val_main_v36 (F := F) x3 i) := rfl

-- %38 = stablehlo.convert %37
def val_main_v38 (x3 : (⟨S2176x8, .f32⟩ : BufTy).Contents (Elt F)) : (⟨S8x17x1x128, .f32⟩ : BufTy).Contents (Elt F) :=
  extf .f32 (val_main_v37 (F := F) x3) bitsLt_bf16_f32
theorem val_main_v38_apply (x3 : (⟨S2176x8, .f32⟩ : BufTy).Contents (Elt F)) (i : S8x17x1x128.Idx) :
    val_main_v38 (F := F) x3 i = FloatOps.extf .f32 bitsLt_bf16_f32 (val_main_v37 (F := F) x3 i) := rfl

-- %39 = stablehlo.subtract %36, %38
def val_main_v39 (x3 : (⟨S2176x8, .f32⟩ : BufTy).Contents (Elt F)) : (⟨S8x17x1x128, .f32⟩ : BufTy).Contents (Elt F) :=
  subf (val_main_v36 (F := F) x3) (val_main_v38 (F := F) x3)
theorem val_main_v39_apply (x3 : (⟨S2176x8, .f32⟩ : BufTy).Contents (Elt F)) (i : S8x17x1x128.Idx) :
    val_main_v39 (F := F) x3 i = FloatOps.subf (val_main_v36 (F := F) x3 i) (val_main_v38 (F := F) x3 i) := rfl

-- %40 = stablehlo.convert %39
def val_main_v40 (x3 : (⟨S2176x8, .f32⟩ : BufTy).Contents (Elt F)) : (⟨S8x17x1x128, .bf16⟩ : BufTy).Contents (Elt F) :=
  truncf .bf16 (val_main_v39 (F := F) x3) bitsLt_bf16_f32
theorem val_main_v40_apply (x3 : (⟨S2176x8, .f32⟩ : BufTy).Contents (Elt F)) (i : S8x17x1x128.Idx) :
    val_main_v40 (F := F) x3 i = FloatOps.truncf .bf16 bitsLt_bf16_f32 (val_main_v39 (F := F) x3 i) := rfl

-- %41 = stablehlo.convert %40
def val_main_v41 (x3 : (⟨S2176x8, .f32⟩ : BufTy).Contents (Elt F)) : (⟨S8x17x1x128, .f32⟩ : BufTy).Contents (Elt F) :=
  extf .f32 (val_main_v40 (F := F) x3) bitsLt_bf16_f32
theorem val_main_v41_apply (x3 : (⟨S2176x8, .f32⟩ : BufTy).Contents (Elt F)) (i : S8x17x1x128.Idx) :
    val_main_v41 (F := F) x3 i = FloatOps.extf .f32 bitsLt_bf16_f32 (val_main_v40 (F := F) x3 i) := rfl

-- %cst_3 = stablehlo.constant dense<1.000000e+00>
def val_main_cst_3 : (⟨S_, .f32⟩ : BufTy).Contents (Elt F) :=
  constant S_ .f32 0x3F800000#32

-- %42 = stablehlo.broadcast_in_dim %cst_3, dims = []
def val_main_v42 : (⟨S8x17x3x128, .f32⟩ : BufTy).Contents (Elt F) :=
  broadcastInDim S8x17x3x128 ![] bcast_S_S8x17x3x128 (val_main_cst_3 (F := F))
abbrev idx_main_v42 (i : S8x17x3x128.Idx) : S_.Idx := fun a => a.elim0
theorem val_main_v42_apply (i : S8x17x3x128.Idx) :
    val_main_v42 (F := F) i = val_main_cst_3 (F := F) (idx_main_v42 i) := by
  unfold val_main_v42
  generalize val_main_cst_3 (F := F) = y
  exact broadcastInDim_apply _ bcast_S_S8x17x3x128 y i (idx_main_v42 i) (fun a => a.elim0)

-- %cst_4 = stablehlo.constant dense<0.000000e+00>
def val_main_cst_4 : (⟨S_, .f32⟩ : BufTy).Contents (Elt F) :=
  constant S_ .f32 0x00000000#32

-- %43 = stablehlo.broadcast_in_dim %cst_4, dims = []
def val_main_v43 : (⟨S8x17x58x128, .f32⟩ : BufTy).Contents (Elt F) :=
  broadcastInDim S8x17x58x128 ![] bcast_S_S8x17x58x128 (val_main_cst_4 (F := F))
abbrev idx_main_v43 (i : S8x17x58x128.Idx) : S_.Idx := fun a => a.elim0
theorem val_main_v43_apply (i : S8x17x58x128.Idx) :
    val_main_v43 (F := F) i = val_main_cst_4 (F := F) (idx_main_v43 i) := by
  unfold val_main_v43
  generalize val_main_cst_4 (F := F) = y
  exact broadcastInDim_apply _ bcast_S_S8x17x58x128 y i (idx_main_v43 i) (fun a => a.elim0)

-- %44 = stablehlo.reshape %arg0
def val_main_v44 (x0 : (⟨S2176x8x64, .f32⟩ : BufTy).Contents (Elt F)) : (⟨S17x128x8x64, .f32⟩ : BufTy).Contents (Elt F) :=
  shapeCast _ (x0) shapeCasts_S2176x8x64_S17x128x8x64
abbrev idx_main_v44 (i : S17x128x8x64.Idx) : S2176x8x64.Idx := fun a => match a with
  | ⟨0, _⟩ => ⟨((((i 0).val * 128 + (i 1).val) * 8 + (i 2).val) * 64 + (i 3).val) / 512, by have h0 : (i 0).val < 17 := (i 0).isLt; have h1 : (i 1).val < 128 := (i 1).isLt; have h2 : (i 2).val < 8 := (i 2).isLt; have h3 : (i 3).val < 64 := (i 3).isLt; show ((((i 0).val * 128 + (i 1).val) * 8 + (i 2).val) * 64 + (i 3).val) / 512 < 2176; omega⟩
  | ⟨1, _⟩ => ⟨((((i 0).val * 128 + (i 1).val) * 8 + (i 2).val) * 64 + (i 3).val) / 64 % 8, by have h0 : (i 0).val < 17 := (i 0).isLt; have h1 : (i 1).val < 128 := (i 1).isLt; have h2 : (i 2).val < 8 := (i 2).isLt; have h3 : (i 3).val < 64 := (i 3).isLt; show ((((i 0).val * 128 + (i 1).val) * 8 + (i 2).val) * 64 + (i 3).val) / 64 % 8 < 8; omega⟩
  | ⟨2, _⟩ => ⟨((((i 0).val * 128 + (i 1).val) * 8 + (i 2).val) * 64 + (i 3).val) % 64, by have h0 : (i 0).val < 17 := (i 0).isLt; have h1 : (i 1).val < 128 := (i 1).isLt; have h2 : (i 2).val < 8 := (i 2).isLt; have h3 : (i 3).val < 64 := (i 3).isLt; show ((((i 0).val * 128 + (i 1).val) * 8 + (i 2).val) * 64 + (i 3).val) % 64 < 64; omega⟩
theorem val_main_v44_apply (x0 : (⟨S2176x8x64, .f32⟩ : BufTy).Contents (Elt F)) (i : S17x128x8x64.Idx) :
    val_main_v44 (F := F) x0 i = x0 (idx_main_v44 i) := by
  unfold val_main_v44
  exact shapeCast_apply x0 shapeCasts_S2176x8x64_S17x128x8x64 i (idx_main_v44 i)
    (by rewrite [Shape.rowMajor_val_three, Shape.rowMajor_val_four]; have h0 : (i 0).val < 17 := (i 0).isLt; have h1 : (i 1).val < 128 := (i 1).isLt; have h2 : (i 2).val < 8 := (i 2).isLt; have h3 : (i 3).val < 64 := (i 3).isLt; show (((((i 0).val * 128 + (i 1).val) * 8 + (i 2).val) * 64 + (i 3).val) / 512 * 8 + ((((i 0).val * 128 + (i 1).val) * 8 + (i 2).val) * 64 + (i 3).val) / 64 % 8) * 64 + ((((i 0).val * 128 + (i 1).val) * 8 + (i 2).val) * 64 + (i 3).val) % 64 = (((i 0).val * 128 + (i 1).val) * 8 + (i 2).val) * 64 + (i 3).val; omega)

-- %45 = stablehlo.transpose %44, dims = [2, 0, 3, 1]
def val_main_v45 (x0 : (⟨S2176x8x64, .f32⟩ : BufTy).Contents (Elt F)) : (⟨S8x17x64x128, .f32⟩ : BufTy).Contents (Elt F) :=
  transpose S8x17x64x128 [2, 0, 3, 1] (val_main_v44 (F := F) x0) transposes_S17x128x8x64_S8x17x64x128_2_0_3_1
abbrev idx_main_v45 (i : S8x17x64x128.Idx) : S17x128x8x64.Idx := fun a => match a with
  | ⟨0, _⟩ => ⟨(i 1).val, (i 1).isLt⟩
  | ⟨1, _⟩ => ⟨(i 3).val, (i 3).isLt⟩
  | ⟨2, _⟩ => ⟨(i 0).val, (i 0).isLt⟩
  | ⟨3, _⟩ => ⟨(i 2).val, (i 2).isLt⟩
theorem val_main_v45_apply (x0 : (⟨S2176x8x64, .f32⟩ : BufTy).Contents (Elt F)) (i : S8x17x64x128.Idx) :
    val_main_v45 (F := F) x0 i = val_main_v44 (F := F) x0 (idx_main_v45 i) := by
  unfold val_main_v45
  generalize val_main_v44 (F := F) x0 = y
  exact transpose_apply [2, 0, 3, 1] y transposes_S17x128x8x64_S8x17x64x128_2_0_3_1 i (idx_main_v45 i) (fun b => match b with
    | ⟨0, _⟩ => rfl
    | ⟨1, _⟩ => rfl
    | ⟨2, _⟩ => rfl
    | ⟨3, _⟩ => rfl)

-- %cst_5 = stablehlo.constant dense<1.250000e-01>
def val_main_cst_5 : (⟨S_, .f32⟩ : BufTy).Contents (Elt F) :=
  constant S_ .f32 0x3E000000#32
theorem val_main_cst_5_apply (i : S_.Idx) :
    val_main_cst_5 (F := F) i = FloatOps.ofBits .f32 0x3E000000#32 := rfl

-- %46 = stablehlo.broadcast_in_dim %cst_5, dims = []
def val_main_v46 : (⟨S8x17x64x128, .f32⟩ : BufTy).Contents (Elt F) :=
  broadcastInDim S8x17x64x128 ![] bcast_S_S8x17x64x128 (val_main_cst_5 (F := F))
abbrev idx_main_v46 (i : S8x17x64x128.Idx) : S_.Idx := fun a => a.elim0
theorem val_main_v46_apply (i : S8x17x64x128.Idx) :
    val_main_v46 (F := F) i = val_main_cst_5 (F := F) (idx_main_v46 i) := by
  unfold val_main_v46
  generalize val_main_cst_5 (F := F) = y
  exact broadcastInDim_apply _ bcast_S_S8x17x64x128 y i (idx_main_v46 i) (fun a => a.elim0)

-- %47 = stablehlo.multiply %45, %46
def val_main_v47 (x0 : (⟨S2176x8x64, .f32⟩ : BufTy).Contents (Elt F)) : (⟨S8x17x64x128, .f32⟩ : BufTy).Contents (Elt F) :=
  mulf (val_main_v45 (F := F) x0) (val_main_v46 (F := F))
theorem val_main_v47_apply (x0 : (⟨S2176x8x64, .f32⟩ : BufTy).Contents (Elt F)) (i : S8x17x64x128.Idx) :
    val_main_v47 (F := F) x0 i = FloatOps.mulf (val_main_v45 (F := F) x0 i) (val_main_v46 (F := F) i) := rfl

-- %48 = stablehlo.concatenate %47, %35, %38, %41, %42, %43, dim = 2
def val_main_v48 (x0 : (⟨S2176x8x64, .f32⟩ : BufTy).Contents (Elt F)) (x3 : (⟨S2176x8, .f32⟩ : BufTy).Contents (Elt F)) : (⟨S8x17x128x128, .f32⟩ : BufTy).Contents (Elt F) :=
  (concatenate S8x17x128x128 2 [⟨S8x17x64x128, ((val_main_v47 (F := F) x0) : (⟨S8x17x64x128, .f32⟩ : BufTy).Contents (Elt F))⟩, ⟨S8x17x1x128, ((val_main_v35 (F := F) x3) : (⟨S8x17x1x128, .f32⟩ : BufTy).Contents (Elt F))⟩, ⟨S8x17x1x128, ((val_main_v38 (F := F) x3) : (⟨S8x17x1x128, .f32⟩ : BufTy).Contents (Elt F))⟩, ⟨S8x17x1x128, ((val_main_v41 (F := F) x3) : (⟨S8x17x1x128, .f32⟩ : BufTy).Contents (Elt F))⟩, ⟨S8x17x3x128, ((val_main_v42 (F := F)) : (⟨S8x17x3x128, .f32⟩ : BufTy).Contents (Elt F))⟩, ⟨S8x17x58x128, ((val_main_v43 (F := F)) : (⟨S8x17x58x128, .f32⟩ : BufTy).Contents (Elt F))⟩] concatenates_S8x17x64x128_S8x17x1x128_S8x17x1x128_S8x17x1x128_S8x17x3x128_S8x17x58x128_S8x17x128x128_d2 : (⟨S8x17x128x128, .f32⟩ : BufTy).Contents (Elt F))

-- %49 = stablehlo.convert %48
def val_main_v49 (x0 : (⟨S2176x8x64, .f32⟩ : BufTy).Contents (Elt F)) (x3 : (⟨S2176x8, .f32⟩ : BufTy).Contents (Elt F)) : (⟨S8x17x128x128, .bf16⟩ : BufTy).Contents (Elt F) :=
  truncf .bf16 (val_main_v48 (F := F) x0 x3) bitsLt_bf16_f32
theorem val_main_v49_apply (x0 : (⟨S2176x8x64, .f32⟩ : BufTy).Contents (Elt F)) (x3 : (⟨S2176x8, .f32⟩ : BufTy).Contents (Elt F)) (i : S8x17x128x128.Idx) :
    val_main_v49 (F := F) x0 x3 i = FloatOps.truncf .bf16 bitsLt_bf16_f32 (val_main_v48 (F := F) x0 x3 i) := rfl

-- %50 = stablehlo.reshape %arg1
def val_main_v50 (x1 : (⟨S2176x8x64, .f32⟩ : BufTy).Contents (Elt F)) : (⟨S17x128x8x64, .f32⟩ : BufTy).Contents (Elt F) :=
  shapeCast _ (x1) shapeCasts_S2176x8x64_S17x128x8x64
abbrev idx_main_v50 (i : S17x128x8x64.Idx) : S2176x8x64.Idx := fun a => match a with
  | ⟨0, _⟩ => ⟨((((i 0).val * 128 + (i 1).val) * 8 + (i 2).val) * 64 + (i 3).val) / 512, by have h0 : (i 0).val < 17 := (i 0).isLt; have h1 : (i 1).val < 128 := (i 1).isLt; have h2 : (i 2).val < 8 := (i 2).isLt; have h3 : (i 3).val < 64 := (i 3).isLt; show ((((i 0).val * 128 + (i 1).val) * 8 + (i 2).val) * 64 + (i 3).val) / 512 < 2176; omega⟩
  | ⟨1, _⟩ => ⟨((((i 0).val * 128 + (i 1).val) * 8 + (i 2).val) * 64 + (i 3).val) / 64 % 8, by have h0 : (i 0).val < 17 := (i 0).isLt; have h1 : (i 1).val < 128 := (i 1).isLt; have h2 : (i 2).val < 8 := (i 2).isLt; have h3 : (i 3).val < 64 := (i 3).isLt; show ((((i 0).val * 128 + (i 1).val) * 8 + (i 2).val) * 64 + (i 3).val) / 64 % 8 < 8; omega⟩
  | ⟨2, _⟩ => ⟨((((i 0).val * 128 + (i 1).val) * 8 + (i 2).val) * 64 + (i 3).val) % 64, by have h0 : (i 0).val < 17 := (i 0).isLt; have h1 : (i 1).val < 128 := (i 1).isLt; have h2 : (i 2).val < 8 := (i 2).isLt; have h3 : (i 3).val < 64 := (i 3).isLt; show ((((i 0).val * 128 + (i 1).val) * 8 + (i 2).val) * 64 + (i 3).val) % 64 < 64; omega⟩
theorem val_main_v50_apply (x1 : (⟨S2176x8x64, .f32⟩ : BufTy).Contents (Elt F)) (i : S17x128x8x64.Idx) :
    val_main_v50 (F := F) x1 i = x1 (idx_main_v50 i) := by
  unfold val_main_v50
  exact shapeCast_apply x1 shapeCasts_S2176x8x64_S17x128x8x64 i (idx_main_v50 i)
    (by rewrite [Shape.rowMajor_val_three, Shape.rowMajor_val_four]; have h0 : (i 0).val < 17 := (i 0).isLt; have h1 : (i 1).val < 128 := (i 1).isLt; have h2 : (i 2).val < 8 := (i 2).isLt; have h3 : (i 3).val < 64 := (i 3).isLt; show (((((i 0).val * 128 + (i 1).val) * 8 + (i 2).val) * 64 + (i 3).val) / 512 * 8 + ((((i 0).val * 128 + (i 1).val) * 8 + (i 2).val) * 64 + (i 3).val) / 64 % 8) * 64 + ((((i 0).val * 128 + (i 1).val) * 8 + (i 2).val) * 64 + (i 3).val) % 64 = (((i 0).val * 128 + (i 1).val) * 8 + (i 2).val) * 64 + (i 3).val; omega)

-- %51 = stablehlo.transpose %50, dims = [2, 0, 3, 1]
def val_main_v51 (x1 : (⟨S2176x8x64, .f32⟩ : BufTy).Contents (Elt F)) : (⟨S8x17x64x128, .f32⟩ : BufTy).Contents (Elt F) :=
  transpose S8x17x64x128 [2, 0, 3, 1] (val_main_v50 (F := F) x1) transposes_S17x128x8x64_S8x17x64x128_2_0_3_1
abbrev idx_main_v51 (i : S8x17x64x128.Idx) : S17x128x8x64.Idx := fun a => match a with
  | ⟨0, _⟩ => ⟨(i 1).val, (i 1).isLt⟩
  | ⟨1, _⟩ => ⟨(i 3).val, (i 3).isLt⟩
  | ⟨2, _⟩ => ⟨(i 0).val, (i 0).isLt⟩
  | ⟨3, _⟩ => ⟨(i 2).val, (i 2).isLt⟩
theorem val_main_v51_apply (x1 : (⟨S2176x8x64, .f32⟩ : BufTy).Contents (Elt F)) (i : S8x17x64x128.Idx) :
    val_main_v51 (F := F) x1 i = val_main_v50 (F := F) x1 (idx_main_v51 i) := by
  unfold val_main_v51
  generalize val_main_v50 (F := F) x1 = y
  exact transpose_apply [2, 0, 3, 1] y transposes_S17x128x8x64_S8x17x64x128_2_0_3_1 i (idx_main_v51 i) (fun b => match b with
    | ⟨0, _⟩ => rfl
    | ⟨1, _⟩ => rfl
    | ⟨2, _⟩ => rfl
    | ⟨3, _⟩ => rfl)

-- %52 = stablehlo.negate %35
def val_main_v52 (x3 : (⟨S2176x8, .f32⟩ : BufTy).Contents (Elt F)) : (⟨S8x17x1x128, .f32⟩ : BufTy).Contents (Elt F) :=
  Host.negf (val_main_v35 (F := F) x3)
theorem val_main_v52_apply (x3 : (⟨S2176x8, .f32⟩ : BufTy).Contents (Elt F)) (i : S8x17x1x128.Idx) :
    val_main_v52 (F := F) x3 i = FloatOps.hostNegf (val_main_v35 (F := F) x3 i) := rfl

-- %53 = stablehlo.negate %38
def val_main_v53 (x3 : (⟨S2176x8, .f32⟩ : BufTy).Contents (Elt F)) : (⟨S8x17x1x128, .f32⟩ : BufTy).Contents (Elt F) :=
  Host.negf (val_main_v38 (F := F) x3)
theorem val_main_v53_apply (x3 : (⟨S2176x8, .f32⟩ : BufTy).Contents (Elt F)) (i : S8x17x1x128.Idx) :
    val_main_v53 (F := F) x3 i = FloatOps.hostNegf (val_main_v38 (F := F) x3 i) := rfl

-- %54 = stablehlo.negate %41
def val_main_v54 (x3 : (⟨S2176x8, .f32⟩ : BufTy).Contents (Elt F)) : (⟨S8x17x1x128, .f32⟩ : BufTy).Contents (Elt F) :=
  Host.negf (val_main_v41 (F := F) x3)
theorem val_main_v54_apply (x3 : (⟨S2176x8, .f32⟩ : BufTy).Contents (Elt F)) (i : S8x17x1x128.Idx) :
    val_main_v54 (F := F) x3 i = FloatOps.hostNegf (val_main_v41 (F := F) x3 i) := rfl

-- %55 = stablehlo.concatenate %51, %42, %52, %53, %54, %43, dim = 2
def val_main_v55 (x1 : (⟨S2176x8x64, .f32⟩ : BufTy).Contents (Elt F)) (x3 : (⟨S2176x8, .f32⟩ : BufTy).Contents (Elt F)) : (⟨S8x17x128x128, .f32⟩ : BufTy).Contents (Elt F) :=
  (concatenate S8x17x128x128 2 [⟨S8x17x64x128, ((val_main_v51 (F := F) x1) : (⟨S8x17x64x128, .f32⟩ : BufTy).Contents (Elt F))⟩, ⟨S8x17x3x128, ((val_main_v42 (F := F)) : (⟨S8x17x3x128, .f32⟩ : BufTy).Contents (Elt F))⟩, ⟨S8x17x1x128, ((val_main_v52 (F := F) x3) : (⟨S8x17x1x128, .f32⟩ : BufTy).Contents (Elt F))⟩, ⟨S8x17x1x128, ((val_main_v53 (F := F) x3) : (⟨S8x17x1x128, .f32⟩ : BufTy).Contents (Elt F))⟩, ⟨S8x17x1x128, ((val_main_v54 (F := F) x3) : (⟨S8x17x1x128, .f32⟩ : BufTy).Contents (Elt F))⟩, ⟨S8x17x58x128, ((val_main_v43 (F := F)) : (⟨S8x17x58x128, .f32⟩ : BufTy).Contents (Elt F))⟩] concatenates_S8x17x64x128_S8x17x3x128_S8x17x1x128_S8x17x1x128_S8x17x1x128_S8x17x58x128_S8x17x128x128_d2 : (⟨S8x17x128x128, .f32⟩ : BufTy).Contents (Elt F))

-- %56 = stablehlo.convert %55
def val_main_v56 (x1 : (⟨S2176x8x64, .f32⟩ : BufTy).Contents (Elt F)) (x3 : (⟨S2176x8, .f32⟩ : BufTy).Contents (Elt F)) : (⟨S8x17x128x128, .bf16⟩ : BufTy).Contents (Elt F) :=
  truncf .bf16 (val_main_v55 (F := F) x1 x3) bitsLt_bf16_f32
theorem val_main_v56_apply (x1 : (⟨S2176x8x64, .f32⟩ : BufTy).Contents (Elt F)) (x3 : (⟨S2176x8, .f32⟩ : BufTy).Contents (Elt F)) (i : S8x17x128x128.Idx) :
    val_main_v56 (F := F) x1 x3 i = FloatOps.truncf .bf16 bitsLt_bf16_f32 (val_main_v55 (F := F) x1 x3 i) := rfl

-- %57 = stablehlo.transpose %56, dims = [0, 1, 3, 2]
def val_main_v57 (x1 : (⟨S2176x8x64, .f32⟩ : BufTy).Contents (Elt F)) (x3 : (⟨S2176x8, .f32⟩ : BufTy).Contents (Elt F)) : (⟨S8x17x128x128, .bf16⟩ : BufTy).Contents (Elt F) :=
  transpose S8x17x128x128 [0, 1, 3, 2] (val_main_v56 (F := F) x1 x3) transposes_S8x17x128x128_S8x17x128x128_0_1_3_2
abbrev idx_main_v57 (i : S8x17x128x128.Idx) : S8x17x128x128.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨(i 2).val, (i 2).isLt⟩
theorem val_main_v57_apply (x1 : (⟨S2176x8x64, .f32⟩ : BufTy).Contents (Elt F)) (x3 : (⟨S2176x8, .f32⟩ : BufTy).Contents (Elt F)) (i : S8x17x128x128.Idx) :
    val_main_v57 (F := F) x1 x3 i = val_main_v56 (F := F) x1 x3 (idx_main_v57 i) := by
  unfold val_main_v57
  generalize val_main_v56 (F := F) x1 x3 = y
  exact transpose_apply [0, 1, 3, 2] y transposes_S8x17x128x128_S8x17x128x128_0_1_3_2 i (idx_main_v57 i) (fun b => match b with
    | ⟨0, _⟩ => rfl
    | ⟨1, _⟩ => rfl
    | ⟨2, _⟩ => rfl
    | ⟨3, _⟩ => rfl)

-- %58 = stablehlo.reshape %57
def val_main_v58 (x1 : (⟨S2176x8x64, .f32⟩ : BufTy).Contents (Elt F)) (x3 : (⟨S2176x8, .f32⟩ : BufTy).Contents (Elt F)) : (⟨S8x2176x128, .bf16⟩ : BufTy).Contents (Elt F) :=
  shapeCast _ (val_main_v57 (F := F) x1 x3) shapeCasts_S8x17x128x128_S8x2176x128
abbrev idx_main_v58 (i : S8x2176x128.Idx) : S8x17x128x128.Idx := fun a => match a with
  | ⟨0, _⟩ => ⟨(((i 0).val * 2176 + (i 1).val) * 128 + (i 2).val) / 278528, by have h0 : (i 0).val < 8 := (i 0).isLt; have h1 : (i 1).val < 2176 := (i 1).isLt; have h2 : (i 2).val < 128 := (i 2).isLt; show (((i 0).val * 2176 + (i 1).val) * 128 + (i 2).val) / 278528 < 8; omega⟩
  | ⟨1, _⟩ => ⟨(((i 0).val * 2176 + (i 1).val) * 128 + (i 2).val) / 16384 % 17, by have h0 : (i 0).val < 8 := (i 0).isLt; have h1 : (i 1).val < 2176 := (i 1).isLt; have h2 : (i 2).val < 128 := (i 2).isLt; show (((i 0).val * 2176 + (i 1).val) * 128 + (i 2).val) / 16384 % 17 < 17; omega⟩
  | ⟨2, _⟩ => ⟨(((i 0).val * 2176 + (i 1).val) * 128 + (i 2).val) / 128 % 128, by have h0 : (i 0).val < 8 := (i 0).isLt; have h1 : (i 1).val < 2176 := (i 1).isLt; have h2 : (i 2).val < 128 := (i 2).isLt; show (((i 0).val * 2176 + (i 1).val) * 128 + (i 2).val) / 128 % 128 < 128; omega⟩
  | ⟨3, _⟩ => ⟨(((i 0).val * 2176 + (i 1).val) * 128 + (i 2).val) % 128, by have h0 : (i 0).val < 8 := (i 0).isLt; have h1 : (i 1).val < 2176 := (i 1).isLt; have h2 : (i 2).val < 128 := (i 2).isLt; show (((i 0).val * 2176 + (i 1).val) * 128 + (i 2).val) % 128 < 128; omega⟩
theorem val_main_v58_apply (x1 : (⟨S2176x8x64, .f32⟩ : BufTy).Contents (Elt F)) (x3 : (⟨S2176x8, .f32⟩ : BufTy).Contents (Elt F)) (i : S8x2176x128.Idx) :
    val_main_v58 (F := F) x1 x3 i = val_main_v57 (F := F) x1 x3 (idx_main_v58 i) := by
  unfold val_main_v58
  generalize val_main_v57 (F := F) x1 x3 = y
  exact shapeCast_apply y shapeCasts_S8x17x128x128_S8x2176x128 i (idx_main_v58 i)
    (by rewrite [Shape.rowMajor_val_four, Shape.rowMajor_val_three]; have h0 : (i 0).val < 8 := (i 0).isLt; have h1 : (i 1).val < 2176 := (i 1).isLt; have h2 : (i 2).val < 128 := (i 2).isLt; show (((((i 0).val * 2176 + (i 1).val) * 128 + (i 2).val) / 278528 * 17 + (((i 0).val * 2176 + (i 1).val) * 128 + (i 2).val) / 16384 % 17) * 128 + (((i 0).val * 2176 + (i 1).val) * 128 + (i 2).val) / 128 % 128) * 128 + (((i 0).val * 2176 + (i 1).val) * 128 + (i 2).val) % 128 = ((i 0).val * 2176 + (i 1).val) * 128 + (i 2).val; omega)

-- %59 = stablehlo.reshape %arg2
def val_main_v59 (x2 : (⟨S2176x8x64, .f32⟩ : BufTy).Contents (Elt F)) : (⟨S17x128x8x64, .f32⟩ : BufTy).Contents (Elt F) :=
  shapeCast _ (x2) shapeCasts_S2176x8x64_S17x128x8x64
abbrev idx_main_v59 (i : S17x128x8x64.Idx) : S2176x8x64.Idx := fun a => match a with
  | ⟨0, _⟩ => ⟨((((i 0).val * 128 + (i 1).val) * 8 + (i 2).val) * 64 + (i 3).val) / 512, by have h0 : (i 0).val < 17 := (i 0).isLt; have h1 : (i 1).val < 128 := (i 1).isLt; have h2 : (i 2).val < 8 := (i 2).isLt; have h3 : (i 3).val < 64 := (i 3).isLt; show ((((i 0).val * 128 + (i 1).val) * 8 + (i 2).val) * 64 + (i 3).val) / 512 < 2176; omega⟩
  | ⟨1, _⟩ => ⟨((((i 0).val * 128 + (i 1).val) * 8 + (i 2).val) * 64 + (i 3).val) / 64 % 8, by have h0 : (i 0).val < 17 := (i 0).isLt; have h1 : (i 1).val < 128 := (i 1).isLt; have h2 : (i 2).val < 8 := (i 2).isLt; have h3 : (i 3).val < 64 := (i 3).isLt; show ((((i 0).val * 128 + (i 1).val) * 8 + (i 2).val) * 64 + (i 3).val) / 64 % 8 < 8; omega⟩
  | ⟨2, _⟩ => ⟨((((i 0).val * 128 + (i 1).val) * 8 + (i 2).val) * 64 + (i 3).val) % 64, by have h0 : (i 0).val < 17 := (i 0).isLt; have h1 : (i 1).val < 128 := (i 1).isLt; have h2 : (i 2).val < 8 := (i 2).isLt; have h3 : (i 3).val < 64 := (i 3).isLt; show ((((i 0).val * 128 + (i 1).val) * 8 + (i 2).val) * 64 + (i 3).val) % 64 < 64; omega⟩
theorem val_main_v59_apply (x2 : (⟨S2176x8x64, .f32⟩ : BufTy).Contents (Elt F)) (i : S17x128x8x64.Idx) :
    val_main_v59 (F := F) x2 i = x2 (idx_main_v59 i) := by
  unfold val_main_v59
  exact shapeCast_apply x2 shapeCasts_S2176x8x64_S17x128x8x64 i (idx_main_v59 i)
    (by rewrite [Shape.rowMajor_val_three, Shape.rowMajor_val_four]; have h0 : (i 0).val < 17 := (i 0).isLt; have h1 : (i 1).val < 128 := (i 1).isLt; have h2 : (i 2).val < 8 := (i 2).isLt; have h3 : (i 3).val < 64 := (i 3).isLt; show (((((i 0).val * 128 + (i 1).val) * 8 + (i 2).val) * 64 + (i 3).val) / 512 * 8 + ((((i 0).val * 128 + (i 1).val) * 8 + (i 2).val) * 64 + (i 3).val) / 64 % 8) * 64 + ((((i 0).val * 128 + (i 1).val) * 8 + (i 2).val) * 64 + (i 3).val) % 64 = (((i 0).val * 128 + (i 1).val) * 8 + (i 2).val) * 64 + (i 3).val; omega)

-- %60 = stablehlo.transpose %59, dims = [2, 0, 3, 1]
def val_main_v60 (x2 : (⟨S2176x8x64, .f32⟩ : BufTy).Contents (Elt F)) : (⟨S8x17x64x128, .f32⟩ : BufTy).Contents (Elt F) :=
  transpose S8x17x64x128 [2, 0, 3, 1] (val_main_v59 (F := F) x2) transposes_S17x128x8x64_S8x17x64x128_2_0_3_1
abbrev idx_main_v60 (i : S8x17x64x128.Idx) : S17x128x8x64.Idx := fun a => match a with
  | ⟨0, _⟩ => ⟨(i 1).val, (i 1).isLt⟩
  | ⟨1, _⟩ => ⟨(i 3).val, (i 3).isLt⟩
  | ⟨2, _⟩ => ⟨(i 0).val, (i 0).isLt⟩
  | ⟨3, _⟩ => ⟨(i 2).val, (i 2).isLt⟩
theorem val_main_v60_apply (x2 : (⟨S2176x8x64, .f32⟩ : BufTy).Contents (Elt F)) (i : S8x17x64x128.Idx) :
    val_main_v60 (F := F) x2 i = val_main_v59 (F := F) x2 (idx_main_v60 i) := by
  unfold val_main_v60
  generalize val_main_v59 (F := F) x2 = y
  exact transpose_apply [2, 0, 3, 1] y transposes_S17x128x8x64_S8x17x64x128_2_0_3_1 i (idx_main_v60 i) (fun b => match b with
    | ⟨0, _⟩ => rfl
    | ⟨1, _⟩ => rfl
    | ⟨2, _⟩ => rfl
    | ⟨3, _⟩ => rfl)

-- %61 = stablehlo.convert %60
def val_main_v61 (x2 : (⟨S2176x8x64, .f32⟩ : BufTy).Contents (Elt F)) : (⟨S8x17x64x128, .bf16⟩ : BufTy).Contents (Elt F) :=
  truncf .bf16 (val_main_v60 (F := F) x2) bitsLt_bf16_f32
theorem val_main_v61_apply (x2 : (⟨S2176x8x64, .f32⟩ : BufTy).Contents (Elt F)) (i : S8x17x64x128.Idx) :
    val_main_v61 (F := F) x2 i = FloatOps.truncf .bf16 bitsLt_bf16_f32 (val_main_v60 (F := F) x2 i) := rfl

-- %62 = stablehlo.reshape %30
def val_main_v62 (x0 x1 x2 : (⟨S2176x8x64, .f32⟩ : BufTy).Contents (Elt F)) (x3 : (⟨S2176x8, .f32⟩ : BufTy).Contents (Elt F)) : (⟨S17x128x8x64, .f32⟩ : BufTy).Contents (Elt F) :=
  shapeCast _ (val_main_v30 (F := F) x0 x1 x2 x3) shapeCasts_S2176x8x64_S17x128x8x64
abbrev idx_main_v62 (i : S17x128x8x64.Idx) : S2176x8x64.Idx := fun a => match a with
  | ⟨0, _⟩ => ⟨((((i 0).val * 128 + (i 1).val) * 8 + (i 2).val) * 64 + (i 3).val) / 512, by have h0 : (i 0).val < 17 := (i 0).isLt; have h1 : (i 1).val < 128 := (i 1).isLt; have h2 : (i 2).val < 8 := (i 2).isLt; have h3 : (i 3).val < 64 := (i 3).isLt; show ((((i 0).val * 128 + (i 1).val) * 8 + (i 2).val) * 64 + (i 3).val) / 512 < 2176; omega⟩
  | ⟨1, _⟩ => ⟨((((i 0).val * 128 + (i 1).val) * 8 + (i 2).val) * 64 + (i 3).val) / 64 % 8, by have h0 : (i 0).val < 17 := (i 0).isLt; have h1 : (i 1).val < 128 := (i 1).isLt; have h2 : (i 2).val < 8 := (i 2).isLt; have h3 : (i 3).val < 64 := (i 3).isLt; show ((((i 0).val * 128 + (i 1).val) * 8 + (i 2).val) * 64 + (i 3).val) / 64 % 8 < 8; omega⟩
  | ⟨2, _⟩ => ⟨((((i 0).val * 128 + (i 1).val) * 8 + (i 2).val) * 64 + (i 3).val) % 64, by have h0 : (i 0).val < 17 := (i 0).isLt; have h1 : (i 1).val < 128 := (i 1).isLt; have h2 : (i 2).val < 8 := (i 2).isLt; have h3 : (i 3).val < 64 := (i 3).isLt; show ((((i 0).val * 128 + (i 1).val) * 8 + (i 2).val) * 64 + (i 3).val) % 64 < 64; omega⟩
theorem val_main_v62_apply (x0 x1 x2 : (⟨S2176x8x64, .f32⟩ : BufTy).Contents (Elt F)) (x3 : (⟨S2176x8, .f32⟩ : BufTy).Contents (Elt F)) (i : S17x128x8x64.Idx) :
    val_main_v62 (F := F) x0 x1 x2 x3 i = val_main_v30 (F := F) x0 x1 x2 x3 (idx_main_v62 i) := by
  unfold val_main_v62
  generalize val_main_v30 (F := F) x0 x1 x2 x3 = y
  exact shapeCast_apply y shapeCasts_S2176x8x64_S17x128x8x64 i (idx_main_v62 i)
    (by rewrite [Shape.rowMajor_val_three, Shape.rowMajor_val_four]; have h0 : (i 0).val < 17 := (i 0).isLt; have h1 : (i 1).val < 128 := (i 1).isLt; have h2 : (i 2).val < 8 := (i 2).isLt; have h3 : (i 3).val < 64 := (i 3).isLt; show (((((i 0).val * 128 + (i 1).val) * 8 + (i 2).val) * 64 + (i 3).val) / 512 * 8 + ((((i 0).val * 128 + (i 1).val) * 8 + (i 2).val) * 64 + (i 3).val) / 64 % 8) * 64 + ((((i 0).val * 128 + (i 1).val) * 8 + (i 2).val) * 64 + (i 3).val) % 64 = (((i 0).val * 128 + (i 1).val) * 8 + (i 2).val) * 64 + (i 3).val; omega)

-- %63 = stablehlo.transpose %62, dims = [2, 0, 3, 1]
def val_main_v63 (x0 x1 x2 : (⟨S2176x8x64, .f32⟩ : BufTy).Contents (Elt F)) (x3 : (⟨S2176x8, .f32⟩ : BufTy).Contents (Elt F)) : (⟨S8x17x64x128, .f32⟩ : BufTy).Contents (Elt F) :=
  transpose S8x17x64x128 [2, 0, 3, 1] (val_main_v62 (F := F) x0 x1 x2 x3) transposes_S17x128x8x64_S8x17x64x128_2_0_3_1
abbrev idx_main_v63 (i : S8x17x64x128.Idx) : S17x128x8x64.Idx := fun a => match a with
  | ⟨0, _⟩ => ⟨(i 1).val, (i 1).isLt⟩
  | ⟨1, _⟩ => ⟨(i 3).val, (i 3).isLt⟩
  | ⟨2, _⟩ => ⟨(i 0).val, (i 0).isLt⟩
  | ⟨3, _⟩ => ⟨(i 2).val, (i 2).isLt⟩
theorem val_main_v63_apply (x0 x1 x2 : (⟨S2176x8x64, .f32⟩ : BufTy).Contents (Elt F)) (x3 : (⟨S2176x8, .f32⟩ : BufTy).Contents (Elt F)) (i : S8x17x64x128.Idx) :
    val_main_v63 (F := F) x0 x1 x2 x3 i = val_main_v62 (F := F) x0 x1 x2 x3 (idx_main_v63 i) := by
  unfold val_main_v63
  generalize val_main_v62 (F := F) x0 x1 x2 x3 = y
  exact transpose_apply [2, 0, 3, 1] y transposes_S17x128x8x64_S8x17x64x128_2_0_3_1 i (idx_main_v63 i) (fun b => match b with
    | ⟨0, _⟩ => rfl
    | ⟨1, _⟩ => rfl
    | ⟨2, _⟩ => rfl
    | ⟨3, _⟩ => rfl)

-- %64 = stablehlo.reshape %arg4
def val_main_v64 (x4 : (⟨S2176x8x64, .f32⟩ : BufTy).Contents (Elt F)) : (⟨S17x128x8x64, .f32⟩ : BufTy).Contents (Elt F) :=
  shapeCast _ (x4) shapeCasts_S2176x8x64_S17x128x8x64
abbrev idx_main_v64 (i : S17x128x8x64.Idx) : S2176x8x64.Idx := fun a => match a with
  | ⟨0, _⟩ => ⟨((((i 0).val * 128 + (i 1).val) * 8 + (i 2).val) * 64 + (i 3).val) / 512, by have h0 : (i 0).val < 17 := (i 0).isLt; have h1 : (i 1).val < 128 := (i 1).isLt; have h2 : (i 2).val < 8 := (i 2).isLt; have h3 : (i 3).val < 64 := (i 3).isLt; show ((((i 0).val * 128 + (i 1).val) * 8 + (i 2).val) * 64 + (i 3).val) / 512 < 2176; omega⟩
  | ⟨1, _⟩ => ⟨((((i 0).val * 128 + (i 1).val) * 8 + (i 2).val) * 64 + (i 3).val) / 64 % 8, by have h0 : (i 0).val < 17 := (i 0).isLt; have h1 : (i 1).val < 128 := (i 1).isLt; have h2 : (i 2).val < 8 := (i 2).isLt; have h3 : (i 3).val < 64 := (i 3).isLt; show ((((i 0).val * 128 + (i 1).val) * 8 + (i 2).val) * 64 + (i 3).val) / 64 % 8 < 8; omega⟩
  | ⟨2, _⟩ => ⟨((((i 0).val * 128 + (i 1).val) * 8 + (i 2).val) * 64 + (i 3).val) % 64, by have h0 : (i 0).val < 17 := (i 0).isLt; have h1 : (i 1).val < 128 := (i 1).isLt; have h2 : (i 2).val < 8 := (i 2).isLt; have h3 : (i 3).val < 64 := (i 3).isLt; show ((((i 0).val * 128 + (i 1).val) * 8 + (i 2).val) * 64 + (i 3).val) % 64 < 64; omega⟩
theorem val_main_v64_apply (x4 : (⟨S2176x8x64, .f32⟩ : BufTy).Contents (Elt F)) (i : S17x128x8x64.Idx) :
    val_main_v64 (F := F) x4 i = x4 (idx_main_v64 i) := by
  unfold val_main_v64
  exact shapeCast_apply x4 shapeCasts_S2176x8x64_S17x128x8x64 i (idx_main_v64 i)
    (by rewrite [Shape.rowMajor_val_three, Shape.rowMajor_val_four]; have h0 : (i 0).val < 17 := (i 0).isLt; have h1 : (i 1).val < 128 := (i 1).isLt; have h2 : (i 2).val < 8 := (i 2).isLt; have h3 : (i 3).val < 64 := (i 3).isLt; show (((((i 0).val * 128 + (i 1).val) * 8 + (i 2).val) * 64 + (i 3).val) / 512 * 8 + ((((i 0).val * 128 + (i 1).val) * 8 + (i 2).val) * 64 + (i 3).val) / 64 % 8) * 64 + ((((i 0).val * 128 + (i 1).val) * 8 + (i 2).val) * 64 + (i 3).val) % 64 = (((i 0).val * 128 + (i 1).val) * 8 + (i 2).val) * 64 + (i 3).val; omega)

-- %65 = stablehlo.transpose %64, dims = [2, 0, 3, 1]
def val_main_v65 (x4 : (⟨S2176x8x64, .f32⟩ : BufTy).Contents (Elt F)) : (⟨S8x17x64x128, .f32⟩ : BufTy).Contents (Elt F) :=
  transpose S8x17x64x128 [2, 0, 3, 1] (val_main_v64 (F := F) x4) transposes_S17x128x8x64_S8x17x64x128_2_0_3_1
abbrev idx_main_v65 (i : S8x17x64x128.Idx) : S17x128x8x64.Idx := fun a => match a with
  | ⟨0, _⟩ => ⟨(i 1).val, (i 1).isLt⟩
  | ⟨1, _⟩ => ⟨(i 3).val, (i 3).isLt⟩
  | ⟨2, _⟩ => ⟨(i 0).val, (i 0).isLt⟩
  | ⟨3, _⟩ => ⟨(i 2).val, (i 2).isLt⟩
theorem val_main_v65_apply (x4 : (⟨S2176x8x64, .f32⟩ : BufTy).Contents (Elt F)) (i : S8x17x64x128.Idx) :
    val_main_v65 (F := F) x4 i = val_main_v64 (F := F) x4 (idx_main_v65 i) := by
  unfold val_main_v65
  generalize val_main_v64 (F := F) x4 = y
  exact transpose_apply [2, 0, 3, 1] y transposes_S17x128x8x64_S8x17x64x128_2_0_3_1 i (idx_main_v65 i) (fun b => match b with
    | ⟨0, _⟩ => rfl
    | ⟨1, _⟩ => rfl
    | ⟨2, _⟩ => rfl
    | ⟨3, _⟩ => rfl)

-- %66 = stablehlo.convert %65
def val_main_v66 (x4 : (⟨S2176x8x64, .f32⟩ : BufTy).Contents (Elt F)) : (⟨S8x17x64x128, .bf16⟩ : BufTy).Contents (Elt F) :=
  truncf .bf16 (val_main_v65 (F := F) x4) bitsLt_bf16_f32
theorem val_main_v66_apply (x4 : (⟨S2176x8x64, .f32⟩ : BufTy).Contents (Elt F)) (i : S8x17x64x128.Idx) :
    val_main_v66 (F := F) x4 i = FloatOps.truncf .bf16 bitsLt_bf16_f32 (val_main_v65 (F := F) x4 i) := rfl

-- %67 = stablehlo.reshape %25
def val_main_v67 (x0 x1 : (⟨S2176x8x64, .f32⟩ : BufTy).Contents (Elt F)) (x3 : (⟨S2176x8, .f32⟩ : BufTy).Contents (Elt F)) : (⟨S8x17x1x128, .f32⟩ : BufTy).Contents (Elt F) :=
  shapeCast _ (val_main_v25 (F := F) x0 x1 x3) shapeCasts_S8x2176_S8x17x1x128
abbrev idx_main_v67 (i : S8x17x1x128.Idx) : S8x2176.Idx := fun a => match a with
  | ⟨0, _⟩ => ⟨((((i 0).val * 17 + (i 1).val) * 1 + (i 2).val) * 128 + (i 3).val) / 2176, by have h0 : (i 0).val < 8 := (i 0).isLt; have h1 : (i 1).val < 17 := (i 1).isLt; have h2 : (i 2).val < 1 := (i 2).isLt; have h3 : (i 3).val < 128 := (i 3).isLt; show ((((i 0).val * 17 + (i 1).val) * 1 + (i 2).val) * 128 + (i 3).val) / 2176 < 8; omega⟩
  | ⟨1, _⟩ => ⟨((((i 0).val * 17 + (i 1).val) * 1 + (i 2).val) * 128 + (i 3).val) % 2176, by have h0 : (i 0).val < 8 := (i 0).isLt; have h1 : (i 1).val < 17 := (i 1).isLt; have h2 : (i 2).val < 1 := (i 2).isLt; have h3 : (i 3).val < 128 := (i 3).isLt; show ((((i 0).val * 17 + (i 1).val) * 1 + (i 2).val) * 128 + (i 3).val) % 2176 < 2176; omega⟩
theorem val_main_v67_apply (x0 x1 : (⟨S2176x8x64, .f32⟩ : BufTy).Contents (Elt F)) (x3 : (⟨S2176x8, .f32⟩ : BufTy).Contents (Elt F)) (i : S8x17x1x128.Idx) :
    val_main_v67 (F := F) x0 x1 x3 i = val_main_v25 (F := F) x0 x1 x3 (idx_main_v67 i) := by
  unfold val_main_v67
  generalize val_main_v25 (F := F) x0 x1 x3 = y
  exact shapeCast_apply y shapeCasts_S8x2176_S8x17x1x128 i (idx_main_v67 i)
    (by rewrite [Shape.rowMajor_val_two, Shape.rowMajor_val_four]; have h0 : (i 0).val < 8 := (i 0).isLt; have h1 : (i 1).val < 17 := (i 1).isLt; have h2 : (i 2).val < 1 := (i 2).isLt; have h3 : (i 3).val < 128 := (i 3).isLt; show ((((i 0).val * 17 + (i 1).val) * 1 + (i 2).val) * 128 + (i 3).val) / 2176 * 2176 + ((((i 0).val * 17 + (i 1).val) * 1 + (i 2).val) * 128 + (i 3).val) % 2176 = (((i 0).val * 17 + (i 1).val) * 1 + (i 2).val) * 128 + (i 3).val; omega)

end Cert.KernelIdeal.Pre

end
-- ==== Proof.Spec.lean ====
/- The attention's gradients as functions of real numbers: the weights, their invariance under a shift of the logits, and
   sums over positions by blocks. -/
module

public import Idealize.ShloMosaic.PureOps.Ideal.Laws

@[expose] public section

noncomputable section

namespace Cert.Spec

open scoped BigOperators

/-- The arguments as real numbers. -/
structure Args where
  q : Fin 2176 → Fin 8 → Fin 64 → ℝ
  k : Fin 2176 → Fin 8 → Fin 64 → ℝ
  v : Fin 2176 → Fin 8 → Fin 64 → ℝ
  c : Fin 2176 → Fin 8 → ℝ
  g : Fin 2176 → Fin 8 → Fin 64 → ℝ

variable (A : Args) (h : Fin 8) (r s : Fin 2176)

/-- The logit of query `r` against key `s`. -/
def logit : ℝ := (∑ d : Fin 64, A.q r h d * A.k s h d) * (1 / 8) + A.c r h - A.c s h

/-- The exponential of a logit less `m`, zero where the key is after the query. -/
def ex (m : ℝ) : ℝ := if s.val ≤ r.val then Real.exp (logit A h r s - m) else 0

/-- The sum of a query's exponentials. -/
def tot (m : ℝ) : ℝ := ∑ s : Fin 2176, ex A h r s m

/-- The weight of key `s` for query `r`. -/
def wt : ℝ := ex A h r s 0 / tot A h r 0

/-- The output's gradient against a value. -/
def gv : ℝ := ∑ d : Fin 64, A.g r h d * A.v s h d

/-- The output. -/
def out (d : Fin 64) : ℝ := ∑ s : Fin 2176, wt A h r s * A.v s h d

/-- The output's gradient against the output. -/
def dlt : ℝ := ∑ d : Fin 64, A.g r h d * out A h r d

/-- The logit's gradient. -/
def ds : ℝ := wt A h r s * (gv A h r s - dlt A h r)

/-- The gradient of the queries. -/
def dq (d : Fin 64) : ℝ := (∑ s : Fin 2176, A.k s h d * ds A h r s) * (1 / 8)

/-- The gradient of the keys. -/
def dk (d : Fin 64) : ℝ := ∑ r : Fin 2176, (A.q r h d * (1 / 8)) * ds A h r s

/-- The gradient of the values. -/
def dv (d : Fin 64) : ℝ := ∑ r : Fin 2176, A.g r h d * wt A h r s

/-- The gradient of the gate's cumulative logarithm. -/
def dc : ℝ := (∑ s : Fin 2176, ds A h r s) - ∑ t : Fin 2176, ds A h t r

theorem ex_shift (m : ℝ) : ex A h r s m = Real.exp (-m) * ex A h r s 0 := by
  unfold ex
  split
  · rw [← Real.exp_add]; congr 1; ring
  · ring

theorem ex_nonneg (m : ℝ) : 0 ≤ ex A h r s m := by
  unfold ex
  split
  · exact (Real.exp_pos _).le
  · exact le_refl _

theorem tot_pos (m : ℝ) : 0 < tot A h r m := by
  refine Finset.sum_pos' (fun s _ => ex_nonneg A h r s m) ⟨r, Finset.mem_univ _, ?_⟩
  unfold ex
  rw [if_pos (le_refl _)]
  exact Real.exp_pos _

theorem tot_shift (m : ℝ) : tot A h r m = Real.exp (-m) * tot A h r 0 := by
  unfold tot
  rw [Finset.mul_sum]
  exact Finset.sum_congr rfl fun s _ => ex_shift A h r s m

theorem wt_shift (m : ℝ) : ex A h r s m / tot A h r m = wt A h r s := by
  rw [ex_shift, tot_shift, mul_div_mul_left _ _ (Real.exp_pos _).ne']
  rfl

/-- The weight by way of the log-sum-exp. -/
theorem wt_lse (m : ℝ) : ex A h r s (m + Real.log (tot A h r m)) = wt A h r s := by
  rw [← wt_shift A h r s m]
  unfold ex
  split
  · rw [sub_add_eq_sub_sub, Real.exp_sub, Real.exp_log (tot_pos A h r m)]
  · rw [zero_div]

theorem wt_zero (hs : ¬ s.val ≤ r.val) : wt A h r s = 0 := by
  unfold wt ex
  rw [if_neg hs, zero_div]

/-- The output's gradient against the output, by the weights. -/
theorem dlt_eq : dlt A h r = ∑ s : Fin 2176, wt A h r s * gv A h r s := by
  unfold dlt out gv
  simp only [Finset.mul_sum]
  rw [Finset.sum_comm]
  refine Finset.sum_congr rfl fun s _ => Finset.sum_congr rfl fun d _ => by ring

/-- The logit's gradient by the quotient rule. -/
theorem ds_eq (m : ℝ) : (gv A h r s / tot A h r m
      + -(∑ t : Fin 2176, gv A h r t * (1 / (tot A h r m * tot A h r m)) * ex A h r t m)) * ex A h r s m = ds A h r s := by
  unfold ds
  rw [dlt_eq]
  have e : ∀ t, wt A h r t = ex A h r t m / tot A h r m := fun t => (wt_shift A h r t m).symm
  have hp := (tot_pos A h r m).ne'
  have hs : (∑ t : Fin 2176, gv A h r t * (1 / (tot A h r m * tot A h r m)) * ex A h r t m)
      = (∑ t : Fin 2176, wt A h r t * gv A h r t) / tot A h r m := by
    rw [Finset.sum_div]
    refine Finset.sum_congr rfl fun t _ => ?_
    rw [e t]
    field_simp
  rw [hs, e s]
  field_simp
  ring

/-- Position `b` of block `i`. -/
def rix (i : Fin 17) (b : Fin 128) : Fin 2176 := ⟨128 * i.val + b.val, by have := i.isLt; have := b.isLt; omega⟩

/-- A sum over positions, by blocks. -/
theorem sum_rix {M : Type} [AddCommMonoid M] (f : Fin 2176 → M) : ∑ r, f r = ∑ i : Fin 17, ∑ b : Fin 128, f (rix i b) := by
  rw [← Fintype.sum_prod_type' (fun i b => f (rix i b))]
  refine (Fintype.sum_equiv (finProdFinEquiv (m := 17) (n := 128)) (fun x => f (rix x.1 x.2)) f fun x => ?_).symm
  congr 1
  apply Fin.ext
  show 128 * x.1.val + x.2.val = x.2.val + 128 * x.1.val
  omega

/-- Adding one more position to those summed. -/
theorem sum_step {n : ℕ} (f : Fin n → ℝ) (P Q : Fin n → Prop) [DecidablePred P] [DecidablePred Q] (i : Fin n)
    (hQ : ∀ x, Q x ↔ P x ∨ x = i) (hP : ¬ P i) :
    (∑ x, if Q x then f x else 0) = (∑ x, if P x then f x else 0) + f i := by
  have e : f i = ∑ x, if x = i then f x else 0 := by simp
  rw [e, ← Finset.sum_add_distrib]
  refine Finset.sum_congr rfl fun x _ => ?_
  by_cases hx : x = i
  · subst hx
    rw [if_pos ((hQ x).2 (Or.inr rfl)), if_neg hP, if_pos rfl, zero_add]
  · rw [if_neg hx, add_zero]
    by_cases hp : P x
    · rw [if_pos hp, if_pos ((hQ x).2 (Or.inl hp))]
    · rw [if_neg hp, if_neg (fun h => ((hQ x).1 h).elim hp hx)]

/-- A finite sum of reals as an extended real. -/
theorem coe_sum {ι : Type} (s : Finset ι) (f : ι → ℝ) : ((∑ i ∈ s, f i : ℝ) : EReal) = ∑ i ∈ s, (f i : EReal) :=
  map_sum (⟨⟨fun x : ℝ => (x : EReal), EReal.coe_zero⟩, EReal.coe_add⟩ : ℝ →+ EReal) f s

end Cert.Spec

end
-- ==== Proof.Basic.lean ====
/- What the two programs' reading at the extended reals shares: the arguments as real numbers, the literals, the causal
   mask, and the row maximum. -/
module

public import proofs.«01_k».proof.Proof.Spec
public import Idealize.ShloMosaic.PureOps.Ideal.Laws
public import Idealize.ShloMosaic.Lib.WordCmp

@[expose] public section

noncomputable section

namespace Cert.Spec

open Idealize.ShloMosaic
open scoped BigOperators

/-- The logarithm of a positive number. -/
theorem log_pos {x : ℝ} (h : 0 < x) : Ideal.log (x : EReal) = ((Real.log x : ℝ) : EReal) := by
  rw [Ideal.log_coe, if_neg (not_le.mpr h)]

/-- A quotient by a positive number. -/
theorem quo_pos (x : ℝ) {y : ℝ} (h : 0 < y) : Ideal.div (x : EReal) (y : EReal) = ((x / y : ℝ) : EReal) := by
  rw [Ideal.div_coe h.ne', ← EReal.coe_mul, mul_one_div]

/-- The five arguments hold the given real numbers. -/
structure Args.Is (A : Args) (x0 x1 x2 : (⟨3, ![2176, 8, 64]⟩ : Shape).Idx → EReal) (x3 : (⟨2, ![2176, 8]⟩ : Shape).Idx → EReal)
    (x4 : (⟨3, ![2176, 8, 64]⟩ : Shape).Idx → EReal) : Prop where
  q : ∀ i, x0 i = ((A.q (i 0) (i 1) (i 2) : ℝ) : EReal)
  k : ∀ i, x1 i = ((A.k (i 0) (i 1) (i 2) : ℝ) : EReal)
  v : ∀ i, x2 i = ((A.v (i 0) (i 1) (i 2) : ℝ) : EReal)
  c : ∀ i, x3 i = ((A.c (i 0) (i 1) : ℝ) : EReal)
  g : ∀ i, x4 i = ((A.g (i 0) (i 1) (i 2) : ℝ) : EReal)

theorem lit_eighth : (Ideal.ofBits .f32 0x3E000000#32 : EReal) = ((1 / 8 : ℝ) : EReal) := by
  simp [Ideal.ofBits, Ideal.ieee, -EReal.coe_mul]; norm_num

theorem lit_one : (Ideal.ofBits .f32 0x3F800000#32 : EReal) = ((1 : ℝ) : EReal) := by
  simp [Ideal.ofBits, Ideal.ieee, -EReal.coe_mul]; norm_num

theorem lit_bot : (Ideal.ofBits .f32 0xFF800000#32 : EReal) = ⊥ := by
  simp [Ideal.ofBits, Ideal.ieee]

theorem lit_zero : (Ideal.ofBits .f32 0x00000000#32 : EReal) = ((0 : ℝ) : EReal) := by
  rw [Ideal.ofBits_zero_f32, EReal.coe_zero]

/-- A position as a word, read signed. -/
theorem word_toInt (n : Fin 2176) : (BitVec.ofNat 32 n.val).toInt = (n.val : Int) := by
  have := n.isLt
  rw [BitVec.toInt_eq_toNat_of_lt (by rw [BitVec.toNat_ofNat]; omega), BitVec.toNat_ofNat]
  omega

/-- The causal mask's word: the key is not after the query. -/
theorem word_mask (s r : Fin 2176) : IntOp.cmpi .sle (BitVec.ofNat 32 s.val) (BitVec.ofNat 32 r.val)
    = BitVec.ofBool (decide (s.val ≤ r.val)) := by
  rw [WordCmp.cmpi_sle_eq, word_toInt, word_toInt]
  simp only [Int.ofNat_le]

/-- A value selected by the mask's word. -/
theorem select_mask {α : Type} (P : Prop) [Decidable P] (x y : α) :
    Scalar.select (BitVec.ofBool (decide P)) x y = if P then x else y := by
  by_cases h : P
  · rw [decide_eq_true h, if_pos h]; rfl
  · rw [decide_eq_false h, if_neg h]; rfl

variable (A : Args) (h : Fin 8) (r : Fin 2176)

/-- A query's masked logits: minus infinity where the key is after the query. -/
def masked (s : Fin 2176) : EReal := if s.val ≤ r.val then ((logit A h r s : ℝ) : EReal) else ⊥

/-- The largest of a query's masked logits. -/
def rowMax : ℝ := (Finset.univ.fold max ⊥ (masked A h r)).toReal

/-- The largest of a query's masked logits is a real number, its own key being among them. -/
theorem fold_max : Finset.univ.fold max (⊥ : EReal) (masked A h r) = ((rowMax A h r : ℝ) : EReal) := by
  refine (EReal.coe_toReal (ne_of_lt ?_) (ne_of_gt ?_)).symm
  · refine (Finset.fold_max_lt _).mpr ⟨bot_lt_top, fun s _ => ?_⟩
    unfold masked
    split
    · exact EReal.coe_lt_top _
    · exact bot_lt_top
  · refine (Finset.lt_fold_max _).mpr (Or.inr ⟨r, Finset.mem_univ _, ?_⟩)
    unfold masked
    rw [if_pos le_rfl]
    exact EReal.bot_lt_coe _

/-- The exponential of a masked logit less a number. -/
theorem exp_masked (s : Fin 2176) (m : ℝ) : Ideal.exp (masked A h r s - (m : EReal)) = ((ex A h r s m : ℝ) : EReal) := by
  unfold masked ex
  by_cases hs : s.val ≤ r.val
  · rw [if_pos hs, if_pos hs, ← EReal.coe_sub, Ideal.exp_coe]
  · rw [if_neg hs, if_neg hs, EReal.bot_sub, Ideal.exp_bot, EReal.coe_zero]

end Cert.Spec

end
-- ==== Proof.Host1.lean ====
/- The host operations before the kernel at the extended reals, first part: on arguments that are real numbers, the
   logits, their row maximum, the weights, the log of the sum and the attention's output. -/
module

public import proofs.«01_k».proof.Proof.Pre
public import proofs.«01_k».proof.Proof.Basic

@[expose] public section

noncomputable section

namespace Cert.KernelIdeal.Pre

open Cert.KernelIdeal Cert.KernelIdeal.Gen Idealize.ShloMosaic Idealize.ShloMosaic.TcCoe
open Cert.Spec
open scoped BigOperators

variable {A : Args} {x0 x1 x2 : (⟨S2176x8x64, .f32⟩ : BufTy).Contents (Elt Ideal)}
  {x3 : (⟨S2176x8, .f32⟩ : BufTy).Contents (Elt Ideal)} {x4 : (⟨S2176x8x64, .f32⟩ : BufTy).Contents (Elt Ideal)}

theorem r_v0 (H : A.Is x0 x1 x2 x3 x4) (i : S8x2176x2176.Idx) : val_main_v0 (F := Ideal) x0 x1 i
    = ((∑ d : Fin 64, A.q (i 1) (i 0) d * A.k (i 2) (i 0) d : ℝ) : EReal) := by
  rw [val_main_v0_apply, coe_sum]
  exact Finset.sum_congr rfl fun d _ => (congrArg₂ (· * ·) (H.q _) (H.k _)).trans (EReal.coe_mul _ _).symm

theorem r_v10 (H : A.Is x0 x1 x2 x3 x4) (i : S8x2176x2176.Idx) : val_main_v10 (F := Ideal) x0 x1 x3 i
    = ((logit A (i 0) (i 1) (i 2) : ℝ) : EReal) := by
  have e2 : val_main_v2 (F := Ideal) x0 x1 i
      = (((∑ d : Fin 64, A.q (i 1) (i 0) d * A.k (i 2) (i 0) d) * (1 / 8) : ℝ) : EReal) := by
    rw [val_main_v2_apply, val_main_v1_apply, val_main_cst_apply, r_v0 H]
    exact (congrArg (_ * ·) lit_eighth).trans (EReal.coe_mul _ _).symm
  have e5 : val_main_v5 (F := Ideal) x3 i = ((A.c (i 1) (i 0) : ℝ) : EReal) := by
    rw [val_main_v5_apply, val_main_v4_apply, val_main_v3_apply]; exact H.c _
  have e9 : val_main_v9 (F := Ideal) x3 i = ((A.c (i 2) (i 0) : ℝ) : EReal) := by
    rw [val_main_v9_apply, val_main_v8_apply, val_main_v7_apply]; exact H.c _
  rw [val_main_v10_apply, val_main_v6_apply, e2, e5, e9]
  exact (congrArg (· - _) (EReal.coe_add _ _).symm).trans (EReal.coe_sub _ _).symm

theorem r_v17 (H : A.Is x0 x1 x2 x3 x4) (i : S8x2176x2176.Idx) : val_main_v17 (F := Ideal) x0 x1 x3 i
    = masked A (i 0) (i 1) (i 2) := by
  have e1 : val_main_call0_v1 (F := Ideal) i = BitVec.ofBool (decide ((i 2).val ≤ (i 1).val)) := by
    rw [val_main_call0_v1_apply, val_main_v16_apply, val_main_v14_apply, val_main_v15_apply, val_main_v12_apply,
      val_main_v13_apply, val_main_v11_apply, val_main_v11_apply]
    exact word_mask (i 2) (i 1)
  have e2 : val_main_call0_v2 (F := Ideal) i = (⊥ : EReal) := by
    rw [val_main_call0_v2_apply]; exact lit_bot
  rw [val_main_v17_apply, e1, e2, r_v10 H]
  exact select_mask _ _ _

theorem r_v18 (H : A.Is x0 x1 x2 x3 x4) (i : S8x2176.Idx) : val_main_v18 (F := Ideal) x0 x1 x3 i
    = ((rowMax A (i 0) (i 1) : ℝ) : EReal) := by
  refine Eq.trans ?_ (fold_max A (i 0) (i 1))
  have e : ∀ y : S8x2176x2176.Idx → EReal, Host.reduce (FloatOps.maximumf (F := Ideal) (φ := .f32)) y (val_main_cst_1 (F := Ideal))
      reducesTo_S8x2176x2176_S8x2176_d2 h_S_ i = Finset.univ.fold max (⊥ : EReal) (fun k => y (idx_main_v23 i k)) := by
    intro y
    have := Host.reduce_eq_fold_single (α := Ideal .f32) (max : EReal → EReal → EReal) y (val_main_cst_1 (F := Ideal))
      reducesTo_S8x2176x2176_S8x2176_d2 (by decide) h_S_ i
    refine this.trans ?_
    rw [show (val_main_cst_1 (F := Ideal)) (Shape.Idx.first h_S_) = (⊥ : EReal) from lit_bot]
    refine congrArg (Finset.univ.fold max (⊥ : EReal)) (funext fun k => ?_)
    exact congrArg y (funext fun a => Fin.ext (by match a with | ⟨0, _⟩ => rfl | ⟨1, _⟩ => rfl | ⟨2, _⟩ => rfl))
  rw [val_main_v18, e]
  exact congrArg (Finset.univ.fold max (⊥ : EReal)) (funext fun k => r_v17 H _)

theorem r_v22 (H : A.Is x0 x1 x2 x3 x4) (i : S8x2176x2176.Idx) : val_main_v22 (F := Ideal) x0 x1 x3 i
    = ((ex A (i 0) (i 1) (i 2) (rowMax A (i 0) (i 1)) : ℝ) : EReal) := by
  have e : val_main_v20 (F := Ideal) x0 x1 x3 i = ((rowMax A (i 0) (i 1) : ℝ) : EReal) := by
    rw [val_main_v20_apply, val_main_v19_apply]; exact r_v18 H _
  rw [val_main_v22_apply, val_main_v21_apply, r_v17 H, e]
  exact exp_masked A (i 0) (i 1) (i 2) _

theorem r_v23 (H : A.Is x0 x1 x2 x3 x4) (i : S8x2176.Idx) : val_main_v23 (F := Ideal) x0 x1 x3 i
    = ((tot A (i 0) (i 1) (rowMax A (i 0) (i 1)) : ℝ) : EReal) := by
  have e0 : (val_main_cst_2 (F := Ideal)) (Shape.Idx.first h_S_) = (0 : EReal) := Ideal.ofBits_zero_f32
  rw [val_main_v23_apply, e0]
  exact ((zero_add _).trans (Finset.sum_congr rfl fun k _ => r_v22 H _)).trans (coe_sum _ _).symm

/-- The log of a query's sum, the row maximum added back. -/
theorem r_v25 (H : A.Is x0 x1 x2 x3 x4) (i : S8x2176.Idx) : val_main_v25 (F := Ideal) x0 x1 x3 i
    = ((rowMax A (i 0) (i 1) + Real.log (tot A (i 0) (i 1) (rowMax A (i 0) (i 1))) : ℝ) : EReal) := by
  rw [val_main_v25_apply, val_main_v24_apply, r_v18 H, r_v23 H]
  exact (congrArg (_ + ·) (log_pos (tot_pos A (i 0) (i 1) _))).trans (EReal.coe_add _ _).symm

theorem r_v28 (H : A.Is x0 x1 x2 x3 x4) (i : S8x2176x2176.Idx) : val_main_v28 (F := Ideal) x0 x1 x3 i
    = ((wt A (i 0) (i 1) (i 2) : ℝ) : EReal) := by
  have e : val_main_v27 (F := Ideal) x0 x1 x3 i = ((tot A (i 0) (i 1) (rowMax A (i 0) (i 1)) : ℝ) : EReal) := by
    rw [val_main_v27_apply, val_main_v26_apply]; exact r_v23 H _
  rw [val_main_v28_apply, e, r_v22 H]
  exact (quo_pos _ (tot_pos A (i 0) (i 1) _)).trans (congrArg _ (wt_shift A (i 0) (i 1) (i 2) _))

theorem r_v30 (H : A.Is x0 x1 x2 x3 x4) (i : S2176x8x64.Idx) : val_main_v30 (F := Ideal) x0 x1 x2 x3 i
    = ((out A (i 1) (i 0) (i 2) : ℝ) : EReal) := by
  rw [val_main_v30_apply, val_main_v29_apply]
  exact (Finset.sum_congr rfl fun k _ => ((congrArg₂ (· * ·) (H.v _) (r_v28 H _)).trans (mul_comm _ _)).trans
    (EReal.coe_mul _ _).symm).trans (coe_sum _ _).symm

end Cert.KernelIdeal.Pre

end
-- ==== Proof.TileReal.lean ====
/- The tiles at the extended reals: on operands that are real numbers every tile is a tile of real numbers. -/
module

public import proofs.«01_k».proof.Proof.Outer
public import proofs.«01_k».proof.Proof.Spec
public import Idealize.ShloMosaic.Lib.Pipeline.Value
public import Idealize.ShloMosaic.Lib.Pointwise.Index
public import Idealize.ShloMosaic.Lib.WordCmp
public import Idealize.ShloMosaic.Lib.ValueIdxCore

@[expose] public section

set_option maxRecDepth 16384

noncomputable section

namespace Cert.KernelIdeal.Attn

open Cert.KernelIdeal Cert.KernelIdeal.Gen
open Idealize.ShloMosaic
open Cert.Spec (coe_sum)
open scoped BigOperators

/-- An `n × m` array of extended reals holds the real numbers `f`. -/
def T2 {n m : ℕ} (X : (⟨2, ![n, m]⟩ : Shape).Idx → EReal) (f : Fin n → Fin m → ℝ) : Prop :=
  ∀ a b, X (ix2 a b) = ((f a b : ℝ) : EReal)

theorem T2.congr {n m : ℕ} {X : (⟨2, ![n, m]⟩ : Shape).Idx → EReal} {f g : Fin n → Fin m → ℝ} (h : T2 X f)
    (e : ∀ a b, f a b = g a b) : T2 X g := fun a b => (h a b).trans (congrArg _ (e a b))

/-- A product of real tiles. -/
theorem mm_plain {φ₁ φ₂ : FTy} (L : FVec Ideal S128x128 φ₁) (R : FVec Ideal S128x128 φ₂)
    {f : Fin 128 → Fin 128 → ℝ} {g : Fin 128 → Fin 128 → ℝ} (hL : T2 L f) (hR : T2 R g) :
    T2 (FloatOps.matmul dot_S128x128_S128x128_S128x128_1_0_0_1_n_n none L R (constant (F := Ideal) S128x128 .f32 0x00000000#32)) (fun a b => ∑ k : Fin 128, f a k * g k b) := by
  intro a b
  rw [Ideal.matmul_constant_zero_apply, ← Equiv.sum_comp (ValueIdx.contrEquiv1 dot_S128x128_S128x128_S128x128_1_0_0_1_n_n 128 rfl rfl).symm, coe_sum]
  refine Finset.sum_congr rfl fun k _ => ?_
  have hk := ValueIdx.contrEquiv1_symm_val dot_S128x128_S128x128_S128x128_1_0_0_1_n_n 128 rfl rfl k
  have el : dot_S128x128_S128x128_S128x128_1_0_0_1_n_n.lhsIdx (ix2 a b) ((ValueIdx.contrEquiv1 dot_S128x128_S128x128_S128x128_1_0_0_1_n_n 128 rfl rfl).symm k) = ix2 a k := by
    funext x; apply Fin.ext
    match x with
    | ⟨0, _⟩ => exact rfl
    | ⟨1, _⟩ => exact hk
  have er : dot_S128x128_S128x128_S128x128_1_0_0_1_n_n.rhsIdx (ix2 a b) ((ValueIdx.contrEquiv1 dot_S128x128_S128x128_S128x128_1_0_0_1_n_n 128 rfl rfl).symm k) = ix2 k b := by
    funext x; apply Fin.ext
    match x with
    | ⟨0, _⟩ => exact hk
    | ⟨1, _⟩ => exact rfl
  rw [el, er, hL, hR, EReal.coe_mul]

/-- A product of real tiles over the rows of both. -/
theorem mm_left {φ₁ φ₂ : FTy} (L : FVec Ideal S64x128 φ₁) (R : FVec Ideal S64x128 φ₂)
    {f : Fin 64 → Fin 128 → ℝ} {g : Fin 64 → Fin 128 → ℝ} (hL : T2 L f) (hR : T2 R g) :
    T2 (FloatOps.matmul dot_S64x128_S64x128_S128x128_0_0_1_1_n_n none L R (constant (F := Ideal) S128x128 .f32 0x00000000#32)) (fun a b => ∑ k : Fin 64, f k a * g k b) := by
  intro a b
  rw [Ideal.matmul_constant_zero_apply, ← Equiv.sum_comp (ValueIdx.contrEquiv1 dot_S64x128_S64x128_S128x128_0_0_1_1_n_n 64 rfl rfl).symm, coe_sum]
  refine Finset.sum_congr rfl fun k _ => ?_
  have hk := ValueIdx.contrEquiv1_symm_val dot_S64x128_S64x128_S128x128_0_0_1_1_n_n 64 rfl rfl k
  have el : dot_S64x128_S64x128_S128x128_0_0_1_1_n_n.lhsIdx (ix2 a b) ((ValueIdx.contrEquiv1 dot_S64x128_S64x128_S128x128_0_0_1_1_n_n 64 rfl rfl).symm k) = ix2 k a := by
    funext x; apply Fin.ext
    match x with
    | ⟨0, _⟩ => exact hk
    | ⟨1, _⟩ => exact rfl
  have er : dot_S64x128_S64x128_S128x128_0_0_1_1_n_n.rhsIdx (ix2 a b) ((ValueIdx.contrEquiv1 dot_S64x128_S64x128_S128x128_0_0_1_1_n_n 64 rfl rfl).symm k) = ix2 k b := by
    funext x; apply Fin.ext
    match x with
    | ⟨0, _⟩ => exact hk
    | ⟨1, _⟩ => exact rfl
  rw [el, er, hL, hR, EReal.coe_mul]

/-- A product of real tiles over the columns of both. -/
theorem mm_right64 {φ₁ φ₂ : FTy} (L : FVec Ideal S64x128 φ₁) (R : FVec Ideal S128x128 φ₂)
    {f : Fin 64 → Fin 128 → ℝ} {g : Fin 128 → Fin 128 → ℝ} (hL : T2 L f) (hR : T2 R g) :
    T2 (FloatOps.matmul dot_S64x128_S128x128_S64x128_1_1_0_0_n_n none L R (constant (F := Ideal) S64x128 .f32 0x00000000#32)) (fun a b => ∑ k : Fin 128, f a k * g b k) := by
  intro a b
  rw [Ideal.matmul_constant_zero_apply, ← Equiv.sum_comp (ValueIdx.contrEquiv1 dot_S64x128_S128x128_S64x128_1_1_0_0_n_n 128 rfl rfl).symm, coe_sum]
  refine Finset.sum_congr rfl fun k _ => ?_
  have hk := ValueIdx.contrEquiv1_symm_val dot_S64x128_S128x128_S64x128_1_1_0_0_n_n 128 rfl rfl k
  have el : dot_S64x128_S128x128_S64x128_1_1_0_0_n_n.lhsIdx (ix2 a b) ((ValueIdx.contrEquiv1 dot_S64x128_S128x128_S64x128_1_1_0_0_n_n 128 rfl rfl).symm k) = ix2 a k := by
    funext x; apply Fin.ext
    match x with
    | ⟨0, _⟩ => exact rfl
    | ⟨1, _⟩ => exact hk
  have er : dot_S64x128_S128x128_S64x128_1_1_0_0_n_n.rhsIdx (ix2 a b) ((ValueIdx.contrEquiv1 dot_S64x128_S128x128_S64x128_1_1_0_0_n_n 128 rfl rfl).symm k) = ix2 b k := by
    funext x; apply Fin.ext
    match x with
    | ⟨0, _⟩ => exact rfl
    | ⟨1, _⟩ => exact hk
  rw [el, er, hL, hR, EReal.coe_mul]

/-- A product of real tiles over the columns of both. -/
theorem mm_right {φ₁ φ₂ : FTy} (L : FVec Ideal S128x128 φ₁) (R : FVec Ideal S128x128 φ₂)
    {f : Fin 128 → Fin 128 → ℝ} {g : Fin 128 → Fin 128 → ℝ} (hL : T2 L f) (hR : T2 R g) :
    T2 (FloatOps.matmul dot_S128x128_S128x128_S128x128_1_1_0_0_n_n none L R (constant (F := Ideal) S128x128 .f32 0x00000000#32)) (fun a b => ∑ k : Fin 128, f a k * g b k) := by
  intro a b
  rw [Ideal.matmul_constant_zero_apply, ← Equiv.sum_comp (ValueIdx.contrEquiv1 dot_S128x128_S128x128_S128x128_1_1_0_0_n_n 128 rfl rfl).symm, coe_sum]
  refine Finset.sum_congr rfl fun k _ => ?_
  have hk := ValueIdx.contrEquiv1_symm_val dot_S128x128_S128x128_S128x128_1_1_0_0_n_n 128 rfl rfl k
  have el : dot_S128x128_S128x128_S128x128_1_1_0_0_n_n.lhsIdx (ix2 a b) ((ValueIdx.contrEquiv1 dot_S128x128_S128x128_S128x128_1_1_0_0_n_n 128 rfl rfl).symm k) = ix2 a k := by
    funext x; apply Fin.ext
    match x with
    | ⟨0, _⟩ => exact rfl
    | ⟨1, _⟩ => exact hk
  have er : dot_S128x128_S128x128_S128x128_1_1_0_0_n_n.rhsIdx (ix2 a b) ((ValueIdx.contrEquiv1 dot_S128x128_S128x128_S128x128_1_1_0_0_n_n 128 rfl rfl).symm k) = ix2 b k := by
    funext x; apply Fin.ext
    match x with
    | ⟨0, _⟩ => exact rfl
    | ⟨1, _⟩ => exact hk
  rw [el, er, hL, hR, EReal.coe_mul]

theorem T2_sT {ka q : FVec Ideal S128x128 .bf16} {f g} (hk : T2 ka f) (hq : T2 q g) :
    T2 (sT ka q) (fun a b => ∑ k : Fin 128, f a k * g k b) := mm_plain ka q hk hq

theorem T2_dpT {v d : FVec Ideal S64x128 .bf16} {f g} (hv : T2 v f) (hd : T2 d g) :
    T2 (dpT v d) (fun a b => ∑ k : Fin 64, f k a * g k b) := mm_left v d hv hd

/-- A row spread over the tile's rows. -/
theorem row_apply (l : FVec Ideal S1x128 .f32) (a b : Fin 128) :
    broadcastTo S128x128 l broadcasts_S1x128_S128x128 (ix2 a b) = l (ix2 0 b) := by
  refine broadcastTo_apply l _ (ix2 a b) (ix2 0 b) fun x => ?_
  match x with
  | ⟨0, _⟩ => rfl
  | ⟨1, _⟩ => rfl

theorem T2_pT {s : FVec Ideal S128x128 .f32} {l : FVec Ideal S1x128 .f32} {f g} (hs : T2 s f) (hl : T2 l g) :
    T2 (pT s l) (fun a b => Real.exp (f a b - g 0 b)) := by
  intro a b
  show Ideal.exp (s (ix2 a b) - broadcastTo S128x128 l broadcasts_S1x128_S128x128 (ix2 a b)) = _
  rw [row_apply, hs, hl, ← EReal.coe_sub, Ideal.exp_coe]

theorem T2_dsT {p dp : FVec Ideal S128x128 .f32} {dl : FVec Ideal S1x128 .f32} {f g e} (hp : T2 p f) (hd : T2 dp g)
    (hl : T2 dl e) : T2 (dsT p dp dl) (fun a b => f a b * (g a b - e 0 b)) := by
  intro a b
  show p (ix2 a b) * (dp (ix2 a b) - broadcastTo S128x128 dl broadcasts_S1x128_S128x128 (ix2 a b)) = _
  rw [row_apply, hp, hd, hl, ← EReal.coe_sub, ← EReal.coe_mul]

theorem T2_dvAdd {acc : FVec Ideal S64x128 .f32} {d : FVec Ideal S64x128 .bf16} {p : FVec Ideal S128x128 .f32} {e f g}
    (ha : T2 acc e) (hd : T2 d f) (hp : T2 p g) : T2 (dvAdd acc d p) (fun a b => e a b + ∑ k : Fin 128, f a k * g b k) := by
  intro a b
  show acc (ix2 a b) + FloatOps.matmul _ none d p _ (ix2 a b) = _
  rw [ha]
  exact (congrArg ((e a b : EReal) + ·) (mm_right64 (φ₂ := .bf16) d p hd hp a b)).trans (EReal.coe_add _ _).symm

theorem T2_dkAdd {acc : FVec Ideal S128x128 .f32} {q ds : FVec Ideal S128x128 .bf16} {e f g}
    (ha : T2 acc e) (hq : T2 q f) (hd : T2 ds g) : T2 (dkAdd acc q ds) (fun a b => e a b + ∑ k : Fin 128, f a k * g b k) := by
  intro a b
  show acc (ix2 a b) + FloatOps.matmul _ none q ds _ (ix2 a b) = _
  rw [ha]
  exact (congrArg ((e a b : EReal) + ·) (mm_right q ds hq hd a b)).trans (EReal.coe_add _ _).symm

theorem T2_dqAdd {acc : FVec Ideal S128x128 .f32} {kt ds : FVec Ideal S128x128 .bf16} {e f g}
    (ha : T2 acc e) (hk : T2 kt f) (hd : T2 ds g) : T2 (dqAdd acc kt ds) (fun a b => e a b + ∑ k : Fin 128, f a k * g k b) := by
  intro a b
  show acc (ix2 a b) + FloatOps.matmul _ none kt ds _ (ix2 a b) = _
  rw [ha]
  exact (congrArg ((e a b : EReal) + ·) (mm_plain kt ds hk hd a b)).trans (EReal.coe_add _ _).symm

theorem T2_zero {n m : ℕ} : T2 (broadcast (⟨2, ![n, m]⟩ : Shape) (FloatOps.ofBits (F := Ideal) .f32 0x00000000#32)) (fun _ _ => 0) := by
  intro a b
  exact Ideal.ofBits_zero_f32

theorem small_toInt (n : ℕ) (h : n < 128) : (BitVec.ofNat 32 n).toInt = n := by
  rw [BitVec.toInt_eq_toNat_of_lt (by rw [BitVec.toNat_ofNat]; omega), BitVec.toNat_ofNat]
  omega

/-- The diagonal block's mask: the key is not after the query. -/
theorem mask_apply (a b : Fin 128) : k0_pay1 (ix2 a b) = BitVec.ofBool (decide (a.val ≤ b.val)) := by
  show IntOp.cmpi .sle (BitVec.ofNat 32 (0 * 128 + a.val)) (BitVec.ofNat 32 (0 * 128 + b.val)) = _
  rw [WordCmp.cmpi_sle_eq, Nat.zero_mul, Nat.zero_add, Nat.zero_add, small_toInt _ a.isLt, small_toInt _ b.isLt]
  simp only [Int.ofNat_le]

/-- The masking constant's value. -/
theorem mask_named : (Named.named κ "mask" 0xF149F2CA#32 : Ideal .f32) = ⊥ := by
  rfl

theorem T2_pD {s : FVec Ideal S128x128 .f32} {l : FVec Ideal S1x128 .f32} {f g} (hs : T2 s f) (hl : T2 l g) :
    T2 (pT (select k0_pay1 s (broadcast S128x128 (Named.named (F := Ideal) κ "mask" 0xF149F2CA#32))) l)
      (fun a b => if a.val ≤ b.val then Real.exp (f a b - g 0 b) else 0) := by
  intro a b
  show Ideal.exp (Scalar.select (k0_pay1 (ix2 a b)) (s (ix2 a b)) (Named.named κ "mask" 0xF149F2CA#32)
    - broadcastTo S128x128 l broadcasts_S1x128_S128x128 (ix2 a b)) = _
  rw [row_apply, hs, hl, mask_apply, mask_named]
  by_cases h : a.val ≤ b.val
  · rw [decide_eq_true h]
    refine Eq.trans ?_ (congrArg _ (if_pos h).symm)
    show Ideal.exp ((f a b : EReal) - (g 0 b : EReal)) = _
    rw [← EReal.coe_sub, Ideal.exp_coe]
  · rw [decide_eq_false h]
    refine Eq.trans ?_ (congrArg _ (if_neg h).symm)
    show Ideal.exp ((⊥ : EReal) - (g 0 b : EReal)) = _
    rw [EReal.bot_sub]
    rfl

end Cert.KernelIdeal.Attn

end
-- ==== Proof.AccReal.lean ====
/- The three gradients at the extended reals: on real operands every entry is a sum of real numbers over the blocks. -/
module

public import proofs.«01_k».proof.Proof.TileReal
public import proofs.«01_k».proof.Proof.Spec
public import Idealize.ShloMosaic.Lib.Pipeline.Value
public import Idealize.ShloMosaic.Lib.Pointwise.Index
public import Idealize.ShloMosaic.Lib.WordCmp
public import Idealize.ShloMosaic.Lib.ValueIdxCore

@[expose] public section

set_option maxRecDepth 16384

noncomputable section

namespace Cert.KernelIdeal.Attn

open Cert.KernelIdeal Cert.KernelIdeal.Gen
open Idealize.ShloMosaic
open Cert.Spec (coe_sum)
open scoped BigOperators

/-- The operands by blocks, as real numbers. -/
structure RIns where
  q : Fin 8 → Fin 17 → Fin 128 → Fin 128 → ℝ
  kt : Fin 8 → Fin 17 → Fin 128 → Fin 128 → ℝ
  ka : Fin 8 → Fin 17 → Fin 128 → Fin 128 → ℝ
  v : Fin 8 → Fin 17 → Fin 64 → Fin 128 → ℝ
  d : Fin 8 → Fin 17 → Fin 64 → Fin 128 → ℝ
  l : Fin 8 → Fin 17 → Fin 128 → ℝ
  dl : Fin 8 → Fin 17 → Fin 128 → ℝ

/-- The operands hold the given real numbers. -/
structure Ins.Holds (X : Ins Ideal) (R : RIns) : Prop where
  q : ∀ h i, T2 (blk X.q h i) (R.q h i)
  kt : ∀ h i, T2 (blk X.kt h i) (R.kt h i)
  ka : ∀ h i, T2 (rowBlk X.ka h i) (R.ka h i)
  v : ∀ h i, T2 (blk X.v h i) (R.v h i)
  d : ∀ h i, T2 (blk X.d h i) (R.d h i)
  l : ∀ h i, T2 (blk X.l h i) (fun _ b => R.l h i b)
  dl : ∀ h i, T2 (blk X.dl h i) (fun _ b => R.dl h i b)

/-- The weight of key `a` of block `j` for query `b` of block `i`. -/
def RIns.w (R : RIns) (h : Fin 8) (j i : Fin 17) (a b : Fin 128) : ℝ :=
  if 128 * j.val + a.val ≤ 128 * i.val + b.val then Real.exp ((∑ k : Fin 128, R.ka h j a k * R.q h i k b) - R.l h i b) else 0

/-- The logit's gradient. -/
def RIns.s (R : RIns) (h : Fin 8) (j i : Fin 17) (a b : Fin 128) : ℝ :=
  R.w h j i a b * ((∑ k : Fin 64, R.v h j k a * R.d h i k b) - R.dl h i b)

theorem RIns.w_zero (R : RIns) (h : Fin 8) (j i : Fin 17) (a b : Fin 128) (hij : i.val < j.val) : R.w h j i a b = 0 := by
  unfold RIns.w
  have := a.isLt
  have := b.isLt
  exact if_neg (by omega)

theorem RIns.s_zero (R : RIns) (h : Fin 8) (j i : Fin 17) (a b : Fin 128) (hij : i.val < j.val) : R.s h j i a b = 0 := by
  unfold RIns.s
  rw [R.w_zero h j i a b hij, zero_mul]

variable {X : Ins Ideal} {R : RIns} (H : X.Holds R)
include H

theorem p_real (h : Fin 8) (j i : Fin 17) (hij : j.val < i.val) : T2 (X.p h j i) (R.w h j i) :=
  (T2_pT (T2_sT (H.ka h j) (H.q h i)) (H.l h i)).congr fun a b => by
    have := a.isLt
    have := b.isLt
    exact (if_pos (by omega)).symm

theorem pD_real (h : Fin 8) (j : Fin 17) : T2 (X.pD h j) (R.w h j j) :=
  (T2_pD (T2_sT (H.ka h j) (H.q h j)) (H.l h j)).congr fun a b => by
    unfold RIns.w
    by_cases e : a.val ≤ b.val
    · rw [if_pos e, if_pos (by omega)]
    · rw [if_neg e, if_neg (by omega)]

theorem ds_real (h : Fin 8) (j i : Fin 17) (hij : j.val < i.val) : T2 (X.ds h j i) (R.s h j i) :=
  T2_dsT (p_real H h j i hij) (T2_dpT (H.v h j) (H.d h i)) (H.dl h i)

theorem dsD_real (h : Fin 8) (j : Fin 17) : T2 (X.dsD h j) (R.s h j j) :=
  T2_dsT (pD_real H h j) (T2_dpT (H.v h j) (H.d h j)) (H.dl h j)

/-- The carried gradients after `n` query blocks past the diagonal. -/
theorem acc_real (h : Fin 8) (j : Fin 17) (n : ℕ) (hn : j.val + n < 17) :
    T2 ((accN X j n).k h) (fun a b => ∑ i : Fin 17, if j.val ≤ i.val ∧ i.val ≤ j.val + n then ∑ c : Fin 128, R.q h i a c * R.s h j i b c else 0)
    ∧ T2 ((accN X j n).v h) (fun a b => ∑ i : Fin 17, if j.val ≤ i.val ∧ i.val ≤ j.val + n then ∑ c : Fin 128, R.d h i a c * R.w h j i b c else 0) := by
  induction n with
  | zero =>
    have one : ∀ f : Fin 17 → ℝ, (∑ i : Fin 17, if j.val ≤ i.val ∧ i.val ≤ j.val + 0 then f i else 0) = 0 + f j := fun f => by
      rw [zero_add, Finset.sum_eq_single j (fun i _ hi => if_neg fun hc => hi (Fin.ext (by omega))) (fun hc => absurd (Finset.mem_univ j) hc)]
      exact if_pos (by omega)
    refine ⟨(T2_dkAdd T2_zero (H.q h j) (dsD_real H h j)).congr fun a b => ?_, (T2_dvAdd T2_zero (H.d h j) (pD_real H h j)).congr fun a b => ?_⟩
    · exact (one fun i => ∑ c : Fin 128, R.q h i a c * R.s h j i b c).symm
    · exact (one fun i => ∑ c : Fin 128, R.d h i a c * R.w h j i b c).symm
  | succ n ih =>
    obtain ⟨i1, i2⟩ := ih (by omega)
    have e : accN X j (n + 1) = (accN X j n).step X j ⟨j.val + n + 1, hn⟩ := dif_pos hn
    have more : ∀ f : Fin 17 → ℝ, (∑ i : Fin 17, if j.val ≤ i.val ∧ i.val ≤ j.val + (n + 1) then f i else 0)
        = (∑ i : Fin 17, if j.val ≤ i.val ∧ i.val ≤ j.val + n then f i else 0) + f ⟨j.val + n + 1, hn⟩ := fun f =>
      Cert.Spec.sum_step f _ _ _ (fun x => by
        rw [Fin.ext_iff]
        show _ ↔ _ ∨ x.val = j.val + n + 1
        omega) (fun hc => by
        have : j.val + n + 1 ≤ j.val + n := hc.2
        omega)
    rw [e]
    have lt : j.val < (⟨j.val + n + 1, hn⟩ : Fin 17).val := by show j.val < j.val + n + 1; omega
    refine ⟨(T2_dkAdd i1 (H.q h _) (ds_real H h j _ lt)).congr fun a b => ?_, (T2_dvAdd i2 (H.d h _) (p_real H h j _ lt)).congr fun a b => ?_⟩
    · exact (more fun i => ∑ c : Fin 128, R.q h i a c * R.s h j i b c).symm
    · exact (more fun i => ∑ c : Fin 128, R.d h i a c * R.w h j i b c).symm

omit H in
theorem all_blocks (j : Fin 17) (f : Fin 17 → ℝ) (h0 : ∀ i : Fin 17, i.val < j.val → f i = 0) :
    (∑ i : Fin 17, if j.val ≤ i.val ∧ i.val ≤ j.val + (16 - j.val) then f i else 0) = ∑ i : Fin 17, f i := by
  refine Finset.sum_congr rfl fun i _ => ?_
  have := i.isLt
  by_cases e : j.val ≤ i.val
  · exact if_pos ⟨e, by omega⟩
  · rw [if_neg (fun hc => e hc.1), h0 i (by omega)]

/-- The key gradients. -/
theorem dkAll_real (h : Fin 8) (j : Fin 17) (a b : Fin 128) :
    dkAll X (ix4 h j a b) = ((∑ i : Fin 17, ∑ c : Fin 128, R.q h i a c * R.s h j i b c : ℝ) : EReal) := by
  have hj := j.isLt
  refine ((acc_real H h j (16 - j.val) (by omega)).1 a b).trans (congrArg _ ?_)
  exact all_blocks j _ fun i hi => Finset.sum_eq_zero fun c _ => by rw [R.s_zero h j i b c hi, mul_zero]

/-- The value gradients. -/
theorem dvAll_real (h : Fin 8) (j : Fin 17) (a : Fin 64) (b : Fin 128) :
    dvAll X (ix4 h j a b) = ((∑ i : Fin 17, ∑ c : Fin 128, R.d h i a c * R.w h j i b c : ℝ) : EReal) := by
  have hj := j.isLt
  refine ((acc_real H h j (16 - j.val) (by omega)).2 a b).trans (congrArg _ ?_)
  exact all_blocks j _ fun i hi => Finset.sum_eq_zero fun c _ => by rw [R.w_zero h j i b c hi, mul_zero]

/-- An array of blocks holds the real numbers `f`. -/
def T4 (g : FVec Ideal S8x17x128x128 .f32) (f : Fin 8 → Fin 17 → Fin 128 → Fin 128 → ℝ) : Prop :=
  ∀ h i a b, g (ix4 h i a b) = ((f h i a b : ℝ) : EReal)

/-- What key block `j` adds to a query's gradient. -/
def RIns.t (R : RIns) (h : Fin 8) (j i : Fin 17) (a b : Fin 128) : ℝ := ∑ c : Fin 128, R.kt h j a c * R.s h j i c b

theorem dqD_real (j : Fin 17) {g f} (hg : T4 g f) :
    T4 (dqD X j g) (fun h i a b => f h i a b + if i.val = j.val then R.t h j i a b else 0) := by
  intro h i a b
  show (if i.val = j.val then dqAdd (blk g h j) (blk X.kt h j) (X.dsD h j) (ix2 a b) else g (ix4 h i a b))
    = ((f h i a b + if i.val = j.val then R.t h j i a b else 0 : ℝ) : EReal)
  by_cases e : i.val = j.val
  · have e' : i = j := Fin.ext e
    subst e'
    rw [if_pos rfl, if_pos rfl]
    exact T2_dqAdd (e := f h i) (fun a b => hg h i a b) (H.kt h i) (dsD_real H h i) a b
  · rw [if_neg e, if_neg e, hg, add_zero]

theorem dqS_real (j k : Fin 17) (hjk : j.val < k.val) {g f} (hg : T4 g f) :
    T4 (dqS X j k g) (fun h i a b => f h i a b + if i.val = k.val then R.t h j i a b else 0) := by
  intro h i a b
  show (if i.val = k.val then dqAdd (blk g h k) (blk X.kt h j) (X.ds h j k) (ix2 a b) else g (ix4 h i a b))
    = ((f h i a b + if i.val = k.val then R.t h j i a b else 0 : ℝ) : EReal)
  by_cases e : i.val = k.val
  · have e' : i = k := Fin.ext e
    subst e'
    rw [if_pos rfl, if_pos rfl]
    exact T2_dqAdd (e := f h i) (fun a b => hg h i a b) (H.kt h j) (ds_real H h j i hjk) a b
  · rw [if_neg e, if_neg e, hg, add_zero]

theorem dqN_real (j : Fin 17) {g f} (hg : T4 g f) (n : ℕ) (hn : j.val + n < 17) :
    T4 (dqN X j g n) (fun h i a b => f h i a b + if j.val < i.val ∧ i.val ≤ j.val + n then R.t h j i a b else 0) := by
  induction n with
  | zero =>
    intro h i a b
    refine (hg h i a b).trans (congrArg _ ?_)
    show f h i a b = f h i a b + if j.val < i.val ∧ i.val ≤ j.val + 0 then R.t h j i a b else 0
    rw [if_neg (by omega), add_zero]
  | succ n ih =>
    have e : dqN X j g (n + 1) = dqS X j ⟨j.val + n + 1, hn⟩ (dqN X j g n) := dif_pos hn
    rw [e]
    intro h i a b
    refine (dqS_real H j _ (by show j.val < j.val + n + 1; omega) (ih (by omega)) h i a b).trans (congrArg _ ?_)
    show (f h i a b + if j.val < i.val ∧ i.val ≤ j.val + n then R.t h j i a b else 0)
        + (if i.val = j.val + n + 1 then R.t h j i a b else 0)
      = f h i a b + if j.val < i.val ∧ i.val ≤ j.val + (n + 1) then R.t h j i a b else 0
    by_cases e1 : i.val = j.val + n + 1
    · rw [if_neg (by omega), if_pos e1, if_pos (by omega), add_zero]
    · rw [if_neg e1, add_zero]
      by_cases e2 : j.val < i.val ∧ i.val ≤ j.val + n
      · rw [if_pos e2, if_pos (by omega)]
      · rw [if_neg e2, if_neg (by omega)]

theorem dqAll_real (n : ℕ) (hn : n ≤ 17) :
    T4 (dqAll X n) (fun h i a b => ∑ j : Fin 17, if j.val < n ∧ j.val ≤ i.val then R.t h j i a b else 0) := by
  induction n with
  | zero =>
    intro h i a b
    refine (T2_zero (n := 128) (m := 128) a b).trans (congrArg _ ?_)
    exact (Finset.sum_eq_zero fun j _ => if_neg fun hc => Nat.not_lt_zero _ hc.1).symm
  | succ n ih =>
    have e : dqAll X (n + 1) = dqN X ⟨n, hn⟩ (dqD X ⟨n, hn⟩ (dqAll X n)) (16 - n) := dif_pos hn
    rw [e]
    intro h i a b
    refine (dqN_real H ⟨n, hn⟩ (dqD_real H ⟨n, hn⟩ (ih (Nat.le_of_succ_le hn))) (16 - n) (by show n + (16 - n) < 17; omega) h i a b).trans
      (congrArg _ ?_)
    show ((∑ j : Fin 17, if j.val < n ∧ j.val ≤ i.val then R.t h j i a b else 0) + if i.val = n then R.t h ⟨n, hn⟩ i a b else 0)
        + (if n < i.val ∧ i.val ≤ n + (16 - n) then R.t h ⟨n, hn⟩ i a b else 0)
      = ∑ j : Fin 17, if j.val < n + 1 ∧ j.val ≤ i.val then R.t h j i a b else 0
    have hi := i.isLt
    by_cases e1 : n ≤ i.val
    · rw [Cert.Spec.sum_step (fun j => R.t h j i a b) (fun j : Fin 17 => j.val < n ∧ j.val ≤ i.val) (fun j : Fin 17 => j.val < n + 1 ∧ j.val ≤ i.val) ⟨n, hn⟩
        (fun x => by
          rw [Fin.ext_iff]
          show _ ↔ _ ∨ x.val = n
          omega)
        (fun hc => Nat.lt_irrefl n hc.1), add_assoc]
      congr 1
      by_cases e2 : i.val = n
      · rw [if_pos e2, if_neg (by omega), add_zero]
      · rw [if_neg e2, if_pos (by omega), zero_add]
    · rw [if_neg (by omega), if_neg (by omega), add_zero, add_zero]
      refine Finset.sum_congr rfl fun j _ => ?_
      by_cases e2 : j.val < n ∧ j.val ≤ i.val
      · rw [if_pos e2, if_pos (by omega)]
      · rw [if_neg e2, if_neg (by omega)]

/-- The query gradients. -/
theorem dqFin_real (h : Fin 8) (i : Fin 17) (a b : Fin 128) :
    dqAll X 17 (ix4 h i a b) = ((∑ j : Fin 17, ∑ c : Fin 128, R.kt h j a c * R.s h j i c b : ℝ) : EReal) := by
  refine (dqAll_real H 17 (le_refl _) h i a b).trans (congrArg _ (Finset.sum_congr rfl fun j _ => ?_))
  by_cases e : j.val ≤ i.val
  · exact if_pos ⟨j.isLt, e⟩
  · rw [if_neg (fun hc => e hc.2)]
    exact (Finset.sum_eq_zero fun c _ => by rw [R.s_zero h j i c b (by omega), mul_zero]).symm

end Cert.KernelIdeal.Attn

end
-- ==== Proof.Host2.lean ====
/- The host operations before the kernel at the extended reals, second part: the operands by blocks of columns. A query's
   column is its 64 entries by 1/8, then its bias, two zeros, three ones and zeros; a key's column is its 64 entries, three
   ones, its bias negated and zeros: the product of the two is the logit. -/
module

public import proofs.«01_k».proof.Proof.Host1
public import proofs.«01_k».proof.Proof.AccReal
public import Idealize.ShloMosaic.Lib.Pointwise.Index

@[expose] public section

noncomputable section

namespace Cert.KernelIdeal.Pre

open Cert.KernelIdeal Cert.KernelIdeal.Gen Idealize.ShloMosaic Idealize.ShloMosaic.TcCoe
open Cert.Spec
open scoped BigOperators

/-- A query's column. -/
def qf (A : Args) (h : Fin 8) (r : Fin 2176) (a : Fin 128) : ℝ :=
  if ha : a.val < 64 then A.q r h ⟨a.val, ha⟩ * (1 / 8) else if a.val = 64 then A.c r h
  else if a.val < 67 then 0 else if a.val < 70 then 1 else 0

/-- A key's column. -/
def kf (A : Args) (h : Fin 8) (s : Fin 2176) (a : Fin 128) : ℝ :=
  if ha : a.val < 64 then A.k s h ⟨a.val, ha⟩ else if a.val < 67 then 1
  else if a.val = 67 then -A.c s h else 0

section rows

variable (A : Args) (h : Fin 8) (r : Fin 2176) (a : Fin 128)

theorem qf_lt (h0 : a.val < 64) : A.q r h ⟨a.val, h0⟩ * (1 / 8) = qf A h r a := by rw [qf, dif_pos h0]

theorem qf_c (h0 : a.val = 64) : A.c r h = qf A h r a := by rw [qf, dif_neg (by omega), if_pos h0]

theorem qf_zero (h0 : 64 < a.val) (h1 : a.val < 67) : 0 = qf A h r a := by
  rw [qf, dif_neg (by omega), if_neg (by omega), if_pos h1]

theorem qf_one (h0 : 67 ≤ a.val) (h1 : a.val < 70) : 1 = qf A h r a := by
  rw [qf, dif_neg (by omega), if_neg (by omega), if_neg (by omega), if_pos h1]

theorem qf_end (h0 : 70 ≤ a.val) : 0 = qf A h r a := by
  rw [qf, dif_neg (by omega), if_neg (by omega), if_neg (by omega), if_neg (by omega)]

theorem kf_lt (h0 : a.val < 64) : A.k r h ⟨a.val, h0⟩ = kf A h r a := by rw [kf, dif_pos h0]

theorem kf_one (h0 : 64 ≤ a.val) (h1 : a.val < 67) : 1 = kf A h r a := by rw [kf, dif_neg (by omega), if_pos h1]

theorem kf_c (h0 : a.val = 67) : -A.c r h = kf A h r a := by rw [kf, dif_neg (by omega), if_neg (by omega), if_pos h0]

theorem kf_end (h0 : 67 < a.val) : 0 = kf A h r a := by
  rw [kf, dif_neg (by omega), if_neg (by omega), if_neg (by omega)]

end rows

/-- The product of a key's column and a query's is their logit. -/
theorem kf_qf (A : Args) (h : Fin 8) (r s : Fin 2176) : ∑ a : Fin 128, kf A h s a * qf A h r a = logit A h r s := by
  have e := Fin.sum_univ_add (a := 64) (b := 64) (fun a : Fin (64 + 64) => kf A h s a * qf A h r a)
  refine e.trans ?_
  have e1 : ∀ d : Fin 64, kf A h s (Fin.castAdd 64 d) * qf A h r (Fin.castAdd 64 d) = A.q r h d * A.k s h d * (1 / 8) := by
    intro d
    have hd : (Fin.castAdd 64 d).val < 64 := d.isLt
    rw [kf, qf, dif_pos hd, dif_pos hd]
    show A.k s h d * (A.q r h d * (1 / 8)) = _
    ring
  have e2 : ∀ d : Fin 64, kf A h s (Fin.natAdd 64 d) * qf A h r (Fin.natAdd 64 d)
      = (if d = 0 then A.c r h else 0) + (if d = 3 then -A.c s h else 0) := by
    intro d
    have hd : (Fin.natAdd 64 d).val = 64 + d.val := rfl
    have h0 : d = 0 ↔ d.val = 0 := Fin.ext_iff
    have h3 : d = 3 ↔ d.val = 3 := Fin.ext_iff
    rw [kf, qf, dif_neg (by omega), dif_neg (by omega)]
    simp only [hd, h0, h3]
    split_ifs <;> first | omega | simp
  rw [Finset.sum_congr rfl fun d _ => e1 d, Finset.sum_congr rfl fun d _ => e2 d, ← Finset.sum_mul, Finset.sum_add_distrib,
    Finset.sum_ite_eq' Finset.univ (0 : Fin 64), Finset.sum_ite_eq' Finset.univ (3 : Fin 64), if_pos (Finset.mem_univ _),
    if_pos (Finset.mem_univ _), logit]
  ring

variable {A : Args} {x0 x1 x2 : (⟨S2176x8x64, .f32⟩ : BufTy).Contents (Elt Ideal)}
  {x3 : (⟨S2176x8, .f32⟩ : BufTy).Contents (Elt Ideal)} {x4 : (⟨S2176x8x64, .f32⟩ : BufTy).Contents (Elt Ideal)}

/-- An array by position, head and entry, read by columns. -/
theorem cols {x : S2176x8x64.Idx → EReal} {f : Fin 2176 → Fin 8 → Fin 64 → ℝ} (H : ∀ y, x y = ((f (y 0) (y 1) (y 2) : ℝ) : EReal))
    (i : S8x17x64x128.Idx) : x (idx_main_v44 (idx_main_v45 i)) = ((f (rix (i 1) (i 3)) (i 0) (i 2) : ℝ) : EReal) := by
  have h0 : (i 0).val < 8 := (i 0).isLt
  have h1 : (i 1).val < 17 := (i 1).isLt
  have h2 : (i 2).val < 64 := (i 2).isLt
  have h3 : (i 3).val < 128 := (i 3).isLt
  refine (H _).trans (congrArg _ ?_)
  have e0 : (idx_main_v44 (idx_main_v45 i) 0 : Fin 2176) = rix (i 1) (i 3) := Fin.ext (by
    show ((((i 1).val * 128 + (i 3).val) * 8 + (i 0).val) * 64 + (i 2).val) / 512 = 128 * (i 1).val + (i 3).val
    omega)
  have e1 : (idx_main_v44 (idx_main_v45 i) 1 : Fin 8) = i 0 := Fin.ext (by
    show ((((i 1).val * 128 + (i 3).val) * 8 + (i 0).val) * 64 + (i 2).val) / 64 % 8 = (i 0).val
    omega)
  have e2 : (idx_main_v44 (idx_main_v45 i) 2 : Fin 64) = i 2 := Fin.ext (by
    show ((((i 1).val * 128 + (i 3).val) * 8 + (i 0).val) * 64 + (i 2).val) % 64 = (i 2).val
    omega)
  exact (congrArg (fun z => f z _ _) e0).trans ((congrArg (fun z => f _ z _) e1).trans (congrArg (fun z => f _ _ z) e2))

theorem r_v33 (H : A.Is x0 x1 x2 x3 x4) (i : S8x17x1x128.Idx) : val_main_v33 (F := Ideal) x3 i
    = ((A.c (rix (i 1) (i 3)) (i 0) : ℝ) : EReal) := by
  have h0 : (i 0).val < 8 := (i 0).isLt
  have h1 : (i 1).val < 17 := (i 1).isLt
  have h2 : (i 2).val < 1 := (i 2).isLt
  have h3 : (i 3).val < 128 := (i 3).isLt
  rw [val_main_v33_apply, val_main_v32_apply, val_main_v31_apply]
  refine (H.c _).trans (congrArg _ ?_)
  have e0 : (idx_main_v31 (idx_main_v32 (idx_main_v33 i)) 0 : Fin 2176) = rix (i 1) (i 3) := Fin.ext (by
    show ((((i 1).val * 128 + (i 3).val) * 8 + (i 0).val) * 1 + (i 2).val) / 8 = 128 * (i 1).val + (i 3).val
    omega)
  have e1 : (idx_main_v31 (idx_main_v32 (idx_main_v33 i)) 1 : Fin 8) = i 0 := Fin.ext (by
    show ((((i 1).val * 128 + (i 3).val) * 8 + (i 0).val) * 1 + (i 2).val) / 1 % 8 = (i 0).val
    omega)
  exact (congrArg (fun z => A.c z _) e0).trans (congrArg (fun z => A.c _ z) e1)

theorem r_v35 (H : A.Is x0 x1 x2 x3 x4) (i : S8x17x1x128.Idx) : val_main_v35 (F := Ideal) x3 i
    = ((A.c (rix (i 1) (i 3)) (i 0) : ℝ) : EReal) := r_v33 H i

theorem r_v36 (H : A.Is x0 x1 x2 x3 x4) (i : S8x17x1x128.Idx) : val_main_v36 (F := Ideal) x3 i = ((0 : ℝ) : EReal) := by
  rw [val_main_v36_apply, r_v35 H, r_v33 H]
  exact (EReal.coe_sub _ _).symm.trans (congrArg _ (sub_self _))

theorem r_v38 (H : A.Is x0 x1 x2 x3 x4) (i : S8x17x1x128.Idx) : val_main_v38 (F := Ideal) x3 i = ((0 : ℝ) : EReal) := r_v36 H i

theorem r_v41 (H : A.Is x0 x1 x2 x3 x4) (i : S8x17x1x128.Idx) : val_main_v41 (F := Ideal) x3 i = ((0 : ℝ) : EReal) := by
  have e : val_main_v41 (F := Ideal) x3 i = (val_main_v36 (F := Ideal) x3 i : EReal) - val_main_v38 (F := Ideal) x3 i := rfl
  rw [e, r_v36 H, r_v38 H]
  exact (EReal.coe_sub _ _).symm.trans (congrArg _ (sub_self _))

theorem r_v42 (i : S8x17x3x128.Idx) : val_main_v42 (F := Ideal) i = ((1 : ℝ) : EReal) := by
  rw [val_main_v42_apply]; exact lit_one

theorem r_v43 (i : S8x17x58x128.Idx) : val_main_v43 (F := Ideal) i = ((0 : ℝ) : EReal) := by
  rw [val_main_v43_apply]; exact lit_zero

/-- A concatenation along the third axis read in its `k`-th piece. -/
theorem cat_piece (xs : List ((s : Shape) × (s.Idx → EReal))) (hc : Shape.Concatenates (xs.map (·.1)) S8x17x128x128 2)
    (i : S8x17x128x128.Idx) (k : ℕ) (hk : k < xs.length) (n : ℕ) (x : (⟨4, ![8, 17, n, 128]⟩ : Shape).Idx → EReal)
    (hxk : xs[k] = ⟨_, x⟩) (pre : ℕ)
    (hpre : (((xs.take k).map (·.1)).map fun s => if h : s.rank = S8x17x128x128.rank then s.size ((2 : Fin S8x17x128x128.rank).cast h.symm) else 0).sum = pre)
    (a : Fin n) (ha : pre + a.val = (i 2).val) :
    concatenate S8x17x128x128 2 xs hc i = x (ix4 (i 0) (i 1) a (i 3)) :=
  concatenate_apply_piece 2 xs hc i k hk _ x hxk rfl pre hpre (ix4 (i 0) (i 1) a (i 3))
    (fun b => match b with
      | ⟨0, _⟩ => fun _ => rfl
      | ⟨1, _⟩ => fun _ => rfl
      | ⟨2, _⟩ => fun h => absurd rfl h
      | ⟨3, _⟩ => fun _ => rfl) ha

theorem r_v47 (H : A.Is x0 x1 x2 x3 x4) (i : S8x17x64x128.Idx) : val_main_v47 (F := Ideal) x0 i
    = ((A.q (rix (i 1) (i 3)) (i 0) (i 2) * (1 / 8) : ℝ) : EReal) := by
  have e : val_main_v45 (F := Ideal) x0 i = ((A.q (rix (i 1) (i 3)) (i 0) (i 2) : ℝ) : EReal) := by
    rw [val_main_v45_apply, val_main_v44_apply]; exact cols H.q i
  rw [val_main_v47_apply, val_main_v46_apply, val_main_cst_5_apply, e]
  exact (congrArg (_ * ·) lit_eighth).trans (EReal.coe_mul _ _).symm

theorem r_v51 (H : A.Is x0 x1 x2 x3 x4) (i : S8x17x64x128.Idx) : val_main_v51 (F := Ideal) x1 i
    = ((A.k (rix (i 1) (i 3)) (i 0) (i 2) : ℝ) : EReal) := by
  rw [val_main_v51_apply, val_main_v50_apply]; exact cols H.k i

theorem r_v61 (H : A.Is x0 x1 x2 x3 x4) (i : S8x17x64x128.Idx) : val_main_v61 (F := Ideal) x2 i
    = ((A.v (rix (i 1) (i 3)) (i 0) (i 2) : ℝ) : EReal) := by
  rw [val_main_v61_apply, val_main_v60_apply, val_main_v59_apply]; exact cols H.v i

theorem r_v66 (H : A.Is x0 x1 x2 x3 x4) (i : S8x17x64x128.Idx) : val_main_v66 (F := Ideal) x4 i
    = ((A.g (rix (i 1) (i 3)) (i 0) (i 2) : ℝ) : EReal) := by
  rw [val_main_v66_apply, val_main_v65_apply, val_main_v64_apply]; exact cols H.g i

theorem r_v63 (H : A.Is x0 x1 x2 x3 x4) (i : S8x17x64x128.Idx) : val_main_v63 (F := Ideal) x0 x1 x2 x3 i
    = ((out A (i 0) (rix (i 1) (i 3)) (i 2) : ℝ) : EReal) := by
  rw [val_main_v63_apply, val_main_v62_apply]
  exact cols (f := fun r h d => out A h r d) (r_v30 H) i

theorem r_v49 (H : A.Is x0 x1 x2 x3 x4) (i : S8x17x128x128.Idx) : val_main_v49 (F := Ideal) x0 x3 i
    = ((qf A (i 0) (rix (i 1) (i 3)) (i 2) : ℝ) : EReal) := by
  show val_main_v48 (F := Ideal) x0 x3 i = _
  have hi : (i 2).val < 128 := (i 2).isLt
  unfold val_main_v48
  by_cases c0 : (i 2).val < 64
  · refine (cat_piece _ _ i 0 (by simp) 64 (val_main_v47 (F := Ideal) x0) rfl 0 rfl ⟨(i 2).val, c0⟩ (Nat.zero_add _)).trans ?_
    exact (r_v47 H _).trans (congrArg _ (qf_lt A (i 0) _ (i 2) c0))
  by_cases c1 : (i 2).val = 64
  · refine (cat_piece _ _ i 1 (by simp) 1 (val_main_v35 (F := Ideal) x3) rfl 64 rfl 0 c1.symm).trans ?_
    exact (r_v35 H _).trans (congrArg _ (qf_c A (i 0) _ (i 2) c1))
  by_cases c2 : (i 2).val = 65
  · refine (cat_piece _ _ i 2 (by simp) 1 (val_main_v38 (F := Ideal) x3) rfl 65 rfl 0 c2.symm).trans ?_
    exact (r_v38 H _).trans (congrArg _ (qf_zero A (i 0) _ (i 2) (by omega) (by omega)))
  by_cases c3 : (i 2).val = 66
  · refine (cat_piece _ _ i 3 (by simp) 1 (val_main_v41 (F := Ideal) x3) rfl 66 rfl 0 c3.symm).trans ?_
    exact (r_v41 H _).trans (congrArg _ (qf_zero A (i 0) _ (i 2) (by omega) (by omega)))
  by_cases c4 : (i 2).val < 70
  · refine (cat_piece _ _ i 4 (by simp) 3 (val_main_v42 (F := Ideal)) rfl 67 rfl ⟨(i 2).val - 67, by omega⟩
      (by show 67 + ((i 2).val - 67) = _; omega)).trans ?_
    exact (r_v42 _).trans (congrArg _ (qf_one A (i 0) _ (i 2) (by omega) c4))
  · refine (cat_piece _ _ i 5 (by simp) 58 (val_main_v43 (F := Ideal)) rfl 70 rfl ⟨(i 2).val - 70, by omega⟩
      (by show 70 + ((i 2).val - 70) = _; omega)).trans ?_
    exact (r_v43 _).trans (congrArg _ (qf_end A (i 0) _ (i 2) (by omega)))

theorem r_v56 (H : A.Is x0 x1 x2 x3 x4) (i : S8x17x128x128.Idx) : val_main_v56 (F := Ideal) x1 x3 i
    = ((kf A (i 0) (rix (i 1) (i 3)) (i 2) : ℝ) : EReal) := by
  show val_main_v55 (F := Ideal) x1 x3 i = _
  have hi : (i 2).val < 128 := (i 2).isLt
  have n0 : ∀ y : EReal, y = ((0 : ℝ) : EReal) → -y = ((0 : ℝ) : EReal) := fun y hy => by
    rw [hy, ← EReal.coe_neg, neg_zero]
  unfold val_main_v55
  by_cases c0 : (i 2).val < 64
  · refine (cat_piece _ _ i 0 (by simp) 64 (val_main_v51 (F := Ideal) x1) rfl 0 rfl ⟨(i 2).val, c0⟩ (Nat.zero_add _)).trans ?_
    exact (r_v51 H _).trans (congrArg _ (kf_lt A (i 0) _ (i 2) c0))
  by_cases c1 : (i 2).val < 67
  · refine (cat_piece _ _ i 1 (by simp) 3 (val_main_v42 (F := Ideal)) rfl 64 rfl ⟨(i 2).val - 64, by omega⟩
      (by show 64 + ((i 2).val - 64) = _; omega)).trans ?_
    exact (r_v42 _).trans (congrArg _ (kf_one A (i 0) _ (i 2) (by omega) c1))
  by_cases c2 : (i 2).val = 67
  · refine (cat_piece _ _ i 2 (by simp) 1 (val_main_v52 (F := Ideal) x3) rfl 67 rfl 0 c2.symm).trans ?_
    exact (congrArg (fun y : EReal => -y) (r_v35 H _)).trans ((EReal.coe_neg _).symm.trans
      (congrArg _ (kf_c A (i 0) _ (i 2) c2)))
  have last : kf A (i 0) (rix (i 1) (i 3)) (i 2) = 0 := (kf_end A (i 0) _ (i 2) (by omega)).symm
  rw [last]
  by_cases c3 : (i 2).val = 68
  · refine (cat_piece _ _ i 3 (by simp) 1 (val_main_v53 (F := Ideal) x3) rfl 68 rfl 0 c3.symm).trans ?_
    exact n0 _ (r_v38 H _)
  by_cases c4 : (i 2).val = 69
  · refine (cat_piece _ _ i 4 (by simp) 1 (val_main_v54 (F := Ideal) x3) rfl 69 rfl 0 c4.symm).trans ?_
    exact n0 _ (r_v41 H _)
  · refine (cat_piece _ _ i 5 (by simp) 58 (val_main_v43 (F := Ideal)) rfl 70 rfl ⟨(i 2).val - 70, by omega⟩
      (by show 70 + ((i 2).val - 70) = _; omega)).trans ?_
    exact r_v43 _

theorem r_v58 (H : A.Is x0 x1 x2 x3 x4) (i : S8x2176x128.Idx) : val_main_v58 (F := Ideal) x1 x3 i
    = ((kf A (i 0) (i 1) (i 2) : ℝ) : EReal) := by
  have h0 : (i 0).val < 8 := (i 0).isLt
  have h1 : (i 1).val < 2176 := (i 1).isLt
  have h2 : (i 2).val < 128 := (i 2).isLt
  rw [val_main_v58_apply, val_main_v57_apply]
  refine (r_v56 H _).trans (congrArg _ ?_)
  have e0 : (idx_main_v57 (idx_main_v58 i) 0 : Fin 8) = i 0 := Fin.ext (by
    show (((i 0).val * 2176 + (i 1).val) * 128 + (i 2).val) / 278528 = (i 0).val
    omega)
  have e1 : rix (idx_main_v57 (idx_main_v58 i) 1) (idx_main_v57 (idx_main_v58 i) 3) = i 1 := Fin.ext (by
    show 128 * ((((i 0).val * 2176 + (i 1).val) * 128 + (i 2).val) / 16384 % 17)
      + (((i 0).val * 2176 + (i 1).val) * 128 + (i 2).val) / 128 % 128 = (i 1).val
    omega)
  have e2 : (idx_main_v57 (idx_main_v58 i) 2 : Fin 128) = i 2 := Fin.ext (by
    show (((i 0).val * 2176 + (i 1).val) * 128 + (i 2).val) % 128 = (i 2).val
    omega)
  exact (congrArg (fun z => kf A z _ _) e0).trans ((congrArg (fun z => kf A _ z _) e1).trans (congrArg (fun z => kf A _ _ z) e2))

/-- The log of a query's sum, the row maximum added back. -/
def lse (A : Args) (h : Fin 8) (r : Fin 2176) : ℝ := rowMax A h r + Real.log (tot A h r (rowMax A h r))

theorem r_v67 (H : A.Is x0 x1 x2 x3 x4) (i : S8x17x1x128.Idx) : val_main_v67 (F := Ideal) x0 x1 x3 i
    = ((lse A (i 0) (rix (i 1) (i 3)) : ℝ) : EReal) := by
  have h0 : (i 0).val < 8 := (i 0).isLt
  have h1 : (i 1).val < 17 := (i 1).isLt
  have h2 : (i 2).val < 1 := (i 2).isLt
  have h3 : (i 3).val < 128 := (i 3).isLt
  rw [val_main_v67_apply]
  refine (r_v25 H _).trans (congrArg _ ?_)
  have e0 : (idx_main_v67 i 0 : Fin 8) = i 0 := Fin.ext (by
    show ((((i 0).val * 17 + (i 1).val) * 1 + (i 2).val) * 128 + (i 3).val) / 2176 = (i 0).val
    omega)
  have e1 : (idx_main_v67 i 1 : Fin 2176) = rix (i 1) (i 3) := Fin.ext (by
    show ((((i 0).val * 17 + (i 1).val) * 1 + (i 2).val) * 128 + (i 3).val) % 2176 = 128 * (i 1).val + (i 3).val
    omega)
  exact (congrArg (fun z => lse A z _) e0).trans (congrArg (fun z => lse A _ z) e1)

end Cert.KernelIdeal.Pre

end
-- ==== Proof.PreV.lean ====
/- What the kernel finds in its operands: the values the host operations before it leave there. -/
module

public import proofs.«01_k».proof.Proof.Pre

@[expose] public section

set_option maxRecDepth 16384

noncomputable section

namespace Cert.KernelIdeal.Attn

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

set_option maxHeartbeats 40000000 in
/-- The queries. -/
theorem V_main_v49 : V m c main_v49 = Pre.val_main_v49 (F := F) (m ((c.tc : Thread nD τ).loc main_arg0)) (m ((c.tc : Thread nD τ).loc main_arg3)) := by
  show StableHlo.after _ _ (Proc.devRef .tc main_v49) = _
  simp only [hostOps0, hostOps0_1, hostOps0_2, List.flatten_cons, List.flatten_nil, List.append_nil, List.cons_append, List.nil_append,
    TRef.nullary, TRef.ternary, TRef.unary, TRef.toBuf, TRef.ofBuf, cast_eq]
  after_results_simp <;> rfl

set_option maxHeartbeats 40000000 in
/-- The keys by columns. -/
theorem V_main_v56 : V m c main_v56 = Pre.val_main_v56 (F := F) (m ((c.tc : Thread nD τ).loc main_arg1)) (m ((c.tc : Thread nD τ).loc main_arg3)) := by
  show StableHlo.after _ _ (Proc.devRef .tc main_v56) = _
  simp only [hostOps0, hostOps0_1, hostOps0_2, List.flatten_cons, List.flatten_nil, List.append_nil, List.cons_append, List.nil_append,
    TRef.nullary, TRef.ternary, TRef.unary, TRef.toBuf, TRef.ofBuf, cast_eq]
  after_results_simp <;> rfl

set_option maxHeartbeats 40000000 in
/-- The keys by rows. -/
theorem V_main_v58 : V m c main_v58 = Pre.val_main_v58 (F := F) (m ((c.tc : Thread nD τ).loc main_arg1)) (m ((c.tc : Thread nD τ).loc main_arg3)) := by
  show StableHlo.after _ _ (Proc.devRef .tc main_v58) = _
  simp only [hostOps0, hostOps0_1, hostOps0_2, List.flatten_cons, List.flatten_nil, List.append_nil, List.cons_append, List.nil_append,
    TRef.nullary, TRef.ternary, TRef.unary, TRef.toBuf, TRef.ofBuf, cast_eq]
  after_results_simp <;> rfl

set_option maxHeartbeats 40000000 in
/-- The values. -/
theorem V_main_v61 : V m c main_v61 = Pre.val_main_v61 (F := F) (m ((c.tc : Thread nD τ).loc main_arg2)) := by
  show StableHlo.after _ _ (Proc.devRef .tc main_v61) = _
  simp only [hostOps0, hostOps0_1, hostOps0_2, List.flatten_cons, List.flatten_nil, List.append_nil, List.cons_append, List.nil_append,
    TRef.nullary, TRef.ternary, TRef.unary, TRef.toBuf, TRef.ofBuf, cast_eq]
  after_results_simp <;> rfl

set_option maxHeartbeats 40000000 in
/-- The outputs. -/
theorem V_main_v63 : V m c main_v63 = Pre.val_main_v63 (F := F) (m ((c.tc : Thread nD τ).loc main_arg0)) (m ((c.tc : Thread nD τ).loc main_arg1)) (m ((c.tc : Thread nD τ).loc main_arg2)) (m ((c.tc : Thread nD τ).loc main_arg3)) := by
  show StableHlo.after _ _ (Proc.devRef .tc main_v63) = _
  simp only [hostOps0, hostOps0_1, hostOps0_2, List.flatten_cons, List.flatten_nil, List.append_nil, List.cons_append, List.nil_append,
    TRef.nullary, TRef.ternary, TRef.unary, TRef.toBuf, TRef.ofBuf, cast_eq]
  after_results_simp <;> rfl

set_option maxHeartbeats 40000000 in
/-- The outputs' gradients. -/
theorem V_main_v66 : V m c main_v66 = Pre.val_main_v66 (F := F) (m ((c.tc : Thread nD τ).loc main_arg4)) := by
  show StableHlo.after _ _ (Proc.devRef .tc main_v66) = _
  simp only [hostOps0, hostOps0_1, hostOps0_2, List.flatten_cons, List.flatten_nil, List.append_nil, List.cons_append, List.nil_append,
    TRef.nullary, TRef.ternary, TRef.unary, TRef.toBuf, TRef.ofBuf, cast_eq]
  after_results_simp <;> rfl

set_option maxHeartbeats 40000000 in
/-- The log-sum-exps. -/
theorem V_main_v67 : V m c main_v67 = Pre.val_main_v67 (F := F) (m ((c.tc : Thread nD τ).loc main_arg0)) (m ((c.tc : Thread nD τ).loc main_arg1)) (m ((c.tc : Thread nD τ).loc main_arg3)) := by
  show StableHlo.after _ _ (Proc.devRef .tc main_v67) = _
  simp only [hostOps0, hostOps0_1, hostOps0_2, List.flatten_cons, List.flatten_nil, List.append_nil, List.cons_append, List.nil_append,
    TRef.nullary, TRef.ternary, TRef.unary, TRef.toBuf, TRef.ofBuf, cast_eq]
  after_results_simp <;> rfl

end Cert.KernelIdeal.Attn

end
-- ==== Proof.Post.lean ====
/- The host operations after the kernel, one at a time: what each writes as a function of the three gradients, and what
   that is at an index. -/
module

public import proofs.«01_k».proof.Proof.Gen.KernelIdeal.Frame
public import Idealize.ShloMosaic.Lib.Pipeline.Value
public import Idealize.ShloMosaic.Lib.ValueIdx
public import Idealize.ShloMosaic.PureOps.Ideal.Laws

@[expose] public section

noncomputable section

namespace Cert.KernelIdeal.Post

open Cert.KernelIdeal Cert.KernelIdeal.Gen Idealize.ShloMosaic Idealize.ShloMosaic.TcCoe Idealize.SL.Sem Idealize.ShloMosaic.StableHlo

variable {F : FTy → Type} [FloatOps F]

-- %0 = stablehlo.slice %arg0 [0:8, 0:17, 0:64, 0:128]
def val_main_v0 (x0 : (⟨S8x17x128x128, .f32⟩ : BufTy).Contents (Elt F)) : (⟨S8x17x64x128, .f32⟩ : BufTy).Contents (Elt F) :=
  extractStridedSlice S8x17x64x128 ![0, 0, 0, 0] (x0) slices_S8x17x128x128_S8x17x64x128_0_0_0_0
abbrev idx_main_v0 (i : S8x17x64x128.Idx) : S8x17x128x128.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 64 := (i 2).isLt; show (i 2).val < 128; omega⟩
  | ⟨3, _⟩ => ⟨(i 3).val, (i 3).isLt⟩
theorem val_main_v0_apply (x0 : (⟨S8x17x128x128, .f32⟩ : BufTy).Contents (Elt F)) (i : S8x17x64x128.Idx) :
    val_main_v0 (F := F) x0 i = x0 (idx_main_v0 i) := by
  unfold val_main_v0
  exact extractStridedSlice_apply ![0, 0, 0, 0] x0 slices_S8x17x128x128_S8x17x64x128_0_0_0_0 i (idx_main_v0 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

-- %1 = stablehlo.transpose %0, dims = [1, 3, 0, 2]
def val_main_v1 (x0 : (⟨S8x17x128x128, .f32⟩ : BufTy).Contents (Elt F)) : (⟨S17x128x8x64, .f32⟩ : BufTy).Contents (Elt F) :=
  transpose S17x128x8x64 [1, 3, 0, 2] (val_main_v0 (F := F) x0) transposes_S8x17x64x128_S17x128x8x64_1_3_0_2
abbrev idx_main_v1 (i : S17x128x8x64.Idx) : S8x17x64x128.Idx := fun a => match a with
  | ⟨0, _⟩ => ⟨(i 2).val, (i 2).isLt⟩
  | ⟨1, _⟩ => ⟨(i 0).val, (i 0).isLt⟩
  | ⟨2, _⟩ => ⟨(i 3).val, (i 3).isLt⟩
  | ⟨3, _⟩ => ⟨(i 1).val, (i 1).isLt⟩
theorem val_main_v1_apply (x0 : (⟨S8x17x128x128, .f32⟩ : BufTy).Contents (Elt F)) (i : S17x128x8x64.Idx) :
    val_main_v1 (F := F) x0 i = val_main_v0 (F := F) x0 (idx_main_v1 i) := by
  unfold val_main_v1
  generalize val_main_v0 (F := F) x0 = y
  exact transpose_apply [1, 3, 0, 2] y transposes_S8x17x64x128_S17x128x8x64_1_3_0_2 i (idx_main_v1 i) (fun b => match b with
    | ⟨0, _⟩ => rfl
    | ⟨1, _⟩ => rfl
    | ⟨2, _⟩ => rfl
    | ⟨3, _⟩ => rfl)

-- %2 = stablehlo.reshape %1
def val_main_v2 (x0 : (⟨S8x17x128x128, .f32⟩ : BufTy).Contents (Elt F)) : (⟨S2176x8x64, .f32⟩ : BufTy).Contents (Elt F) :=
  shapeCast _ (val_main_v1 (F := F) x0) shapeCasts_S17x128x8x64_S2176x8x64
abbrev idx_main_v2 (i : S2176x8x64.Idx) : S17x128x8x64.Idx := fun a => match a with
  | ⟨0, _⟩ => ⟨(((i 0).val * 8 + (i 1).val) * 64 + (i 2).val) / 65536, by have h0 : (i 0).val < 2176 := (i 0).isLt; have h1 : (i 1).val < 8 := (i 1).isLt; have h2 : (i 2).val < 64 := (i 2).isLt; show (((i 0).val * 8 + (i 1).val) * 64 + (i 2).val) / 65536 < 17; omega⟩
  | ⟨1, _⟩ => ⟨(((i 0).val * 8 + (i 1).val) * 64 + (i 2).val) / 512 % 128, by have h0 : (i 0).val < 2176 := (i 0).isLt; have h1 : (i 1).val < 8 := (i 1).isLt; have h2 : (i 2).val < 64 := (i 2).isLt; show (((i 0).val * 8 + (i 1).val) * 64 + (i 2).val) / 512 % 128 < 128; omega⟩
  | ⟨2, _⟩ => ⟨(((i 0).val * 8 + (i 1).val) * 64 + (i 2).val) / 64 % 8, by have h0 : (i 0).val < 2176 := (i 0).isLt; have h1 : (i 1).val < 8 := (i 1).isLt; have h2 : (i 2).val < 64 := (i 2).isLt; show (((i 0).val * 8 + (i 1).val) * 64 + (i 2).val) / 64 % 8 < 8; omega⟩
  | ⟨3, _⟩ => ⟨(((i 0).val * 8 + (i 1).val) * 64 + (i 2).val) % 64, by have h0 : (i 0).val < 2176 := (i 0).isLt; have h1 : (i 1).val < 8 := (i 1).isLt; have h2 : (i 2).val < 64 := (i 2).isLt; show (((i 0).val * 8 + (i 1).val) * 64 + (i 2).val) % 64 < 64; omega⟩
theorem val_main_v2_apply (x0 : (⟨S8x17x128x128, .f32⟩ : BufTy).Contents (Elt F)) (i : S2176x8x64.Idx) :
    val_main_v2 (F := F) x0 i = val_main_v1 (F := F) x0 (idx_main_v2 i) := by
  unfold val_main_v2
  generalize val_main_v1 (F := F) x0 = y
  exact shapeCast_apply y shapeCasts_S17x128x8x64_S2176x8x64 i (idx_main_v2 i)
    (by rewrite [Shape.rowMajor_val_four, Shape.rowMajor_val_three]; have h0 : (i 0).val < 2176 := (i 0).isLt; have h1 : (i 1).val < 8 := (i 1).isLt; have h2 : (i 2).val < 64 := (i 2).isLt; show (((((i 0).val * 8 + (i 1).val) * 64 + (i 2).val) / 65536 * 128 + (((i 0).val * 8 + (i 1).val) * 64 + (i 2).val) / 512 % 128) * 8 + (((i 0).val * 8 + (i 1).val) * 64 + (i 2).val) / 64 % 8) * 64 + (((i 0).val * 8 + (i 1).val) * 64 + (i 2).val) % 64 = ((i 0).val * 8 + (i 1).val) * 64 + (i 2).val; omega)

-- %cst = stablehlo.constant dense<1.250000e-01>
def val_main_cst : (⟨S_, .f32⟩ : BufTy).Contents (Elt F) :=
  constant S_ .f32 0x3E000000#32
theorem val_main_cst_apply (i : S_.Idx) :
    val_main_cst (F := F) i = FloatOps.ofBits .f32 0x3E000000#32 := rfl

-- %3 = stablehlo.broadcast_in_dim %cst, dims = []
def val_main_v3 : (⟨S2176x8x64, .f32⟩ : BufTy).Contents (Elt F) :=
  broadcastInDim S2176x8x64 ![] bcast_S_S2176x8x64 (val_main_cst (F := F))
abbrev idx_main_v3 (i : S2176x8x64.Idx) : S_.Idx := fun a => a.elim0
theorem val_main_v3_apply (i : S2176x8x64.Idx) :
    val_main_v3 (F := F) i = val_main_cst (F := F) (idx_main_v3 i) := by
  unfold val_main_v3
  generalize val_main_cst (F := F) = y
  exact broadcastInDim_apply _ bcast_S_S2176x8x64 y i (idx_main_v3 i) (fun a => a.elim0)

-- %4 = stablehlo.multiply %2, %3
def val_main_v4 (x0 : (⟨S8x17x128x128, .f32⟩ : BufTy).Contents (Elt F)) : (⟨S2176x8x64, .f32⟩ : BufTy).Contents (Elt F) :=
  mulf (val_main_v2 (F := F) x0) (val_main_v3 (F := F))
theorem val_main_v4_apply (x0 : (⟨S8x17x128x128, .f32⟩ : BufTy).Contents (Elt F)) (i : S2176x8x64.Idx) :
    val_main_v4 (F := F) x0 i = FloatOps.mulf (val_main_v2 (F := F) x0 i) (val_main_v3 (F := F) i) := rfl

-- %5 = stablehlo.slice %arg1 [0:8, 0:17, 0:64, 0:128]
def val_main_v5 (x1 : (⟨S8x17x128x128, .f32⟩ : BufTy).Contents (Elt F)) : (⟨S8x17x64x128, .f32⟩ : BufTy).Contents (Elt F) :=
  extractStridedSlice S8x17x64x128 ![0, 0, 0, 0] (x1) slices_S8x17x128x128_S8x17x64x128_0_0_0_0
abbrev idx_main_v5 (i : S8x17x64x128.Idx) : S8x17x128x128.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 64 := (i 2).isLt; show (i 2).val < 128; omega⟩
  | ⟨3, _⟩ => ⟨(i 3).val, (i 3).isLt⟩
theorem val_main_v5_apply (x1 : (⟨S8x17x128x128, .f32⟩ : BufTy).Contents (Elt F)) (i : S8x17x64x128.Idx) :
    val_main_v5 (F := F) x1 i = x1 (idx_main_v5 i) := by
  unfold val_main_v5
  exact extractStridedSlice_apply ![0, 0, 0, 0] x1 slices_S8x17x128x128_S8x17x64x128_0_0_0_0 i (idx_main_v5 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

-- %6 = stablehlo.transpose %5, dims = [1, 3, 0, 2]
def val_main_v6 (x1 : (⟨S8x17x128x128, .f32⟩ : BufTy).Contents (Elt F)) : (⟨S17x128x8x64, .f32⟩ : BufTy).Contents (Elt F) :=
  transpose S17x128x8x64 [1, 3, 0, 2] (val_main_v5 (F := F) x1) transposes_S8x17x64x128_S17x128x8x64_1_3_0_2
abbrev idx_main_v6 (i : S17x128x8x64.Idx) : S8x17x64x128.Idx := fun a => match a with
  | ⟨0, _⟩ => ⟨(i 2).val, (i 2).isLt⟩
  | ⟨1, _⟩ => ⟨(i 0).val, (i 0).isLt⟩
  | ⟨2, _⟩ => ⟨(i 3).val, (i 3).isLt⟩
  | ⟨3, _⟩ => ⟨(i 1).val, (i 1).isLt⟩
theorem val_main_v6_apply (x1 : (⟨S8x17x128x128, .f32⟩ : BufTy).Contents (Elt F)) (i : S17x128x8x64.Idx) :
    val_main_v6 (F := F) x1 i = val_main_v5 (F := F) x1 (idx_main_v6 i) := by
  unfold val_main_v6
  generalize val_main_v5 (F := F) x1 = y
  exact transpose_apply [1, 3, 0, 2] y transposes_S8x17x64x128_S17x128x8x64_1_3_0_2 i (idx_main_v6 i) (fun b => match b with
    | ⟨0, _⟩ => rfl
    | ⟨1, _⟩ => rfl
    | ⟨2, _⟩ => rfl
    | ⟨3, _⟩ => rfl)

-- %7 = stablehlo.reshape %6
def val_main_v7 (x1 : (⟨S8x17x128x128, .f32⟩ : BufTy).Contents (Elt F)) : (⟨S2176x8x64, .f32⟩ : BufTy).Contents (Elt F) :=
  shapeCast _ (val_main_v6 (F := F) x1) shapeCasts_S17x128x8x64_S2176x8x64
abbrev idx_main_v7 (i : S2176x8x64.Idx) : S17x128x8x64.Idx := fun a => match a with
  | ⟨0, _⟩ => ⟨(((i 0).val * 8 + (i 1).val) * 64 + (i 2).val) / 65536, by have h0 : (i 0).val < 2176 := (i 0).isLt; have h1 : (i 1).val < 8 := (i 1).isLt; have h2 : (i 2).val < 64 := (i 2).isLt; show (((i 0).val * 8 + (i 1).val) * 64 + (i 2).val) / 65536 < 17; omega⟩
  | ⟨1, _⟩ => ⟨(((i 0).val * 8 + (i 1).val) * 64 + (i 2).val) / 512 % 128, by have h0 : (i 0).val < 2176 := (i 0).isLt; have h1 : (i 1).val < 8 := (i 1).isLt; have h2 : (i 2).val < 64 := (i 2).isLt; show (((i 0).val * 8 + (i 1).val) * 64 + (i 2).val) / 512 % 128 < 128; omega⟩
  | ⟨2, _⟩ => ⟨(((i 0).val * 8 + (i 1).val) * 64 + (i 2).val) / 64 % 8, by have h0 : (i 0).val < 2176 := (i 0).isLt; have h1 : (i 1).val < 8 := (i 1).isLt; have h2 : (i 2).val < 64 := (i 2).isLt; show (((i 0).val * 8 + (i 1).val) * 64 + (i 2).val) / 64 % 8 < 8; omega⟩
  | ⟨3, _⟩ => ⟨(((i 0).val * 8 + (i 1).val) * 64 + (i 2).val) % 64, by have h0 : (i 0).val < 2176 := (i 0).isLt; have h1 : (i 1).val < 8 := (i 1).isLt; have h2 : (i 2).val < 64 := (i 2).isLt; show (((i 0).val * 8 + (i 1).val) * 64 + (i 2).val) % 64 < 64; omega⟩
theorem val_main_v7_apply (x1 : (⟨S8x17x128x128, .f32⟩ : BufTy).Contents (Elt F)) (i : S2176x8x64.Idx) :
    val_main_v7 (F := F) x1 i = val_main_v6 (F := F) x1 (idx_main_v7 i) := by
  unfold val_main_v7
  generalize val_main_v6 (F := F) x1 = y
  exact shapeCast_apply y shapeCasts_S17x128x8x64_S2176x8x64 i (idx_main_v7 i)
    (by rewrite [Shape.rowMajor_val_four, Shape.rowMajor_val_three]; have h0 : (i 0).val < 2176 := (i 0).isLt; have h1 : (i 1).val < 8 := (i 1).isLt; have h2 : (i 2).val < 64 := (i 2).isLt; show (((((i 0).val * 8 + (i 1).val) * 64 + (i 2).val) / 65536 * 128 + (((i 0).val * 8 + (i 1).val) * 64 + (i 2).val) / 512 % 128) * 8 + (((i 0).val * 8 + (i 1).val) * 64 + (i 2).val) / 64 % 8) * 64 + (((i 0).val * 8 + (i 1).val) * 64 + (i 2).val) % 64 = ((i 0).val * 8 + (i 1).val) * 64 + (i 2).val; omega)

-- %8 = stablehlo.transpose %arg2, dims = [1, 3, 0, 2]
def val_main_v8 (x2 : (⟨S8x17x64x128, .f32⟩ : BufTy).Contents (Elt F)) : (⟨S17x128x8x64, .f32⟩ : BufTy).Contents (Elt F) :=
  transpose S17x128x8x64 [1, 3, 0, 2] (x2) transposes_S8x17x64x128_S17x128x8x64_1_3_0_2
abbrev idx_main_v8 (i : S17x128x8x64.Idx) : S8x17x64x128.Idx := fun a => match a with
  | ⟨0, _⟩ => ⟨(i 2).val, (i 2).isLt⟩
  | ⟨1, _⟩ => ⟨(i 0).val, (i 0).isLt⟩
  | ⟨2, _⟩ => ⟨(i 3).val, (i 3).isLt⟩
  | ⟨3, _⟩ => ⟨(i 1).val, (i 1).isLt⟩
theorem val_main_v8_apply (x2 : (⟨S8x17x64x128, .f32⟩ : BufTy).Contents (Elt F)) (i : S17x128x8x64.Idx) :
    val_main_v8 (F := F) x2 i = x2 (idx_main_v8 i) := by
  unfold val_main_v8
  exact transpose_apply [1, 3, 0, 2] x2 transposes_S8x17x64x128_S17x128x8x64_1_3_0_2 i (idx_main_v8 i) (fun b => match b with
    | ⟨0, _⟩ => rfl
    | ⟨1, _⟩ => rfl
    | ⟨2, _⟩ => rfl
    | ⟨3, _⟩ => rfl)

-- %9 = stablehlo.reshape %8
def val_main_v9 (x2 : (⟨S8x17x64x128, .f32⟩ : BufTy).Contents (Elt F)) : (⟨S2176x8x64, .f32⟩ : BufTy).Contents (Elt F) :=
  shapeCast _ (val_main_v8 (F := F) x2) shapeCasts_S17x128x8x64_S2176x8x64
abbrev idx_main_v9 (i : S2176x8x64.Idx) : S17x128x8x64.Idx := fun a => match a with
  | ⟨0, _⟩ => ⟨(((i 0).val * 8 + (i 1).val) * 64 + (i 2).val) / 65536, by have h0 : (i 0).val < 2176 := (i 0).isLt; have h1 : (i 1).val < 8 := (i 1).isLt; have h2 : (i 2).val < 64 := (i 2).isLt; show (((i 0).val * 8 + (i 1).val) * 64 + (i 2).val) / 65536 < 17; omega⟩
  | ⟨1, _⟩ => ⟨(((i 0).val * 8 + (i 1).val) * 64 + (i 2).val) / 512 % 128, by have h0 : (i 0).val < 2176 := (i 0).isLt; have h1 : (i 1).val < 8 := (i 1).isLt; have h2 : (i 2).val < 64 := (i 2).isLt; show (((i 0).val * 8 + (i 1).val) * 64 + (i 2).val) / 512 % 128 < 128; omega⟩
  | ⟨2, _⟩ => ⟨(((i 0).val * 8 + (i 1).val) * 64 + (i 2).val) / 64 % 8, by have h0 : (i 0).val < 2176 := (i 0).isLt; have h1 : (i 1).val < 8 := (i 1).isLt; have h2 : (i 2).val < 64 := (i 2).isLt; show (((i 0).val * 8 + (i 1).val) * 64 + (i 2).val) / 64 % 8 < 8; omega⟩
  | ⟨3, _⟩ => ⟨(((i 0).val * 8 + (i 1).val) * 64 + (i 2).val) % 64, by have h0 : (i 0).val < 2176 := (i 0).isLt; have h1 : (i 1).val < 8 := (i 1).isLt; have h2 : (i 2).val < 64 := (i 2).isLt; show (((i 0).val * 8 + (i 1).val) * 64 + (i 2).val) % 64 < 64; omega⟩
theorem val_main_v9_apply (x2 : (⟨S8x17x64x128, .f32⟩ : BufTy).Contents (Elt F)) (i : S2176x8x64.Idx) :
    val_main_v9 (F := F) x2 i = val_main_v8 (F := F) x2 (idx_main_v9 i) := by
  unfold val_main_v9
  generalize val_main_v8 (F := F) x2 = y
  exact shapeCast_apply y shapeCasts_S17x128x8x64_S2176x8x64 i (idx_main_v9 i)
    (by rewrite [Shape.rowMajor_val_four, Shape.rowMajor_val_three]; have h0 : (i 0).val < 2176 := (i 0).isLt; have h1 : (i 1).val < 8 := (i 1).isLt; have h2 : (i 2).val < 64 := (i 2).isLt; show (((((i 0).val * 8 + (i 1).val) * 64 + (i 2).val) / 65536 * 128 + (((i 0).val * 8 + (i 1).val) * 64 + (i 2).val) / 512 % 128) * 8 + (((i 0).val * 8 + (i 1).val) * 64 + (i 2).val) / 64 % 8) * 64 + (((i 0).val * 8 + (i 1).val) * 64 + (i 2).val) % 64 = ((i 0).val * 8 + (i 1).val) * 64 + (i 2).val; omega)

-- %10 = stablehlo.slice %arg0 [0:8, 0:17, 64:65, 0:128]
def val_main_v10 (x0 : (⟨S8x17x128x128, .f32⟩ : BufTy).Contents (Elt F)) : (⟨S8x17x1x128, .f32⟩ : BufTy).Contents (Elt F) :=
  extractStridedSlice S8x17x1x128 ![0, 0, 64, 0] (x0) slices_S8x17x128x128_S8x17x1x128_0_0_64_0
abbrev idx_main_v10 (i : S8x17x1x128.Idx) : S8x17x128x128.Idx := fun a => match a with
  | ⟨0, _⟩ => ⟨(i 0).val, (i 0).isLt⟩
  | ⟨1, _⟩ => ⟨(i 1).val, (i 1).isLt⟩
  | ⟨2, _⟩ => ⟨64 + (i 2).val, by have h2 : (i 2).val < 1 := (i 2).isLt; show 64 + (i 2).val < 128; omega⟩
  | ⟨3, _⟩ => ⟨(i 3).val, (i 3).isLt⟩
theorem val_main_v10_apply (x0 : (⟨S8x17x128x128, .f32⟩ : BufTy).Contents (Elt F)) (i : S8x17x1x128.Idx) :
    val_main_v10 (F := F) x0 i = x0 (idx_main_v10 i) := by
  unfold val_main_v10
  exact extractStridedSlice_apply ![0, 0, 64, 0] x0 slices_S8x17x128x128_S8x17x1x128_0_0_64_0 i (idx_main_v10 i) (fun a => match a with
    | ⟨0, _⟩ => by show (i 0).val = 0 + (i 0).val; omega
    | ⟨1, _⟩ => by show (i 1).val = 0 + (i 1).val; omega
    | ⟨2, _⟩ => by show 64 + (i 2).val = 64 + (i 2).val; omega
    | ⟨3, _⟩ => by show (i 3).val = 0 + (i 3).val; omega)

-- %11 = stablehlo.slice %arg1 [0:8, 0:17, 67:68, 0:128]
def val_main_v11 (x1 : (⟨S8x17x128x128, .f32⟩ : BufTy).Contents (Elt F)) : (⟨S8x17x1x128, .f32⟩ : BufTy).Contents (Elt F) :=
  extractStridedSlice S8x17x1x128 ![0, 0, 67, 0] (x1) slices_S8x17x128x128_S8x17x1x128_0_0_67_0
abbrev idx_main_v11 (i : S8x17x1x128.Idx) : S8x17x128x128.Idx := fun a => match a with
  | ⟨0, _⟩ => ⟨(i 0).val, (i 0).isLt⟩
  | ⟨1, _⟩ => ⟨(i 1).val, (i 1).isLt⟩
  | ⟨2, _⟩ => ⟨67 + (i 2).val, by have h2 : (i 2).val < 1 := (i 2).isLt; show 67 + (i 2).val < 128; omega⟩
  | ⟨3, _⟩ => ⟨(i 3).val, (i 3).isLt⟩
theorem val_main_v11_apply (x1 : (⟨S8x17x128x128, .f32⟩ : BufTy).Contents (Elt F)) (i : S8x17x1x128.Idx) :
    val_main_v11 (F := F) x1 i = x1 (idx_main_v11 i) := by
  unfold val_main_v11
  exact extractStridedSlice_apply ![0, 0, 67, 0] x1 slices_S8x17x128x128_S8x17x1x128_0_0_67_0 i (idx_main_v11 i) (fun a => match a with
    | ⟨0, _⟩ => by show (i 0).val = 0 + (i 0).val; omega
    | ⟨1, _⟩ => by show (i 1).val = 0 + (i 1).val; omega
    | ⟨2, _⟩ => by show 67 + (i 2).val = 67 + (i 2).val; omega
    | ⟨3, _⟩ => by show (i 3).val = 0 + (i 3).val; omega)

-- %12 = stablehlo.subtract %10, %11
def val_main_v12 (x0 x1 : (⟨S8x17x128x128, .f32⟩ : BufTy).Contents (Elt F)) : (⟨S8x17x1x128, .f32⟩ : BufTy).Contents (Elt F) :=
  subf (val_main_v10 (F := F) x0) (val_main_v11 (F := F) x1)
theorem val_main_v12_apply (x0 x1 : (⟨S8x17x128x128, .f32⟩ : BufTy).Contents (Elt F)) (i : S8x17x1x128.Idx) :
    val_main_v12 (F := F) x0 x1 i = FloatOps.subf (val_main_v10 (F := F) x0 i) (val_main_v11 (F := F) x1 i) := rfl

-- %13 = stablehlo.transpose %12, dims = [1, 3, 0, 2]
def val_main_v13 (x0 x1 : (⟨S8x17x128x128, .f32⟩ : BufTy).Contents (Elt F)) : (⟨S17x128x8x1, .f32⟩ : BufTy).Contents (Elt F) :=
  transpose S17x128x8x1 [1, 3, 0, 2] (val_main_v12 (F := F) x0 x1) transposes_S8x17x1x128_S17x128x8x1_1_3_0_2
abbrev idx_main_v13 (i : S17x128x8x1.Idx) : S8x17x1x128.Idx := fun a => match a with
  | ⟨0, _⟩ => ⟨(i 2).val, (i 2).isLt⟩
  | ⟨1, _⟩ => ⟨(i 0).val, (i 0).isLt⟩
  | ⟨2, _⟩ => ⟨(i 3).val, (i 3).isLt⟩
  | ⟨3, _⟩ => ⟨(i 1).val, (i 1).isLt⟩
theorem val_main_v13_apply (x0 x1 : (⟨S8x17x128x128, .f32⟩ : BufTy).Contents (Elt F)) (i : S17x128x8x1.Idx) :
    val_main_v13 (F := F) x0 x1 i = val_main_v12 (F := F) x0 x1 (idx_main_v13 i) := by
  unfold val_main_v13
  generalize val_main_v12 (F := F) x0 x1 = y
  exact transpose_apply [1, 3, 0, 2] y transposes_S8x17x1x128_S17x128x8x1_1_3_0_2 i (idx_main_v13 i) (fun b => match b with
    | ⟨0, _⟩ => rfl
    | ⟨1, _⟩ => rfl
    | ⟨2, _⟩ => rfl
    | ⟨3, _⟩ => rfl)

-- %14 = stablehlo.reshape %13
def val_main_v14 (x0 x1 : (⟨S8x17x128x128, .f32⟩ : BufTy).Contents (Elt F)) : (⟨S2176x8x1, .f32⟩ : BufTy).Contents (Elt F) :=
  shapeCast _ (val_main_v13 (F := F) x0 x1) shapeCasts_S17x128x8x1_S2176x8x1
abbrev idx_main_v14 (i : S2176x8x1.Idx) : S17x128x8x1.Idx := fun a => match a with
  | ⟨0, _⟩ => ⟨(((i 0).val * 8 + (i 1).val) * 1 + (i 2).val) / 1024, by have h0 : (i 0).val < 2176 := (i 0).isLt; have h1 : (i 1).val < 8 := (i 1).isLt; have h2 : (i 2).val < 1 := (i 2).isLt; show (((i 0).val * 8 + (i 1).val) * 1 + (i 2).val) / 1024 < 17; omega⟩
  | ⟨1, _⟩ => ⟨(((i 0).val * 8 + (i 1).val) * 1 + (i 2).val) / 8 % 128, by have h0 : (i 0).val < 2176 := (i 0).isLt; have h1 : (i 1).val < 8 := (i 1).isLt; have h2 : (i 2).val < 1 := (i 2).isLt; show (((i 0).val * 8 + (i 1).val) * 1 + (i 2).val) / 8 % 128 < 128; omega⟩
  | ⟨2, _⟩ => ⟨(((i 0).val * 8 + (i 1).val) * 1 + (i 2).val) / 1 % 8, by have h0 : (i 0).val < 2176 := (i 0).isLt; have h1 : (i 1).val < 8 := (i 1).isLt; have h2 : (i 2).val < 1 := (i 2).isLt; show (((i 0).val * 8 + (i 1).val) * 1 + (i 2).val) / 1 % 8 < 8; omega⟩
  | ⟨3, _⟩ => ⟨0, Nat.one_pos⟩
theorem val_main_v14_apply (x0 x1 : (⟨S8x17x128x128, .f32⟩ : BufTy).Contents (Elt F)) (i : S2176x8x1.Idx) :
    val_main_v14 (F := F) x0 x1 i = val_main_v13 (F := F) x0 x1 (idx_main_v14 i) := by
  unfold val_main_v14
  generalize val_main_v13 (F := F) x0 x1 = y
  exact shapeCast_apply y shapeCasts_S17x128x8x1_S2176x8x1 i (idx_main_v14 i)
    (by rewrite [Shape.rowMajor_val_four, Shape.rowMajor_val_three]; have h0 : (i 0).val < 2176 := (i 0).isLt; have h1 : (i 1).val < 8 := (i 1).isLt; have h2 : (i 2).val < 1 := (i 2).isLt; show (((((i 0).val * 8 + (i 1).val) * 1 + (i 2).val) / 1024 * 128 + (((i 0).val * 8 + (i 1).val) * 1 + (i 2).val) / 8 % 128) * 8 + (((i 0).val * 8 + (i 1).val) * 1 + (i 2).val) / 1 % 8) * 1 + 0 = ((i 0).val * 8 + (i 1).val) * 1 + (i 2).val; omega)

-- %15 = stablehlo.reshape %14
def val_main_v15 (x0 x1 : (⟨S8x17x128x128, .f32⟩ : BufTy).Contents (Elt F)) : (⟨S2176x8, .f32⟩ : BufTy).Contents (Elt F) :=
  shapeCast _ (val_main_v14 (F := F) x0 x1) shapeCasts_S2176x8x1_S2176x8
abbrev idx_main_v15 (i : S2176x8.Idx) : S2176x8x1.Idx := fun a => match a with
  | ⟨0, _⟩ => ⟨((i 0).val * 8 + (i 1).val) / 8, by have h0 : (i 0).val < 2176 := (i 0).isLt; have h1 : (i 1).val < 8 := (i 1).isLt; show ((i 0).val * 8 + (i 1).val) / 8 < 2176; omega⟩
  | ⟨1, _⟩ => ⟨((i 0).val * 8 + (i 1).val) / 1 % 8, by have h0 : (i 0).val < 2176 := (i 0).isLt; have h1 : (i 1).val < 8 := (i 1).isLt; show ((i 0).val * 8 + (i 1).val) / 1 % 8 < 8; omega⟩
  | ⟨2, _⟩ => ⟨0, Nat.one_pos⟩
theorem val_main_v15_apply (x0 x1 : (⟨S8x17x128x128, .f32⟩ : BufTy).Contents (Elt F)) (i : S2176x8.Idx) :
    val_main_v15 (F := F) x0 x1 i = val_main_v14 (F := F) x0 x1 (idx_main_v15 i) := by
  unfold val_main_v15
  generalize val_main_v14 (F := F) x0 x1 = y
  exact shapeCast_apply y shapeCasts_S2176x8x1_S2176x8 i (idx_main_v15 i)
    (by rewrite [Shape.rowMajor_val_three, Shape.rowMajor_val_two]; have h0 : (i 0).val < 2176 := (i 0).isLt; have h1 : (i 1).val < 8 := (i 1).isLt; show (((i 0).val * 8 + (i 1).val) / 8 * 8 + ((i 0).val * 8 + (i 1).val) / 1 % 8) * 1 + 0 = (i 0).val * 8 + (i 1).val; omega)

/-- The term the Run module states for `main_v4` is the stage. -/
theorem val_main_v4_eq (x0 : (⟨S8x17x128x128, .f32⟩ : BufTy).Contents (Elt F)) :
    mulf (shapeCast _ (transpose S17x128x8x64 [1, 3, 0, 2] (extractStridedSlice S8x17x64x128 ![0, 0, 0, 0] (x0) slices_S8x17x128x128_S8x17x64x128_0_0_0_0) transposes_S8x17x64x128_S17x128x8x64_1_3_0_2) shapeCasts_S17x128x8x64_S2176x8x64) (broadcastInDim S2176x8x64 ![] bcast_S_S2176x8x64 (constant S_ .f32 0x3E000000#32))
      = val_main_v4 (F := F) x0 := rfl

/-- The term the Run module states for `main_v9` is the stage. -/
theorem val_main_v9_eq (x2 : (⟨S8x17x64x128, .f32⟩ : BufTy).Contents (Elt F)) :
    shapeCast _ (transpose S17x128x8x64 [1, 3, 0, 2] (x2) transposes_S8x17x64x128_S17x128x8x64_1_3_0_2) shapeCasts_S17x128x8x64_S2176x8x64
      = val_main_v9 (F := F) x2 := rfl

end Cert.KernelIdeal.Post

end
-- ==== Proof.Result.lean ====
/- What the whole program leaves: the four results as the host lines after the kernel make them of its three arrays. -/
module

public import proofs.«01_k».proof.Proof.Run
public import proofs.«01_k».proof.Proof.PreV
public import proofs.«01_k».proof.Proof.Post
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.SL.Sem Idealize.ShloMosaic.StableHlo
open Idealize.ShloMosaic.Pipeline (Dat Cfg)

variable {F : FTy → Type} [FloatOps F] [Named F]
variable (m : (ℓ : Loc nD τ sig) → Buf (Elt F) ℓ) (ρ : Dev nD → PrngReg) (c : Dev nD)

/-- The kernel's operands: whole arrays, as the host lines leave them. -/
def insV : Ins F := insOf (V m c main_v49) (V m c main_v56) (V m c main_v58) (V m c main_v61) (V m c main_v63) (V m c main_v66) (V m c main_v67)

theorem iblk_0 : iblk m c 0 t0_0 = V m c main_v49 := by
  funext j; unfold iblk; exact congrArg (V m c main_v49) (by funext a; apply Fin.ext; fin_cases a <;> exact (by simp <;> rfl))

theorem iblk_1 : iblk m c 1 t0_0 = V m c main_v56 := by
  funext j; unfold iblk; exact congrArg (V m c main_v56) (by funext a; apply Fin.ext; fin_cases a <;> exact (by simp <;> rfl))

theorem iblk_2 : iblk m c 2 t0_0 = V m c main_v58 := by
  funext j; unfold iblk; exact congrArg (V m c main_v58) (by funext a; apply Fin.ext; fin_cases a <;> exact (by simp <;> rfl))

theorem iblk_3 : iblk m c 3 t0_0 = V m c main_v61 := by
  funext j; unfold iblk; exact congrArg (V m c main_v61) (by funext a; apply Fin.ext; fin_cases a <;> exact (by simp <;> rfl))

theorem iblk_4 : iblk m c 4 t0_0 = V m c main_v63 := by
  funext j; unfold iblk; exact congrArg (V m c main_v63) (by funext a; apply Fin.ext; fin_cases a <;> exact (by simp <;> rfl))

theorem iblk_5 : iblk m c 5 t0_0 = V m c main_v66 := by
  funext j; unfold iblk; exact congrArg (V m c main_v66) (by funext a; apply Fin.ext; fin_cases a <;> exact (by simp <;> rfl))

theorem iblk_6 : iblk m c 6 t0_0 = V m c main_v67 := by
  funext j; unfold iblk; exact congrArg (V m c main_v67) (by funext a; apply Fin.ext; fin_cases a <;> exact (by simp <;> rfl))

theorem insAt_eq : insAt m c t0_0 = insV m c := by
  unfold insAt insV
  rw [iblk_0, iblk_1, iblk_2, iblk_3, iblk_4, iblk_5, iblk_6]

theorem arr_7 : (dats m 0 c).arrAt 7 cfg0.N = dqAll (insAt m c t0_0) 17 := by
  refine (dats m 0 c).arrAt_eq_of_after_last 7 t0_0 (by decide +kernel) _ fun j => ?_
  rw [after0_7]; rfl

theorem arr_8 : (dats m 0 c).arrAt 8 cfg0.N = dkAll (insAt m c t0_0) := by
  refine (dats m 0 c).arrAt_eq_of_after_last 8 t0_0 (by decide +kernel) _ fun j => ?_
  rw [after0_8]; rfl

theorem arr_9 : (dats m 0 c).arrAt 9 cfg0.N = dvAll (insAt m c t0_0) := by
  refine (dats m 0 c).arrAt_eq_of_after_last 9 t0_0 (by decide +kernel) _ fun j => ?_
  rw [after0_9]; rfl

theorem arrRef_inj : Function.Injective (Pipeline.arrRef spec0) := by decide

/-- The buffers after the kernel, before the host lines that follow it. -/
abbrev W0 : Valuation τ sig (Elt F) :=
  Pipeline.withArrays spec0 c (V0 m c) fun w => (dats m 0 c).arrAt w cfg0.N

theorem W0_7 : W0 m c (Proc.devRef .tc main_v68_0) = dqAll (insV m c) 17 :=
  (Pipeline.withArrays_arr spec0 arrRef_inj c (V0 m c) _ 7).trans ((arr_7 m c).trans (by rw [insAt_eq]))
theorem W0_8 : W0 m c (Proc.devRef .tc main_v68_1) = dkAll (insV m c) :=
  (Pipeline.withArrays_arr spec0 arrRef_inj c (V0 m c) _ 8).trans ((arr_8 m c).trans (by rw [insAt_eq]))
theorem W0_9 : W0 m c (Proc.devRef .tc main_v68_2) = dvAll (insV m c) :=
  (Pipeline.withArrays_arr spec0 arrRef_inj c (V0 m c) _ 9).trans ((arr_9 m c).trans (by rw [insAt_eq]))

set_option maxHeartbeats 4000000 in
theorem tail_73 : Pipeline.afterTail₀ cfgs (dats m) 0 (V0 m) [hostOps1] c main_v73 = Post.val_main_v4 (F := F) (dqAll (insV m c) 17) := by
  have e : Pipeline.afterTail₀ cfgs (dats m) 0 (V0 m) [hostOps1] c main_v73
      = StableHlo.after hostOps1 (W0 m c) (Proc.devRef .tc main_v73) := by
    unfold Pipeline.afterTail₀
    simp only [List.flatten_cons, List.flatten_nil, List.append_nil]
  rw [e, ← W0_7 m c]
  generalize W0 m c = W
  simp only [hostOps1]
  after_results_simp
  rfl

set_option maxHeartbeats 4000000 in
theorem tail_76 : Pipeline.afterTail₀ cfgs (dats m) 0 (V0 m) [hostOps1] c main_v76 = Post.val_main_v7 (F := F) (dkAll (insV m c)) := by
  have e : Pipeline.afterTail₀ cfgs (dats m) 0 (V0 m) [hostOps1] c main_v76
      = StableHlo.after hostOps1 (W0 m c) (Proc.devRef .tc main_v76) := by
    unfold Pipeline.afterTail₀
    simp only [List.flatten_cons, List.flatten_nil, List.append_nil]
  rw [e, ← W0_8 m c]
  generalize W0 m c = W
  simp only [hostOps1]
  after_results_simp
  rfl

set_option maxHeartbeats 4000000 in
theorem tail_78 : Pipeline.afterTail₀ cfgs (dats m) 0 (V0 m) [hostOps1] c main_v78 = Post.val_main_v9 (F := F) (dvAll (insV m c)) := by
  have e : Pipeline.afterTail₀ cfgs (dats m) 0 (V0 m) [hostOps1] c main_v78
      = StableHlo.after hostOps1 (W0 m c) (Proc.devRef .tc main_v78) := by
    unfold Pipeline.afterTail₀
    simp only [List.flatten_cons, List.flatten_nil, List.append_nil]
  rw [e, ← W0_9 m c]
  generalize W0 m c = W
  simp only [hostOps1]
  after_results_simp
  rfl

set_option maxHeartbeats 4000000 in
theorem tail_84 : Pipeline.afterTail₀ cfgs (dats m) 0 (V0 m) [hostOps1] c main_v84 = Post.val_main_v15 (F := F) (dqAll (insV m c) 17) (dkAll (insV m c)) := by
  have e : Pipeline.afterTail₀ cfgs (dats m) 0 (V0 m) [hostOps1] c main_v84
      = StableHlo.after hostOps1 (W0 m c) (Proc.devRef .tc main_v84) := by
    unfold Pipeline.afterTail₀
    simp only [List.flatten_cons, List.flatten_nil, List.append_nil]
  rw [e, ← W0_7 m c, ← W0_8 m c]
  generalize W0 m c = W
  simp only [hostOps1]
  after_results_simp
  rfl

/-- The program's results and its unchanged arguments. -/
theorem run_results : θ_run defs (onTc (τ := τ) (main (F := F))) ⟨m, fun _ => 0, ρ⟩ (fun r => ∀ c : Dev nD,
      r.2.mem ((c.tc : Thread nD τ).loc main_v73) = Post.val_main_v4 (F := F) (dqAll (insV m c) 17)
      ∧ r.2.mem ((c.tc : Thread nD τ).loc main_v76) = Post.val_main_v7 (F := F) (dkAll (insV m c))
      ∧ r.2.mem ((c.tc : Thread nD τ).loc main_v78) = Post.val_main_v9 (F := F) (dvAll (insV m c))
      ∧ r.2.mem ((c.tc : Thread nD τ).loc main_v84) = Post.val_main_v15 (F := F) (dqAll (insV m c) 17) (dkAll (insV m c))) :=
  (θ_run defs _ _).mono (fun _ h c =>
    ⟨((h.1 c).2 main_v73 (Pipeline.mem_restRefs_of main_v73 (by decide) (by decide))).trans (tail_73 m c),
     ((h.1 c).2 main_v76 (Pipeline.mem_restRefs_of main_v76 (by decide) (by decide))).trans (tail_76 m c),
     ((h.1 c).2 main_v78 (Pipeline.mem_restRefs_of main_v78 (by decide) (by decide))).trans (tail_78 m c),
     ((h.1 c).2 main_v84 (Pipeline.mem_restRefs_of main_v84 (by decide) (by decide))).trans (tail_84 m c)⟩) (run_main m ρ)

end Cert.KernelIdeal.Attn

end
-- ==== Proof.KerReal.lean ====
/- The kernel's results at the extended reals: on arguments that are real numbers they are the attention's gradients. -/
module

public import proofs.«01_k».proof.Proof.Host2
public import proofs.«01_k».proof.Proof.Result

@[expose] public section

set_option maxRecDepth 16384

noncomputable section

namespace Cert.KernelIdeal.Attn

open Cert.KernelIdeal Cert.KernelIdeal.Gen
open Idealize.ShloMosaic Idealize.ShloMosaic.TcCoe Idealize.SL.Sem
open Cert.Spec
open Cert.KernelIdeal.Pre (qf kf lse qf_lt qf_one kf_lt kf_one)
open scoped BigOperators

/-- The kernel's operands on the given arguments. -/
def opsOf (A : Args) : RIns where
  q h i a b := qf A h (rix i b) a
  kt h i a b := kf A h (rix i b) a
  ka h i a b := kf A h (rix i a) b
  v h i a b := A.v (rix i b) h a
  d h i a b := A.g (rix i b) h a
  l h i b := lse A h (rix i b)
  dl h i b := dlt A h (rix i b)

theorem opsOf_w (A : Args) (h : Fin 8) (j i : Fin 17) (a b : Fin 128) :
    (opsOf A).w h j i a b = wt A h (rix i b) (rix j a) := by
  refine Eq.trans ?_ (wt_lse A h (rix i b) (rix j a) (rowMax A h (rix i b)))
  have e : ∑ k : Fin 128, (opsOf A).ka h j a k * (opsOf A).q h i k b = logit A h (rix i b) (rix j a) :=
    Pre.kf_qf A h (rix i b) (rix j a)
  unfold RIns.w
  rw [e]
  rfl

theorem opsOf_s (A : Args) (h : Fin 8) (j i : Fin 17) (a b : Fin 128) :
    (opsOf A).s h j i a b = ds A h (rix i b) (rix j a) := by
  have e : ∑ k : Fin 64, (opsOf A).v h j k a * (opsOf A).d h i k b = gv A h (rix i b) (rix j a) :=
    Finset.sum_congr rfl fun k _ => mul_comm _ _
  unfold RIns.s
  rw [e, opsOf_w]
  rfl

/-- The column sums of a product of two tiles. -/
theorem T2_deltaT {d : FVec Ideal S64x128 .bf16} {w : FVec Ideal S64x128 .f32} {f g} (hd : T2 d f) (hw : T2 w g) :
    T2 (deltaT d w) (fun _ b => ∑ k : Fin 64, f k b * g k b) := by
  intro a b
  have ha : a.val < 1 := a.isLt
  unfold deltaT
  refine (shapeCast_apply _ shapeCasts_S128_S1x128 (ix2 a b) (ix1 b) ?_).trans ?_
  · rewrite [Shape.rowMajor_val_two, Shape.rowMajor_val_one]
    show b.val = a.val * 128 + b.val
    omega
  refine (Ideal.multiReduction_add_single _ _ reduces_S64x128_S128 (.inl rfl) rfl (ix1 b)).trans ?_
  refine Eq.trans ?_ (coe_sum _ _).symm
  refine Finset.sum_congr rfl fun k _ => ?_
  have e : (reduces_S64x128_S128.lift (ix1 b) k : S64x128.Idx) = ix2 k b := by
    funext x
    match x with
    | ⟨0, _⟩ => rfl
    | ⟨1, _⟩ => rfl
  rw [e]
  exact (congrArg₂ (· * ·) (hd k b) (hw k b)).trans (EReal.coe_mul _ _).symm

variable {m : (ℓ : Loc nD τ sig) → Buf (Elt Ideal) ℓ} {c : Dev nD} {A : Args}

/-- Operands with the given entries are the kernel's operands on the given arguments. -/
theorem holds_of {x1 x2 : FVec Ideal S8x17x128x128 .bf16} {x3 : FVec Ideal S8x2176x128 .bf16} {x4 x6 : FVec Ideal S8x17x64x128 .bf16}
    {x5 : FVec Ideal S8x17x64x128 .f32} {x7 : FVec Ideal S8x17x1x128 .f32}
    (h1 : ∀ i, x1 i = ((qf A (i 0) (rix (i 1) (i 3)) (i 2) : ℝ) : EReal))
    (h2 : ∀ i, x2 i = ((kf A (i 0) (rix (i 1) (i 3)) (i 2) : ℝ) : EReal))
    (h3 : ∀ i, x3 i = ((kf A (i 0) (i 1) (i 2) : ℝ) : EReal))
    (h4 : ∀ i, x4 i = ((A.v (rix (i 1) (i 3)) (i 0) (i 2) : ℝ) : EReal))
    (h5 : ∀ i, x5 i = ((out A (i 0) (rix (i 1) (i 3)) (i 2) : ℝ) : EReal))
    (h6 : ∀ i, x6 i = ((A.g (rix (i 1) (i 3)) (i 0) (i 2) : ℝ) : EReal))
    (h7 : ∀ i, x7 i = ((lse A (i 0) (rix (i 1) (i 3)) : ℝ) : EReal)) :
    (insOf x1 x2 x3 x4 x5 x6 x7).Holds (opsOf A) where
  q h i a b := h1 (ix4 h i a b)
  kt h i a b := h2 (ix4 h i a b)
  ka h i a b := h3 (ix3 h (rix i a) b)
  v h i a b := h4 (ix4 h i a b)
  d h i a b := h6 (ix4 h i a b)
  l h i a b := h7 (ix4 h i a b)
  dl h i a b := T2_deltaT (d := blk x6 h i) (w := blk x5 h i) (f := fun k b => A.g (rix i b) h k)
    (g := fun k b => out A h (rix i b) k) (fun a b => h6 (ix4 h i a b)) (fun a b => h5 (ix4 h i a b)) a b

/-- The kernel's operands, made from arguments that are real numbers. -/
theorem holds (H : A.Is (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))) :
    (insV m c).Holds (opsOf A) := by
  unfold insV
  rw [V_main_v49, V_main_v56, V_main_v58, V_main_v61, V_main_v63, V_main_v66, V_main_v67]
  exact holds_of (Pre.r_v49 H) (Pre.r_v56 H) (Pre.r_v58 H) (Pre.r_v61 H) (Pre.r_v63 H) (Pre.r_v66 H) (Pre.r_v67 H)

/-- The array of query gradients: with each key's column its logit's gradient. -/
theorem dqT_real (X : Ins Ideal) (HX : X.Holds (opsOf A)) (y : S8x17x128x128.Idx) : dqAll X 17 y
    = ((∑ s : Fin 2176, kf A (y 0) s (y 2) * ds A (y 0) (rix (y 1) (y 3)) s : ℝ) : EReal) := by
  have e := (congrArg (dqAll X 17) (eq_ix4 y)).trans (dqFin_real HX (y 0) (y 1) (y 2) (y 3))
  refine e.trans (congrArg _ ?_)
  rw [sum_rix]
  exact Finset.sum_congr rfl fun j _ => Finset.sum_congr rfl fun b _ => congrArg (_ * ·) (opsOf_s A _ _ _ _ _)

theorem dkT_real (X : Ins Ideal) (HX : X.Holds (opsOf A)) (y : S8x17x128x128.Idx) : dkAll X y
    = ((∑ r : Fin 2176, qf A (y 0) r (y 2) * ds A (y 0) r (rix (y 1) (y 3)) : ℝ) : EReal) := by
  have e := (congrArg (dkAll X) (eq_ix4 y)).trans (dkAll_real HX (y 0) (y 1) (y 2) (y 3))
  refine e.trans (congrArg _ ?_)
  rw [sum_rix]
  exact Finset.sum_congr rfl fun j _ => Finset.sum_congr rfl fun b _ => congrArg (_ * ·) (opsOf_s A _ _ _ _ _)

theorem dvT_real (X : Ins Ideal) (HX : X.Holds (opsOf A)) (y : S8x17x64x128.Idx) : dvAll X y
    = ((∑ r : Fin 2176, A.g r (y 0) (y 2) * wt A (y 0) r (rix (y 1) (y 3)) : ℝ) : EReal) := by
  have e := (congrArg (dvAll X) (eq_ix4 y)).trans (dvAll_real HX (y 0) (y 1) (y 2) (y 3))
  refine e.trans (congrArg _ ?_)
  rw [sum_rix]
  exact Finset.sum_congr rfl fun j _ => Finset.sum_congr rfl fun b _ => congrArg (_ * ·) (opsOf_w A _ _ _ _ _)

/-- An array by columns read back by position, head and entry. -/
theorem uncols {x : S8x17x64x128.Idx → EReal} {f : Fin 8 → Fin 2176 → Fin 64 → ℝ}
    (H : ∀ y, x y = ((f (y 0) (rix (y 1) (y 3)) (y 2) : ℝ) : EReal)) (i : S2176x8x64.Idx) :
    x (Post.idx_main_v1 (Post.idx_main_v2 i)) = ((f (i 1) (i 0) (i 2) : ℝ) : EReal) := by
  have h0 : (i 0).val < 2176 := (i 0).isLt
  have h1 : (i 1).val < 8 := (i 1).isLt
  have h2 : (i 2).val < 64 := (i 2).isLt
  refine (H _).trans (congrArg _ ?_)
  have e0 : (Post.idx_main_v1 (Post.idx_main_v2 i) 0 : Fin 8) = i 1 := Fin.ext (by
    show (((i 0).val * 8 + (i 1).val) * 64 + (i 2).val) / 64 % 8 = (i 1).val
    omega)
  have e1 : rix (Post.idx_main_v1 (Post.idx_main_v2 i) 1) (Post.idx_main_v1 (Post.idx_main_v2 i) 3) = i 0 := Fin.ext (by
    show 128 * ((((i 0).val * 8 + (i 1).val) * 64 + (i 2).val) / 65536)
      + (((i 0).val * 8 + (i 1).val) * 64 + (i 2).val) / 512 % 128 = (i 0).val
    omega)
  have e2 : (Post.idx_main_v1 (Post.idx_main_v2 i) 2 : Fin 64) = i 2 := Fin.ext (by
    show (((i 0).val * 8 + (i 1).val) * 64 + (i 2).val) % 64 = (i 2).val
    omega)
  exact (congrArg (fun z => f z _ _) e0).trans ((congrArg (fun z => f _ z _) e1).trans (congrArg (fun z => f _ _ z) e2))

theorem res_dq (X : Ins Ideal) (HX : X.Holds (opsOf A)) (i : S2176x8x64.Idx) : Post.val_main_v4 (F := Ideal) (dqAll X 17) i
    = ((dq A (i 1) (i 0) (i 2) : ℝ) : EReal) := by
  have e0 : ∀ y : S8x17x64x128.Idx, Post.val_main_v0 (F := Ideal) (dqAll X 17) y
      = ((∑ s : Fin 2176, A.k s (y 0) (y 2) * ds A (y 0) (rix (y 1) (y 3)) s : ℝ) : EReal) := by
    intro y
    rw [Post.val_main_v0_apply]
    refine (dqT_real X HX _).trans (congrArg _ (Finset.sum_congr rfl fun s _ => congrArg (· * _) ?_))
    exact (kf_lt A (y 0) s (Post.idx_main_v0 y 2) (y 2).isLt).symm
  rw [Post.val_main_v4_apply, Post.val_main_v3_apply, Post.val_main_cst_apply, Post.val_main_v2_apply, Post.val_main_v1_apply,
    uncols (f := fun h r d => ∑ s : Fin 2176, A.k s h d * ds A h r s) e0 i]
  exact (congrArg (_ * ·) lit_eighth).trans (EReal.coe_mul _ _).symm

theorem res_dk (X : Ins Ideal) (HX : X.Holds (opsOf A)) (i : S2176x8x64.Idx) : Post.val_main_v7 (F := Ideal) (dkAll X) i
    = ((dk A (i 1) (i 0) (i 2) : ℝ) : EReal) := by
  have e0 : ∀ y : S8x17x64x128.Idx, Post.val_main_v5 (F := Ideal) (dkAll X) y
      = ((dk A (y 0) (rix (y 1) (y 3)) (y 2) : ℝ) : EReal) := by
    intro y
    rw [Post.val_main_v5_apply]
    refine (dkT_real X HX _).trans (congrArg _ (Finset.sum_congr rfl fun s _ => congrArg (· * _) ?_))
    exact (qf_lt A (y 0) s (Post.idx_main_v5 y 2) (y 2).isLt).symm
  rw [Post.val_main_v7_apply, Post.val_main_v6_apply]
  exact uncols (f := fun h s d => dk A h s d) e0 i

theorem res_dv (X : Ins Ideal) (HX : X.Holds (opsOf A)) (i : S2176x8x64.Idx) : Post.val_main_v9 (F := Ideal) (dvAll X) i
    = ((dv A (i 1) (i 0) (i 2) : ℝ) : EReal) := by
  rw [Post.val_main_v9_apply, Post.val_main_v8_apply]
  exact uncols (f := fun h s d => dv A h s d) (dvT_real X HX) i

theorem res_dc (X : Ins Ideal) (HX : X.Holds (opsOf A)) (i : S2176x8.Idx) :
    Post.val_main_v15 (F := Ideal) (dqAll X 17) (dkAll X) i = ((dc A (i 1) (i 0) : ℝ) : EReal) := by
  have h0 : (i 0).val < 2176 := (i 0).isLt
  have h1 : (i 1).val < 8 := (i 1).isLt
  have e0 : ∀ y : S8x17x1x128.Idx, Post.val_main_v12 (F := Ideal) (dqAll X 17) (dkAll X) y
      = ((dc A (y 0) (rix (y 1) (y 3)) : ℝ) : EReal) := by
    intro y
    have h2 : (y 2).val < 1 := (y 2).isLt
    have ea : Post.val_main_v10 (F := Ideal) (dqAll X 17) y = ((∑ s : Fin 2176, ds A (y 0) (rix (y 1) (y 3)) s : ℝ) : EReal) := by
      rw [Post.val_main_v10_apply]
      refine (dqT_real X HX _).trans (congrArg _ (Finset.sum_congr rfl fun s _ => ?_))
      refine (congrArg (· * _) (kf_one A (y 0) s (Post.idx_main_v10 y 2) ?_ ?_).symm).trans (one_mul _)
      · show 64 ≤ 64 + (y 2).val; omega
      · show 64 + (y 2).val < 67; omega
    have eb : Post.val_main_v11 (F := Ideal) (dkAll X) y = ((∑ t : Fin 2176, ds A (y 0) t (rix (y 1) (y 3)) : ℝ) : EReal) := by
      rw [Post.val_main_v11_apply]
      refine (dkT_real X HX _).trans (congrArg _ (Finset.sum_congr rfl fun s _ => ?_))
      refine (congrArg (· * _) (qf_one A (y 0) s (Post.idx_main_v11 y 2) ?_ ?_).symm).trans (one_mul _)
      · show 67 ≤ 67 + (y 2).val; omega
      · show 67 + (y 2).val < 70; omega
    rw [Post.val_main_v12_apply, ea, eb]
    exact (EReal.coe_sub _ _).symm
  rw [Post.val_main_v15_apply, Post.val_main_v14_apply, Post.val_main_v13_apply]
  refine (e0 _).trans (congrArg _ ?_)
  have f0 : (Post.idx_main_v13 (Post.idx_main_v14 (Post.idx_main_v15 i)) 0 : Fin 8) = i 1 := Fin.ext (by
    show (((((i 0).val * 8 + (i 1).val) / 8) * 8 + ((i 0).val * 8 + (i 1).val) / 1 % 8) * 1 + 0) / 1 % 8 = (i 1).val
    omega)
  have f1 : rix (Post.idx_main_v13 (Post.idx_main_v14 (Post.idx_main_v15 i)) 1)
      (Post.idx_main_v13 (Post.idx_main_v14 (Post.idx_main_v15 i)) 3) = i 0 := Fin.ext (by
    show 128 * ((((((i 0).val * 8 + (i 1).val) / 8) * 8 + ((i 0).val * 8 + (i 1).val) / 1 % 8) * 1 + 0) / 1024)
      + (((((i 0).val * 8 + (i 1).val) / 8) * 8 + ((i 0).val * 8 + (i 1).val) / 1 % 8) * 1 + 0) / 8 % 128 = (i 0).val
    omega)
  exact (congrArg (fun z => dc A z _) f0).trans (congrArg (fun z => dc A _ z) f1)

end Cert.KernelIdeal.Attn

end
-- ==== Proof.RefReal.lean ====
/- The reference at the extended reals: on arguments that are real numbers its results are the attention's gradients. -/
module

public import proofs.«01_k».proof.Proof.Gen.ReferenceIdeal.Read
public import proofs.«01_k».proof.Proof.Basic

@[expose] public section

noncomputable section

namespace Cert.ReferenceIdeal.Read

open Cert.ReferenceIdeal Cert.ReferenceIdeal.Gen Idealize.ShloMosaic Idealize.ShloMosaic.TcCoe
open Cert.Spec
open scoped BigOperators

variable {A : Args} {x0 x1 x2 : (⟨S2176x8x64, .f32⟩ : BufTy).Contents (Elt Ideal)}
  {x3 : (⟨S2176x8, .f32⟩ : BufTy).Contents (Elt Ideal)} {x4 : (⟨S2176x8x64, .f32⟩ : BufTy).Contents (Elt Ideal)}

theorem r_v0 (H : A.Is x0 x1 x2 x3 x4) (i : S8x2176x2176.Idx) : val_main_v0 (F := Ideal) x0 x1 i
    = ((∑ d : Fin 64, A.q (i 1) (i 0) d * A.k (i 2) (i 0) d : ℝ) : EReal) := by
  rw [val_main_v0_apply, coe_sum]
  exact Finset.sum_congr rfl fun d _ => (congrArg₂ (· * ·) (H.q _) (H.k _)).trans (EReal.coe_mul _ _).symm

theorem r_v10 (H : A.Is x0 x1 x2 x3 x4) (i : S8x2176x2176.Idx) : val_main_v10 (F := Ideal) x0 x1 x3 i
    = ((logit A (i 0) (i 1) (i 2) : ℝ) : EReal) := by
  have e2 : val_main_v2 (F := Ideal) x0 x1 i
      = (((∑ d : Fin 64, A.q (i 1) (i 0) d * A.k (i 2) (i 0) d) * (1 / 8) : ℝ) : EReal) := by
    rw [val_main_v2_apply, val_main_v1_apply, val_main_cst_apply, r_v0 H]
    exact (congrArg (_ * ·) lit_eighth).trans (EReal.coe_mul _ _).symm
  have e5 : val_main_v5 (F := Ideal) x3 i = ((A.c (i 1) (i 0) : ℝ) : EReal) := by
    rw [val_main_v5_apply, val_main_v4_apply, val_main_v3_apply]; exact H.c _
  have e9 : val_main_v9 (F := Ideal) x3 i = ((A.c (i 2) (i 0) : ℝ) : EReal) := by
    rw [val_main_v9_apply, val_main_v8_apply, val_main_v7_apply]; exact H.c _
  rw [val_main_v10_apply, val_main_v6_apply, e2, e5, e9]
  exact (congrArg (· - _) (EReal.coe_add _ _).symm).trans (EReal.coe_sub _ _).symm

theorem r_mask (i : S8x2176x2176.Idx) : val_main_v17_1 (F := Ideal) i
    = BitVec.ofBool (decide ((i 2).val ≤ (i 1).val)) := by
  rw [val_main_v17_1_apply, val_main_v16_apply, val_main_v14_apply, val_main_v15_apply, val_main_v12_apply,
    val_main_v13_apply, val_main_v11_apply, val_main_v11_apply]
  exact word_mask (i 2) (i 1)

theorem r_v17 (H : A.Is x0 x1 x2 x3 x4) (i : S8x2176x2176.Idx) : val_main_v17_0 (F := Ideal) x0 x1 x3 i
    = masked A (i 0) (i 1) (i 2) := by
  have e2 : val_main_call0_v2 (F := Ideal) i = (⊥ : EReal) := by
    rw [val_main_call0_v2_apply]; exact lit_bot
  rw [val_main_v17_0_apply, r_mask, e2, r_v10 H]
  exact select_mask _ _ _

theorem r_v18 (H : A.Is x0 x1 x2 x3 x4) (i : S8x2176.Idx) : val_main_v18 (F := Ideal) x0 x1 x3 i
    = ((rowMax A (i 0) (i 1) : ℝ) : EReal) := by
  refine Eq.trans ?_ (fold_max A (i 0) (i 1))
  have e : ∀ y : S8x2176x2176.Idx → EReal, Host.reduce (FloatOps.maximumf (F := Ideal) (φ := .f32)) y (val_main_cst_1 (F := Ideal))
      reducesTo_S8x2176x2176_S8x2176_d2 h_S_ i = Finset.univ.fold max (⊥ : EReal) (fun k => y (idx_main_v39 i k)) := by
    intro y
    have := Host.reduce_eq_fold_single (α := Ideal .f32) (max : EReal → EReal → EReal) y (val_main_cst_1 (F := Ideal))
      reducesTo_S8x2176x2176_S8x2176_d2 (by decide) h_S_ i
    refine this.trans ?_
    rw [show (val_main_cst_1 (F := Ideal)) (Shape.Idx.first h_S_) = (⊥ : EReal) from lit_bot]
    refine congrArg (Finset.univ.fold max (⊥ : EReal)) (funext fun k => ?_)
    exact congrArg y (funext fun a => Fin.ext (by match a with | ⟨0, _⟩ => rfl | ⟨1, _⟩ => rfl | ⟨2, _⟩ => rfl))
  rw [val_main_v18, e]
  exact congrArg (Finset.univ.fold max (⊥ : EReal)) (funext fun k => r_v17 H _)

theorem r_v38 (H : A.Is x0 x1 x2 x3 x4) (i : S8x2176x2176.Idx) : val_main_v38 (F := Ideal) x0 x1 x3 i
    = ((ex A (i 0) (i 1) (i 2) (rowMax A (i 0) (i 1)) : ℝ) : EReal) := by
  have e24 : ∀ y : S8x2176.Idx, val_main_v24 (F := Ideal) y = (⊥ : EReal) := fun y => by
    rw [val_main_v24_apply]; exact lit_bot
  have e25 : ∀ y : S8x2176.Idx, val_main_v25 (F := Ideal) x0 x1 x3 y = ((rowMax A (y 0) (y 1) : ℝ) : EReal) := fun y => by
    rw [val_main_v25_apply, e24, r_v18 H]
    exact max_eq_right bot_le
  have e : val_main_v36 (F := Ideal) x0 x1 x3 i = ((rowMax A (i 0) (i 1) : ℝ) : EReal) := by
    rw [val_main_v36_apply, val_main_v35_apply]; exact e25 _
  rw [val_main_v38_apply, val_main_v37_apply, r_v17 H, e]
  exact exp_masked A (i 0) (i 1) (i 2) _

/-- A query's sum of exponentials. -/
def L (A : Args) (h : Fin 8) (r : Fin 2176) : ℝ := tot A h r (rowMax A h r)

theorem L_pos (A : Args) (h : Fin 8) (r : Fin 2176) : 0 < L A h r := tot_pos _ _ _ _

theorem r_v40 (H : A.Is x0 x1 x2 x3 x4) (i : S8x2176x1.Idx) : val_main_v40 (F := Ideal) x0 x1 x3 i
    = ((L A (i 0) (i 1) : ℝ) : EReal) := by
  have e0 : (val_main_cst_9 (F := Ideal)) (Shape.Idx.first h_S_) = (0 : EReal) := Ideal.ofBits_zero_f32
  rw [val_main_v40_apply, val_main_v39_apply, e0]
  exact ((zero_add _).trans (Finset.sum_congr rfl fun k _ => r_v38 H _)).trans (coe_sum _ _).symm

theorem r_v42 (H : A.Is x0 x1 x2 x3 x4) (i : S8x2176x2176.Idx) : val_main_v42 (F := Ideal) x0 x1 x3 i
    = ((wt A (i 0) (i 1) (i 2) : ℝ) : EReal) := by
  rw [val_main_v42_apply, val_main_v41_apply, r_v40 H, r_v38 H]
  exact (quo_pos _ (L_pos A (i 0) (i 1))).trans (congrArg _ (wt_shift A (i 0) (i 1) (i 2) _))

theorem r_v45 (H : A.Is x0 x1 x2 x3 x4) (i : S8x2176x1.Idx) : val_main_v45 (F := Ideal) x0 x1 x3 i
    = ((1 / (L A (i 0) (i 1) * L A (i 0) (i 1)) : ℝ) : EReal) := by
  have e1 : val_main_v44 (F := Ideal) i = ((1 : ℝ) : EReal) := by
    rw [val_main_v44_apply]; exact lit_one
  have e2 : val_main_v43 (F := Ideal) x0 x1 x3 i = ((L A (i 0) (i 1) * L A (i 0) (i 1) : ℝ) : EReal) := by
    rw [val_main_v43_apply, r_v40 H]; exact (EReal.coe_mul _ _).symm
  rw [val_main_v45_apply, e1, e2]
  exact quo_pos _ (mul_pos (L_pos A (i 0) (i 1)) (L_pos A (i 0) (i 1)))

theorem r_v48 (H : A.Is x0 x1 x2 x3 x4) (i : S8x64x2176.Idx) : val_main_v48 (F := Ideal) x4 i
    = ((A.g (i 2) (i 0) (i 1) : ℝ) : EReal) := by
  rw [val_main_v48_apply]; exact H.g _

theorem r_v49 (H : A.Is x0 x1 x2 x3 x4) (i : S8x2176x2176.Idx) : val_main_v49 (F := Ideal) x2 x4 i
    = ((gv A (i 0) (i 1) (i 2) : ℝ) : EReal) := by
  rw [val_main_v49_apply]
  exact (Finset.sum_congr rfl fun d _ => (congrArg₂ (· * ·) (r_v48 H _) (H.v _)).trans (EReal.coe_mul _ _).symm).trans
    (coe_sum _ _).symm

/-- The values' gradient. -/
theorem res_dv (H : A.Is x0 x1 x2 x3 x4) (i : S2176x8x64.Idx) : val_main_v51 (F := Ideal) x0 x1 x3 x4 i
    = ((dv A (i 1) (i 0) (i 2) : ℝ) : EReal) := by
  rw [val_main_v51_apply, val_main_v50_apply]
  exact (Finset.sum_congr rfl fun d _ => (congrArg₂ (· * ·) (r_v48 H _) (r_v42 H _)).trans (EReal.coe_mul _ _).symm).trans
    (coe_sum _ _).symm

theorem r_v54 (H : A.Is x0 x1 x2 x3 x4) (i : S8x2176x2176.Idx) : val_main_v54 (F := Ideal) x0 x1 x2 x3 x4 i
    = ((gv A (i 0) (i 1) (i 2) * (1 / (L A (i 0) (i 1) * L A (i 0) (i 1)))
      * ex A (i 0) (i 1) (i 2) (rowMax A (i 0) (i 1)) : ℝ) : EReal) := by
  rw [val_main_v54_apply, val_main_v53_apply, val_main_v52_apply, r_v45 H, r_v49 H, r_v38 H]
  exact (congrArg (· * _) (EReal.coe_mul _ _).symm).trans (EReal.coe_mul _ _).symm

/-- The quotient rule's second term. -/
def neg2 (A : Args) (h : Fin 8) (r : Fin 2176) : ℝ :=
  -(∑ t : Fin 2176, gv A h r t * (1 / (L A h r * L A h r)) * ex A h r t (rowMax A h r))

theorem r_v57 (H : A.Is x0 x1 x2 x3 x4) (i : S8x2176x1.Idx) : val_main_v57 (F := Ideal) x0 x1 x2 x3 x4 i
    = ((neg2 A (i 0) (i 1) : ℝ) : EReal) := by
  have e0 : (val_main_cst_11 (F := Ideal)) (Shape.Idx.first h_S_) = (0 : EReal) := Ideal.ofBits_zero_f32
  have h1 : (i 1).val < 2176 := (i 1).isLt
  have h2 : (i 2).val < 1 := (i 2).isLt
  have e55 : ∀ y : S8x2176.Idx, val_main_v55 (F := Ideal) x0 x1 x2 x3 x4 y
      = ((∑ t : Fin 2176, gv A (y 0) (y 1) t * (1 / (L A (y 0) (y 1) * L A (y 0) (y 1)))
        * ex A (y 0) (y 1) t (rowMax A (y 0) (y 1)) : ℝ) : EReal) := fun y => by
    rw [val_main_v55_apply, e0]
    exact ((zero_add _).trans (Finset.sum_congr rfl fun k _ => r_v54 H _)).trans (coe_sum _ _).symm
  have f0 : (idx_main_v56 i 0 : Fin 8) = i 0 := Fin.ext (by
    show (((i 0).val * 2176 + (i 1).val) * 1 + (i 2).val) / 2176 = (i 0).val
    omega)
  have f1 : (idx_main_v56 i 1 : Fin 2176) = i 1 := Fin.ext (by
    show (((i 0).val * 2176 + (i 1).val) * 1 + (i 2).val) % 2176 = (i 1).val
    omega)
  rw [val_main_v57_apply, val_main_v56_apply, e55]
  refine (EReal.coe_neg _).symm.trans (congrArg _ ?_)
  exact (congrArg (fun z => neg2 A z _) f0).trans (congrArg (fun z => neg2 A _ z) f1)

/-- The logit's gradient. -/
theorem r_v64 (H : A.Is x0 x1 x2 x3 x4) (i : S8x2176x2176.Idx) : val_main_v64 (F := Ideal) x0 x1 x2 x3 x4 i
    = ((ds A (i 0) (i 1) (i 2) : ℝ) : EReal) := by
  have e0 : (val_main_cst_12 (F := Ideal)) (Shape.Idx.first h_S_) = (0 : EReal) := Ideal.ofBits_zero_f32
  have e61 : val_main_v61 (F := Ideal) x0 x1 x2 x3 x4 i = ((neg2 A (i 0) (i 1) : ℝ) : EReal) := by
    rw [val_main_v61_apply, val_main_v60_apply, e0, Fin.sum_univ_one]
    exact (zero_add _).trans (r_v57 H _)
  have e59 : val_main_v59 (F := Ideal) x0 x1 x2 x3 x4 i = ((gv A (i 0) (i 1) (i 2) / L A (i 0) (i 1) : ℝ) : EReal) := by
    rw [val_main_v59_apply, val_main_v58_apply, r_v40 H, r_v49 H]
    exact quo_pos _ (L_pos A (i 0) (i 1))
  have e63 : val_main_v63 (F := Ideal) x0 x1 x2 x3 x4 i = ((ds A (i 0) (i 1) (i 2) : ℝ) : EReal) := by
    rw [val_main_v63_apply, val_main_v62_apply, e59, e61, r_v38 H]
    refine ((congrArg (· * _) (EReal.coe_add _ _).symm).trans (EReal.coe_mul _ _).symm).trans (congrArg _ ?_)
    exact ds_eq A (i 0) (i 1) (i 2) (rowMax A (i 0) (i 1))
  have e1 : val_main_call1_v0 (F := Ideal) i = ((0 : ℝ) : EReal) := by
    rw [val_main_call1_v0_apply]; exact lit_zero
  rw [val_main_v64_apply, r_mask, e63, e1]
  refine (select_mask _ _ _).trans ?_
  by_cases hs : (i 2).val ≤ (i 1).val
  · exact if_pos hs
  · refine (if_neg hs).trans (congrArg _ ?_)
    have hw : wt A (i 0) (i 1) (i 2) = 0 := wt_zero A (i 0) (i 1) (i 2) hs
    have : ds A (i 0) (i 1) (i 2) = wt A (i 0) (i 1) (i 2) * (gv A (i 0) (i 1) (i 2) - dlt A (i 0) (i 1)) := rfl
    exact (this.trans ((congrArg (· * _) hw).trans (zero_mul _))).symm

theorem r_v76 (H : A.Is x0 x1 x2 x3 x4) (i : S8x2176x2176.Idx) : val_main_v76 (F := Ideal) x0 x1 x2 x3 x4 i
    = ((ds A (i 0) (i 1) (i 2) * (1 / 8) : ℝ) : EReal) := by
  have e : val_main_v75 (F := Ideal) i = ((1 / 8 : ℝ) : EReal) := by
    rw [val_main_v75_apply]; exact lit_eighth
  rw [val_main_v76_apply, r_v64 H, e]
  exact (EReal.coe_mul _ _).symm

/-- The queries' gradient. -/
theorem res_dq (H : A.Is x0 x1 x2 x3 x4) (i : S2176x8x64.Idx) : val_main_v80 (F := Ideal) x0 x1 x2 x3 x4 i
    = ((dq A (i 1) (i 0) (i 2) : ℝ) : EReal) := by
  rw [val_main_v80_apply, val_main_v79_apply]
  refine ((Finset.sum_congr rfl fun d _ => (congrArg₂ (· * ·) (r_v76 H _) (H.k _)).trans (EReal.coe_mul _ _).symm).trans
    (coe_sum _ _).symm).trans (congrArg _ ?_)
  unfold dq
  rw [Finset.sum_mul]
  refine Finset.sum_congr rfl fun s _ => ?_
  show ds A (i 1) (i 0) s * (1 / 8) * A.k s (i 1) (i 2) = A.k s (i 1) (i 2) * ds A (i 1) (i 0) s * (1 / 8)
  ring

/-- The keys' gradient. -/
theorem res_dk (H : A.Is x0 x1 x2 x3 x4) (i : S2176x8x64.Idx) : val_main_v78 (F := Ideal) x0 x1 x2 x3 x4 i
    = ((dk A (i 1) (i 0) (i 2) : ℝ) : EReal) := by
  rw [val_main_v78_apply, val_main_v77_apply]
  refine ((Finset.sum_congr rfl fun d _ => (congrArg₂ (· * ·) (r_v76 H _) (H.q _)).trans (EReal.coe_mul _ _).symm).trans
    (coe_sum _ _).symm).trans (congrArg _ ?_)
  unfold dk
  refine Finset.sum_congr rfl fun r _ => ?_
  show ds A (i 1) r (i 0) * (1 / 8) * A.q r (i 1) (i 2) = A.q r (i 1) (i 2) * (1 / 8) * ds A (i 1) r (i 0)
  ring

/-- The biases' gradient. -/
theorem res_dc (H : A.Is x0 x1 x2 x3 x4) (i : S2176x8.Idx) : val_main_v74 (F := Ideal) x0 x1 x2 x3 x4 i
    = ((dc A (i 1) (i 0) : ℝ) : EReal) := by
  have h0 : (i 0).val < 2176 := (i 0).isLt
  have h1 : (i 1).val < 8 := (i 1).isLt
  have z13 : (val_main_cst_13 (F := Ideal)) (Shape.Idx.first h_S_) = (0 : EReal) := Ideal.ofBits_zero_f32
  have z14 : (val_main_cst_14 (F := Ideal)) (Shape.Idx.first h_S_) = (0 : EReal) := Ideal.ofBits_zero_f32
  have z15 : (val_main_cst_15 (F := Ideal)) (Shape.Idx.first h_S_) = (0 : EReal) := Ideal.ofBits_zero_f32
  have z16 : (val_main_cst_16 (F := Ideal)) (Shape.Idx.first h_S_) = (0 : EReal) := Ideal.ofBits_zero_f32
  have e66 : ∀ y : S8x2176.Idx, val_main_v66 (F := Ideal) x0 x1 x2 x3 x4 y
      = ((∑ t : Fin 2176, -ds A (y 0) t (y 1) : ℝ) : EReal) := fun y => by
    rw [val_main_v66_apply, z13]
    refine ((zero_add _).trans (Finset.sum_congr rfl fun k _ => ?_)).trans (coe_sum _ _).symm
    rw [val_main_v65_apply, r_v64 H]
    exact (EReal.coe_neg _).symm
  have e70 : ∀ y : S8x2176.Idx, val_main_v70 (F := Ideal) x0 x1 x2 x3 x4 y
      = ((∑ s : Fin 2176, ds A (y 0) (y 1) s : ℝ) : EReal) := fun y => by
    rw [val_main_v70_apply, z15]
    exact ((zero_add _).trans (Finset.sum_congr rfl fun k _ => r_v64 H _)).trans (coe_sum _ _).symm
  have e69 : val_main_v69 (F := Ideal) x0 x1 x2 x3 x4 i = ((∑ t : Fin 2176, -ds A (i 1) t (i 0) : ℝ) : EReal) := by
    rw [val_main_v69_apply, val_main_v68_apply, z14, Fin.sum_univ_one, val_main_v67_apply, e66]
    refine (zero_add _).trans (congrArg _ ?_)
    have f0 : (idx_main_v67 (idx_main_v68 (idx_main_v69 i) 0) 0 : Fin 8) = i 1 := Fin.ext (by
      show (((i 1).val * 1 + 0) * 2176 + (i 0).val) / 2176 = (i 1).val
      omega)
    have f1 : (idx_main_v67 (idx_main_v68 (idx_main_v69 i) 0) 1 : Fin 2176) = i 0 := Fin.ext (by
      show (((i 1).val * 1 + 0) * 2176 + (i 0).val) % 2176 = (i 0).val
      omega)
    exact Finset.sum_congr rfl fun t _ => (congrArg (fun z => -ds A z t _) f0).trans (congrArg (fun z => -ds A _ t z) f1)
  have e73 : val_main_v73 (F := Ideal) x0 x1 x2 x3 x4 i = ((∑ s : Fin 2176, ds A (i 1) (i 0) s : ℝ) : EReal) := by
    rw [val_main_v73_apply, val_main_v72_apply, z16, Fin.sum_univ_one, val_main_v71_apply, e70]
    refine (zero_add _).trans (congrArg _ ?_)
    have f0 : (idx_main_v71 (idx_main_v72 (idx_main_v73 i) 0) 0 : Fin 8) = i 1 := Fin.ext (by
      show (((i 1).val * 2176 + (i 0).val) * 1 + 0) / 2176 = (i 1).val
      omega)
    have f1 : (idx_main_v71 (idx_main_v72 (idx_main_v73 i) 0) 1 : Fin 2176) = i 0 := Fin.ext (by
      show (((i 1).val * 2176 + (i 0).val) * 1 + 0) % 2176 = (i 0).val
      omega)
    exact Finset.sum_congr rfl fun t _ => (congrArg (fun z => ds A z _ t) f0).trans (congrArg (fun z => ds A _ z t) f1)
  rw [val_main_v74_apply, e69, e73]
  refine (EReal.coe_add _ _).symm.trans (congrArg _ ?_)
  unfold dc
  rw [Finset.sum_neg_distrib]
  exact (add_comm _ _).trans (sub_eq_add_neg _ _).symm

end Cert.ReferenceIdeal.Read

end
-- ==== Proof.Alg.lean ====
/- The value claim: on finite arguments the kernel and the reference leave the same four arrays, the attention's gradients. -/
module

public import proofs.«01_k».proof.Defs
public import proofs.«01_k».proof.Proof.KerReal
public import proofs.«01_k».proof.Proof.RefReal
public import proofs.«01_k».proof.Proof.Result
public import proofs.«01_k».proof.Proof.Gen.ReferenceIdeal.Run
public import Idealize.ShloMosaic.Lib.Claim

@[expose] public section

noncomputable section

namespace Cert.Proof

open Idealize.ShloMosaic Idealize.ShloMosaic.TcCoe Idealize.SL.Sem
open Cert.Spec

/-- The shape relations of the precondition's operations. -/
theorem pre_facts : Cert.Pre_finite.Facts := ⟨by decide, by decide⟩

/-- A value whose absolute value is below infinity is a real number. -/
theorem real_of_finite (x : Ideal .f32)
    (h : FloatOps.cmpf .olt (FloatOps.hostAbsf x) (FloatOps.ofBits (F := Ideal) .f32 0x7F800000#32) = 1#1) :
    (x : EReal) = ((EReal.toReal x : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1 := h
  rw [htop] at h'
  have hlt : max (x : EReal) (-(x : EReal)) < ⊤ := by
    by_contra hn
    unfold Ideal.cmp at h'
    simp [hn] at h'
  rw [max_lt_iff] at hlt
  refine (EReal.coe_toReal (ne_of_lt hlt.1) fun hb => ?_).symm
  exact absurd hlt.2 (by rw [hb]; simp)

section

variable (x0 x1 x2 : (⟨3, ![2176, 8, 64]⟩ : Shape).Idx → EReal) (x3 : (⟨2, ![2176, 8]⟩ : Shape).Idx → EReal)
  (x4 : (⟨3, ![2176, 8, 64]⟩ : Shape).Idx → EReal)

/-- The real numbers the arguments hold. -/
def argsOf : Args where
  q r h d := (x0 (ix3 r h d)).toReal
  k r h d := (x1 (ix3 r h d)).toReal
  v r h d := (x2 (ix3 r h d)).toReal
  c r h := (x3 (ix2 r h)).toReal
  g r h d := (x4 (ix3 r h d)).toReal

theorem argsOf_is (h0 : ∀ i, x0 i = ((x0 i).toReal : EReal)) (h1 : ∀ i, x1 i = ((x1 i).toReal : EReal))
    (h2 : ∀ i, x2 i = ((x2 i).toReal : EReal)) (h3 : ∀ i, x3 i = ((x3 i).toReal : EReal))
    (h4 : ∀ i, x4 i = ((x4 i).toReal : EReal)) : (argsOf x0 x1 x2 x3 x4).Is x0 x1 x2 x3 x4 where
  q i := (h0 i).trans (congrArg (fun j => ((x0 j).toReal : EReal)) (eq_ix3 i))
  k i := (h1 i).trans (congrArg (fun j => ((x1 j).toReal : EReal)) (eq_ix3 i))
  v i := (h2 i).trans (congrArg (fun j => ((x2 j).toReal : EReal)) (eq_ix3 i))
  c i := (h3 i).trans (congrArg (fun j => ((x3 j).toReal : EReal)) (eq_ix2 i))
  g i := (h4 i).trans (congrArg (fun j => ((x4 j).toReal : EReal)) (eq_ix3 i))

/-- The arguments a satisfied precondition allows are real numbers. -/
theorem pre_is [Cert.Pre_finite.Facts]
    (h : (Cert.Pre_finite.fn (F := Ideal) x0 x1 x2 x3 x4).1 = (fun _ => 1#1)
      ∧ (Cert.Pre_finite.fn (F := Ideal) x0 x1 x2 x3 x4).2.1 = (fun _ => 1#1)
      ∧ (Cert.Pre_finite.fn (F := Ideal) x0 x1 x2 x3 x4).2.2.1 = (fun _ => 1#1)
      ∧ (Cert.Pre_finite.fn (F := Ideal) x0 x1 x2 x3 x4).2.2.2.1 = (fun _ => 1#1)
      ∧ (Cert.Pre_finite.fn (F := Ideal) x0 x1 x2 x3 x4).2.2.2.2 = (fun _ => 1#1)) :
    (argsOf x0 x1 x2 x3 x4).Is x0 x1 x2 x3 x4 :=
  argsOf_is x0 x1 x2 x3 x4 (fun i => real_of_finite _ (congrFun h.1 i)) (fun i => real_of_finite _ (congrFun h.2.1 i))
    (fun i => real_of_finite _ (congrFun h.2.2.1 i)) (fun i => real_of_finite _ (congrFun h.2.2.2.1 i))
    (fun i => real_of_finite _ (congrFun h.2.2.2.2 i))

end

/-- The real numbers a device's arguments hold. -/
def argsAt (m : (ℓ : Loc Cert.KernelIdeal.nD Cert.KernelIdeal.τ Cert.KernelIdeal.sig) → Buf (Elt Ideal) ℓ)
    (c : Dev Cert.KernelIdeal.nD) : Args :=
  argsOf (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))

/-- From memories with the same finite arguments, the kernel's results are the reference's. -/
theorem algebraic [Cert.Pre_finite.Facts] : Cert.algebraic_KernelIdeal_ReferenceIdeal_pre_finite := by
  intro m g m' g' hpre hm
  have HA : ∀ c : Dev Cert.KernelIdeal.nD, (argsAt m c).Is _ _ _ _ _ := fun c => pre_is _ _ _ _ _ (hpre c)
  refine ⟨fun c (i : Cert.KernelIdeal.S2176x8x64.Idx) => ((dq (argsAt m c) (i 1) (i 0) (i 2) : ℝ) : EReal),
    fun c (i : Cert.KernelIdeal.S2176x8x64.Idx) => ((dk (argsAt m c) (i 1) (i 0) (i 2) : ℝ) : EReal),
    fun c (i : Cert.KernelIdeal.S2176x8x64.Idx) => ((dv (argsAt m c) (i 1) (i 0) (i 2) : ℝ) : EReal),
    fun c (i : Cert.KernelIdeal.S2176x8.Idx) => ((dc (argsAt m c) (i 1) (i 0) : ℝ) : EReal), ?_, ?_⟩
  · refine (θ_run Cert.KernelIdeal.defs _ _).mono (fun r h c => ?_)
      (θ_run_and (Cert.KernelIdeal.Attn.run_results (F := Ideal) m g) (Cert.KernelIdeal.Attn.frame (F := Ideal) m g))
    have HX := Cert.KernelIdeal.Attn.holds (HA c)
    exact ⟨(h.1 c).1.trans (funext fun i => Cert.KernelIdeal.Attn.res_dq _ HX i),
      (h.1 c).2.1.trans (funext fun i => Cert.KernelIdeal.Attn.res_dk _ HX i),
      (h.1 c).2.2.1.trans (funext fun i => Cert.KernelIdeal.Attn.res_dv _ HX i),
      (h.1 c).2.2.2.trans (funext fun i => Cert.KernelIdeal.Attn.res_dc _ HX i), h.2.1 c⟩
  · refine (θ_run Cert.ReferenceIdeal.defs _ _).mono (fun r h c => ?_) (Cert.ReferenceIdeal.Value.run (F := Ideal) m' g')
    have H : (argsAt m c).Is
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) := by
      rw [(hm c).1, (hm c).2.1, (hm c).2.2.1, (hm c).2.2.2.1, (hm c).2.2.2.2]
      exact HA c
    exact ⟨((h c).1.trans (Cert.ReferenceIdeal.Read.val_main_v80_eq m' c)).trans (funext fun i => Cert.ReferenceIdeal.Read.res_dq H i),
      ((h c).2.1.trans (Cert.ReferenceIdeal.Read.val_main_v78_eq m' c)).trans (funext fun i => Cert.ReferenceIdeal.Read.res_dk H i),
      ((h c).2.2.1.trans (Cert.ReferenceIdeal.Read.val_main_v51_eq m' c)).trans (funext fun i => Cert.ReferenceIdeal.Read.res_dv H i),
      ((h c).2.2.2.1.trans (Cert.ReferenceIdeal.Read.val_main_v74_eq m' c)).trans (funext fun i => Cert.ReferenceIdeal.Read.res_dc H i),
      (h c).2.2.2.2⟩

end Cert.Proof

end
-- ==== Proof.Halves.lean ====
/- A wide array cut in its two column halves, stacked: where an element comes from. -/
module

public import Idealize.ShloMosaic.Lib.Pipeline.Value
public import Idealize.ShloMosaic.PureOps
public import Mathlib.Algebra.BigOperators.Fin

@[expose] public section

noncomputable section

namespace Cert.Halves

open Idealize.ShloMosaic
open scoped BigOperators

abbrev W : Shape := ⟨2, ![2176, 5632]⟩
abbrev H : Shape := ⟨2, ![2176, 2816]⟩
abbrev B : Shape := ⟨3, ![1, 2176, 2816]⟩
abbrev P : Shape := ⟨3, ![2, 2176, 2816]⟩

/-- The place of a half's element among the half's rows and columns. -/
abbrev inH (y : P.Idx) : H.Idx := fun a => match a with
  | ⟨0, _⟩ => ⟨(y 1).val, (y 1).isLt⟩
  | ⟨1, _⟩ => ⟨(y 2).val, (y 2).isLt⟩

/-- The same, with the axis of extent one. -/
abbrev inB (y : P.Idx) : B.Idx := fun a => match a with
  | ⟨0, _⟩ => ⟨0, Nat.one_pos⟩
  | ⟨1, _⟩ => ⟨(y 1).val, (y 1).isLt⟩
  | ⟨2, _⟩ => ⟨(y 2).val, (y 2).isLt⟩

/-- Its place in the wide array. -/
abbrev inW (y : P.Idx) : W.Idx := fun a => match a with
  | ⟨0, _⟩ => ⟨(y 1).val, (y 1).isLt⟩
  | ⟨1, _⟩ => ⟨(y 0).val * 2816 + (y 2).val, by
      have h0 : (y 0).val < 2 := (y 0).isLt
      have h2 : (y 2).val < 2816 := (y 2).isLt
      show (y 0).val * 2816 + (y 2).val < 5632
      omega⟩

theorem bcast_apply {α : Type} (x : H.Idx → α) (hb : H.BroadcastsInDim B ![1, 2]) (y : P.Idx) :
    broadcastInDim B ![1, 2] hb x (inB y) = x (inH y) :=
  broadcastInDim_apply _ hb x _ (inH y) fun a => by
    match a with
    | ⟨0, _⟩ => exact rfl
    | ⟨1, _⟩ => exact rfl

/-- An element of the stacked halves. -/
theorem apply {α : Type} (x : W.Idx → α) (h0 : W.Slices ![0, 0] H) (h1 : W.Slices ![0, 2816] H) (hb : H.BroadcastsInDim B ![1, 2])
    (hc : Shape.Concatenates [B, B] P 0) (y : P.Idx) :
    concatenate P 0 [⟨B, broadcastInDim B ![1, 2] hb (extractStridedSlice H ![0, 0] x h0)⟩,
      ⟨B, broadcastInDim B ![1, 2] hb (extractStridedSlice H ![0, 2816] x h1)⟩] hc y = x (inW y) := by
  have b0 : (y 0).val < 2 := (y 0).isLt
  by_cases e : (y 0).val = 0
  · refine (concatenate_pair_apply_left 0 _ _ hc y rfl (inB y) fun b => ?_).trans ((bcast_apply _ hb y).trans
      (extractStridedSlice_apply _ x h0 _ (inW y) fun a => ?_))
    · match b with
      | ⟨0, _⟩ => exact e.symm
      | ⟨1, _⟩ => exact rfl
      | ⟨2, _⟩ => exact rfl
    · match a with
      | ⟨0, _⟩ => exact (Nat.zero_add _).symm
      | ⟨1, _⟩ => show (y 0).val * 2816 + (y 2).val = 0 + (y 2).val; omega
  · refine (concatenate_pair_apply_right 0 _ _ hc y rfl rfl (inB y) (fun b hne => ?_) ?_).trans ((bcast_apply _ hb y).trans
      (extractStridedSlice_apply _ x h1 _ (inW y) fun a => ?_))
    · match b with
      | ⟨0, _⟩ => exact absurd rfl hne
      | ⟨1, _⟩ => exact rfl
      | ⟨2, _⟩ => exact rfl
    · show 0 + 1 = (y 0).val; omega
    · match a with
      | ⟨0, _⟩ => exact (Nat.zero_add _).symm
      | ⟨1, _⟩ => show (y 0).val * 2816 + (y 2).val = 2816 + (y 2).val; omega

/-- A sum over the columns of two parts is the sum over the one's and the sum over the other's. -/
theorem sum_parts {R : Type} [AddCommMonoid R] (n m N : ℕ) (h : N = n + m) (f : Fin N → R) :
    ∑ k : Fin N, f k = (∑ k : Fin n, f ⟨k.val, by omega⟩) + ∑ k : Fin m, f ⟨n + k.val, by omega⟩ := by
  subst h
  exact Fin.sum_univ_add f

end Cert.Halves

end
-- ==== Proof.Prod2.lean ====
/- The gradient of the up projection's input: block by block the kernel leaves the product, and it is the reference's. -/
module

public import proofs.«01_k».proof.Defs
public import proofs.«01_k».proof.Proof.Halves
public import proofs.«01_k».proof.Proof.Gen.Kernel2.Frame
public import proofs.«01_k».proof.Proof.Gen.Kernel2Ideal.Value
public import proofs.«01_k».proof.Proof.Gen.Reference2Ideal.Read
public import Idealize.ShloMosaic.Lib.Pipeline.ValueKit
public import Idealize.ShloMosaic.Lib.ValueIdxCore
public import Idealize.ShloMosaic.Lib.Quiescent
public import Idealize.ShloMosaic.Lib.Claim

@[expose] public section

set_option maxRecDepth 16384

noncomputable section

namespace Cert.Kernel2Ideal.Prod

open Cert.Kernel2Ideal Cert.Kernel2Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- Where the left factor is read. -/
abbrev lix (i : S2176x1024.Idx) (k : Fin 5632) : S2176x5632.Idx := fun a => match a with
  | ⟨0, _⟩ => ⟨(i 0).val, (i 0).isLt⟩
  | ⟨1, _⟩ => ⟨k.val, k.isLt⟩
/-- Where the right factor is read. -/
abbrev rix (i : S2176x1024.Idx) (k : Fin 5632) : S1024x5632.Idx := fun a => match a with
  | ⟨0, _⟩ => ⟨(i 1).val, (i 1).isLt⟩
  | ⟨1, _⟩ => ⟨k.val, k.isLt⟩
/-- Where a half of a block's left factor is read, -/
abbrev blix' (i : S544x1024.Idx) (k : Fin 2816) : S544x2816.Idx := fun a => match a with
  | ⟨0, _⟩ => ⟨(i 0).val, (i 0).isLt⟩
  | ⟨1, _⟩ => ⟨k.val, k.isLt⟩
/-- with the axis of extent one. -/
abbrev blix (i : S544x1024.Idx) (k : Fin 2816) : S1x544x2816.Idx := fun a => match a with
  | ⟨0, _⟩ => ⟨0, Nat.one_pos⟩
  | ⟨1, _⟩ => ⟨(i 0).val, (i 0).isLt⟩
  | ⟨2, _⟩ => ⟨k.val, k.isLt⟩
/-- Where a half of a block's right factor is read. -/
abbrev brix (i : S544x1024.Idx) (k : Fin 2816) : S1024x2816.Idx := fun a => match a with
  | ⟨0, _⟩ => ⟨(i 1).val, (i 1).isLt⟩
  | ⟨1, _⟩ => ⟨k.val, k.isLt⟩

/-- The two factors, as launched. -/
def ctOf (c : Dev nD) : FVec Ideal S2176x5632 .f32 := m ((c : Thread nD τ).loc main_arg2)
def wOf (c : Dev nD) : FVec Ideal S1024x5632 .f32 := m ((c : Thread nD τ).loc main_arg1)

/-- What the call finds: a cast leaves every number as it is. -/
theorem V_ct (c : Dev nD) : V m c main_v5 = truncf .bf16 (concatenate S2x2176x2816 0
    [⟨S1x2176x2816, broadcastInDim S1x2176x2816 ![1, 2] bcast_S2176x2816_S1x2176x2816_1_2 (extractStridedSlice S2176x2816 ![0, 0] (ctOf m c) slices_S2176x5632_S2176x2816_0_0)⟩,
      ⟨S1x2176x2816, broadcastInDim S1x2176x2816 ![1, 2] bcast_S2176x2816_S1x2176x2816_1_2 (extractStridedSlice S2176x2816 ![0, 2816] (ctOf m c) slices_S2176x5632_S2176x2816_0_2816)⟩]
    concatenates_S1x2176x2816_S1x2176x2816_S2x2176x2816_d0 : FVec Ideal S2x2176x2816 .f32) bitsLt_bf16_f32 := by
  unfold V hostOps0 ctOf; after_results

/-- The stacked halves, read as the cotangent they came from. -/
theorem V_ct_apply (c : Dev nD) (x : S2x2176x2816.Idx) : (V m c main_v5 x : EReal) = ctOf m c (Cert.Halves.inW x) := by
  rw [V_ct]
  exact Cert.Halves.apply (ctOf m c) slices_S2176x5632_S2176x2816_0_0 slices_S2176x5632_S2176x2816_0_2816
    bcast_S2176x2816_S1x2176x2816_1_2 concatenates_S1x2176x2816_S1x2176x2816_S2x2176x2816_d0 x

theorem V_w (c : Dev nD) : V m c main_v6 = truncf .bf16 (wOf m c) bitsLt_bf16_f32 := by
  unfold V hostOps0 wOf; after_results

/-- One half's product, a sum over the half's columns. -/
theorem half_apply (X : Vec Ideal S1x544x2816 .bf16) (Y : Vec Ideal S1024x2816 .bf16) (i : S544x1024.Idx) :
    (FloatOps.matmul (φ₁ := .bf16) (φ₂ := .bf16) dot_S544x2816_S1024x2816_S544x1024_1_1_0_0_n_n none (shapeCast S544x2816 X shapeCasts_S1x544x2816_S544x2816 : FVec Ideal S544x2816 .bf16) Y
      (constant (F := Ideal) S544x1024 .f32 0x00000000#32) i : EReal) = ∑ k : Fin 2816, (X (blix i k) : EReal) * (Y (brix i k) : EReal) := by
  rw [Ideal.matmul_constant_zero_apply, ← Equiv.sum_comp (ValueIdx.contrEquiv1 dot_S544x2816_S1024x2816_S544x1024_1_1_0_0_n_n 2816 rfl rfl).symm]
  refine Finset.sum_congr rfl fun k _ => ?_
  have hk := ValueIdx.contrEquiv1_symm_val dot_S544x2816_S1024x2816_S544x1024_1_1_0_0_n_n 2816 rfl rfl k
  have el : dot_S544x2816_S1024x2816_S544x1024_1_1_0_0_n_n.lhsIdx i ((ValueIdx.contrEquiv1 dot_S544x2816_S1024x2816_S544x1024_1_1_0_0_n_n 2816 rfl rfl).symm k) = blix' i k := by
    funext x; apply Fin.ext
    match x with
    | ⟨0, _⟩ => exact rfl
    | ⟨1, _⟩ => exact hk
  have er : dot_S544x2816_S1024x2816_S544x1024_1_1_0_0_n_n.rhsIdx i ((ValueIdx.contrEquiv1 dot_S544x2816_S1024x2816_S544x1024_1_1_0_0_n_n 2816 rfl rfl).symm k) = brix i k := by
    funext x; apply Fin.ext
    match x with
    | ⟨0, _⟩ => exact rfl
    | ⟨1, _⟩ => exact hk
  rw [el, er]
  refine congrArg (· * Y (brix i k)) ((shapeCast_dropUnit_apply ![544, 2816] X _ _).trans (congrArg X (funext fun x => ?_)))
  match x with
  | ⟨0, _⟩ => exact rfl
  | ⟨1, _⟩ => exact rfl
  | ⟨2, _⟩ => exact rfl

/-- A block's product, the two halves' sums. -/
theorem pay_apply (X : Vec Ideal S1x544x2816 .bf16) (Y : Vec Ideal S1024x2816 .bf16) (X' : Vec Ideal S1x544x2816 .bf16)
    (Y' : Vec Ideal S1024x2816 .bf16) (i : S544x1024.Idx) :
    (k0_pay1 X Y X' Y' i : EReal) = (∑ k : Fin 2816, (X (blix i k) : EReal) * (Y (brix i k) : EReal))
      + ∑ k : Fin 2816, (X' (blix i k) : EReal) * (Y' (brix i k) : EReal) := by
  unfold k0_pay1
  simp only [shapeCast_self]
  exact congrArg₂ (· + ·) (half_apply X Y i) (half_apply X' Y' i)

/-- Where in its block each half's factors lie. -/
theorem emb0 (i : S544x1024.Idx) (k : Fin 2816) : r0_0.emb (blix i k) = (fun a => match a with
    | ⟨0, _⟩ => ⟨0, Nat.two_pos⟩
    | ⟨1, _⟩ => ⟨(i 0).val, (i 0).isLt⟩
    | ⟨2, _⟩ => ⟨k.val, k.isLt⟩ : S2x544x2816.Idx) := by
  funext x; apply Fin.ext
  match x with
  | ⟨0, _⟩ => show 0 + 1 * 0 = 0; omega
  | ⟨1, _⟩ => show 0 + 1 * (i 0).val = (i 0).val; omega
  | ⟨2, _⟩ => show 0 + 1 * k.val = k.val; omega
theorem emb1 (i : S544x1024.Idx) (k : Fin 2816) : r0_1.emb (brix i k) = (fun a => match a with
    | ⟨0, _⟩ => ⟨(i 1).val, (i 1).isLt⟩
    | ⟨1, _⟩ => ⟨k.val, by show k.val < 5632; omega⟩ : S1024x5632.Idx) := by
  funext x; apply Fin.ext
  match x with
  | ⟨0, _⟩ => show 0 + 1 * (i 1).val = (i 1).val; omega
  | ⟨1, _⟩ => show 0 + 1 * k.val = k.val; omega
theorem emb2 (i : S544x1024.Idx) (k : Fin 2816) : r0_2.emb (blix i k) = (fun a => match a with
    | ⟨0, _⟩ => ⟨1, Nat.one_lt_two⟩
    | ⟨1, _⟩ => ⟨(i 0).val, (i 0).isLt⟩
    | ⟨2, _⟩ => ⟨k.val, k.isLt⟩ : S2x544x2816.Idx) := by
  funext x; apply Fin.ext
  match x with
  | ⟨0, _⟩ => show 1 + 1 * 0 = 1; omega
  | ⟨1, _⟩ => show 0 + 1 * (i 0).val = (i 0).val; omega
  | ⟨2, _⟩ => show 0 + 1 * k.val = k.val; omega
theorem emb3 (i : S544x1024.Idx) (k : Fin 2816) : r0_3.emb (brix i k) = (fun a => match a with
    | ⟨0, _⟩ => ⟨(i 1).val, (i 1).isLt⟩
    | ⟨1, _⟩ => ⟨2816 + k.val, by show 2816 + k.val < 5632; omega⟩ : S1024x5632.Idx) := by
  funext x; apply Fin.ext
  match x with
  | ⟨0, _⟩ => show 0 + 1 * (i 1).val = (i 1).val; omega
  | ⟨1, _⟩ => show 2816 + 1 * k.val = 2816 + k.val; omega

/-- Which blocks each point of the grid reads and writes. -/
theorem idx0 : ∀ t : Fin cfg0.N, win0_0.index t = ![0, t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The product. -/
def G (c : Dev nD) : FVec Ideal S2176x1024 .f32 := fun i =>
  (∑ k : Fin 5632, (ctOf m c (lix i k) : EReal) * (wOf m c (rix i k) : EReal))

/-- The product, its sum parted where the halves meet. -/
theorem G_parts (c : Dev nD) (i : S2176x1024.Idx) : (G m c i : EReal)
    = (∑ k : Fin 2816, (ctOf m c (lix i ⟨k.val, by omega⟩) : EReal) * (wOf m c (rix i ⟨k.val, by omega⟩) : EReal))
      + ∑ k : Fin 2816, (ctOf m c (lix i ⟨2816 + k.val, by omega⟩) : EReal) * (wOf m c (rix i ⟨2816 + k.val, by omega⟩) : EReal) :=
  Cert.Halves.sum_parts (R := EReal) 2816 2816 5632 (by decide) fun k => (ctOf m c (lix i k) : EReal) * (wOf m c (rix i k) : EReal)

theorem final (c : Dev nD) : (dats m 0 c).arrAt 2 cfg0.N = G m c := by
  refine (dats m 0 c).arrAt_eq_of_covers 2 _ (by decide +kernel) fun t hf y => ?_
  blk_simp
  rw [after0_2]
  frame_out
  refine (pay_apply _ _ _ _ y).trans (Eq.trans ?_ (G_parts m c _).symm)
  refine congrArg₂ (fun a b : EReal => a + b) (Finset.sum_congr rfl fun k _ => congrArg₂ (fun a b : EReal => a * b) ?_ ?_)
    (Finset.sum_congr rfl fun k _ => congrArg₂ (fun a b : EReal => a * b) ?_ ?_)
  · show iblk m c 0 t (r0_0.emb (blix y k)) = _
    rw [emb0]
    blk_simp [iblk]
    refine (V_ct_apply m c _).trans (congrArg (ctOf m c) ?_)
    blk_ext [idx0, idx2]
  · show iblk m c 1 t (r0_1.emb (brix y k)) = _
    rw [emb1]
    blk_simp [iblk]
    refine (congrFun (V_w m c) _).trans (congrArg (wOf m c) ?_)
    blk_ext [idx1, idx2]
  · show iblk m c 0 t (r0_2.emb (blix y k)) = _
    rw [emb2]
    blk_simp [iblk]
    refine (V_ct_apply m c _).trans (congrArg (ctOf m c) ?_)
    blk_ext [idx0, idx2]
  · show iblk m c 1 t (r0_3.emb (brix y k)) = _
    rw [emb3]
    blk_simp [iblk]
    refine (congrFun (V_w m c) _).trans (congrArg (wOf m c) ?_)
    blk_ext [idx1, idx2]

end Cert.Kernel2Ideal.Prod

namespace Cert.Proof

open Idealize.ShloMosaic Idealize.ShloMosaic.TcCoe Idealize.SL.Sem

theorem frame_kernel2 : Cert.quiescent_Kernel2 := fun m ρ _ => Cert.Kernel2.Gen.frame m ρ
theorem frame_kernel2Ideal : Cert.quiescent_Kernel2Ideal := fun m ρ _ => Cert.Kernel2Ideal.Gen.frame m ρ
theorem frame_reference2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- From memories with the same arguments, the kernel's product is the reference's. -/
theorem algebraic2 : Cert.algebraic_Kernel2Ideal_Reference2Ideal := by
  intro m g m' g' _ hm
  refine ⟨fun c => Cert.Kernel2Ideal.Prod.G m c, ?_, ?_⟩
  · refine (θ_run Cert.Kernel2Ideal.defs _ _).mono (fun r h c => ?_) (Cert.Kernel2Ideal.Value.run_blocks (F := Ideal) m g)
    exact ⟨(h c).1.trans (Cert.Kernel2Ideal.Prod.final m c), (h c).2⟩
  · refine (θ_run Cert.Reference2Ideal.defs _ _).mono (fun r h c => ?_) (Cert.Reference2Ideal.Value.run (F := Ideal) m' g')
    refine ⟨(h c).1.trans ?_, (h c).2⟩
    rw [(hm c).2.1, (hm c).2.2]
    exact (Cert.Reference2Ideal.Read.val_main_v1_eq _ _).trans (funext fun i => Cert.Reference2Ideal.Read.val_main_v1_apply _ _ i)

end Cert.Proof

end
-- ==== Proof.Prod3.lean ====
/- The gradient of the up projection's weight: block by block the kernel leaves the product, and it is the reference's. -/
module

public import proofs.«01_k».proof.Defs
public import proofs.«01_k».proof.Proof.Halves
public import proofs.«01_k».proof.Proof.Gen.Kernel3.Frame
public import proofs.«01_k».proof.Proof.Gen.Kernel3Ideal.Value
public import proofs.«01_k».proof.Proof.Gen.Reference3Ideal.Read
public import Idealize.ShloMosaic.Lib.Pipeline.ValueKit
public import Idealize.ShloMosaic.Lib.ValueIdxCore
public import Idealize.ShloMosaic.Lib.Quiescent
public import Idealize.ShloMosaic.Lib.Claim

@[expose] public section

set_option maxRecDepth 16384

noncomputable section

namespace Cert.Kernel3Ideal.Prod

open Cert.Kernel3Ideal Cert.Kernel3Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- Where the left factor is read. -/
abbrev lix (i : S1024x5632.Idx) (k : Fin 2176) : S2176x1024.Idx := fun a => match a with
  | ⟨0, _⟩ => ⟨k.val, k.isLt⟩
  | ⟨1, _⟩ => ⟨(i 0).val, (i 0).isLt⟩
/-- Where the right factor is read. -/
abbrev rix (i : S1024x5632.Idx) (k : Fin 2176) : S2176x5632.Idx := fun a => match a with
  | ⟨0, _⟩ => ⟨k.val, k.isLt⟩
  | ⟨1, _⟩ => ⟨(i 1).val, (i 1).isLt⟩
/-- Where a block's left factor is read. -/
abbrev blix (i : S512x1408.Idx) (k : Fin 2176) : S2176x512.Idx := fun a => match a with
  | ⟨0, _⟩ => ⟨k.val, k.isLt⟩
  | ⟨1, _⟩ => ⟨(i 0).val, (i 0).isLt⟩
/-- Where a block's right factor is read. -/
abbrev brix' (i : S512x1408.Idx) (k : Fin 2176) : S2176x1408.Idx := fun a => match a with
  | ⟨0, _⟩ => ⟨k.val, k.isLt⟩
  | ⟨1, _⟩ => ⟨(i 1).val, (i 1).isLt⟩
/-- The same, with the axis of extent one. -/
abbrev brix (i : S512x1408.Idx) (k : Fin 2176) : S1x2176x1408.Idx := fun a => match a with
  | ⟨0, _⟩ => ⟨0, Nat.one_pos⟩
  | ⟨1, _⟩ => ⟨k.val, k.isLt⟩
  | ⟨2, _⟩ => ⟨(i 1).val, (i 1).isLt⟩

/-- The two factors, as launched. -/
def nOf (c : Dev nD) : FVec Ideal S2176x1024 .f32 := m ((c : Thread nD τ).loc main_arg0)
def ctOf (c : Dev nD) : FVec Ideal S2176x5632 .f32 := m ((c : Thread nD τ).loc main_arg2)

/-- What the call finds: a cast leaves every number as it is. -/
theorem V_n (c : Dev nD) : V m c main_v0 = truncf .bf16 (nOf m c) bitsLt_bf16_f32 := by
  unfold V hostOps0 nOf; after_results

theorem V_ct (c : Dev nD) : V m c main_v6 = truncf .bf16 (concatenate S2x2176x2816 0
    [⟨S1x2176x2816, broadcastInDim S1x2176x2816 ![1, 2] bcast_S2176x2816_S1x2176x2816_1_2 (extractStridedSlice S2176x2816 ![0, 0] (ctOf m c) slices_S2176x5632_S2176x2816_0_0)⟩,
      ⟨S1x2176x2816, broadcastInDim S1x2176x2816 ![1, 2] bcast_S2176x2816_S1x2176x2816_1_2 (extractStridedSlice S2176x2816 ![0, 2816] (ctOf m c) slices_S2176x5632_S2176x2816_0_2816)⟩]
    concatenates_S1x2176x2816_S1x2176x2816_S2x2176x2816_d0 : FVec Ideal S2x2176x2816 .f32) bitsLt_bf16_f32 := by
  unfold V hostOps0 ctOf; after_results

/-- A block's product, a sum over the contracted axis. -/
theorem pay_apply (X : Vec Ideal S2176x512 .bf16) (Y : Vec Ideal S1x2176x1408 .bf16) (i : S512x1408.Idx) :
    (k0_pay1 X Y i : EReal) = (∑ k : Fin 2176, (X (blix i k) : EReal) * (Y (brix i k) : EReal)) := by
  unfold k0_pay1
  simp only [shapeCast_self]
  show FloatOps.matmul (φ₁ := .bf16) (φ₂ := .bf16) dot_S2176x512_S2176x1408_S512x1408_0_0_1_1_n_n none X (shapeCast S2176x1408 Y shapeCasts_S1x2176x1408_S2176x1408 : FVec Ideal S2176x1408 .bf16) (constant (F := Ideal) S512x1408 .f32 0x00000000#32) i = _
  rw [Ideal.matmul_constant_zero_apply, ← Equiv.sum_comp (ValueIdx.contrEquiv1 dot_S2176x512_S2176x1408_S512x1408_0_0_1_1_n_n 2176 rfl rfl).symm]
  refine Finset.sum_congr rfl fun k _ => ?_
  have hk := ValueIdx.contrEquiv1_symm_val dot_S2176x512_S2176x1408_S512x1408_0_0_1_1_n_n 2176 rfl rfl k
  have el : dot_S2176x512_S2176x1408_S512x1408_0_0_1_1_n_n.lhsIdx i ((ValueIdx.contrEquiv1 dot_S2176x512_S2176x1408_S512x1408_0_0_1_1_n_n 2176 rfl rfl).symm k) = blix i k := by
    funext x; apply Fin.ext
    match x with
    | ⟨0, _⟩ => exact hk
    | ⟨1, _⟩ => exact rfl
  have er : dot_S2176x512_S2176x1408_S512x1408_0_0_1_1_n_n.rhsIdx i ((ValueIdx.contrEquiv1 dot_S2176x512_S2176x1408_S512x1408_0_0_1_1_n_n 2176 rfl rfl).symm k) = brix' i k := by
    funext x; apply Fin.ext
    match x with
    | ⟨0, _⟩ => exact hk
    | ⟨1, _⟩ => exact rfl
  rw [el, er]
  refine congrArg (X (blix i k) * ·) ((shapeCast_dropUnit_apply ![2176, 1408] Y _ _).trans (congrArg Y (funext fun x => ?_)))
  match x with
  | ⟨0, _⟩ => exact rfl
  | ⟨1, _⟩ => exact rfl
  | ⟨2, _⟩ => exact rfl

/-- Which blocks each point of the grid reads and writes. -/
theorem idx0 : ∀ t : Fin cfg0.N, win0_0.index t = ![0, t.val / 4] := (by decide +kernel : ∀ t : Fin grid0.N, _)
theorem idx1 : ∀ t : Fin cfg0.N, win0_1.index t = ![t.val % 4 / 2, 0, t.val % 4 % 2] := (by decide +kernel : ∀ t : Fin grid0.N, _)
theorem idx2 : ∀ t : Fin cfg0.N, win0_2.index t = ![t.val / 4, t.val % 4] := (by decide +kernel : ∀ t : Fin grid0.N, _)

/-- The product. -/
def G (c : Dev nD) : FVec Ideal S1024x5632 .f32 := fun i =>
  (∑ k : Fin 2176, (nOf m c (lix i k) : EReal) * (ctOf m c (rix i k) : EReal))

theorem final (c : Dev nD) : (dats m 0 c).arrAt 2 cfg0.N = G m c := by
  refine (dats m 0 c).arrAt_eq_of_covers 2 _ (by decide +kernel) fun t hf y => ?_
  blk_simp
  rw [after0_2]
  frame_out
  refine (pay_apply _ _ y).trans (Finset.sum_congr rfl fun k _ => congrArg₂ (· * ·) ?_ ?_)
  · blk_simp [iblk]
    refine (congrFun (V_n m c) _).trans (congrArg (nOf m c) ?_)
    blk_ext [idx0, idx2]
  · blk_simp [iblk]
    refine (congrFun (V_ct m c) _).trans ((Cert.Halves.apply (ctOf m c) _ _ _ concatenates_S1x2176x2816_S1x2176x2816_S2x2176x2816_d0 _).trans (congrArg (ctOf m c) ?_))
    blk_ext [idx1, idx2]

end Cert.Kernel3Ideal.Prod

namespace Cert.Proof

open Idealize.ShloMosaic Idealize.ShloMosaic.TcCoe Idealize.SL.Sem

theorem frame_kernel3 : Cert.quiescent_Kernel3 := fun m ρ _ => Cert.Kernel3.Gen.frame m ρ
theorem frame_kernel3Ideal : Cert.quiescent_Kernel3Ideal := fun m ρ _ => Cert.Kernel3Ideal.Gen.frame m ρ
theorem frame_reference3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- From memories with the same arguments, the kernel's product is the reference's. -/
theorem algebraic3 : Cert.algebraic_Kernel3Ideal_Reference3Ideal := by
  intro m g m' g' _ hm
  refine ⟨fun c => Cert.Kernel3Ideal.Prod.G m c, ?_, ?_⟩
  · refine (θ_run Cert.Kernel3Ideal.defs _ _).mono (fun r h c => ?_) (Cert.Kernel3Ideal.Value.run_blocks (F := Ideal) m g)
    exact ⟨(h c).1.trans (Cert.Kernel3Ideal.Prod.final m c), (h c).2⟩
  · refine (θ_run Cert.Reference3Ideal.defs _ _).mono (fun r h c => ?_) (Cert.Reference3Ideal.Value.run (F := Ideal) m' g')
    refine ⟨(h c).1.trans ?_, (h c).2⟩
    rw [(hm c).1, (hm c).2.2]
    exact (Cert.Reference3Ideal.Read.val_main_v2_eq _ _).trans (funext fun i =>
      (Cert.Reference3Ideal.Read.val_main_v2_apply _ _ i).trans
        ((Cert.Reference3Ideal.Read.val_main_v1_apply _ _ _).trans (Finset.sum_congr rfl fun k _ => mul_comm _ _)))

end Cert.Proof

end
-- ==== Proof.Prod4.lean ====
/- The gradient of the activations: block by block the kernel leaves the product, and it is the reference's. -/
module

public import proofs.«01_k».proof.Defs
public import proofs.«01_k».proof.Proof.Gen.Kernel4.Frame
public import proofs.«01_k».proof.Proof.Gen.Kernel4Ideal.Value
public import proofs.«01_k».proof.Proof.Gen.Reference4Ideal.Read
public import Idealize.ShloMosaic.Lib.Pipeline.ValueKit
public import Idealize.ShloMosaic.Lib.ValueIdxCore
public import Idealize.ShloMosaic.Lib.Quiescent
public import Idealize.ShloMosaic.Lib.Claim

@[expose] public section

set_option maxRecDepth 16384

noncomputable section

namespace Cert.Kernel4Ideal.Prod

open Cert.Kernel4Ideal Cert.Kernel4Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- Where the left factor is read. -/
abbrev lix (i : S2176x2816.Idx) (k : Fin 1024) : S2176x1024.Idx := fun a => match a with
  | ⟨0, _⟩ => ⟨(i 0).val, (i 0).isLt⟩
  | ⟨1, _⟩ => ⟨k.val, k.isLt⟩
/-- Where the right factor is read. -/
abbrev rix (i : S2176x2816.Idx) (k : Fin 1024) : S2816x1024.Idx := fun a => match a with
  | ⟨0, _⟩ => ⟨(i 1).val, (i 1).isLt⟩
  | ⟨1, _⟩ => ⟨k.val, k.isLt⟩
/-- Where a block's left factor is read. -/
abbrev blix (i : S1088x1408.Idx) (k : Fin 1024) : S1088x1024.Idx := fun a => match a with
  | ⟨0, _⟩ => ⟨(i 0).val, (i 0).isLt⟩
  | ⟨1, _⟩ => ⟨k.val, k.isLt⟩
/-- Where a block's right factor is read. -/
abbrev brix (i : S1088x1408.Idx) (k : Fin 1024) : S1408x1024.Idx := fun a => match a with
  | ⟨0, _⟩ => ⟨(i 1).val, (i 1).isLt⟩
  | ⟨1, _⟩ => ⟨k.val, k.isLt⟩

/-- The two factors, as launched. -/
def ctOf (c : Dev nD) : FVec Ideal S2176x1024 .f32 := m ((c : Thread nD τ).loc main_arg2)
def wOf (c : Dev nD) : FVec Ideal S2816x1024 .f32 := m ((c : Thread nD τ).loc main_arg1)

/-- What the call finds: a cast leaves every number as it is. -/
theorem V_ct (c : Dev nD) : V m c main_v0 = truncf .bf16 (ctOf m c) bitsLt_bf16_f32 := by
  unfold V hostOps0 ctOf; after_results

theorem V_w (c : Dev nD) : V m c main_v1 = truncf .bf16 (wOf m c) bitsLt_bf16_f32 := by
  unfold V hostOps0 wOf; after_results

/-- A block's product, a sum over the contracted axis. -/
theorem pay_apply (X : Vec Ideal S1088x1024 .bf16) (Y : Vec Ideal S1408x1024 .bf16) (i : S1088x1408.Idx) :
    (k0_pay1 X Y i : EReal) = (∑ k : Fin 1024, (X (blix i k) : EReal) * (Y (brix i k) : EReal)) := by
  unfold k0_pay1
  simp only [shapeCast_self]
  show FloatOps.matmul (φ₁ := .bf16) (φ₂ := .bf16) dot_S1088x1024_S1408x1024_S1088x1408_1_1_0_0_n_n none X Y (constant (F := Ideal) S1088x1408 .f32 0x00000000#32) i = _
  rw [Ideal.matmul_constant_zero_apply, ← Equiv.sum_comp (ValueIdx.contrEquiv1 dot_S1088x1024_S1408x1024_S1088x1408_1_1_0_0_n_n 1024 rfl rfl).symm]
  refine Finset.sum_congr rfl fun k _ => ?_
  have hk := ValueIdx.contrEquiv1_symm_val dot_S1088x1024_S1408x1024_S1088x1408_1_1_0_0_n_n 1024 rfl rfl k
  have el : dot_S1088x1024_S1408x1024_S1088x1408_1_1_0_0_n_n.lhsIdx i ((ValueIdx.contrEquiv1 dot_S1088x1024_S1408x1024_S1088x1408_1_1_0_0_n_n 1024 rfl rfl).symm k) = blix i k := by
    funext x; apply Fin.ext
    match x with
    | ⟨0, _⟩ => exact rfl
    | ⟨1, _⟩ => exact hk
  have er : dot_S1088x1024_S1408x1024_S1088x1408_1_1_0_0_n_n.rhsIdx i ((ValueIdx.contrEquiv1 dot_S1088x1024_S1408x1024_S1088x1408_1_1_0_0_n_n 1024 rfl rfl).symm k) = brix i k := by
    funext x; apply Fin.ext
    match x with
    | ⟨0, _⟩ => exact rfl
    | ⟨1, _⟩ => exact hk
  rw [el, er]

/-- Which blocks each point of the grid reads and writes. -/
theorem idx0 : ∀ t : Fin cfg0.N, win0_0.index t = ![t.val % 2, 0] := (by decide +kernel : ∀ t : Fin grid0.N, _)
theorem idx1 : ∀ t : Fin cfg0.N, win0_1.index t = ![t.val / 2, 0] := (by decide +kernel : ∀ t : Fin grid0.N, _)
theorem idx2 : ∀ t : Fin cfg0.N, win0_2.index t = ![t.val % 2, t.val / 2] := (by decide +kernel : ∀ t : Fin grid0.N, _)

/-- The product. -/
def G (c : Dev nD) : FVec Ideal S2176x2816 .f32 := fun i =>
  (∑ k : Fin 1024, (ctOf m c (lix i k) : EReal) * (wOf m c (rix i k) : EReal))

theorem final (c : Dev nD) : (dats m 0 c).arrAt 2 cfg0.N = G m c := by
  refine (dats m 0 c).arrAt_eq_of_covers 2 _ (by decide +kernel) fun t hf y => ?_
  blk_simp
  rw [after0_2]
  frame_out
  refine (pay_apply _ _ y).trans (Finset.sum_congr rfl fun k _ => congrArg₂ (· * ·) ?_ ?_)
  · blk_simp [iblk]
    refine (congrFun (V_ct m c) _).trans (congrArg (ctOf m c) ?_)
    blk_ext [idx0, idx2]
  · blk_simp [iblk]
    refine (congrFun (V_w m c) _).trans (congrArg (wOf m c) ?_)
    blk_ext [idx1, idx2]

end Cert.Kernel4Ideal.Prod

namespace Cert.Proof

open Idealize.ShloMosaic Idealize.ShloMosaic.TcCoe Idealize.SL.Sem

theorem frame_kernel4 : Cert.quiescent_Kernel4 := fun m ρ _ => Cert.Kernel4.Gen.frame m ρ
theorem frame_kernel4Ideal : Cert.quiescent_Kernel4Ideal := fun m ρ _ => Cert.Kernel4Ideal.Gen.frame m ρ
theorem frame_reference4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- From memories with the same arguments, the kernel's product is the reference's. -/
theorem algebraic4 : Cert.algebraic_Kernel4Ideal_Reference4Ideal := by
  intro m g m' g' _ hm
  refine ⟨fun c => Cert.Kernel4Ideal.Prod.G m c, ?_, ?_⟩
  · refine (θ_run Cert.Kernel4Ideal.defs _ _).mono (fun r h c => ?_) (Cert.Kernel4Ideal.Value.run_blocks (F := Ideal) m g)
    exact ⟨(h c).1.trans (Cert.Kernel4Ideal.Prod.final m c), (h c).2⟩
  · refine (θ_run Cert.Reference4Ideal.defs _ _).mono (fun r h c => ?_) (Cert.Reference4Ideal.Value.run (F := Ideal) m' g')
    refine ⟨(h c).1.trans ?_, (h c).2⟩
    rw [(hm c).2.1, (hm c).2.2]
    exact (Cert.Reference4Ideal.Read.val_main_v1_eq _ _).trans (funext fun i => Cert.Reference4Ideal.Read.val_main_v1_apply _ _ i)

end Cert.Proof

end
-- ==== Proof.Prod5.lean ====
/- The gradient of the down projection's weight: block by block the kernel leaves the product, and it is the reference's. -/
module

public import proofs.«01_k».proof.Defs
public import proofs.«01_k».proof.Proof.Gen.Kernel5.Frame
public import proofs.«01_k».proof.Proof.Gen.Kernel5Ideal.Value
public import proofs.«01_k».proof.Proof.Gen.Reference5Ideal.Read
public import Idealize.ShloMosaic.Lib.Pipeline.ValueKit
public import Idealize.ShloMosaic.Lib.ValueIdxCore
public import Idealize.ShloMosaic.Lib.Quiescent
public import Idealize.ShloMosaic.Lib.Claim

@[expose] public section

set_option maxRecDepth 16384

noncomputable section

namespace Cert.Kernel5Ideal.Prod

open Cert.Kernel5Ideal Cert.Kernel5Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- Where the left factor is read. -/
abbrev lix (i : S2816x1024.Idx) (k : Fin 2176) : S2176x2816.Idx := fun a => match a with
  | ⟨0, _⟩ => ⟨k.val, k.isLt⟩
  | ⟨1, _⟩ => ⟨(i 0).val, (i 0).isLt⟩
/-- Where the right factor is read. -/
abbrev rix (i : S2816x1024.Idx) (k : Fin 2176) : S2176x1024.Idx := fun a => match a with
  | ⟨0, _⟩ => ⟨k.val, k.isLt⟩
  | ⟨1, _⟩ => ⟨(i 1).val, (i 1).isLt⟩
/-- Where a block's left factor is read. -/
abbrev blix (i : S1408x512.Idx) (k : Fin 2176) : S2176x1408.Idx := fun a => match a with
  | ⟨0, _⟩ => ⟨k.val, k.isLt⟩
  | ⟨1, _⟩ => ⟨(i 0).val, (i 0).isLt⟩
/-- Where a block's right factor is read. -/
abbrev brix (i : S1408x512.Idx) (k : Fin 2176) : S2176x512.Idx := fun a => match a with
  | ⟨0, _⟩ => ⟨k.val, k.isLt⟩
  | ⟨1, _⟩ => ⟨(i 1).val, (i 1).isLt⟩

/-- The two factors, as launched. -/
def actOf (c : Dev nD) : FVec Ideal S2176x2816 .f32 := m ((c : Thread nD τ).loc main_arg0)
def ctOf (c : Dev nD) : FVec Ideal S2176x1024 .f32 := m ((c : Thread nD τ).loc main_arg2)

/-- What the call finds: a cast leaves every number as it is. -/
theorem V_act (c : Dev nD) : V m c main_v0 = truncf .bf16 (actOf m c) bitsLt_bf16_f32 := by
  unfold V hostOps0 actOf; after_results

theorem V_ct (c : Dev nD) : V m c main_v1 = truncf .bf16 (ctOf m c) bitsLt_bf16_f32 := by
  unfold V hostOps0 ctOf; after_results

/-- A block's product, a sum over the contracted axis. -/
theorem pay_apply (X : Vec Ideal S2176x1408 .bf16) (Y : Vec Ideal S2176x512 .bf16) (i : S1408x512.Idx) :
    (k0_pay1 X Y i : EReal) = (∑ k : Fin 2176, (X (blix i k) : EReal) * (Y (brix i k) : EReal)) := by
  unfold k0_pay1
  simp only [shapeCast_self]
  show FloatOps.matmul (φ₁ := .bf16) (φ₂ := .bf16) dot_S2176x1408_S2176x512_S1408x512_0_0_1_1_n_n none X Y (constant (F := Ideal) S1408x512 .f32 0x00000000#32) i = _
  rw [Ideal.matmul_constant_zero_apply, ← Equiv.sum_comp (ValueIdx.contrEquiv1 dot_S2176x1408_S2176x512_S1408x512_0_0_1_1_n_n 2176 rfl rfl).symm]
  refine Finset.sum_congr rfl fun k _ => ?_
  have hk := ValueIdx.contrEquiv1_symm_val dot_S2176x1408_S2176x512_S1408x512_0_0_1_1_n_n 2176 rfl rfl k
  have el : dot_S2176x1408_S2176x512_S1408x512_0_0_1_1_n_n.lhsIdx i ((ValueIdx.contrEquiv1 dot_S2176x1408_S2176x512_S1408x512_0_0_1_1_n_n 2176 rfl rfl).symm k) = blix i k := by
    funext x; apply Fin.ext
    match x with
    | ⟨0, _⟩ => exact hk
    | ⟨1, _⟩ => exact rfl
  have er : dot_S2176x1408_S2176x512_S1408x512_0_0_1_1_n_n.rhsIdx i ((ValueIdx.contrEquiv1 dot_S2176x1408_S2176x512_S1408x512_0_0_1_1_n_n 2176 rfl rfl).symm k) = brix i k := by
    funext x; apply Fin.ext
    match x with
    | ⟨0, _⟩ => exact hk
    | ⟨1, _⟩ => exact rfl
  rw [el, er]

/-- Which blocks each point of the grid reads and writes. -/
theorem idx0 : ∀ t : Fin cfg0.N, win0_0.index t = ![0, t.val / 2] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

/-- The product. -/
def G (c : Dev nD) : FVec Ideal S2816x1024 .f32 := fun i =>
  (∑ k : Fin 2176, (actOf m c (lix i k) : EReal) * (ctOf m c (rix i k) : EReal))

theorem final (c : Dev nD) : (dats m 0 c).arrAt 2 cfg0.N = G m c := by
  refine (dats m 0 c).arrAt_eq_of_covers 2 _ (by decide +kernel) fun t hf y => ?_
  blk_simp
  rw [after0_2]
  frame_out
  refine (pay_apply _ _ y).trans (Finset.sum_congr rfl fun k _ => congrArg₂ (· * ·) ?_ ?_)
  · blk_simp [iblk]
    refine (congrFun (V_act m c) _).trans (congrArg (actOf m c) ?_)
    blk_ext [idx0, idx2]
  · blk_simp [iblk]
    refine (congrFun (V_ct m c) _).trans (congrArg (ctOf m c) ?_)
    blk_ext [idx1, idx2]

end Cert.Kernel5Ideal.Prod

namespace Cert.Proof

open Idealize.ShloMosaic Idealize.ShloMosaic.TcCoe Idealize.SL.Sem

theorem frame_kernel5 : Cert.quiescent_Kernel5 := fun m ρ _ => Cert.Kernel5.Gen.frame m ρ
theorem frame_kernel5Ideal : Cert.quiescent_Kernel5Ideal := fun m ρ _ => Cert.Kernel5Ideal.Gen.frame m ρ
theorem frame_reference5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- From memories with the same arguments, the kernel's product is the reference's. -/
theorem algebraic5 : Cert.algebraic_Kernel5Ideal_Reference5Ideal := by
  intro m g m' g' _ hm
  refine ⟨fun c => Cert.Kernel5Ideal.Prod.G m c, ?_, ?_⟩
  · refine (θ_run Cert.Kernel5Ideal.defs _ _).mono (fun r h c => ?_) (Cert.Kernel5Ideal.Value.run_blocks (F := Ideal) m g)
    exact ⟨(h c).1.trans (Cert.Kernel5Ideal.Prod.final m c), (h c).2⟩
  · refine (θ_run Cert.Reference5Ideal.defs _ _).mono (fun r h c => ?_) (Cert.Reference5Ideal.Value.run (F := Ideal) m' g')
    refine ⟨(h c).1.trans ?_, (h c).2⟩
    rw [(hm c).1, (hm c).2.2]
    exact (Cert.Reference5Ideal.Read.val_main_v2_eq _ _).trans (funext fun i =>
      (Cert.Reference5Ideal.Read.val_main_v2_apply _ _ i).trans
        ((Cert.Reference5Ideal.Read.val_main_v1_apply _ _ _).trans (Finset.sum_congr rfl fun k _ => mul_comm _ _)))

end Cert.Proof

end
-- ==== Proof.Prod6.lean ====
/- The up projection: block by block the kernel leaves the product, and it is the reference's. -/
module

public import proofs.«01_k».proof.Defs
public import proofs.«01_k».proof.Proof.Gen.Kernel6.Frame
public import proofs.«01_k».proof.Proof.Gen.Kernel6Ideal.Value
public import proofs.«01_k».proof.Proof.Gen.Reference6Ideal.Read
public import Idealize.ShloMosaic.Lib.Pipeline.ValueKit
public import Idealize.ShloMosaic.Lib.ValueIdxCore
public import Idealize.ShloMosaic.Lib.Quiescent
public import Idealize.ShloMosaic.Lib.Claim

@[expose] public section

set_option maxRecDepth 16384

noncomputable section

namespace Cert.Kernel6Ideal.Prod

open Cert.Kernel6Ideal Cert.Kernel6Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- Where the left factor is read. -/
abbrev lix (i : S2176x5632.Idx) (k : Fin 1024) : S2176x1024.Idx := fun a => match a with
  | ⟨0, _⟩ => ⟨(i 0).val, (i 0).isLt⟩
  | ⟨1, _⟩ => ⟨k.val, k.isLt⟩
/-- Where the right factor is read. -/
abbrev rix (i : S2176x5632.Idx) (k : Fin 1024) : S1024x5632.Idx := fun a => match a with
  | ⟨0, _⟩ => ⟨k.val, k.isLt⟩
  | ⟨1, _⟩ => ⟨(i 1).val, (i 1).isLt⟩
/-- Where a block's left factor is read. -/
abbrev blix (i : S1088x1408.Idx) (k : Fin 1024) : S1088x1024.Idx := fun a => match a with
  | ⟨0, _⟩ => ⟨(i 0).val, (i 0).isLt⟩
  | ⟨1, _⟩ => ⟨k.val, k.isLt⟩
/-- Where a block's right factor is read. -/
abbrev brix (i : S1088x1408.Idx) (k : Fin 1024) : S1024x1408.Idx := fun a => match a with
  | ⟨0, _⟩ => ⟨k.val, k.isLt⟩
  | ⟨1, _⟩ => ⟨(i 1).val, (i 1).isLt⟩

/-- The two factors, as launched. -/
def nOf (c : Dev nD) : FVec Ideal S2176x1024 .f32 := m ((c : Thread nD τ).loc main_arg0)
def wOf (c : Dev nD) : FVec Ideal S1024x5632 .f32 := m ((c : Thread nD τ).loc main_arg1)

/-- What the call finds: a cast leaves every number as it is. -/
theorem V_n (c : Dev nD) : V m c main_v0 = truncf .bf16 (nOf m c) bitsLt_bf16_f32 := by
  unfold V hostOps0 nOf; after_results

theorem V_w (c : Dev nD) : V m c main_v1 = truncf .bf16 (wOf m c) bitsLt_bf16_f32 := by
  unfold V hostOps0 wOf; after_results

/-- A block's product, a sum over the contracted axis. -/
theorem pay_apply (X : Vec Ideal S1088x1024 .bf16) (Y : Vec Ideal S1024x1408 .bf16) (i : S1088x1408.Idx) :
    (k0_pay1 X Y i : EReal) = (∑ k : Fin 1024, (X (blix i k) : EReal) * (Y (brix i k) : EReal)) := by
  unfold k0_pay1
  simp only [shapeCast_self]
  show FloatOps.matmul (φ₁ := .bf16) (φ₂ := .bf16) dot_S1088x1024_S1024x1408_S1088x1408_1_0_0_1_n_n none X Y (constant (F := Ideal) S1088x1408 .f32 0x00000000#32) i = _
  rw [Ideal.matmul_constant_zero_apply, ← Equiv.sum_comp (ValueIdx.contrEquiv1 dot_S1088x1024_S1024x1408_S1088x1408_1_0_0_1_n_n 1024 rfl rfl).symm]
  refine Finset.sum_congr rfl fun k _ => ?_
  have hk := ValueIdx.contrEquiv1_symm_val dot_S1088x1024_S1024x1408_S1088x1408_1_0_0_1_n_n 1024 rfl rfl k
  have el : dot_S1088x1024_S1024x1408_S1088x1408_1_0_0_1_n_n.lhsIdx i ((ValueIdx.contrEquiv1 dot_S1088x1024_S1024x1408_S1088x1408_1_0_0_1_n_n 1024 rfl rfl).symm k) = blix i k := by
    funext x; apply Fin.ext
    match x with
    | ⟨0, _⟩ => exact rfl
    | ⟨1, _⟩ => exact hk
  have er : dot_S1088x1024_S1024x1408_S1088x1408_1_0_0_1_n_n.rhsIdx i ((ValueIdx.contrEquiv1 dot_S1088x1024_S1024x1408_S1088x1408_1_0_0_1_n_n 1024 rfl rfl).symm k) = brix i k := by
    funext x; apply Fin.ext
    match x with
    | ⟨0, _⟩ => exact hk
    | ⟨1, _⟩ => exact rfl
  rw [el, er]

/-- Which blocks each point of the grid reads and writes. -/
theorem idx0 : ∀ t : Fin cfg0.N, win0_0.index t = ![t.val / 4, 0] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, t.val % 4] := (by decide +kernel : ∀ t : Fin grid0.N, _)

/-- The product. -/
def G (c : Dev nD) : FVec Ideal S2176x5632 .f32 := fun i =>
  (∑ k : Fin 1024, (nOf m c (lix i k) : EReal) * (wOf m c (rix i k) : EReal))

theorem final (c : Dev nD) : (dats m 0 c).arrAt 2 cfg0.N = G m c := by
  refine (dats m 0 c).arrAt_eq_of_covers 2 _ (by decide +kernel) fun t hf y => ?_
  blk_simp
  rw [after0_2]
  frame_out
  refine (pay_apply _ _ y).trans (Finset.sum_congr rfl fun k _ => congrArg₂ (· * ·) ?_ ?_)
  · blk_simp [iblk]
    refine (congrFun (V_n m c) _).trans (congrArg (nOf m c) ?_)
    blk_ext [idx0, idx2]
  · blk_simp [iblk]
    refine (congrFun (V_w m c) _).trans (congrArg (wOf m c) ?_)
    blk_ext [idx1, idx2]

end Cert.Kernel6Ideal.Prod

namespace Cert.Proof

open Idealize.ShloMosaic Idealize.ShloMosaic.TcCoe Idealize.SL.Sem

theorem frame_kernel6 : Cert.quiescent_Kernel6 := fun m ρ _ => Cert.Kernel6.Gen.frame m ρ
theorem frame_kernel6Ideal : Cert.quiescent_Kernel6Ideal := fun m ρ _ => Cert.Kernel6Ideal.Gen.frame m ρ
theorem frame_reference6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- From memories with the same arguments, the kernel's product is the reference's. -/
theorem algebraic6 : Cert.algebraic_Kernel6Ideal_Reference6Ideal := by
  intro m g m' g' _ hm
  refine ⟨fun c => Cert.Kernel6Ideal.Prod.G m c, ?_, ?_⟩
  · refine (θ_run Cert.Kernel6Ideal.defs _ _).mono (fun r h c => ?_) (Cert.Kernel6Ideal.Value.run_blocks (F := Ideal) m g)
    exact ⟨(h c).1.trans (Cert.Kernel6Ideal.Prod.final m c), (h c).2⟩
  · refine (θ_run Cert.Reference6Ideal.defs _ _).mono (fun r h c => ?_) (Cert.Reference6Ideal.Value.run (F := Ideal) m' g')
    refine ⟨(h c).1.trans ?_, (h c).2⟩
    rw [(hm c).1, (hm c).2]
    exact (Cert.Reference6Ideal.Read.val_main_v0_eq _ _).trans (funext fun i => Cert.Reference6Ideal.Read.val_main_v0_apply _ _ i)

end Cert.Proof

end
-- ==== Proof.Prod7.lean ====
/- The down projection and the residual: block by block the kernel leaves the product, and it is the reference's. -/
module

public import proofs.«01_k».proof.Defs
public import proofs.«01_k».proof.Proof.Gen.Kernel7.Frame
public import proofs.«01_k».proof.Proof.Gen.Kernel7Ideal.Value
public import proofs.«01_k».proof.Proof.Gen.Reference7Ideal.Read
public import Idealize.ShloMosaic.Lib.Pipeline.ValueKit
public import Idealize.ShloMosaic.Lib.ValueIdxCore
public import Idealize.ShloMosaic.Lib.Quiescent
public import Idealize.ShloMosaic.Lib.Claim

@[expose] public section

set_option maxRecDepth 16384

noncomputable section

namespace Cert.Kernel7Ideal.Prod

open Cert.Kernel7Ideal Cert.Kernel7Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- Where the left factor is read. -/
abbrev lix (i : S2176x1024.Idx) (k : Fin 2816) : S2176x2816.Idx := fun a => match a with
  | ⟨0, _⟩ => ⟨(i 0).val, (i 0).isLt⟩
  | ⟨1, _⟩ => ⟨k.val, k.isLt⟩
/-- Where the right factor is read. -/
abbrev rix (i : S2176x1024.Idx) (k : Fin 2816) : S2816x1024.Idx := fun a => match a with
  | ⟨0, _⟩ => ⟨k.val, k.isLt⟩
  | ⟨1, _⟩ => ⟨(i 1).val, (i 1).isLt⟩
/-- Where a block's left factor is read. -/
abbrev blix (i : S544x1024.Idx) (k : Fin 2816) : S544x2816.Idx := fun a => match a with
  | ⟨0, _⟩ => ⟨(i 0).val, (i 0).isLt⟩
  | ⟨1, _⟩ => ⟨k.val, k.isLt⟩
/-- Where a block's right factor is read. -/
abbrev brix (i : S544x1024.Idx) (k : Fin 2816) : S2816x1024.Idx := fun a => match a with
  | ⟨0, _⟩ => ⟨k.val, k.isLt⟩
  | ⟨1, _⟩ => ⟨(i 1).val, (i 1).isLt⟩

/-- The two factors, as launched. -/
def actOf (c : Dev nD) : FVec Ideal S2176x2816 .f32 := m ((c : Thread nD τ).loc main_arg0)
def wOf (c : Dev nD) : FVec Ideal S2816x1024 .f32 := m ((c : Thread nD τ).loc main_arg1)

/-- What the product is added to, as launched. -/
def hOf (c : Dev nD) : FVec Ideal S2176x1024 .f32 := m ((c : Thread nD τ).loc main_arg2)

/-- What the call finds: a cast leaves every number as it is. -/
theorem V_act (c : Dev nD) : V m c main_v0 = truncf .bf16 (actOf m c) bitsLt_bf16_f32 := by
  unfold V hostOps0 actOf; after_results

theorem V_w (c : Dev nD) : V m c main_v1 = truncf .bf16 (wOf m c) bitsLt_bf16_f32 := by
  unfold V hostOps0 wOf; after_results

theorem V_h (c : Dev nD) : V m c main_arg2 = hOf m c := V_main_arg2 m c

/-- A block's product, a sum over the contracted axis. -/
theorem pay_apply (X : Vec Ideal S544x2816 .bf16) (Y : Vec Ideal S2816x1024 .bf16) (Z : Vec Ideal S544x1024 .f32) (i : S544x1024.Idx) :
    (k0_pay1 X Y Z i : EReal) = (∑ k : Fin 2816, (X (blix i k) : EReal) * (Y (brix i k) : EReal)) + Z i := by
  unfold k0_pay1
  simp only [shapeCast_self]
  refine congrArg (· + Z i) ?_
  show FloatOps.matmul (φ₁ := .bf16) (φ₂ := .bf16) dot_S544x2816_S2816x1024_S544x1024_1_0_0_1_n_n none X Y (constant (F := Ideal) S544x1024 .f32 0x00000000#32) i = _
  rw [Ideal.matmul_constant_zero_apply, ← Equiv.sum_comp (ValueIdx.contrEquiv1 dot_S544x2816_S2816x1024_S544x1024_1_0_0_1_n_n 2816 rfl rfl).symm]
  refine Finset.sum_congr rfl fun k _ => ?_
  have hk := ValueIdx.contrEquiv1_symm_val dot_S544x2816_S2816x1024_S544x1024_1_0_0_1_n_n 2816 rfl rfl k
  have el : dot_S544x2816_S2816x1024_S544x1024_1_0_0_1_n_n.lhsIdx i ((ValueIdx.contrEquiv1 dot_S544x2816_S2816x1024_S544x1024_1_0_0_1_n_n 2816 rfl rfl).symm k) = blix i k := by
    funext x; apply Fin.ext
    match x with
    | ⟨0, _⟩ => exact rfl
    | ⟨1, _⟩ => exact hk
  have er : dot_S544x2816_S2816x1024_S544x1024_1_0_0_1_n_n.rhsIdx i ((ValueIdx.contrEquiv1 dot_S544x2816_S2816x1024_S544x1024_1_0_0_1_n_n 2816 rfl rfl).symm k) = brix i k := by
    funext x; apply Fin.ext
    match x with
    | ⟨0, _⟩ => exact hk
    | ⟨1, _⟩ => exact rfl
  rw [el, er]

/-- Which blocks each point of the grid reads and writes. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

/-- The product and what it is added to. -/
def G (c : Dev nD) : FVec Ideal S2176x1024 .f32 := fun i =>
  (∑ k : Fin 2816, (actOf m c (lix i k) : EReal) * (wOf m c (rix i k) : EReal)) + hOf m c i

theorem final (c : Dev nD) : (dats m 0 c).arrAt 3 cfg0.N = G m c := by
  refine (dats m 0 c).arrAt_eq_of_covers 3 _ (by decide +kernel) fun t hf y => ?_
  blk_simp
  rw [after0_3]
  frame_out
  refine (pay_apply _ _ _ y).trans (congrArg₂ (· + ·) (Finset.sum_congr rfl fun k _ => congrArg₂ (· * ·) ?_ ?_) ?_)
  · blk_simp [iblk]
    refine (congrFun (V_act m c) _).trans (congrArg (actOf m c) ?_)
    blk_ext [idx0, idx3]
  · blk_simp [iblk]
    refine (congrFun (V_w m c) _).trans (congrArg (wOf m c) ?_)
    blk_ext [idx1, idx3]
  · blk_simp [iblk]
    refine (congrFun (V_h m c) _).trans (congrArg (hOf m c) ?_)
    blk_ext [idx2, idx3]

end Cert.Kernel7Ideal.Prod

namespace Cert.Proof

open Idealize.ShloMosaic Idealize.ShloMosaic.TcCoe Idealize.SL.Sem

theorem frame_kernel7 : Cert.quiescent_Kernel7 := fun m ρ _ => Cert.Kernel7.Gen.frame m ρ
theorem frame_kernel7Ideal : Cert.quiescent_Kernel7Ideal := fun m ρ _ => Cert.Kernel7Ideal.Gen.frame m ρ
theorem frame_reference7 : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

/-- From memories with the same arguments, the kernel's product is the reference's. -/
theorem algebraic7 : Cert.algebraic_Kernel7Ideal_Reference7Ideal := by
  intro m g m' g' _ hm
  refine ⟨fun c => Cert.Kernel7Ideal.Prod.G m c, ?_, ?_⟩
  · refine (θ_run Cert.Kernel7Ideal.defs _ _).mono (fun r h c => ?_) (Cert.Kernel7Ideal.Value.run_blocks (F := Ideal) m g)
    exact ⟨(h c).1.trans (Cert.Kernel7Ideal.Prod.final m c), (h c).2⟩
  · refine (θ_run Cert.Reference7Ideal.defs _ _).mono (fun r h c => ?_) (Cert.Reference7Ideal.Value.run (F := Ideal) m' g')
    refine ⟨(h c).1.trans ?_, (h c).2⟩
    rw [(hm c).1, (hm c).2.1, (hm c).2.2]
    exact (Cert.Reference7Ideal.Read.val_main_v1_eq _ _ _).trans (funext fun i =>
      (Cert.Reference7Ideal.Read.val_main_v1_apply _ _ _ i).trans
        ((add_comm _ _).trans (congrArg (· + _) (Cert.Reference7Ideal.Read.val_main_v0_apply _ _ i))))

end Cert.Proof

end
-- ==== Proof.Prod8.lean ====
/- The output projection and the residual: block by block the kernel leaves the product, and it is the reference's. -/
module

public import proofs.«01_k».proof.Defs
public import proofs.«01_k».proof.Proof.Gen.Kernel8.Frame
public import proofs.«01_k».proof.Proof.Gen.Kernel8Ideal.Value
public import proofs.«01_k».proof.Proof.Gen.Reference8Ideal.Read
public import Idealize.ShloMosaic.Lib.Pipeline.ValueKit
public import Idealize.ShloMosaic.Lib.ValueIdxCore
public import Idealize.ShloMosaic.Lib.Quiescent
public import Idealize.ShloMosaic.Lib.Claim

@[expose] public section

set_option maxRecDepth 16384

noncomputable section

namespace Cert.Kernel8Ideal.Prod

open Cert.Kernel8Ideal Cert.Kernel8Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- Where the left factor is read. -/
abbrev lix (i : S2176x1024.Idx) (k : Fin 1024) : S2176x1024.Idx := fun a => match a with
  | ⟨0, _⟩ => ⟨(i 0).val, (i 0).isLt⟩
  | ⟨1, _⟩ => ⟨k.val, k.isLt⟩
/-- Where the right factor is read. -/
abbrev rix (i : S2176x1024.Idx) (k : Fin 1024) : S1024x1024.Idx := fun a => match a with
  | ⟨0, _⟩ => ⟨k.val, k.isLt⟩
  | ⟨1, _⟩ => ⟨(i 1).val, (i 1).isLt⟩
/-- Where a block's left factor is read. -/
abbrev blix (i : S1088x1024.Idx) (k : Fin 1024) : S1088x1024.Idx := fun a => match a with
  | ⟨0, _⟩ => ⟨(i 0).val, (i 0).isLt⟩
  | ⟨1, _⟩ => ⟨k.val, k.isLt⟩
/-- Where a block's right factor is read. -/
abbrev brix (i : S1088x1024.Idx) (k : Fin 1024) : S1024x1024.Idx := fun a => match a with
  | ⟨0, _⟩ => ⟨k.val, k.isLt⟩
  | ⟨1, _⟩ => ⟨(i 1).val, (i 1).isLt⟩

/-- The two factors, as launched. -/
def catOf (c : Dev nD) : FVec Ideal S2176x1024 .f32 := m ((c : Thread nD τ).loc main_arg0)
def wOf (c : Dev nD) : FVec Ideal S1024x1024 .f32 := m ((c : Thread nD τ).loc main_arg1)

/-- What the product is added to, as launched. -/
def hOf (c : Dev nD) : FVec Ideal S2176x1024 .f32 := m ((c : Thread nD τ).loc main_arg2)

/-- What the call finds: a cast leaves every number as it is. -/
theorem V_cat (c : Dev nD) : V m c main_v0 = truncf .bf16 (catOf m c) bitsLt_bf16_f32 := by
  unfold V hostOps0 catOf; after_results

theorem V_w (c : Dev nD) : V m c main_v1 = truncf .bf16 (wOf m c) bitsLt_bf16_f32 := by
  unfold V hostOps0 wOf; after_results

theorem V_h (c : Dev nD) : V m c main_arg2 = hOf m c := V_main_arg2 m c

/-- A block's product, a sum over the contracted axis. -/
theorem pay_apply (X : Vec Ideal S1088x1024 .bf16) (Y : Vec Ideal S1024x1024 .bf16) (Z : Vec Ideal S1088x1024 .f32) (i : S1088x1024.Idx) :
    (k0_pay1 X Y Z i : EReal) = (∑ k : Fin 1024, (X (blix i k) : EReal) * (Y (brix i k) : EReal)) + Z i := by
  unfold k0_pay1
  simp only [shapeCast_self]
  refine congrArg (· + Z i) ?_
  show FloatOps.matmul (φ₁ := .bf16) (φ₂ := .bf16) dot_S1088x1024_S1024x1024_S1088x1024_1_0_0_1_n_n none X Y (constant (F := Ideal) S1088x1024 .f32 0x00000000#32) i = _
  rw [Ideal.matmul_constant_zero_apply, ← Equiv.sum_comp (ValueIdx.contrEquiv1 dot_S1088x1024_S1024x1024_S1088x1024_1_0_0_1_n_n 1024 rfl rfl).symm]
  refine Finset.sum_congr rfl fun k _ => ?_
  have hk := ValueIdx.contrEquiv1_symm_val dot_S1088x1024_S1024x1024_S1088x1024_1_0_0_1_n_n 1024 rfl rfl k
  have el : dot_S1088x1024_S1024x1024_S1088x1024_1_0_0_1_n_n.lhsIdx i ((ValueIdx.contrEquiv1 dot_S1088x1024_S1024x1024_S1088x1024_1_0_0_1_n_n 1024 rfl rfl).symm k) = blix i k := by
    funext x; apply Fin.ext
    match x with
    | ⟨0, _⟩ => exact rfl
    | ⟨1, _⟩ => exact hk
  have er : dot_S1088x1024_S1024x1024_S1088x1024_1_0_0_1_n_n.rhsIdx i ((ValueIdx.contrEquiv1 dot_S1088x1024_S1024x1024_S1088x1024_1_0_0_1_n_n 1024 rfl rfl).symm k) = brix i k := by
    funext x; apply Fin.ext
    match x with
    | ⟨0, _⟩ => exact hk
    | ⟨1, _⟩ => exact rfl
  rw [el, er]

/-- Which blocks each point of the grid reads and writes. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

/-- The product and what it is added to. -/
def G (c : Dev nD) : FVec Ideal S2176x1024 .f32 := fun i =>
  (∑ k : Fin 1024, (catOf m c (lix i k) : EReal) * (wOf m c (rix i k) : EReal)) + hOf m c i

theorem final (c : Dev nD) : (dats m 0 c).arrAt 3 cfg0.N = G m c := by
  refine (dats m 0 c).arrAt_eq_of_covers 3 _ (by decide +kernel) fun t hf y => ?_
  blk_simp
  rw [after0_3]
  frame_out
  refine (pay_apply _ _ _ y).trans (congrArg₂ (· + ·) (Finset.sum_congr rfl fun k _ => congrArg₂ (· * ·) ?_ ?_) ?_)
  · blk_simp [iblk]
    refine (congrFun (V_cat m c) _).trans (congrArg (catOf m c) ?_)
    blk_ext [idx0, idx3]
  · blk_simp [iblk]
    refine (congrFun (V_w m c) _).trans (congrArg (wOf m c) ?_)
    blk_ext [idx1, idx3]
  · blk_simp [iblk]
    refine (congrFun (V_h m c) _).trans (congrArg (hOf m c) ?_)
    blk_ext [idx2, idx3]

end Cert.Kernel8Ideal.Prod

namespace Cert.Proof

open Idealize.ShloMosaic Idealize.ShloMosaic.TcCoe Idealize.SL.Sem

theorem frame_kernel8 : Cert.quiescent_Kernel8 := fun m ρ _ => Cert.Kernel8.Gen.frame m ρ
theorem frame_kernel8Ideal : Cert.quiescent_Kernel8Ideal := fun m ρ _ => Cert.Kernel8Ideal.Gen.frame m ρ
theorem frame_reference8 : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

/-- From memories with the same arguments, the kernel's product is the reference's. -/
theorem algebraic8 : Cert.algebraic_Kernel8Ideal_Reference8Ideal := by
  intro m g m' g' _ hm
  refine ⟨fun c => Cert.Kernel8Ideal.Prod.G m c, ?_, ?_⟩
  · refine (θ_run Cert.Kernel8Ideal.defs _ _).mono (fun r h c => ?_) (Cert.Kernel8Ideal.Value.run_blocks (F := Ideal) m g)
    exact ⟨(h c).1.trans (Cert.Kernel8Ideal.Prod.final m c), (h c).2⟩
  · refine (θ_run Cert.Reference8Ideal.defs _ _).mono (fun r h c => ?_) (Cert.Reference8Ideal.Value.run (F := Ideal) m' g')
    refine ⟨(h c).1.trans ?_, (h c).2⟩
    rw [(hm c).1, (hm c).2.1, (hm c).2.2]
    exact (Cert.Reference8Ideal.Read.val_main_v1_eq _ _ _).trans (funext fun i =>
      (Cert.Reference8Ideal.Read.val_main_v1_apply _ _ _ i).trans
        ((add_comm _ _).trans (congrArg (· + _) (Cert.Reference8Ideal.Read.val_main_v0_apply _ _ i))))

end Cert.Proof

end
-- ==== Proof.Prod9.lean ====
/- The gradient of the output projection's input: block by block the kernel leaves the product, and it is the reference's. -/
module

public import proofs.«01_k».proof.Defs
public import proofs.«01_k».proof.Proof.Gen.Kernel9.Frame
public import proofs.«01_k».proof.Proof.Gen.Kernel9Ideal.Value
public import proofs.«01_k».proof.Proof.Gen.Reference9Ideal.Read
public import Idealize.ShloMosaic.Lib.Pipeline.ValueKit
public import Idealize.ShloMosaic.Lib.ValueIdxCore
public import Idealize.ShloMosaic.Lib.Quiescent
public import Idealize.ShloMosaic.Lib.Claim

@[expose] public section

set_option maxRecDepth 16384

noncomputable section

namespace Cert.Kernel9Ideal.Prod

open Cert.Kernel9Ideal Cert.Kernel9Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- Where the left factor is read. -/
abbrev lix (i : S2176x1024.Idx) (k : Fin 1024) : S2176x1024.Idx := fun a => match a with
  | ⟨0, _⟩ => ⟨(i 0).val, (i 0).isLt⟩
  | ⟨1, _⟩ => ⟨k.val, k.isLt⟩
/-- Where the right factor is read. -/
abbrev rix (i : S2176x1024.Idx) (k : Fin 1024) : S1024x1024.Idx := fun a => match a with
  | ⟨0, _⟩ => ⟨(i 1).val, (i 1).isLt⟩
  | ⟨1, _⟩ => ⟨k.val, k.isLt⟩
/-- Where a block's left factor is read. -/
abbrev blix (i : S1088x1024.Idx) (k : Fin 1024) : S1088x1024.Idx := fun a => match a with
  | ⟨0, _⟩ => ⟨(i 0).val, (i 0).isLt⟩
  | ⟨1, _⟩ => ⟨k.val, k.isLt⟩
/-- Where a block's right factor is read. -/
abbrev brix (i : S1088x1024.Idx) (k : Fin 1024) : S1024x1024.Idx := fun a => match a with
  | ⟨0, _⟩ => ⟨(i 1).val, (i 1).isLt⟩
  | ⟨1, _⟩ => ⟨k.val, k.isLt⟩

/-- The two factors, as launched. -/
def ctOf (c : Dev nD) : FVec Ideal S2176x1024 .f32 := m ((c : Thread nD τ).loc main_arg2)
def wOf (c : Dev nD) : FVec Ideal S1024x1024 .f32 := m ((c : Thread nD τ).loc main_arg1)

/-- What the call finds: a cast leaves every number as it is. -/
theorem V_ct (c : Dev nD) : V m c main_arg2 = ctOf m c := V_main_arg2 m c

theorem V_w (c : Dev nD) : V m c main_v0 = truncf .bf16 (wOf m c) bitsLt_bf16_f32 := by
  unfold V hostOps0 wOf; after_results

/-- A block's product, a sum over the contracted axis. -/
theorem pay_apply (X : Vec Ideal S1088x1024 .f32) (Y : Vec Ideal S1024x1024 .bf16) (i : S1088x1024.Idx) :
    (k0_pay1 X Y i : EReal) = (∑ k : Fin 1024, (X (blix i k) : EReal) * (Y (brix i k) : EReal)) := by
  unfold k0_pay1
  simp only [shapeCast_self]
  show FloatOps.matmul (φ₁ := .bf16) (φ₂ := .bf16) dot_S1088x1024_S1024x1024_S1088x1024_1_1_0_0_n_n none X Y (constant (F := Ideal) S1088x1024 .f32 0x00000000#32) i = _
  rw [Ideal.matmul_constant_zero_apply, ← Equiv.sum_comp (ValueIdx.contrEquiv1 dot_S1088x1024_S1024x1024_S1088x1024_1_1_0_0_n_n 1024 rfl rfl).symm]
  refine Finset.sum_congr rfl fun k _ => ?_
  have hk := ValueIdx.contrEquiv1_symm_val dot_S1088x1024_S1024x1024_S1088x1024_1_1_0_0_n_n 1024 rfl rfl k
  have el : dot_S1088x1024_S1024x1024_S1088x1024_1_1_0_0_n_n.lhsIdx i ((ValueIdx.contrEquiv1 dot_S1088x1024_S1024x1024_S1088x1024_1_1_0_0_n_n 1024 rfl rfl).symm k) = blix i k := by
    funext x; apply Fin.ext
    match x with
    | ⟨0, _⟩ => exact rfl
    | ⟨1, _⟩ => exact hk
  have er : dot_S1088x1024_S1024x1024_S1088x1024_1_1_0_0_n_n.rhsIdx i ((ValueIdx.contrEquiv1 dot_S1088x1024_S1024x1024_S1088x1024_1_1_0_0_n_n 1024 rfl rfl).symm k) = brix i k := by
    funext x; apply Fin.ext
    match x with
    | ⟨0, _⟩ => exact rfl
    | ⟨1, _⟩ => exact hk
  rw [el, er]

/-- Which blocks each point of the grid reads and writes. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The product. -/
def G (c : Dev nD) : FVec Ideal S2176x1024 .f32 := fun i =>
  (∑ k : Fin 1024, (ctOf m c (lix i k) : EReal) * (wOf m c (rix i k) : EReal))

theorem final (c : Dev nD) : (dats m 0 c).arrAt 2 cfg0.N = G m c := by
  refine (dats m 0 c).arrAt_eq_of_covers 2 _ (by decide +kernel) fun t hf y => ?_
  blk_simp
  rw [after0_2]
  frame_out
  refine (pay_apply _ _ y).trans (Finset.sum_congr rfl fun k _ => congrArg₂ (· * ·) ?_ ?_)
  · blk_simp [iblk]
    refine (congrFun (V_ct m c) _).trans (congrArg (ctOf m c) ?_)
    blk_ext [idx0, idx2]
  · blk_simp [iblk]
    refine (congrFun (V_w m c) _).trans (congrArg (wOf m c) ?_)
    blk_ext [idx1, idx2]

end Cert.Kernel9Ideal.Prod

namespace Cert.Proof

open Idealize.ShloMosaic Idealize.ShloMosaic.TcCoe Idealize.SL.Sem

theorem frame_kernel9 : Cert.quiescent_Kernel9 := fun m ρ _ => Cert.Kernel9.Gen.frame m ρ
theorem frame_kernel9Ideal : Cert.quiescent_Kernel9Ideal := fun m ρ _ => Cert.Kernel9Ideal.Gen.frame m ρ
theorem frame_reference9 : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

/-- From memories with the same arguments, the kernel's product is the reference's. -/
theorem algebraic9 : Cert.algebraic_Kernel9Ideal_Reference9Ideal := by
  intro m g m' g' _ hm
  refine ⟨fun c => Cert.Kernel9Ideal.Prod.G m c, ?_, ?_⟩
  · refine (θ_run Cert.Kernel9Ideal.defs _ _).mono (fun r h c => ?_) (Cert.Kernel9Ideal.Value.run_blocks (F := Ideal) m g)
    exact ⟨(h c).1.trans (Cert.Kernel9Ideal.Prod.final m c), (h c).2⟩
  · refine (θ_run Cert.Reference9Ideal.defs _ _).mono (fun r h c => ?_) (Cert.Reference9Ideal.Value.run (F := Ideal) m' g')
    refine ⟨(h c).1.trans ?_, (h c).2⟩
    rw [(hm c).2.1, (hm c).2.2]
    exact (Cert.Reference9Ideal.Read.val_main_v1_eq _ _).trans (funext fun i => Cert.Reference9Ideal.Read.val_main_v1_apply _ _ i)

end Cert.Proof

end
-- ==== Proof.Prod10.lean ====
/- The gradient of the output projection's weight: block by block the kernel leaves the product, and it is the reference's. -/
module

public import proofs.«01_k».proof.Defs
public import proofs.«01_k».proof.Proof.Gen.Kernel10.Frame
public import proofs.«01_k».proof.Proof.Gen.Kernel10Ideal.Value
public import proofs.«01_k».proof.Proof.Gen.Reference10Ideal.Read
public import Idealize.ShloMosaic.Lib.Pipeline.ValueKit
public import Idealize.ShloMosaic.Lib.ValueIdxCore
public import Idealize.ShloMosaic.Lib.Quiescent
public import Idealize.ShloMosaic.Lib.Claim

@[expose] public section

set_option maxRecDepth 16384

noncomputable section

namespace Cert.Kernel10Ideal.Prod

open Cert.Kernel10Ideal Cert.Kernel10Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- Where the left factor is read. -/
abbrev lix (i : S1024x1024.Idx) (k : Fin 2176) : S2176x1024.Idx := fun a => match a with
  | ⟨0, _⟩ => ⟨k.val, k.isLt⟩
  | ⟨1, _⟩ => ⟨(i 0).val, (i 0).isLt⟩
/-- Where the right factor is read. -/
abbrev rix (i : S1024x1024.Idx) (k : Fin 2176) : S2176x1024.Idx := fun a => match a with
  | ⟨0, _⟩ => ⟨k.val, k.isLt⟩
  | ⟨1, _⟩ => ⟨(i 1).val, (i 1).isLt⟩
/-- Where a block's left factor is read. -/
abbrev blix (i : S512x1024.Idx) (k : Fin 2176) : S2176x512.Idx := fun a => match a with
  | ⟨0, _⟩ => ⟨k.val, k.isLt⟩
  | ⟨1, _⟩ => ⟨(i 0).val, (i 0).isLt⟩
/-- Where a block's right factor is read. -/
abbrev brix (i : S512x1024.Idx) (k : Fin 2176) : S2176x1024.Idx := fun a => match a with
  | ⟨0, _⟩ => ⟨k.val, k.isLt⟩
  | ⟨1, _⟩ => ⟨(i 1).val, (i 1).isLt⟩

/-- The two factors, as launched. -/
def catOf (c : Dev nD) : FVec Ideal S2176x1024 .f32 := m ((c : Thread nD τ).loc main_arg0)
def ctOf (c : Dev nD) : FVec Ideal S2176x1024 .f32 := m ((c : Thread nD τ).loc main_arg2)

/-- What the call finds: a cast leaves every number as it is. -/
theorem V_cat (c : Dev nD) : V m c main_v0 = truncf .bf16 (catOf m c) bitsLt_bf16_f32 := by
  unfold V hostOps0 catOf; after_results

theorem V_ct (c : Dev nD) : V m c main_arg2 = ctOf m c := V_main_arg2 m c

/-- A block's product, a sum over the contracted axis. -/
theorem pay_apply (X : Vec Ideal S2176x512 .bf16) (Y : Vec Ideal S2176x1024 .f32) (i : S512x1024.Idx) :
    (k0_pay1 X Y i : EReal) = (∑ k : Fin 2176, (X (blix i k) : EReal) * (Y (brix i k) : EReal)) := by
  unfold k0_pay1
  simp only [shapeCast_self]
  show FloatOps.matmul (φ₁ := .bf16) (φ₂ := .bf16) dot_S2176x512_S2176x1024_S512x1024_0_0_1_1_n_n none X Y (constant (F := Ideal) S512x1024 .f32 0x00000000#32) i = _
  rw [Ideal.matmul_constant_zero_apply, ← Equiv.sum_comp (ValueIdx.contrEquiv1 dot_S2176x512_S2176x1024_S512x1024_0_0_1_1_n_n 2176 rfl rfl).symm]
  refine Finset.sum_congr rfl fun k _ => ?_
  have hk := ValueIdx.contrEquiv1_symm_val dot_S2176x512_S2176x1024_S512x1024_0_0_1_1_n_n 2176 rfl rfl k
  have el : dot_S2176x512_S2176x1024_S512x1024_0_0_1_1_n_n.lhsIdx i ((ValueIdx.contrEquiv1 dot_S2176x512_S2176x1024_S512x1024_0_0_1_1_n_n 2176 rfl rfl).symm k) = blix i k := by
    funext x; apply Fin.ext
    match x with
    | ⟨0, _⟩ => exact hk
    | ⟨1, _⟩ => exact rfl
  have er : dot_S2176x512_S2176x1024_S512x1024_0_0_1_1_n_n.rhsIdx i ((ValueIdx.contrEquiv1 dot_S2176x512_S2176x1024_S512x1024_0_0_1_1_n_n 2176 rfl rfl).symm k) = brix i k := by
    funext x; apply Fin.ext
    match x with
    | ⟨0, _⟩ => exact hk
    | ⟨1, _⟩ => exact rfl
  rw [el, er]

/-- Which blocks each point of the grid reads and writes. -/
theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The product. -/
def G (c : Dev nD) : FVec Ideal S1024x1024 .f32 := fun i =>
  (∑ k : Fin 2176, (catOf m c (lix i k) : EReal) * (ctOf m c (rix i k) : EReal))

theorem final (c : Dev nD) : (dats m 0 c).arrAt 2 cfg0.N = G m c := by
  refine (dats m 0 c).arrAt_eq_of_covers 2 _ (by decide +kernel) fun t hf y => ?_
  blk_simp
  rw [after0_2]
  frame_out
  refine (pay_apply _ _ y).trans (Finset.sum_congr rfl fun k _ => congrArg₂ (· * ·) ?_ ?_)
  · blk_simp [iblk]
    refine (congrFun (V_cat m c) _).trans (congrArg (catOf m c) ?_)
    blk_ext [idx0, idx2]
  · blk_simp [iblk]
    refine (congrFun (V_ct m c) _).trans (congrArg (ctOf m c) ?_)
    blk_ext [idx1, idx2]

end Cert.Kernel10Ideal.Prod

namespace Cert.Proof

open Idealize.ShloMosaic Idealize.ShloMosaic.TcCoe Idealize.SL.Sem

theorem frame_kernel10 : Cert.quiescent_Kernel10 := fun m ρ _ => Cert.Kernel10.Gen.frame m ρ
theorem frame_kernel10Ideal : Cert.quiescent_Kernel10Ideal := fun m ρ _ => Cert.Kernel10Ideal.Gen.frame m ρ
theorem frame_reference10 : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

/-- From memories with the same arguments, the kernel's product is the reference's. -/
theorem algebraic10 : Cert.algebraic_Kernel10Ideal_Reference10Ideal := by
  intro m g m' g' _ hm
  refine ⟨fun c => Cert.Kernel10Ideal.Prod.G m c, ?_, ?_⟩
  · refine (θ_run Cert.Kernel10Ideal.defs _ _).mono (fun r h c => ?_) (Cert.Kernel10Ideal.Value.run_blocks (F := Ideal) m g)
    exact ⟨(h c).1.trans (Cert.Kernel10Ideal.Prod.final m c), (h c).2⟩
  · refine (θ_run Cert.Reference10Ideal.defs _ _).mono (fun r h c => ?_) (Cert.Reference10Ideal.Value.run (F := Ideal) m' g')
    refine ⟨(h c).1.trans ?_, (h c).2⟩
    rw [(hm c).1, (hm c).2.2]
    exact (Cert.Reference10Ideal.Read.val_main_v2_eq _ _).trans (funext fun i =>
      (Cert.Reference10Ideal.Read.val_main_v2_apply _ _ i).trans
        ((Cert.Reference10Ideal.Read.val_main_v1_apply _ _ _).trans (Finset.sum_congr rfl fun k _ => mul_comm _ _)))

end Cert.Proof

end
-- ==== Proof.InCols.lean ====
/- The input projection's 2568 columns in the order the version multiplies them in: first q, k and v (1536 columns), then the two
   halves of the convolution's input (1024), then the gates (8), then 120 columns of zeros. Where a column comes from, and that a sum
   over the 2688 columns is the sum over the 2568. -/
module

public import proofs.«01_k».proof.Proof.Halves

@[expose] public section

noncomputable section

namespace Cert.InCols

open Idealize.ShloMosaic
open scoped BigOperators

/-- Arrays of `n` rows: in reference.py's order, spread, and their parts. -/
abbrev N (n : ℕ) : Shape := ⟨2, ![n, 2568]⟩
abbrev W (n : ℕ) : Shape := ⟨2, ![n, 2688]⟩
abbrev A (n : ℕ) : Shape := ⟨2, ![n, 1536]⟩
abbrev B (n : ℕ) : Shape := ⟨2, ![n, 1024]⟩
abbrev C (n : ℕ) : Shape := ⟨2, ![n, 8]⟩
abbrev Z (n : ℕ) : Shape := ⟨2, ![n, 120]⟩

/-- Where a column of reference.py's order stands among the spread ones. -/
def col (j : ℕ) : ℕ := if j < 1536 then j else if j < 1544 then j + 1024 else j - 8

theorem col_lt {j : ℕ} (h : j < 2568) : col j < 2568 := by unfold col; split <;> [skip; split] <;> omega

variable {α : Type} {n : ℕ}

/-- A place given by its row and its column. -/
abbrev at2 {p q : ℕ} (r c : ℕ) (hr : r < p) (hc : c < q) : (⟨2, ![p, q]⟩ : Shape).Idx := fun a => match a with
  | ⟨0, _⟩ => ⟨r, hr⟩
  | ⟨1, _⟩ => ⟨c, hc⟩

/-- A spread array at the place of a column of reference.py's order. -/
theorem spread_apply (x : (N n).Idx → α) (z : (Z n).Idx → α) (hA : (N n).Slices ![0, 0] (A n)) (hB : (N n).Slices ![0, 1544] (B n))
    (hC : (N n).Slices ![0, 1536] (C n)) (hc : Shape.Concatenates [A n, B n, C n, Z n] (W n) 1) (y : (W n).Idx) (i : (N n).Idx)
    (h0 : (y 0).val = (i 0).val) (h1 : (y 1).val = col (i 1).val) :
    concatenate (W n) 1 [⟨A n, extractStridedSlice (A n) ![0, 0] x hA⟩, ⟨B n, extractStridedSlice (B n) ![0, 1544] x hB⟩,
      ⟨C n, extractStridedSlice (C n) ![0, 1536] x hC⟩, ⟨Z n, z⟩] hc y = x i := by
  have b0 : (i 0).val < n := (i 0).isLt
  have b1 : (i 1).val < 2568 := (i 1).isLt
  unfold col at h1
  by_cases e : (i 1).val < 1536
  · rw [if_pos e] at h1
    refine (concatenate_apply_piece 1 _ _ y 0 (by simp) (A n) _ rfl rfl 0 rfl (at2 (i 0).val (i 1).val b0 e) (fun b hne => ?_) ?_).trans
      (extractStridedSlice_apply _ x hA _ i fun a => ?_)
    · match b with
      | ⟨0, _⟩ => exact h0.symm
      | ⟨1, _⟩ => exact absurd rfl hne
    · show 0 + (i 1).val = (y 1).val; omega
    · match a with
      | ⟨0, _⟩ => exact (Nat.zero_add _).symm
      | ⟨1, _⟩ => exact (Nat.zero_add _).symm
  · rw [if_neg e] at h1
    by_cases e' : (i 1).val < 1544
    · rw [if_pos e'] at h1
      refine (concatenate_apply_piece 1 _ _ y 2 (by simp) (C n) _ rfl rfl 2560 rfl (at2 (i 0).val ((i 1).val - 1536) b0 (by omega))
        (fun b hne => ?_) ?_).trans (extractStridedSlice_apply _ x hC _ i fun a => ?_)
      · match b with
        | ⟨0, _⟩ => exact h0.symm
        | ⟨1, _⟩ => exact absurd rfl hne
      · show 2560 + ((i 1).val - 1536) = (y 1).val; omega
      · match a with
        | ⟨0, _⟩ => exact (Nat.zero_add _).symm
        | ⟨1, _⟩ => show (i 1).val = 1536 + ((i 1).val - 1536); omega
    · rw [if_neg e'] at h1
      refine (concatenate_apply_piece 1 _ _ y 1 (by simp) (B n) _ rfl rfl 1536 rfl (at2 (i 0).val ((i 1).val - 1544) b0 (by omega))
        (fun b hne => ?_) ?_).trans (extractStridedSlice_apply _ x hB _ i fun a => ?_)
      · match b with
        | ⟨0, _⟩ => exact h0.symm
        | ⟨1, _⟩ => exact absurd rfl hne
      · show 1536 + ((i 1).val - 1544) = (y 1).val; omega
      · match a with
        | ⟨0, _⟩ => exact (Nat.zero_add _).symm
        | ⟨1, _⟩ => show (i 1).val = 1544 + ((i 1).val - 1544); omega

/-- A spread array past its 2568 columns. -/
theorem spread_rest (x : (N n).Idx → α) (z : (Z n).Idx → α) (o : α) (hz : ∀ w, z w = o) (hA : (N n).Slices ![0, 0] (A n))
    (hB : (N n).Slices ![0, 1544] (B n)) (hC : (N n).Slices ![0, 1536] (C n))
    (hc : Shape.Concatenates [A n, B n, C n, Z n] (W n) 1) (y : (W n).Idx) (h1 : 2568 ≤ (y 1).val) :
    concatenate (W n) 1 [⟨A n, extractStridedSlice (A n) ![0, 0] x hA⟩, ⟨B n, extractStridedSlice (B n) ![0, 1544] x hB⟩,
      ⟨C n, extractStridedSlice (C n) ![0, 1536] x hC⟩, ⟨Z n, z⟩] hc y = o := by
  have b0 : (y 0).val < n := (y 0).isLt
  have b1 : (y 1).val < 2688 := (y 1).isLt
  refine (concatenate_apply_piece 1 _ _ y 3 (by simp) (Z n) _ rfl rfl 2568 rfl (at2 (y 0).val ((y 1).val - 2568) b0 (by omega))
    (fun b hne => ?_) ?_).trans (hz _)
  · match b with
    | ⟨0, _⟩ => exact rfl
    | ⟨1, _⟩ => exact absurd rfl hne
  · show 2568 + ((y 1).val - 2568) = (y 1).val; omega

/-- The way back: the columns taken into reference.py's order. -/
theorem gather_apply (y : (W n).Idx → α) (hA : (W n).Slices ![0, 0] (A n)) (hC : (W n).Slices ![0, 2560] (C n))
    (hB : (W n).Slices ![0, 1536] (B n)) (hc : Shape.Concatenates [A n, C n, B n] (N n) 1) (i : (N n).Idx) (w : (W n).Idx)
    (h0 : (w 0).val = (i 0).val) (h1 : (w 1).val = col (i 1).val) :
    concatenate (N n) 1 [⟨A n, extractStridedSlice (A n) ![0, 0] y hA⟩, ⟨C n, extractStridedSlice (C n) ![0, 2560] y hC⟩,
      ⟨B n, extractStridedSlice (B n) ![0, 1536] y hB⟩] hc i = y w := by
  have b0 : (i 0).val < n := (i 0).isLt
  have b1 : (i 1).val < 2568 := (i 1).isLt
  unfold col at h1
  by_cases e : (i 1).val < 1536
  · rw [if_pos e] at h1
    refine (concatenate_apply_piece 1 _ _ i 0 (by simp) (A n) _ rfl rfl 0 rfl (at2 (i 0).val (i 1).val b0 e) (fun b hne => ?_) ?_).trans
      (extractStridedSlice_apply _ y hA _ w fun a => ?_)
    · match b with
      | ⟨0, _⟩ => exact rfl
      | ⟨1, _⟩ => exact absurd rfl hne
    · show 0 + (i 1).val = (i 1).val; omega
    · match a with
      | ⟨0, _⟩ => exact h0.trans (Nat.zero_add _).symm
      | ⟨1, _⟩ => exact h1.trans (Nat.zero_add _).symm
  · rw [if_neg e] at h1
    by_cases e' : (i 1).val < 1544
    · rw [if_pos e'] at h1
      refine (concatenate_apply_piece 1 _ _ i 1 (by simp) (C n) _ rfl rfl 1536 rfl (at2 (i 0).val ((i 1).val - 1536) b0 (by omega))
        (fun b hne => ?_) ?_).trans (extractStridedSlice_apply _ y hC _ w fun a => ?_)
      · match b with
        | ⟨0, _⟩ => exact rfl
        | ⟨1, _⟩ => exact absurd rfl hne
      · show 1536 + ((i 1).val - 1536) = (i 1).val; omega
      · match a with
        | ⟨0, _⟩ => exact h0.trans (Nat.zero_add _).symm
        | ⟨1, _⟩ => show (w 1).val = 2560 + ((i 1).val - 1536); omega
    · rw [if_neg e'] at h1
      refine (concatenate_apply_piece 1 _ _ i 2 (by simp) (B n) _ rfl rfl 1544 rfl (at2 (i 0).val ((i 1).val - 1544) b0 (by omega))
        (fun b hne => ?_) ?_).trans (extractStridedSlice_apply _ y hB _ w fun a => ?_)
      · match b with
        | ⟨0, _⟩ => exact rfl
        | ⟨1, _⟩ => exact absurd rfl hne
      · show 1544 + ((i 1).val - 1544) = (i 1).val; omega
      · match a with
        | ⟨0, _⟩ => exact h0.trans (Nat.zero_add _).symm
        | ⟨1, _⟩ => show (w 1).val = 1536 + ((i 1).val - 1544); omega

/-- A sum over the spread columns, the last 120 giving nothing, is the sum over the columns in reference.py's order. -/
theorem sum_cols {R : Type} [AddCommMonoid R] (f : Fin 2688 → R) (g : Fin 2568 → R) (hz : ∀ k : Fin 2688, 2568 ≤ k.val → f k = 0)
    (hg : ∀ (k : Fin 2568) (l : Fin 2688), l.val = col k.val → f l = g k) : ∑ k, f k = ∑ k, g k := by
  rw [Halves.sum_parts 2568 120 2688 rfl f, Halves.sum_parts 1536 1032 2568 rfl g, Halves.sum_parts 8 1024 1032 rfl,
    Halves.sum_parts 1536 1032 2568 rfl (fun k : Fin 2568 => f ⟨k.val, by omega⟩), Halves.sum_parts 1024 8 1032 rfl]
  have e0 : (∑ k : Fin 120, f ⟨2568 + k.val, by omega⟩) = 0 := Finset.sum_eq_zero fun k _ => hz _ (Nat.le_add_right _ _)
  have eA : (∑ k : Fin 1536, f ⟨k.val, by omega⟩) = ∑ k : Fin 1536, g ⟨k.val, by omega⟩ :=
    Finset.sum_congr rfl fun k _ => hg _ _ (by have := k.isLt; show k.val = col k.val; unfold col; rw [if_pos k.isLt])
  have eB : (∑ k : Fin 1024, f ⟨1536 + k.val, by omega⟩) = ∑ k : Fin 1024, g ⟨1536 + (8 + k.val), by omega⟩ :=
    Finset.sum_congr rfl fun k _ => hg _ _ (by
      show 1536 + k.val = col (1536 + (8 + k.val)); unfold col; rw [if_neg (by omega), if_neg (by omega)]; omega)
  have eC : (∑ k : Fin 8, f ⟨1536 + (1024 + k.val), by omega⟩) = ∑ k : Fin 8, g ⟨1536 + k.val, by omega⟩ :=
    Finset.sum_congr rfl fun k _ => hg _ _ (by
      have := k.isLt
      show 1536 + (1024 + k.val) = col (1536 + k.val); unfold col; rw [if_neg (by omega), if_pos (by omega)]; omega)
  rw [e0, add_zero, eA, eB, eC]
  exact congrArg (_ + ·) (add_comm _ _)

end Cert.InCols

end
-- ==== Proof.Prod11.lean ====
/- The gradient of the input projection's weight: block by block the kernel leaves the product, and it is the reference's. -/
module

public import proofs.«01_k».proof.Defs
public import proofs.«01_k».proof.Proof.InCols
public import proofs.«01_k».proof.Proof.Gen.Kernel11.Frame
public import proofs.«01_k».proof.Proof.Gen.Kernel11Ideal.Frame
public import proofs.«01_k».proof.Proof.Gen.Reference11Ideal.Read
public import Idealize.ShloMosaic.Lib.Pipeline.ValueKit
public import Idealize.ShloMosaic.Lib.ValueIdxCore
public import Idealize.ShloMosaic.Lib.Quiescent
public import Idealize.ShloMosaic.Lib.Claim

@[expose] public section

set_option maxRecDepth 16384

noncomputable section

namespace Cert.Kernel11Ideal.Prod

open Cert.Kernel11Ideal Cert.Kernel11Ideal.Gen
open Idealize.ShloMosaic Idealize.ShloMosaic.TcCoe Idealize.SL.Sem Idealize.ShloMosaic.StableHlo
open Idealize.ShloMosaic.Pipeline (Dat Cfg)
open scoped BigOperators

variable (m : (ℓ : Loc nD τ sig) → Buf (Elt Ideal) ℓ)

/-- Where the left factor is read. -/
abbrev lix (i : S1024x2688.Idx) (k : Fin 2176) : S2176x1024.Idx := fun a => match a with
  | ⟨0, _⟩ => ⟨k.val, k.isLt⟩
  | ⟨1, _⟩ => ⟨(i 0).val, (i 0).isLt⟩
/-- Where the right factor is read. -/
abbrev rix (i : S1024x2688.Idx) (k : Fin 2176) : S2176x2688.Idx := fun a => match a with
  | ⟨0, _⟩ => ⟨k.val, k.isLt⟩
  | ⟨1, _⟩ => ⟨(i 1).val, (i 1).isLt⟩
/-- Where a block's left factor is read. -/
abbrev blix (i : S512x896.Idx) (k : Fin 2176) : S2176x512.Idx := fun a => match a with
  | ⟨0, _⟩ => ⟨k.val, k.isLt⟩
  | ⟨1, _⟩ => ⟨(i 0).val, (i 0).isLt⟩
/-- Where a block's right factor is read. -/
abbrev brix (i : S512x896.Idx) (k : Fin 2176) : S2176x896.Idx := fun a => match a with
  | ⟨0, _⟩ => ⟨k.val, k.isLt⟩
  | ⟨1, _⟩ => ⟨(i 1).val, (i 1).isLt⟩

/-- The two factors, as launched. -/
def nOf (c : Dev nD) : FVec Ideal S2176x1024 .f32 := m ((c : Thread nD τ).loc main_arg0)
def ctOf (c : Dev nD) : FVec Ideal S2176x2568 .f32 := m ((c : Thread nD τ).loc main_arg2)

/-- What the call finds: a cast leaves every number as it is. -/
theorem V_n (c : Dev nD) : V m c main_v0 = truncf .bf16 (nOf m c) bitsLt_bf16_f32 := by
  unfold V V0 hostOps0 nOf; after_results_simp; rfl

/-- The cotangent spread, as the call finds it. -/
def ctSp (c : Dev nD) : FVec Ideal S2176x2688 .bf16 := V m c main_v6

theorem ctSp_eq (c : Dev nD) : ctSp m c = concatenate S2176x2688 1
    [⟨S2176x1536, extractStridedSlice S2176x1536 ![0, 0] (truncf .bf16 (ctOf m c) bitsLt_bf16_f32 : FVec Ideal S2176x2568 .bf16) slices_S2176x2568_S2176x1536_0_0⟩,
      ⟨S2176x1024, extractStridedSlice S2176x1024 ![0, 1544] (truncf .bf16 (ctOf m c) bitsLt_bf16_f32 : FVec Ideal S2176x2568 .bf16) slices_S2176x2568_S2176x1024_0_1544⟩,
      ⟨S2176x8, extractStridedSlice S2176x8 ![0, 1536] (truncf .bf16 (ctOf m c) bitsLt_bf16_f32 : FVec Ideal S2176x2568 .bf16) slices_S2176x2568_S2176x8_0_1536⟩,
      ⟨S2176x120, (broadcastInDim S2176x120 ![] bcast_S_S2176x120 (constant (F := Ideal) S_ .bf16 0x0000#16))⟩] concatenates_S2176x1536_S2176x1024_S2176x8_S2176x120_S2176x2688_d1 := by
  unfold ctSp V V0 hostOps0 ctOf; after_results_simp; rfl

/-- Its columns are the launched ones, -/
theorem ctSp_apply (c : Dev nD) (y : S2176x2688.Idx) (i : S2176x2568.Idx) (h0 : (y 0).val = (i 0).val) (h1 : (y 1).val = Cert.InCols.col (i 1).val) :
    (ctSp m c y : EReal) = ctOf m c i := by
  rw [ctSp_eq]
  exact Cert.InCols.spread_apply (truncf .bf16 (ctOf m c) bitsLt_bf16_f32 : FVec Ideal S2176x2568 .bf16) _
    slices_S2176x2568_S2176x1536_0_0 slices_S2176x2568_S2176x1024_0_1544 slices_S2176x2568_S2176x8_0_1536 concatenates_S2176x1536_S2176x1024_S2176x8_S2176x120_S2176x2688_d1 y i h0 h1

/-- and zeros. -/
theorem ctSp_rest (c : Dev nD) (y : S2176x2688.Idx) (h1 : 2568 ≤ (y 1).val) : (ctSp m c y : EReal) = 0 := by
  rw [ctSp_eq]
  exact Cert.InCols.spread_rest (truncf .bf16 (ctOf m c) bitsLt_bf16_f32 : FVec Ideal S2176x2568 .bf16) _ (0 : EReal) (fun w => (show Ideal.ofBits .bf16 0x0000#16 = 0 by simp [Ideal.ofBits, Ideal.ieee]))
    slices_S2176x2568_S2176x1536_0_0 slices_S2176x2568_S2176x1024_0_1544 slices_S2176x2568_S2176x8_0_1536 concatenates_S2176x1536_S2176x1024_S2176x8_S2176x120_S2176x2688_d1 y h1

/-- A block's product, a sum over the contracted axis. -/
theorem pay_apply (X : Vec Ideal S2176x512 .bf16) (Y : Vec Ideal S2176x896 .bf16) (i : S512x896.Idx) :
    (k0_pay1 X Y i : EReal) = (∑ k : Fin 2176, (X (blix i k) : EReal) * (Y (brix i k) : EReal)) := by
  unfold k0_pay1
  simp only [shapeCast_self]
  show FloatOps.matmul (φ₁ := .bf16) (φ₂ := .bf16) dot_S2176x512_S2176x896_S512x896_0_0_1_1_n_n none X Y (constant (F := Ideal) S512x896 .f32 0x00000000#32) i = _
  rw [Ideal.matmul_constant_zero_apply, ← Equiv.sum_comp (ValueIdx.contrEquiv1 dot_S2176x512_S2176x896_S512x896_0_0_1_1_n_n 2176 rfl rfl).symm]
  refine Finset.sum_congr rfl fun k _ => ?_
  have hk := ValueIdx.contrEquiv1_symm_val dot_S2176x512_S2176x896_S512x896_0_0_1_1_n_n 2176 rfl rfl k
  have el : dot_S2176x512_S2176x896_S512x896_0_0_1_1_n_n.lhsIdx i ((ValueIdx.contrEquiv1 dot_S2176x512_S2176x896_S512x896_0_0_1_1_n_n 2176 rfl rfl).symm k) = blix i k := by
    funext x; apply Fin.ext
    match x with
    | ⟨0, _⟩ => exact hk
    | ⟨1, _⟩ => exact rfl
  have er : dot_S2176x512_S2176x896_S512x896_0_0_1_1_n_n.rhsIdx i ((ValueIdx.contrEquiv1 dot_S2176x512_S2176x896_S512x896_0_0_1_1_n_n 2176 rfl rfl).symm k) = brix i k := by
    funext x; apply Fin.ext
    match x with
    | ⟨0, _⟩ => exact hk
    | ⟨1, _⟩ => exact rfl
  rw [el, er]

/-- Which blocks each point of the grid reads and writes. -/
theorem idx0 : ∀ t : Fin cfg0.N, win0_0.index t = ![0, t.val % 2] := (by decide +kernel : ∀ t : Fin grid0.N, _)
theorem idx1 : ∀ t : Fin cfg0.N, win0_1.index t = ![0, t.val / 2] := (by decide +kernel : ∀ t : Fin grid0.N, _)
theorem idx2 : ∀ t : Fin cfg0.N, win0_2.index t = ![t.val % 2, t.val / 2] := (by decide +kernel : ∀ t : Fin grid0.N, _)

/-- The product. -/
def G (c : Dev nD) : FVec Ideal S1024x2688 .f32 := fun i =>
  (∑ k : Fin 2176, (nOf m c (lix i k) : EReal) * (ctSp m c (rix i k) : EReal))

theorem final (c : Dev nD) : (dats m 0 c).arrAt 2 cfg0.N = G m c := by
  refine (dats m 0 c).arrAt_eq_of_covers 2 _ (by decide +kernel) fun t hf y => ?_
  blk_simp
  rw [after0_2]
  frame_out
  refine (pay_apply _ _ y).trans (Finset.sum_congr rfl fun k _ => congrArg₂ (· * ·) ?_ ?_)
  · blk_simp [iblk]
    refine (congrFun (V_n m c) _).trans (congrArg (nOf m c) ?_)
    blk_ext [idx0, idx2]
  · blk_simp [iblk]
    refine congrArg (ctSp m c) ?_
    blk_ext [idx1, idx2]

theorem arrRef_inj : Function.Injective (Pipeline.arrRef spec0) := by decide

/-- The buffers after the kernel, before the host lines that follow it. -/
abbrev W0 (c : Dev nD) : Valuation τ sig (Elt Ideal) :=
  Pipeline.withArrays spec0 c (V0 m c) fun w => (dats m 0 c).arrAt w cfg0.N

theorem W0_2 (c : Dev nD) : W0 m c (Proc.devRef .tc main_v7) = G m c :=
  (Pipeline.withArrays_arr spec0 arrRef_inj c (V0 m c) _ 2).trans (final m c)

/-- The columns taken into reference.py's order. -/
def gather (y : FVec Ideal S1024x2688 .f32) : FVec Ideal S1024x2568 .f32 := concatenate S1024x2568 1
    [⟨S1024x1536, extractStridedSlice S1024x1536 ![0, 0] y slices_S1024x2688_S1024x1536_0_0⟩,
      ⟨S1024x8, extractStridedSlice S1024x8 ![0, 2560] y slices_S1024x2688_S1024x8_0_2560⟩,
      ⟨S1024x1024, extractStridedSlice S1024x1024 ![0, 1536] y slices_S1024x2688_S1024x1024_0_1536⟩] concatenates_S1024x1536_S1024x8_S1024x1024_S1024x2568_d1

set_option maxHeartbeats 4000000 in
theorem tail (c : Dev nD) : Pipeline.afterTail₀ cfgs (dats m) 0 (V0 m) [hostOps1] c main_v11 = gather (G m c) := by
  have e : Pipeline.afterTail₀ cfgs (dats m) 0 (V0 m) [hostOps1] c main_v11
      = StableHlo.after hostOps1 (W0 m c) (Proc.devRef .tc main_v11) := by
    unfold Pipeline.afterTail₀
    simp only [List.flatten_cons, List.flatten_nil, List.append_nil]
  rw [e, ← W0_2 m c]
  generalize W0 m c = W
  simp only [hostOps1]
  after_results_simp
  rfl

/-- The program's result. -/
theorem run_result (ρ : Dev nD → PrngReg) : θ_run defs (onTc (τ := τ) (main (F := Ideal))) ⟨m, fun _ => 0, ρ⟩ (fun r => ∀ c : Dev nD,
      r.2.mem ((c.tc : Thread nD τ).loc main_v11) = gather (G m c)) :=
  (θ_run defs _ _).mono (fun _ h c =>
    ((h c).2 main_v11 (Pipeline.mem_restRefs_of main_v11 (by decide) (by decide))).trans (tail m c)) (run_main m ρ)

/-- Where a column of the result is made. -/
abbrev wide (i : S1024x2568.Idx) : S1024x2688.Idx := fun a => match a with
  | ⟨0, _⟩ => ⟨(i 0).val, (i 0).isLt⟩
  | ⟨1, _⟩ => ⟨Cert.InCols.col (i 1).val, Nat.lt_of_lt_of_le (Cert.InCols.col_lt (i 1).isLt) (show 2568 ≤ 2688 by decide)⟩

theorem gather_apply (y : FVec Ideal S1024x2688 .f32) (i : S1024x2568.Idx) : gather y i = y (wide i) :=
  Cert.InCols.gather_apply y slices_S1024x2688_S1024x1536_0_0 slices_S1024x2688_S1024x8_0_2560 slices_S1024x2688_S1024x1024_0_1536
    concatenates_S1024x1536_S1024x8_S1024x1024_S1024x2568_d1 i (wide i) rfl rfl

/-- Where the two factors of the result are read. -/
abbrev lix' (i : S1024x2568.Idx) (k : Fin 2176) : S2176x1024.Idx := fun a => match a with
  | ⟨0, _⟩ => ⟨k.val, k.isLt⟩
  | ⟨1, _⟩ => ⟨(i 0).val, (i 0).isLt⟩
abbrev rix' (i : S1024x2568.Idx) (k : Fin 2176) : S2176x2568.Idx := fun a => match a with
  | ⟨0, _⟩ => ⟨k.val, k.isLt⟩
  | ⟨1, _⟩ => ⟨(i 1).val, (i 1).isLt⟩

/-- The result: the product in reference.py's order of the columns. -/
def res (c : Dev nD) : FVec Ideal S1024x2568 .f32 := fun i => (∑ k : Fin 2176, (nOf m c (lix' i k) : EReal) * (ctOf m c (rix' i k) : EReal))

theorem res_apply (c : Dev nD) (i : S1024x2568.Idx) : gather (G m c) i = res m c i := by
  rw [gather_apply]
  exact Finset.sum_congr rfl fun k _ => congrArg₂ (fun a b : EReal => a * b) rfl (ctSp_apply m c _ _ rfl rfl)

end Cert.Kernel11Ideal.Prod

namespace Cert.Proof

open Idealize.ShloMosaic Idealize.ShloMosaic.TcCoe Idealize.SL.Sem

theorem frame_kernel11 : Cert.quiescent_Kernel11 := fun m ρ _ => Cert.Kernel11.Gen.frame m ρ
theorem frame_kernel11Ideal : Cert.quiescent_Kernel11Ideal := fun m ρ _ => Cert.Kernel11Ideal.Gen.frame m ρ
theorem frame_reference11 : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

/-- From memories with the same arguments, the kernel's product is the reference's. -/
theorem algebraic11 : Cert.algebraic_Kernel11Ideal_Reference11Ideal := by
  intro m g m' g' _ hm
  refine ⟨fun c i => Cert.Kernel11Ideal.Prod.res m c i, ?_, ?_⟩
  · refine (θ_run Cert.Kernel11Ideal.defs _ _).mono (fun r h c => ?_)
      (θ_run_and (Cert.Kernel11Ideal.Prod.run_result m g) (Cert.Kernel11Ideal.Gen.unchanged (F := Ideal) m g))
    exact ⟨(h.1 c).trans (funext fun i => Cert.Kernel11Ideal.Prod.res_apply m c i), h.2 c⟩
  · refine (θ_run Cert.Reference11Ideal.defs _ _).mono (fun r h c => ?_) (Cert.Reference11Ideal.Value.run (F := Ideal) m' g')
    refine ⟨(h c).1.trans ?_, (h c).2⟩
    rw [(hm c).1, (hm c).2.2]
    exact (Cert.Reference11Ideal.Read.val_main_v2_eq _ _).trans (funext fun i =>
      (Cert.Reference11Ideal.Read.val_main_v2_apply _ _ i).trans
        ((Cert.Reference11Ideal.Read.val_main_v1_apply _ _ _).trans (Finset.sum_congr rfl fun k _ => mul_comm _ _)))

end Cert.Proof

end
-- ==== Proof.Prod12.lean ====
/- The input projection: block by block the kernel leaves the product, and it is the reference's. -/
module

public import proofs.«01_k».proof.Defs
public import proofs.«01_k».proof.Proof.InCols
public import proofs.«01_k».proof.Proof.Gen.Kernel12.Frame
public import proofs.«01_k».proof.Proof.Gen.Kernel12Ideal.Frame
public import proofs.«01_k».proof.Proof.Gen.Reference12Ideal.Read
public import Idealize.ShloMosaic.Lib.Pipeline.ValueKit
public import Idealize.ShloMosaic.Lib.ValueIdxCore
public import Idealize.ShloMosaic.Lib.Quiescent
public import Idealize.ShloMosaic.Lib.Claim

@[expose] public section

set_option maxRecDepth 16384

noncomputable section

namespace Cert.Kernel12Ideal.Prod

open Cert.Kernel12Ideal Cert.Kernel12Ideal.Gen
open Idealize.ShloMosaic Idealize.ShloMosaic.TcCoe Idealize.SL.Sem Idealize.ShloMosaic.StableHlo
open Idealize.ShloMosaic.Pipeline (Dat Cfg)
open scoped BigOperators

variable (m : (ℓ : Loc nD τ sig) → Buf (Elt Ideal) ℓ)

/-- Where the left factor is read. -/
abbrev lix (i : S2176x2688.Idx) (k : Fin 1024) : S2176x1024.Idx := fun a => match a with
  | ⟨0, _⟩ => ⟨(i 0).val, (i 0).isLt⟩
  | ⟨1, _⟩ => ⟨k.val, k.isLt⟩
/-- Where the right factor is read. -/
abbrev rix (i : S2176x2688.Idx) (k : Fin 1024) : S1024x2688.Idx := fun a => match a with
  | ⟨0, _⟩ => ⟨k.val, k.isLt⟩
  | ⟨1, _⟩ => ⟨(i 1).val, (i 1).isLt⟩
/-- Where a block's left factor is read. -/
abbrev blix (i : S1088x896.Idx) (k : Fin 1024) : S1088x1024.Idx := fun a => match a with
  | ⟨0, _⟩ => ⟨(i 0).val, (i 0).isLt⟩
  | ⟨1, _⟩ => ⟨k.val, k.isLt⟩
/-- Where a block's right factor is read. -/
abbrev brix (i : S1088x896.Idx) (k : Fin 1024) : S1024x896.Idx := fun a => match a with
  | ⟨0, _⟩ => ⟨k.val, k.isLt⟩
  | ⟨1, _⟩ => ⟨(i 1).val, (i 1).isLt⟩

/-- The two factors, as launched. -/
def nOf (c : Dev nD) : FVec Ideal S2176x1024 .f32 := m ((c : Thread nD τ).loc main_arg0)
def wOf (c : Dev nD) : FVec Ideal S1024x2568 .f32 := m ((c : Thread nD τ).loc main_arg1)

/-- What the call finds: a cast leaves every number as it is. -/
theorem V_n (c : Dev nD) : V m c main_v0 = truncf .bf16 (nOf m c) bitsLt_bf16_f32 := by
  unfold V V0 hostOps0 nOf; after_results_simp; rfl

/-- The weights spread, as the call finds it. -/
def wSp (c : Dev nD) : FVec Ideal S1024x2688 .bf16 := V m c main_v6

theorem wSp_eq (c : Dev nD) : wSp m c = concatenate S1024x2688 1
    [⟨S1024x1536, extractStridedSlice S1024x1536 ![0, 0] (truncf .bf16 (wOf m c) bitsLt_bf16_f32 : FVec Ideal S1024x2568 .bf16) slices_S1024x2568_S1024x1536_0_0⟩,
      ⟨S1024x1024, extractStridedSlice S1024x1024 ![0, 1544] (truncf .bf16 (wOf m c) bitsLt_bf16_f32 : FVec Ideal S1024x2568 .bf16) slices_S1024x2568_S1024x1024_0_1544⟩,
      ⟨S1024x8, extractStridedSlice S1024x8 ![0, 1536] (truncf .bf16 (wOf m c) bitsLt_bf16_f32 : FVec Ideal S1024x2568 .bf16) slices_S1024x2568_S1024x8_0_1536⟩,
      ⟨S1024x120, (broadcastInDim S1024x120 ![] bcast_S_S1024x120 (constant (F := Ideal) S_ .bf16 0x0000#16))⟩] concatenates_S1024x1536_S1024x1024_S1024x8_S1024x120_S1024x2688_d1 := by
  unfold wSp V V0 hostOps0 wOf; after_results_simp; rfl

/-- Its columns are the launched ones, -/
theorem wSp_apply (c : Dev nD) (y : S1024x2688.Idx) (i : S1024x2568.Idx) (h0 : (y 0).val = (i 0).val) (h1 : (y 1).val = Cert.InCols.col (i 1).val) :
    (wSp m c y : EReal) = wOf m c i := by
  rw [wSp_eq]
  exact Cert.InCols.spread_apply (truncf .bf16 (wOf m c) bitsLt_bf16_f32 : FVec Ideal S1024x2568 .bf16) _
    slices_S1024x2568_S1024x1536_0_0 slices_S1024x2568_S1024x1024_0_1544 slices_S1024x2568_S1024x8_0_1536 concatenates_S1024x1536_S1024x1024_S1024x8_S1024x120_S1024x2688_d1 y i h0 h1

/-- and zeros. -/
theorem wSp_rest (c : Dev nD) (y : S1024x2688.Idx) (h1 : 2568 ≤ (y 1).val) : (wSp m c y : EReal) = 0 := by
  rw [wSp_eq]
  exact Cert.InCols.spread_rest (truncf .bf16 (wOf m c) bitsLt_bf16_f32 : FVec Ideal S1024x2568 .bf16) _ (0 : EReal) (fun w => (show Ideal.ofBits .bf16 0x0000#16 = 0 by simp [Ideal.ofBits, Ideal.ieee]))
    slices_S1024x2568_S1024x1536_0_0 slices_S1024x2568_S1024x1024_0_1544 slices_S1024x2568_S1024x8_0_1536 concatenates_S1024x1536_S1024x1024_S1024x8_S1024x120_S1024x2688_d1 y h1

/-- A block's product, a sum over the contracted axis. -/
theorem pay_apply (X : Vec Ideal S1088x1024 .bf16) (Y : Vec Ideal S1024x896 .bf16) (i : S1088x896.Idx) :
    (k0_pay1 X Y i : EReal) = (∑ k : Fin 1024, (X (blix i k) : EReal) * (Y (brix i k) : EReal)) := by
  unfold k0_pay1
  simp only [shapeCast_self]
  show FloatOps.matmul (φ₁ := .bf16) (φ₂ := .bf16) dot_S1088x1024_S1024x896_S1088x896_1_0_0_1_n_n none X Y (constant (F := Ideal) S1088x896 .f32 0x00000000#32) i = _
  rw [Ideal.matmul_constant_zero_apply, ← Equiv.sum_comp (ValueIdx.contrEquiv1 dot_S1088x1024_S1024x896_S1088x896_1_0_0_1_n_n 1024 rfl rfl).symm]
  refine Finset.sum_congr rfl fun k _ => ?_
  have hk := ValueIdx.contrEquiv1_symm_val dot_S1088x1024_S1024x896_S1088x896_1_0_0_1_n_n 1024 rfl rfl k
  have el : dot_S1088x1024_S1024x896_S1088x896_1_0_0_1_n_n.lhsIdx i ((ValueIdx.contrEquiv1 dot_S1088x1024_S1024x896_S1088x896_1_0_0_1_n_n 1024 rfl rfl).symm k) = blix i k := by
    funext x; apply Fin.ext
    match x with
    | ⟨0, _⟩ => exact rfl
    | ⟨1, _⟩ => exact hk
  have er : dot_S1088x1024_S1024x896_S1088x896_1_0_0_1_n_n.rhsIdx i ((ValueIdx.contrEquiv1 dot_S1088x1024_S1024x896_S1088x896_1_0_0_1_n_n 1024 rfl rfl).symm k) = brix i k := by
    funext x; apply Fin.ext
    match x with
    | ⟨0, _⟩ => exact hk
    | ⟨1, _⟩ => exact rfl
  rw [el, er]

/-- Which blocks each point of the grid reads and writes. -/
theorem idx0 : ∀ t : Fin cfg0.N, win0_0.index t = ![t.val / 3, 0] := (by decide +kernel : ∀ t : Fin grid0.N, _)
theorem idx1 : ∀ t : Fin cfg0.N, win0_1.index t = ![0, t.val % 3] := (by decide +kernel : ∀ t : Fin grid0.N, _)
theorem idx2 : ∀ t : Fin cfg0.N, win0_2.index t = ![t.val / 3, t.val % 3] := (by decide +kernel : ∀ t : Fin grid0.N, _)

/-- The product. -/
def G (c : Dev nD) : FVec Ideal S2176x2688 .f32 := fun i =>
  (∑ k : Fin 1024, (nOf m c (lix i k) : EReal) * (wSp m c (rix i k) : EReal))

theorem final (c : Dev nD) : (dats m 0 c).arrAt 2 cfg0.N = G m c := by
  refine (dats m 0 c).arrAt_eq_of_covers 2 _ (by decide +kernel) fun t hf y => ?_
  blk_simp
  rw [after0_2]
  frame_out
  refine (pay_apply _ _ y).trans (Finset.sum_congr rfl fun k _ => congrArg₂ (· * ·) ?_ ?_)
  · blk_simp [iblk]
    refine (congrFun (V_n m c) _).trans (congrArg (nOf m c) ?_)
    blk_ext [idx0, idx2]
  · blk_simp [iblk]
    refine congrArg (wSp m c) ?_
    blk_ext [idx1, idx2]

theorem arrRef_inj : Function.Injective (Pipeline.arrRef spec0) := by decide

/-- The buffers after the kernel, before the host lines that follow it. -/
abbrev W0 (c : Dev nD) : Valuation τ sig (Elt Ideal) :=
  Pipeline.withArrays spec0 c (V0 m c) fun w => (dats m 0 c).arrAt w cfg0.N

theorem W0_2 (c : Dev nD) : W0 m c (Proc.devRef .tc main_v7) = G m c :=
  (Pipeline.withArrays_arr spec0 arrRef_inj c (V0 m c) _ 2).trans (final m c)

/-- The columns taken into reference.py's order. -/
def gather (y : FVec Ideal S2176x2688 .f32) : FVec Ideal S2176x2568 .f32 := concatenate S2176x2568 1
    [⟨S2176x1536, extractStridedSlice S2176x1536 ![0, 0] y slices_S2176x2688_S2176x1536_0_0⟩,
      ⟨S2176x8, extractStridedSlice S2176x8 ![0, 2560] y slices_S2176x2688_S2176x8_0_2560⟩,
      ⟨S2176x1024, extractStridedSlice S2176x1024 ![0, 1536] y slices_S2176x2688_S2176x1024_0_1536⟩] concatenates_S2176x1536_S2176x8_S2176x1024_S2176x2568_d1

set_option maxHeartbeats 4000000 in
theorem tail (c : Dev nD) : Pipeline.afterTail₀ cfgs (dats m) 0 (V0 m) [hostOps1] c main_v11 = gather (G m c) := by
  have e : Pipeline.afterTail₀ cfgs (dats m) 0 (V0 m) [hostOps1] c main_v11
      = StableHlo.after hostOps1 (W0 m c) (Proc.devRef .tc main_v11) := by
    unfold Pipeline.afterTail₀
    simp only [List.flatten_cons, List.flatten_nil, List.append_nil]
  rw [e, ← W0_2 m c]
  generalize W0 m c = W
  simp only [hostOps1]
  after_results_simp
  rfl

/-- The program's result. -/
theorem run_result (ρ : Dev nD → PrngReg) : θ_run defs (onTc (τ := τ) (main (F := Ideal))) ⟨m, fun _ => 0, ρ⟩ (fun r => ∀ c : Dev nD,
      r.2.mem ((c.tc : Thread nD τ).loc main_v11) = gather (G m c)) :=
  (θ_run defs _ _).mono (fun _ h c =>
    ((h c).2 main_v11 (Pipeline.mem_restRefs_of main_v11 (by decide) (by decide))).trans (tail m c)) (run_main m ρ)

/-- Where a column of the result is made. -/
abbrev wide (i : S2176x2568.Idx) : S2176x2688.Idx := fun a => match a with
  | ⟨0, _⟩ => ⟨(i 0).val, (i 0).isLt⟩
  | ⟨1, _⟩ => ⟨Cert.InCols.col (i 1).val, Nat.lt_of_lt_of_le (Cert.InCols.col_lt (i 1).isLt) (show 2568 ≤ 2688 by decide)⟩

theorem gather_apply (y : FVec Ideal S2176x2688 .f32) (i : S2176x2568.Idx) : gather y i = y (wide i) :=
  Cert.InCols.gather_apply y slices_S2176x2688_S2176x1536_0_0 slices_S2176x2688_S2176x8_0_2560 slices_S2176x2688_S2176x1024_0_1536
    concatenates_S2176x1536_S2176x8_S2176x1024_S2176x2568_d1 i (wide i) rfl rfl

/-- Where the two factors of the result are read. -/
abbrev lix' (i : S2176x2568.Idx) (k : Fin 1024) : S2176x1024.Idx := fun a => match a with
  | ⟨0, _⟩ => ⟨(i 0).val, (i 0).isLt⟩
  | ⟨1, _⟩ => ⟨k.val, k.isLt⟩
abbrev rix' (i : S2176x2568.Idx) (k : Fin 1024) : S1024x2568.Idx := fun a => match a with
  | ⟨0, _⟩ => ⟨k.val, k.isLt⟩
  | ⟨1, _⟩ => ⟨(i 1).val, (i 1).isLt⟩

/-- The result: the product in reference.py's order of the columns. -/
def res (c : Dev nD) : FVec Ideal S2176x2568 .f32 := fun i => (∑ k : Fin 1024, (nOf m c (lix' i k) : EReal) * (wOf m c (rix' i k) : EReal))

theorem res_apply (c : Dev nD) (i : S2176x2568.Idx) : gather (G m c) i = res m c i := by
  rw [gather_apply]
  exact Finset.sum_congr rfl fun k _ => congrArg₂ (fun a b : EReal => a * b) rfl (wSp_apply m c _ _ rfl rfl)

end Cert.Kernel12Ideal.Prod

namespace Cert.Proof

open Idealize.ShloMosaic Idealize.ShloMosaic.TcCoe Idealize.SL.Sem

theorem frame_kernel12 : Cert.quiescent_Kernel12 := fun m ρ _ => Cert.Kernel12.Gen.frame m ρ
theorem frame_kernel12Ideal : Cert.quiescent_Kernel12Ideal := fun m ρ _ => Cert.Kernel12Ideal.Gen.frame m ρ
theorem frame_reference12 : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

/-- From memories with the same arguments, the kernel's product is the reference's. -/
theorem algebraic12 : Cert.algebraic_Kernel12Ideal_Reference12Ideal := by
  intro m g m' g' _ hm
  refine ⟨fun c i => Cert.Kernel12Ideal.Prod.res m c i, ?_, ?_⟩
  · refine (θ_run Cert.Kernel12Ideal.defs _ _).mono (fun r h c => ?_)
      (θ_run_and (Cert.Kernel12Ideal.Prod.run_result m g) (Cert.Kernel12Ideal.Gen.unchanged (F := Ideal) m g))
    exact ⟨(h.1 c).trans (funext fun i => Cert.Kernel12Ideal.Prod.res_apply m c i), h.2 c⟩
  · refine (θ_run Cert.Reference12Ideal.defs _ _).mono (fun r h c => ?_) (Cert.Reference12Ideal.Value.run (F := Ideal) m' g')
    refine ⟨(h c).1.trans ?_, (h c).2⟩
    rw [(hm c).1, (hm c).2]
    exact (Cert.Reference12Ideal.Read.val_main_v0_eq _ _).trans (funext fun i => Cert.Reference12Ideal.Read.val_main_v0_apply _ _ i)

end Cert.Proof

end
-- ==== Proof.Prod13.lean ====
/- The gradient of the input projection's input: block by block the kernel leaves the product, and it is the reference's. -/
module

public import proofs.«01_k».proof.Defs
public import proofs.«01_k».proof.Proof.InCols
public import proofs.«01_k».proof.Proof.Gen.Kernel13.Frame
public import proofs.«01_k».proof.Proof.Gen.Kernel13Ideal.Value
public import proofs.«01_k».proof.Proof.Gen.Reference13Ideal.Read
public import Idealize.ShloMosaic.Lib.Pipeline.ValueKit
public import Idealize.ShloMosaic.Lib.ValueIdxCore
public import Idealize.ShloMosaic.Lib.Quiescent
public import Idealize.ShloMosaic.Lib.Claim

@[expose] public section

set_option maxRecDepth 16384

noncomputable section

namespace Cert.Kernel13Ideal.Prod

open Cert.Kernel13Ideal Cert.Kernel13Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- Where the left factor is read. -/
abbrev lix (i : S2176x1024.Idx) (k : Fin 2688) : S2176x2688.Idx := fun a => match a with
  | ⟨0, _⟩ => ⟨(i 0).val, (i 0).isLt⟩
  | ⟨1, _⟩ => ⟨k.val, k.isLt⟩
/-- Where the right factor is read. -/
abbrev rix (i : S2176x1024.Idx) (k : Fin 2688) : S1024x2688.Idx := fun a => match a with
  | ⟨0, _⟩ => ⟨(i 1).val, (i 1).isLt⟩
  | ⟨1, _⟩ => ⟨k.val, k.isLt⟩
/-- Where a block's left factor is read. -/
abbrev blix (i : S1088x1024.Idx) (k : Fin 2688) : S1088x2688.Idx := fun a => match a with
  | ⟨0, _⟩ => ⟨(i 0).val, (i 0).isLt⟩
  | ⟨1, _⟩ => ⟨k.val, k.isLt⟩
/-- Where a block's right factor is read. -/
abbrev brix (i : S1088x1024.Idx) (k : Fin 2688) : S1024x2688.Idx := fun a => match a with
  | ⟨0, _⟩ => ⟨(i 1).val, (i 1).isLt⟩
  | ⟨1, _⟩ => ⟨k.val, k.isLt⟩

/-- The two factors, as launched. -/
def ctOf (c : Dev nD) : FVec Ideal S2176x2568 .f32 := m ((c : Thread nD τ).loc main_arg2)
def wOf (c : Dev nD) : FVec Ideal S1024x2568 .f32 := m ((c : Thread nD τ).loc main_arg1)

/-- The cotangent spread, as the call finds it. -/
def ctSp (c : Dev nD) : FVec Ideal S2176x2688 .bf16 := V m c main_v5

theorem ctSp_eq (c : Dev nD) : ctSp m c = concatenate S2176x2688 1
    [⟨S2176x1536, extractStridedSlice S2176x1536 ![0, 0] (truncf .bf16 (ctOf m c) bitsLt_bf16_f32 : FVec Ideal S2176x2568 .bf16) slices_S2176x2568_S2176x1536_0_0⟩,
      ⟨S2176x1024, extractStridedSlice S2176x1024 ![0, 1544] (truncf .bf16 (ctOf m c) bitsLt_bf16_f32 : FVec Ideal S2176x2568 .bf16) slices_S2176x2568_S2176x1024_0_1544⟩,
      ⟨S2176x8, extractStridedSlice S2176x8 ![0, 1536] (truncf .bf16 (ctOf m c) bitsLt_bf16_f32 : FVec Ideal S2176x2568 .bf16) slices_S2176x2568_S2176x8_0_1536⟩,
      ⟨S2176x120, (broadcastInDim S2176x120 ![] bcast_S_S2176x120 (constant (F := Ideal) S_ .bf16 0x0000#16))⟩] concatenates_S2176x1536_S2176x1024_S2176x8_S2176x120_S2176x2688_d1 := by
  unfold ctSp V hostOps0 ctOf; after_results_simp; rfl

/-- Its columns are the launched ones, -/
theorem ctSp_apply (c : Dev nD) (y : S2176x2688.Idx) (i : S2176x2568.Idx) (h0 : (y 0).val = (i 0).val) (h1 : (y 1).val = Cert.InCols.col (i 1).val) :
    (ctSp m c y : EReal) = ctOf m c i := by
  rw [ctSp_eq]
  exact Cert.InCols.spread_apply (truncf .bf16 (ctOf m c) bitsLt_bf16_f32 : FVec Ideal S2176x2568 .bf16) _
    slices_S2176x2568_S2176x1536_0_0 slices_S2176x2568_S2176x1024_0_1544 slices_S2176x2568_S2176x8_0_1536 concatenates_S2176x1536_S2176x1024_S2176x8_S2176x120_S2176x2688_d1 y i h0 h1

/-- and zeros. -/
theorem ctSp_rest (c : Dev nD) (y : S2176x2688.Idx) (h1 : 2568 ≤ (y 1).val) : (ctSp m c y : EReal) = 0 := by
  rw [ctSp_eq]
  exact Cert.InCols.spread_rest (truncf .bf16 (ctOf m c) bitsLt_bf16_f32 : FVec Ideal S2176x2568 .bf16) _ (0 : EReal) (fun w => (show Ideal.ofBits .bf16 0x0000#16 = 0 by simp [Ideal.ofBits, Ideal.ieee]))
    slices_S2176x2568_S2176x1536_0_0 slices_S2176x2568_S2176x1024_0_1544 slices_S2176x2568_S2176x8_0_1536 concatenates_S2176x1536_S2176x1024_S2176x8_S2176x120_S2176x2688_d1 y h1

/-- The weights spread, as the call finds it. -/
def wSp (c : Dev nD) : FVec Ideal S1024x2688 .bf16 := V m c main_v11

theorem wSp_eq (c : Dev nD) : wSp m c = concatenate S1024x2688 1
    [⟨S1024x1536, extractStridedSlice S1024x1536 ![0, 0] (truncf .bf16 (wOf m c) bitsLt_bf16_f32 : FVec Ideal S1024x2568 .bf16) slices_S1024x2568_S1024x1536_0_0⟩,
      ⟨S1024x1024, extractStridedSlice S1024x1024 ![0, 1544] (truncf .bf16 (wOf m c) bitsLt_bf16_f32 : FVec Ideal S1024x2568 .bf16) slices_S1024x2568_S1024x1024_0_1544⟩,
      ⟨S1024x8, extractStridedSlice S1024x8 ![0, 1536] (truncf .bf16 (wOf m c) bitsLt_bf16_f32 : FVec Ideal S1024x2568 .bf16) slices_S1024x2568_S1024x8_0_1536⟩,
      ⟨S1024x120, (broadcastInDim S1024x120 ![] bcast_S_S1024x120 (constant (F := Ideal) S_ .bf16 0x0000#16))⟩] concatenates_S1024x1536_S1024x1024_S1024x8_S1024x120_S1024x2688_d1 := by
  unfold wSp V hostOps0 wOf; after_results_simp; rfl

/-- Its columns are the launched ones, -/
theorem wSp_apply (c : Dev nD) (y : S1024x2688.Idx) (i : S1024x2568.Idx) (h0 : (y 0).val = (i 0).val) (h1 : (y 1).val = Cert.InCols.col (i 1).val) :
    (wSp m c y : EReal) = wOf m c i := by
  rw [wSp_eq]
  exact Cert.InCols.spread_apply (truncf .bf16 (wOf m c) bitsLt_bf16_f32 : FVec Ideal S1024x2568 .bf16) _
    slices_S1024x2568_S1024x1536_0_0 slices_S1024x2568_S1024x1024_0_1544 slices_S1024x2568_S1024x8_0_1536 concatenates_S1024x1536_S1024x1024_S1024x8_S1024x120_S1024x2688_d1 y i h0 h1

/-- and zeros. -/
theorem wSp_rest (c : Dev nD) (y : S1024x2688.Idx) (h1 : 2568 ≤ (y 1).val) : (wSp m c y : EReal) = 0 := by
  rw [wSp_eq]
  exact Cert.InCols.spread_rest (truncf .bf16 (wOf m c) bitsLt_bf16_f32 : FVec Ideal S1024x2568 .bf16) _ (0 : EReal) (fun w => (show Ideal.ofBits .bf16 0x0000#16 = 0 by simp [Ideal.ofBits, Ideal.ieee]))
    slices_S1024x2568_S1024x1536_0_0 slices_S1024x2568_S1024x1024_0_1544 slices_S1024x2568_S1024x8_0_1536 concatenates_S1024x1536_S1024x1024_S1024x8_S1024x120_S1024x2688_d1 y h1

/-- A block's product, a sum over the contracted axis. -/
theorem pay_apply (X : Vec Ideal S1088x2688 .bf16) (Y : Vec Ideal S1024x2688 .bf16) (i : S1088x1024.Idx) :
    (k0_pay1 X Y i : EReal) = (∑ k : Fin 2688, (X (blix i k) : EReal) * (Y (brix i k) : EReal)) := by
  unfold k0_pay1
  simp only [shapeCast_self]
  show FloatOps.matmul (φ₁ := .bf16) (φ₂ := .bf16) dot_S1088x2688_S1024x2688_S1088x1024_1_1_0_0_n_n none X Y (constant (F := Ideal) S1088x1024 .f32 0x00000000#32) i = _
  rw [Ideal.matmul_constant_zero_apply, ← Equiv.sum_comp (ValueIdx.contrEquiv1 dot_S1088x2688_S1024x2688_S1088x1024_1_1_0_0_n_n 2688 rfl rfl).symm]
  refine Finset.sum_congr rfl fun k _ => ?_
  have hk := ValueIdx.contrEquiv1_symm_val dot_S1088x2688_S1024x2688_S1088x1024_1_1_0_0_n_n 2688 rfl rfl k
  have el : dot_S1088x2688_S1024x2688_S1088x1024_1_1_0_0_n_n.lhsIdx i ((ValueIdx.contrEquiv1 dot_S1088x2688_S1024x2688_S1088x1024_1_1_0_0_n_n 2688 rfl rfl).symm k) = blix i k := by
    funext x; apply Fin.ext
    match x with
    | ⟨0, _⟩ => exact rfl
    | ⟨1, _⟩ => exact hk
  have er : dot_S1088x2688_S1024x2688_S1088x1024_1_1_0_0_n_n.rhsIdx i ((ValueIdx.contrEquiv1 dot_S1088x2688_S1024x2688_S1088x1024_1_1_0_0_n_n 2688 rfl rfl).symm k) = brix i k := by
    funext x; apply Fin.ext
    match x with
    | ⟨0, _⟩ => exact rfl
    | ⟨1, _⟩ => exact hk
  rw [el, er]

/-- Which blocks each point of the grid reads and writes. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The product. -/
def G (c : Dev nD) : FVec Ideal S2176x1024 .f32 := fun i =>
  (∑ k : Fin 2688, (ctSp m c (lix i k) : EReal) * (wSp m c (rix i k) : EReal))

theorem final (c : Dev nD) : (dats m 0 c).arrAt 2 cfg0.N = G m c := by
  refine (dats m 0 c).arrAt_eq_of_covers 2 _ (by decide +kernel) fun t hf y => ?_
  blk_simp
  rw [after0_2]
  frame_out
  refine (pay_apply _ _ y).trans (Finset.sum_congr rfl fun k _ => congrArg₂ (· * ·) ?_ ?_)
  · blk_simp [iblk]
    refine congrArg (ctSp m c) ?_
    blk_ext [idx0, idx2]
  · blk_simp [iblk]
    refine congrArg (wSp m c) ?_
    blk_ext [idx1, idx2]

/-- Where the two factors are read among the launched columns. -/
abbrev lix' (i : S2176x1024.Idx) (k : Fin 2568) : S2176x2568.Idx := fun a => match a with
  | ⟨0, _⟩ => ⟨(i 0).val, (i 0).isLt⟩
  | ⟨1, _⟩ => ⟨k.val, k.isLt⟩
abbrev rix' (i : S2176x1024.Idx) (k : Fin 2568) : S1024x2568.Idx := fun a => match a with
  | ⟨0, _⟩ => ⟨(i 1).val, (i 1).isLt⟩
  | ⟨1, _⟩ => ⟨k.val, k.isLt⟩

/-- The result, a sum over the launched columns: the zeros give nothing. -/
def res (c : Dev nD) : FVec Ideal S2176x1024 .f32 := fun i => (∑ k : Fin 2568, (ctOf m c (lix' i k) : EReal) * (wOf m c (rix' i k) : EReal))

theorem res_apply (c : Dev nD) (i : S2176x1024.Idx) : G m c i = res m c i := by
  refine Cert.InCols.sum_cols (R := EReal) _ _ (fun k hk => ?_) (fun k l hl => ?_)
  · exact (congrArg (fun a : EReal => a * (wSp m c (rix i k) : EReal)) (ctSp_rest m c _ hk)).trans (zero_mul _)
  · exact congrArg₂ (fun a b : EReal => a * b) (ctSp_apply m c _ _ rfl hl) (wSp_apply m c _ _ rfl hl)

end Cert.Kernel13Ideal.Prod

namespace Cert.Proof

open Idealize.ShloMosaic Idealize.ShloMosaic.TcCoe Idealize.SL.Sem

theorem frame_kernel13 : Cert.quiescent_Kernel13 := fun m ρ _ => Cert.Kernel13.Gen.frame m ρ
theorem frame_kernel13Ideal : Cert.quiescent_Kernel13Ideal := fun m ρ _ => Cert.Kernel13Ideal.Gen.frame m ρ
theorem frame_reference13 : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

/-- From memories with the same arguments, the kernel's product is the reference's. -/
theorem algebraic13 : Cert.algebraic_Kernel13Ideal_Reference13Ideal := by
  intro m g m' g' _ hm
  refine ⟨fun c => Cert.Kernel13Ideal.Prod.res m c, ?_, ?_⟩
  · refine (θ_run Cert.Kernel13Ideal.defs _ _).mono (fun r h c => ?_) (Cert.Kernel13Ideal.Value.run_blocks (F := Ideal) m g)
    exact ⟨(h c).1.trans ((Cert.Kernel13Ideal.Prod.final m c).trans (funext fun i => Cert.Kernel13Ideal.Prod.res_apply m c i)), (h c).2⟩
  · refine (θ_run Cert.Reference13Ideal.defs _ _).mono (fun r h c => ?_) (Cert.Reference13Ideal.Value.run (F := Ideal) m' g')
    refine ⟨(h c).1.trans ?_, (h c).2⟩
    rw [(hm c).2.1, (hm c).2.2]
    exact (Cert.Reference13Ideal.Read.val_main_v1_eq _ _).trans (funext fun i => Cert.Reference13Ideal.Read.val_main_v1_apply _ _ i)

end Cert.Proof

end
-- ==== Proof.Update14.lean ====
/- The update of w_up: what the kernel leaves is the reference's at every position. -/
module

public import proofs.«01_k».proof.Defs
public import proofs.«01_k».proof.Proof.Gen.Kernel14.Frame
public import proofs.«01_k».proof.Proof.Gen.Kernel14Ideal.Value
public import proofs.«01_k».proof.Proof.Gen.Reference14Ideal.Read
public import Idealize.ShloMosaic.Lib.Quiescent
public import Idealize.ShloMosaic.Lib.Claim

@[expose] public section

noncomputable section

namespace Cert.Proof

open Idealize.ShloMosaic Idealize.ShloMosaic.TcCoe Idealize.SL.Sem

theorem frame_kernel14 : Cert.quiescent_Kernel14 := fun m ρ _ => Cert.Kernel14.Gen.frame m ρ
theorem frame_kernel14Ideal : Cert.quiescent_Kernel14Ideal := fun m ρ _ => Cert.Kernel14Ideal.Gen.frame m ρ
theorem frame_reference14 : Cert.quiescent_Reference14Ideal := fun m ρ _ =>
  (θ_run Cert.Reference14Ideal.defs _ _).mono
    (fun r h => ⟨fun c => (h c).2.2.2, Idealize.ShloMosaic.sem_eq_zero_of_no_sems (by decide) r.2⟩)
    (Cert.Reference14Ideal.Value.run (F := Ideal) m ρ)

/-- From memories with the same arguments: the step, the new first moment and the new second moment, each equal. -/
theorem algebraic14 : Cert.algebraic_Kernel14Ideal_Reference14Ideal := by
  intro m g m' g' _ hm
  refine ⟨_, _, _, Cert.Kernel14Ideal.Value.run (F := Ideal) m g, ?_⟩
  refine (θ_run Cert.Reference14Ideal.defs _ _).mono (fun r h c => ?_) (Cert.Reference14Ideal.Value.run (F := Ideal) m' g')
  refine ⟨(h c).1.trans ?_, (h c).2.1.trans ?_, (h c).2.2.1.trans ?_, (h c).2.2.2⟩
  · rw [(hm c).1, (hm c).2.1, (hm c).2.2.1, (hm c).2.2.2]
    refine (Cert.Reference14Ideal.Read.val_main_v23_eq _ _ _ _).trans (funext fun i => ?_)
    exact Cert.Reference14Ideal.Read.val_main_v23_apply _ _ _ _ i
  · rw [(hm c).2.1, (hm c).2.2.1]
    refine (Cert.Reference14Ideal.Read.val_main_v4_eq _ _).trans (funext fun i => ?_)
    exact Cert.Reference14Ideal.Read.val_main_v4_apply _ _ i
  · rw [(hm c).2.1, (hm c).2.2.2]
    refine (Cert.Reference14Ideal.Read.val_main_v10_eq _ _).trans (funext fun i => ?_)
    exact Cert.Reference14Ideal.Read.val_main_v10_apply _ _ i

end Cert.Proof

end
-- ==== Proof.Update15.lean ====
/- The update of w_down: what the kernel leaves is the reference's at every position. -/
module

public import proofs.«01_k».proof.Defs
public import proofs.«01_k».proof.Proof.Gen.Kernel15.Frame
public import proofs.«01_k».proof.Proof.Gen.Kernel15Ideal.Value
public import proofs.«01_k».proof.Proof.Gen.Reference15Ideal.Read
public import Idealize.ShloMosaic.Lib.Quiescent
public import Idealize.ShloMosaic.Lib.Claim

@[expose] public section

noncomputable section

namespace Cert.Proof

open Idealize.ShloMosaic Idealize.ShloMosaic.TcCoe Idealize.SL.Sem

theorem frame_kernel15 : Cert.quiescent_Kernel15 := fun m ρ _ => Cert.Kernel15.Gen.frame m ρ
theorem frame_kernel15Ideal : Cert.quiescent_Kernel15Ideal := fun m ρ _ => Cert.Kernel15Ideal.Gen.frame m ρ
theorem frame_reference15 : Cert.quiescent_Reference15Ideal := fun m ρ _ =>
  (θ_run Cert.Reference15Ideal.defs _ _).mono
    (fun r h => ⟨fun c => (h c).2.2.2, Idealize.ShloMosaic.sem_eq_zero_of_no_sems (by decide) r.2⟩)
    (Cert.Reference15Ideal.Value.run (F := Ideal) m ρ)

/-- From memories with the same arguments: the step, the new first moment and the new second moment, each equal. -/
theorem algebraic15 : Cert.algebraic_Kernel15Ideal_Reference15Ideal := by
  intro m g m' g' _ hm
  refine ⟨_, _, _, Cert.Kernel15Ideal.Value.run (F := Ideal) m g, ?_⟩
  refine (θ_run Cert.Reference15Ideal.defs _ _).mono (fun r h c => ?_) (Cert.Reference15Ideal.Value.run (F := Ideal) m' g')
  refine ⟨(h c).1.trans ?_, (h c).2.1.trans ?_, (h c).2.2.1.trans ?_, (h c).2.2.2⟩
  · rw [(hm c).1, (hm c).2.1, (hm c).2.2.1, (hm c).2.2.2]
    refine (Cert.Reference15Ideal.Read.val_main_v23_eq _ _ _ _).trans (funext fun i => ?_)
    exact Cert.Reference15Ideal.Read.val_main_v23_apply _ _ _ _ i
  · rw [(hm c).2.1, (hm c).2.2.1]
    refine (Cert.Reference15Ideal.Read.val_main_v4_eq _ _).trans (funext fun i => ?_)
    exact Cert.Reference15Ideal.Read.val_main_v4_apply _ _ i
  · rw [(hm c).2.1, (hm c).2.2.2]
    refine (Cert.Reference15Ideal.Read.val_main_v10_eq _ _).trans (funext fun i => ?_)
    exact Cert.Reference15Ideal.Read.val_main_v10_apply _ _ i

end Cert.Proof

end
-- ==== Proof.Update16.lean ====
/- The update of w_in: what the kernel leaves is the reference's at every position. -/
module

public import proofs.«01_k».proof.Defs
public import proofs.«01_k».proof.Proof.Gen.Kernel16.Frame
public import proofs.«01_k».proof.Proof.Gen.Kernel16Ideal.Value
public import proofs.«01_k».proof.Proof.Gen.Reference16Ideal.Read
public import Idealize.ShloMosaic.Lib.Quiescent
public import Idealize.ShloMosaic.Lib.Claim

@[expose] public section

noncomputable section

namespace Cert.Proof

open Idealize.ShloMosaic Idealize.ShloMosaic.TcCoe Idealize.SL.Sem

theorem frame_kernel16 : Cert.quiescent_Kernel16 := fun m ρ _ => Cert.Kernel16.Gen.frame m ρ
theorem frame_kernel16Ideal : Cert.quiescent_Kernel16Ideal := fun m ρ _ => Cert.Kernel16Ideal.Gen.frame m ρ
theorem frame_reference16 : Cert.quiescent_Reference16Ideal := fun m ρ _ =>
  (θ_run Cert.Reference16Ideal.defs _ _).mono
    (fun r h => ⟨fun c => (h c).2.2.2, Idealize.ShloMosaic.sem_eq_zero_of_no_sems (by decide) r.2⟩)
    (Cert.Reference16Ideal.Value.run (F := Ideal) m ρ)

/-- From memories with the same arguments: the step, the new first moment and the new second moment, each equal. -/
theorem algebraic16 : Cert.algebraic_Kernel16Ideal_Reference16Ideal := by
  intro m g m' g' _ hm
  refine ⟨_, _, _, Cert.Kernel16Ideal.Value.run (F := Ideal) m g, ?_⟩
  refine (θ_run Cert.Reference16Ideal.defs _ _).mono (fun r h c => ?_) (Cert.Reference16Ideal.Value.run (F := Ideal) m' g')
  refine ⟨(h c).1.trans ?_, (h c).2.1.trans ?_, (h c).2.2.1.trans ?_, (h c).2.2.2⟩
  · rw [(hm c).1, (hm c).2.1, (hm c).2.2.1, (hm c).2.2.2]
    refine (Cert.Reference16Ideal.Read.val_main_v23_eq _ _ _ _).trans (funext fun i => ?_)
    exact Cert.Reference16Ideal.Read.val_main_v23_apply _ _ _ _ i
  · rw [(hm c).2.1, (hm c).2.2.1]
    refine (Cert.Reference16Ideal.Read.val_main_v4_eq _ _).trans (funext fun i => ?_)
    exact Cert.Reference16Ideal.Read.val_main_v4_apply _ _ i
  · rw [(hm c).2.1, (hm c).2.2.2]
    refine (Cert.Reference16Ideal.Read.val_main_v10_eq _ _).trans (funext fun i => ?_)
    exact Cert.Reference16Ideal.Read.val_main_v10_apply _ _ i

end Cert.Proof

end
-- ==== Proof.Update17.lean ====
/- The update of w_out: what the kernel leaves is the reference's at every position. -/
module

public import proofs.«01_k».proof.Defs
public import proofs.«01_k».proof.Proof.Gen.Kernel17.Frame
public import proofs.«01_k».proof.Proof.Gen.Kernel17Ideal.Value
public import proofs.«01_k».proof.Proof.Gen.Reference17Ideal.Read
public import Idealize.ShloMosaic.Lib.Quiescent
public import Idealize.ShloMosaic.Lib.Claim

@[expose] public section

noncomputable section

namespace Cert.Proof

open Idealize.ShloMosaic Idealize.ShloMosaic.TcCoe Idealize.SL.Sem

theorem frame_kernel17 : Cert.quiescent_Kernel17 := fun m ρ _ => Cert.Kernel17.Gen.frame m ρ
theorem frame_kernel17Ideal : Cert.quiescent_Kernel17Ideal := fun m ρ _ => Cert.Kernel17Ideal.Gen.frame m ρ
theorem frame_reference17 : Cert.quiescent_Reference17Ideal := fun m ρ _ =>
  (θ_run Cert.Reference17Ideal.defs _ _).mono
    (fun r h => ⟨fun c => (h c).2.2.2, Idealize.ShloMosaic.sem_eq_zero_of_no_sems (by decide) r.2⟩)
    (Cert.Reference17Ideal.Value.run (F := Ideal) m ρ)

/-- From memories with the same arguments: the step, the new first moment and the new second moment, each equal. -/
theorem algebraic17 : Cert.algebraic_Kernel17Ideal_Reference17Ideal := by
  intro m g m' g' _ hm
  refine ⟨_, _, _, Cert.Kernel17Ideal.Value.run (F := Ideal) m g, ?_⟩
  refine (θ_run Cert.Reference17Ideal.defs _ _).mono (fun r h c => ?_) (Cert.Reference17Ideal.Value.run (F := Ideal) m' g')
  refine ⟨(h c).1.trans ?_, (h c).2.1.trans ?_, (h c).2.2.1.trans ?_, (h c).2.2.2⟩
  · rw [(hm c).1, (hm c).2.1, (hm c).2.2.1, (hm c).2.2.2]
    refine (Cert.Reference17Ideal.Read.val_main_v23_eq _ _ _ _).trans (funext fun i => ?_)
    exact Cert.Reference17Ideal.Read.val_main_v23_apply _ _ _ _ i
  · rw [(hm c).2.1, (hm c).2.2.1]
    refine (Cert.Reference17Ideal.Read.val_main_v4_eq _ _).trans (funext fun i => ?_)
    exact Cert.Reference17Ideal.Read.val_main_v4_apply _ _ i
  · rw [(hm c).2.1, (hm c).2.2.2]
    refine (Cert.Reference17Ideal.Read.val_main_v10_eq _ _).trans (funext fun i => ?_)
    exact Cert.Reference17Ideal.Read.val_main_v10_apply _ _ i

end Cert.Proof

end
-- ==== Proof.Update18.lean ====
/- The update of pool_w: what the kernel leaves is the reference's at every position. -/
module

public import proofs.«01_k».proof.Defs
public import proofs.«01_k».proof.Proof.Gen.Kernel18.Frame
public import proofs.«01_k».proof.Proof.Gen.Kernel18Ideal.Value
public import proofs.«01_k».proof.Proof.Gen.Reference18Ideal.Read
public import Idealize.ShloMosaic.Lib.Quiescent
public import Idealize.ShloMosaic.Lib.Claim

@[expose] public section

noncomputable section

namespace Cert.Proof

open Idealize.ShloMosaic Idealize.ShloMosaic.TcCoe Idealize.SL.Sem

theorem frame_kernel18 : Cert.quiescent_Kernel18 := fun m ρ _ => Cert.Kernel18.Gen.frame m ρ
theorem frame_kernel18Ideal : Cert.quiescent_Kernel18Ideal := fun m ρ _ => Cert.Kernel18Ideal.Gen.frame m ρ
theorem frame_reference18 : Cert.quiescent_Reference18Ideal := fun m ρ _ =>
  (θ_run Cert.Reference18Ideal.defs _ _).mono
    (fun r h => ⟨fun c => (h c).2.2.2, Idealize.ShloMosaic.sem_eq_zero_of_no_sems (by decide) r.2⟩)
    (Cert.Reference18Ideal.Value.run (F := Ideal) m ρ)

/-- From memories with the same arguments: the step, the new first moment and the new second moment, each equal. -/
theorem algebraic18 : Cert.algebraic_Kernel18Ideal_Reference18Ideal := by
  intro m g m' g' _ hm
  refine ⟨_, _, _, Cert.Kernel18Ideal.Value.run (F := Ideal) m g, ?_⟩
  refine (θ_run Cert.Reference18Ideal.defs _ _).mono (fun r h c => ?_) (Cert.Reference18Ideal.Value.run (F := Ideal) m' g')
  refine ⟨(h c).1.trans ?_, (h c).2.1.trans ?_, (h c).2.2.1.trans ?_, (h c).2.2.2⟩
  · rw [(hm c).1, (hm c).2.1, (hm c).2.2.1, (hm c).2.2.2]
    refine (Cert.Reference18Ideal.Read.val_main_v23_eq _ _ _ _).trans (funext fun i => ?_)
    exact Cert.Reference18Ideal.Read.val_main_v23_apply _ _ _ _ i
  · rw [(hm c).2.1, (hm c).2.2.1]
    refine (Cert.Reference18Ideal.Read.val_main_v4_eq _ _).trans (funext fun i => ?_)
    exact Cert.Reference18Ideal.Read.val_main_v4_apply _ _ i
  · rw [(hm c).2.1, (hm c).2.2.2]
    refine (Cert.Reference18Ideal.Read.val_main_v10_eq _ _).trans (funext fun i => ?_)
    exact Cert.Reference18Ideal.Read.val_main_v10_apply _ _ i

end Cert.Proof

end
-- ==== Proof.Update19.lean ====
/- The update of meta_tokens: what the kernel leaves is the reference's at every position. -/
module

public import proofs.«01_k».proof.Defs
public import proofs.«01_k».proof.Proof.Gen.Kernel19.Frame
public import proofs.«01_k».proof.Proof.Gen.Kernel19Ideal.Value
public import proofs.«01_k».proof.Proof.Gen.Reference19Ideal.Read
public import Idealize.ShloMosaic.Lib.Quiescent
public import Idealize.ShloMosaic.Lib.Claim

@[expose] public section

noncomputable section

namespace Cert.Proof

open Idealize.ShloMosaic Idealize.ShloMosaic.TcCoe Idealize.SL.Sem

theorem frame_kernel19 : Cert.quiescent_Kernel19 := fun m ρ _ => Cert.Kernel19.Gen.frame m ρ
theorem frame_kernel19Ideal : Cert.quiescent_Kernel19Ideal := fun m ρ _ => Cert.Kernel19Ideal.Gen.frame m ρ
theorem frame_reference19 : Cert.quiescent_Reference19Ideal := fun m ρ _ =>
  (θ_run Cert.Reference19Ideal.defs _ _).mono
    (fun r h => ⟨fun c => (h c).2.2.2, Idealize.ShloMosaic.sem_eq_zero_of_no_sems (by decide) r.2⟩)
    (Cert.Reference19Ideal.Value.run (F := Ideal) m ρ)

/-- From memories with the same arguments: the step, the new first moment and the new second moment, each equal. -/
theorem algebraic19 : Cert.algebraic_Kernel19Ideal_Reference19Ideal := by
  intro m g m' g' _ hm
  refine ⟨_, _, _, Cert.Kernel19Ideal.Value.run (F := Ideal) m g, ?_⟩
  refine (θ_run Cert.Reference19Ideal.defs _ _).mono (fun r h c => ?_) (Cert.Reference19Ideal.Value.run (F := Ideal) m' g')
  refine ⟨(h c).1.trans ?_, (h c).2.1.trans ?_, (h c).2.2.1.trans ?_, (h c).2.2.2⟩
  · rw [(hm c).1, (hm c).2.1, (hm c).2.2.1, (hm c).2.2.2]
    refine (Cert.Reference19Ideal.Read.val_main_v23_eq _ _ _ _).trans (funext fun i => ?_)
    exact Cert.Reference19Ideal.Read.val_main_v23_apply _ _ _ _ i
  · rw [(hm c).2.1, (hm c).2.2.1]
    refine (Cert.Reference19Ideal.Read.val_main_v4_eq _ _).trans (funext fun i => ?_)
    exact Cert.Reference19Ideal.Read.val_main_v4_apply _ _ i
  · rw [(hm c).2.1, (hm c).2.2.2]
    refine (Cert.Reference19Ideal.Read.val_main_v10_eq _ _).trans (funext fun i => ?_)
    exact Cert.Reference19Ideal.Read.val_main_v10_apply _ _ i

end Cert.Proof

end
-- ==== Proof.Update20.lean ====
/- The update of mix_norm_even and final_norm: what the kernel leaves is the reference's at every position. -/
module

public import proofs.«01_k».proof.Defs
public import proofs.«01_k».proof.Proof.Gen.Kernel20.Frame
public import proofs.«01_k».proof.Proof.Gen.Kernel20Ideal.Value
public import proofs.«01_k».proof.Proof.Gen.Reference20Ideal.Read
public import Idealize.ShloMosaic.Lib.Quiescent
public import Idealize.ShloMosaic.Lib.Claim

@[expose] public section

noncomputable section

namespace Cert.Proof

open Idealize.ShloMosaic Idealize.ShloMosaic.TcCoe Idealize.SL.Sem

theorem frame_kernel20 : Cert.quiescent_Kernel20 := fun m ρ _ => Cert.Kernel20.Gen.frame m ρ
theorem frame_kernel20Ideal : Cert.quiescent_Kernel20Ideal := fun m ρ _ => Cert.Kernel20Ideal.Gen.frame m ρ
theorem frame_reference20 : Cert.quiescent_Reference20Ideal := fun m ρ _ =>
  (θ_run Cert.Reference20Ideal.defs _ _).mono
    (fun r h => ⟨fun c => (h c).2.2.2, Idealize.ShloMosaic.sem_eq_zero_of_no_sems (by decide) r.2⟩)
    (Cert.Reference20Ideal.Value.run (F := Ideal) m ρ)

/-- From memories with the same arguments: the step, the new first moment and the new second moment, each equal. -/
theorem algebraic20 : Cert.algebraic_Kernel20Ideal_Reference20Ideal := by
  intro m g m' g' _ hm
  refine ⟨_, _, _, Cert.Kernel20Ideal.Value.run (F := Ideal) m g, ?_⟩
  refine (θ_run Cert.Reference20Ideal.defs _ _).mono (fun r h c => ?_) (Cert.Reference20Ideal.Value.run (F := Ideal) m' g')
  refine ⟨(h c).1.trans ?_, (h c).2.1.trans ?_, (h c).2.2.1.trans ?_, (h c).2.2.2⟩
  · rw [(hm c).1, (hm c).2.1, (hm c).2.2.1, (hm c).2.2.2]
    refine (Cert.Reference20Ideal.Read.val_main_v23_eq _ _ _ _).trans (funext fun i => ?_)
    exact Cert.Reference20Ideal.Read.val_main_v23_apply _ _ _ _ i
  · rw [(hm c).2.1, (hm c).2.2.1]
    refine (Cert.Reference20Ideal.Read.val_main_v4_eq _ _).trans (funext fun i => ?_)
    exact Cert.Reference20Ideal.Read.val_main_v4_apply _ _ i
  · rw [(hm c).2.1, (hm c).2.2.2]
    refine (Cert.Reference20Ideal.Read.val_main_v10_eq _ _).trans (funext fun i => ?_)
    exact Cert.Reference20Ideal.Read.val_main_v10_apply _ _ i

end Cert.Proof

end
-- ==== Proof.Update21.lean ====
/- The update of b_f: what the kernel leaves is the reference's at every position. -/
module

public import proofs.«01_k».proof.Defs
public import proofs.«01_k».proof.Proof.Gen.Kernel21.Frame
public import proofs.«01_k».proof.Proof.Gen.Kernel21Ideal.Value
public import proofs.«01_k».proof.Proof.Gen.Reference21Ideal.Read
public import Idealize.ShloMosaic.Lib.Quiescent
public import Idealize.ShloMosaic.Lib.Claim

@[expose] public section

noncomputable section

namespace Cert.Proof

open Idealize.ShloMosaic Idealize.ShloMosaic.TcCoe Idealize.SL.Sem

theorem frame_kernel21 : Cert.quiescent_Kernel21 := fun m ρ _ => Cert.Kernel21.Gen.frame m ρ
theorem frame_kernel21Ideal : Cert.quiescent_Kernel21Ideal := fun m ρ _ => Cert.Kernel21Ideal.Gen.frame m ρ
theorem frame_reference21 : Cert.quiescent_Reference21Ideal := fun m ρ _ =>
  (θ_run Cert.Reference21Ideal.defs _ _).mono
    (fun r h => ⟨fun c => (h c).2.2.2, Idealize.ShloMosaic.sem_eq_zero_of_no_sems (by decide) r.2⟩)
    (Cert.Reference21Ideal.Value.run (F := Ideal) m ρ)

/-- From memories with the same arguments: the step, the new first moment and the new second moment, each equal. -/
theorem algebraic21 : Cert.algebraic_Kernel21Ideal_Reference21Ideal := by
  intro m g m' g' _ hm
  refine ⟨_, _, _, Cert.Kernel21Ideal.Value.run (F := Ideal) m g, ?_⟩
  refine (θ_run Cert.Reference21Ideal.defs _ _).mono (fun r h c => ?_) (Cert.Reference21Ideal.Value.run (F := Ideal) m' g')
  refine ⟨(h c).1.trans ?_, (h c).2.1.trans ?_, (h c).2.2.1.trans ?_, (h c).2.2.2⟩
  · rw [(hm c).1, (hm c).2.1, (hm c).2.2.1, (hm c).2.2.2]
    refine (Cert.Reference21Ideal.Read.val_main_v23_eq _ _ _ _).trans (funext fun i => ?_)
    exact Cert.Reference21Ideal.Read.val_main_v23_apply _ _ _ _ i
  · rw [(hm c).2.1, (hm c).2.2.1]
    refine (Cert.Reference21Ideal.Read.val_main_v4_eq _ _).trans (funext fun i => ?_)
    exact Cert.Reference21Ideal.Read.val_main_v4_apply _ _ i
  · rw [(hm c).2.1, (hm c).2.2.2]
    refine (Cert.Reference21Ideal.Read.val_main_v10_eq _ _).trans (funext fun i => ?_)
    exact Cert.Reference21Ideal.Read.val_main_v10_apply _ _ i

end Cert.Proof

end
-- ==== Proof.Update22.lean ====
/- The update of conv_w: what the kernel leaves is the reference's at every position. -/
module

public import proofs.«01_k».proof.Defs
public import proofs.«01_k».proof.Proof.Gen.Kernel22.Frame
public import proofs.«01_k».proof.Proof.Gen.Kernel22Ideal.Value
public import proofs.«01_k».proof.Proof.Gen.Reference22Ideal.Read
public import Idealize.ShloMosaic.Lib.Quiescent
public import Idealize.ShloMosaic.Lib.Claim

@[expose] public section

noncomputable section

namespace Cert.Proof

open Idealize.ShloMosaic Idealize.ShloMosaic.TcCoe Idealize.SL.Sem

theorem frame_kernel22 : Cert.quiescent_Kernel22 := fun m ρ _ => Cert.Kernel22.Gen.frame m ρ
theorem frame_kernel22Ideal : Cert.quiescent_Kernel22Ideal := fun m ρ _ => Cert.Kernel22Ideal.Gen.frame m ρ
theorem frame_reference22 : Cert.quiescent_Reference22Ideal := fun m ρ _ =>
  (θ_run Cert.Reference22Ideal.defs _ _).mono
    (fun r h => ⟨fun c => (h c).2.2.2, Idealize.ShloMosaic.sem_eq_zero_of_no_sems (by decide) r.2⟩)
    (Cert.Reference22Ideal.Value.run (F := Ideal) m ρ)

/-- From memories with the same arguments: the step, the new first moment and the new second moment, each equal. -/
theorem algebraic22 : Cert.algebraic_Kernel22Ideal_Reference22Ideal := by
  intro m g m' g' _ hm
  refine ⟨_, _, _, Cert.Kernel22Ideal.Value.run (F := Ideal) m g, ?_⟩
  refine (θ_run Cert.Reference22Ideal.defs _ _).mono (fun r h c => ?_) (Cert.Reference22Ideal.Value.run (F := Ideal) m' g')
  refine ⟨(h c).1.trans ?_, (h c).2.1.trans ?_, (h c).2.2.1.trans ?_, (h c).2.2.2⟩
  · rw [(hm c).1, (hm c).2.1, (hm c).2.2.1, (hm c).2.2.2]
    refine (Cert.Reference22Ideal.Read.val_main_v23_eq _ _ _ _).trans (funext fun i => ?_)
    exact Cert.Reference22Ideal.Read.val_main_v23_apply _ _ _ _ i
  · rw [(hm c).2.1, (hm c).2.2.1]
    refine (Cert.Reference22Ideal.Read.val_main_v4_eq _ _).trans (funext fun i => ?_)
    exact Cert.Reference22Ideal.Read.val_main_v4_apply _ _ i
  · rw [(hm c).2.1, (hm c).2.2.2]
    refine (Cert.Reference22Ideal.Read.val_main_v10_eq _ _).trans (funext fun i => ?_)
    exact Cert.Reference22Ideal.Read.val_main_v10_apply _ _ i

end Cert.Proof

end
-- ==== Proof.Update23.lean ====
/- The update of conv_b, ln_g and ln_b: what the kernel leaves is the reference's at every position. -/
module

public import proofs.«01_k».proof.Defs
public import proofs.«01_k».proof.Proof.Gen.Kernel23.Frame
public import proofs.«01_k».proof.Proof.Gen.Kernel23Ideal.Value
public import proofs.«01_k».proof.Proof.Gen.Reference23Ideal.Read
public import Idealize.ShloMosaic.Lib.Quiescent
public import Idealize.ShloMosaic.Lib.Claim

@[expose] public section

noncomputable section

namespace Cert.Proof

open Idealize.ShloMosaic Idealize.ShloMosaic.TcCoe Idealize.SL.Sem

theorem frame_kernel23 : Cert.quiescent_Kernel23 := fun m ρ _ => Cert.Kernel23.Gen.frame m ρ
theorem frame_kernel23Ideal : Cert.quiescent_Kernel23Ideal := fun m ρ _ => Cert.Kernel23Ideal.Gen.frame m ρ
theorem frame_reference23 : Cert.quiescent_Reference23Ideal := fun m ρ _ =>
  (θ_run Cert.Reference23Ideal.defs _ _).mono
    (fun r h => ⟨fun c => (h c).2.2.2, Idealize.ShloMosaic.sem_eq_zero_of_no_sems (by decide) r.2⟩)
    (Cert.Reference23Ideal.Value.run (F := Ideal) m ρ)

/-- From memories with the same arguments: the step, the new first moment and the new second moment, each equal. -/
theorem algebraic23 : Cert.algebraic_Kernel23Ideal_Reference23Ideal := by
  intro m g m' g' _ hm
  refine ⟨_, _, _, Cert.Kernel23Ideal.Value.run (F := Ideal) m g, ?_⟩
  refine (θ_run Cert.Reference23Ideal.defs _ _).mono (fun r h c => ?_) (Cert.Reference23Ideal.Value.run (F := Ideal) m' g')
  refine ⟨(h c).1.trans ?_, (h c).2.1.trans ?_, (h c).2.2.1.trans ?_, (h c).2.2.2⟩
  · rw [(hm c).1, (hm c).2.1, (hm c).2.2.1, (hm c).2.2.2]
    refine (Cert.Reference23Ideal.Read.val_main_v23_eq _ _ _ _).trans (funext fun i => ?_)
    exact Cert.Reference23Ideal.Read.val_main_v23_apply _ _ _ _ i
  · rw [(hm c).2.1, (hm c).2.2.1]
    refine (Cert.Reference23Ideal.Read.val_main_v4_eq _ _).trans (funext fun i => ?_)
    exact Cert.Reference23Ideal.Read.val_main_v4_apply _ _ i
  · rw [(hm c).2.1, (hm c).2.2.2]
    refine (Cert.Reference23Ideal.Read.val_main_v10_eq _ _).trans (funext fun i => ?_)
    exact Cert.Reference23Ideal.Read.val_main_v10_apply _ _ i

end Cert.Proof

end
-- ==== Proof.Update24.lean ====
/- The update of mix_norm_odd and pool_scale: what the kernel leaves is the reference's at every position. -/
module

public import proofs.«01_k».proof.Defs
public import proofs.«01_k».proof.Proof.Gen.Kernel24.Frame
public import proofs.«01_k».proof.Proof.Gen.Kernel24Ideal.Value
public import proofs.«01_k».proof.Proof.Gen.Reference24Ideal.Read
public import Idealize.ShloMosaic.Lib.Quiescent
public import Idealize.ShloMosaic.Lib.Claim

@[expose] public section

noncomputable section

namespace Cert.Proof

open Idealize.ShloMosaic Idealize.ShloMosaic.TcCoe Idealize.SL.Sem

theorem frame_kernel24 : Cert.quiescent_Kernel24 := fun m ρ _ => Cert.Kernel24.Gen.frame m ρ
theorem frame_kernel24Ideal : Cert.quiescent_Kernel24Ideal := fun m ρ _ => Cert.Kernel24Ideal.Gen.frame m ρ
theorem frame_reference24 : Cert.quiescent_Reference24Ideal := fun m ρ _ =>
  (θ_run Cert.Reference24Ideal.defs _ _).mono
    (fun r h => ⟨fun c => (h c).2.2.2, Idealize.ShloMosaic.sem_eq_zero_of_no_sems (by decide) r.2⟩)
    (Cert.Reference24Ideal.Value.run (F := Ideal) m ρ)

/-- From memories with the same arguments: the step, the new first moment and the new second moment, each equal. -/
theorem algebraic24 : Cert.algebraic_Kernel24Ideal_Reference24Ideal := by
  intro m g m' g' _ hm
  refine ⟨_, _, _, Cert.Kernel24Ideal.Value.run (F := Ideal) m g, ?_⟩
  refine (θ_run Cert.Reference24Ideal.defs _ _).mono (fun r h c => ?_) (Cert.Reference24Ideal.Value.run (F := Ideal) m' g')
  refine ⟨(h c).1.trans ?_, (h c).2.1.trans ?_, (h c).2.2.1.trans ?_, (h c).2.2.2⟩
  · rw [(hm c).1, (hm c).2.1, (hm c).2.2.1, (hm c).2.2.2]
    refine (Cert.Reference24Ideal.Read.val_main_v23_eq _ _ _ _).trans (funext fun i => ?_)
    exact Cert.Reference24Ideal.Read.val_main_v23_apply _ _ _ _ i
  · rw [(hm c).2.1, (hm c).2.2.1]
    refine (Cert.Reference24Ideal.Read.val_main_v4_eq _ _).trans (funext fun i => ?_)
    exact Cert.Reference24Ideal.Read.val_main_v4_apply _ _ i
  · rw [(hm c).2.1, (hm c).2.2.2]
    refine (Cert.Reference24Ideal.Read.val_main_v10_eq _ _).trans (funext fun i => ?_)
    exact Cert.Reference24Ideal.Read.val_main_v10_apply _ _ i

end Cert.Proof

end
-- ==== Proof.Update25.lean ====
/- The update of pool_b: what the kernel leaves is the reference's at every position. -/
module

public import proofs.«01_k».proof.Defs
public import proofs.«01_k».proof.Proof.Gen.Kernel25.Frame
public import proofs.«01_k».proof.Proof.Gen.Kernel25Ideal.Value
public import proofs.«01_k».proof.Proof.Gen.Reference25Ideal.Read
public import Idealize.ShloMosaic.Lib.Quiescent
public import Idealize.ShloMosaic.Lib.Claim

@[expose] public section

noncomputable section

namespace Cert.Proof

open Idealize.ShloMosaic Idealize.ShloMosaic.TcCoe Idealize.SL.Sem

theorem frame_kernel25 : Cert.quiescent_Kernel25 := fun m ρ _ => Cert.Kernel25.Gen.frame m ρ
theorem frame_kernel25Ideal : Cert.quiescent_Kernel25Ideal := fun m ρ _ => Cert.Kernel25Ideal.Gen.frame m ρ
theorem frame_reference25 : Cert.quiescent_Reference25Ideal := fun m ρ _ =>
  (θ_run Cert.Reference25Ideal.defs _ _).mono
    (fun r h => ⟨fun c => (h c).2.2.2, Idealize.ShloMosaic.sem_eq_zero_of_no_sems (by decide) r.2⟩)
    (Cert.Reference25Ideal.Value.run (F := Ideal) m ρ)

/-- From memories with the same arguments: the step, the new first moment and the new second moment, each equal. -/
theorem algebraic25 : Cert.algebraic_Kernel25Ideal_Reference25Ideal := by
  intro m g m' g' _ hm
  refine ⟨_, _, _, Cert.Kernel25Ideal.Value.run (F := Ideal) m g, ?_⟩
  refine (θ_run Cert.Reference25Ideal.defs _ _).mono (fun r h c => ?_) (Cert.Reference25Ideal.Value.run (F := Ideal) m' g')
  refine ⟨(h c).1.trans ?_, (h c).2.1.trans ?_, (h c).2.2.1.trans ?_, (h c).2.2.2⟩
  · rw [(hm c).1, (hm c).2.1, (hm c).2.2.1, (hm c).2.2.2]
    refine (Cert.Reference25Ideal.Read.val_main_v23_eq _ _ _ _).trans (funext fun i => ?_)
    exact Cert.Reference25Ideal.Read.val_main_v23_apply _ _ _ _ i
  · rw [(hm c).2.1, (hm c).2.2.1]
    refine (Cert.Reference25Ideal.Read.val_main_v4_eq _ _).trans (funext fun i => ?_)
    exact Cert.Reference25Ideal.Read.val_main_v4_apply _ _ i
  · rw [(hm c).2.1, (hm c).2.2.2]
    refine (Cert.Reference25Ideal.Read.val_main_v10_eq _ _).trans (funext fun i => ?_)
    exact Cert.Reference25Ideal.Read.val_main_v10_apply _ _ i

end Cert.Proof

end
-- ==== Proof.Update26.lean ====
/- The update of ffn_norm: what the kernel leaves is the reference's at every position. -/
module

public import proofs.«01_k».proof.Defs
public import proofs.«01_k».proof.Proof.Gen.Kernel26.Frame
public import proofs.«01_k».proof.Proof.Gen.Kernel26Ideal.Value
public import proofs.«01_k».proof.Proof.Gen.Reference26Ideal.Read
public import Idealize.ShloMosaic.Lib.Quiescent
public import Idealize.ShloMosaic.Lib.Claim

@[expose] public section

noncomputable section

namespace Cert.Proof

open Idealize.ShloMosaic Idealize.ShloMosaic.TcCoe Idealize.SL.Sem

theorem frame_kernel26 : Cert.quiescent_Kernel26 := fun m ρ _ => Cert.Kernel26.Gen.frame m ρ
theorem frame_kernel26Ideal : Cert.quiescent_Kernel26Ideal := fun m ρ _ => Cert.Kernel26Ideal.Gen.frame m ρ
theorem frame_reference26 : Cert.quiescent_Reference26Ideal := fun m ρ _ =>
  (θ_run Cert.Reference26Ideal.defs _ _).mono
    (fun r h => ⟨fun c => (h c).2.2.2, Idealize.ShloMosaic.sem_eq_zero_of_no_sems (by decide) r.2⟩)
    (Cert.Reference26Ideal.Value.run (F := Ideal) m ρ)

/-- From memories with the same arguments: the step, the new first moment and the new second moment, each equal. -/
theorem algebraic26 : Cert.algebraic_Kernel26Ideal_Reference26Ideal := by
  intro m g m' g' _ hm
  refine ⟨_, _, _, Cert.Kernel26Ideal.Value.run (F := Ideal) m g, ?_⟩
  refine (θ_run Cert.Reference26Ideal.defs _ _).mono (fun r h c => ?_) (Cert.Reference26Ideal.Value.run (F := Ideal) m' g')
  refine ⟨(h c).1.trans ?_, (h c).2.1.trans ?_, (h c).2.2.1.trans ?_, (h c).2.2.2⟩
  · rw [(hm c).1, (hm c).2.1, (hm c).2.2.1, (hm c).2.2.2]
    refine (Cert.Reference26Ideal.Read.val_main_v23_eq _ _ _ _).trans (funext fun i => ?_)
    exact Cert.Reference26Ideal.Read.val_main_v23_apply _ _ _ _ i
  · rw [(hm c).2.1, (hm c).2.2.1]
    refine (Cert.Reference26Ideal.Read.val_main_v4_eq _ _).trans (funext fun i => ?_)
    exact Cert.Reference26Ideal.Read.val_main_v4_apply _ _ i
  · rw [(hm c).2.1, (hm c).2.2.2]
    refine (Cert.Reference26Ideal.Read.val_main_v10_eq _ _).trans (funext fun i => ?_)
    exact Cert.Reference26Ideal.Read.val_main_v10_apply _ _ i

end Cert.Proof

end
-- ==== Proof.Update27.lean ====
/- The update of ffn_conv_w: what the kernel leaves is the reference's at every position. -/
module

public import proofs.«01_k».proof.Defs
public import proofs.«01_k».proof.Proof.Gen.Kernel27.Frame
public import proofs.«01_k».proof.Proof.Gen.Kernel27Ideal.Value
public import proofs.«01_k».proof.Proof.Gen.Reference27Ideal.Read
public import Idealize.ShloMosaic.Lib.Quiescent
public import Idealize.ShloMosaic.Lib.Claim

@[expose] public section

noncomputable section

namespace Cert.Proof

open Idealize.ShloMosaic Idealize.ShloMosaic.TcCoe Idealize.SL.Sem

theorem frame_kernel27 : Cert.quiescent_Kernel27 := fun m ρ _ => Cert.Kernel27.Gen.frame m ρ
theorem frame_kernel27Ideal : Cert.quiescent_Kernel27Ideal := fun m ρ _ => Cert.Kernel27Ideal.Gen.frame m ρ
theorem frame_reference27 : Cert.quiescent_Reference27Ideal := fun m ρ _ =>
  (θ_run Cert.Reference27Ideal.defs _ _).mono
    (fun r h => ⟨fun c => (h c).2.2.2, Idealize.ShloMosaic.sem_eq_zero_of_no_sems (by decide) r.2⟩)
    (Cert.Reference27Ideal.Value.run (F := Ideal) m ρ)

/-- From memories with the same arguments: the step, the new first moment and the new second moment, each equal. -/
theorem algebraic27 : Cert.algebraic_Kernel27Ideal_Reference27Ideal := by
  intro m g m' g' _ hm
  refine ⟨_, _, _, Cert.Kernel27Ideal.Value.run (F := Ideal) m g, ?_⟩
  refine (θ_run Cert.Reference27Ideal.defs _ _).mono (fun r h c => ?_) (Cert.Reference27Ideal.Value.run (F := Ideal) m' g')
  refine ⟨(h c).1.trans ?_, (h c).2.1.trans ?_, (h c).2.2.1.trans ?_, (h c).2.2.2⟩
  · rw [(hm c).1, (hm c).2.1, (hm c).2.2.1, (hm c).2.2.2]
    refine (Cert.Reference27Ideal.Read.val_main_v23_eq _ _ _ _).trans (funext fun i => ?_)
    exact Cert.Reference27Ideal.Read.val_main_v23_apply _ _ _ _ i
  · rw [(hm c).2.1, (hm c).2.2.1]
    refine (Cert.Reference27Ideal.Read.val_main_v4_eq _ _).trans (funext fun i => ?_)
    exact Cert.Reference27Ideal.Read.val_main_v4_apply _ _ i
  · rw [(hm c).2.1, (hm c).2.2.2]
    refine (Cert.Reference27Ideal.Read.val_main_v10_eq _ _).trans (funext fun i => ?_)
    exact Cert.Reference27Ideal.Read.val_main_v10_apply _ _ i

end Cert.Proof

end
-- ==== Proof.Update28.lean ====
/- The update of ffn_conv_b: what the kernel leaves is the reference's at every position. -/
module

public import proofs.«01_k».proof.Defs
public import proofs.«01_k».proof.Proof.Gen.Kernel28.Frame
public import proofs.«01_k».proof.Proof.Gen.Kernel28Ideal.Value
public import proofs.«01_k».proof.Proof.Gen.Reference28Ideal.Read
public import Idealize.ShloMosaic.Lib.Quiescent
public import Idealize.ShloMosaic.Lib.Claim

@[expose] public section

noncomputable section

namespace Cert.Proof

open Idealize.ShloMosaic Idealize.ShloMosaic.TcCoe Idealize.SL.Sem

theorem frame_kernel28 : Cert.quiescent_Kernel28 := fun m ρ _ => Cert.Kernel28.Gen.frame m ρ
theorem frame_kernel28Ideal : Cert.quiescent_Kernel28Ideal := fun m ρ _ => Cert.Kernel28Ideal.Gen.frame m ρ
theorem frame_reference28 : Cert.quiescent_Reference28Ideal := fun m ρ _ =>
  (θ_run Cert.Reference28Ideal.defs _ _).mono
    (fun r h => ⟨fun c => (h c).2.2.2, Idealize.ShloMosaic.sem_eq_zero_of_no_sems (by decide) r.2⟩)
    (Cert.Reference28Ideal.Value.run (F := Ideal) m ρ)

/-- From memories with the same arguments: the step, the new first moment and the new second moment, each equal. -/
theorem algebraic28 : Cert.algebraic_Kernel28Ideal_Reference28Ideal := by
  intro m g m' g' _ hm
  refine ⟨_, _, _, Cert.Kernel28Ideal.Value.run (F := Ideal) m g, ?_⟩
  refine (θ_run Cert.Reference28Ideal.defs _ _).mono (fun r h c => ?_) (Cert.Reference28Ideal.Value.run (F := Ideal) m' g')
  refine ⟨(h c).1.trans ?_, (h c).2.1.trans ?_, (h c).2.2.1.trans ?_, (h c).2.2.2⟩
  · rw [(hm c).1, (hm c).2.1, (hm c).2.2.1, (hm c).2.2.2]
    refine (Cert.Reference28Ideal.Read.val_main_v23_eq _ _ _ _).trans (funext fun i => ?_)
    exact Cert.Reference28Ideal.Read.val_main_v23_apply _ _ _ _ i
  · rw [(hm c).2.1, (hm c).2.2.1]
    refine (Cert.Reference28Ideal.Read.val_main_v4_eq _ _).trans (funext fun i => ?_)
    exact Cert.Reference28Ideal.Read.val_main_v4_apply _ _ i
  · rw [(hm c).2.1, (hm c).2.2.2]
    refine (Cert.Reference28Ideal.Read.val_main_v10_eq _ _).trans (funext fun i => ?_)
    exact Cert.Reference28Ideal.Read.val_main_v10_apply _ _ i

end Cert.Proof

end
-- ==== Proof.NormAlg.lean ====
/- The norm of a row and its derivative. The reciprocal root `rinv` is always a number of the real line, positive or zero: the mean of
   squares plus the small constant is above zero, and where it is infinite the reciprocal is zero. So products with it distribute over
   sums even where a sum is infinite, and the kernel's derivative is the printed one for every row, finite or not. -/
module

public import Idealize.ShloMosaic.PureOps
public import Idealize.ShloMosaic.Lib.Pointwise

@[expose] public section

noncomputable section

namespace Cert.NormAlg

open Idealize.ShloMosaic
open scoped BigOperators

/-- How many elements a row has, the small constant, and the factor of the root's derivative, as printed. -/
abbrev cnt : EReal := Ideal.ofBits .f32 0x44800000#32
abbrev eps : EReal := Ideal.ofBits .f32 0x358637BD#32
abbrev mhalf : EReal := Ideal.ofBits .f32 0xBF000000#32

theorem cnt_eq : cnt = ((1024 : ℝ) : EReal) := by
  simp [Ideal.ofBits, Ideal.ieee, -EReal.coe_mul]; norm_num

theorem mhalf_eq : mhalf = ((-(1 / 2) : ℝ) : EReal) := by
  simp [Ideal.ofBits, Ideal.ieee, -EReal.coe_mul]; norm_num

theorem eps_pos : 0 < eps := by
  simp [Ideal.ofBits, Ideal.ieee, -EReal.coe_mul]

theorem div_cnt (u : EReal) : Ideal.div u cnt = u * (((1024 : ℝ)⁻¹ : ℝ) : EReal) := by
  rw [cnt_eq, Ideal.div, if_neg (by norm_num), EReal.coe_inv]

variable (x g y : Fin 1024 → EReal)

/-- The mean of squares plus the small constant, and its reciprocal root. -/
def ms : EReal := Ideal.div (∑ k, x k * x k) cnt + eps
def rinv : EReal := Ideal.rsqrt (ms x)

theorem sq_nonneg (u : EReal) : 0 ≤ u * u := by
  induction u with
  | bot => simp
  | top => simp
  | coe a => exact_mod_cast mul_self_nonneg a

theorem ms_pos : 0 < ms x := by
  have h : 0 ≤ Ideal.div (∑ k, x k * x k) cnt := by
    rw [div_cnt]
    exact mul_nonneg (Finset.sum_nonneg fun k _ => sq_nonneg _) (by exact_mod_cast (by norm_num : (0 : ℝ) ≤ (1024 : ℝ)⁻¹))
  exact lt_of_lt_of_le eps_pos (le_add_of_nonneg_left h)

/-- Either the root is zero, and so is its quotient by the mean, or both are real. -/
theorem root_cases (s : EReal) (hs : 0 < s) :
    (Ideal.rsqrt s = 0 ∧ Ideal.div (Ideal.rsqrt s) s = 0) ∨
      ∃ r : ℝ, 0 < r ∧ Ideal.rsqrt s = (r : EReal) ∧ Ideal.div (Ideal.rsqrt s) s = ((r ^ 3 : ℝ) : EReal) := by
  induction s with
  | bot => exact absurd hs (by simp)
  | top => exact .inl ⟨rfl, by simp [Ideal.div]⟩
  | coe p =>
    have hp : 0 < p := by exact_mod_cast hs
    refine .inr ⟨(Real.sqrt p)⁻¹, by positivity, by simp [hp.not_gt, hp.ne'], ?_⟩
    have hn : ((p : ℝ) : EReal) ≠ 0 := by exact_mod_cast hp.ne'
    rw [Ideal.rsqrt_coe, if_neg hp.not_gt, if_neg hp.ne', Ideal.div, if_neg hn, ← EReal.coe_inv, ← EReal.coe_mul]
    congr 1
    have h2 : p = Real.sqrt p ^ 2 := (Real.sq_sqrt hp.le).symm
    have h0 : Real.sqrt p ≠ 0 := (Real.sqrt_pos.mpr hp).ne'
    conv_lhs => rw [h2, Real.sqrt_sq (Real.sqrt_nonneg p)]
    field_simp

theorem sum_mul_coe {ι : Type} [Fintype ι] (f : ι → EReal) (r : ℝ) (hr : 0 ≤ r) : ∑ k, f k * (r : EReal) = (∑ k, f k) * (r : EReal) := by
  classical
  have hr' : (0 : EReal) ≤ (r : EReal) := by exact_mod_cast hr
  induction (Finset.univ : Finset ι) using Finset.induction_on with
  | empty => simp
  | insert a s h ih =>
    rw [Finset.sum_insert h, Finset.sum_insert h, ih, EReal.right_distrib_of_nonneg_of_ne_top hr' (EReal.coe_ne_top r)]

theorem neg_add_self (u : EReal) : -u + -u = -(u + u) := by
  induction u with
  | bot => rfl
  | top => rfl
  | coe a => norm_cast; ring

/-- A row's derivative, as the kernel computes it: `d` is what the residual brings, `D` the cotangent times the gain. -/
def ker (x D : Fin 1024 → EReal) (d : EReal) (j : Fin 1024) : EReal :=
  d + rinv x * (D j - x j * rinv x * Ideal.div (∑ k, D k * (x k * rinv x)) cnt)

/-- The factor that the derivative of the mean puts before the row. -/
def fac (x D : Fin 1024 → EReal) : EReal := Ideal.div ((∑ k, x k * D k) * (mhalf * Ideal.div (rinv x) (ms x))) cnt

/-- The same derivative, as vjp prints it. -/
def ref (x D : Fin 1024 → EReal) (d : EReal) (j : Fin 1024) : EReal :=
  d + D j * rinv x + x j * fac x D + fac x D * x j

theorem ker_eq_ref (D : Fin 1024 → EReal) (d : EReal) (j : Fin 1024) : ker x D d j = ref x D d j := by
  unfold ker ref fac rinv
  rcases root_cases (ms x) (ms_pos x) with ⟨h0, h1⟩ | ⟨r, hr, h0, h1⟩
  · rw [h1, h0]; simp [div_cnt]
  · rw [h1, h0, div_cnt, div_cnt, mhalf_eq]
    have hr' : (0 : EReal) ≤ (r : EReal) := by exact_mod_cast hr.le
    have hsum : ∑ k, D k * (x k * (r : EReal)) = (∑ k, x k * D k) * (r : EReal) := by
      rw [← sum_mul_coe _ r hr.le]
      exact Finset.sum_congr rfl fun k _ => by rw [← mul_assoc, mul_comm (D k)]
    rw [hsum, EReal.mul_sub_of_nonneg_of_ne_top hr' (EReal.coe_ne_top r)]
    generalize (∑ k, x k * D k) = S
    have e1 : (r : EReal) * (x j * (r : EReal) * (S * (r : EReal) * (((1024 : ℝ)⁻¹ : ℝ) : EReal)))
        = x j * S * ((r ^ 3 / 1024 : ℝ) : EReal) := by
      have : ((r ^ 3 / 1024 : ℝ) : EReal) = (r : EReal) * ((r : EReal) * ((r : EReal) * (((1024 : ℝ)⁻¹ : ℝ) : EReal))) := by
        norm_cast; ring
      rw [this]; ac_rfl
    have e2 : S * (((-(1 / 2) : ℝ) : EReal) * ((r ^ 3 : ℝ) : EReal)) * (((1024 : ℝ)⁻¹ : ℝ) : EReal)
        = -(S * ((r ^ 3 / 2048 : ℝ) : EReal)) := by
      rw [mul_assoc, ← mul_neg]
      congr 1
      norm_cast; ring
    have hp : (0 : EReal) ≤ ((r ^ 3 / 2048 : ℝ) : EReal) := by exact_mod_cast (by positivity)
    have e3 : x j * S * ((r ^ 3 / 1024 : ℝ) : EReal)
        = x j * (S * ((r ^ 3 / 2048 : ℝ) : EReal)) + x j * (S * ((r ^ 3 / 2048 : ℝ) : EReal)) := by
      have : ((r ^ 3 / 1024 : ℝ) : EReal) = ((r ^ 3 / 2048 : ℝ) : EReal) + ((r ^ 3 / 2048 : ℝ) : EReal) := by norm_cast; ring
      rw [this, EReal.left_distrib_of_nonneg hp hp, mul_assoc]
    rw [e1, e2, e3, sub_eq_add_neg, ← neg_add_self, mul_neg, neg_mul, mul_comm (S * _) (x j), mul_comm (r : EReal) (D j)]
    simp only [add_assoc]

/-- The rows of an example's own positions, behind the prefix and before the padding. -/
def own (n : Nat) : Prop := 16 ≤ n ∧ n < 2064
instance (n : Nat) : Decidable (own n) := inferInstanceAs (Decidable (_ ∧ _))

/-- By how much a row of the scaled norm misses its target `t`, and zero in the other rows. -/
def dif (n : Nat) (x g : Fin 1024 → EReal) (t : EReal) (j : Fin 1024) : EReal :=
  if own n then x j * rinv x * g j - t else 0

/-- One over the number of a row's elements, and half of it. -/
abbrev one1024 : EReal := Ideal.ofBits .f32 0x3A800000#32
abbrev half1024 : EReal := Ideal.ofBits .f32 0x3A000000#32
abbrev half : EReal := Ideal.ofBits .f32 0x3F000000#32
abbrev one : EReal := Ideal.ofBits .f32 0x3F800000#32
abbrev two : EReal := Ideal.ofBits .f32 0x40000000#32

theorem one1024_eq : one1024 = (((1024 : ℝ)⁻¹ : ℝ) : EReal) := by
  simp [Ideal.ofBits, Ideal.ieee, -EReal.coe_mul]; norm_num
theorem half1024_eq : half1024 = (((2048 : ℝ)⁻¹ : ℝ) : EReal) := by
  simp [Ideal.ofBits, Ideal.ieee, -EReal.coe_mul]; norm_num
theorem half_eq : half = (((2 : ℝ)⁻¹ : ℝ) : EReal) := by
  simp [Ideal.ofBits, Ideal.ieee, -EReal.coe_mul]; norm_num
theorem one_eq : one = ((1 : ℝ) : EReal) := by
  simp [Ideal.ofBits, Ideal.ieee, -EReal.coe_mul]
theorem two_eq : two = ((2 : ℝ) : EReal) := by
  simp [Ideal.ofBits, Ideal.ieee, -EReal.coe_mul]; norm_num

/-- The loss's cotangent of an element: twice the miss, times half over the number of elements. -/
theorem cot_eq (u : EReal) : Ideal.div (half * one) cnt * (two * u) = u * one1024 := by
  rw [div_cnt, half_eq, one_eq, two_eq, one1024_eq, ← mul_assoc, mul_comm u]
  congr 1
  norm_cast; norm_num

/-- A row's share of the loss, as each side scales it. -/
theorem share_eq (S : EReal) : Ideal.div S cnt * half = S * half1024 := by
  rw [div_cnt, half_eq, half1024_eq, mul_assoc]
  congr 1
  norm_cast; norm_num

/-- A sum over all rows of what is zero outside the example's own. -/
theorem sum_own (f : Fin 2176 → EReal) (h : ∀ k : Fin 2176, ¬ own k.val → f k = 0) :
    ∑ k, f k = ∑ j : Fin 2048, f ⟨16 + j.val, by omega⟩ := by
  have e : (2176 : Nat) = 16 + (2048 + 112) := rfl
  have h1 : ∑ k : Fin 2176, f k = ∑ k : Fin (16 + (2048 + 112)), f ⟨k.val, by omega⟩ := rfl
  rw [h1, Fin.sum_univ_add, Fin.sum_univ_add]
  rw [Finset.sum_eq_zero (fun k _ => h _ (by simp only [own, Fin.val_castAdd]; omega)), zero_add,
    Finset.sum_eq_zero (s := (Finset.univ : Finset (Fin 112))) (fun k _ => h _ (by simp only [own, Fin.val_natAdd]; omega)), add_zero]
  rfl

end Cert.NormAlg

end
-- ==== Proof.Norm29.lean ====
/- The norm before the feed-forward layer: row by row the kernel's is the reference's. -/
module

public import proofs.«01_k».proof.Defs
public import proofs.«01_k».proof.Proof.NormAlg
public import proofs.«01_k».proof.Proof.Gen.Kernel29.Frame
public import proofs.«01_k».proof.Proof.Gen.Kernel29Ideal.Value
public import proofs.«01_k».proof.Proof.Gen.Reference29Ideal.Read
public import Idealize.ShloMosaic.Lib.Pipeline.ValueKit
public import Idealize.ShloMosaic.Lib.Quiescent
public import Idealize.ShloMosaic.Lib.Claim

@[expose] public section

set_option maxRecDepth 16384

noncomputable section

namespace Cert.Kernel29Ideal.Norm

open Cert.Kernel29Ideal Cert.Kernel29Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The two arguments, as launched. -/
def hOf (c : Dev nD) : FVec Ideal S2176x1024 .f32 := m ((c : Thread nD τ).loc main_arg0)
def gOf (c : Dev nD) : FVec Ideal S1x1024 .f32 := m ((c : Thread nD τ).loc main_arg1)

/-- A block's value at a position. -/
theorem pay_apply (X : Vec Ideal S544x1024 .f32) (Y : Vec Ideal S1x1024 .f32) (i : S544x1024.Idx) :
    (k0_pay1 X Y i : EReal) = X i * Cert.NormAlg.rinv (fun k => X (ix2 (i 0) k)) * Y (ix2 0 (i 1)) := by
  unfold k0_pay1 Cert.NormAlg.rinv Cert.NormAlg.ms
  pointwise

/-- Which blocks each point of the grid reads and writes. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The norm of each row. -/
def G (c : Dev nD) : FVec Ideal S2176x1024 .bf16 := fun i =>
  ((hOf m c i : EReal) * Cert.NormAlg.rinv (fun k => hOf m c (ix2 (i 0) k)) * gOf m c (ix2 0 (i 1)) : EReal)

theorem final (c : Dev nD) : (dats m 0 c).arrAt 2 cfg0.N = G m c := by
  refine (dats m 0 c).arrAt_eq_of_covers 2 _ (by decide +kernel) fun t hf y => ?_
  blk_simp
  rw [after0_2]
  frame_out
  refine (pay_apply _ _ y).trans (congrArg₂ (· * ·) (congrArg₂ (· * ·) ?_ (congrArg Cert.NormAlg.rinv (funext fun k => ?_))) ?_)
  · blk_simp [iblk]
    refine (congrFun (V_main_arg0 m c) _).trans (congrArg (hOf m c) ?_)
    blk_ext [idx0, idx2]
  · blk_simp [iblk]
    refine (congrFun (V_main_arg0 m c) _).trans (congrArg (hOf m c) ?_)
    blk_ext [idx0, idx2]
  · blk_simp [iblk]
    refine (congrFun (V_main_arg1 m c) _).trans (congrArg (gOf m c) ?_)
    blk_ext [idx1, idx2]

end Cert.Kernel29Ideal.Norm

namespace Cert.Proof

open Idealize.ShloMosaic Idealize.ShloMosaic.TcCoe Idealize.SL.Sem

theorem frame_kernel29 : Cert.quiescent_Kernel29 := fun m ρ _ => Cert.Kernel29.Gen.frame m ρ
theorem frame_kernel29Ideal : Cert.quiescent_Kernel29Ideal := fun m ρ _ => Cert.Kernel29Ideal.Gen.frame m ρ
theorem frame_reference29 : Cert.quiescent_Reference29Ideal := fun m ρ _ =>
  (θ_run Cert.Reference29Ideal.defs _ _).mono (fun r h => ⟨fun c => (h c).2, Idealize.ShloMosaic.sem_eq_zero_of_no_sems (by decide) r.2⟩)
    (Cert.Reference29Ideal.Value.run (F := Ideal) m ρ)

open Cert.Reference29Ideal Cert.Reference29Ideal.Read in
/-- The reference at a position. -/
theorem ref29_apply (x0 : FVec Ideal S2176x1024 .f32) (x1 : FVec Ideal S1x1024 .f32) (i : S2176x1024.Idx) :
    val_main_v12 (F := Ideal) x0 x1 i
      = (x0 i * Cert.NormAlg.rinv (fun k => x0 (ix2 (i 0) k)) * x1 (ix2 0 (i 1)) : EReal) := by
  unfold val_main_v12 val_main_v11 val_main_v10 val_main_v9 val_main_v8 val_main_v7 val_main_v6 val_main_v5 val_main_v4 val_main_v3
    val_main_v2 val_main_v1 val_main_v0 val_main_cst val_main_cst_0 val_main_cst_1 Cert.NormAlg.rinv Cert.NormAlg.ms
  pointwise

/-- From memories with the same arguments, the kernel's norm is the reference's. -/
theorem algebraic29 : Cert.algebraic_Kernel29Ideal_Reference29Ideal := by
  intro m g m' g' _ hm
  refine ⟨fun c => Cert.Kernel29Ideal.Norm.G m c, ?_, ?_⟩
  · refine (θ_run Cert.Kernel29Ideal.defs _ _).mono (fun r h c => ?_) (Cert.Kernel29Ideal.Value.run_blocks (F := Ideal) m g)
    exact ⟨(h c).1.trans (Cert.Kernel29Ideal.Norm.final m c), (h c).2⟩
  · refine (θ_run Cert.Reference29Ideal.defs _ _).mono (fun r h c => ?_) (Cert.Reference29Ideal.Value.run (F := Ideal) m' g')
    refine ⟨(h c).1.trans ?_, (h c).2⟩
    rw [(hm c).1, (hm c).2]
    exact (Cert.Reference29Ideal.Read.val_main_v12_eq _ _).trans (funext fun i => ref29_apply _ _ i)

end Cert.Proof

end
-- ==== Proof.Norm30.lean ====
/- The norm's gradients with the residual's: of its input row by row, and of the gain, gathered over four blocks of rows. -/
module

public import proofs.«01_k».proof.Defs
public import proofs.«01_k».proof.Proof.NormAlg
public import proofs.«01_k».proof.Proof.Gen.Kernel30.Frame
public import proofs.«01_k».proof.Proof.Gen.Kernel30Ideal.Value
public import proofs.«01_k».proof.Proof.Gen.Reference30Ideal.Read
public import Idealize.ShloMosaic.Lib.Pipeline.ValueKit
public import Idealize.ShloMosaic.Lib.Quiescent
public import Idealize.ShloMosaic.Lib.Claim

@[expose] public section

set_option maxRecDepth 16384

noncomputable section

namespace Cert.Kernel30Ideal.Norm

open Cert.Kernel30Ideal Cert.Kernel30Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The arguments, as launched: the input, the gain, the cotangent of the norm and the residual's. -/
def hOf (c : Dev nD) : FVec Ideal S2176x1024 .f32 := m ((c : Thread nD τ).loc main_arg0)
def gOf (c : Dev nD) : FVec Ideal S1x1024 .f32 := m ((c : Thread nD τ).loc main_arg1)
def nOf (c : Dev nD) : FVec Ideal S2176x1024 .f32 := m ((c : Thread nD τ).loc main_arg2)
def rOf (c : Dev nD) : FVec Ideal S2176x1024 .f32 := m ((c : Thread nD τ).loc main_arg3)

/-- A block's gradient of the input at a position. -/
theorem pay3_apply (X N : Vec Ideal S544x1024 .f32) (Y : Vec Ideal S1x1024 .f32) (R : Vec Ideal S544x1024 .f32) (i : S544x1024.Idx) :
    (k0_pay3 X N Y R i : EReal)
      = Cert.NormAlg.ker (fun k => X (ix2 (i 0) k)) (fun k => N (ix2 (i 0) k) * Y (ix2 0 k)) (R i) (i 1) := by
  unfold k0_pay3 k0_pay2 k0_pay1 Cert.NormAlg.ker Cert.NormAlg.rinv Cert.NormAlg.ms
  pointwise

/-- What a block adds to the gain's gradient. -/
theorem pay5_apply (X N : Vec Ideal S544x1024 .f32) (A : Vec Ideal S1x1024 .f32) (i : S1x1024.Idx) :
    (k0_pay5 X N A i : EReal)
      = A i + ∑ k : Fin 544, N (ix2 k (i 1)) * (X (ix2 k (i 1)) * Cert.NormAlg.rinv (fun q => X (ix2 k q))) := by
  unfold k0_pay5 k0_pay2 k0_pay1 Cert.NormAlg.rinv Cert.NormAlg.ms
  pointwise

theorem pay4_apply (i : S1x1024.Idx) : (k0_pay4 (F := Ideal) i : EReal) = 0 := Ideal.ofBits_zero_f32

/-- Which blocks each point of the grid reads and writes. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

/-- The gradient of the input, with the residual's. -/
def G (c : Dev nD) : FVec Ideal S2176x1024 .f32 := fun i =>
  Cert.NormAlg.ker (fun k => hOf m c (ix2 (i 0) k)) (fun k => nOf m c (ix2 (i 0) k) * gOf m c (ix2 0 k)) (rOf m c i) (i 1)

/-- The gradient of the gain. -/
def H (c : Dev nD) : FVec Ideal S1x1024 .f32 := fun i =>
  (∑ k : Fin 2176, nOf m c (ix2 k (i 1)) * (hOf m c (ix2 k (i 1)) * Cert.NormAlg.rinv (fun q => hOf m c (ix2 k q))) : EReal)

/-- What a point leaves of the two results, whichever way it goes. -/
theorem left4 (c : Dev nD) (t : Fin cfg0.N) :
    (outsAt0 m c t.val t.isLt).1 = k0_pay3 (iblk m c 0 t) (iblk m c 2 t) (iblk m c 1 t) (iblk m c 3 t) := by
  by_cases h0 : t.val % 4 = 0
  · rw [outsAt0_A m c t h0]
    frame_out
  · rw [outsAt0_B m c t h0]
    frame_out

theorem left5_first (c : Dev nD) (t : Fin cfg0.N) (h0 : t.val % 4 = 0) :
    (outsAt0 m c t.val t.isLt).2 = k0_pay5 (iblk m c 0 t) (iblk m c 2 t) (k0_pay4 (F := Ideal)) := by
  rw [outsAt0_A m c t h0]
  frame_out

theorem left5_next (c : Dev nD) (t : Fin cfg0.N) (h0 : ¬t.val % 4 = 0) :
    (outsAt0 m c t.val t.isLt).2 = k0_pay5 (iblk m c 0 t) (iblk m c 2 t)
      (outsAt0 m c (t.val - 1) (Nat.lt_of_le_of_lt (Nat.sub_le _ _) t.isLt)).2 := by
  rw [outsAt0_B m c t h0]
  frame_out

/-- Blocks of rows, as rows of the arguments. -/
theorem row_lt (t : Fin cfg0.N) (k : Fin 544) : t.val * 544 + k.val < 2176 := by
  have h := t.isLt
  have h' : t.val < 4 := h
  omega

theorem iblk0 (c : Dev nD) (t : Fin cfg0.N) (k : Fin 544) (j : Fin 1024) :
    (iblk m c 0 t : Vec Ideal S544x1024 .f32) (ix2 k j) = hOf m c (ix2 ⟨t.val * 544 + k.val, row_lt t k⟩ j) := by
  blk_simp [iblk]
  refine (congrFun (V_main_arg0 m c) _).trans (congrArg (hOf m c) ?_)
  blk_ext [idx0]

theorem iblk2 (c : Dev nD) (t : Fin cfg0.N) (k : Fin 544) (j : Fin 1024) :
    (iblk m c 2 t : Vec Ideal S544x1024 .f32) (ix2 k j) = nOf m c (ix2 ⟨t.val * 544 + k.val, row_lt t k⟩ j) := by
  blk_simp [iblk]
  refine (congrFun (V_main_arg2 m c) _).trans (congrArg (nOf m c) ?_)
  blk_ext [idx2]

theorem final (c : Dev nD) : (dats m 0 c).arrAt 4 cfg0.N = G m c := by
  refine (dats m 0 c).arrAt_eq_of_covers 4 _ (by decide +kernel) fun t hf y => ?_
  blk_simp
  rw [after0_4, left4]
  refine (pay3_apply _ _ _ _ y).trans ?_
  refine congr (congr (congr (congrArg Cert.NormAlg.ker (funext fun k => ?_)) (funext fun k => congrArg₂ (· * ·) ?_ ?_)) ?_) ?_
  · blk_simp [iblk]
    refine (congrFun (V_main_arg0 m c) _).trans (congrArg (hOf m c) ?_)
    blk_ext [idx0, idx4]
  · blk_simp [iblk]
    refine (congrFun (V_main_arg2 m c) _).trans (congrArg (nOf m c) ?_)
    blk_ext [idx2, idx4]
  · blk_simp [iblk]
    refine (congrFun (V_main_arg1 m c) _).trans (congrArg (gOf m c) ?_)
    blk_ext [idx1, idx4]
  · blk_simp [iblk]
    refine (congrFun (V_main_arg3 m c) _).trans (congrArg (rOf m c) ?_)
    blk_ext [idx3, idx4]
  · apply Fin.ext
    blk_simp [idx4]

/-- The gain's gradient after the last block: every row once. -/
theorem sum5 (c : Dev nD) (t : Fin cfg0.N) (ht : t.val + 1 = cfg0.N) (i : S1x1024.Idx) :
    ((outsAt0 m c t.val t.isLt).2 i : EReal) = H m c i := by
  have h := Idealize.ShloMosaic.Pipeline.eq_sum_fin_of_reset_step_last (M := EReal) (N := cfg0.N)
    (fun n hn => (outsAt0 m c n hn).2 i) 4 0
    (fun t => ∑ k : Fin 544, nOf m c (ix2 ⟨t.val * 544 + k.val, row_lt t k⟩ (i 1))
      * (hOf m c (ix2 ⟨t.val * 544 + k.val, row_lt t k⟩ (i 1)) * Cert.NormAlg.rinv (fun q => hOf m c (ix2 ⟨t.val * 544 + k.val, row_lt t k⟩ q))))
    (fun t h0 => by
      rw [left5_first m c t h0]
      refine (pay5_apply _ _ _ i).trans (congrArg₂ (· + ·) (pay4_apply i) ?_)
      exact Finset.sum_congr rfl fun k _ => congrArg₂ (· * ·) (iblk2 m c t k (i 1))
        (congrArg₂ (· * ·) (iblk0 m c t k (i 1)) (congrArg Cert.NormAlg.rinv (funext fun q => iblk0 m c t k q))))
    (fun t h0 => by
      rw [left5_next m c t h0]
      refine (pay5_apply _ _ _ i).trans (congrArg₂ (· + ·) rfl ?_)
      exact Finset.sum_congr rfl fun k _ => congrArg₂ (· * ·) (iblk2 m c t k (i 1))
        (congrArg₂ (· * ·) (iblk0 m c t k (i 1)) (congrArg Cert.NormAlg.rinv (funext fun q => iblk0 m c t k q))))
    (by decide) t ht
  refine h.trans ((zero_add _).trans ?_)
  exact Fin.sum_mul_add_fin (M := EReal) 4 544 (fun k : Fin 2176 =>
    (nOf m c (ix2 k (i 1)) * (hOf m c (ix2 k (i 1)) * Cert.NormAlg.rinv (fun q => hOf m c (ix2 k q))) : EReal))

theorem final5 (c : Dev nD) : (dats m 0 c).arrAt 5 cfg0.N = H m c := by
  refine (dats m 0 c).arrAt_eq_of_after_last 5 ⟨3, by decide⟩ (by decide +kernel) _ fun j => ?_
  blk_simp
  exact (congrFun (after0_5 m c ⟨3, by decide⟩) j).trans (sum5 m c ⟨3, by decide⟩ rfl j)

end Cert.Kernel30Ideal.Norm

namespace Cert.Proof

open Idealize.ShloMosaic Idealize.ShloMosaic.TcCoe Idealize.SL.Sem

theorem frame_kernel30 : Cert.quiescent_Kernel30 := fun m ρ _ => Cert.Kernel30.Gen.frame m ρ
theorem frame_kernel30Ideal : Cert.quiescent_Kernel30Ideal := fun m ρ _ => Cert.Kernel30Ideal.Gen.frame m ρ
theorem frame_reference30 : Cert.quiescent_Reference30Ideal := fun m ρ _ =>
  (θ_run Cert.Reference30Ideal.defs _ _).mono (fun r h => ⟨fun c => (h c).2.2, Idealize.ShloMosaic.sem_eq_zero_of_no_sems (by decide) r.2⟩)
    (Cert.Reference30Ideal.Value.run (F := Ideal) m ρ)

open Cert.Reference30Ideal Cert.Reference30Ideal.Read

/-- The reciprocal root, the mean and the factor of a row, as the reference has them. -/
theorem ref30_rinv (x0 : FVec Ideal S2176x1024 .f32) (i : S2176x1.Idx) :
    val_main_v7 (F := Ideal) x0 i = (Cert.NormAlg.rinv (fun k => x0 (ix2 (i 0) k)) : EReal) := by
  unfold val_main_v7 val_main_v6 val_main_v5 val_main_v4 val_main_v3
    val_main_v2 val_main_v1 val_main_v0 val_main_cst val_main_cst_0 val_main_cst_1 Cert.NormAlg.rinv Cert.NormAlg.ms
  pointwise

theorem ref30_ms (x0 : FVec Ideal S2176x1024 .f32) (i : S2176x1.Idx) :
    val_main_v6 (F := Ideal) x0 i = (Cert.NormAlg.ms (fun k => x0 (ix2 (i 0) k)) : EReal) := by
  unfold val_main_v6 val_main_v5 val_main_v4 val_main_v3
    val_main_v2 val_main_v1 val_main_v0 val_main_cst val_main_cst_0 val_main_cst_1 Cert.NormAlg.ms
  pointwise

theorem ref30_dot (x0 : FVec Ideal S2176x1024 .f32) (x1 : FVec Ideal S1x1024 .f32) (x2 : FVec Ideal S2176x1024 .f32) (i : S2176x1.Idx) :
    val_main_v22 (F := Ideal) x0 x1 x2 i = (∑ k : Fin 1024, x0 (ix2 (i 0) k) * (x2 (ix2 (i 0) k) * x1 (ix2 0 k)) : EReal) := by
  unfold val_main_v22 val_main_v21 val_main_v20 val_main_v19 val_main_v18 val_main_cst_4
  pointwise

theorem ref30_fac (x0 : FVec Ideal S2176x1024 .f32) (x1 : FVec Ideal S1x1024 .f32) (x2 : FVec Ideal S2176x1024 .f32) (i : S2176x1.Idx) :
    val_main_v28 (F := Ideal) x0 x1 x2 i
      = (Cert.NormAlg.fac (fun k => x0 (ix2 (i 0) k)) (fun k => x2 (ix2 (i 0) k) * x1 (ix2 0 k)) : EReal) := by
  rw [val_main_v28_apply, val_main_v26_apply, val_main_v10_apply, val_main_v8_apply, ref30_rinv, ref30_ms, ref30_dot,
    val_main_v27_apply, val_main_v9_apply]
  rfl

/-- The reference's gradient of the input at a position. -/
theorem ref30_apply (x0 : FVec Ideal S2176x1024 .f32) (x1 : FVec Ideal S1x1024 .f32) (x2 x3 : FVec Ideal S2176x1024 .f32)
    (i : S2176x1024.Idx) :
    val_main_v34 (F := Ideal) x0 x1 x2 x3 i
      = Cert.NormAlg.ref (fun k => x0 (ix2 (i 0) k)) (fun k => x2 (ix2 (i 0) k) * x1 (ix2 0 k)) (x3 i) (i 1) := by
  have hf : val_main_v30 (F := Ideal) x0 x1 x2 i
      = (Cert.NormAlg.fac (fun k => x0 (ix2 (i 0) k)) (fun k => x2 (ix2 (i 0) k) * x1 (ix2 0 k)) : EReal) := by
    rw [val_main_v30_apply, val_main_v29_apply, Fin.sum_univ_one, ref30_fac]
    exact (congrArg (· + _) (Ideal.ofBits_zero_f32)).trans (zero_add _)
  have hx : i = ix2 (i 0) (i 1) := by funext a; match a with | ⟨0, _⟩ => rfl | ⟨1, _⟩ => rfl
  have h0 : x0 i = x0 (ix2 (i 0) (i 1)) := congrArg x0 hx
  have h2 : x2 i = x2 (ix2 (i 0) (i 1)) := congrArg x2 hx
  have h1 : x1 (idx_main_v18 i) = x1 (ix2 0 (i 1)) := congrArg x1 (by funext a; match a with | ⟨0, _⟩ => rfl | ⟨1, _⟩ => rfl)
  rw [val_main_v34_apply, val_main_v32_apply, val_main_v25_apply, val_main_v24_apply, val_main_v31_apply, val_main_v33_apply, hf,
    val_main_v23_apply, ref30_rinv, val_main_v19_apply, val_main_v18_apply, h0, h1, h2]
  rfl

/-- The reference's gradient of the gain at a position. -/
theorem ref30_gain (x0 x2 : FVec Ideal S2176x1024 .f32) (i : S1x1024.Idx) :
    val_main_v17 (F := Ideal) x0 x2 i
      = (∑ k : Fin 2176, x2 (ix2 k (i 1)) * (x0 (ix2 k (i 1)) * Cert.NormAlg.rinv (fun q => x0 (ix2 k q))) : EReal) := by
  unfold val_main_v17 val_main_v16 val_main_v15 val_main_v12 val_main_v11 val_main_v7 val_main_v6 val_main_v5 val_main_v4 val_main_v3
    val_main_v2 val_main_v1 val_main_v0 val_main_cst val_main_cst_0 val_main_cst_1 val_main_cst_3 Cert.NormAlg.rinv Cert.NormAlg.ms
  pointwise
  exact Finset.sum_congr rfl fun k _ => mul_comm _ _

/-- From memories with the same arguments: the gradients of the input and of the gain, each equal. -/
theorem algebraic30 : Cert.algebraic_Kernel30Ideal_Reference30Ideal := by
  intro m g m' g' _ hm
  refine ⟨fun c => Cert.Kernel30Ideal.Norm.G m c, fun c => Cert.Kernel30Ideal.Norm.H m c, ?_, ?_⟩
  · refine (θ_run Cert.Kernel30Ideal.defs _ _).mono (fun r h c => ?_) (Cert.Kernel30Ideal.Value.run_blocks (F := Ideal) m g)
    exact ⟨(h c).1.trans (Cert.Kernel30Ideal.Norm.final m c), (h c).2.1.trans (Cert.Kernel30Ideal.Norm.final5 m c), (h c).2.2⟩
  · refine (θ_run Cert.Reference30Ideal.defs _ _).mono (fun r h c => ?_) (Cert.Reference30Ideal.Value.run (F := Ideal) m' g')
    refine ⟨(h c).1.trans ?_, (h c).2.1.trans ?_, (h c).2.2⟩
    · rw [(hm c).1, (hm c).2.1, (hm c).2.2.1, (hm c).2.2.2]
      exact (val_main_v34_eq _ _ _ _).trans (funext fun i => (ref30_apply _ _ _ _ i).trans (Cert.NormAlg.ker_eq_ref _ _ _ _).symm)
    · rw [(hm c).1, (hm c).2.2.1]
      exact (val_main_v17_eq _ _).trans (funext fun i => ref30_gain _ _ i)

end Cert.Proof

end
-- ==== Proof.Norm31.lean ====
/- The loss: its value, and its gradients with the last norm: of the input row by row, and of the gain. -/
module

public import proofs.«01_k».proof.Defs
public import proofs.«01_k».proof.Proof.NormAlg
public import proofs.«01_k».proof.Proof.Gen.Kernel31.Frame
public import proofs.«01_k».proof.Proof.Gen.Kernel31Ideal.Value
public import proofs.«01_k».proof.Proof.Gen.Reference31Ideal.Read
public import Idealize.ShloMosaic.Lib.Pipeline.ValueKit
public import Idealize.ShloMosaic.Lib.Quiescent
public import Idealize.ShloMosaic.Lib.Claim

@[expose] public section

set_option maxRecDepth 16384

noncomputable section

namespace Cert.Kernel31Ideal.Norm

open Cert.Kernel31Ideal Cert.Kernel31Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The arguments, as launched: the input, the gain and the target. -/
def hOf (c : Dev nD) : FVec Ideal S2176x1024 .f32 := m ((c : Thread nD τ).loc main_arg0)
def gOf (c : Dev nD) : FVec Ideal S1x1024 .f32 := m ((c : Thread nD τ).loc main_arg1)
def tOf (c : Dev nD) : FVec Ideal S2176x1024 .f32 := m ((c : Thread nD τ).loc main_arg2)

/-- The rows that the kernel's comparisons of words let through. -/
theorem own_word : ∀ (c : Fin 4) (k : Fin 544),
    IntOp.andi (IntOp.cmpi .sge (IntOp.addi (Scalar.muli (BitVec.ofNat 32 c.val) 544#32) (BitVec.ofNat 32 k.val)) 16#32)
      (IntOp.cmpi .slt (IntOp.addi (Scalar.muli (BitVec.ofNat 32 c.val) 544#32) (BitVec.ofNat 32 k.val)) 2064#32)
      = BitVec.ofBool (decide (Cert.NormAlg.own (c.val * 544 + k.val))) := by
  decide +kernel

theorem pay8_apply (i : grid0.Coords) (X T : Vec Ideal S544x1024 .f32) (Y : Vec Ideal S1x1024 .f32) (k : Fin 544) (j : Fin 1024) :
    (k0_pay8 i X Y T (ix2 k j) : EReal)
      = Cert.NormAlg.dif ((i 0).val * 544 + k.val) (fun q => X (ix2 k q)) (fun q => Y (ix2 0 q)) (T (ix2 k j)) j := by
  unfold k0_pay8 k0_pay7 k0_pay6 Cert.NormAlg.dif Cert.NormAlg.rinv Cert.NormAlg.ms
  pointwise
  rw [own_word ⟨(i 0).val, (i 0).isLt⟩ k]
  by_cases h : Cert.NormAlg.own ((i 0).val * 544 + k.val)
  · rw [if_pos h, decide_eq_true h]; rfl
  · rw [if_neg h, decide_eq_false h]; rfl

/-- A block's gradient of the input at a position, from the misses of its row. -/
theorem pay10_apply (i : grid0.Coords) (X T : Vec Ideal S544x1024 .f32) (Y : Vec Ideal S1x1024 .f32) (k : Fin 544) (j : Fin 1024) :
    (k0_pay10 i X Y T (ix2 k j) : EReal)
      = Cert.NormAlg.ker (fun q => X (ix2 k q))
          (fun q => (k0_pay8 i X Y T (ix2 k q) : EReal) * Cert.NormAlg.one1024 * Y (ix2 0 q)) 0 j := by
  unfold k0_pay10 k0_pay9 k0_pay7 k0_pay6 Cert.NormAlg.ker Cert.NormAlg.rinv Cert.NormAlg.ms
  generalize k0_pay8 i X Y T = D
  pointwise

/-- What a block adds to the gain's gradient. -/
theorem pay4_apply (i : grid0.Coords) (X T : Vec Ideal S544x1024 .f32) (Y A : Vec Ideal S1x1024 .f32) (y : S1x1024.Idx) :
    (k0_pay4 (k0_pay7 X) (k0_pay9 i X Y T) A y : EReal)
      = A y + ∑ k : Fin 544, (k0_pay8 i X Y T (ix2 k (y 1)) : EReal) * Cert.NormAlg.one1024
          * (X (ix2 k (y 1)) * Cert.NormAlg.rinv (fun q => X (ix2 k q))) := by
  unfold k0_pay4 k0_pay9 k0_pay7 k0_pay6 Cert.NormAlg.rinv Cert.NormAlg.ms
  generalize k0_pay8 i X Y T = D
  pointwise

/-- What a block adds to the loss. -/
theorem pay5_apply (D : FVec Ideal S544x1024 .f32) (A : Vec Ideal S1x128 .f32) (y : S1x128.Idx) :
    (k0_pay5 D A y : EReal) = A y + ∑ k : Fin 544, (∑ j : Fin 1024, D (ix2 k j) * D (ix2 k j) : EReal) * Cert.NormAlg.half1024 := by
  have h : (k0_pay5 D A y : EReal)
      = A y + (∑ k : Fin 544, ∑ j : Fin 1024, D (ix2 k j) * D (ix2 k j) : EReal) * Cert.NormAlg.half1024 := by
    unfold k0_pay5
    pointwise
  rw [h, Cert.NormAlg.half1024_eq, Cert.NormAlg.sum_mul_coe _ _ (by norm_num)]

theorem pay2_apply (y : S1x1024.Idx) : (k0_pay2 (F := Ideal) y : EReal) = 0 := Ideal.ofBits_zero_f32
theorem pay3_apply (y : S1x128.Idx) : (k0_pay3 (F := Ideal) y : EReal) = 0 := Ideal.ofBits_zero_f32

/-- Which blocks each point of the grid reads and writes. -/
theorem coord (t : Fin cfg0.N) : (grid0.coords t 0).val = t.val :=
  (by decide +kernel : ∀ t : Fin grid0.N, (grid0.coords t 0).val = t.val) t
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx4 : ∀ t : Fin cfg0.N, win0_4.index t = ![t.val, 0] := (by decide +kernel : ∀ t : Fin grid0.N, _)
theorem idx6 : ∀ t : Fin cfg0.N, win0_6.index t = ![t.val, 0] := (by decide +kernel : ∀ t : Fin grid0.N, _)

/-- By how much an element misses its target. -/
def D (c : Dev nD) (k : Fin 2176) (j : Fin 1024) : EReal :=
  Cert.NormAlg.dif k.val (fun q => hOf m c (ix2 k q)) (fun q => gOf m c (ix2 0 q)) (tOf m c (ix2 k j)) j

/-- The gradient of the input. -/
def G (c : Dev nD) : FVec Ideal S2176x1024 .f32 := fun i =>
  Cert.NormAlg.ker (fun q => hOf m c (ix2 (i 0) q)) (fun q => D m c (i 0) q * Cert.NormAlg.one1024 * gOf m c (ix2 0 q)) 0 (i 1)
def Gb (c : Dev nD) : FVec Ideal S2176x1024 .bf16 := fun i => G m c i

/-- The gradient of the gain. -/
def H (c : Dev nD) : FVec Ideal S1x1024 .f32 := fun i =>
  (∑ k : Fin 2176, D m c k (i 1) * Cert.NormAlg.one1024
    * (hOf m c (ix2 k (i 1)) * Cert.NormAlg.rinv (fun q => hOf m c (ix2 k q))) : EReal)

/-- The loss, in every column. -/
def L (c : Dev nD) : FVec Ideal S1x128 .f32 := fun _ =>
  (∑ k : Fin 2176, (∑ j : Fin 1024, D m c k j * D m c k j) * Cert.NormAlg.half1024 : EReal)

/-- What a point leaves of the results, whichever way it goes. -/
theorem left4 (c : Dev nD) (t : Fin cfg0.N) :
    (outsAt0 m c t.val t.isLt).2.1 = k0_pay10 (grid0.coords t) (iblk m c 0 t) (iblk m c 1 t) (iblk m c 2 t) := by
  by_cases h0 : t.val % 4 = 0
  · rw [outsAt0_A m c t h0]
    frame_out
  · rw [outsAt0_B m c t h0]
    frame_out

theorem left6 (c : Dev nD) (t : Fin cfg0.N) :
    (outsAt0 m c t.val t.isLt).2.2.2 = k0_pay1 (k0_pay10 (grid0.coords t) (iblk m c 0 t) (iblk m c 1 t) (iblk m c 2 t)) := by
  by_cases h0 : t.val % 4 = 0
  · rw [outsAt0_A m c t h0]
    frame_out
  · rw [outsAt0_B m c t h0]
    frame_out

theorem left5_first (c : Dev nD) (t : Fin cfg0.N) (h0 : t.val % 4 = 0) :
    (outsAt0 m c t.val t.isLt).2.2.1 = k0_pay4 (k0_pay7 (iblk m c 0 t))
      (k0_pay9 (grid0.coords t) (iblk m c 0 t) (iblk m c 1 t) (iblk m c 2 t)) (k0_pay2 (F := Ideal)) := by
  rw [outsAt0_A m c t h0]
  frame_out

theorem left5_next (c : Dev nD) (t : Fin cfg0.N) (h0 : ¬t.val % 4 = 0) :
    (outsAt0 m c t.val t.isLt).2.2.1 = k0_pay4 (k0_pay7 (iblk m c 0 t))
      (k0_pay9 (grid0.coords t) (iblk m c 0 t) (iblk m c 1 t) (iblk m c 2 t))
      (outsAt0 m c (t.val - 1) (Nat.lt_of_le_of_lt (Nat.sub_le _ _) t.isLt)).2.2.1 := by
  rw [outsAt0_B m c t h0]
  frame_out

theorem left3_first (c : Dev nD) (t : Fin cfg0.N) (h0 : t.val % 4 = 0) :
    (outsAt0 m c t.val t.isLt).1
      = k0_pay5 (k0_pay8 (grid0.coords t) (iblk m c 0 t) (iblk m c 1 t) (iblk m c 2 t)) (k0_pay3 (F := Ideal)) := by
  rw [outsAt0_A m c t h0]
  frame_out

theorem left3_next (c : Dev nD) (t : Fin cfg0.N) (h0 : ¬t.val % 4 = 0) :
    (outsAt0 m c t.val t.isLt).1 = k0_pay5 (k0_pay8 (grid0.coords t) (iblk m c 0 t) (iblk m c 1 t) (iblk m c 2 t))
      (outsAt0 m c (t.val - 1) (Nat.lt_of_le_of_lt (Nat.sub_le _ _) t.isLt)).1 := by
  rw [outsAt0_B m c t h0]
  frame_out

/-- Blocks of rows, as rows of the arguments. -/
theorem row_lt (t : Fin cfg0.N) (k : Fin 544) : t.val * 544 + k.val < 2176 := by
  have h := t.isLt
  have h' : t.val < 4 := h
  omega

theorem iblk0 (c : Dev nD) (t : Fin cfg0.N) (k : Fin 544) (j : Fin 1024) :
    (iblk m c 0 t : Vec Ideal S544x1024 .f32) (ix2 k j) = hOf m c (ix2 ⟨t.val * 544 + k.val, row_lt t k⟩ j) := by
  blk_simp [iblk]
  refine (congrFun (V_main_arg0 m c) _).trans (congrArg (hOf m c) ?_)
  blk_ext [idx0]

theorem iblk1 (c : Dev nD) (t : Fin cfg0.N) (j : Fin 1024) :
    (iblk m c 1 t : Vec Ideal S1x1024 .f32) (ix2 0 j) = gOf m c (ix2 0 j) := by
  blk_simp [iblk]
  refine (congrFun (V_main_arg1 m c) _).trans (congrArg (gOf m c) ?_)
  blk_ext [idx1]

theorem iblk2 (c : Dev nD) (t : Fin cfg0.N) (k : Fin 544) (j : Fin 1024) :
    (iblk m c 2 t : Vec Ideal S544x1024 .f32) (ix2 k j) = tOf m c (ix2 ⟨t.val * 544 + k.val, row_lt t k⟩ j) := by
  blk_simp [iblk]
  refine (congrFun (V_main_arg2 m c) _).trans (congrArg (tOf m c) ?_)
  blk_ext [idx2]

theorem dif_blk (c : Dev nD) (t : Fin cfg0.N) (k : Fin 544) (j : Fin 1024) :
    (k0_pay8 (grid0.coords t) (iblk m c 0 t) (iblk m c 1 t) (iblk m c 2 t) (ix2 k j) : EReal)
      = D m c ⟨t.val * 544 + k.val, row_lt t k⟩ j := by
  refine (pay8_apply _ _ _ _ k j).trans ?_
  rw [coord]
  show Cert.NormAlg.dif _ _ _ _ _ = Cert.NormAlg.dif _ _ _ _ _
  refine congr (congr (congr (congrArg (Cert.NormAlg.dif _) (funext fun q => ?_)) (funext fun q => ?_)) ?_) rfl
  · exact iblk0 m c t k q
  · exact iblk1 m c t q
  · exact iblk2 m c t k j

theorem grad_blk (c : Dev nD) (t : Fin cfg0.N) (k : Fin 544) (j : Fin 1024) :
    (k0_pay10 (grid0.coords t) (iblk m c 0 t) (iblk m c 1 t) (iblk m c 2 t) (ix2 k j) : EReal)
      = G m c (ix2 ⟨t.val * 544 + k.val, row_lt t k⟩ j) := by
  refine (pay10_apply _ _ _ _ k j).trans ?_
  refine congr (congr (congr (congrArg Cert.NormAlg.ker (funext fun q => ?_)) (funext fun q => congrArg₂ (· * ·) (congrArg (· * _) ?_) ?_))
    rfl) rfl
  · exact iblk0 m c t k q
  · exact dif_blk m c t k q
  · exact iblk1 m c t q

theorem eta (y : S544x1024.Idx) : y = ix2 (y 0) (y 1) := by
  funext a
  match a with
  | ⟨0, _⟩ => rfl
  | ⟨1, _⟩ => rfl

theorem final4 (c : Dev nD) : (dats m 0 c).arrAt 4 cfg0.N = G m c := by
  refine (dats m 0 c).arrAt_eq_of_covers 4 _ (by decide +kernel) fun t hf y => ?_
  blk_simp
  rw [after0_4, left4]
  refine (congrArg _ (eta y)).trans ((grad_blk m c t (y 0) (y 1)).trans (congrArg (G m c) ?_))
  blk_ext [idx4]

theorem final6 (c : Dev nD) : (dats m 0 c).arrAt 6 cfg0.N = Gb m c := by
  refine (dats m 0 c).arrAt_eq_of_covers 6 _ (by decide +kernel) fun t hf y => ?_
  blk_simp
  rw [after0_6, left6]
  refine (congrArg (k0_pay10 (grid0.coords t) (iblk m c 0 t) (iblk m c 1 t) (iblk m c 2 t)) (eta y)).trans
    ((grad_blk m c t (y 0) (y 1)).trans (congrArg (G m c) ?_))
  blk_ext [idx6]

/-- The gain's gradient after the last block: every row once. -/
theorem sum5 (c : Dev nD) (t : Fin cfg0.N) (ht : t.val + 1 = cfg0.N) (i : S1x1024.Idx) :
    ((outsAt0 m c t.val t.isLt).2.2.1 i : EReal) = H m c i := by
  have h := Idealize.ShloMosaic.Pipeline.eq_sum_fin_of_reset_step_last (M := EReal) (N := cfg0.N)
    (fun n hn => (outsAt0 m c n hn).2.2.1 i) 4 0
    (fun t => ∑ k : Fin 544, D m c ⟨t.val * 544 + k.val, row_lt t k⟩ (i 1) * Cert.NormAlg.one1024
      * (hOf m c (ix2 ⟨t.val * 544 + k.val, row_lt t k⟩ (i 1))
        * Cert.NormAlg.rinv (fun q => hOf m c (ix2 ⟨t.val * 544 + k.val, row_lt t k⟩ q))))
    (fun t h0 => by
      rw [left5_first m c t h0]
      exact (pay4_apply _ _ _ _ _ i).trans (congrArg₂ (· + ·) (pay2_apply i)
        (Finset.sum_congr rfl fun k _ => congrArg₂ (· * ·) (congrArg (· * _) (dif_blk m c t k (i 1)))
          (congrArg₂ (· * ·) (iblk0 m c t k (i 1)) (congrArg Cert.NormAlg.rinv (funext fun q => iblk0 m c t k q))))))
    (fun t h0 => by
      rw [left5_next m c t h0]
      exact (pay4_apply _ _ _ _ _ i).trans (congrArg₂ (· + ·) rfl
        (Finset.sum_congr rfl fun k _ => congrArg₂ (· * ·) (congrArg (· * _) (dif_blk m c t k (i 1)))
          (congrArg₂ (· * ·) (iblk0 m c t k (i 1)) (congrArg Cert.NormAlg.rinv (funext fun q => iblk0 m c t k q))))))
    (by decide) t ht
  refine h.trans ((zero_add _).trans ?_)
  exact Fin.sum_mul_add_fin (M := EReal) 4 544 (fun k : Fin 2176 =>
    (D m c k (i 1) * Cert.NormAlg.one1024 * (hOf m c (ix2 k (i 1)) * Cert.NormAlg.rinv (fun q => hOf m c (ix2 k q))) : EReal))

theorem final5 (c : Dev nD) : (dats m 0 c).arrAt 5 cfg0.N = H m c := by
  refine (dats m 0 c).arrAt_eq_of_after_last 5 ⟨3, by decide⟩ (by decide +kernel) _ fun j => ?_
  blk_simp
  exact (congrFun (after0_5 m c ⟨3, by decide⟩) j).trans (sum5 m c ⟨3, by decide⟩ rfl j)

/-- The loss after the last block: every row once. -/
theorem sum3 (c : Dev nD) (t : Fin cfg0.N) (ht : t.val + 1 = cfg0.N) (i : S1x128.Idx) :
    ((outsAt0 m c t.val t.isLt).1 i : EReal) = L m c i := by
  have hb : ∀ t : Fin cfg0.N,
      (∑ k : Fin 544, (∑ j : Fin 1024, (k0_pay8 (grid0.coords t) (iblk m c 0 t) (iblk m c 1 t) (iblk m c 2 t) (ix2 k j) : EReal)
        * (k0_pay8 (grid0.coords t) (iblk m c 0 t) (iblk m c 1 t) (iblk m c 2 t) (ix2 k j) : EReal)) * Cert.NormAlg.half1024 : EReal)
      = ∑ k : Fin 544, (∑ j : Fin 1024, D m c ⟨t.val * 544 + k.val, row_lt t k⟩ j * D m c ⟨t.val * 544 + k.val, row_lt t k⟩ j)
        * Cert.NormAlg.half1024 := fun t =>
    Finset.sum_congr rfl fun k _ => congrArg (· * _) (Finset.sum_congr rfl fun j _ =>
      congrArg₂ (· * ·) (dif_blk m c t k j) (dif_blk m c t k j))
  have h := Idealize.ShloMosaic.Pipeline.eq_sum_fin_of_reset_step_last (M := EReal) (N := cfg0.N)
    (fun n hn => (outsAt0 m c n hn).1 i) 4 0
    (fun t => ∑ k : Fin 544, (∑ j : Fin 1024, D m c ⟨t.val * 544 + k.val, row_lt t k⟩ j * D m c ⟨t.val * 544 + k.val, row_lt t k⟩ j)
        * Cert.NormAlg.half1024)
    (fun t h0 => by
      rw [left3_first m c t h0]
      exact (pay5_apply _ _ i).trans (congrArg₂ (· + ·) (pay3_apply i) (hb t)))
    (fun t h0 => by
      rw [left3_next m c t h0]
      exact (pay5_apply _ _ i).trans (congrArg₂ (· + ·) rfl (hb t)))
    (by decide) t ht
  refine h.trans ((zero_add _).trans ?_)
  exact Fin.sum_mul_add_fin (M := EReal) 4 544 (fun k : Fin 2176 =>
    ((∑ j : Fin 1024, D m c k j * D m c k j) * Cert.NormAlg.half1024 : EReal))

theorem final3 (c : Dev nD) : (dats m 0 c).arrAt 3 cfg0.N = L m c := by
  refine (dats m 0 c).arrAt_eq_of_after_last 3 ⟨3, by decide⟩ (by decide +kernel) _ fun j => ?_
  blk_simp
  exact (congrFun (after0_3 m c ⟨3, by decide⟩) j).trans (sum3 m c ⟨3, by decide⟩ rfl j)

end Cert.Kernel31Ideal.Norm

namespace Cert.Proof

open Idealize.ShloMosaic Idealize.ShloMosaic.TcCoe Idealize.SL.Sem
open scoped BigOperators

theorem frame_kernel31 : Cert.quiescent_Kernel31 := fun m ρ _ => Cert.Kernel31.Gen.frame m ρ
theorem frame_kernel31Ideal : Cert.quiescent_Kernel31Ideal := fun m ρ _ => Cert.Kernel31Ideal.Gen.frame m ρ
theorem frame_reference31 : Cert.quiescent_Reference31Ideal := fun m ρ _ =>
  (θ_run Cert.Reference31Ideal.defs _ _).mono (fun r h => ⟨fun c => (h c).2.2.2.2, Idealize.ShloMosaic.sem_eq_zero_of_no_sems (by decide) r.2⟩)
    (Cert.Reference31Ideal.Value.run (F := Ideal) m ρ)

open Cert.Reference31Ideal Cert.Reference31Ideal.Read

/-- By how much an element misses its target, of the arguments. -/
def miss (x0 : FVec Ideal S2176x1024 .f32) (x1 : FVec Ideal S1x1024 .f32) (x2 : FVec Ideal S2176x1024 .f32) (k : Fin 2176) (j : Fin 1024) :
    EReal :=
  Cert.NormAlg.dif k.val (fun q => x0 (ix2 k q)) (fun q => x1 (ix2 0 q)) (x2 (ix2 k j)) j

/-- The reciprocal root, the mean, the miss and the factor of a row, as the reference has them. -/
theorem ref31_rinv (x0 : FVec Ideal S2176x1024 .f32) (i : S2176x1.Idx) :
    val_main_v7 (F := Ideal) x0 i = (Cert.NormAlg.rinv (fun k => x0 (ix2 (i 0) k)) : EReal) := by
  unfold val_main_v7 val_main_v6 val_main_v5 val_main_v4 val_main_v3
    val_main_v2 val_main_v1 val_main_v0 val_main_cst val_main_cst_0 val_main_cst_1 Cert.NormAlg.rinv Cert.NormAlg.ms
  pointwise

theorem ref31_ms (x0 : FVec Ideal S2176x1024 .f32) (i : S2176x1.Idx) :
    val_main_v6 (F := Ideal) x0 i = (Cert.NormAlg.ms (fun k => x0 (ix2 (i 0) k)) : EReal) := by
  unfold val_main_v6 val_main_v5 val_main_v4 val_main_v3
    val_main_v2 val_main_v1 val_main_v0 val_main_cst val_main_cst_0 val_main_cst_1 Cert.NormAlg.ms
  pointwise

variable (x0 : FVec Ideal S2176x1024 .f32) (x1 : FVec Ideal S1x1024 .f32) (x2 : FVec Ideal S2176x1024 .f32)

theorem ref31_miss (j : Fin 2048) (q : Fin 1024) :
    val_main_v17 (F := Ideal) x0 x1 x2 (ix2 j q) = miss x0 x1 x2 ⟨16 + j.val, by omega⟩ q := by
  have ho : Cert.NormAlg.own (16 + j.val) := ⟨by omega, by omega⟩
  refine Eq.trans ?_ (if_pos ho).symm
  unfold val_main_v17 val_main_v16 val_main_v15 val_main_v14 val_main_v13 val_main_v12 val_main_v11 val_main_v7 val_main_v6 val_main_v5
    val_main_v4 val_main_v3 val_main_v2 val_main_v1 val_main_v0 val_main_cst val_main_cst_0 val_main_cst_1
    Cert.NormAlg.rinv Cert.NormAlg.ms
  pointwise

/-- The reference's cotangent of the scaled norm: the miss over the number of elements, and zero in the other rows. -/
theorem ref31_scaled (j : Fin 2048) (q : Fin 1024) :
    val_main_v31 (F := Ideal) x0 x1 x2 (ix2 j q) = (miss x0 x1 x2 ⟨16 + j.val, by omega⟩ q * Cert.NormAlg.one1024 : EReal) := by
  have h : val_main_v31 (F := Ideal) x0 x1 x2 (ix2 j q)
      = (Ideal.div (Cert.NormAlg.half * Cert.NormAlg.one) Cert.NormAlg.cnt * (Cert.NormAlg.two * val_main_v17 (F := Ideal) x0 x1 x2 (ix2 j q)) : EReal) := by
    unfold val_main_v31 val_main_v30 val_main_v29 val_main_v28 val_main_v27 val_main_v26 val_main_v20 val_main_v19
      val_main_cst_3 val_main_cst_8 val_main_cst_9 val_main_cst_10
    generalize val_main_v17 (F := Ideal) x0 x1 x2 = N
    pointwise
  refine h.trans ((Cert.NormAlg.cot_eq _).trans ?_)
  rw [ref31_miss]

theorem ref31_cot (k : Fin 2176) (q : Fin 1024) :
    val_main_v32 (F := Ideal) x0 x1 x2 (ix2 k q) = (miss x0 x1 x2 k q * Cert.NormAlg.one1024 : EReal) := by
  unfold val_main_v32
  rw [pad_apply]
  split_ifs with h
  · have h0 : 16 ≤ k.val ∧ (k.val - 16) % 1 = 0 ∧ (k.val - 16) / 1 < 2048 := h (0 : Fin 2)
    have hk : k.val - 16 < 2048 := by have := h0.2.2; omega
    refine (congrArg (val_main_v31 (F := Ideal) x0 x1 x2) (?_ : _ = ix2 ⟨k.val - 16, hk⟩ q)).trans ?_
    · funext a
      match a with
      | ⟨0, _⟩ => exact Fin.ext (Nat.div_one _)
      | ⟨1, _⟩ => exact Fin.ext (Nat.div_one _)
    · refine (ref31_scaled x0 x1 x2 _ q).trans (congrArg (fun k => (miss x0 x1 x2 k q * Cert.NormAlg.one1024 : EReal)) (Fin.ext ?_))
      show 16 + (k.val - 16) = k.val
      omega
  · have ho : ¬Cert.NormAlg.own k.val := fun ho => h fun a => by
      match a with
      | ⟨0, _⟩ =>
        show 16 ≤ k.val ∧ (k.val - 16) % 1 = 0 ∧ (k.val - 16) / 1 < 2048
        have h1 := ho.1
        have h2 := ho.2
        omega
      | ⟨1, _⟩ =>
        show 0 ≤ q.val ∧ (q.val - 0) % 1 = 0 ∧ (q.val - 0) / 1 < 1024
        omega
    have hm : miss x0 x1 x2 k q = 0 := if_neg ho
    rw [hm, zero_mul]
    exact Ideal.ofBits_zero_f32

theorem ref31_dot (i : S2176x1.Idx) :
    val_main_v40 (F := Ideal) x0 x1 x2 i
      = (∑ k : Fin 1024, x0 (ix2 (i 0) k) * (miss x0 x1 x2 (i 0) k * Cert.NormAlg.one1024 * x1 (ix2 0 k)) : EReal) := by
  have h : val_main_v40 (F := Ideal) x0 x1 x2 i
      = (∑ k : Fin 1024, x0 (ix2 (i 0) k) * (val_main_v32 (F := Ideal) x0 x1 x2 (ix2 (i 0) k) * x1 (ix2 0 k)) : EReal) := by
    unfold val_main_v40 val_main_v39 val_main_v38 val_main_v37 val_main_v36 val_main_cst_13
    generalize val_main_v32 (F := Ideal) x0 x1 x2 = N
    pointwise
  rw [h]
  exact Finset.sum_congr rfl fun k _ => congrArg (_ * ·) (congrArg (· * _) (ref31_cot x0 x1 x2 _ k))

theorem ref31_fac (i : S2176x1.Idx) :
    val_main_v45 (F := Ideal) x0 x1 x2 i
      = (Cert.NormAlg.fac (fun k => x0 (ix2 (i 0) k)) (fun k => miss x0 x1 x2 (i 0) k * Cert.NormAlg.one1024 * x1 (ix2 0 k)) : EReal) := by
  rw [val_main_v45_apply, val_main_v43_apply, val_main_v10_apply, val_main_v8_apply, ref31_rinv, ref31_ms, ref31_dot,
    val_main_v44_apply, val_main_v9_apply]
  rfl

/-- The reference's gradient of the input at a position. -/
theorem ref31_apply (i : S2176x1024.Idx) :
    val_main_v51 (F := Ideal) x0 x1 x2 i
      = Cert.NormAlg.ref (fun k => x0 (ix2 (i 0) k)) (fun k => miss x0 x1 x2 (i 0) k * Cert.NormAlg.one1024 * x1 (ix2 0 k)) 0 (i 1) := by
  have hf : val_main_v47 (F := Ideal) x0 x1 x2 i
      = (Cert.NormAlg.fac (fun k => x0 (ix2 (i 0) k)) (fun k => miss x0 x1 x2 (i 0) k * Cert.NormAlg.one1024 * x1 (ix2 0 k)) : EReal) := by
    rw [val_main_v47_apply, val_main_v46_apply, Fin.sum_univ_one, ref31_fac]
    exact (congrArg (· + _) (Ideal.ofBits_zero_f32)).trans (zero_add _)
  have hx : i = ix2 (i 0) (i 1) := by funext a; match a with | ⟨0, _⟩ => rfl | ⟨1, _⟩ => rfl
  have h0 : x0 i = x0 (ix2 (i 0) (i 1)) := congrArg x0 hx
  have h2 : val_main_v32 (F := Ideal) x0 x1 x2 i = (miss x0 x1 x2 (i 0) (i 1) * Cert.NormAlg.one1024 : EReal) :=
    (congrArg (val_main_v32 (F := Ideal) x0 x1 x2) hx).trans (ref31_cot x0 x1 x2 _ _)
  have h1 : x1 (idx_main_v36 i) = x1 (ix2 0 (i 1)) := congrArg x1 (by funext a; match a with | ⟨0, _⟩ => rfl | ⟨1, _⟩ => rfl)
  unfold Cert.NormAlg.ref
  rw [val_main_v51_apply, val_main_v49_apply, val_main_v42_apply, val_main_v48_apply, val_main_v50_apply, hf,
    val_main_v41_apply, ref31_rinv, val_main_v37_apply, val_main_v36_apply, h0, h1, h2, zero_add]
  rfl

/-- The reference's gradient of the gain at a position. -/
theorem ref31_gain (i : S1x1024.Idx) :
    val_main_v35 (F := Ideal) x0 x1 x2 i
      = (∑ k : Fin 2176, miss x0 x1 x2 k (i 1) * Cert.NormAlg.one1024
          * (x0 (ix2 k (i 1)) * Cert.NormAlg.rinv (fun q => x0 (ix2 k q))) : EReal) := by
  have h : val_main_v35 (F := Ideal) x0 x1 x2 i
      = (∑ k : Fin 2176, (x0 (ix2 k (i 1)) * Cert.NormAlg.rinv (fun q => x0 (ix2 k q))) * val_main_v32 (F := Ideal) x0 x1 x2 (ix2 k (i 1)) : EReal) := by
    unfold val_main_v35 val_main_v34 val_main_v33 val_main_v12 val_main_v11 val_main_v7 val_main_v6 val_main_v5 val_main_v4 val_main_v3
      val_main_v2 val_main_v1 val_main_v0 val_main_cst val_main_cst_0 val_main_cst_1 val_main_cst_12 Cert.NormAlg.rinv Cert.NormAlg.ms
    generalize val_main_v32 (F := Ideal) x0 x1 x2 = N
    pointwise
  rw [h]
  exact Finset.sum_congr rfl fun k _ => (mul_comm _ _).trans (congrArg (· * _) (ref31_cot x0 x1 x2 k (i 1)))

/-- The reference's loss. -/
theorem ref31_loss (i : S1x128.Idx) :
    val_main_v52 (F := Ideal) x0 x1 x2 i
      = (∑ k : Fin 2176, (∑ j : Fin 1024, miss x0 x1 x2 k j * miss x0 x1 x2 k j) * Cert.NormAlg.half1024 : EReal) := by
  have h : val_main_v52 (F := Ideal) x0 x1 x2 i
      = (Cert.NormAlg.half * ∑ j : Fin 2048, Ideal.div (∑ q : Fin 1024, val_main_v17 (F := Ideal) x0 x1 x2 (ix2 j q)
          * val_main_v17 (F := Ideal) x0 x1 x2 (ix2 j q)) Cert.NormAlg.cnt : EReal) := by
    unfold val_main_v52 val_main_v25 val_main_v24 val_main_v23 val_main_v22 val_main_v21 val_main_v18
      val_main_cst_4 val_main_cst_5 val_main_cst_6 val_main_cst_7
    generalize val_main_v17 (F := Ideal) x0 x1 x2 = N
    pointwise
  rw [h, mul_comm, Cert.NormAlg.half_eq, ← Cert.NormAlg.sum_mul_coe _ _ (by norm_num), ← Cert.NormAlg.half_eq,
    Cert.NormAlg.sum_own (fun k => (∑ j : Fin 1024, miss x0 x1 x2 k j * miss x0 x1 x2 k j) * Cert.NormAlg.half1024)]
  · refine Finset.sum_congr rfl fun j _ => (Cert.NormAlg.share_eq _).trans (congrArg (· * _) ?_)
    exact Finset.sum_congr rfl fun q _ => congrArg₂ (· * ·) (ref31_miss x0 x1 x2 j q) (ref31_miss x0 x1 x2 j q)
  · intro k ho
    have hm : ∀ q, miss x0 x1 x2 k q = 0 := fun q => if_neg ho
    simp only [hm, zero_mul, Finset.sum_const_zero]

/-- From memories with the same arguments: the loss, and the gradients of the input and of the gain, each equal. -/
theorem algebraic31 : Cert.algebraic_Kernel31Ideal_Reference31Ideal := by
  intro m g m' g' _ hm
  refine ⟨fun c => Cert.Kernel31Ideal.Norm.L m c, fun c => Cert.Kernel31Ideal.Norm.G m c, fun c => Cert.Kernel31Ideal.Norm.H m c,
    fun c => Cert.Kernel31Ideal.Norm.Gb m c, ?_, ?_⟩
  · refine (θ_run Cert.Kernel31Ideal.defs _ _).mono (fun r h c => ?_) (Cert.Kernel31Ideal.Value.run_blocks (F := Ideal) m g)
    exact ⟨(h c).1.trans (Cert.Kernel31Ideal.Norm.final3 m c), (h c).2.1.trans (Cert.Kernel31Ideal.Norm.final4 m c),
      (h c).2.2.1.trans (Cert.Kernel31Ideal.Norm.final5 m c), (h c).2.2.2.1.trans (Cert.Kernel31Ideal.Norm.final6 m c), (h c).2.2.2.2⟩
  · refine (θ_run Cert.Reference31Ideal.defs _ _).mono (fun r h c => ?_) (Cert.Reference31Ideal.Value.run (F := Ideal) m' g')
    refine ⟨(h c).1.trans ?_, (h c).2.1.trans ?_, (h c).2.2.1.trans ?_, (h c).2.2.2.1.trans ?_, (h c).2.2.2.2⟩
    · rw [(hm c).1, (hm c).2.1, (hm c).2.2]
      exact (val_main_v52_eq _ _ _).trans (funext fun i => ref31_loss _ _ _ i)
    · refine (val_main_v51_eq m' c).trans ?_
      rw [(hm c).1, (hm c).2.1, (hm c).2.2]
      exact funext fun i => (ref31_apply _ _ _ i).trans (Cert.NormAlg.ker_eq_ref _ _ _ _).symm
    · rw [(hm c).1, (hm c).2.1, (hm c).2.2]
      exact (val_main_v35_eq _ _ _).trans (funext fun i => ref31_gain _ _ _ i)
    · refine (val_main_v53_eq m' c).trans ?_
      rw [(hm c).1, (hm c).2.1, (hm c).2.2]
      exact funext fun i => (ref31_apply _ _ _ i).trans (Cert.NormAlg.ker_eq_ref _ _ _ _).symm

end Cert.Proof

end
-- ==== Proof.GateAlg.lean ====
/- Sums over the rest of a column, as a window that slides over the column gathers them and as blocks of rows pass them on; and the
   derivative of the logarithm of the sigmoid at every number, infinite ones too. -/
module

public import Idealize.ShloMosaic.PureOps
public import Idealize.ShloMosaic.Lib.Pointwise

@[expose] public section

noncomputable section

namespace Cert.GateAlg

open Idealize.ShloMosaic
open scoped BigOperators

/-- The sum of a column from a row on. -/
def tail (X : ℕ → EReal) (r : ℕ) : EReal := ∑ q ∈ Finset.Ico r 2176, X q

/-- A block of 128 rows: what of it lies at the row or after it, and what the blocks after it bring. -/
theorem tail_block (X : ℕ → EReal) (o : ℕ) (ho : o + 128 ≤ 2176) (a : ℕ) (ha : a < 128) :
    (∑ k : Fin 128, if a ≤ k.val then X (o + k.val) else 0) + tail X (o + 128) = tail X (o + a) := by
  rw [Fin.sum_univ_eq_sum_range (fun k => if a ≤ k then X (o + k) else 0) 128, ← Finset.sum_filter]
  have hf : (Finset.range 128).filter (fun k => a ≤ k) = Finset.Ico a 128 := by
    ext k; simp only [Finset.mem_filter, Finset.mem_range, Finset.mem_Ico]; omega
  rw [hf, Finset.sum_Ico_add X a 128 o, Nat.add_comm a o, Nat.add_comm 128 o]
  exact Finset.sum_Ico_consecutive X (by omega) ho

theorem tail_end (X : ℕ → EReal) : tail X 2176 = 0 := by simp [tail]

theorem tail_zero (X : ℕ → EReal) : tail X 0 = ∑ k : Fin 2176, X k.val := by
  rw [Fin.sum_univ_eq_sum_range X 2176, tail, ← Finset.range_eq_Ico]

theorem foldl_add {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- A column of an array of 2176 rows, and zero below it. -/
def col (x : (⟨2, ![2176, 128]⟩ : Shape).Idx → EReal) (j : Fin 128) (q : ℕ) : EReal := if h : q < 2176 then x (ix2 ⟨q, h⟩ j) else 0

/-- The window that reaches from a row to the end gathers the rest of the column. -/
theorem window_eq (h) (x : (⟨2, ![2176, 128]⟩ : Shape).Idx → EReal) (i : (⟨2, ![2176, 128]⟩ : Shape).Idx) :
    Ideal.hostReduceWindowAdd (s := ⟨2, ![2176, 128]⟩) (t := ⟨2, ![2176, 128]⟩) ![2176, 1] ![1, 1] ![0, 0] ![2175, 0] h x 0 i
      = tail (col x (i 1)) (i 0).val := by
  unfold Ideal.hostReduceWindowAdd Host.reduceWindow
  refine (foldl_add _ _ _).trans ((zero_add _).trans ?_)
  refine (congrArg List.sum (List.map_congr_left (g := fun n => col x (i 1) ((i 0).val + n.val)) fun n _ => ?_)).trans ?_
  · have hn := Shape.rowMajor_val_two ((⟨2, ![2176, 1]⟩ : Shape).rowMajor.symm n)
    rw [Equiv.apply_symm_apply] at hn
    obtain ⟨w, hw⟩ : ∃ w, (⟨2, ![2176, 1]⟩ : Shape).rowMajor.symm n = w := ⟨_, rfl⟩
    rw [hw] at hn
    have hw0 : ((⟨2, ![2176, 1]⟩ : Shape).rowMajor.symm n 0).val = (w 0).val := by rw [hw]
    have hw1 : ((⟨2, ![2176, 1]⟩ : Shape).rowMajor.symm n 1).val = (w 1).val := by rw [hw]
    have hlt : (w 1).val < 1 := (w 1).isLt
    have h1 : (i 1).val < 128 := (i 1).isLt
    have hn' : n.val = (w 0).val := by rw [hn]; show (w 0).val * 1 + (w 1).val = _; omega
    have e0 : (i 0).val * 1 + ((⟨2, ![2176, 1]⟩ : Shape).rowMajor.symm n 0).val - 0 = (i 0).val + n.val := by omega
    have e1 : (i 1).val * 1 + ((⟨2, ![2176, 1]⟩ : Shape).rowMajor.symm n 1).val - 0 = (i 1).val := by omega
    unfold col
    by_cases hq : (i 0).val + n.val < 2176
    · rw [dif_pos hq]
      refine (dif_pos (fun a => ?_)).trans (congrArg x (funext fun a => Fin.ext ?_))
      · match a with
        | ⟨0, _⟩ => exact ⟨Nat.zero_le _, lt_of_eq_of_lt e0 hq⟩
        | ⟨1, _⟩ => exact ⟨Nat.zero_le _, lt_of_eq_of_lt e1 h1⟩
      · match a with
        | ⟨0, _⟩ => exact e0
        | ⟨1, _⟩ => exact e1
    · rw [dif_neg hq]
      exact dif_neg fun hin => hq (lt_of_eq_of_lt e0.symm (hin 0).2)
  rw [← Fin.sum_univ_def]
  refine (Fin.sum_univ_eq_sum_range (fun n => col x (i 1) ((i 0).val + n)) 2176).trans ?_
  have h0 : (i 0).val < 2176 := (i 0).isLt
  unfold tail
  rw [Finset.range_eq_Ico, Finset.sum_Ico_add (col x (i 1)) 0 2176 (i 0).val, zero_add]
  refine (Finset.sum_subset (Finset.Ico_subset_Ico_right (by omega)) fun q hq hq' => ?_).symm
  simp only [Finset.mem_Ico] at hq hq'
  exact dif_neg (by omega)

/-- The logarithm of `1 + exp y`, as printed. -/
def soft (y : EReal) : EReal := max y 0 + Ideal.log1p (Ideal.exp (-(max y (-y))))

/-- The sigmoid at `-x`, as the derivative of the logarithm of the sigmoid is printed: infinite values are taken out of the difference. -/
theorem sig_eq (x : EReal) :
    Ideal.exp ((if -x = ⊤ then 0 else -x) - (if soft (-x) = ⊤ then 0 else soft (-x))) = Ideal.logistic (-x) := by
  have h1 : Ideal.log 1 = 0 := by rw [← EReal.coe_one, Ideal.log_coe]; simp
  have h0 : Ideal.exp 0 = 1 := by rw [← EReal.coe_zero, Ideal.exp_coe]; simp
  induction x with
  | bot => simp [soft, Ideal.log1p, h1, h0]
  | top => simp [soft, Ideal.log1p, h1]
  | coe a =>
    have hs : soft (-(a : EReal)) = ((Real.log (1 + Real.exp (-a)) : ℝ) : EReal) := by
      have hp := Real.exp_pos (-|a|)
      have e : soft (-(a : EReal)) = ((max (-a) 0 + Real.log (1 + Real.exp (-|a|)) : ℝ) : EReal) := by
        have hm : max (-(a : EReal)) (-(-(a : EReal))) = ((|a| : ℝ) : EReal) := by
          rw [neg_neg, abs_eq_max_neg, max_comm]; norm_cast
        have hl : Ideal.log1p ((Real.exp (-|a|) : ℝ) : EReal) = ((Real.log (1 + Real.exp (-|a|)) : ℝ) : EReal) := by
          unfold Ideal.log1p
          rw [← EReal.coe_one, ← EReal.coe_add, Ideal.log_coe, if_neg (by linarith)]
        unfold soft
        rw [hm, ← EReal.coe_neg, ← EReal.coe_neg, Ideal.exp_coe, hl]
        norm_cast
      rw [e]
      congr 1
      rcases le_total 0 a with h | h
      · rw [abs_of_nonneg h, max_eq_right (by linarith), zero_add]
      · rw [abs_of_nonpos h, max_eq_left (by linarith), neg_neg, ← Real.log_exp (-a), ← Real.log_mul (Real.exp_pos _).ne' (by positivity),
          Real.log_exp, mul_add, ← Real.exp_add, neg_add_cancel, Real.exp_zero, mul_one, add_comm]
    rw [hs, ← EReal.coe_neg, if_neg (EReal.coe_ne_top _), if_neg (EReal.coe_ne_top _), ← EReal.coe_sub, Ideal.exp_coe, Ideal.logistic_coe, neg_neg,
      Real.exp_sub, Real.exp_log (by positivity)]
    congr 1
    rw [Real.exp_neg]
    field_simp
    rw [add_comm]

end Cert.GateAlg

end
-- ==== Proof.Gate32.lean ====
/- The forget gates' gradients: of a gate's input, the rest of the cotangent's column times the sigmoid, block by block from the last to
   the first; and of the bias, their sum over all rows. -/
module

public import proofs.«01_k».proof.Defs
public import proofs.«01_k».proof.Proof.GateAlg
public import proofs.«01_k».proof.Proof.Gen.Kernel32.Frame
public import proofs.«01_k».proof.Proof.Gen.Kernel32Ideal.Value
public import proofs.«01_k».proof.Proof.Gen.Reference32Ideal.Read
public import Idealize.ShloMosaic.Lib.Pipeline.ValueKit
public import Idealize.ShloMosaic.Lib.Quiescent
public import Idealize.ShloMosaic.Lib.Claim

@[expose] public section

set_option maxRecDepth 16384

noncomputable section

namespace Cert.Kernel32Ideal.Gate

open Cert.Kernel32Ideal Cert.Kernel32Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The arguments, as launched: the projection's rows, the bias and the cotangent of the gates' running sums. -/
def pOf (c : Dev nD) : FVec Ideal S2176x2688 .f32 := m ((c : Thread nD τ).loc main_arg0)
def bOf (c : Dev nD) : FVec Ideal S1x128 .f32 := m ((c : Thread nD τ).loc main_arg1)
def dOf (c : Dev nD) : FVec Ideal S2176x128 .f32 := m ((c : Thread nD τ).loc main_arg2)

/-- The gradient of a gate's input, from the gates' inputs, the bias and the cotangent. -/
def G (x0 : Vec Ideal S2176x128 .f32) (x1 : Vec Ideal S1x128 .f32) (x2 : Vec Ideal S2176x128 .f32) (i : S2176x128.Idx) : EReal :=
  Cert.GateAlg.tail (Cert.GateAlg.col x2 (i 1)) (i 0).val * Ideal.logistic (-(x0 i + x1 (ix2 0 (i 1))))

/-- The upper triangle of ones. -/
theorem tri_apply (i : S128x128.Idx) : (k0_pay4 (F := Ideal) i : EReal) = if (i 0).val ≤ (i 1).val then 1 else 0 := by
  have hm : ∀ a k : Fin 128, IntOp.cmpi .sle (BitVec.ofNat 32 a.val) (BitVec.ofNat 32 k.val) = if a.val ≤ k.val then 1#1 else 0#1 := by
    decide +kernel
  unfold k0_pay4
  pointwise
  rw [hm (i 0) (i 1)]
  split <;> rfl

/-- A block's sums, from the block and the sums of the block after it. -/
def next (P X : FVec Ideal S128x128 .f32) : FVec Ideal S128x128 .f32 := k0_pay13 (k0_pay4 (F := Ideal)) P X

theorem next_apply (P X : FVec Ideal S128x128 .f32) (i : S128x128.Idx) :
    (next P X i : EReal) = (∑ k : Fin 128, if (i 0).val ≤ k.val then X (ix2 k (i 1)) else 0) + P (ix2 0 (i 1)) := by
  unfold next k0_pay13
  have ht := tri_apply
  generalize k0_pay4 (F := Ideal) = T at ht ⊢
  pointwise
  exact congrArg (· + _) (Finset.sum_congr rfl fun k _ => by
    rw [ht, ite_mul, one_mul, zero_mul]; rfl)

theorem first_apply (X : FVec Ideal S128x128 .f32) (i : S128x128.Idx) :
    (k0_pay5 (F := Ideal) X i : EReal) = ∑ k : Fin 128, if (i 0).val ≤ k.val then X (ix2 k (i 1)) else 0 := by
  unfold k0_pay5
  have ht := tri_apply
  generalize k0_pay4 (F := Ideal) = T at ht ⊢
  pointwise
  exact Finset.sum_congr rfl fun k _ => by
    rw [ht, ite_mul, one_mul, zero_mul]; rfl

/-- A block's gradients, from its sums. -/
theorem grad_apply (B : Vec Ideal S1x128 .f32) (P : FVec Ideal S128x128 .f32) (X : Vec Ideal S128x128 .f32) (i : S128x128.Idx) :
    (k0_pay1 B P X i : EReal) = P i * Ideal.logistic (-(X i + B (ix2 0 (i 1)))) := by
  unfold k0_pay1
  pointwise
  rw [zero_sub, zero_sub, neg_neg, Ideal.logistic, neg_neg]

theorem acc_apply (B : Vec Ideal S1x128 .f32) (A : FVec Ideal S1x128 .f32) (P : FVec Ideal S128x128 .f32) (X : Vec Ideal S128x128 .f32)
    (i : S1x128.Idx) : (k0_pay3 B A P X i : EReal) = A i + ∑ k : Fin 128, k0_pay1 B P X (ix2 k (i 1)) := by
  unfold k0_pay3
  generalize k0_pay1 B P X = Y
  pointwise

/-- The 128 rows of an array from a row on. -/
def rowsOf (x : S2176x128.Idx → EReal) (o : ℕ) : FVec Ideal S128x128 .f32 := fun i => Cert.GateAlg.col x (i 1) (o + (i 0).val)

theorem rows (x : S2176x128.Idx → EReal) (o : ℕ) (ho : o + 128 ≤ 2176) (inb) (i : S128x128.Idx) :
    x ((Rect.unit (s := S2176x128) ![o, 0] S128x128.size inb).emb i) = rowsOf x o i := by
  have h0 : (i 0).val < 128 := (i 0).isLt
  refine Eq.trans ?_ (dif_pos (by omega)).symm
  refine congrArg x (funext fun a => Fin.ext ?_)
  rw [Rect.emb_apply]
  match a with
  | ⟨0, _⟩ => show o + 1 * (i 0).val = o + (i 0).val; omega
  | ⟨1, _⟩ => show 0 + 1 * (i 1).val = (i 1).val; omega

theorem ld_rows (x : Vec Ideal S2176x128 .f32) (o : ℕ) (inb) :
    View.ld x (Rect.unit (s := S2176x128) ![o, 0] S128x128.size inb) = rowsOf x o :=
  funext fun i => rows x o (inb 0) inb i

variable (x0 : Vec Ideal S2176x128 .f32) (x1 : Vec Ideal S1x128 .f32) (x2 : Vec Ideal S2176x128 .f32)

/-- The sums of the blocks, from the last block to the first, and the bias's gradient over the blocks so far. -/
def g : ℕ → FVec Ideal S128x128 .f32
  | 0 => k0_pay5 (rowsOf x2 2048)
  | n + 1 => next (g n) (rowsOf x2 (2048 - 128 * (n + 1)))

def d : ℕ → FVec Ideal S1x128 .f32
  | 0 => broadcast S1x128 (Scalar.ofBits .f32 0x00000000#32)
  | n + 1 => k0_pay3 x1 (d n) (g x2 n) (rowsOf x0 (2048 - 128 * n))

theorem g_succ (n : ℕ) : g x2 (n + 1) = next (g x2 n) (rowsOf x2 (2048 - 128 * (n + 1))) := rfl
theorem g_zero : g x2 0 = k0_pay5 (rowsOf x2 2048) := rfl
theorem d_succ (n : ℕ) : d x0 x1 x2 (n + 1) = k0_pay3 x1 (d x0 x1 x2 n) (g x2 n) (rowsOf x0 (2048 - 128 * n)) := rfl
theorem d_zero : d x0 x1 x2 0 = broadcast S1x128 (Scalar.ofBits .f32 0x00000000#32) := rfl

attribute [irreducible] g d

/-- A block's sums are those of the columns from its rows on. -/
theorem g_apply (n : ℕ) (hn : n ≤ 16) (i : S128x128.Idx) :
    (g x2 n i : EReal) = Cert.GateAlg.tail (Cert.GateAlg.col x2 (i 1)) (2048 - 128 * n + (i 0).val) := by
  induction n generalizing i with
  | zero =>
    rw [g_zero]
    refine (first_apply _ i).trans (Eq.trans ?_ (Cert.GateAlg.tail_block _ 2048 (by decide) (i 0).val (i 0).isLt))
    exact (add_zero _).symm.trans (congrArg (_ + ·) (Cert.GateAlg.tail_end _).symm)
  | succ n ih =>
    rw [g_succ]
    refine (next_apply _ _ i).trans (Eq.trans ?_ (Cert.GateAlg.tail_block _ (2048 - 128 * (n + 1)) (by omega) (i 0).val (i 0).isLt))
    refine congrArg (_ + ·) ((ih (by omega) (ix2 0 (i 1))).trans (congrArg (Cert.GateAlg.tail _) ?_))
    show 2048 - 128 * n + 0 = _
    omega

/-- A block's gradients are those of its rows. -/
theorem grad_rows (n : ℕ) (hn : n ≤ 16) (i : S128x128.Idx) :
    (k0_pay1 x1 (g x2 n) (rowsOf x0 (2048 - 128 * n)) i : EReal) = rowsOf (G x0 x1 x2) (2048 - 128 * n) i := by
  have h0 : (i 0).val < 128 := (i 0).isLt
  have e : ∀ x : S2176x128.Idx → EReal, rowsOf x (2048 - 128 * n) i = x (ix2 ⟨2048 - 128 * n + (i 0).val, by omega⟩ (i 1)) :=
    fun x => dif_pos _
  refine (grad_apply _ _ _ i).trans ?_
  rw [g_apply x2 n hn, e, e]
  rfl

theorem d_apply (n : ℕ) (hn : n ≤ 17) (i : S1x128.Idx) :
    (d x0 x1 x2 n i : EReal) = Cert.GateAlg.tail (Cert.GateAlg.col (G x0 x1 x2) (i 1)) (2176 - 128 * n) := by
  induction n with
  | zero => rw [d_zero]; exact (Ideal.ofBits_zero_f32).trans (Cert.GateAlg.tail_end _).symm
  | succ n ih =>
    rw [d_succ]
    have h := Cert.GateAlg.tail_block (Cert.GateAlg.col (G x0 x1 x2) (i 1)) (2048 - 128 * n) (by omega) 0 (by decide)
    rw [show 2048 - 128 * n + 128 = 2176 - 128 * n by omega, show 2048 - 128 * n + 0 = 2176 - 128 * (n + 1) by omega] at h
    refine (acc_apply _ _ _ _ i).trans (Eq.trans ?_ h)
    rw [ih (by omega), add_comm]
    refine congrArg (· + _) (Finset.sum_congr rfl fun k _ => ?_)
    rw [if_pos (Nat.zero_le _)]
    exact grad_rows x0 x1 x2 n (by omega) (ix2 k (i 1))

/-- The sums that the printed kernel carries from one part to the next. -/
theorem two_steps (n : ℕ) : next (next (g x2 n) (rowsOf x2 (2048 - 128 * (n + 1)))) (rowsOf x2 (2048 - 128 * (n + 2))) = g x2 (n + 2) := by
  rw [g_succ x2 (n + 1), g_succ]

theorem s1 : k0_pay71 x0 x1 x2 = g x2 1 := by
  unfold k0_pay71; rw [ld_rows, ld_rows, g_succ, g_zero]; rfl
theorem s4 : k0_pay73 x0 x1 x2 = g x2 4 := by
  unfold k0_pay73 k0_pay72 k0_pay70; rw [s1, ld_rows, ld_rows, ld_rows, show g x2 4 = _ from g_succ x2 3, ← two_steps x2 1]; rfl
theorem s6 : k0_pay75 x0 x1 x2 = g x2 6 := by
  unfold k0_pay75 k0_pay70; rw [s4, ld_rows, ld_rows, ← two_steps x2 4]; rfl
theorem s9 : k0_pay77 x0 x1 x2 = g x2 9 := by
  unfold k0_pay77 k0_pay76 k0_pay70; rw [s6, ld_rows, ld_rows, ld_rows, show g x2 9 = _ from g_succ x2 8, ← two_steps x2 6]; rfl
theorem s11 : k0_pay79 x0 x1 x2 = g x2 11 := by
  unfold k0_pay79 k0_pay70; rw [s9, ld_rows, ld_rows, ← two_steps x2 9]; rfl
theorem s14 : k0_pay81 x0 x1 x2 = g x2 14 := by
  unfold k0_pay81 k0_pay80 k0_pay70; rw [s11, ld_rows, ld_rows, ld_rows, show g x2 14 = _ from g_succ x2 13, ← two_steps x2 11]; rfl
theorem s16 : k0_pay83 x0 x1 x2 = g x2 16 := by
  unfold k0_pay83 k0_pay70; rw [s14, ld_rows, ld_rows, ← two_steps x2 14]; rfl

/-- A store of a block's gradients, where the block's sums are given as they stand, or one or two steps on. -/
theorem st (n : ℕ) (hn : n ≤ 16) (inb) (p : FVec Ideal S128x128 .bf16) (hp : p = k0_pay2 x1 (g x2 n) (rowsOf x0 (2048 - 128 * n))) (x : S128x128.Idx) :
    (p x : EReal) = G x0 x1 x2 ((Rect.unit (s := S2176x128) ![2048 - 128 * n, 0] S128x128.size inb).emb x) := by
  rw [hp]
  exact (grad_rows x0 x1 x2 n hn x).trans (rows _ _ (by omega) inb x).symm
theorem st1 (n : ℕ) (p : FVec Ideal S128x128 .bf16)
    (hp : p = k0_pay2 x1 (next (g x2 n) (rowsOf x2 (2048 - 128 * (n + 1)))) (rowsOf x0 (2048 - 128 * (n + 1)))) :
    p = k0_pay2 x1 (g x2 (n + 1)) (rowsOf x0 (2048 - 128 * (n + 1))) := by rw [hp, g_succ]
theorem st2 (n : ℕ) (p : FVec Ideal S128x128 .bf16)
    (hp : p = k0_pay2 x1 (next (next (g x2 n) (rowsOf x2 (2048 - 128 * (n + 1)))) (rowsOf x2 (2048 - 128 * (n + 2)))) (rowsOf x0 (2048 - 128 * (n + 2)))) :
    p = k0_pay2 x1 (g x2 (n + 2)) (rowsOf x0 (2048 - 128 * (n + 2))) := by rw [hp, two_steps]

/-- What the kernel leaves in its two results. -/
theorem out3_apply (y : S2176x128.Idx) : (out0_3 x0 x1 x2 y : EReal) = G x0 x1 x2 y := by
  unfold out0_3 k0_pay72 k0_pay76 k0_pay80 k0_pay74 k0_pay78 k0_pay82 k0_pay70
  rw [show View.ld x1 r0_0 = x1 from View.ld_unit_lit _ _ (by decide), s1, s4, s6, s9, s11, s14, s16]
  simp only [ld_rows]
  refine View.canon_eq_of_allAt _ _ _ (cover0_3 _ _ _ _ _ _ _ _ _ _ _ _ _ _ _ _ _ y) ?_
  intro p hp x hx
  subst hx
  simp only [List.mem_cons, List.not_mem_nil, or_false] at hp
  rcases hp with rfl | rfl | rfl | rfl | rfl | rfl | rfl | rfl | rfl | rfl | rfl | rfl | rfl | rfl | rfl | rfl | rfl
  · exact st x0 x1 x2 16 (by decide) inb_S2176x128_S128x128_0_0 _ rfl x
  · exact st x0 x1 x2 15 (by decide) inb_S2176x128_S128x128_128_0 _ (st1 x0 x1 x2 14 _ rfl) x
  · exact st x0 x1 x2 14 (by decide) inb_S2176x128_S128x128_256_0 _ rfl x
  · exact st x0 x1 x2 13 (by decide) inb_S2176x128_S128x128_384_0 _ (st2 x0 x1 x2 11 _ rfl) x
  · exact st x0 x1 x2 12 (by decide) inb_S2176x128_S128x128_512_0 _ (st1 x0 x1 x2 11 _ rfl) x
  · exact st x0 x1 x2 11 (by decide) inb_S2176x128_S128x128_640_0 _ rfl x
  · exact st x0 x1 x2 10 (by decide) inb_S2176x128_S128x128_768_0 _ (st1 x0 x1 x2 9 _ rfl) x
  · exact st x0 x1 x2 9 (by decide) inb_S2176x128_S128x128_896_0 _ rfl x
  · exact st x0 x1 x2 8 (by decide) inb_S2176x128_S128x128_1024_0 _ (st2 x0 x1 x2 6 _ rfl) x
  · exact st x0 x1 x2 7 (by decide) inb_S2176x128_S128x128_1152_0 _ (st1 x0 x1 x2 6 _ rfl) x
  · exact st x0 x1 x2 6 (by decide) inb_S2176x128_S128x128_1280_0 _ rfl x
  · exact st x0 x1 x2 5 (by decide) inb_S2176x128_S128x128_1408_0 _ (st1 x0 x1 x2 4 _ rfl) x
  · exact st x0 x1 x2 4 (by decide) inb_S2176x128_S128x128_1536_0 _ rfl x
  · exact st x0 x1 x2 3 (by decide) inb_S2176x128_S128x128_1664_0 _ (st2 x0 x1 x2 1 _ rfl) x
  · exact st x0 x1 x2 2 (by decide) inb_S2176x128_S128x128_1792_0 _ (st1 x0 x1 x2 1 _ rfl) x
  · exact st x0 x1 x2 1 (by decide) inb_S2176x128_S128x128_1920_0 _ rfl x
  · exact st x0 x1 x2 0 (by decide) inb_S2176x128_S128x128_2048_0 _ (by rw [g_zero]; rfl) x

/-- One or two blocks more of the bias's gradient. -/
theorem a1 (n : ℕ) (A : FVec Ideal S1x128 .f32) (h : A = d x0 x1 x2 n) :
    k0_pay3 x1 A (g x2 n) (rowsOf x0 (2048 - 128 * n)) = d x0 x1 x2 (n + 1) := by rw [h, d_succ]
theorem a2 (n : ℕ) (A : FVec Ideal S1x128 .f32) (h : A = d x0 x1 x2 n) :
    k0_pay3 x1 (k0_pay3 x1 A (g x2 n) (rowsOf x0 (2048 - 128 * n))) (next (g x2 n) (rowsOf x2 (2048 - 128 * (n + 1)))) (rowsOf x0 (2048 - 128 * (n + 1)))
      = d x0 x1 x2 (n + 2) := by rw [h, d_succ x0 x1 x2 (n + 1), d_succ, g_succ]
theorem a3 (n : ℕ) (A : FVec Ideal S1x128 .f32) (h : A = d x0 x1 x2 (n + 1)) :
    k0_pay3 x1 (k0_pay3 x1 A (next (g x2 n) (rowsOf x2 (2048 - 128 * (n + 1)))) (rowsOf x0 (2048 - 128 * (n + 1))))
        (next (next (g x2 n) (rowsOf x2 (2048 - 128 * (n + 1)))) (rowsOf x2 (2048 - 128 * (n + 2)))) (rowsOf x0 (2048 - 128 * (n + 2)))
      = d x0 x1 x2 (n + 3) := by rw [two_steps, ← g_succ]; exact h ▸ (by rw [d_succ x0 x1 x2 (n + 2), d_succ x0 x1 x2 (n + 1)])

theorem out4_apply (y : S1x128.Idx) : (out0_4 x0 x1 x2 y : EReal) = ∑ k : Fin 2176, G x0 x1 x2 (ix2 k (y 1)) := by
  have e : out0_4 x0 x1 x2 = d x0 x1 x2 17 := by
    unfold out0_4 k0_pay72 k0_pay76 k0_pay80 k0_pay74 k0_pay78 k0_pay82 k0_pay70
    rw [show View.ld x1 r0_0 = x1 from View.ld_unit_lit _ _ (by decide), s1, s4, s6, s9, s11, s14, s16]
    simp only [ld_rows]
    refine (View.canon_cons_unit_lit _ _ _ (by decide)).trans ?_
    refine a1 x0 x1 x2 16 _ (a2 x0 x1 x2 14 _ (a3 x0 x1 x2 11 _ (a1 x0 x1 x2 11 _ (a2 x0 x1 x2 9 _ (a3 x0 x1 x2 6 _ (a1 x0 x1 x2 6 _
      (a2 x0 x1 x2 4 _ (a3 x0 x1 x2 1 _ (a1 x0 x1 x2 1 _ ?_)))))))))
    rw [d_succ, d_zero, g_zero]
    rfl
  rw [e]
  refine (d_apply x0 x1 x2 17 le_rfl y).trans ((Cert.GateAlg.tail_zero _).trans (Finset.sum_congr rfl fun k _ => ?_))
  exact dif_pos k.isLt

/-- Which blocks the one point of the grid reads and writes. -/
theorem idx0 : ∀ t : Fin cfg0.N, win0_0.index t = ![0, 20] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)

/-- The gates' inputs: 128 columns of the projection. -/
def fOf (c : Dev nD) : FVec Ideal S2176x128 .f32 := fun i => pOf m c (ix2 (i 0) ⟨2560 + (i 1).val, by have h : (i 1).val < 128 := (i 1).isLt; omega⟩)

theorem iblk0 (c : Dev nD) (t : Fin cfg0.N) : (iblk m c 0 t : Vec Ideal S2176x128 .f32) = fOf m c := by
  funext y
  blk_simp [iblk]
  refine (congrFun (V_main_arg0 m c) _).trans (congrArg (pOf m c) ?_)
  blk_ext [idx0]

theorem iblk1 (c : Dev nD) (t : Fin cfg0.N) : (iblk m c 1 t : Vec Ideal S1x128 .f32) = bOf m c := by
  funext y
  blk_simp [iblk]
  refine (congrFun (V_main_arg1 m c) _).trans (congrArg (bOf m c) ?_)
  blk_ext [idx1]

theorem iblk2 (c : Dev nD) (t : Fin cfg0.N) : (iblk m c 2 t : Vec Ideal S2176x128 .f32) = dOf m c := by
  funext y
  blk_simp [iblk]
  refine (congrFun (V_main_arg2 m c) _).trans (congrArg (dOf m c) ?_)
  blk_ext [idx2]

/-- The two results: the gates' gradients and the bias's. -/
def resG (c : Dev nD) : FVec Ideal S2176x128 .bf16 := G (fOf m c) (bOf m c) (dOf m c)
def resB (c : Dev nD) : FVec Ideal S1x128 .f32 := fun y => ∑ k : Fin 2176, G (fOf m c) (bOf m c) (dOf m c) (ix2 k (y 1))

theorem final3 (c : Dev nD) : (dats m 0 c).arrAt 3 cfg0.N = resG m c := by
  refine (dats m 0 c).arrAt_eq_of_covers 3 _ (by decide +kernel) fun t hf y => ?_
  blk_simp
  rw [after0_3, iblk0, iblk1, iblk2]
  refine (out3_apply _ _ _ y).trans (congrArg (G (fOf m c) (bOf m c) (dOf m c)) ?_)
  blk_ext [idx3]

theorem final4 (c : Dev nD) : (dats m 0 c).arrAt 4 cfg0.N = resB m c := by
  refine (dats m 0 c).arrAt_eq_of_covers 4 _ (by decide +kernel) fun t hf y => ?_
  blk_simp
  rw [after0_4, iblk0, iblk1, iblk2]
  refine (out4_apply _ _ _ y).trans (congrArg (resB m c) (?_ : y = _))
  blk_ext [idx4]

end Cert.Kernel32Ideal.Gate

namespace Cert.Proof

open Idealize.ShloMosaic Idealize.ShloMosaic.TcCoe Idealize.SL.Sem

theorem frame_kernel32 : Cert.quiescent_Kernel32 := fun m ρ _ => Cert.Kernel32.Gen.frame m ρ
theorem frame_kernel32Ideal : Cert.quiescent_Kernel32Ideal := fun m ρ _ => Cert.Kernel32Ideal.Gen.frame m ρ
theorem frame_reference32 : Cert.quiescent_Reference32Ideal := fun m ρ _ =>
  (θ_run Cert.Reference32Ideal.defs _ _).mono (fun r h => ⟨fun c => (h c).2.2, Idealize.ShloMosaic.sem_eq_zero_of_no_sems (by decide) r.2⟩)
    (Cert.Reference32Ideal.Value.run (F := Ideal) m ρ)

open Cert.Reference32Ideal Cert.Reference32Ideal.Read

/-- The reference's sums of the cotangent's columns. -/
theorem ref32_sum (x2 : FVec Ideal S2176x128 .f32) (i : S2176x128.Idx) :
    val_main_v5 (F := Ideal) x2 i = Cert.GateAlg.tail (Cert.GateAlg.col x2 (i 1)) (i 0).val := by
  have h0 : val_main_call2_call0_v0 (F := Ideal) (Shape.Idx.first (by decide)) = (0 : EReal) := by
    rw [val_main_call2_call0_v0_apply]; exact Ideal.ofBits_zero_f32
  unfold val_main_v5 Host.reduceWindowAdd
  rw [h0]
  exact Cert.GateAlg.window_eq _ x2 i

/-- The derivative of the logarithm of the sigmoid, as the reference has it. -/
theorem ref32_sig (x0 : FVec Ideal S2176x2688 .f32) (x1 : FVec Ideal S1x128 .f32) (i : S2176x128.Idx) :
    val_main_v3_1 (F := Ideal) x0 x1 i
      = Ideal.logistic (-(x0 (ix2 (i 0) ⟨2560 + (i 1).val, by have h : (i 1).val < 128 := (i 1).isLt; omega⟩) + x1 (ix2 0 (i 1)))) := by
  have hx : val_main_v2 (F := Ideal) x0 x1 i
      = (x0 (ix2 (i 0) ⟨2560 + (i 1).val, by have h : (i 1).val < 128 := (i 1).isLt; omega⟩) + x1 (ix2 0 (i 1)) : EReal) := by
    unfold val_main_v2 val_main_v1 val_main_v0
    pointwise
  refine Eq.trans ?_ (congrArg (fun u : EReal => Ideal.logistic (-u)) hx)
  refine Eq.trans ?_ (Cert.GateAlg.sig_eq _)
  unfold val_main_v3_1 val_main_call0_call0_v21 val_main_call0_call0_v20 val_main_call0_call0_v18 val_main_call0_call0_v16
    val_main_call0_call0_v14 val_main_call0_v1_0 val_main_call0_call0_v11 val_main_call0_call0_v10 val_main_call0_call0_v9
    val_main_call0_call0_v8 val_main_call0_call0_v7 val_main_call0_call0_v6 val_main_call0_call0_v4 val_main_call0_call0_v3
    val_main_call0_call0_v1 val_main_call0_v0 val_main_call0_call0_v0 val_main_call0_call0_v2 val_main_call0_call0_v5
    val_main_call0_call0_v13 val_main_call0_call0_v15 val_main_call0_call0_v17 val_main_call0_call0_v19 val_main_call0_call0_cst
    val_main_call0_call0_cst_0 val_main_call0_call0_cst_1 val_main_call0_call0_cst_2 val_main_call0_call0_cst_3
  generalize val_main_v2 (F := Ideal) x0 x1 = X
  have hi : Ideal.ofBits .f32 0x7F800000#32 = (⊤ : EReal) := by simp [Ideal.ofBits, Ideal.ieee]
  pointwise
  simp only [hi, ne_eq, not_true_eq_false, if_false]
  rfl

/-- The reference's gradient of a gate's input. -/
theorem ref32_apply (x0 : FVec Ideal S2176x2688 .f32) (x1 : FVec Ideal S1x128 .f32) (x2 : FVec Ideal S2176x128 .f32) (i : S2176x128.Idx) :
    val_main_v6 (F := Ideal) x0 x1 x2 i
      = Cert.Kernel32Ideal.Gate.G (fun i => x0 (ix2 (i 0) ⟨2560 + (i 1).val, by have h : (i 1).val < 128 := (i 1).isLt; omega⟩)) x1 x2 i := by
  rw [val_main_v6_apply, val_main_call3_v1_apply, val_main_call3_v0_apply, ref32_sum, ref32_sig]
  exact (congrArg Neg.neg (neg_mul (α := EReal) _ _)).trans (neg_neg _)

theorem ref32_bias (x0 : FVec Ideal S2176x2688 .f32) (x1 : FVec Ideal S1x128 .f32) (x2 : FVec Ideal S2176x128 .f32) (i : S1x128.Idx) :
    val_main_v8 (F := Ideal) x0 x1 x2 i = (∑ k : Fin 2176, val_main_v6 (F := Ideal) x0 x1 x2 (ix2 k (i 1)) : EReal) := by
  unfold val_main_v8 val_main_v7 val_main_cst
  generalize val_main_v6 (F := Ideal) x0 x1 x2 = Y
  pointwise

/-- From memories with the same arguments: the gradients of the gates' inputs and of the bias, each equal. -/
theorem algebraic32 : Cert.algebraic_Kernel32Ideal_Reference32Ideal := by
  intro m g m' g' _ hm
  refine ⟨fun c => Cert.Kernel32Ideal.Gate.resG m c, fun c => Cert.Kernel32Ideal.Gate.resB m c, ?_, ?_⟩
  · refine (θ_run Cert.Kernel32Ideal.defs _ _).mono (fun r h c => ?_) (Cert.Kernel32Ideal.Value.run_blocks (F := Ideal) m g)
    exact ⟨(h c).1.trans (Cert.Kernel32Ideal.Gate.final3 m c), (h c).2.1.trans (Cert.Kernel32Ideal.Gate.final4 m c), (h c).2.2⟩
  · refine (θ_run Cert.Reference32Ideal.defs _ _).mono (fun r h c => ?_) (Cert.Reference32Ideal.Value.run (F := Ideal) m' g')
    refine ⟨(h c).1.trans ?_, (h c).2.1.trans ?_, (h c).2.2⟩
    · refine (val_main_v9_eq m' c).trans ?_
      rw [(hm c).1, (hm c).2.1, (hm c).2.2]
      exact (funext fun i => ref32_apply _ _ _ i)
    · refine (val_main_v8_eq m' c).trans ?_
      rw [(hm c).1, (hm c).2.1, (hm c).2.2]
      exact (funext fun i => (ref32_bias _ _ _ i).trans (Finset.sum_congr rfl fun k _ => ref32_apply _ _ _ _))

end Cert.Proof

end
-- ==== Proof.lean ====
/-
  The proof of `Cert.Claim`: the witnesses of the programs' stated facts, then the claims in their order.
-/
module

public import proofs.«01_k».proof.Defs
public import proofs.«01_k».proof.Proof.Frames
public import proofs.«01_k».proof.Proof.Alg
public import proofs.«01_k».proof.Proof.Gen.Kernel
public import proofs.«01_k».proof.Proof.Gen.KernelIdeal
public import proofs.«01_k».proof.Proof.Gen.ReferenceIdeal
public import proofs.«01_k».proof.Proof.Prod2
public import proofs.«01_k».proof.Proof.Prod3
public import proofs.«01_k».proof.Proof.Prod4
public import proofs.«01_k».proof.Proof.Prod5
public import proofs.«01_k».proof.Proof.Prod6
public import proofs.«01_k».proof.Proof.Prod7
public import proofs.«01_k».proof.Proof.Prod8
public import proofs.«01_k».proof.Proof.Prod9
public import proofs.«01_k».proof.Proof.Prod10
public import proofs.«01_k».proof.Proof.Prod11
public import proofs.«01_k».proof.Proof.Prod12
public import proofs.«01_k».proof.Proof.Prod13
public import proofs.«01_k».proof.Proof.Update14
public import proofs.«01_k».proof.Proof.Update15
public import proofs.«01_k».proof.Proof.Update16
public import proofs.«01_k».proof.Proof.Update17
public import proofs.«01_k».proof.Proof.Update18
public import proofs.«01_k».proof.Proof.Update19
public import proofs.«01_k».proof.Proof.Update20
public import proofs.«01_k».proof.Proof.Update21
public import proofs.«01_k».proof.Proof.Update22
public import proofs.«01_k».proof.Proof.Update23
public import proofs.«01_k».proof.Proof.Update24
public import proofs.«01_k».proof.Proof.Update25
public import proofs.«01_k».proof.Proof.Update26
public import proofs.«01_k».proof.Proof.Update27
public import proofs.«01_k».proof.Proof.Update28
public import proofs.«01_k».proof.Proof.Norm29
public import proofs.«01_k».proof.Proof.Norm30
public import proofs.«01_k».proof.Proof.Norm31
public import proofs.«01_k».proof.Proof.Gate32
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    pre_facts, frame_kernel, frame_kernelIdeal, fun m ρ _ => frame_kernelIdeal m ρ trivial,
    frame_reference, fun m ρ _ => frame_reference m ρ trivial,
    frame_kernel2, frame_kernel2Ideal, frame_reference2,
    frame_kernel3, frame_kernel3Ideal, frame_reference3,
    frame_kernel4, frame_kernel4Ideal, frame_reference4,
    frame_kernel5, frame_kernel5Ideal, frame_reference5,
    frame_kernel6, frame_kernel6Ideal, frame_reference6,
    frame_kernel7, frame_kernel7Ideal, frame_reference7,
    frame_kernel8, frame_kernel8Ideal, frame_reference8,
    frame_kernel9, frame_kernel9Ideal, frame_reference9,
    frame_kernel10, frame_kernel10Ideal, frame_reference10,
    frame_kernel11, frame_kernel11Ideal, frame_reference11,
    frame_kernel12, frame_kernel12Ideal, frame_reference12,
    frame_kernel13, frame_kernel13Ideal, frame_reference13,
    frame_kernel14, frame_kernel14Ideal, frame_reference14,
    frame_kernel15, frame_kernel15Ideal, frame_reference15,
    frame_kernel16, frame_kernel16Ideal, frame_reference16,
    frame_kernel17, frame_kernel17Ideal, frame_reference17,
    frame_kernel18, frame_kernel18Ideal, frame_reference18,
    frame_kernel19, frame_kernel19Ideal, frame_reference19,
    frame_kernel20, frame_kernel20Ideal, frame_reference20,
    frame_kernel21, frame_kernel21Ideal, frame_reference21,
    frame_kernel22, frame_kernel22Ideal, frame_reference22,
    frame_kernel23, frame_kernel23Ideal, frame_reference23,
    frame_kernel24, frame_kernel24Ideal, frame_reference24,
    frame_kernel25, frame_kernel25Ideal, frame_reference25,
    frame_kernel26, frame_kernel26Ideal, frame_reference26,
    frame_kernel27, frame_kernel27Ideal, frame_reference27,
    frame_kernel28, frame_kernel28Ideal, frame_reference28,
    frame_kernel29, frame_kernel29Ideal, frame_reference29,
    frame_kernel30, frame_kernel30Ideal, frame_reference30,
    frame_kernel31, frame_kernel31Ideal, frame_reference31,
    frame_kernel32, frame_kernel32Ideal, frame_reference32,
    preserves, @algebraic pre_facts,
    trivial, algebraic2,
    trivial, algebraic3,
    trivial, algebraic4,
    trivial, algebraic5,
    trivial, algebraic6,
    trivial, algebraic7,
    trivial, algebraic8,
    trivial, algebraic9,
    trivial, algebraic10,
    trivial, algebraic11,
    trivial, algebraic12,
    trivial, algebraic13,
    trivial, algebraic14,
    trivial, algebraic15,
    trivial, algebraic16,
    trivial, algebraic17,
    trivial, algebraic18,
    trivial, algebraic19,
    trivial, algebraic20,
    trivial, algebraic21,
    trivial, algebraic22,
    trivial, algebraic23,
    trivial, algebraic24,
    trivial, algebraic25,
    trivial, algebraic26,
    trivial, algebraic27,
    trivial, algebraic28,
    trivial, algebraic29,
    trivial, algebraic30,
    trivial, algebraic31,
    trivial, algebraic32⟩

end Cert.Proof

end
